-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DuKernel (m : (ℓ : Loc Cert.DuKernel.nD Cert.DuKernel.τ Cert.DuKernel.sig) → Buf (Elt Bits) ℓ) : Prop :=
  True

def Pre_DuKernelIdeal (m : (ℓ : Loc Cert.DuKernelIdeal.nD Cert.DuKernelIdeal.τ Cert.DuKernelIdeal.sig) → Buf (Elt Ideal) ℓ) : Prop :=
  True

def Pre_DuReferenceIdeal (m : (ℓ : Loc Cert.DuReferenceIdeal.nD Cert.DuReferenceIdeal.τ Cert.DuReferenceIdeal.sig) → Buf (Elt Ideal) ℓ) : Prop :=
  True

def Pre_WupKernel (m : (ℓ : Loc Cert.WupKernel.nD Cert.WupKernel.τ Cert.WupKernel.sig) → Buf (Elt Bits) ℓ) : Prop :=
  True

def Pre_WupKernelIdeal (m : (ℓ : Loc Cert.WupKernelIdeal.nD Cert.WupKernelIdeal.τ Cert.WupKernelIdeal.sig) → Buf (Elt Ideal) ℓ) : Prop :=
  True

def Pre_WupReferenceIdeal (m : (ℓ : Loc Cert.WupReferenceIdeal.nD Cert.WupReferenceIdeal.τ Cert.WupReferenceIdeal.sig) → Buf (Elt Ideal) ℓ) : Prop :=
  True

def Pre_WdnKernel (m : (ℓ : Loc Cert.WdnKernel.nD Cert.WdnKernel.τ Cert.WdnKernel.sig) → Buf (Elt Bits) ℓ) : Prop :=
  True

def Pre_WdnKernelIdeal (m : (ℓ : Loc Cert.WdnKernelIdeal.nD Cert.WdnKernelIdeal.τ Cert.WdnKernelIdeal.sig) → Buf (Elt Ideal) ℓ) : Prop :=
  True

def Pre_WdnReferenceIdeal (m : (ℓ : Loc Cert.WdnReferenceIdeal.nD Cert.WdnReferenceIdeal.τ Cert.WdnReferenceIdeal.sig) → Buf (Elt Ideal) ℓ) : Prop :=
  True

def Pre_WmixKernel (m : (ℓ : Loc Cert.WmixKernel.nD Cert.WmixKernel.τ Cert.WmixKernel.sig) → Buf (Elt Bits) ℓ) : Prop :=
  True

def Pre_WmixKernelIdeal (m : (ℓ : Loc Cert.WmixKernelIdeal.nD Cert.WmixKernelIdeal.τ Cert.WmixKernelIdeal.sig) → Buf (Elt Ideal) ℓ) : Prop :=
  True

def Pre_WmixReferenceIdeal (m : (ℓ : Loc Cert.WmixReferenceIdeal.nD Cert.WmixReferenceIdeal.τ Cert.WmixReferenceIdeal.sig) → Buf (Elt Ideal) ℓ) : Prop :=
  True

def Pre_WsoKernel (m : (ℓ : Loc Cert.WsoKernel.nD Cert.WsoKernel.τ Cert.WsoKernel.sig) → Buf (Elt Bits) ℓ) : Prop :=
  True

def Pre_WsoKernelIdeal (m : (ℓ : Loc Cert.WsoKernelIdeal.nD Cert.WsoKernelIdeal.τ Cert.WsoKernelIdeal.sig) → Buf (Elt Ideal) ℓ) : Prop :=
  True

def Pre_WsoReferenceIdeal (m : (ℓ : Loc Cert.WsoReferenceIdeal.nD Cert.WsoReferenceIdeal.τ Cert.WsoReferenceIdeal.sig) → Buf (Elt Ideal) ℓ) : Prop :=
  True

def Pre_WaoKernel (m : (ℓ : Loc Cert.WaoKernel.nD Cert.WaoKernel.τ Cert.WaoKernel.sig) → Buf (Elt Bits) ℓ) : Prop :=
  True

def Pre_WaoKernelIdeal (m : (ℓ : Loc Cert.WaoKernelIdeal.nD Cert.WaoKernelIdeal.τ Cert.WaoKernelIdeal.sig) → Buf (Elt Ideal) ℓ) : Prop :=
  True

def Pre_WaoReferenceIdeal (m : (ℓ : Loc Cert.WaoReferenceIdeal.nD Cert.WaoReferenceIdeal.τ Cert.WaoReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DaoKernel (m : (ℓ : Loc Cert.DaoKernel.nD Cert.DaoKernel.τ Cert.DaoKernel.sig) → Buf (Elt Bits) ℓ) : Prop :=
  True

def Pre_DaoKernelIdeal (m : (ℓ : Loc Cert.DaoKernelIdeal.nD Cert.DaoKernelIdeal.τ Cert.DaoKernelIdeal.sig) → Buf (Elt Ideal) ℓ) : Prop :=
  True

def Pre_DaoReferenceIdeal (m : (ℓ : Loc Cert.DaoReferenceIdeal.nD Cert.DaoReferenceIdeal.τ Cert.DaoReferenceIdeal.sig) → Buf (Elt Ideal) ℓ) : Prop :=
  True

def Pre_AoutKernel (m : (ℓ : Loc Cert.AoutKernel.nD Cert.AoutKernel.τ Cert.AoutKernel.sig) → Buf (Elt Bits) ℓ) : Prop :=
  True

def Pre_AoutKernelIdeal (m : (ℓ : Loc Cert.AoutKernelIdeal.nD Cert.AoutKernelIdeal.τ Cert.AoutKernelIdeal.sig) → Buf (Elt Ideal) ℓ) : Prop :=
  True

def Pre_AoutReferenceIdeal (m : (ℓ : Loc Cert.AoutReferenceIdeal.nD Cert.AoutReferenceIdeal.τ Cert.AoutReferenceIdeal.sig) → Buf (Elt Ideal) ℓ) : Prop :=
  True

def Pre_MixoKernel (m : (ℓ : Loc Cert.MixoKernel.nD Cert.MixoKernel.τ Cert.MixoKernel.sig) → Buf (Elt Bits) ℓ) : Prop :=
  True

def Pre_MixoKernelIdeal (m : (ℓ : Loc Cert.MixoKernelIdeal.nD Cert.MixoKernelIdeal.τ Cert.MixoKernelIdeal.sig) → Buf (Elt Ideal) ℓ) : Prop :=
  True

def Pre_MixoReferenceIdeal (m : (ℓ : Loc Cert.MixoReferenceIdeal.nD Cert.MixoReferenceIdeal.τ Cert.MixoReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_OwinKernel (m : (ℓ : Loc Cert.OwinKernel.nD Cert.OwinKernel.τ Cert.OwinKernel.sig) → Buf (Elt Bits) ℓ) : Prop :=
  True

def Pre_OwinKernelIdeal (m : (ℓ : Loc Cert.OwinKernelIdeal.nD Cert.OwinKernelIdeal.τ Cert.OwinKernelIdeal.sig) → Buf (Elt Ideal) ℓ) : Prop :=
  True

def Pre_OwinReferenceIdeal (m : (ℓ : Loc Cert.OwinReferenceIdeal.nD Cert.OwinReferenceIdeal.τ Cert.OwinReferenceIdeal.sig) → Buf (Elt Ideal) ℓ) : Prop :=
  True

def Pre_OsoKernel (m : (ℓ : Loc Cert.OsoKernel.nD Cert.OsoKernel.τ Cert.OsoKernel.sig) → Buf (Elt Bits) ℓ) : Prop :=
  True

def Pre_OsoKernelIdeal (m : (ℓ : Loc Cert.OsoKernelIdeal.nD Cert.OsoKernelIdeal.τ Cert.OsoKernelIdeal.sig) → Buf (Elt Ideal) ℓ) : Prop :=
  True

def Pre_OsoReferenceIdeal (m : (ℓ : Loc Cert.OsoReferenceIdeal.nD Cert.OsoReferenceIdeal.τ Cert.OsoReferenceIdeal.sig) → Buf (Elt Ideal) ℓ) : Prop :=
  True

def Pre_OaoKernel (m : (ℓ : Loc Cert.OaoKernel.nD Cert.OaoKernel.τ Cert.OaoKernel.sig) → Buf (Elt Bits) ℓ) : Prop :=
  True

def Pre_OaoKernelIdeal (m : (ℓ : Loc Cert.OaoKernelIdeal.nD Cert.OaoKernelIdeal.τ Cert.OaoKernelIdeal.sig) → Buf (Elt Ideal) ℓ) : Prop :=
  True

def Pre_OaoReferenceIdeal (m : (ℓ : Loc Cert.OaoReferenceIdeal.nD Cert.OaoReferenceIdeal.τ Cert.OaoReferenceIdeal.sig) → Buf (Elt Ideal) ℓ) : Prop :=
  True

def Pre_OupKernel (m : (ℓ : Loc Cert.OupKernel.nD Cert.OupKernel.τ Cert.OupKernel.sig) → Buf (Elt Bits) ℓ) : Prop :=
  True

def Pre_OupKernelIdeal (m : (ℓ : Loc Cert.OupKernelIdeal.nD Cert.OupKernelIdeal.τ Cert.OupKernelIdeal.sig) → Buf (Elt Ideal) ℓ) : Prop :=
  True

def Pre_OupReferenceIdeal (m : (ℓ : Loc Cert.OupReferenceIdeal.nD Cert.OupReferenceIdeal.τ Cert.OupReferenceIdeal.sig) → Buf (Elt Ideal) ℓ) : Prop :=
  True

def Pre_OdnKernel (m : (ℓ : Loc Cert.OdnKernel.nD Cert.OdnKernel.τ Cert.OdnKernel.sig) → Buf (Elt Bits) ℓ) : Prop :=
  True

def Pre_OdnKernelIdeal (m : (ℓ : Loc Cert.OdnKernelIdeal.nD Cert.OdnKernelIdeal.τ Cert.OdnKernelIdeal.sig) → Buf (Elt Ideal) ℓ) : Prop :=
  True

def Pre_OdnReferenceIdeal (m : (ℓ : Loc Cert.OdnReferenceIdeal.nD Cert.OdnReferenceIdeal.τ Cert.OdnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_DmergeKernel (m : (ℓ : Loc Cert.DmergeKernel.nD Cert.DmergeKernel.τ Cert.DmergeKernel.sig) → Buf (Elt Bits) ℓ) : Prop :=
  True

def Pre_DmergeKernelIdeal (m : (ℓ : Loc Cert.DmergeKernelIdeal.nD Cert.DmergeKernelIdeal.τ Cert.DmergeKernelIdeal.sig) → Buf (Elt Ideal) ℓ) : Prop :=
  True

def Pre_DmergeReferenceIdeal (m : (ℓ : Loc Cert.DmergeReferenceIdeal.nD Cert.DmergeReferenceIdeal.τ Cert.DmergeReferenceIdeal.sig) → Buf (Elt Ideal) ℓ) : Prop :=
  True

def Pre_FupKernel (m : (ℓ : Loc Cert.FupKernel.nD Cert.FupKernel.τ Cert.FupKernel.sig) → Buf (Elt Bits) ℓ) : Prop :=
  True

def Pre_FupKernelIdeal (m : (ℓ : Loc Cert.FupKernelIdeal.nD Cert.FupKernelIdeal.τ Cert.FupKernelIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_CgateKernel (m : (ℓ : Loc Cert.CgateKernel.nD Cert.CgateKernel.τ Cert.CgateKernel.sig) → Buf (Elt Bits) ℓ) : Prop :=
  True

def Pre_CgateKernelIdeal (m : (ℓ : Loc Cert.CgateKernelIdeal.nD Cert.CgateKernelIdeal.τ Cert.CgateKernelIdeal.sig) → Buf (Elt Ideal) ℓ) : Prop :=
  True

def Pre_CgateReferenceIdeal (m : (ℓ : Loc Cert.CgateReferenceIdeal.nD Cert.CgateReferenceIdeal.τ Cert.CgateReferenceIdeal.sig) → Buf (Elt Ideal) ℓ) : Prop :=
  True

def Pre_CvalKernel (m : (ℓ : Loc Cert.CvalKernel.nD Cert.CvalKernel.τ Cert.CvalKernel.sig) → Buf (Elt Bits) ℓ) : Prop :=
  True

def Pre_CvalKernelIdeal (m : (ℓ : Loc Cert.CvalKernelIdeal.nD Cert.CvalKernelIdeal.τ Cert.CvalKernelIdeal.sig) → Buf (Elt Ideal) ℓ) : Prop :=
  True

def Pre_CvalReferenceIdeal (m : (ℓ : Loc Cert.CvalReferenceIdeal.nD Cert.CvalReferenceIdeal.τ Cert.CvalReferenceIdeal.sig) → Buf (Elt Ideal) ℓ) : Prop :=
  True

def Pre_CssdKernel (m : (ℓ : Loc Cert.CssdKernel.nD Cert.CssdKernel.τ Cert.CssdKernel.sig) → Buf (Elt Bits) ℓ) : Prop :=
  True

def Pre_CssdKernelIdeal (m : (ℓ : Loc Cert.CssdKernelIdeal.nD Cert.CssdKernelIdeal.τ Cert.CssdKernelIdeal.sig) → Buf (Elt Ideal) ℓ) : Prop :=
  True

def Pre_CssdReferenceIdeal (m : (ℓ : Loc Cert.CssdReferenceIdeal.nD Cert.CssdReferenceIdeal.τ Cert.CssdReferenceIdeal.sig) → Buf (Elt Ideal) ℓ) : Prop :=
  True

def Pre_CsiluKernel (m : (ℓ : Loc Cert.CsiluKernel.nD Cert.CsiluKernel.τ Cert.CsiluKernel.sig) → Buf (Elt Bits) ℓ) : Prop :=
  True

def Pre_CsiluKernelIdeal (m : (ℓ : Loc Cert.CsiluKernelIdeal.nD Cert.CsiluKernelIdeal.τ Cert.CsiluKernelIdeal.sig) → Buf (Elt Ideal) ℓ) : Prop :=
  True

def Pre_CsiluKernelIdeal_finite_ct [hPre_finite_ct : Cert.Pre_finite_ct.Facts] (m : (ℓ : Loc Cert.CsiluKernelIdeal.nD Cert.CsiluKernelIdeal.τ Cert.CsiluKernelIdeal.sig) → Buf (Elt Ideal) ℓ) : Prop :=
  ∀ c : Dev Cert.CsiluKernelIdeal.nD,
    (Cert.Pre_finite_ct.fn (F := Ideal) (m ((c.tc : Thread Cert.CsiluKernelIdeal.nD Cert.CsiluKernelIdeal.τ).loc Cert.CsiluKernelIdeal.main_arg0)) (m ((c.tc : Thread Cert.CsiluKernelIdeal.nD Cert.CsiluKernelIdeal.τ).loc Cert.CsiluKernelIdeal.main_arg1))) = (fun _ => 1#1)

def Pre_CsiluReferenceIdeal (m : (ℓ : Loc Cert.CsiluReferenceIdeal.nD Cert.CsiluReferenceIdeal.τ Cert.CsiluReferenceIdeal.sig) → Buf (Elt Ideal) ℓ) : Prop :=
  True

def Pre_CsiluReferenceIdeal_finite_ct [hPre_finite_ct : Cert.Pre_finite_ct.Facts] (m : (ℓ : Loc Cert.CsiluReferenceIdeal.nD Cert.CsiluReferenceIdeal.τ Cert.CsiluReferenceIdeal.sig) → Buf (Elt Ideal) ℓ) : Prop :=
  ∀ c : Dev Cert.CsiluReferenceIdeal.nD,
    (Cert.Pre_finite_ct.fn (F := Ideal) (m ((c.tc : Thread Cert.CsiluReferenceIdeal.nD Cert.CsiluReferenceIdeal.τ).loc Cert.CsiluReferenceIdeal.main_arg0)) (m ((c.tc : Thread Cert.CsiluReferenceIdeal.nD Cert.CsiluReferenceIdeal.τ).loc Cert.CsiluReferenceIdeal.main_arg1))) = (fun _ => 1#1)

def Pre_FactKernel (m : (ℓ : Loc Cert.FactKernel.nD Cert.FactKernel.τ Cert.FactKernel.sig) → Buf (Elt Bits) ℓ) : Prop :=
  True

def Pre_FactKernelIdeal (m : (ℓ : Loc Cert.FactKernelIdeal.nD Cert.FactKernelIdeal.τ Cert.FactKernelIdeal.sig) → Buf (Elt Ideal) ℓ) : Prop :=
  True

def Pre_FactKernelIdeal_finite_act [hPre_finite_act : Cert.Pre_finite_act.Facts] (m : (ℓ : Loc Cert.FactKernelIdeal.nD Cert.FactKernelIdeal.τ Cert.FactKernelIdeal.sig) → Buf (Elt Ideal) ℓ) : Prop :=
  ∀ c : Dev Cert.FactKernelIdeal.nD,
    (Cert.Pre_finite_act.fn (F := Ideal) (m ((c.tc : Thread Cert.FactKernelIdeal.nD Cert.FactKernelIdeal.τ).loc Cert.FactKernelIdeal.main_arg0)) (m ((c.tc : Thread Cert.FactKernelIdeal.nD Cert.FactKernelIdeal.τ).loc Cert.FactKernelIdeal.main_arg1)) (m ((c.tc : Thread Cert.FactKernelIdeal.nD Cert.FactKernelIdeal.τ).loc Cert.FactKernelIdeal.main_arg2))) = (fun _ => 1#1)

def Pre_FactReferenceIdeal (m : (ℓ : Loc Cert.FactReferenceIdeal.nD Cert.FactReferenceIdeal.τ Cert.FactReferenceIdeal.sig) → Buf (Elt Ideal) ℓ) : Prop :=
  True

def Pre_FactReferenceIdeal_finite_act [hPre_finite_act : Cert.Pre_finite_act.Facts] (m : (ℓ : Loc Cert.FactReferenceIdeal.nD Cert.FactReferenceIdeal.τ Cert.FactReferenceIdeal.sig) → Buf (Elt Ideal) ℓ) : Prop :=
  ∀ c : Dev Cert.FactReferenceIdeal.nD,
    (Cert.Pre_finite_act.fn (F := Ideal) (m ((c.tc : Thread Cert.FactReferenceIdeal.nD Cert.FactReferenceIdeal.τ).loc Cert.FactReferenceIdeal.main_arg0)) (m ((c.tc : Thread Cert.FactReferenceIdeal.nD Cert.FactReferenceIdeal.τ).loc Cert.FactReferenceIdeal.main_arg1)) (m ((c.tc : Thread Cert.FactReferenceIdeal.nD Cert.FactReferenceIdeal.τ).loc Cert.FactReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_DuKernel [hDuKernel : Cert.DuKernel.Facts] : Prop :=
  ∀ (m : (ℓ : Loc Cert.DuKernel.nD Cert.DuKernel.τ Cert.DuKernel.sig) → Buf (Elt Bits) ℓ) (g : Dev Cert.DuKernel.nD → PrngReg), Pre_DuKernel m →
    θ_run (Cert.DuKernel.defs (F := Bits)) (onTc (τ := Cert.DuKernel.τ) (Cert.DuKernel.main (F := Bits))) ⟨m, fun _ => 0, g⟩ (fun r => (∀ c : Dev Cert.DuKernel.nD,
      r.2.mem ((c.tc : Thread Cert.DuKernel.nD Cert.DuKernel.τ).loc Cert.DuKernel.main_arg0) = m ((c.tc : Thread Cert.DuKernel.nD Cert.DuKernel.τ).loc Cert.DuKernel.main_arg0)
      ∧ r.2.mem ((c.tc : Thread Cert.DuKernel.nD Cert.DuKernel.τ).loc Cert.DuKernel.main_arg1) = m ((c.tc : Thread Cert.DuKernel.nD Cert.DuKernel.τ).loc Cert.DuKernel.main_arg1)
      ∧ r.2.mem ((c.tc : Thread Cert.DuKernel.nD Cert.DuKernel.τ).loc Cert.DuKernel.main_arg2) = m ((c.tc : Thread Cert.DuKernel.nD Cert.DuKernel.τ).loc Cert.DuKernel.main_arg2)
      ∧ r.2.mem ((c.tc : Thread Cert.DuKernel.nD Cert.DuKernel.τ).loc Cert.DuKernel.main_arg3) = m ((c.tc : Thread Cert.DuKernel.nD Cert.DuKernel.τ).loc Cert.DuKernel.main_arg3)
      ∧ r.2.mem ((c.tc : Thread Cert.DuKernel.nD Cert.DuKernel.τ).loc Cert.DuKernel.main_arg4) = m ((c.tc : Thread Cert.DuKernel.nD Cert.DuKernel.τ).loc Cert.DuKernel.main_arg4)
      ∧ r.2.mem ((c.tc : Thread Cert.DuKernel.nD Cert.DuKernel.τ).loc Cert.DuKernel.main_arg5) = m ((c.tc : Thread Cert.DuKernel.nD Cert.DuKernel.τ).loc Cert.DuKernel.main_arg5)
      ∧ r.2.mem ((c.tc : Thread Cert.DuKernel.nD Cert.DuKernel.τ).loc Cert.DuKernel.main_arg6) = m ((c.tc : Thread Cert.DuKernel.nD Cert.DuKernel.τ).loc Cert.DuKernel.main_arg6)
      ∧ r.2.mem ((c.tc : Thread Cert.DuKernel.nD Cert.DuKernel.τ).loc Cert.DuKernel.main_arg7) = m ((c.tc : Thread Cert.DuKernel.nD Cert.DuKernel.τ).loc Cert.DuKernel.main_arg7)
      ∧ r.2.mem ((c.tc : Thread Cert.DuKernel.nD Cert.DuKernel.τ).loc Cert.DuKernel.main_arg8) = m ((c.tc : Thread Cert.DuKernel.nD Cert.DuKernel.τ).loc Cert.DuKernel.main_arg8)
      ∧ r.2.mem ((c.tc : Thread Cert.DuKernel.nD Cert.DuKernel.τ).loc Cert.DuKernel.main_arg9) = m ((c.tc : Thread Cert.DuKernel.nD Cert.DuKernel.τ).loc Cert.DuKernel.main_arg9)
      ∧ r.2.mem ((c.tc : Thread Cert.DuKernel.nD Cert.DuKernel.τ).loc Cert.DuKernel.main_arg10) = m ((c.tc : Thread Cert.DuKernel.nD Cert.DuKernel.τ).loc Cert.DuKernel.main_arg10)
      ∧ r.2.mem ((c.tc : Thread Cert.DuKernel.nD Cert.DuKernel.τ).loc Cert.DuKernel.main_arg11) = m ((c.tc : Thread Cert.DuKernel.nD Cert.DuKernel.τ).loc Cert.DuKernel.main_arg11))
      ∧ r.2.sem = fun _ => 0)

def quiescent_DuKernelIdeal [hDuKernelIdeal : Cert.DuKernelIdeal.Facts] : Prop :=
  ∀ (m : (ℓ : Loc Cert.DuKernelIdeal.nD Cert.DuKernelIdeal.τ Cert.DuKernelIdeal.sig) → Buf (Elt Ideal) ℓ) (g : Dev Cert.DuKernelIdeal.nD → PrngReg), Pre_DuKernelIdeal m →
    θ_run (Cert.DuKernelIdeal.defs (F := Ideal)) (onTc (τ := Cert.DuKernelIdeal.τ) (Cert.DuKernelIdeal.main (F := Ideal))) ⟨m, fun _ => 0, g⟩ (fun r => (∀ c : Dev Cert.DuKernelIdeal.nD,
      r.2.mem ((c.tc : Thread Cert.DuKernelIdeal.nD Cert.DuKernelIdeal.τ).loc Cert.DuKernelIdeal.main_arg0) = m ((c.tc : Thread Cert.DuKernelIdeal.nD Cert.DuKernelIdeal.τ).loc Cert.DuKernelIdeal.main_arg0)
      ∧ r.2.mem ((c.tc : Thread Cert.DuKernelIdeal.nD Cert.DuKernelIdeal.τ).loc Cert.DuKernelIdeal.main_arg1) = m ((c.tc : Thread Cert.DuKernelIdeal.nD Cert.DuKernelIdeal.τ).loc Cert.DuKernelIdeal.main_arg1)
      ∧ r.2.mem ((c.tc : Thread Cert.DuKernelIdeal.nD Cert.DuKernelIdeal.τ).loc Cert.DuKernelIdeal.main_arg2) = m ((c.tc : Thread Cert.DuKernelIdeal.nD Cert.DuKernelIdeal.τ).loc Cert.DuKernelIdeal.main_arg2)
      ∧ r.2.mem ((c.tc : Thread Cert.DuKernelIdeal.nD Cert.DuKernelIdeal.τ).loc Cert.DuKernelIdeal.main_arg3) = m ((c.tc : Thread Cert.DuKernelIdeal.nD Cert.DuKernelIdeal.τ).loc Cert.DuKernelIdeal.main_arg3)
      ∧ r.2.mem ((c.tc : Thread Cert.DuKernelIdeal.nD Cert.DuKernelIdeal.τ).loc Cert.DuKernelIdeal.main_arg4) = m ((c.tc : Thread Cert.DuKernelIdeal.nD Cert.DuKernelIdeal.τ).loc Cert.DuKernelIdeal.main_arg4)
      ∧ r.2.mem ((c.tc : Thread Cert.DuKernelIdeal.nD Cert.DuKernelIdeal.τ).loc Cert.DuKernelIdeal.main_arg5) = m ((c.tc : Thread Cert.DuKernelIdeal.nD Cert.DuKernelIdeal.τ).loc Cert.DuKernelIdeal.main_arg5)
      ∧ r.2.mem ((c.tc : Thread Cert.DuKernelIdeal.nD Cert.DuKernelIdeal.τ).loc Cert.DuKernelIdeal.main_arg6) = m ((c.tc : Thread Cert.DuKernelIdeal.nD Cert.DuKernelIdeal.τ).loc Cert.DuKernelIdeal.main_arg6)
      ∧ r.2.mem ((c.tc : Thread Cert.DuKernelIdeal.nD Cert.DuKernelIdeal.τ).loc Cert.DuKernelIdeal.main_arg7) = m ((c.tc : Thread Cert.DuKernelIdeal.nD Cert.DuKernelIdeal.τ).loc Cert.DuKernelIdeal.main_arg7)
      ∧ r.2.mem ((c.tc : Thread Cert.DuKernelIdeal.nD Cert.DuKernelIdeal.τ).loc Cert.DuKernelIdeal.main_arg8) = m ((c.tc : Thread Cert.DuKernelIdeal.nD Cert.DuKernelIdeal.τ).loc Cert.DuKernelIdeal.main_arg8)
      ∧ r.2.mem ((c.tc : Thread Cert.DuKernelIdeal.nD Cert.DuKernelIdeal.τ).loc Cert.DuKernelIdeal.main_arg9) = m ((c.tc : Thread Cert.DuKernelIdeal.nD Cert.DuKernelIdeal.τ).loc Cert.DuKernelIdeal.main_arg9)
      ∧ r.2.mem ((c.tc : Thread Cert.DuKernelIdeal.nD Cert.DuKernelIdeal.τ).loc Cert.DuKernelIdeal.main_arg10) = m ((c.tc : Thread Cert.DuKernelIdeal.nD Cert.DuKernelIdeal.τ).loc Cert.DuKernelIdeal.main_arg10)
      ∧ r.2.mem ((c.tc : Thread Cert.DuKernelIdeal.nD Cert.DuKernelIdeal.τ).loc Cert.DuKernelIdeal.main_arg11) = m ((c.tc : Thread Cert.DuKernelIdeal.nD Cert.DuKernelIdeal.τ).loc Cert.DuKernelIdeal.main_arg11))
      ∧ r.2.sem = fun _ => 0)

def quiescent_DuReferenceIdeal [hDuReferenceIdeal : Cert.DuReferenceIdeal.Facts] : Prop :=
  ∀ (m : (ℓ : Loc Cert.DuReferenceIdeal.nD Cert.DuReferenceIdeal.τ Cert.DuReferenceIdeal.sig) → Buf (Elt Ideal) ℓ) (g : Dev Cert.DuReferenceIdeal.nD → PrngReg), Pre_DuReferenceIdeal m →
    θ_run (Cert.DuReferenceIdeal.defs (F := Ideal)) (onTc (τ := Cert.DuReferenceIdeal.τ) (Cert.DuReferenceIdeal.main (F := Ideal))) ⟨m, fun _ => 0, g⟩ (fun r => (∀ c : Dev Cert.DuReferenceIdeal.nD,
      r.2.mem ((c.tc : Thread Cert.DuReferenceIdeal.nD Cert.DuReferenceIdeal.τ).loc Cert.DuReferenceIdeal.main_arg0) = m ((c.tc : Thread Cert.DuReferenceIdeal.nD Cert.DuReferenceIdeal.τ).loc Cert.DuReferenceIdeal.main_arg0)
      ∧ r.2.mem ((c.tc : Thread Cert.DuReferenceIdeal.nD Cert.DuReferenceIdeal.τ).loc Cert.DuReferenceIdeal.main_arg1) = m ((c.tc : Thread Cert.DuReferenceIdeal.nD Cert.DuReferenceIdeal.τ).loc Cert.DuReferenceIdeal.main_arg1)
      ∧ r.2.mem ((c.tc : Thread Cert.DuReferenceIdeal.nD Cert.DuReferenceIdeal.τ).loc Cert.DuReferenceIdeal.main_arg2) = m ((c.tc : Thread Cert.DuReferenceIdeal.nD Cert.DuReferenceIdeal.τ).loc Cert.DuReferenceIdeal.main_arg2)
      ∧ r.2.mem ((c.tc : Thread Cert.DuReferenceIdeal.nD Cert.DuReferenceIdeal.τ).loc Cert.DuReferenceIdeal.main_arg3) = m ((c.tc : Thread Cert.DuReferenceIdeal.nD Cert.DuReferenceIdeal.τ).loc Cert.DuReferenceIdeal.main_arg3)
      ∧ r.2.mem ((c.tc : Thread Cert.DuReferenceIdeal.nD Cert.DuReferenceIdeal.τ).loc Cert.DuReferenceIdeal.main_arg4) = m ((c.tc : Thread Cert.DuReferenceIdeal.nD Cert.DuReferenceIdeal.τ).loc Cert.DuReferenceIdeal.main_arg4)
      ∧ r.2.mem ((c.tc : Thread Cert.DuReferenceIdeal.nD Cert.DuReferenceIdeal.τ).loc Cert.DuReferenceIdeal.main_arg5) = m ((c.tc : Thread Cert.DuReferenceIdeal.nD Cert.DuReferenceIdeal.τ).loc Cert.DuReferenceIdeal.main_arg5)
      ∧ r.2.mem ((c.tc : Thread Cert.DuReferenceIdeal.nD Cert.DuReferenceIdeal.τ).loc Cert.DuReferenceIdeal.main_arg6) = m ((c.tc : Thread Cert.DuReferenceIdeal.nD Cert.DuReferenceIdeal.τ).loc Cert.DuReferenceIdeal.main_arg6)
      ∧ r.2.mem ((c.tc : Thread Cert.DuReferenceIdeal.nD Cert.DuReferenceIdeal.τ).loc Cert.DuReferenceIdeal.main_arg7) = m ((c.tc : Thread Cert.DuReferenceIdeal.nD Cert.DuReferenceIdeal.τ).loc Cert.DuReferenceIdeal.main_arg7)
      ∧ r.2.mem ((c.tc : Thread Cert.DuReferenceIdeal.nD Cert.DuReferenceIdeal.τ).loc Cert.DuReferenceIdeal.main_arg8) = m ((c.tc : Thread Cert.DuReferenceIdeal.nD Cert.DuReferenceIdeal.τ).loc Cert.DuReferenceIdeal.main_arg8)
      ∧ r.2.mem ((c.tc : Thread Cert.DuReferenceIdeal.nD Cert.DuReferenceIdeal.τ).loc Cert.DuReferenceIdeal.main_arg9) = m ((c.tc : Thread Cert.DuReferenceIdeal.nD Cert.DuReferenceIdeal.τ).loc Cert.DuReferenceIdeal.main_arg9)
      ∧ r.2.mem ((c.tc : Thread Cert.DuReferenceIdeal.nD Cert.DuReferenceIdeal.τ).loc Cert.DuReferenceIdeal.main_arg10) = m ((c.tc : Thread Cert.DuReferenceIdeal.nD Cert.DuReferenceIdeal.τ).loc Cert.DuReferenceIdeal.main_arg10)
      ∧ r.2.mem ((c.tc : Thread Cert.DuReferenceIdeal.nD Cert.DuReferenceIdeal.τ).loc Cert.DuReferenceIdeal.main_arg11) = m ((c.tc : Thread Cert.DuReferenceIdeal.nD Cert.DuReferenceIdeal.τ).loc Cert.DuReferenceIdeal.main_arg11))
      ∧ r.2.sem = fun _ => 0)

def quiescent_WupKernel [hWupKernel : Cert.WupKernel.Facts] : Prop :=
  ∀ (m : (ℓ : Loc Cert.WupKernel.nD Cert.WupKernel.τ Cert.WupKernel.sig) → Buf (Elt Bits) ℓ) (g : Dev Cert.WupKernel.nD → PrngReg), Pre_WupKernel m →
    θ_run (Cert.WupKernel.defs (F := Bits)) (onTc (τ := Cert.WupKernel.τ) (Cert.WupKernel.main (F := Bits))) ⟨m, fun _ => 0, g⟩ (fun r => (∀ c : Dev Cert.WupKernel.nD,
      r.2.mem ((c.tc : Thread Cert.WupKernel.nD Cert.WupKernel.τ).loc Cert.WupKernel.main_arg0) = m ((c.tc : Thread Cert.WupKernel.nD Cert.WupKernel.τ).loc Cert.WupKernel.main_arg0)
      ∧ r.2.mem ((c.tc : Thread Cert.WupKernel.nD Cert.WupKernel.τ).loc Cert.WupKernel.main_arg1) = m ((c.tc : Thread Cert.WupKernel.nD Cert.WupKernel.τ).loc Cert.WupKernel.main_arg1))
      ∧ r.2.sem = fun _ => 0)

def quiescent_WupKernelIdeal [hWupKernelIdeal : Cert.WupKernelIdeal.Facts] : Prop :=
  ∀ (m : (ℓ : Loc Cert.WupKernelIdeal.nD Cert.WupKernelIdeal.τ Cert.WupKernelIdeal.sig) → Buf (Elt Ideal) ℓ) (g : Dev Cert.WupKernelIdeal.nD → PrngReg), Pre_WupKernelIdeal m →
    θ_run (Cert.WupKernelIdeal.defs (F := Ideal)) (onTc (τ := Cert.WupKernelIdeal.τ) (Cert.WupKernelIdeal.main (F := Ideal))) ⟨m, fun _ => 0, g⟩ (fun r => (∀ c : Dev Cert.WupKernelIdeal.nD,
      r.2.mem ((c.tc : Thread Cert.WupKernelIdeal.nD Cert.WupKernelIdeal.τ).loc Cert.WupKernelIdeal.main_arg0) = m ((c.tc : Thread Cert.WupKernelIdeal.nD Cert.WupKernelIdeal.τ).loc Cert.WupKernelIdeal.main_arg0)
      ∧ r.2.mem ((c.tc : Thread Cert.WupKernelIdeal.nD Cert.WupKernelIdeal.τ).loc Cert.WupKernelIdeal.main_arg1) = m ((c.tc : Thread Cert.WupKernelIdeal.nD Cert.WupKernelIdeal.τ).loc Cert.WupKernelIdeal.main_arg1))
      ∧ r.2.sem = fun _ => 0)

def quiescent_WupReferenceIdeal [hWupReferenceIdeal : Cert.WupReferenceIdeal.Facts] : Prop :=
  ∀ (m : (ℓ : Loc Cert.WupReferenceIdeal.nD Cert.WupReferenceIdeal.τ Cert.WupReferenceIdeal.sig) → Buf (Elt Ideal) ℓ) (g : Dev Cert.WupReferenceIdeal.nD → PrngReg), Pre_WupReferenceIdeal m →
    θ_run (Cert.WupReferenceIdeal.defs (F := Ideal)) (onTc (τ := Cert.WupReferenceIdeal.τ) (Cert.WupReferenceIdeal.main (F := Ideal))) ⟨m, fun _ => 0, g⟩ (fun r => (∀ c : Dev Cert.WupReferenceIdeal.nD,
      r.2.mem ((c.tc : Thread Cert.WupReferenceIdeal.nD Cert.WupReferenceIdeal.τ).loc Cert.WupReferenceIdeal.main_arg0) = m ((c.tc : Thread Cert.WupReferenceIdeal.nD Cert.WupReferenceIdeal.τ).loc Cert.WupReferenceIdeal.main_arg0)
      ∧ r.2.mem ((c.tc : Thread Cert.WupReferenceIdeal.nD Cert.WupReferenceIdeal.τ).loc Cert.WupReferenceIdeal.main_arg1) = m ((c.tc : Thread Cert.WupReferenceIdeal.nD Cert.WupReferenceIdeal.τ).loc Cert.WupReferenceIdeal.main_arg1))
      ∧ r.2.sem = fun _ => 0)

def quiescent_WdnKernel [hWdnKernel : Cert.WdnKernel.Facts] : Prop :=
  ∀ (m : (ℓ : Loc Cert.WdnKernel.nD Cert.WdnKernel.τ Cert.WdnKernel.sig) → Buf (Elt Bits) ℓ) (g : Dev Cert.WdnKernel.nD → PrngReg), Pre_WdnKernel m →
    θ_run (Cert.WdnKernel.defs (F := Bits)) (onTc (τ := Cert.WdnKernel.τ) (Cert.WdnKernel.main (F := Bits))) ⟨m, fun _ => 0, g⟩ (fun r => (∀ c : Dev Cert.WdnKernel.nD,
      r.2.mem ((c.tc : Thread Cert.WdnKernel.nD Cert.WdnKernel.τ).loc Cert.WdnKernel.main_arg0) = m ((c.tc : Thread Cert.WdnKernel.nD Cert.WdnKernel.τ).loc Cert.WdnKernel.main_arg0)
      ∧ r.2.mem ((c.tc : Thread Cert.WdnKernel.nD Cert.WdnKernel.τ).loc Cert.WdnKernel.main_arg1) = m ((c.tc : Thread Cert.WdnKernel.nD Cert.WdnKernel.τ).loc Cert.WdnKernel.main_arg1))
      ∧ r.2.sem = fun _ => 0)

def quiescent_WdnKernelIdeal [hWdnKernelIdeal : Cert.WdnKernelIdeal.Facts] : Prop :=
  ∀ (m : (ℓ : Loc Cert.WdnKernelIdeal.nD Cert.WdnKernelIdeal.τ Cert.WdnKernelIdeal.sig) → Buf (Elt Ideal) ℓ) (g : Dev Cert.WdnKernelIdeal.nD → PrngReg), Pre_WdnKernelIdeal m →
    θ_run (Cert.WdnKernelIdeal.defs (F := Ideal)) (onTc (τ := Cert.WdnKernelIdeal.τ) (Cert.WdnKernelIdeal.main (F := Ideal))) ⟨m, fun _ => 0, g⟩ (fun r => (∀ c : Dev Cert.WdnKernelIdeal.nD,
      r.2.mem ((c.tc : Thread Cert.WdnKernelIdeal.nD Cert.WdnKernelIdeal.τ).loc Cert.WdnKernelIdeal.main_arg0) = m ((c.tc : Thread Cert.WdnKernelIdeal.nD Cert.WdnKernelIdeal.τ).loc Cert.WdnKernelIdeal.main_arg0)
      ∧ r.2.mem ((c.tc : Thread Cert.WdnKernelIdeal.nD Cert.WdnKernelIdeal.τ).loc Cert.WdnKernelIdeal.main_arg1) = m ((c.tc : Thread Cert.WdnKernelIdeal.nD Cert.WdnKernelIdeal.τ).loc Cert.WdnKernelIdeal.main_arg1))
      ∧ r.2.sem = fun _ => 0)

def quiescent_WdnReferenceIdeal [hWdnReferenceIdeal : Cert.WdnReferenceIdeal.Facts] : Prop :=
  ∀ (m : (ℓ : Loc Cert.WdnReferenceIdeal.nD Cert.WdnReferenceIdeal.τ Cert.WdnReferenceIdeal.sig) → Buf (Elt Ideal) ℓ) (g : Dev Cert.WdnReferenceIdeal.nD → PrngReg), Pre_WdnReferenceIdeal m →
    θ_run (Cert.WdnReferenceIdeal.defs (F := Ideal)) (onTc (τ := Cert.WdnReferenceIdeal.τ) (Cert.WdnReferenceIdeal.main (F := Ideal))) ⟨m, fun _ => 0, g⟩ (fun r => (∀ c : Dev Cert.WdnReferenceIdeal.nD,
      r.2.mem ((c.tc : Thread Cert.WdnReferenceIdeal.nD Cert.WdnReferenceIdeal.τ).loc Cert.WdnReferenceIdeal.main_arg0) = m ((c.tc : Thread Cert.WdnReferenceIdeal.nD Cert.WdnReferenceIdeal.τ).loc Cert.WdnReferenceIdeal.main_arg0)
      ∧ r.2.mem ((c.tc : Thread Cert.WdnReferenceIdeal.nD Cert.WdnReferenceIdeal.τ).loc Cert.WdnReferenceIdeal.main_arg1) = m ((c.tc : Thread Cert.WdnReferenceIdeal.nD Cert.WdnReferenceIdeal.τ).loc Cert.WdnReferenceIdeal.main_arg1))
      ∧ r.2.sem = fun _ => 0)

def quiescent_WmixKernel [hWmixKernel : Cert.WmixKernel.Facts] : Prop :=
  ∀ (m : (ℓ : Loc Cert.WmixKernel.nD Cert.WmixKernel.τ Cert.WmixKernel.sig) → Buf (Elt Bits) ℓ) (g : Dev Cert.WmixKernel.nD → PrngReg), Pre_WmixKernel m →
    θ_run (Cert.WmixKernel.defs (F := Bits)) (onTc (τ := Cert.WmixKernel.τ) (Cert.WmixKernel.main (F := Bits))) ⟨m, fun _ => 0, g⟩ (fun r => (∀ c : Dev Cert.WmixKernel.nD,
      r.2.mem ((c.tc : Thread Cert.WmixKernel.nD Cert.WmixKernel.τ).loc Cert.WmixKernel.main_arg0) = m ((c.tc : Thread Cert.WmixKernel.nD Cert.WmixKernel.τ).loc Cert.WmixKernel.main_arg0)
      ∧ r.2.mem ((c.tc : Thread Cert.WmixKernel.nD Cert.WmixKernel.τ).loc Cert.WmixKernel.main_arg1) = m ((c.tc : Thread Cert.WmixKernel.nD Cert.WmixKernel.τ).loc Cert.WmixKernel.main_arg1))
      ∧ r.2.sem = fun _ => 0)

def quiescent_WmixKernelIdeal [hWmixKernelIdeal : Cert.WmixKernelIdeal.Facts] : Prop :=
  ∀ (m : (ℓ : Loc Cert.WmixKernelIdeal.nD Cert.WmixKernelIdeal.τ Cert.WmixKernelIdeal.sig) → Buf (Elt Ideal) ℓ) (g : Dev Cert.WmixKernelIdeal.nD → PrngReg), Pre_WmixKernelIdeal m →
    θ_run (Cert.WmixKernelIdeal.defs (F := Ideal)) (onTc (τ := Cert.WmixKernelIdeal.τ) (Cert.WmixKernelIdeal.main (F := Ideal))) ⟨m, fun _ => 0, g⟩ (fun r => (∀ c : Dev Cert.WmixKernelIdeal.nD,
      r.2.mem ((c.tc : Thread Cert.WmixKernelIdeal.nD Cert.WmixKernelIdeal.τ).loc Cert.WmixKernelIdeal.main_arg0) = m ((c.tc : Thread Cert.WmixKernelIdeal.nD Cert.WmixKernelIdeal.τ).loc Cert.WmixKernelIdeal.main_arg0)
      ∧ r.2.mem ((c.tc : Thread Cert.WmixKernelIdeal.nD Cert.WmixKernelIdeal.τ).loc Cert.WmixKernelIdeal.main_arg1) = m ((c.tc : Thread Cert.WmixKernelIdeal.nD Cert.WmixKernelIdeal.τ).loc Cert.WmixKernelIdeal.main_arg1))
      ∧ r.2.sem = fun _ => 0)

def quiescent_WmixReferenceIdeal [hWmixReferenceIdeal : Cert.WmixReferenceIdeal.Facts] : Prop :=
  ∀ (m : (ℓ : Loc Cert.WmixReferenceIdeal.nD Cert.WmixReferenceIdeal.τ Cert.WmixReferenceIdeal.sig) → Buf (Elt Ideal) ℓ) (g : Dev Cert.WmixReferenceIdeal.nD → PrngReg), Pre_WmixReferenceIdeal m →
    θ_run (Cert.WmixReferenceIdeal.defs (F := Ideal)) (onTc (τ := Cert.WmixReferenceIdeal.τ) (Cert.WmixReferenceIdeal.main (F := Ideal))) ⟨m, fun _ => 0, g⟩ (fun r => (∀ c : Dev Cert.WmixReferenceIdeal.nD,
      r.2.mem ((c.tc : Thread Cert.WmixReferenceIdeal.nD Cert.WmixReferenceIdeal.τ).loc Cert.WmixReferenceIdeal.main_arg0) = m ((c.tc : Thread Cert.WmixReferenceIdeal.nD Cert.WmixReferenceIdeal.τ).loc Cert.WmixReferenceIdeal.main_arg0)
      ∧ r.2.mem ((c.tc : Thread Cert.WmixReferenceIdeal.nD Cert.WmixReferenceIdeal.τ).loc Cert.WmixReferenceIdeal.main_arg1) = m ((c.tc : Thread Cert.WmixReferenceIdeal.nD Cert.WmixReferenceIdeal.τ).loc Cert.WmixReferenceIdeal.main_arg1))
      ∧ r.2.sem = fun _ => 0)

def quiescent_WsoKernel [hWsoKernel : Cert.WsoKernel.Facts] : Prop :=
  ∀ (m : (ℓ : Loc Cert.WsoKernel.nD Cert.WsoKernel.τ Cert.WsoKernel.sig) → Buf (Elt Bits) ℓ) (g : Dev Cert.WsoKernel.nD → PrngReg), Pre_WsoKernel m →
    θ_run (Cert.WsoKernel.defs (F := Bits)) (onTc (τ := Cert.WsoKernel.τ) (Cert.WsoKernel.main (F := Bits))) ⟨m, fun _ => 0, g⟩ (fun r => (∀ c : Dev Cert.WsoKernel.nD,
      r.2.mem ((c.tc : Thread Cert.WsoKernel.nD Cert.WsoKernel.τ).loc Cert.WsoKernel.main_arg0) = m ((c.tc : Thread Cert.WsoKernel.nD Cert.WsoKernel.τ).loc Cert.WsoKernel.main_arg0)
      ∧ r.2.mem ((c.tc : Thread Cert.WsoKernel.nD Cert.WsoKernel.τ).loc Cert.WsoKernel.main_arg1) = m ((c.tc : Thread Cert.WsoKernel.nD Cert.WsoKernel.τ).loc Cert.WsoKernel.main_arg1))
      ∧ r.2.sem = fun _ => 0)

def quiescent_WsoKernelIdeal [hWsoKernelIdeal : Cert.WsoKernelIdeal.Facts] : Prop :=
  ∀ (m : (ℓ : Loc Cert.WsoKernelIdeal.nD Cert.WsoKernelIdeal.τ Cert.WsoKernelIdeal.sig) → Buf (Elt Ideal) ℓ) (g : Dev Cert.WsoKernelIdeal.nD → PrngReg), Pre_WsoKernelIdeal m →
    θ_run (Cert.WsoKernelIdeal.defs (F := Ideal)) (onTc (τ := Cert.WsoKernelIdeal.τ) (Cert.WsoKernelIdeal.main (F := Ideal))) ⟨m, fun _ => 0, g⟩ (fun r => (∀ c : Dev Cert.WsoKernelIdeal.nD,
      r.2.mem ((c.tc : Thread Cert.WsoKernelIdeal.nD Cert.WsoKernelIdeal.τ).loc Cert.WsoKernelIdeal.main_arg0) = m ((c.tc : Thread Cert.WsoKernelIdeal.nD Cert.WsoKernelIdeal.τ).loc Cert.WsoKernelIdeal.main_arg0)
      ∧ r.2.mem ((c.tc : Thread Cert.WsoKernelIdeal.nD Cert.WsoKernelIdeal.τ).loc Cert.WsoKernelIdeal.main_arg1) = m ((c.tc : Thread Cert.WsoKernelIdeal.nD Cert.WsoKernelIdeal.τ).loc Cert.WsoKernelIdeal.main_arg1))
      ∧ r.2.sem = fun _ => 0)

def quiescent_WsoReferenceIdeal [hWsoReferenceIdeal : Cert.WsoReferenceIdeal.Facts] : Prop :=
  ∀ (m : (ℓ : Loc Cert.WsoReferenceIdeal.nD Cert.WsoReferenceIdeal.τ Cert.WsoReferenceIdeal.sig) → Buf (Elt Ideal) ℓ) (g : Dev Cert.WsoReferenceIdeal.nD → PrngReg), Pre_WsoReferenceIdeal m →
    θ_run (Cert.WsoReferenceIdeal.defs (F := Ideal)) (onTc (τ := Cert.WsoReferenceIdeal.τ) (Cert.WsoReferenceIdeal.main (F := Ideal))) ⟨m, fun _ => 0, g⟩ (fun r => (∀ c : Dev Cert.WsoReferenceIdeal.nD,
      r.2.mem ((c.tc : Thread Cert.WsoReferenceIdeal.nD Cert.WsoReferenceIdeal.τ).loc Cert.WsoReferenceIdeal.main_arg0) = m ((c.tc : Thread Cert.WsoReferenceIdeal.nD Cert.WsoReferenceIdeal.τ).loc Cert.WsoReferenceIdeal.main_arg0)
      ∧ r.2.mem ((c.tc : Thread Cert.WsoReferenceIdeal.nD Cert.WsoReferenceIdeal.τ).loc Cert.WsoReferenceIdeal.main_arg1) = m ((c.tc : Thread Cert.WsoReferenceIdeal.nD Cert.WsoReferenceIdeal.τ).loc Cert.WsoReferenceIdeal.main_arg1))
      ∧ r.2.sem = fun _ => 0)

def quiescent_WaoKernel [hWaoKernel : Cert.WaoKernel.Facts] : Prop :=
  ∀ (m : (ℓ : Loc Cert.WaoKernel.nD Cert.WaoKernel.τ Cert.WaoKernel.sig) → Buf (Elt Bits) ℓ) (g : Dev Cert.WaoKernel.nD → PrngReg), Pre_WaoKernel m →
    θ_run (Cert.WaoKernel.defs (F := Bits)) (onTc (τ := Cert.WaoKernel.τ) (Cert.WaoKernel.main (F := Bits))) ⟨m, fun _ => 0, g⟩ (fun r => (∀ c : Dev Cert.WaoKernel.nD,
      r.2.mem ((c.tc : Thread Cert.WaoKernel.nD Cert.WaoKernel.τ).loc Cert.WaoKernel.main_arg0) = m ((c.tc : Thread Cert.WaoKernel.nD Cert.WaoKernel.τ).loc Cert.WaoKernel.main_arg0)
      ∧ r.2.mem ((c.tc : Thread Cert.WaoKernel.nD Cert.WaoKernel.τ).loc Cert.WaoKernel.main_arg1) = m ((c.tc : Thread Cert.WaoKernel.nD Cert.WaoKernel.τ).loc Cert.WaoKernel.main_arg1))
      ∧ r.2.sem = fun _ => 0)

def quiescent_WaoKernelIdeal [hWaoKernelIdeal : Cert.WaoKernelIdeal.Facts] : Prop :=
  ∀ (m : (ℓ : Loc Cert.WaoKernelIdeal.nD Cert.WaoKernelIdeal.τ Cert.WaoKernelIdeal.sig) → Buf (Elt Ideal) ℓ) (g : Dev Cert.WaoKernelIdeal.nD → PrngReg), Pre_WaoKernelIdeal m →
    θ_run (Cert.WaoKernelIdeal.defs (F := Ideal)) (onTc (τ := Cert.WaoKernelIdeal.τ) (Cert.WaoKernelIdeal.main (F := Ideal))) ⟨m, fun _ => 0, g⟩ (fun r => (∀ c : Dev Cert.WaoKernelIdeal.nD,
      r.2.mem ((c.tc : Thread Cert.WaoKernelIdeal.nD Cert.WaoKernelIdeal.τ).loc Cert.WaoKernelIdeal.main_arg0) = m ((c.tc : Thread Cert.WaoKernelIdeal.nD Cert.WaoKernelIdeal.τ).loc Cert.WaoKernelIdeal.main_arg0)
      ∧ r.2.mem ((c.tc : Thread Cert.WaoKernelIdeal.nD Cert.WaoKernelIdeal.τ).loc Cert.WaoKernelIdeal.main_arg1) = m ((c.tc : Thread Cert.WaoKernelIdeal.nD Cert.WaoKernelIdeal.τ).loc Cert.WaoKernelIdeal.main_arg1))
      ∧ r.2.sem = fun _ => 0)

def quiescent_WaoReferenceIdeal [hWaoReferenceIdeal : Cert.WaoReferenceIdeal.Facts] : Prop :=
  ∀ (m : (ℓ : Loc Cert.WaoReferenceIdeal.nD Cert.WaoReferenceIdeal.τ Cert.WaoReferenceIdeal.sig) → Buf (Elt Ideal) ℓ) (g : Dev Cert.WaoReferenceIdeal.nD → PrngReg), Pre_WaoReferenceIdeal m →
    θ_run (Cert.WaoReferenceIdeal.defs (F := Ideal)) (onTc (τ := Cert.WaoReferenceIdeal.τ) (Cert.WaoReferenceIdeal.main (F := Ideal))) ⟨m, fun _ => 0, g⟩ (fun r => (∀ c : Dev Cert.WaoReferenceIdeal.nD,
      r.2.mem ((c.tc : Thread Cert.WaoReferenceIdeal.nD Cert.WaoReferenceIdeal.τ).loc Cert.WaoReferenceIdeal.main_arg0) = m ((c.tc : Thread Cert.WaoReferenceIdeal.nD Cert.WaoReferenceIdeal.τ).loc Cert.WaoReferenceIdeal.main_arg0)
      ∧ r.2.mem ((c.tc : Thread Cert.WaoReferenceIdeal.nD Cert.WaoReferenceIdeal.τ).loc Cert.WaoReferenceIdeal.main_arg1) = m ((c.tc : Thread Cert.WaoReferenceIdeal.nD Cert.WaoReferenceIdeal.τ).loc Cert.WaoReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DaoKernel [hDaoKernel : Cert.DaoKernel.Facts] : Prop :=
  ∀ (m : (ℓ : Loc Cert.DaoKernel.nD Cert.DaoKernel.τ Cert.DaoKernel.sig) → Buf (Elt Bits) ℓ) (g : Dev Cert.DaoKernel.nD → PrngReg), Pre_DaoKernel m →
    θ_run (Cert.DaoKernel.defs (F := Bits)) (onTc (τ := Cert.DaoKernel.τ) (Cert.DaoKernel.main (F := Bits))) ⟨m, fun _ => 0, g⟩ (fun r => (∀ c : Dev Cert.DaoKernel.nD,
      r.2.mem ((c.tc : Thread Cert.DaoKernel.nD Cert.DaoKernel.τ).loc Cert.DaoKernel.main_arg0) = m ((c.tc : Thread Cert.DaoKernel.nD Cert.DaoKernel.τ).loc Cert.DaoKernel.main_arg0)
      ∧ r.2.mem ((c.tc : Thread Cert.DaoKernel.nD Cert.DaoKernel.τ).loc Cert.DaoKernel.main_arg1) = m ((c.tc : Thread Cert.DaoKernel.nD Cert.DaoKernel.τ).loc Cert.DaoKernel.main_arg1))
      ∧ r.2.sem = fun _ => 0)

def quiescent_DaoKernelIdeal [hDaoKernelIdeal : Cert.DaoKernelIdeal.Facts] : Prop :=
  ∀ (m : (ℓ : Loc Cert.DaoKernelIdeal.nD Cert.DaoKernelIdeal.τ Cert.DaoKernelIdeal.sig) → Buf (Elt Ideal) ℓ) (g : Dev Cert.DaoKernelIdeal.nD → PrngReg), Pre_DaoKernelIdeal m →
    θ_run (Cert.DaoKernelIdeal.defs (F := Ideal)) (onTc (τ := Cert.DaoKernelIdeal.τ) (Cert.DaoKernelIdeal.main (F := Ideal))) ⟨m, fun _ => 0, g⟩ (fun r => (∀ c : Dev Cert.DaoKernelIdeal.nD,
      r.2.mem ((c.tc : Thread Cert.DaoKernelIdeal.nD Cert.DaoKernelIdeal.τ).loc Cert.DaoKernelIdeal.main_arg0) = m ((c.tc : Thread Cert.DaoKernelIdeal.nD Cert.DaoKernelIdeal.τ).loc Cert.DaoKernelIdeal.main_arg0)
      ∧ r.2.mem ((c.tc : Thread Cert.DaoKernelIdeal.nD Cert.DaoKernelIdeal.τ).loc Cert.DaoKernelIdeal.main_arg1) = m ((c.tc : Thread Cert.DaoKernelIdeal.nD Cert.DaoKernelIdeal.τ).loc Cert.DaoKernelIdeal.main_arg1))
      ∧ r.2.sem = fun _ => 0)

def quiescent_DaoReferenceIdeal [hDaoReferenceIdeal : Cert.DaoReferenceIdeal.Facts] : Prop :=
  ∀ (m : (ℓ : Loc Cert.DaoReferenceIdeal.nD Cert.DaoReferenceIdeal.τ Cert.DaoReferenceIdeal.sig) → Buf (Elt Ideal) ℓ) (g : Dev Cert.DaoReferenceIdeal.nD → PrngReg), Pre_DaoReferenceIdeal m →
    θ_run (Cert.DaoReferenceIdeal.defs (F := Ideal)) (onTc (τ := Cert.DaoReferenceIdeal.τ) (Cert.DaoReferenceIdeal.main (F := Ideal))) ⟨m, fun _ => 0, g⟩ (fun r => (∀ c : Dev Cert.DaoReferenceIdeal.nD,
      r.2.mem ((c.tc : Thread Cert.DaoReferenceIdeal.nD Cert.DaoReferenceIdeal.τ).loc Cert.DaoReferenceIdeal.main_arg0) = m ((c.tc : Thread Cert.DaoReferenceIdeal.nD Cert.DaoReferenceIdeal.τ).loc Cert.DaoReferenceIdeal.main_arg0)
      ∧ r.2.mem ((c.tc : Thread Cert.DaoReferenceIdeal.nD Cert.DaoReferenceIdeal.τ).loc Cert.DaoReferenceIdeal.main_arg1) = m ((c.tc : Thread Cert.DaoReferenceIdeal.nD Cert.DaoReferenceIdeal.τ).loc Cert.DaoReferenceIdeal.main_arg1))
      ∧ r.2.sem = fun _ => 0)

def quiescent_AoutKernel [hAoutKernel : Cert.AoutKernel.Facts] : Prop :=
  ∀ (m : (ℓ : Loc Cert.AoutKernel.nD Cert.AoutKernel.τ Cert.AoutKernel.sig) → Buf (Elt Bits) ℓ) (g : Dev Cert.AoutKernel.nD → PrngReg), Pre_AoutKernel m →
    θ_run (Cert.AoutKernel.defs (F := Bits)) (onTc (τ := Cert.AoutKernel.τ) (Cert.AoutKernel.main (F := Bits))) ⟨m, fun _ => 0, g⟩ (fun r => (∀ c : Dev Cert.AoutKernel.nD,
      r.2.mem ((c.tc : Thread Cert.AoutKernel.nD Cert.AoutKernel.τ).loc Cert.AoutKernel.main_arg0) = m ((c.tc : Thread Cert.AoutKernel.nD Cert.AoutKernel.τ).loc Cert.AoutKernel.main_arg0)
      ∧ r.2.mem ((c.tc : Thread Cert.AoutKernel.nD Cert.AoutKernel.τ).loc Cert.AoutKernel.main_arg1) = m ((c.tc : Thread Cert.AoutKernel.nD Cert.AoutKernel.τ).loc Cert.AoutKernel.main_arg1))
      ∧ r.2.sem = fun _ => 0)

def quiescent_AoutKernelIdeal [hAoutKernelIdeal : Cert.AoutKernelIdeal.Facts] : Prop :=
  ∀ (m : (ℓ : Loc Cert.AoutKernelIdeal.nD Cert.AoutKernelIdeal.τ Cert.AoutKernelIdeal.sig) → Buf (Elt Ideal) ℓ) (g : Dev Cert.AoutKernelIdeal.nD → PrngReg), Pre_AoutKernelIdeal m →
    θ_run (Cert.AoutKernelIdeal.defs (F := Ideal)) (onTc (τ := Cert.AoutKernelIdeal.τ) (Cert.AoutKernelIdeal.main (F := Ideal))) ⟨m, fun _ => 0, g⟩ (fun r => (∀ c : Dev Cert.AoutKernelIdeal.nD,
      r.2.mem ((c.tc : Thread Cert.AoutKernelIdeal.nD Cert.AoutKernelIdeal.τ).loc Cert.AoutKernelIdeal.main_arg0) = m ((c.tc : Thread Cert.AoutKernelIdeal.nD Cert.AoutKernelIdeal.τ).loc Cert.AoutKernelIdeal.main_arg0)
      ∧ r.2.mem ((c.tc : Thread Cert.AoutKernelIdeal.nD Cert.AoutKernelIdeal.τ).loc Cert.AoutKernelIdeal.main_arg1) = m ((c.tc : Thread Cert.AoutKernelIdeal.nD Cert.AoutKernelIdeal.τ).loc Cert.AoutKernelIdeal.main_arg1))
      ∧ r.2.sem = fun _ => 0)

def quiescent_AoutReferenceIdeal [hAoutReferenceIdeal : Cert.AoutReferenceIdeal.Facts] : Prop :=
  ∀ (m : (ℓ : Loc Cert.AoutReferenceIdeal.nD Cert.AoutReferenceIdeal.τ Cert.AoutReferenceIdeal.sig) → Buf (Elt Ideal) ℓ) (g : Dev Cert.AoutReferenceIdeal.nD → PrngReg), Pre_AoutReferenceIdeal m →
    θ_run (Cert.AoutReferenceIdeal.defs (F := Ideal)) (onTc (τ := Cert.AoutReferenceIdeal.τ) (Cert.AoutReferenceIdeal.main (F := Ideal))) ⟨m, fun _ => 0, g⟩ (fun r => (∀ c : Dev Cert.AoutReferenceIdeal.nD,
      r.2.mem ((c.tc : Thread Cert.AoutReferenceIdeal.nD Cert.AoutReferenceIdeal.τ).loc Cert.AoutReferenceIdeal.main_arg0) = m ((c.tc : Thread Cert.AoutReferenceIdeal.nD Cert.AoutReferenceIdeal.τ).loc Cert.AoutReferenceIdeal.main_arg0)
      ∧ r.2.mem ((c.tc : Thread Cert.AoutReferenceIdeal.nD Cert.AoutReferenceIdeal.τ).loc Cert.AoutReferenceIdeal.main_arg1) = m ((c.tc : Thread Cert.AoutReferenceIdeal.nD Cert.AoutReferenceIdeal.τ).loc Cert.AoutReferenceIdeal.main_arg1))
      ∧ r.2.sem = fun _ => 0)

def quiescent_MixoKernel [hMixoKernel : Cert.MixoKernel.Facts] : Prop :=
  ∀ (m : (ℓ : Loc Cert.MixoKernel.nD Cert.MixoKernel.τ Cert.MixoKernel.sig) → Buf (Elt Bits) ℓ) (g : Dev Cert.MixoKernel.nD → PrngReg), Pre_MixoKernel m →
    θ_run (Cert.MixoKernel.defs (F := Bits)) (onTc (τ := Cert.MixoKernel.τ) (Cert.MixoKernel.main (F := Bits))) ⟨m, fun _ => 0, g⟩ (fun r => (∀ c : Dev Cert.MixoKernel.nD,
      r.2.mem ((c.tc : Thread Cert.MixoKernel.nD Cert.MixoKernel.τ).loc Cert.MixoKernel.main_arg0) = m ((c.tc : Thread Cert.MixoKernel.nD Cert.MixoKernel.τ).loc Cert.MixoKernel.main_arg0)
      ∧ r.2.mem ((c.tc : Thread Cert.MixoKernel.nD Cert.MixoKernel.τ).loc Cert.MixoKernel.main_arg1) = m ((c.tc : Thread Cert.MixoKernel.nD Cert.MixoKernel.τ).loc Cert.MixoKernel.main_arg1)
      ∧ r.2.mem ((c.tc : Thread Cert.MixoKernel.nD Cert.MixoKernel.τ).loc Cert.MixoKernel.main_arg2) = m ((c.tc : Thread Cert.MixoKernel.nD Cert.MixoKernel.τ).loc Cert.MixoKernel.main_arg2)
      ∧ r.2.mem ((c.tc : Thread Cert.MixoKernel.nD Cert.MixoKernel.τ).loc Cert.MixoKernel.main_arg3) = m ((c.tc : Thread Cert.MixoKernel.nD Cert.MixoKernel.τ).loc Cert.MixoKernel.main_arg3))
      ∧ r.2.sem = fun _ => 0)

def quiescent_MixoKernelIdeal [hMixoKernelIdeal : Cert.MixoKernelIdeal.Facts] : Prop :=
  ∀ (m : (ℓ : Loc Cert.MixoKernelIdeal.nD Cert.MixoKernelIdeal.τ Cert.MixoKernelIdeal.sig) → Buf (Elt Ideal) ℓ) (g : Dev Cert.MixoKernelIdeal.nD → PrngReg), Pre_MixoKernelIdeal m →
    θ_run (Cert.MixoKernelIdeal.defs (F := Ideal)) (onTc (τ := Cert.MixoKernelIdeal.τ) (Cert.MixoKernelIdeal.main (F := Ideal))) ⟨m, fun _ => 0, g⟩ (fun r => (∀ c : Dev Cert.MixoKernelIdeal.nD,
      r.2.mem ((c.tc : Thread Cert.MixoKernelIdeal.nD Cert.MixoKernelIdeal.τ).loc Cert.MixoKernelIdeal.main_arg0) = m ((c.tc : Thread Cert.MixoKernelIdeal.nD Cert.MixoKernelIdeal.τ).loc Cert.MixoKernelIdeal.main_arg0)
      ∧ r.2.mem ((c.tc : Thread Cert.MixoKernelIdeal.nD Cert.MixoKernelIdeal.τ).loc Cert.MixoKernelIdeal.main_arg1) = m ((c.tc : Thread Cert.MixoKernelIdeal.nD Cert.MixoKernelIdeal.τ).loc Cert.MixoKernelIdeal.main_arg1)
      ∧ r.2.mem ((c.tc : Thread Cert.MixoKernelIdeal.nD Cert.MixoKernelIdeal.τ).loc Cert.MixoKernelIdeal.main_arg2) = m ((c.tc : Thread Cert.MixoKernelIdeal.nD Cert.MixoKernelIdeal.τ).loc Cert.MixoKernelIdeal.main_arg2)
      ∧ r.2.mem ((c.tc : Thread Cert.MixoKernelIdeal.nD Cert.MixoKernelIdeal.τ).loc Cert.MixoKernelIdeal.main_arg3) = m ((c.tc : Thread Cert.MixoKernelIdeal.nD Cert.MixoKernelIdeal.τ).loc Cert.MixoKernelIdeal.main_arg3))
      ∧ r.2.sem = fun _ => 0)

def quiescent_MixoReferenceIdeal [hMixoReferenceIdeal : Cert.MixoReferenceIdeal.Facts] : Prop :=
  ∀ (m : (ℓ : Loc Cert.MixoReferenceIdeal.nD Cert.MixoReferenceIdeal.τ Cert.MixoReferenceIdeal.sig) → Buf (Elt Ideal) ℓ) (g : Dev Cert.MixoReferenceIdeal.nD → PrngReg), Pre_MixoReferenceIdeal m →
    θ_run (Cert.MixoReferenceIdeal.defs (F := Ideal)) (onTc (τ := Cert.MixoReferenceIdeal.τ) (Cert.MixoReferenceIdeal.main (F := Ideal))) ⟨m, fun _ => 0, g⟩ (fun r => (∀ c : Dev Cert.MixoReferenceIdeal.nD,
      r.2.mem ((c.tc : Thread Cert.MixoReferenceIdeal.nD Cert.MixoReferenceIdeal.τ).loc Cert.MixoReferenceIdeal.main_arg0) = m ((c.tc : Thread Cert.MixoReferenceIdeal.nD Cert.MixoReferenceIdeal.τ).loc Cert.MixoReferenceIdeal.main_arg0)
      ∧ r.2.mem ((c.tc : Thread Cert.MixoReferenceIdeal.nD Cert.MixoReferenceIdeal.τ).loc Cert.MixoReferenceIdeal.main_arg1) = m ((c.tc : Thread Cert.MixoReferenceIdeal.nD Cert.MixoReferenceIdeal.τ).loc Cert.MixoReferenceIdeal.main_arg1)
      ∧ r.2.mem ((c.tc : Thread Cert.MixoReferenceIdeal.nD Cert.MixoReferenceIdeal.τ).loc Cert.MixoReferenceIdeal.main_arg2) = m ((c.tc : Thread Cert.MixoReferenceIdeal.nD Cert.MixoReferenceIdeal.τ).loc Cert.MixoReferenceIdeal.main_arg2)
      ∧ r.2.mem ((c.tc : Thread Cert.MixoReferenceIdeal.nD Cert.MixoReferenceIdeal.τ).loc Cert.MixoReferenceIdeal.main_arg3) = m ((c.tc : Thread Cert.MixoReferenceIdeal.nD Cert.MixoReferenceIdeal.τ).loc Cert.MixoReferenceIdeal.main_arg3))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4)
      ∧ r.2.mem ((c.tc : Thread Cert.WinKernel.nD Cert.WinKernel.τ).loc Cert.WinKernel.main_arg5) = m ((c.tc : Thread Cert.WinKernel.nD Cert.WinKernel.τ).loc Cert.WinKernel.main_arg5)
      ∧ r.2.mem ((c.tc : Thread Cert.WinKernel.nD Cert.WinKernel.τ).loc Cert.WinKernel.main_arg6) = m ((c.tc : Thread Cert.WinKernel.nD Cert.WinKernel.τ).loc Cert.WinKernel.main_arg6)
      ∧ r.2.mem ((c.tc : Thread Cert.WinKernel.nD Cert.WinKernel.τ).loc Cert.WinKernel.main_arg7) = m ((c.tc : Thread Cert.WinKernel.nD Cert.WinKernel.τ).loc Cert.WinKernel.main_arg7)
      ∧ r.2.mem ((c.tc : Thread Cert.WinKernel.nD Cert.WinKernel.τ).loc Cert.WinKernel.main_arg8) = m ((c.tc : Thread Cert.WinKernel.nD Cert.WinKernel.τ).loc Cert.WinKernel.main_arg8)
      ∧ r.2.mem ((c.tc : Thread Cert.WinKernel.nD Cert.WinKernel.τ).loc Cert.WinKernel.main_arg9) = m ((c.tc : Thread Cert.WinKernel.nD Cert.WinKernel.τ).loc Cert.WinKernel.main_arg9))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
      ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
      ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7)
      ∧ r.2.mem ((c.tc : Thread Cert.WinKernelIdeal.nD Cert.WinKernelIdeal.τ).loc Cert.WinKernelIdeal.main_arg8) = m ((c.tc : Thread Cert.WinKernelIdeal.nD Cert.WinKernelIdeal.τ).loc Cert.WinKernelIdeal.main_arg8)
      ∧ r.2.mem ((c.tc : Thread Cert.WinKernelIdeal.nD Cert.WinKernelIdeal.τ).loc Cert.WinKernelIdeal.main_arg9) = m ((c.tc : Thread Cert.WinKernelIdeal.nD Cert.WinKernelIdeal.τ).loc Cert.WinKernelIdeal.main_arg9))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5)
      ∧ r.2.mem ((c.tc : Thread Cert.WinReferenceIdeal.nD Cert.WinReferenceIdeal.τ).loc Cert.WinReferenceIdeal.main_arg6) = m ((c.tc : Thread Cert.WinReferenceIdeal.nD Cert.WinReferenceIdeal.τ).loc Cert.WinReferenceIdeal.main_arg6)
      ∧ r.2.mem ((c.tc : Thread Cert.WinReferenceIdeal.nD Cert.WinReferenceIdeal.τ).loc Cert.WinReferenceIdeal.main_arg7) = m ((c.tc : Thread Cert.WinReferenceIdeal.nD Cert.WinReferenceIdeal.τ).loc Cert.WinReferenceIdeal.main_arg7)
      ∧ r.2.mem ((c.tc : Thread Cert.WinReferenceIdeal.nD Cert.WinReferenceIdeal.τ).loc Cert.WinReferenceIdeal.main_arg8) = m ((c.tc : Thread Cert.WinReferenceIdeal.nD Cert.WinReferenceIdeal.τ).loc Cert.WinReferenceIdeal.main_arg8)
      ∧ r.2.mem ((c.tc : Thread Cert.WinReferenceIdeal.nD Cert.WinReferenceIdeal.τ).loc Cert.WinReferenceIdeal.main_arg9) = m ((c.tc : Thread Cert.WinReferenceIdeal.nD Cert.WinReferenceIdeal.τ).loc Cert.WinReferenceIdeal.main_arg9))
      ∧ r.2.sem = fun _ => 0)

def quiescent_OwinKernel [hOwinKernel : Cert.OwinKernel.Facts] : Prop :=
  ∀ (m : (ℓ : Loc Cert.OwinKernel.nD Cert.OwinKernel.τ Cert.OwinKernel.sig) → Buf (Elt Bits) ℓ) (g : Dev Cert.OwinKernel.nD → PrngReg), Pre_OwinKernel m →
    θ_run (Cert.OwinKernel.defs (F := Bits)) (onTc (τ := Cert.OwinKernel.τ) (Cert.OwinKernel.main (F := Bits))) ⟨m, fun _ => 0, g⟩ (fun r => (∀ c : Dev Cert.OwinKernel.nD,
      r.2.mem ((c.tc : Thread Cert.OwinKernel.nD Cert.OwinKernel.τ).loc Cert.OwinKernel.main_arg0) = m ((c.tc : Thread Cert.OwinKernel.nD Cert.OwinKernel.τ).loc Cert.OwinKernel.main_arg0)
      ∧ r.2.mem ((c.tc : Thread Cert.OwinKernel.nD Cert.OwinKernel.τ).loc Cert.OwinKernel.main_arg1) = m ((c.tc : Thread Cert.OwinKernel.nD Cert.OwinKernel.τ).loc Cert.OwinKernel.main_arg1)
      ∧ r.2.mem ((c.tc : Thread Cert.OwinKernel.nD Cert.OwinKernel.τ).loc Cert.OwinKernel.main_arg2) = m ((c.tc : Thread Cert.OwinKernel.nD Cert.OwinKernel.τ).loc Cert.OwinKernel.main_arg2)
      ∧ r.2.mem ((c.tc : Thread Cert.OwinKernel.nD Cert.OwinKernel.τ).loc Cert.OwinKernel.main_arg3) = m ((c.tc : Thread Cert.OwinKernel.nD Cert.OwinKernel.τ).loc Cert.OwinKernel.main_arg3))
      ∧ r.2.sem = fun _ => 0)

def quiescent_OwinKernelIdeal [hOwinKernelIdeal : Cert.OwinKernelIdeal.Facts] : Prop :=
  ∀ (m : (ℓ : Loc Cert.OwinKernelIdeal.nD Cert.OwinKernelIdeal.τ Cert.OwinKernelIdeal.sig) → Buf (Elt Ideal) ℓ) (g : Dev Cert.OwinKernelIdeal.nD → PrngReg), Pre_OwinKernelIdeal m →
    θ_run (Cert.OwinKernelIdeal.defs (F := Ideal)) (onTc (τ := Cert.OwinKernelIdeal.τ) (Cert.OwinKernelIdeal.main (F := Ideal))) ⟨m, fun _ => 0, g⟩ (fun r => (∀ c : Dev Cert.OwinKernelIdeal.nD,
      r.2.mem ((c.tc : Thread Cert.OwinKernelIdeal.nD Cert.OwinKernelIdeal.τ).loc Cert.OwinKernelIdeal.main_arg0) = m ((c.tc : Thread Cert.OwinKernelIdeal.nD Cert.OwinKernelIdeal.τ).loc Cert.OwinKernelIdeal.main_arg0)
      ∧ r.2.mem ((c.tc : Thread Cert.OwinKernelIdeal.nD Cert.OwinKernelIdeal.τ).loc Cert.OwinKernelIdeal.main_arg1) = m ((c.tc : Thread Cert.OwinKernelIdeal.nD Cert.OwinKernelIdeal.τ).loc Cert.OwinKernelIdeal.main_arg1)
      ∧ r.2.mem ((c.tc : Thread Cert.OwinKernelIdeal.nD Cert.OwinKernelIdeal.τ).loc Cert.OwinKernelIdeal.main_arg2) = m ((c.tc : Thread Cert.OwinKernelIdeal.nD Cert.OwinKernelIdeal.τ).loc Cert.OwinKernelIdeal.main_arg2)
      ∧ r.2.mem ((c.tc : Thread Cert.OwinKernelIdeal.nD Cert.OwinKernelIdeal.τ).loc Cert.OwinKernelIdeal.main_arg3) = m ((c.tc : Thread Cert.OwinKernelIdeal.nD Cert.OwinKernelIdeal.τ).loc Cert.OwinKernelIdeal.main_arg3))
      ∧ r.2.sem = fun _ => 0)

def quiescent_OwinReferenceIdeal [hOwinReferenceIdeal : Cert.OwinReferenceIdeal.Facts] : Prop :=
  ∀ (m : (ℓ : Loc Cert.OwinReferenceIdeal.nD Cert.OwinReferenceIdeal.τ Cert.OwinReferenceIdeal.sig) → Buf (Elt Ideal) ℓ) (g : Dev Cert.OwinReferenceIdeal.nD → PrngReg), Pre_OwinReferenceIdeal m →
    θ_run (Cert.OwinReferenceIdeal.defs (F := Ideal)) (onTc (τ := Cert.OwinReferenceIdeal.τ) (Cert.OwinReferenceIdeal.main (F := Ideal))) ⟨m, fun _ => 0, g⟩ (fun r => (∀ c : Dev Cert.OwinReferenceIdeal.nD,
      r.2.mem ((c.tc : Thread Cert.OwinReferenceIdeal.nD Cert.OwinReferenceIdeal.τ).loc Cert.OwinReferenceIdeal.main_arg0) = m ((c.tc : Thread Cert.OwinReferenceIdeal.nD Cert.OwinReferenceIdeal.τ).loc Cert.OwinReferenceIdeal.main_arg0)
      ∧ r.2.mem ((c.tc : Thread Cert.OwinReferenceIdeal.nD Cert.OwinReferenceIdeal.τ).loc Cert.OwinReferenceIdeal.main_arg1) = m ((c.tc : Thread Cert.OwinReferenceIdeal.nD Cert.OwinReferenceIdeal.τ).loc Cert.OwinReferenceIdeal.main_arg1)
      ∧ r.2.mem ((c.tc : Thread Cert.OwinReferenceIdeal.nD Cert.OwinReferenceIdeal.τ).loc Cert.OwinReferenceIdeal.main_arg2) = m ((c.tc : Thread Cert.OwinReferenceIdeal.nD Cert.OwinReferenceIdeal.τ).loc Cert.OwinReferenceIdeal.main_arg2)
      ∧ r.2.mem ((c.tc : Thread Cert.OwinReferenceIdeal.nD Cert.OwinReferenceIdeal.τ).loc Cert.OwinReferenceIdeal.main_arg3) = m ((c.tc : Thread Cert.OwinReferenceIdeal.nD Cert.OwinReferenceIdeal.τ).loc Cert.OwinReferenceIdeal.main_arg3))
      ∧ r.2.sem = fun _ => 0)

def quiescent_OsoKernel [hOsoKernel : Cert.OsoKernel.Facts] : Prop :=
  ∀ (m : (ℓ : Loc Cert.OsoKernel.nD Cert.OsoKernel.τ Cert.OsoKernel.sig) → Buf (Elt Bits) ℓ) (g : Dev Cert.OsoKernel.nD → PrngReg), Pre_OsoKernel m →
    θ_run (Cert.OsoKernel.defs (F := Bits)) (onTc (τ := Cert.OsoKernel.τ) (Cert.OsoKernel.main (F := Bits))) ⟨m, fun _ => 0, g⟩ (fun r => (∀ c : Dev Cert.OsoKernel.nD,
      r.2.mem ((c.tc : Thread Cert.OsoKernel.nD Cert.OsoKernel.τ).loc Cert.OsoKernel.main_arg0) = m ((c.tc : Thread Cert.OsoKernel.nD Cert.OsoKernel.τ).loc Cert.OsoKernel.main_arg0)
      ∧ r.2.mem ((c.tc : Thread Cert.OsoKernel.nD Cert.OsoKernel.τ).loc Cert.OsoKernel.main_arg1) = m ((c.tc : Thread Cert.OsoKernel.nD Cert.OsoKernel.τ).loc Cert.OsoKernel.main_arg1)
      ∧ r.2.mem ((c.tc : Thread Cert.OsoKernel.nD Cert.OsoKernel.τ).loc Cert.OsoKernel.main_arg2) = m ((c.tc : Thread Cert.OsoKernel.nD Cert.OsoKernel.τ).loc Cert.OsoKernel.main_arg2)
      ∧ r.2.mem ((c.tc : Thread Cert.OsoKernel.nD Cert.OsoKernel.τ).loc Cert.OsoKernel.main_arg3) = m ((c.tc : Thread Cert.OsoKernel.nD Cert.OsoKernel.τ).loc Cert.OsoKernel.main_arg3))
      ∧ r.2.sem = fun _ => 0)

def quiescent_OsoKernelIdeal [hOsoKernelIdeal : Cert.OsoKernelIdeal.Facts] : Prop :=
  ∀ (m : (ℓ : Loc Cert.OsoKernelIdeal.nD Cert.OsoKernelIdeal.τ Cert.OsoKernelIdeal.sig) → Buf (Elt Ideal) ℓ) (g : Dev Cert.OsoKernelIdeal.nD → PrngReg), Pre_OsoKernelIdeal m →
    θ_run (Cert.OsoKernelIdeal.defs (F := Ideal)) (onTc (τ := Cert.OsoKernelIdeal.τ) (Cert.OsoKernelIdeal.main (F := Ideal))) ⟨m, fun _ => 0, g⟩ (fun r => (∀ c : Dev Cert.OsoKernelIdeal.nD,
      r.2.mem ((c.tc : Thread Cert.OsoKernelIdeal.nD Cert.OsoKernelIdeal.τ).loc Cert.OsoKernelIdeal.main_arg0) = m ((c.tc : Thread Cert.OsoKernelIdeal.nD Cert.OsoKernelIdeal.τ).loc Cert.OsoKernelIdeal.main_arg0)
      ∧ r.2.mem ((c.tc : Thread Cert.OsoKernelIdeal.nD Cert.OsoKernelIdeal.τ).loc Cert.OsoKernelIdeal.main_arg1) = m ((c.tc : Thread Cert.OsoKernelIdeal.nD Cert.OsoKernelIdeal.τ).loc Cert.OsoKernelIdeal.main_arg1)
      ∧ r.2.mem ((c.tc : Thread Cert.OsoKernelIdeal.nD Cert.OsoKernelIdeal.τ).loc Cert.OsoKernelIdeal.main_arg2) = m ((c.tc : Thread Cert.OsoKernelIdeal.nD Cert.OsoKernelIdeal.τ).loc Cert.OsoKernelIdeal.main_arg2)
      ∧ r.2.mem ((c.tc : Thread Cert.OsoKernelIdeal.nD Cert.OsoKernelIdeal.τ).loc Cert.OsoKernelIdeal.main_arg3) = m ((c.tc : Thread Cert.OsoKernelIdeal.nD Cert.OsoKernelIdeal.τ).loc Cert.OsoKernelIdeal.main_arg3))
      ∧ r.2.sem = fun _ => 0)

def quiescent_OsoReferenceIdeal [hOsoReferenceIdeal : Cert.OsoReferenceIdeal.Facts] : Prop :=
  ∀ (m : (ℓ : Loc Cert.OsoReferenceIdeal.nD Cert.OsoReferenceIdeal.τ Cert.OsoReferenceIdeal.sig) → Buf (Elt Ideal) ℓ) (g : Dev Cert.OsoReferenceIdeal.nD → PrngReg), Pre_OsoReferenceIdeal m →
    θ_run (Cert.OsoReferenceIdeal.defs (F := Ideal)) (onTc (τ := Cert.OsoReferenceIdeal.τ) (Cert.OsoReferenceIdeal.main (F := Ideal))) ⟨m, fun _ => 0, g⟩ (fun r => (∀ c : Dev Cert.OsoReferenceIdeal.nD,
      r.2.mem ((c.tc : Thread Cert.OsoReferenceIdeal.nD Cert.OsoReferenceIdeal.τ).loc Cert.OsoReferenceIdeal.main_arg0) = m ((c.tc : Thread Cert.OsoReferenceIdeal.nD Cert.OsoReferenceIdeal.τ).loc Cert.OsoReferenceIdeal.main_arg0)
      ∧ r.2.mem ((c.tc : Thread Cert.OsoReferenceIdeal.nD Cert.OsoReferenceIdeal.τ).loc Cert.OsoReferenceIdeal.main_arg1) = m ((c.tc : Thread Cert.OsoReferenceIdeal.nD Cert.OsoReferenceIdeal.τ).loc Cert.OsoReferenceIdeal.main_arg1)
      ∧ r.2.mem ((c.tc : Thread Cert.OsoReferenceIdeal.nD Cert.OsoReferenceIdeal.τ).loc Cert.OsoReferenceIdeal.main_arg2) = m ((c.tc : Thread Cert.OsoReferenceIdeal.nD Cert.OsoReferenceIdeal.τ).loc Cert.OsoReferenceIdeal.main_arg2)
      ∧ r.2.mem ((c.tc : Thread Cert.OsoReferenceIdeal.nD Cert.OsoReferenceIdeal.τ).loc Cert.OsoReferenceIdeal.main_arg3) = m ((c.tc : Thread Cert.OsoReferenceIdeal.nD Cert.OsoReferenceIdeal.τ).loc Cert.OsoReferenceIdeal.main_arg3))
      ∧ r.2.sem = fun _ => 0)

def quiescent_OaoKernel [hOaoKernel : Cert.OaoKernel.Facts] : Prop :=
  ∀ (m : (ℓ : Loc Cert.OaoKernel.nD Cert.OaoKernel.τ Cert.OaoKernel.sig) → Buf (Elt Bits) ℓ) (g : Dev Cert.OaoKernel.nD → PrngReg), Pre_OaoKernel m →
    θ_run (Cert.OaoKernel.defs (F := Bits)) (onTc (τ := Cert.OaoKernel.τ) (Cert.OaoKernel.main (F := Bits))) ⟨m, fun _ => 0, g⟩ (fun r => (∀ c : Dev Cert.OaoKernel.nD,
      r.2.mem ((c.tc : Thread Cert.OaoKernel.nD Cert.OaoKernel.τ).loc Cert.OaoKernel.main_arg0) = m ((c.tc : Thread Cert.OaoKernel.nD Cert.OaoKernel.τ).loc Cert.OaoKernel.main_arg0)
      ∧ r.2.mem ((c.tc : Thread Cert.OaoKernel.nD Cert.OaoKernel.τ).loc Cert.OaoKernel.main_arg1) = m ((c.tc : Thread Cert.OaoKernel.nD Cert.OaoKernel.τ).loc Cert.OaoKernel.main_arg1)
      ∧ r.2.mem ((c.tc : Thread Cert.OaoKernel.nD Cert.OaoKernel.τ).loc Cert.OaoKernel.main_arg2) = m ((c.tc : Thread Cert.OaoKernel.nD Cert.OaoKernel.τ).loc Cert.OaoKernel.main_arg2)
      ∧ r.2.mem ((c.tc : Thread Cert.OaoKernel.nD Cert.OaoKernel.τ).loc Cert.OaoKernel.main_arg3) = m ((c.tc : Thread Cert.OaoKernel.nD Cert.OaoKernel.τ).loc Cert.OaoKernel.main_arg3))
      ∧ r.2.sem = fun _ => 0)

def quiescent_OaoKernelIdeal [hOaoKernelIdeal : Cert.OaoKernelIdeal.Facts] : Prop :=
  ∀ (m : (ℓ : Loc Cert.OaoKernelIdeal.nD Cert.OaoKernelIdeal.τ Cert.OaoKernelIdeal.sig) → Buf (Elt Ideal) ℓ) (g : Dev Cert.OaoKernelIdeal.nD → PrngReg), Pre_OaoKernelIdeal m →
    θ_run (Cert.OaoKernelIdeal.defs (F := Ideal)) (onTc (τ := Cert.OaoKernelIdeal.τ) (Cert.OaoKernelIdeal.main (F := Ideal))) ⟨m, fun _ => 0, g⟩ (fun r => (∀ c : Dev Cert.OaoKernelIdeal.nD,
      r.2.mem ((c.tc : Thread Cert.OaoKernelIdeal.nD Cert.OaoKernelIdeal.τ).loc Cert.OaoKernelIdeal.main_arg0) = m ((c.tc : Thread Cert.OaoKernelIdeal.nD Cert.OaoKernelIdeal.τ).loc Cert.OaoKernelIdeal.main_arg0)
      ∧ r.2.mem ((c.tc : Thread Cert.OaoKernelIdeal.nD Cert.OaoKernelIdeal.τ).loc Cert.OaoKernelIdeal.main_arg1) = m ((c.tc : Thread Cert.OaoKernelIdeal.nD Cert.OaoKernelIdeal.τ).loc Cert.OaoKernelIdeal.main_arg1)
      ∧ r.2.mem ((c.tc : Thread Cert.OaoKernelIdeal.nD Cert.OaoKernelIdeal.τ).loc Cert.OaoKernelIdeal.main_arg2) = m ((c.tc : Thread Cert.OaoKernelIdeal.nD Cert.OaoKernelIdeal.τ).loc Cert.OaoKernelIdeal.main_arg2)
      ∧ r.2.mem ((c.tc : Thread Cert.OaoKernelIdeal.nD Cert.OaoKernelIdeal.τ).loc Cert.OaoKernelIdeal.main_arg3) = m ((c.tc : Thread Cert.OaoKernelIdeal.nD Cert.OaoKernelIdeal.τ).loc Cert.OaoKernelIdeal.main_arg3))
      ∧ r.2.sem = fun _ => 0)

def quiescent_OaoReferenceIdeal [hOaoReferenceIdeal : Cert.OaoReferenceIdeal.Facts] : Prop :=
  ∀ (m : (ℓ : Loc Cert.OaoReferenceIdeal.nD Cert.OaoReferenceIdeal.τ Cert.OaoReferenceIdeal.sig) → Buf (Elt Ideal) ℓ) (g : Dev Cert.OaoReferenceIdeal.nD → PrngReg), Pre_OaoReferenceIdeal m →
    θ_run (Cert.OaoReferenceIdeal.defs (F := Ideal)) (onTc (τ := Cert.OaoReferenceIdeal.τ) (Cert.OaoReferenceIdeal.main (F := Ideal))) ⟨m, fun _ => 0, g⟩ (fun r => (∀ c : Dev Cert.OaoReferenceIdeal.nD,
      r.2.mem ((c.tc : Thread Cert.OaoReferenceIdeal.nD Cert.OaoReferenceIdeal.τ).loc Cert.OaoReferenceIdeal.main_arg0) = m ((c.tc : Thread Cert.OaoReferenceIdeal.nD Cert.OaoReferenceIdeal.τ).loc Cert.OaoReferenceIdeal.main_arg0)
      ∧ r.2.mem ((c.tc : Thread Cert.OaoReferenceIdeal.nD Cert.OaoReferenceIdeal.τ).loc Cert.OaoReferenceIdeal.main_arg1) = m ((c.tc : Thread Cert.OaoReferenceIdeal.nD Cert.OaoReferenceIdeal.τ).loc Cert.OaoReferenceIdeal.main_arg1)
      ∧ r.2.mem ((c.tc : Thread Cert.OaoReferenceIdeal.nD Cert.OaoReferenceIdeal.τ).loc Cert.OaoReferenceIdeal.main_arg2) = m ((c.tc : Thread Cert.OaoReferenceIdeal.nD Cert.OaoReferenceIdeal.τ).loc Cert.OaoReferenceIdeal.main_arg2)
      ∧ r.2.mem ((c.tc : Thread Cert.OaoReferenceIdeal.nD Cert.OaoReferenceIdeal.τ).loc Cert.OaoReferenceIdeal.main_arg3) = m ((c.tc : Thread Cert.OaoReferenceIdeal.nD Cert.OaoReferenceIdeal.τ).loc Cert.OaoReferenceIdeal.main_arg3))
      ∧ r.2.sem = fun _ => 0)

def quiescent_OupKernel [hOupKernel : Cert.OupKernel.Facts] : Prop :=
  ∀ (m : (ℓ : Loc Cert.OupKernel.nD Cert.OupKernel.τ Cert.OupKernel.sig) → Buf (Elt Bits) ℓ) (g : Dev Cert.OupKernel.nD → PrngReg), Pre_OupKernel m →
    θ_run (Cert.OupKernel.defs (F := Bits)) (onTc (τ := Cert.OupKernel.τ) (Cert.OupKernel.main (F := Bits))) ⟨m, fun _ => 0, g⟩ (fun r => (∀ c : Dev Cert.OupKernel.nD,
      r.2.mem ((c.tc : Thread Cert.OupKernel.nD Cert.OupKernel.τ).loc Cert.OupKernel.main_arg0) = m ((c.tc : Thread Cert.OupKernel.nD Cert.OupKernel.τ).loc Cert.OupKernel.main_arg0)
      ∧ r.2.mem ((c.tc : Thread Cert.OupKernel.nD Cert.OupKernel.τ).loc Cert.OupKernel.main_arg1) = m ((c.tc : Thread Cert.OupKernel.nD Cert.OupKernel.τ).loc Cert.OupKernel.main_arg1)
      ∧ r.2.mem ((c.tc : Thread Cert.OupKernel.nD Cert.OupKernel.τ).loc Cert.OupKernel.main_arg2) = m ((c.tc : Thread Cert.OupKernel.nD Cert.OupKernel.τ).loc Cert.OupKernel.main_arg2)
      ∧ r.2.mem ((c.tc : Thread Cert.OupKernel.nD Cert.OupKernel.τ).loc Cert.OupKernel.main_arg3) = m ((c.tc : Thread Cert.OupKernel.nD Cert.OupKernel.τ).loc Cert.OupKernel.main_arg3))
      ∧ r.2.sem = fun _ => 0)

def quiescent_OupKernelIdeal [hOupKernelIdeal : Cert.OupKernelIdeal.Facts] : Prop :=
  ∀ (m : (ℓ : Loc Cert.OupKernelIdeal.nD Cert.OupKernelIdeal.τ Cert.OupKernelIdeal.sig) → Buf (Elt Ideal) ℓ) (g : Dev Cert.OupKernelIdeal.nD → PrngReg), Pre_OupKernelIdeal m →
    θ_run (Cert.OupKernelIdeal.defs (F := Ideal)) (onTc (τ := Cert.OupKernelIdeal.τ) (Cert.OupKernelIdeal.main (F := Ideal))) ⟨m, fun _ => 0, g⟩ (fun r => (∀ c : Dev Cert.OupKernelIdeal.nD,
      r.2.mem ((c.tc : Thread Cert.OupKernelIdeal.nD Cert.OupKernelIdeal.τ).loc Cert.OupKernelIdeal.main_arg0) = m ((c.tc : Thread Cert.OupKernelIdeal.nD Cert.OupKernelIdeal.τ).loc Cert.OupKernelIdeal.main_arg0)
      ∧ r.2.mem ((c.tc : Thread Cert.OupKernelIdeal.nD Cert.OupKernelIdeal.τ).loc Cert.OupKernelIdeal.main_arg1) = m ((c.tc : Thread Cert.OupKernelIdeal.nD Cert.OupKernelIdeal.τ).loc Cert.OupKernelIdeal.main_arg1)
      ∧ r.2.mem ((c.tc : Thread Cert.OupKernelIdeal.nD Cert.OupKernelIdeal.τ).loc Cert.OupKernelIdeal.main_arg2) = m ((c.tc : Thread Cert.OupKernelIdeal.nD Cert.OupKernelIdeal.τ).loc Cert.OupKernelIdeal.main_arg2)
      ∧ r.2.mem ((c.tc : Thread Cert.OupKernelIdeal.nD Cert.OupKernelIdeal.τ).loc Cert.OupKernelIdeal.main_arg3) = m ((c.tc : Thread Cert.OupKernelIdeal.nD Cert.OupKernelIdeal.τ).loc Cert.OupKernelIdeal.main_arg3))
      ∧ r.2.sem = fun _ => 0)

def quiescent_OupReferenceIdeal [hOupReferenceIdeal : Cert.OupReferenceIdeal.Facts] : Prop :=
  ∀ (m : (ℓ : Loc Cert.OupReferenceIdeal.nD Cert.OupReferenceIdeal.τ Cert.OupReferenceIdeal.sig) → Buf (Elt Ideal) ℓ) (g : Dev Cert.OupReferenceIdeal.nD → PrngReg), Pre_OupReferenceIdeal m →
    θ_run (Cert.OupReferenceIdeal.defs (F := Ideal)) (onTc (τ := Cert.OupReferenceIdeal.τ) (Cert.OupReferenceIdeal.main (F := Ideal))) ⟨m, fun _ => 0, g⟩ (fun r => (∀ c : Dev Cert.OupReferenceIdeal.nD,
      r.2.mem ((c.tc : Thread Cert.OupReferenceIdeal.nD Cert.OupReferenceIdeal.τ).loc Cert.OupReferenceIdeal.main_arg0) = m ((c.tc : Thread Cert.OupReferenceIdeal.nD Cert.OupReferenceIdeal.τ).loc Cert.OupReferenceIdeal.main_arg0)
      ∧ r.2.mem ((c.tc : Thread Cert.OupReferenceIdeal.nD Cert.OupReferenceIdeal.τ).loc Cert.OupReferenceIdeal.main_arg1) = m ((c.tc : Thread Cert.OupReferenceIdeal.nD Cert.OupReferenceIdeal.τ).loc Cert.OupReferenceIdeal.main_arg1)
      ∧ r.2.mem ((c.tc : Thread Cert.OupReferenceIdeal.nD Cert.OupReferenceIdeal.τ).loc Cert.OupReferenceIdeal.main_arg2) = m ((c.tc : Thread Cert.OupReferenceIdeal.nD Cert.OupReferenceIdeal.τ).loc Cert.OupReferenceIdeal.main_arg2)
      ∧ r.2.mem ((c.tc : Thread Cert.OupReferenceIdeal.nD Cert.OupReferenceIdeal.τ).loc Cert.OupReferenceIdeal.main_arg3) = m ((c.tc : Thread Cert.OupReferenceIdeal.nD Cert.OupReferenceIdeal.τ).loc Cert.OupReferenceIdeal.main_arg3))
      ∧ r.2.sem = fun _ => 0)

def quiescent_OdnKernel [hOdnKernel : Cert.OdnKernel.Facts] : Prop :=
  ∀ (m : (ℓ : Loc Cert.OdnKernel.nD Cert.OdnKernel.τ Cert.OdnKernel.sig) → Buf (Elt Bits) ℓ) (g : Dev Cert.OdnKernel.nD → PrngReg), Pre_OdnKernel m →
    θ_run (Cert.OdnKernel.defs (F := Bits)) (onTc (τ := Cert.OdnKernel.τ) (Cert.OdnKernel.main (F := Bits))) ⟨m, fun _ => 0, g⟩ (fun r => (∀ c : Dev Cert.OdnKernel.nD,
      r.2.mem ((c.tc : Thread Cert.OdnKernel.nD Cert.OdnKernel.τ).loc Cert.OdnKernel.main_arg0) = m ((c.tc : Thread Cert.OdnKernel.nD Cert.OdnKernel.τ).loc Cert.OdnKernel.main_arg0)
      ∧ r.2.mem ((c.tc : Thread Cert.OdnKernel.nD Cert.OdnKernel.τ).loc Cert.OdnKernel.main_arg1) = m ((c.tc : Thread Cert.OdnKernel.nD Cert.OdnKernel.τ).loc Cert.OdnKernel.main_arg1)
      ∧ r.2.mem ((c.tc : Thread Cert.OdnKernel.nD Cert.OdnKernel.τ).loc Cert.OdnKernel.main_arg2) = m ((c.tc : Thread Cert.OdnKernel.nD Cert.OdnKernel.τ).loc Cert.OdnKernel.main_arg2)
      ∧ r.2.mem ((c.tc : Thread Cert.OdnKernel.nD Cert.OdnKernel.τ).loc Cert.OdnKernel.main_arg3) = m ((c.tc : Thread Cert.OdnKernel.nD Cert.OdnKernel.τ).loc Cert.OdnKernel.main_arg3))
      ∧ r.2.sem = fun _ => 0)

def quiescent_OdnKernelIdeal [hOdnKernelIdeal : Cert.OdnKernelIdeal.Facts] : Prop :=
  ∀ (m : (ℓ : Loc Cert.OdnKernelIdeal.nD Cert.OdnKernelIdeal.τ Cert.OdnKernelIdeal.sig) → Buf (Elt Ideal) ℓ) (g : Dev Cert.OdnKernelIdeal.nD → PrngReg), Pre_OdnKernelIdeal m →
    θ_run (Cert.OdnKernelIdeal.defs (F := Ideal)) (onTc (τ := Cert.OdnKernelIdeal.τ) (Cert.OdnKernelIdeal.main (F := Ideal))) ⟨m, fun _ => 0, g⟩ (fun r => (∀ c : Dev Cert.OdnKernelIdeal.nD,
      r.2.mem ((c.tc : Thread Cert.OdnKernelIdeal.nD Cert.OdnKernelIdeal.τ).loc Cert.OdnKernelIdeal.main_arg0) = m ((c.tc : Thread Cert.OdnKernelIdeal.nD Cert.OdnKernelIdeal.τ).loc Cert.OdnKernelIdeal.main_arg0)
      ∧ r.2.mem ((c.tc : Thread Cert.OdnKernelIdeal.nD Cert.OdnKernelIdeal.τ).loc Cert.OdnKernelIdeal.main_arg1) = m ((c.tc : Thread Cert.OdnKernelIdeal.nD Cert.OdnKernelIdeal.τ).loc Cert.OdnKernelIdeal.main_arg1)
      ∧ r.2.mem ((c.tc : Thread Cert.OdnKernelIdeal.nD Cert.OdnKernelIdeal.τ).loc Cert.OdnKernelIdeal.main_arg2) = m ((c.tc : Thread Cert.OdnKernelIdeal.nD Cert.OdnKernelIdeal.τ).loc Cert.OdnKernelIdeal.main_arg2)
      ∧ r.2.mem ((c.tc : Thread Cert.OdnKernelIdeal.nD Cert.OdnKernelIdeal.τ).loc Cert.OdnKernelIdeal.main_arg3) = m ((c.tc : Thread Cert.OdnKernelIdeal.nD Cert.OdnKernelIdeal.τ).loc Cert.OdnKernelIdeal.main_arg3))
      ∧ r.2.sem = fun _ => 0)

def quiescent_OdnReferenceIdeal [hOdnReferenceIdeal : Cert.OdnReferenceIdeal.Facts] : Prop :=
  ∀ (m : (ℓ : Loc Cert.OdnReferenceIdeal.nD Cert.OdnReferenceIdeal.τ Cert.OdnReferenceIdeal.sig) → Buf (Elt Ideal) ℓ) (g : Dev Cert.OdnReferenceIdeal.nD → PrngReg), Pre_OdnReferenceIdeal m →
    θ_run (Cert.OdnReferenceIdeal.defs (F := Ideal)) (onTc (τ := Cert.OdnReferenceIdeal.τ) (Cert.OdnReferenceIdeal.main (F := Ideal))) ⟨m, fun _ => 0, g⟩ (fun r => (∀ c : Dev Cert.OdnReferenceIdeal.nD,
      r.2.mem ((c.tc : Thread Cert.OdnReferenceIdeal.nD Cert.OdnReferenceIdeal.τ).loc Cert.OdnReferenceIdeal.main_arg0) = m ((c.tc : Thread Cert.OdnReferenceIdeal.nD Cert.OdnReferenceIdeal.τ).loc Cert.OdnReferenceIdeal.main_arg0)
      ∧ r.2.mem ((c.tc : Thread Cert.OdnReferenceIdeal.nD Cert.OdnReferenceIdeal.τ).loc Cert.OdnReferenceIdeal.main_arg1) = m ((c.tc : Thread Cert.OdnReferenceIdeal.nD Cert.OdnReferenceIdeal.τ).loc Cert.OdnReferenceIdeal.main_arg1)
      ∧ r.2.mem ((c.tc : Thread Cert.OdnReferenceIdeal.nD Cert.OdnReferenceIdeal.τ).loc Cert.OdnReferenceIdeal.main_arg2) = m ((c.tc : Thread Cert.OdnReferenceIdeal.nD Cert.OdnReferenceIdeal.τ).loc Cert.OdnReferenceIdeal.main_arg2)
      ∧ r.2.mem ((c.tc : Thread Cert.OdnReferenceIdeal.nD Cert.OdnReferenceIdeal.τ).loc Cert.OdnReferenceIdeal.main_arg3) = m ((c.tc : Thread Cert.OdnReferenceIdeal.nD Cert.OdnReferenceIdeal.τ).loc Cert.OdnReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_DmergeKernel [hDmergeKernel : Cert.DmergeKernel.Facts] : Prop :=
  ∀ (m : (ℓ : Loc Cert.DmergeKernel.nD Cert.DmergeKernel.τ Cert.DmergeKernel.sig) → Buf (Elt Bits) ℓ) (g : Dev Cert.DmergeKernel.nD → PrngReg), Pre_DmergeKernel m →
    θ_run (Cert.DmergeKernel.defs (F := Bits)) (onTc (τ := Cert.DmergeKernel.τ) (Cert.DmergeKernel.main (F := Bits))) ⟨m, fun _ => 0, g⟩ (fun r => (∀ c : Dev Cert.DmergeKernel.nD,
      r.2.mem ((c.tc : Thread Cert.DmergeKernel.nD Cert.DmergeKernel.τ).loc Cert.DmergeKernel.main_arg0) = m ((c.tc : Thread Cert.DmergeKernel.nD Cert.DmergeKernel.τ).loc Cert.DmergeKernel.main_arg0)
      ∧ r.2.mem ((c.tc : Thread Cert.DmergeKernel.nD Cert.DmergeKernel.τ).loc Cert.DmergeKernel.main_arg1) = m ((c.tc : Thread Cert.DmergeKernel.nD Cert.DmergeKernel.τ).loc Cert.DmergeKernel.main_arg1)
      ∧ r.2.mem ((c.tc : Thread Cert.DmergeKernel.nD Cert.DmergeKernel.τ).loc Cert.DmergeKernel.main_arg2) = m ((c.tc : Thread Cert.DmergeKernel.nD Cert.DmergeKernel.τ).loc Cert.DmergeKernel.main_arg2)
      ∧ r.2.mem ((c.tc : Thread Cert.DmergeKernel.nD Cert.DmergeKernel.τ).loc Cert.DmergeKernel.main_arg3) = m ((c.tc : Thread Cert.DmergeKernel.nD Cert.DmergeKernel.τ).loc Cert.DmergeKernel.main_arg3)
      ∧ r.2.mem ((c.tc : Thread Cert.DmergeKernel.nD Cert.DmergeKernel.τ).loc Cert.DmergeKernel.main_arg4) = m ((c.tc : Thread Cert.DmergeKernel.nD Cert.DmergeKernel.τ).loc Cert.DmergeKernel.main_arg4)
      ∧ r.2.mem ((c.tc : Thread Cert.DmergeKernel.nD Cert.DmergeKernel.τ).loc Cert.DmergeKernel.main_arg5) = m ((c.tc : Thread Cert.DmergeKernel.nD Cert.DmergeKernel.τ).loc Cert.DmergeKernel.main_arg5))
      ∧ r.2.sem = fun _ => 0)

def quiescent_DmergeKernelIdeal [hDmergeKernelIdeal : Cert.DmergeKernelIdeal.Facts] : Prop :=
  ∀ (m : (ℓ : Loc Cert.DmergeKernelIdeal.nD Cert.DmergeKernelIdeal.τ Cert.DmergeKernelIdeal.sig) → Buf (Elt Ideal) ℓ) (g : Dev Cert.DmergeKernelIdeal.nD → PrngReg), Pre_DmergeKernelIdeal m →
    θ_run (Cert.DmergeKernelIdeal.defs (F := Ideal)) (onTc (τ := Cert.DmergeKernelIdeal.τ) (Cert.DmergeKernelIdeal.main (F := Ideal))) ⟨m, fun _ => 0, g⟩ (fun r => (∀ c : Dev Cert.DmergeKernelIdeal.nD,
      r.2.mem ((c.tc : Thread Cert.DmergeKernelIdeal.nD Cert.DmergeKernelIdeal.τ).loc Cert.DmergeKernelIdeal.main_arg0) = m ((c.tc : Thread Cert.DmergeKernelIdeal.nD Cert.DmergeKernelIdeal.τ).loc Cert.DmergeKernelIdeal.main_arg0)
      ∧ r.2.mem ((c.tc : Thread Cert.DmergeKernelIdeal.nD Cert.DmergeKernelIdeal.τ).loc Cert.DmergeKernelIdeal.main_arg1) = m ((c.tc : Thread Cert.DmergeKernelIdeal.nD Cert.DmergeKernelIdeal.τ).loc Cert.DmergeKernelIdeal.main_arg1)
      ∧ r.2.mem ((c.tc : Thread Cert.DmergeKernelIdeal.nD Cert.DmergeKernelIdeal.τ).loc Cert.DmergeKernelIdeal.main_arg2) = m ((c.tc : Thread Cert.DmergeKernelIdeal.nD Cert.DmergeKernelIdeal.τ).loc Cert.DmergeKernelIdeal.main_arg2)
      ∧ r.2.mem ((c.tc : Thread Cert.DmergeKernelIdeal.nD Cert.DmergeKernelIdeal.τ).loc Cert.DmergeKernelIdeal.main_arg3) = m ((c.tc : Thread Cert.DmergeKernelIdeal.nD Cert.DmergeKernelIdeal.τ).loc Cert.DmergeKernelIdeal.main_arg3)
      ∧ r.2.mem ((c.tc : Thread Cert.DmergeKernelIdeal.nD Cert.DmergeKernelIdeal.τ).loc Cert.DmergeKernelIdeal.main_arg4) = m ((c.tc : Thread Cert.DmergeKernelIdeal.nD Cert.DmergeKernelIdeal.τ).loc Cert.DmergeKernelIdeal.main_arg4)
      ∧ r.2.mem ((c.tc : Thread Cert.DmergeKernelIdeal.nD Cert.DmergeKernelIdeal.τ).loc Cert.DmergeKernelIdeal.main_arg5) = m ((c.tc : Thread Cert.DmergeKernelIdeal.nD Cert.DmergeKernelIdeal.τ).loc Cert.DmergeKernelIdeal.main_arg5))
      ∧ r.2.sem = fun _ => 0)

def quiescent_DmergeReferenceIdeal [hDmergeReferenceIdeal : Cert.DmergeReferenceIdeal.Facts] : Prop :=
  ∀ (m : (ℓ : Loc Cert.DmergeReferenceIdeal.nD Cert.DmergeReferenceIdeal.τ Cert.DmergeReferenceIdeal.sig) → Buf (Elt Ideal) ℓ) (g : Dev Cert.DmergeReferenceIdeal.nD → PrngReg), Pre_DmergeReferenceIdeal m →
    θ_run (Cert.DmergeReferenceIdeal.defs (F := Ideal)) (onTc (τ := Cert.DmergeReferenceIdeal.τ) (Cert.DmergeReferenceIdeal.main (F := Ideal))) ⟨m, fun _ => 0, g⟩ (fun r => (∀ c : Dev Cert.DmergeReferenceIdeal.nD,
      r.2.mem ((c.tc : Thread Cert.DmergeReferenceIdeal.nD Cert.DmergeReferenceIdeal.τ).loc Cert.DmergeReferenceIdeal.main_arg0) = m ((c.tc : Thread Cert.DmergeReferenceIdeal.nD Cert.DmergeReferenceIdeal.τ).loc Cert.DmergeReferenceIdeal.main_arg0)
      ∧ r.2.mem ((c.tc : Thread Cert.DmergeReferenceIdeal.nD Cert.DmergeReferenceIdeal.τ).loc Cert.DmergeReferenceIdeal.main_arg1) = m ((c.tc : Thread Cert.DmergeReferenceIdeal.nD Cert.DmergeReferenceIdeal.τ).loc Cert.DmergeReferenceIdeal.main_arg1)
      ∧ r.2.mem ((c.tc : Thread Cert.DmergeReferenceIdeal.nD Cert.DmergeReferenceIdeal.τ).loc Cert.DmergeReferenceIdeal.main_arg2) = m ((c.tc : Thread Cert.DmergeReferenceIdeal.nD Cert.DmergeReferenceIdeal.τ).loc Cert.DmergeReferenceIdeal.main_arg2)
      ∧ r.2.mem ((c.tc : Thread Cert.DmergeReferenceIdeal.nD Cert.DmergeReferenceIdeal.τ).loc Cert.DmergeReferenceIdeal.main_arg3) = m ((c.tc : Thread Cert.DmergeReferenceIdeal.nD Cert.DmergeReferenceIdeal.τ).loc Cert.DmergeReferenceIdeal.main_arg3)
      ∧ r.2.mem ((c.tc : Thread Cert.DmergeReferenceIdeal.nD Cert.DmergeReferenceIdeal.τ).loc Cert.DmergeReferenceIdeal.main_arg4) = m ((c.tc : Thread Cert.DmergeReferenceIdeal.nD Cert.DmergeReferenceIdeal.τ).loc Cert.DmergeReferenceIdeal.main_arg4)
      ∧ r.2.mem ((c.tc : Thread Cert.DmergeReferenceIdeal.nD Cert.DmergeReferenceIdeal.τ).loc Cert.DmergeReferenceIdeal.main_arg5) = m ((c.tc : Thread Cert.DmergeReferenceIdeal.nD Cert.DmergeReferenceIdeal.τ).loc Cert.DmergeReferenceIdeal.main_arg5))
      ∧ r.2.sem = fun _ => 0)

def quiescent_FupKernel [hFupKernel : Cert.FupKernel.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1)
      ∧ r.2.mem ((c.tc : Thread Cert.FupKernel.nD Cert.FupKernel.τ).loc Cert.FupKernel.main_arg2) = m ((c.tc : Thread Cert.FupKernel.nD Cert.FupKernel.τ).loc Cert.FupKernel.main_arg2))
      ∧ r.2.sem = fun _ => 0)

def quiescent_FupKernelIdeal [hFupKernelIdeal : Cert.FupKernelIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
      ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1)
      ∧ r.2.mem ((c.tc : Thread Cert.FupReferenceIdeal.nD Cert.FupReferenceIdeal.τ).loc Cert.FupReferenceIdeal.main_arg2) = m ((c.tc : Thread Cert.FupReferenceIdeal.nD Cert.FupReferenceIdeal.τ).loc Cert.FupReferenceIdeal.main_arg2))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15)
      ∧ r.2.mem ((c.tc : Thread Cert.SmallKernel.nD Cert.SmallKernel.τ).loc Cert.SmallKernel.main_arg16) = m ((c.tc : Thread Cert.SmallKernel.nD Cert.SmallKernel.τ).loc Cert.SmallKernel.main_arg16)
      ∧ r.2.mem ((c.tc : Thread Cert.SmallKernel.nD Cert.SmallKernel.τ).loc Cert.SmallKernel.main_arg17) = m ((c.tc : Thread Cert.SmallKernel.nD Cert.SmallKernel.τ).loc Cert.SmallKernel.main_arg17)
      ∧ r.2.mem ((c.tc : Thread Cert.SmallKernel.nD Cert.SmallKernel.τ).loc Cert.SmallKernel.main_arg18) = m ((c.tc : Thread Cert.SmallKernel.nD Cert.SmallKernel.τ).loc Cert.SmallKernel.main_arg18)
      ∧ r.2.mem ((c.tc : Thread Cert.SmallKernel.nD Cert.SmallKernel.τ).loc Cert.SmallKernel.main_arg19) = m ((c.tc : Thread Cert.SmallKernel.nD Cert.SmallKernel.τ).loc Cert.SmallKernel.main_arg19)
      ∧ r.2.mem ((c.tc : Thread Cert.SmallKernel.nD Cert.SmallKernel.τ).loc Cert.SmallKernel.main_arg20) = m ((c.tc : Thread Cert.SmallKernel.nD Cert.SmallKernel.τ).loc Cert.SmallKernel.main_arg20)
      ∧ r.2.mem ((c.tc : Thread Cert.SmallKernel.nD Cert.SmallKernel.τ).loc Cert.SmallKernel.main_arg21) = m ((c.tc : Thread Cert.SmallKernel.nD Cert.SmallKernel.τ).loc Cert.SmallKernel.main_arg21)
      ∧ r.2.mem ((c.tc : Thread Cert.SmallKernel.nD Cert.SmallKernel.τ).loc Cert.SmallKernel.main_arg22) = m ((c.tc : Thread Cert.SmallKernel.nD Cert.SmallKernel.τ).loc Cert.SmallKernel.main_arg22)
      ∧ r.2.mem ((c.tc : Thread Cert.SmallKernel.nD Cert.SmallKernel.τ).loc Cert.SmallKernel.main_arg23) = m ((c.tc : Thread Cert.SmallKernel.nD Cert.SmallKernel.τ).loc Cert.SmallKernel.main_arg23)
      ∧ r.2.mem ((c.tc : Thread Cert.SmallKernel.nD Cert.SmallKernel.τ).loc Cert.SmallKernel.main_arg24) = m ((c.tc : Thread Cert.SmallKernel.nD Cert.SmallKernel.τ).loc Cert.SmallKernel.main_arg24)
      ∧ r.2.mem ((c.tc : Thread Cert.SmallKernel.nD Cert.SmallKernel.τ).loc Cert.SmallKernel.main_arg25) = m ((c.tc : Thread Cert.SmallKernel.nD Cert.SmallKernel.τ).loc Cert.SmallKernel.main_arg25)
      ∧ r.2.mem ((c.tc : Thread Cert.SmallKernel.nD Cert.SmallKernel.τ).loc Cert.SmallKernel.main_arg26) = m ((c.tc : Thread Cert.SmallKernel.nD Cert.SmallKernel.τ).loc Cert.SmallKernel.main_arg26)
      ∧ r.2.mem ((c.tc : Thread Cert.SmallKernel.nD Cert.SmallKernel.τ).loc Cert.SmallKernel.main_arg27) = m ((c.tc : Thread Cert.SmallKernel.nD Cert.SmallKernel.τ).loc Cert.SmallKernel.main_arg27)
      ∧ r.2.mem ((c.tc : Thread Cert.SmallKernel.nD Cert.SmallKernel.τ).loc Cert.SmallKernel.main_arg28) = m ((c.tc : Thread Cert.SmallKernel.nD Cert.SmallKernel.τ).loc Cert.SmallKernel.main_arg28)
      ∧ r.2.mem ((c.tc : Thread Cert.SmallKernel.nD Cert.SmallKernel.τ).loc Cert.SmallKernel.main_arg29) = m ((c.tc : Thread Cert.SmallKernel.nD Cert.SmallKernel.τ).loc Cert.SmallKernel.main_arg29)
      ∧ r.2.mem ((c.tc : Thread Cert.SmallKernel.nD Cert.SmallKernel.τ).loc Cert.SmallKernel.main_arg30) = m ((c.tc : Thread Cert.SmallKernel.nD Cert.SmallKernel.τ).loc Cert.SmallKernel.main_arg30)
      ∧ r.2.mem ((c.tc : Thread Cert.SmallKernel.nD Cert.SmallKernel.τ).loc Cert.SmallKernel.main_arg31) = m ((c.tc : Thread Cert.SmallKernel.nD Cert.SmallKernel.τ).loc Cert.SmallKernel.main_arg31)
      ∧ r.2.mem ((c.tc : Thread Cert.SmallKernel.nD Cert.SmallKernel.τ).loc Cert.SmallKernel.main_arg32) = m ((c.tc : Thread Cert.SmallKernel.nD Cert.SmallKernel.τ).loc Cert.SmallKernel.main_arg32)
      ∧ r.2.mem ((c.tc : Thread Cert.SmallKernel.nD Cert.SmallKernel.τ).loc Cert.SmallKernel.main_arg33) = m ((c.tc : Thread Cert.SmallKernel.nD Cert.SmallKernel.τ).loc Cert.SmallKernel.main_arg33)
      ∧ r.2.mem ((c.tc : Thread Cert.SmallKernel.nD Cert.SmallKernel.τ).loc Cert.SmallKernel.main_arg34) = m ((c.tc : Thread Cert.SmallKernel.nD Cert.SmallKernel.τ).loc Cert.SmallKernel.main_arg34)
      ∧ r.2.mem ((c.tc : Thread Cert.SmallKernel.nD Cert.SmallKernel.τ).loc Cert.SmallKernel.main_arg35) = m ((c.tc : Thread Cert.SmallKernel.nD Cert.SmallKernel.τ).loc Cert.SmallKernel.main_arg35)
      ∧ r.2.mem ((c.tc : Thread Cert.SmallKernel.nD Cert.SmallKernel.τ).loc Cert.SmallKernel.main_arg36) = m ((c.tc : Thread Cert.SmallKernel.nD Cert.SmallKernel.τ).loc Cert.SmallKernel.main_arg36)
      ∧ r.2.mem ((c.tc : Thread Cert.SmallKernel.nD Cert.SmallKernel.τ).loc Cert.SmallKernel.main_arg37) = m ((c.tc : Thread Cert.SmallKernel.nD Cert.SmallKernel.τ).loc Cert.SmallKernel.main_arg37)
      ∧ r.2.mem ((c.tc : Thread Cert.SmallKernel.nD Cert.SmallKernel.τ).loc Cert.SmallKernel.main_arg38) = m ((c.tc : Thread Cert.SmallKernel.nD Cert.SmallKernel.τ).loc Cert.SmallKernel.main_arg38)
      ∧ r.2.mem ((c.tc : Thread Cert.SmallKernel.nD Cert.SmallKernel.τ).loc Cert.SmallKernel.main_arg39) = m ((c.tc : Thread Cert.SmallKernel.nD Cert.SmallKernel.τ).loc Cert.SmallKernel.main_arg39)
      ∧ r.2.mem ((c.tc : Thread Cert.SmallKernel.nD Cert.SmallKernel.τ).loc Cert.SmallKernel.main_arg40) = m ((c.tc : Thread Cert.SmallKernel.nD Cert.SmallKernel.τ).loc Cert.SmallKernel.main_arg40)
      ∧ r.2.mem ((c.tc : Thread Cert.SmallKernel.nD Cert.SmallKernel.τ).loc Cert.SmallKernel.main_arg41) = m ((c.tc : Thread Cert.SmallKernel.nD Cert.SmallKernel.τ).loc Cert.SmallKernel.main_arg41)
      ∧ r.2.mem ((c.tc : Thread Cert.SmallKernel.nD Cert.SmallKernel.τ).loc Cert.SmallKernel.main_arg42) = m ((c.tc : Thread Cert.SmallKernel.nD Cert.SmallKernel.τ).loc Cert.SmallKernel.main_arg42)
      ∧ r.2.mem ((c.tc : Thread Cert.SmallKernel.nD Cert.SmallKernel.τ).loc Cert.SmallKernel.main_arg43) = m ((c.tc : Thread Cert.SmallKernel.nD Cert.SmallKernel.τ).loc Cert.SmallKernel.main_arg43)
      ∧ r.2.mem ((c.tc : Thread Cert.SmallKernel.nD Cert.SmallKernel.τ).loc Cert.SmallKernel.main_arg44) = m ((c.tc : Thread Cert.SmallKernel.nD Cert.SmallKernel.τ).loc Cert.SmallKernel.main_arg44)
      ∧ r.2.mem ((c.tc : Thread Cert.SmallKernel.nD Cert.SmallKernel.τ).loc Cert.SmallKernel.main_arg45) = m ((c.tc : Thread Cert.SmallKernel.nD Cert.SmallKernel.τ).loc Cert.SmallKernel.main_arg45)
      ∧ r.2.mem ((c.tc : Thread Cert.SmallKernel.nD Cert.SmallKernel.τ).loc Cert.SmallKernel.main_arg46) = m ((c.tc : Thread Cert.SmallKernel.nD Cert.SmallKernel.τ).loc Cert.SmallKernel.main_arg46)
      ∧ r.2.mem ((c.tc : Thread Cert.SmallKernel.nD Cert.SmallKernel.τ).loc Cert.SmallKernel.main_arg47) = m ((c.tc : Thread Cert.SmallKernel.nD Cert.SmallKernel.τ).loc Cert.SmallKernel.main_arg47)
      ∧ r.2.mem ((c.tc : Thread Cert.SmallKernel.nD Cert.SmallKernel.τ).loc Cert.SmallKernel.main_arg48) = m ((c.tc : Thread Cert.SmallKernel.nD Cert.SmallKernel.τ).loc Cert.SmallKernel.main_arg48)
      ∧ r.2.mem ((c.tc : Thread Cert.SmallKernel.nD Cert.SmallKernel.τ).loc Cert.SmallKernel.main_arg49) = m ((c.tc : Thread Cert.SmallKernel.nD Cert.SmallKernel.τ).loc Cert.SmallKernel.main_arg49)
      ∧ r.2.mem ((c.tc : Thread Cert.SmallKernel.nD Cert.SmallKernel.τ).loc Cert.SmallKernel.main_arg50) = m ((c.tc : Thread Cert.SmallKernel.nD Cert.SmallKernel.τ).loc Cert.SmallKernel.main_arg50)
      ∧ r.2.mem ((c.tc : Thread Cert.SmallKernel.nD Cert.SmallKernel.τ).loc Cert.SmallKernel.main_arg51) = m ((c.tc : Thread Cert.SmallKernel.nD Cert.SmallKernel.τ).loc Cert.SmallKernel.main_arg51))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
      ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
      ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
      ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
      ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
      ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
      ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
      ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
      ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
      ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
      ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
      ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
      ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
      ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
      ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
      ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
      ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
      ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
      ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
      ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
      ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
      ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
      ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
      ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
      ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
      ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
      ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
      ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
      ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
      ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
      ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
      ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
      ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
      ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
      ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
      ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
      ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29)
      ∧ r.2.mem ((c.tc : Thread Cert.SmallReferenceIdeal.nD Cert.SmallReferenceIdeal.τ).loc Cert.SmallReferenceIdeal.main_arg30) = m ((c.tc : Thread Cert.SmallReferenceIdeal.nD Cert.SmallReferenceIdeal.τ).loc Cert.SmallReferenceIdeal.main_arg30)
      ∧ r.2.mem ((c.tc : Thread Cert.SmallReferenceIdeal.nD Cert.SmallReferenceIdeal.τ).loc Cert.SmallReferenceIdeal.main_arg31) = m ((c.tc : Thread Cert.SmallReferenceIdeal.nD Cert.SmallReferenceIdeal.τ).loc Cert.SmallReferenceIdeal.main_arg31)
      ∧ r.2.mem ((c.tc : Thread Cert.SmallReferenceIdeal.nD Cert.SmallReferenceIdeal.τ).loc Cert.SmallReferenceIdeal.main_arg32) = m ((c.tc : Thread Cert.SmallReferenceIdeal.nD Cert.SmallReferenceIdeal.τ).loc Cert.SmallReferenceIdeal.main_arg32)
      ∧ r.2.mem ((c.tc : Thread Cert.SmallReferenceIdeal.nD Cert.SmallReferenceIdeal.τ).loc Cert.SmallReferenceIdeal.main_arg33) = m ((c.tc : Thread Cert.SmallReferenceIdeal.nD Cert.SmallReferenceIdeal.τ).loc Cert.SmallReferenceIdeal.main_arg33)
      ∧ r.2.mem ((c.tc : Thread Cert.SmallReferenceIdeal.nD Cert.SmallReferenceIdeal.τ).loc Cert.SmallReferenceIdeal.main_arg34) = m ((c.tc : Thread Cert.SmallReferenceIdeal.nD Cert.SmallReferenceIdeal.τ).loc Cert.SmallReferenceIdeal.main_arg34)
      ∧ r.2.mem ((c.tc : Thread Cert.SmallReferenceIdeal.nD Cert.SmallReferenceIdeal.τ).loc Cert.SmallReferenceIdeal.main_arg35) = m ((c.tc : Thread Cert.SmallReferenceIdeal.nD Cert.SmallReferenceIdeal.τ).loc Cert.SmallReferenceIdeal.main_arg35)
      ∧ r.2.mem ((c.tc : Thread Cert.SmallReferenceIdeal.nD Cert.SmallReferenceIdeal.τ).loc Cert.SmallReferenceIdeal.main_arg36) = m ((c.tc : Thread Cert.SmallReferenceIdeal.nD Cert.SmallReferenceIdeal.τ).loc Cert.SmallReferenceIdeal.main_arg36)
      ∧ r.2.mem ((c.tc : Thread Cert.SmallReferenceIdeal.nD Cert.SmallReferenceIdeal.τ).loc Cert.SmallReferenceIdeal.main_arg37) = m ((c.tc : Thread Cert.SmallReferenceIdeal.nD Cert.SmallReferenceIdeal.τ).loc Cert.SmallReferenceIdeal.main_arg37)
      ∧ r.2.mem ((c.tc : Thread Cert.SmallReferenceIdeal.nD Cert.SmallReferenceIdeal.τ).loc Cert.SmallReferenceIdeal.main_arg38) = m ((c.tc : Thread Cert.SmallReferenceIdeal.nD Cert.SmallReferenceIdeal.τ).loc Cert.SmallReferenceIdeal.main_arg38)
      ∧ r.2.mem ((c.tc : Thread Cert.SmallReferenceIdeal.nD Cert.SmallReferenceIdeal.τ).loc Cert.SmallReferenceIdeal.main_arg39) = m ((c.tc : Thread Cert.SmallReferenceIdeal.nD Cert.SmallReferenceIdeal.τ).loc Cert.SmallReferenceIdeal.main_arg39)
      ∧ r.2.mem ((c.tc : Thread Cert.SmallReferenceIdeal.nD Cert.SmallReferenceIdeal.τ).loc Cert.SmallReferenceIdeal.main_arg40) = m ((c.tc : Thread Cert.SmallReferenceIdeal.nD Cert.SmallReferenceIdeal.τ).loc Cert.SmallReferenceIdeal.main_arg40)
      ∧ r.2.mem ((c.tc : Thread Cert.SmallReferenceIdeal.nD Cert.SmallReferenceIdeal.τ).loc Cert.SmallReferenceIdeal.main_arg41) = m ((c.tc : Thread Cert.SmallReferenceIdeal.nD Cert.SmallReferenceIdeal.τ).loc Cert.SmallReferenceIdeal.main_arg41)
      ∧ r.2.mem ((c.tc : Thread Cert.SmallReferenceIdeal.nD Cert.SmallReferenceIdeal.τ).loc Cert.SmallReferenceIdeal.main_arg42) = m ((c.tc : Thread Cert.SmallReferenceIdeal.nD Cert.SmallReferenceIdeal.τ).loc Cert.SmallReferenceIdeal.main_arg42)
      ∧ r.2.mem ((c.tc : Thread Cert.SmallReferenceIdeal.nD Cert.SmallReferenceIdeal.τ).loc Cert.SmallReferenceIdeal.main_arg43) = m ((c.tc : Thread Cert.SmallReferenceIdeal.nD Cert.SmallReferenceIdeal.τ).loc Cert.SmallReferenceIdeal.main_arg43)
      ∧ r.2.mem ((c.tc : Thread Cert.SmallReferenceIdeal.nD Cert.SmallReferenceIdeal.τ).loc Cert.SmallReferenceIdeal.main_arg44) = m ((c.tc : Thread Cert.SmallReferenceIdeal.nD Cert.SmallReferenceIdeal.τ).loc Cert.SmallReferenceIdeal.main_arg44)
      ∧ r.2.mem ((c.tc : Thread Cert.SmallReferenceIdeal.nD Cert.SmallReferenceIdeal.τ).loc Cert.SmallReferenceIdeal.main_arg45) = m ((c.tc : Thread Cert.SmallReferenceIdeal.nD Cert.SmallReferenceIdeal.τ).loc Cert.SmallReferenceIdeal.main_arg45)
      ∧ r.2.mem ((c.tc : Thread Cert.SmallReferenceIdeal.nD Cert.SmallReferenceIdeal.τ).loc Cert.SmallReferenceIdeal.main_arg46) = m ((c.tc : Thread Cert.SmallReferenceIdeal.nD Cert.SmallReferenceIdeal.τ).loc Cert.SmallReferenceIdeal.main_arg46)
      ∧ r.2.mem ((c.tc : Thread Cert.SmallReferenceIdeal.nD Cert.SmallReferenceIdeal.τ).loc Cert.SmallReferenceIdeal.main_arg47) = m ((c.tc : Thread Cert.SmallReferenceIdeal.nD Cert.SmallReferenceIdeal.τ).loc Cert.SmallReferenceIdeal.main_arg47)
      ∧ r.2.mem ((c.tc : Thread Cert.SmallReferenceIdeal.nD Cert.SmallReferenceIdeal.τ).loc Cert.SmallReferenceIdeal.main_arg48) = m ((c.tc : Thread Cert.SmallReferenceIdeal.nD Cert.SmallReferenceIdeal.τ).loc Cert.SmallReferenceIdeal.main_arg48)
      ∧ r.2.mem ((c.tc : Thread Cert.SmallReferenceIdeal.nD Cert.SmallReferenceIdeal.τ).loc Cert.SmallReferenceIdeal.main_arg49) = m ((c.tc : Thread Cert.SmallReferenceIdeal.nD Cert.SmallReferenceIdeal.τ).loc Cert.SmallReferenceIdeal.main_arg49)
      ∧ r.2.mem ((c.tc : Thread Cert.SmallReferenceIdeal.nD Cert.SmallReferenceIdeal.τ).loc Cert.SmallReferenceIdeal.main_arg50) = m ((c.tc : Thread Cert.SmallReferenceIdeal.nD Cert.SmallReferenceIdeal.τ).loc Cert.SmallReferenceIdeal.main_arg50)
      ∧ r.2.mem ((c.tc : Thread Cert.SmallReferenceIdeal.nD Cert.SmallReferenceIdeal.τ).loc Cert.SmallReferenceIdeal.main_arg51) = m ((c.tc : Thread Cert.SmallReferenceIdeal.nD Cert.SmallReferenceIdeal.τ).loc Cert.SmallReferenceIdeal.main_arg51))
      ∧ r.2.sem = fun _ => 0)

def quiescent_CgateKernel [hCgateKernel : Cert.CgateKernel.Facts] : Prop :=
  ∀ (m : (ℓ : Loc Cert.CgateKernel.nD Cert.CgateKernel.τ Cert.CgateKernel.sig) → Buf (Elt Bits) ℓ) (g : Dev Cert.CgateKernel.nD → PrngReg), Pre_CgateKernel m →
    θ_run (Cert.CgateKernel.defs (F := Bits)) (onTc (τ := Cert.CgateKernel.τ) (Cert.CgateKernel.main (F := Bits))) ⟨m, fun _ => 0, g⟩ (fun r => (∀ c : Dev Cert.CgateKernel.nD,
      r.2.mem ((c.tc : Thread Cert.CgateKernel.nD Cert.CgateKernel.τ).loc Cert.CgateKernel.main_arg0) = m ((c.tc : Thread Cert.CgateKernel.nD Cert.CgateKernel.τ).loc Cert.CgateKernel.main_arg0)
      ∧ r.2.mem ((c.tc : Thread Cert.CgateKernel.nD Cert.CgateKernel.τ).loc Cert.CgateKernel.main_arg1) = m ((c.tc : Thread Cert.CgateKernel.nD Cert.CgateKernel.τ).loc Cert.CgateKernel.main_arg1)
      ∧ r.2.mem ((c.tc : Thread Cert.CgateKernel.nD Cert.CgateKernel.τ).loc Cert.CgateKernel.main_arg2) = m ((c.tc : Thread Cert.CgateKernel.nD Cert.CgateKernel.τ).loc Cert.CgateKernel.main_arg2))
      ∧ r.2.sem = fun _ => 0)

def quiescent_CgateKernelIdeal [hCgateKernelIdeal : Cert.CgateKernelIdeal.Facts] : Prop :=
  ∀ (m : (ℓ : Loc Cert.CgateKernelIdeal.nD Cert.CgateKernelIdeal.τ Cert.CgateKernelIdeal.sig) → Buf (Elt Ideal) ℓ) (g : Dev Cert.CgateKernelIdeal.nD → PrngReg), Pre_CgateKernelIdeal m →
    θ_run (Cert.CgateKernelIdeal.defs (F := Ideal)) (onTc (τ := Cert.CgateKernelIdeal.τ) (Cert.CgateKernelIdeal.main (F := Ideal))) ⟨m, fun _ => 0, g⟩ (fun r => (∀ c : Dev Cert.CgateKernelIdeal.nD,
      r.2.mem ((c.tc : Thread Cert.CgateKernelIdeal.nD Cert.CgateKernelIdeal.τ).loc Cert.CgateKernelIdeal.main_arg0) = m ((c.tc : Thread Cert.CgateKernelIdeal.nD Cert.CgateKernelIdeal.τ).loc Cert.CgateKernelIdeal.main_arg0)
      ∧ r.2.mem ((c.tc : Thread Cert.CgateKernelIdeal.nD Cert.CgateKernelIdeal.τ).loc Cert.CgateKernelIdeal.main_arg1) = m ((c.tc : Thread Cert.CgateKernelIdeal.nD Cert.CgateKernelIdeal.τ).loc Cert.CgateKernelIdeal.main_arg1)
      ∧ r.2.mem ((c.tc : Thread Cert.CgateKernelIdeal.nD Cert.CgateKernelIdeal.τ).loc Cert.CgateKernelIdeal.main_arg2) = m ((c.tc : Thread Cert.CgateKernelIdeal.nD Cert.CgateKernelIdeal.τ).loc Cert.CgateKernelIdeal.main_arg2))
      ∧ r.2.sem = fun _ => 0)

def quiescent_CgateReferenceIdeal [hCgateReferenceIdeal : Cert.CgateReferenceIdeal.Facts] : Prop :=
  ∀ (m : (ℓ : Loc Cert.CgateReferenceIdeal.nD Cert.CgateReferenceIdeal.τ Cert.CgateReferenceIdeal.sig) → Buf (Elt Ideal) ℓ) (g : Dev Cert.CgateReferenceIdeal.nD → PrngReg), Pre_CgateReferenceIdeal m →
    θ_run (Cert.CgateReferenceIdeal.defs (F := Ideal)) (onTc (τ := Cert.CgateReferenceIdeal.τ) (Cert.CgateReferenceIdeal.main (F := Ideal))) ⟨m, fun _ => 0, g⟩ (fun r => (∀ c : Dev Cert.CgateReferenceIdeal.nD,
      r.2.mem ((c.tc : Thread Cert.CgateReferenceIdeal.nD Cert.CgateReferenceIdeal.τ).loc Cert.CgateReferenceIdeal.main_arg0) = m ((c.tc : Thread Cert.CgateReferenceIdeal.nD Cert.CgateReferenceIdeal.τ).loc Cert.CgateReferenceIdeal.main_arg0)
      ∧ r.2.mem ((c.tc : Thread Cert.CgateReferenceIdeal.nD Cert.CgateReferenceIdeal.τ).loc Cert.CgateReferenceIdeal.main_arg1) = m ((c.tc : Thread Cert.CgateReferenceIdeal.nD Cert.CgateReferenceIdeal.τ).loc Cert.CgateReferenceIdeal.main_arg1)
      ∧ r.2.mem ((c.tc : Thread Cert.CgateReferenceIdeal.nD Cert.CgateReferenceIdeal.τ).loc Cert.CgateReferenceIdeal.main_arg2) = m ((c.tc : Thread Cert.CgateReferenceIdeal.nD Cert.CgateReferenceIdeal.τ).loc Cert.CgateReferenceIdeal.main_arg2))
      ∧ r.2.sem = fun _ => 0)

def quiescent_CvalKernel [hCvalKernel : Cert.CvalKernel.Facts] : Prop :=
  ∀ (m : (ℓ : Loc Cert.CvalKernel.nD Cert.CvalKernel.τ Cert.CvalKernel.sig) → Buf (Elt Bits) ℓ) (g : Dev Cert.CvalKernel.nD → PrngReg), Pre_CvalKernel m →
    θ_run (Cert.CvalKernel.defs (F := Bits)) (onTc (τ := Cert.CvalKernel.τ) (Cert.CvalKernel.main (F := Bits))) ⟨m, fun _ => 0, g⟩ (fun r => (∀ c : Dev Cert.CvalKernel.nD,
      r.2.mem ((c.tc : Thread Cert.CvalKernel.nD Cert.CvalKernel.τ).loc Cert.CvalKernel.main_arg0) = m ((c.tc : Thread Cert.CvalKernel.nD Cert.CvalKernel.τ).loc Cert.CvalKernel.main_arg0)
      ∧ r.2.mem ((c.tc : Thread Cert.CvalKernel.nD Cert.CvalKernel.τ).loc Cert.CvalKernel.main_arg1) = m ((c.tc : Thread Cert.CvalKernel.nD Cert.CvalKernel.τ).loc Cert.CvalKernel.main_arg1)
      ∧ r.2.mem ((c.tc : Thread Cert.CvalKernel.nD Cert.CvalKernel.τ).loc Cert.CvalKernel.main_arg2) = m ((c.tc : Thread Cert.CvalKernel.nD Cert.CvalKernel.τ).loc Cert.CvalKernel.main_arg2))
      ∧ r.2.sem = fun _ => 0)

def quiescent_CvalKernelIdeal [hCvalKernelIdeal : Cert.CvalKernelIdeal.Facts] : Prop :=
  ∀ (m : (ℓ : Loc Cert.CvalKernelIdeal.nD Cert.CvalKernelIdeal.τ Cert.CvalKernelIdeal.sig) → Buf (Elt Ideal) ℓ) (g : Dev Cert.CvalKernelIdeal.nD → PrngReg), Pre_CvalKernelIdeal m →
    θ_run (Cert.CvalKernelIdeal.defs (F := Ideal)) (onTc (τ := Cert.CvalKernelIdeal.τ) (Cert.CvalKernelIdeal.main (F := Ideal))) ⟨m, fun _ => 0, g⟩ (fun r => (∀ c : Dev Cert.CvalKernelIdeal.nD,
      r.2.mem ((c.tc : Thread Cert.CvalKernelIdeal.nD Cert.CvalKernelIdeal.τ).loc Cert.CvalKernelIdeal.main_arg0) = m ((c.tc : Thread Cert.CvalKernelIdeal.nD Cert.CvalKernelIdeal.τ).loc Cert.CvalKernelIdeal.main_arg0)
      ∧ r.2.mem ((c.tc : Thread Cert.CvalKernelIdeal.nD Cert.CvalKernelIdeal.τ).loc Cert.CvalKernelIdeal.main_arg1) = m ((c.tc : Thread Cert.CvalKernelIdeal.nD Cert.CvalKernelIdeal.τ).loc Cert.CvalKernelIdeal.main_arg1)
      ∧ r.2.mem ((c.tc : Thread Cert.CvalKernelIdeal.nD Cert.CvalKernelIdeal.τ).loc Cert.CvalKernelIdeal.main_arg2) = m ((c.tc : Thread Cert.CvalKernelIdeal.nD Cert.CvalKernelIdeal.τ).loc Cert.CvalKernelIdeal.main_arg2))
      ∧ r.2.sem = fun _ => 0)

def quiescent_CvalReferenceIdeal [hCvalReferenceIdeal : Cert.CvalReferenceIdeal.Facts] : Prop :=
  ∀ (m : (ℓ : Loc Cert.CvalReferenceIdeal.nD Cert.CvalReferenceIdeal.τ Cert.CvalReferenceIdeal.sig) → Buf (Elt Ideal) ℓ) (g : Dev Cert.CvalReferenceIdeal.nD → PrngReg), Pre_CvalReferenceIdeal m →
    θ_run (Cert.CvalReferenceIdeal.defs (F := Ideal)) (onTc (τ := Cert.CvalReferenceIdeal.τ) (Cert.CvalReferenceIdeal.main (F := Ideal))) ⟨m, fun _ => 0, g⟩ (fun r => (∀ c : Dev Cert.CvalReferenceIdeal.nD,
      r.2.mem ((c.tc : Thread Cert.CvalReferenceIdeal.nD Cert.CvalReferenceIdeal.τ).loc Cert.CvalReferenceIdeal.main_arg0) = m ((c.tc : Thread Cert.CvalReferenceIdeal.nD Cert.CvalReferenceIdeal.τ).loc Cert.CvalReferenceIdeal.main_arg0)
      ∧ r.2.mem ((c.tc : Thread Cert.CvalReferenceIdeal.nD Cert.CvalReferenceIdeal.τ).loc Cert.CvalReferenceIdeal.main_arg1) = m ((c.tc : Thread Cert.CvalReferenceIdeal.nD Cert.CvalReferenceIdeal.τ).loc Cert.CvalReferenceIdeal.main_arg1)
      ∧ r.2.mem ((c.tc : Thread Cert.CvalReferenceIdeal.nD Cert.CvalReferenceIdeal.τ).loc Cert.CvalReferenceIdeal.main_arg2) = m ((c.tc : Thread Cert.CvalReferenceIdeal.nD Cert.CvalReferenceIdeal.τ).loc Cert.CvalReferenceIdeal.main_arg2))
      ∧ r.2.sem = fun _ => 0)

def quiescent_CssdKernel [hCssdKernel : Cert.CssdKernel.Facts] : Prop :=
  ∀ (m : (ℓ : Loc Cert.CssdKernel.nD Cert.CssdKernel.τ Cert.CssdKernel.sig) → Buf (Elt Bits) ℓ) (g : Dev Cert.CssdKernel.nD → PrngReg), Pre_CssdKernel m →
    θ_run (Cert.CssdKernel.defs (F := Bits)) (onTc (τ := Cert.CssdKernel.τ) (Cert.CssdKernel.main (F := Bits))) ⟨m, fun _ => 0, g⟩ (fun r => (∀ c : Dev Cert.CssdKernel.nD,
      r.2.mem ((c.tc : Thread Cert.CssdKernel.nD Cert.CssdKernel.τ).loc Cert.CssdKernel.main_arg0) = m ((c.tc : Thread Cert.CssdKernel.nD Cert.CssdKernel.τ).loc Cert.CssdKernel.main_arg0)
      ∧ r.2.mem ((c.tc : Thread Cert.CssdKernel.nD Cert.CssdKernel.τ).loc Cert.CssdKernel.main_arg1) = m ((c.tc : Thread Cert.CssdKernel.nD Cert.CssdKernel.τ).loc Cert.CssdKernel.main_arg1)
      ∧ r.2.mem ((c.tc : Thread Cert.CssdKernel.nD Cert.CssdKernel.τ).loc Cert.CssdKernel.main_arg2) = m ((c.tc : Thread Cert.CssdKernel.nD Cert.CssdKernel.τ).loc Cert.CssdKernel.main_arg2))
      ∧ r.2.sem = fun _ => 0)

def quiescent_CssdKernelIdeal [hCssdKernelIdeal : Cert.CssdKernelIdeal.Facts] : Prop :=
  ∀ (m : (ℓ : Loc Cert.CssdKernelIdeal.nD Cert.CssdKernelIdeal.τ Cert.CssdKernelIdeal.sig) → Buf (Elt Ideal) ℓ) (g : Dev Cert.CssdKernelIdeal.nD → PrngReg), Pre_CssdKernelIdeal m →
    θ_run (Cert.CssdKernelIdeal.defs (F := Ideal)) (onTc (τ := Cert.CssdKernelIdeal.τ) (Cert.CssdKernelIdeal.main (F := Ideal))) ⟨m, fun _ => 0, g⟩ (fun r => (∀ c : Dev Cert.CssdKernelIdeal.nD,
      r.2.mem ((c.tc : Thread Cert.CssdKernelIdeal.nD Cert.CssdKernelIdeal.τ).loc Cert.CssdKernelIdeal.main_arg0) = m ((c.tc : Thread Cert.CssdKernelIdeal.nD Cert.CssdKernelIdeal.τ).loc Cert.CssdKernelIdeal.main_arg0)
      ∧ r.2.mem ((c.tc : Thread Cert.CssdKernelIdeal.nD Cert.CssdKernelIdeal.τ).loc Cert.CssdKernelIdeal.main_arg1) = m ((c.tc : Thread Cert.CssdKernelIdeal.nD Cert.CssdKernelIdeal.τ).loc Cert.CssdKernelIdeal.main_arg1)
      ∧ r.2.mem ((c.tc : Thread Cert.CssdKernelIdeal.nD Cert.CssdKernelIdeal.τ).loc Cert.CssdKernelIdeal.main_arg2) = m ((c.tc : Thread Cert.CssdKernelIdeal.nD Cert.CssdKernelIdeal.τ).loc Cert.CssdKernelIdeal.main_arg2))
      ∧ r.2.sem = fun _ => 0)

def quiescent_CssdReferenceIdeal [hCssdReferenceIdeal : Cert.CssdReferenceIdeal.Facts] : Prop :=
  ∀ (m : (ℓ : Loc Cert.CssdReferenceIdeal.nD Cert.CssdReferenceIdeal.τ Cert.CssdReferenceIdeal.sig) → Buf (Elt Ideal) ℓ) (g : Dev Cert.CssdReferenceIdeal.nD → PrngReg), Pre_CssdReferenceIdeal m →
    θ_run (Cert.CssdReferenceIdeal.defs (F := Ideal)) (onTc (τ := Cert.CssdReferenceIdeal.τ) (Cert.CssdReferenceIdeal.main (F := Ideal))) ⟨m, fun _ => 0, g⟩ (fun r => (∀ c : Dev Cert.CssdReferenceIdeal.nD,
      r.2.mem ((c.tc : Thread Cert.CssdReferenceIdeal.nD Cert.CssdReferenceIdeal.τ).loc Cert.CssdReferenceIdeal.main_arg0) = m ((c.tc : Thread Cert.CssdReferenceIdeal.nD Cert.CssdReferenceIdeal.τ).loc Cert.CssdReferenceIdeal.main_arg0)
      ∧ r.2.mem ((c.tc : Thread Cert.CssdReferenceIdeal.nD Cert.CssdReferenceIdeal.τ).loc Cert.CssdReferenceIdeal.main_arg1) = m ((c.tc : Thread Cert.CssdReferenceIdeal.nD Cert.CssdReferenceIdeal.τ).loc Cert.CssdReferenceIdeal.main_arg1)
      ∧ r.2.mem ((c.tc : Thread Cert.CssdReferenceIdeal.nD Cert.CssdReferenceIdeal.τ).loc Cert.CssdReferenceIdeal.main_arg2) = m ((c.tc : Thread Cert.CssdReferenceIdeal.nD Cert.CssdReferenceIdeal.τ).loc Cert.CssdReferenceIdeal.main_arg2))
      ∧ r.2.sem = fun _ => 0)

def quiescent_CsiluKernel [hCsiluKernel : Cert.CsiluKernel.Facts] : Prop :=
  ∀ (m : (ℓ : Loc Cert.CsiluKernel.nD Cert.CsiluKernel.τ Cert.CsiluKernel.sig) → Buf (Elt Bits) ℓ) (g : Dev Cert.CsiluKernel.nD → PrngReg), Pre_CsiluKernel m →
    θ_run (Cert.CsiluKernel.defs (F := Bits)) (onTc (τ := Cert.CsiluKernel.τ) (Cert.CsiluKernel.main (F := Bits))) ⟨m, fun _ => 0, g⟩ (fun r => (∀ c : Dev Cert.CsiluKernel.nD,
      r.2.mem ((c.tc : Thread Cert.CsiluKernel.nD Cert.CsiluKernel.τ).loc Cert.CsiluKernel.main_arg0) = m ((c.tc : Thread Cert.CsiluKernel.nD Cert.CsiluKernel.τ).loc Cert.CsiluKernel.main_arg0)
      ∧ r.2.mem ((c.tc : Thread Cert.CsiluKernel.nD Cert.CsiluKernel.τ).loc Cert.CsiluKernel.main_arg1) = m ((c.tc : Thread Cert.CsiluKernel.nD Cert.CsiluKernel.τ).loc Cert.CsiluKernel.main_arg1))
      ∧ r.2.sem = fun _ => 0)

def quiescent_CsiluKernelIdeal [hCsiluKernelIdeal : Cert.CsiluKernelIdeal.Facts] : Prop :=
  ∀ (m : (ℓ : Loc Cert.CsiluKernelIdeal.nD Cert.CsiluKernelIdeal.τ Cert.CsiluKernelIdeal.sig) → Buf (Elt Ideal) ℓ) (g : Dev Cert.CsiluKernelIdeal.nD → PrngReg), Pre_CsiluKernelIdeal m →
    θ_run (Cert.CsiluKernelIdeal.defs (F := Ideal)) (onTc (τ := Cert.CsiluKernelIdeal.τ) (Cert.CsiluKernelIdeal.main (F := Ideal))) ⟨m, fun _ => 0, g⟩ (fun r => (∀ c : Dev Cert.CsiluKernelIdeal.nD,
      r.2.mem ((c.tc : Thread Cert.CsiluKernelIdeal.nD Cert.CsiluKernelIdeal.τ).loc Cert.CsiluKernelIdeal.main_arg0) = m ((c.tc : Thread Cert.CsiluKernelIdeal.nD Cert.CsiluKernelIdeal.τ).loc Cert.CsiluKernelIdeal.main_arg0)
      ∧ r.2.mem ((c.tc : Thread Cert.CsiluKernelIdeal.nD Cert.CsiluKernelIdeal.τ).loc Cert.CsiluKernelIdeal.main_arg1) = m ((c.tc : Thread Cert.CsiluKernelIdeal.nD Cert.CsiluKernelIdeal.τ).loc Cert.CsiluKernelIdeal.main_arg1))
      ∧ r.2.sem = fun _ => 0)

def quiescent_CsiluKernelIdeal_pre_finite_ct [hCsiluKernelIdeal : Cert.CsiluKernelIdeal.Facts] [hPre_finite_ct : Cert.Pre_finite_ct.Facts] : Prop :=
  ∀ (m : (ℓ : Loc Cert.CsiluKernelIdeal.nD Cert.CsiluKernelIdeal.τ Cert.CsiluKernelIdeal.sig) → Buf (Elt Ideal) ℓ) (g : Dev Cert.CsiluKernelIdeal.nD → PrngReg), Pre_CsiluKernelIdeal_finite_ct m →
    θ_run (Cert.CsiluKernelIdeal.defs (F := Ideal)) (onTc (τ := Cert.CsiluKernelIdeal.τ) (Cert.CsiluKernelIdeal.main (F := Ideal))) ⟨m, fun _ => 0, g⟩ (fun r => (∀ c : Dev Cert.CsiluKernelIdeal.nD,
      r.2.mem ((c.tc : Thread Cert.CsiluKernelIdeal.nD Cert.CsiluKernelIdeal.τ).loc Cert.CsiluKernelIdeal.main_arg0) = m ((c.tc : Thread Cert.CsiluKernelIdeal.nD Cert.CsiluKernelIdeal.τ).loc Cert.CsiluKernelIdeal.main_arg0)
      ∧ r.2.mem ((c.tc : Thread Cert.CsiluKernelIdeal.nD Cert.CsiluKernelIdeal.τ).loc Cert.CsiluKernelIdeal.main_arg1) = m ((c.tc : Thread Cert.CsiluKernelIdeal.nD Cert.CsiluKernelIdeal.τ).loc Cert.CsiluKernelIdeal.main_arg1))
      ∧ r.2.sem = fun _ => 0)

def quiescent_CsiluReferenceIdeal [hCsiluReferenceIdeal : Cert.CsiluReferenceIdeal.Facts] : Prop :=
  ∀ (m : (ℓ : Loc Cert.CsiluReferenceIdeal.nD Cert.CsiluReferenceIdeal.τ Cert.CsiluReferenceIdeal.sig) → Buf (Elt Ideal) ℓ) (g : Dev Cert.CsiluReferenceIdeal.nD → PrngReg), Pre_CsiluReferenceIdeal m →
    θ_run (Cert.CsiluReferenceIdeal.defs (F := Ideal)) (onTc (τ := Cert.CsiluReferenceIdeal.τ) (Cert.CsiluReferenceIdeal.main (F := Ideal))) ⟨m, fun _ => 0, g⟩ (fun r => (∀ c : Dev Cert.CsiluReferenceIdeal.nD,
      r.2.mem ((c.tc : Thread Cert.CsiluReferenceIdeal.nD Cert.CsiluReferenceIdeal.τ).loc Cert.CsiluReferenceIdeal.main_arg0) = m ((c.tc : Thread Cert.CsiluReferenceIdeal.nD Cert.CsiluReferenceIdeal.τ).loc Cert.CsiluReferenceIdeal.main_arg0)
      ∧ r.2.mem ((c.tc : Thread Cert.CsiluReferenceIdeal.nD Cert.CsiluReferenceIdeal.τ).loc Cert.CsiluReferenceIdeal.main_arg1) = m ((c.tc : Thread Cert.CsiluReferenceIdeal.nD Cert.CsiluReferenceIdeal.τ).loc Cert.CsiluReferenceIdeal.main_arg1))
      ∧ r.2.sem = fun _ => 0)

def quiescent_CsiluReferenceIdeal_pre_finite_ct [hCsiluReferenceIdeal : Cert.CsiluReferenceIdeal.Facts] [hPre_finite_ct : Cert.Pre_finite_ct.Facts] : Prop :=
  ∀ (m : (ℓ : Loc Cert.CsiluReferenceIdeal.nD Cert.CsiluReferenceIdeal.τ Cert.CsiluReferenceIdeal.sig) → Buf (Elt Ideal) ℓ) (g : Dev Cert.CsiluReferenceIdeal.nD → PrngReg), Pre_CsiluReferenceIdeal_finite_ct m →
    θ_run (Cert.CsiluReferenceIdeal.defs (F := Ideal)) (onTc (τ := Cert.CsiluReferenceIdeal.τ) (Cert.CsiluReferenceIdeal.main (F := Ideal))) ⟨m, fun _ => 0, g⟩ (fun r => (∀ c : Dev Cert.CsiluReferenceIdeal.nD,
      r.2.mem ((c.tc : Thread Cert.CsiluReferenceIdeal.nD Cert.CsiluReferenceIdeal.τ).loc Cert.CsiluReferenceIdeal.main_arg0) = m ((c.tc : Thread Cert.CsiluReferenceIdeal.nD Cert.CsiluReferenceIdeal.τ).loc Cert.CsiluReferenceIdeal.main_arg0)
      ∧ r.2.mem ((c.tc : Thread Cert.CsiluReferenceIdeal.nD Cert.CsiluReferenceIdeal.τ).loc Cert.CsiluReferenceIdeal.main_arg1) = m ((c.tc : Thread Cert.CsiluReferenceIdeal.nD Cert.CsiluReferenceIdeal.τ).loc Cert.CsiluReferenceIdeal.main_arg1))
      ∧ r.2.sem = fun _ => 0)

def quiescent_FactKernel [hFactKernel : Cert.FactKernel.Facts] : Prop :=
  ∀ (m : (ℓ : Loc Cert.FactKernel.nD Cert.FactKernel.τ Cert.FactKernel.sig) → Buf (Elt Bits) ℓ) (g : Dev Cert.FactKernel.nD → PrngReg), Pre_FactKernel m →
    θ_run (Cert.FactKernel.defs (F := Bits)) (onTc (τ := Cert.FactKernel.τ) (Cert.FactKernel.main (F := Bits))) ⟨m, fun _ => 0, g⟩ (fun r => (∀ c : Dev Cert.FactKernel.nD,
      r.2.mem ((c.tc : Thread Cert.FactKernel.nD Cert.FactKernel.τ).loc Cert.FactKernel.main_arg0) = m ((c.tc : Thread Cert.FactKernel.nD Cert.FactKernel.τ).loc Cert.FactKernel.main_arg0)
      ∧ r.2.mem ((c.tc : Thread Cert.FactKernel.nD Cert.FactKernel.τ).loc Cert.FactKernel.main_arg1) = m ((c.tc : Thread Cert.FactKernel.nD Cert.FactKernel.τ).loc Cert.FactKernel.main_arg1)
      ∧ r.2.mem ((c.tc : Thread Cert.FactKernel.nD Cert.FactKernel.τ).loc Cert.FactKernel.main_arg2) = m ((c.tc : Thread Cert.FactKernel.nD Cert.FactKernel.τ).loc Cert.FactKernel.main_arg2))
      ∧ r.2.sem = fun _ => 0)

def quiescent_FactKernelIdeal [hFactKernelIdeal : Cert.FactKernelIdeal.Facts] : Prop :=
  ∀ (m : (ℓ : Loc Cert.FactKernelIdeal.nD Cert.FactKernelIdeal.τ Cert.FactKernelIdeal.sig) → Buf (Elt Ideal) ℓ) (g : Dev Cert.FactKernelIdeal.nD → PrngReg), Pre_FactKernelIdeal m →
    θ_run (Cert.FactKernelIdeal.defs (F := Ideal)) (onTc (τ := Cert.FactKernelIdeal.τ) (Cert.FactKernelIdeal.main (F := Ideal))) ⟨m, fun _ => 0, g⟩ (fun r => (∀ c : Dev Cert.FactKernelIdeal.nD,
      r.2.mem ((c.tc : Thread Cert.FactKernelIdeal.nD Cert.FactKernelIdeal.τ).loc Cert.FactKernelIdeal.main_arg0) = m ((c.tc : Thread Cert.FactKernelIdeal.nD Cert.FactKernelIdeal.τ).loc Cert.FactKernelIdeal.main_arg0)
      ∧ r.2.mem ((c.tc : Thread Cert.FactKernelIdeal.nD Cert.FactKernelIdeal.τ).loc Cert.FactKernelIdeal.main_arg1) = m ((c.tc : Thread Cert.FactKernelIdeal.nD Cert.FactKernelIdeal.τ).loc Cert.FactKernelIdeal.main_arg1)
      ∧ r.2.mem ((c.tc : Thread Cert.FactKernelIdeal.nD Cert.FactKernelIdeal.τ).loc Cert.FactKernelIdeal.main_arg2) = m ((c.tc : Thread Cert.FactKernelIdeal.nD Cert.FactKernelIdeal.τ).loc Cert.FactKernelIdeal.main_arg2))
      ∧ r.2.sem = fun _ => 0)

def quiescent_FactKernelIdeal_pre_finite_act [hFactKernelIdeal : Cert.FactKernelIdeal.Facts] [hPre_finite_act : Cert.Pre_finite_act.Facts] : Prop :=
  ∀ (m : (ℓ : Loc Cert.FactKernelIdeal.nD Cert.FactKernelIdeal.τ Cert.FactKernelIdeal.sig) → Buf (Elt Ideal) ℓ) (g : Dev Cert.FactKernelIdeal.nD → PrngReg), Pre_FactKernelIdeal_finite_act m →
    θ_run (Cert.FactKernelIdeal.defs (F := Ideal)) (onTc (τ := Cert.FactKernelIdeal.τ) (Cert.FactKernelIdeal.main (F := Ideal))) ⟨m, fun _ => 0, g⟩ (fun r => (∀ c : Dev Cert.FactKernelIdeal.nD,
      r.2.mem ((c.tc : Thread Cert.FactKernelIdeal.nD Cert.FactKernelIdeal.τ).loc Cert.FactKernelIdeal.main_arg0) = m ((c.tc : Thread Cert.FactKernelIdeal.nD Cert.FactKernelIdeal.τ).loc Cert.FactKernelIdeal.main_arg0)
      ∧ r.2.mem ((c.tc : Thread Cert.FactKernelIdeal.nD Cert.FactKernelIdeal.τ).loc Cert.FactKernelIdeal.main_arg1) = m ((c.tc : Thread Cert.FactKernelIdeal.nD Cert.FactKernelIdeal.τ).loc Cert.FactKernelIdeal.main_arg1)
      ∧ r.2.mem ((c.tc : Thread Cert.FactKernelIdeal.nD Cert.FactKernelIdeal.τ).loc Cert.FactKernelIdeal.main_arg2) = m ((c.tc : Thread Cert.FactKernelIdeal.nD Cert.FactKernelIdeal.τ).loc Cert.FactKernelIdeal.main_arg2))
      ∧ r.2.sem = fun _ => 0)

def quiescent_FactReferenceIdeal [hFactReferenceIdeal : Cert.FactReferenceIdeal.Facts] : Prop :=
  ∀ (m : (ℓ : Loc Cert.FactReferenceIdeal.nD Cert.FactReferenceIdeal.τ Cert.FactReferenceIdeal.sig) → Buf (Elt Ideal) ℓ) (g : Dev Cert.FactReferenceIdeal.nD → PrngReg), Pre_FactReferenceIdeal m →
    θ_run (Cert.FactReferenceIdeal.defs (F := Ideal)) (onTc (τ := Cert.FactReferenceIdeal.τ) (Cert.FactReferenceIdeal.main (F := Ideal))) ⟨m, fun _ => 0, g⟩ (fun r => (∀ c : Dev Cert.FactReferenceIdeal.nD,
      r.2.mem ((c.tc : Thread Cert.FactReferenceIdeal.nD Cert.FactReferenceIdeal.τ).loc Cert.FactReferenceIdeal.main_arg0) = m ((c.tc : Thread Cert.FactReferenceIdeal.nD Cert.FactReferenceIdeal.τ).loc Cert.FactReferenceIdeal.main_arg0)
      ∧ r.2.mem ((c.tc : Thread Cert.FactReferenceIdeal.nD Cert.FactReferenceIdeal.τ).loc Cert.FactReferenceIdeal.main_arg1) = m ((c.tc : Thread Cert.FactReferenceIdeal.nD Cert.FactReferenceIdeal.τ).loc Cert.FactReferenceIdeal.main_arg1)
      ∧ r.2.mem ((c.tc : Thread Cert.FactReferenceIdeal.nD Cert.FactReferenceIdeal.τ).loc Cert.FactReferenceIdeal.main_arg2) = m ((c.tc : Thread Cert.FactReferenceIdeal.nD Cert.FactReferenceIdeal.τ).loc Cert.FactReferenceIdeal.main_arg2))
      ∧ r.2.sem = fun _ => 0)

def quiescent_FactReferenceIdeal_pre_finite_act [hFactReferenceIdeal : Cert.FactReferenceIdeal.Facts] [hPre_finite_act : Cert.Pre_finite_act.Facts] : Prop :=
  ∀ (m : (ℓ : Loc Cert.FactReferenceIdeal.nD Cert.FactReferenceIdeal.τ Cert.FactReferenceIdeal.sig) → Buf (Elt Ideal) ℓ) (g : Dev Cert.FactReferenceIdeal.nD → PrngReg), Pre_FactReferenceIdeal_finite_act m →
    θ_run (Cert.FactReferenceIdeal.defs (F := Ideal)) (onTc (τ := Cert.FactReferenceIdeal.τ) (Cert.FactReferenceIdeal.main (F := Ideal))) ⟨m, fun _ => 0, g⟩ (fun r => (∀ c : Dev Cert.FactReferenceIdeal.nD,
      r.2.mem ((c.tc : Thread Cert.FactReferenceIdeal.nD Cert.FactReferenceIdeal.τ).loc Cert.FactReferenceIdeal.main_arg0) = m ((c.tc : Thread Cert.FactReferenceIdeal.nD Cert.FactReferenceIdeal.τ).loc Cert.FactReferenceIdeal.main_arg0)
      ∧ r.2.mem ((c.tc : Thread Cert.FactReferenceIdeal.nD Cert.FactReferenceIdeal.τ).loc Cert.FactReferenceIdeal.main_arg1) = m ((c.tc : Thread Cert.FactReferenceIdeal.nD Cert.FactReferenceIdeal.τ).loc Cert.FactReferenceIdeal.main_arg1)
      ∧ r.2.mem ((c.tc : Thread Cert.FactReferenceIdeal.nD Cert.FactReferenceIdeal.τ).loc Cert.FactReferenceIdeal.main_arg2) = m ((c.tc : Thread Cert.FactReferenceIdeal.nD Cert.FactReferenceIdeal.τ).loc Cert.FactReferenceIdeal.main_arg2))
      ∧ r.2.sem = fun _ => 0)

def preserves_Kernel_KernelIdeal : Prop :=
  True

def preserves_DuKernel_DuKernelIdeal : Prop :=
  True

def algebraic_DuKernelIdeal_DuReferenceIdeal [hDuKernelIdeal : Cert.DuKernelIdeal.Facts] [hDuReferenceIdeal : Cert.DuReferenceIdeal.Facts] : Prop :=
  ∀ (m : (ℓ : Loc Cert.DuKernelIdeal.nD Cert.DuKernelIdeal.τ Cert.DuKernelIdeal.sig) → Buf (Elt Ideal) ℓ) (g : Dev Cert.DuKernelIdeal.nD → PrngReg)
    (m' : (ℓ : Loc Cert.DuReferenceIdeal.nD Cert.DuReferenceIdeal.τ Cert.DuReferenceIdeal.sig) → Buf (Elt Ideal) ℓ) (g' : Dev Cert.DuReferenceIdeal.nD → PrngReg), Pre_DuKernelIdeal m →
    (∀ c : Dev Cert.DuKernelIdeal.nD,
      m' ((c.tc : Thread Cert.DuReferenceIdeal.nD Cert.DuReferenceIdeal.τ).loc Cert.DuReferenceIdeal.main_arg0) = m ((c.tc : Thread Cert.DuKernelIdeal.nD Cert.DuKernelIdeal.τ).loc Cert.DuKernelIdeal.main_arg0)
      ∧ m' ((c.tc : Thread Cert.DuReferenceIdeal.nD Cert.DuReferenceIdeal.τ).loc Cert.DuReferenceIdeal.main_arg1) = m ((c.tc : Thread Cert.DuKernelIdeal.nD Cert.DuKernelIdeal.τ).loc Cert.DuKernelIdeal.main_arg1)
      ∧ m' ((c.tc : Thread Cert.DuReferenceIdeal.nD Cert.DuReferenceIdeal.τ).loc Cert.DuReferenceIdeal.main_arg2) = m ((c.tc : Thread Cert.DuKernelIdeal.nD Cert.DuKernelIdeal.τ).loc Cert.DuKernelIdeal.main_arg2)
      ∧ m' ((c.tc : Thread Cert.DuReferenceIdeal.nD Cert.DuReferenceIdeal.τ).loc Cert.DuReferenceIdeal.main_arg3) = m ((c.tc : Thread Cert.DuKernelIdeal.nD Cert.DuKernelIdeal.τ).loc Cert.DuKernelIdeal.main_arg3)
      ∧ m' ((c.tc : Thread Cert.DuReferenceIdeal.nD Cert.DuReferenceIdeal.τ).loc Cert.DuReferenceIdeal.main_arg4) = m ((c.tc : Thread Cert.DuKernelIdeal.nD Cert.DuKernelIdeal.τ).loc Cert.DuKernelIdeal.main_arg4)
      ∧ m' ((c.tc : Thread Cert.DuReferenceIdeal.nD Cert.DuReferenceIdeal.τ).loc Cert.DuReferenceIdeal.main_arg5) = m ((c.tc : Thread Cert.DuKernelIdeal.nD Cert.DuKernelIdeal.τ).loc Cert.DuKernelIdeal.main_arg5)
      ∧ m' ((c.tc : Thread Cert.DuReferenceIdeal.nD Cert.DuReferenceIdeal.τ).loc Cert.DuReferenceIdeal.main_arg6) = m ((c.tc : Thread Cert.DuKernelIdeal.nD Cert.DuKernelIdeal.τ).loc Cert.DuKernelIdeal.main_arg6)
      ∧ m' ((c.tc : Thread Cert.DuReferenceIdeal.nD Cert.DuReferenceIdeal.τ).loc Cert.DuReferenceIdeal.main_arg7) = m ((c.tc : Thread Cert.DuKernelIdeal.nD Cert.DuKernelIdeal.τ).loc Cert.DuKernelIdeal.main_arg7)
      ∧ m' ((c.tc : Thread Cert.DuReferenceIdeal.nD Cert.DuReferenceIdeal.τ).loc Cert.DuReferenceIdeal.main_arg8) = m ((c.tc : Thread Cert.DuKernelIdeal.nD Cert.DuKernelIdeal.τ).loc Cert.DuKernelIdeal.main_arg8)
      ∧ m' ((c.tc : Thread Cert.DuReferenceIdeal.nD Cert.DuReferenceIdeal.τ).loc Cert.DuReferenceIdeal.main_arg9) = m ((c.tc : Thread Cert.DuKernelIdeal.nD Cert.DuKernelIdeal.τ).loc Cert.DuKernelIdeal.main_arg9)
      ∧ m' ((c.tc : Thread Cert.DuReferenceIdeal.nD Cert.DuReferenceIdeal.τ).loc Cert.DuReferenceIdeal.main_arg10) = m ((c.tc : Thread Cert.DuKernelIdeal.nD Cert.DuKernelIdeal.τ).loc Cert.DuKernelIdeal.main_arg10)
      ∧ m' ((c.tc : Thread Cert.DuReferenceIdeal.nD Cert.DuReferenceIdeal.τ).loc Cert.DuReferenceIdeal.main_arg11) = m ((c.tc : Thread Cert.DuKernelIdeal.nD Cert.DuKernelIdeal.τ).loc Cert.DuKernelIdeal.main_arg11)) →
    ∃ (v0 : (c : Dev Cert.DuKernelIdeal.nD) → Buf (Elt Ideal) ((c.tc : Thread Cert.DuKernelIdeal.nD Cert.DuKernelIdeal.τ).loc Cert.DuKernelIdeal.main_v41_0)) (v1 : (c : Dev Cert.DuKernelIdeal.nD) → Buf (Elt Ideal) ((c.tc : Thread Cert.DuKernelIdeal.nD Cert.DuKernelIdeal.τ).loc Cert.DuKernelIdeal.main_v41_1)),
      θ_run (Cert.DuKernelIdeal.defs (F := Ideal)) (onTc (τ := Cert.DuKernelIdeal.τ) (Cert.DuKernelIdeal.main (F := Ideal))) ⟨m, fun _ => 0, g⟩ (fun r => ∀ c : Dev Cert.DuKernelIdeal.nD,
          r.2.mem ((c.tc : Thread Cert.DuKernelIdeal.nD Cert.DuKernelIdeal.τ).loc Cert.DuKernelIdeal.main_v41_0) = v0 c
          ∧ r.2.mem ((c.tc : Thread Cert.DuKernelIdeal.nD Cert.DuKernelIdeal.τ).loc Cert.DuKernelIdeal.main_v41_1) = v1 c
          ∧ r.2.mem ((c.tc : Thread Cert.DuKernelIdeal.nD Cert.DuKernelIdeal.τ).loc Cert.DuKernelIdeal.main_arg0) = m ((c.tc : Thread Cert.DuKernelIdeal.nD Cert.DuKernelIdeal.τ).loc Cert.DuKernelIdeal.main_arg0)
          ∧ r.2.mem ((c.tc : Thread Cert.DuKernelIdeal.nD Cert.DuKernelIdeal.τ).loc Cert.DuKernelIdeal.main_arg1) = m ((c.tc : Thread Cert.DuKernelIdeal.nD Cert.DuKernelIdeal.τ).loc Cert.DuKernelIdeal.main_arg1)
          ∧ r.2.mem ((c.tc : Thread Cert.DuKernelIdeal.nD Cert.DuKernelIdeal.τ).loc Cert.DuKernelIdeal.main_arg2) = m ((c.tc : Thread Cert.DuKernelIdeal.nD Cert.DuKernelIdeal.τ).loc Cert.DuKernelIdeal.main_arg2)
          ∧ r.2.mem ((c.tc : Thread Cert.DuKernelIdeal.nD Cert.DuKernelIdeal.τ).loc Cert.DuKernelIdeal.main_arg3) = m ((c.tc : Thread Cert.DuKernelIdeal.nD Cert.DuKernelIdeal.τ).loc Cert.DuKernelIdeal.main_arg3)
          ∧ r.2.mem ((c.tc : Thread Cert.DuKernelIdeal.nD Cert.DuKernelIdeal.τ).loc Cert.DuKernelIdeal.main_arg4) = m ((c.tc : Thread Cert.DuKernelIdeal.nD Cert.DuKernelIdeal.τ).loc Cert.DuKernelIdeal.main_arg4)
          ∧ r.2.mem ((c.tc : Thread Cert.DuKernelIdeal.nD Cert.DuKernelIdeal.τ).loc Cert.DuKernelIdeal.main_arg5) = m ((c.tc : Thread Cert.DuKernelIdeal.nD Cert.DuKernelIdeal.τ).loc Cert.DuKernelIdeal.main_arg5)
          ∧ r.2.mem ((c.tc : Thread Cert.DuKernelIdeal.nD Cert.DuKernelIdeal.τ).loc Cert.DuKernelIdeal.main_arg6) = m ((c.tc : Thread Cert.DuKernelIdeal.nD Cert.DuKernelIdeal.τ).loc Cert.DuKernelIdeal.main_arg6)
          ∧ r.2.mem ((c.tc : Thread Cert.DuKernelIdeal.nD Cert.DuKernelIdeal.τ).loc Cert.DuKernelIdeal.main_arg7) = m ((c.tc : Thread Cert.DuKernelIdeal.nD Cert.DuKernelIdeal.τ).loc Cert.DuKernelIdeal.main_arg7)
          ∧ r.2.mem ((c.tc : Thread Cert.DuKernelIdeal.nD Cert.DuKernelIdeal.τ).loc Cert.DuKernelIdeal.main_arg8) = m ((c.tc : Thread Cert.DuKernelIdeal.nD Cert.DuKernelIdeal.τ).loc Cert.DuKernelIdeal.main_arg8)
          ∧ r.2.mem ((c.tc : Thread Cert.DuKernelIdeal.nD Cert.DuKernelIdeal.τ).loc Cert.DuKernelIdeal.main_arg9) = m ((c.tc : Thread Cert.DuKernelIdeal.nD Cert.DuKernelIdeal.τ).loc Cert.DuKernelIdeal.main_arg9)
          ∧ r.2.mem ((c.tc : Thread Cert.DuKernelIdeal.nD Cert.DuKernelIdeal.τ).loc Cert.DuKernelIdeal.main_arg10) = m ((c.tc : Thread Cert.DuKernelIdeal.nD Cert.DuKernelIdeal.τ).loc Cert.DuKernelIdeal.main_arg10)
          ∧ r.2.mem ((c.tc : Thread Cert.DuKernelIdeal.nD Cert.DuKernelIdeal.τ).loc Cert.DuKernelIdeal.main_arg11) = m ((c.tc : Thread Cert.DuKernelIdeal.nD Cert.DuKernelIdeal.τ).loc Cert.DuKernelIdeal.main_arg11))
      ∧ θ_run (Cert.DuReferenceIdeal.defs (F := Ideal)) (onTc (τ := Cert.DuReferenceIdeal.τ) (Cert.DuReferenceIdeal.main (F := Ideal))) ⟨m', fun _ => 0, g'⟩ (fun r => ∀ c : Dev Cert.DuReferenceIdeal.nD,
          r.2.mem ((c.tc : Thread Cert.DuReferenceIdeal.nD Cert.DuReferenceIdeal.τ).loc Cert.DuReferenceIdeal.main_v45) = v0 c
          ∧ r.2.mem ((c.tc : Thread Cert.DuReferenceIdeal.nD Cert.DuReferenceIdeal.τ).loc Cert.DuReferenceIdeal.main_v28) = v1 c
          ∧ r.2.mem ((c.tc : Thread Cert.DuReferenceIdeal.nD Cert.DuReferenceIdeal.τ).loc Cert.DuReferenceIdeal.main_arg0) = m' ((c.tc : Thread Cert.DuReferenceIdeal.nD Cert.DuReferenceIdeal.τ).loc Cert.DuReferenceIdeal.main_arg0)
          ∧ r.2.mem ((c.tc : Thread Cert.DuReferenceIdeal.nD Cert.DuReferenceIdeal.τ).loc Cert.DuReferenceIdeal.main_arg1) = m' ((c.tc : Thread Cert.DuReferenceIdeal.nD Cert.DuReferenceIdeal.τ).loc Cert.DuReferenceIdeal.main_arg1)
          ∧ r.2.mem ((c.tc : Thread Cert.DuReferenceIdeal.nD Cert.DuReferenceIdeal.τ).loc Cert.DuReferenceIdeal.main_arg2) = m' ((c.tc : Thread Cert.DuReferenceIdeal.nD Cert.DuReferenceIdeal.τ).loc Cert.DuReferenceIdeal.main_arg2)
          ∧ r.2.mem ((c.tc : Thread Cert.DuReferenceIdeal.nD Cert.DuReferenceIdeal.τ).loc Cert.DuReferenceIdeal.main_arg3) = m' ((c.tc : Thread Cert.DuReferenceIdeal.nD Cert.DuReferenceIdeal.τ).loc Cert.DuReferenceIdeal.main_arg3)
          ∧ r.2.mem ((c.tc : Thread Cert.DuReferenceIdeal.nD Cert.DuReferenceIdeal.τ).loc Cert.DuReferenceIdeal.main_arg4) = m' ((c.tc : Thread Cert.DuReferenceIdeal.nD Cert.DuReferenceIdeal.τ).loc Cert.DuReferenceIdeal.main_arg4)
          ∧ r.2.mem ((c.tc : Thread Cert.DuReferenceIdeal.nD Cert.DuReferenceIdeal.τ).loc Cert.DuReferenceIdeal.main_arg5) = m' ((c.tc : Thread Cert.DuReferenceIdeal.nD Cert.DuReferenceIdeal.τ).loc Cert.DuReferenceIdeal.main_arg5)
          ∧ r.2.mem ((c.tc : Thread Cert.DuReferenceIdeal.nD Cert.DuReferenceIdeal.τ).loc Cert.DuReferenceIdeal.main_arg6) = m' ((c.tc : Thread Cert.DuReferenceIdeal.nD Cert.DuReferenceIdeal.τ).loc Cert.DuReferenceIdeal.main_arg6)
          ∧ r.2.mem ((c.tc : Thread Cert.DuReferenceIdeal.nD Cert.DuReferenceIdeal.τ).loc Cert.DuReferenceIdeal.main_arg7) = m' ((c.tc : Thread Cert.DuReferenceIdeal.nD Cert.DuReferenceIdeal.τ).loc Cert.DuReferenceIdeal.main_arg7)
          ∧ r.2.mem ((c.tc : Thread Cert.DuReferenceIdeal.nD Cert.DuReferenceIdeal.τ).loc Cert.DuReferenceIdeal.main_arg8) = m' ((c.tc : Thread Cert.DuReferenceIdeal.nD Cert.DuReferenceIdeal.τ).loc Cert.DuReferenceIdeal.main_arg8)
          ∧ r.2.mem ((c.tc : Thread Cert.DuReferenceIdeal.nD Cert.DuReferenceIdeal.τ).loc Cert.DuReferenceIdeal.main_arg9) = m' ((c.tc : Thread Cert.DuReferenceIdeal.nD Cert.DuReferenceIdeal.τ).loc Cert.DuReferenceIdeal.main_arg9)
          ∧ r.2.mem ((c.tc : Thread Cert.DuReferenceIdeal.nD Cert.DuReferenceIdeal.τ).loc Cert.DuReferenceIdeal.main_arg10) = m' ((c.tc : Thread Cert.DuReferenceIdeal.nD Cert.DuReferenceIdeal.τ).loc Cert.DuReferenceIdeal.main_arg10)
          ∧ r.2.mem ((c.tc : Thread Cert.DuReferenceIdeal.nD Cert.DuReferenceIdeal.τ).loc Cert.DuReferenceIdeal.main_arg11) = m' ((c.tc : Thread Cert.DuReferenceIdeal.nD Cert.DuReferenceIdeal.τ).loc Cert.DuReferenceIdeal.main_arg11))

def preserves_WupKernel_WupKernelIdeal : Prop :=
  True

def algebraic_WupKernelIdeal_WupReferenceIdeal [hWupKernelIdeal : Cert.WupKernelIdeal.Facts] [hWupReferenceIdeal : Cert.WupReferenceIdeal.Facts] : Prop :=
  ∀ (m : (ℓ : Loc Cert.WupKernelIdeal.nD Cert.WupKernelIdeal.τ Cert.WupKernelIdeal.sig) → Buf (Elt Ideal) ℓ) (g : Dev Cert.WupKernelIdeal.nD → PrngReg)
    (m' : (ℓ : Loc Cert.WupReferenceIdeal.nD Cert.WupReferenceIdeal.τ Cert.WupReferenceIdeal.sig) → Buf (Elt Ideal) ℓ) (g' : Dev Cert.WupReferenceIdeal.nD → PrngReg), Pre_WupKernelIdeal m →
    (∀ c : Dev Cert.WupKernelIdeal.nD,
      m' ((c.tc : Thread Cert.WupReferenceIdeal.nD Cert.WupReferenceIdeal.τ).loc Cert.WupReferenceIdeal.main_arg0) = m ((c.tc : Thread Cert.WupKernelIdeal.nD Cert.WupKernelIdeal.τ).loc Cert.WupKernelIdeal.main_arg0)
      ∧ m' ((c.tc : Thread Cert.WupReferenceIdeal.nD Cert.WupReferenceIdeal.τ).loc Cert.WupReferenceIdeal.main_arg1) = m ((c.tc : Thread Cert.WupKernelIdeal.nD Cert.WupKernelIdeal.τ).loc Cert.WupKernelIdeal.main_arg1)) →
    ∃ (v0 : (c : Dev Cert.WupKernelIdeal.nD) → Buf (Elt Ideal) ((c.tc : Thread Cert.WupKernelIdeal.nD Cert.WupKernelIdeal.τ).loc Cert.WupKernelIdeal.main_v2)),
      θ_run (Cert.WupKernelIdeal.defs (F := Ideal)) (onTc (τ := Cert.WupKernelIdeal.τ) (Cert.WupKernelIdeal.main (F := Ideal))) ⟨m, fun _ => 0, g⟩ (fun r => ∀ c : Dev Cert.WupKernelIdeal.nD,
          r.2.mem ((c.tc : Thread Cert.WupKernelIdeal.nD Cert.WupKernelIdeal.τ).loc Cert.WupKernelIdeal.main_v2) = v0 c
          ∧ r.2.mem ((c.tc : Thread Cert.WupKernelIdeal.nD Cert.WupKernelIdeal.τ).loc Cert.WupKernelIdeal.main_arg0) = m ((c.tc : Thread Cert.WupKernelIdeal.nD Cert.WupKernelIdeal.τ).loc Cert.WupKernelIdeal.main_arg0)
          ∧ r.2.mem ((c.tc : Thread Cert.WupKernelIdeal.nD Cert.WupKernelIdeal.τ).loc Cert.WupKernelIdeal.main_arg1) = m ((c.tc : Thread Cert.WupKernelIdeal.nD Cert.WupKernelIdeal.τ).loc Cert.WupKernelIdeal.main_arg1))
      ∧ θ_run (Cert.WupReferenceIdeal.defs (F := Ideal)) (onTc (τ := Cert.WupReferenceIdeal.τ) (Cert.WupReferenceIdeal.main (F := Ideal))) ⟨m', fun _ => 0, g'⟩ (fun r => ∀ c : Dev Cert.WupReferenceIdeal.nD,
          r.2.mem ((c.tc : Thread Cert.WupReferenceIdeal.nD Cert.WupReferenceIdeal.τ).loc Cert.WupReferenceIdeal.main_v5) = v0 c
          ∧ r.2.mem ((c.tc : Thread Cert.WupReferenceIdeal.nD Cert.WupReferenceIdeal.τ).loc Cert.WupReferenceIdeal.main_arg0) = m' ((c.tc : Thread Cert.WupReferenceIdeal.nD Cert.WupReferenceIdeal.τ).loc Cert.WupReferenceIdeal.main_arg0)
          ∧ r.2.mem ((c.tc : Thread Cert.WupReferenceIdeal.nD Cert.WupReferenceIdeal.τ).loc Cert.WupReferenceIdeal.main_arg1) = m' ((c.tc : Thread Cert.WupReferenceIdeal.nD Cert.WupReferenceIdeal.τ).loc Cert.WupReferenceIdeal.main_arg1))

def preserves_WdnKernel_WdnKernelIdeal : Prop :=
  True

def algebraic_WdnKernelIdeal_WdnReferenceIdeal [hWdnKernelIdeal : Cert.WdnKernelIdeal.Facts] [hWdnReferenceIdeal : Cert.WdnReferenceIdeal.Facts] : Prop :=
  ∀ (m : (ℓ : Loc Cert.WdnKernelIdeal.nD Cert.WdnKernelIdeal.τ Cert.WdnKernelIdeal.sig) → Buf (Elt Ideal) ℓ) (g : Dev Cert.WdnKernelIdeal.nD → PrngReg)
    (m' : (ℓ : Loc Cert.WdnReferenceIdeal.nD Cert.WdnReferenceIdeal.τ Cert.WdnReferenceIdeal.sig) → Buf (Elt Ideal) ℓ) (g' : Dev Cert.WdnReferenceIdeal.nD → PrngReg), Pre_WdnKernelIdeal m →
    (∀ c : Dev Cert.WdnKernelIdeal.nD,
      m' ((c.tc : Thread Cert.WdnReferenceIdeal.nD Cert.WdnReferenceIdeal.τ).loc Cert.WdnReferenceIdeal.main_arg0) = m ((c.tc : Thread Cert.WdnKernelIdeal.nD Cert.WdnKernelIdeal.τ).loc Cert.WdnKernelIdeal.main_arg0)
      ∧ m' ((c.tc : Thread Cert.WdnReferenceIdeal.nD Cert.WdnReferenceIdeal.τ).loc Cert.WdnReferenceIdeal.main_arg1) = m ((c.tc : Thread Cert.WdnKernelIdeal.nD Cert.WdnKernelIdeal.τ).loc Cert.WdnKernelIdeal.main_arg1)) →
    ∃ (v0 : (c : Dev Cert.WdnKernelIdeal.nD) → Buf (Elt Ideal) ((c.tc : Thread Cert.WdnKernelIdeal.nD Cert.WdnKernelIdeal.τ).loc Cert.WdnKernelIdeal.main_v2)),
      θ_run (Cert.WdnKernelIdeal.defs (F := Ideal)) (onTc (τ := Cert.WdnKernelIdeal.τ) (Cert.WdnKernelIdeal.main (F := Ideal))) ⟨m, fun _ => 0, g⟩ (fun r => ∀ c : Dev Cert.WdnKernelIdeal.nD,
          r.2.mem ((c.tc : Thread Cert.WdnKernelIdeal.nD Cert.WdnKernelIdeal.τ).loc Cert.WdnKernelIdeal.main_v2) = v0 c
          ∧ r.2.mem ((c.tc : Thread Cert.WdnKernelIdeal.nD Cert.WdnKernelIdeal.τ).loc Cert.WdnKernelIdeal.main_arg0) = m ((c.tc : Thread Cert.WdnKernelIdeal.nD Cert.WdnKernelIdeal.τ).loc Cert.WdnKernelIdeal.main_arg0)
          ∧ r.2.mem ((c.tc : Thread Cert.WdnKernelIdeal.nD Cert.WdnKernelIdeal.τ).loc Cert.WdnKernelIdeal.main_arg1) = m ((c.tc : Thread Cert.WdnKernelIdeal.nD Cert.WdnKernelIdeal.τ).loc Cert.WdnKernelIdeal.main_arg1))
      ∧ θ_run (Cert.WdnReferenceIdeal.defs (F := Ideal)) (onTc (τ := Cert.WdnReferenceIdeal.τ) (Cert.WdnReferenceIdeal.main (F := Ideal))) ⟨m', fun _ => 0, g'⟩ (fun r => ∀ c : Dev Cert.WdnReferenceIdeal.nD,
          r.2.mem ((c.tc : Thread Cert.WdnReferenceIdeal.nD Cert.WdnReferenceIdeal.τ).loc Cert.WdnReferenceIdeal.main_v4) = v0 c
          ∧ r.2.mem ((c.tc : Thread Cert.WdnReferenceIdeal.nD Cert.WdnReferenceIdeal.τ).loc Cert.WdnReferenceIdeal.main_arg0) = m' ((c.tc : Thread Cert.WdnReferenceIdeal.nD Cert.WdnReferenceIdeal.τ).loc Cert.WdnReferenceIdeal.main_arg0)
          ∧ r.2.mem ((c.tc : Thread Cert.WdnReferenceIdeal.nD Cert.WdnReferenceIdeal.τ).loc Cert.WdnReferenceIdeal.main_arg1) = m' ((c.tc : Thread Cert.WdnReferenceIdeal.nD Cert.WdnReferenceIdeal.τ).loc Cert.WdnReferenceIdeal.main_arg1))

def preserves_WmixKernel_WmixKernelIdeal : Prop :=
  True

def algebraic_WmixKernelIdeal_WmixReferenceIdeal [hWmixKernelIdeal : Cert.WmixKernelIdeal.Facts] [hWmixReferenceIdeal : Cert.WmixReferenceIdeal.Facts] : Prop :=
  ∀ (m : (ℓ : Loc Cert.WmixKernelIdeal.nD Cert.WmixKernelIdeal.τ Cert.WmixKernelIdeal.sig) → Buf (Elt Ideal) ℓ) (g : Dev Cert.WmixKernelIdeal.nD → PrngReg)
    (m' : (ℓ : Loc Cert.WmixReferenceIdeal.nD Cert.WmixReferenceIdeal.τ Cert.WmixReferenceIdeal.sig) → Buf (Elt Ideal) ℓ) (g' : Dev Cert.WmixReferenceIdeal.nD → PrngReg), Pre_WmixKernelIdeal m →
    (∀ c : Dev Cert.WmixKernelIdeal.nD,
      m' ((c.tc : Thread Cert.WmixReferenceIdeal.nD Cert.WmixReferenceIdeal.τ).loc Cert.WmixReferenceIdeal.main_arg0) = m ((c.tc : Thread Cert.WmixKernelIdeal.nD Cert.WmixKernelIdeal.τ).loc Cert.WmixKernelIdeal.main_arg0)
      ∧ m' ((c.tc : Thread Cert.WmixReferenceIdeal.nD Cert.WmixReferenceIdeal.τ).loc Cert.WmixReferenceIdeal.main_arg1) = m ((c.tc : Thread Cert.WmixKernelIdeal.nD Cert.WmixKernelIdeal.τ).loc Cert.WmixKernelIdeal.main_arg1)) →
    ∃ (v0 : (c : Dev Cert.WmixKernelIdeal.nD) → Buf (Elt Ideal) ((c.tc : Thread Cert.WmixKernelIdeal.nD Cert.WmixKernelIdeal.τ).loc Cert.WmixKernelIdeal.main_v2)),
      θ_run (Cert.WmixKernelIdeal.defs (F := Ideal)) (onTc (τ := Cert.WmixKernelIdeal.τ) (Cert.WmixKernelIdeal.main (F := Ideal))) ⟨m, fun _ => 0, g⟩ (fun r => ∀ c : Dev Cert.WmixKernelIdeal.nD,
          r.2.mem ((c.tc : Thread Cert.WmixKernelIdeal.nD Cert.WmixKernelIdeal.τ).loc Cert.WmixKernelIdeal.main_v2) = v0 c
          ∧ r.2.mem ((c.tc : Thread Cert.WmixKernelIdeal.nD Cert.WmixKernelIdeal.τ).loc Cert.WmixKernelIdeal.main_arg0) = m ((c.tc : Thread Cert.WmixKernelIdeal.nD Cert.WmixKernelIdeal.τ).loc Cert.WmixKernelIdeal.main_arg0)
          ∧ r.2.mem ((c.tc : Thread Cert.WmixKernelIdeal.nD Cert.WmixKernelIdeal.τ).loc Cert.WmixKernelIdeal.main_arg1) = m ((c.tc : Thread Cert.WmixKernelIdeal.nD Cert.WmixKernelIdeal.τ).loc Cert.WmixKernelIdeal.main_arg1))
      ∧ θ_run (Cert.WmixReferenceIdeal.defs (F := Ideal)) (onTc (τ := Cert.WmixReferenceIdeal.τ) (Cert.WmixReferenceIdeal.main (F := Ideal))) ⟨m', fun _ => 0, g'⟩ (fun r => ∀ c : Dev Cert.WmixReferenceIdeal.nD,
          r.2.mem ((c.tc : Thread Cert.WmixReferenceIdeal.nD Cert.WmixReferenceIdeal.τ).loc Cert.WmixReferenceIdeal.main_v4) = v0 c
          ∧ r.2.mem ((c.tc : Thread Cert.WmixReferenceIdeal.nD Cert.WmixReferenceIdeal.τ).loc Cert.WmixReferenceIdeal.main_arg0) = m' ((c.tc : Thread Cert.WmixReferenceIdeal.nD Cert.WmixReferenceIdeal.τ).loc Cert.WmixReferenceIdeal.main_arg0)
          ∧ r.2.mem ((c.tc : Thread Cert.WmixReferenceIdeal.nD Cert.WmixReferenceIdeal.τ).loc Cert.WmixReferenceIdeal.main_arg1) = m' ((c.tc : Thread Cert.WmixReferenceIdeal.nD Cert.WmixReferenceIdeal.τ).loc Cert.WmixReferenceIdeal.main_arg1))

def preserves_WsoKernel_WsoKernelIdeal : Prop :=
  True

def algebraic_WsoKernelIdeal_WsoReferenceIdeal [hWsoKernelIdeal : Cert.WsoKernelIdeal.Facts] [hWsoReferenceIdeal : Cert.WsoReferenceIdeal.Facts] : Prop :=
  ∀ (m : (ℓ : Loc Cert.WsoKernelIdeal.nD Cert.WsoKernelIdeal.τ Cert.WsoKernelIdeal.sig) → Buf (Elt Ideal) ℓ) (g : Dev Cert.WsoKernelIdeal.nD → PrngReg)
    (m' : (ℓ : Loc Cert.WsoReferenceIdeal.nD Cert.WsoReferenceIdeal.τ Cert.WsoReferenceIdeal.sig) → Buf (Elt Ideal) ℓ) (g' : Dev Cert.WsoReferenceIdeal.nD → PrngReg), Pre_WsoKernelIdeal m →
    (∀ c : Dev Cert.WsoKernelIdeal.nD,
      m' ((c.tc : Thread Cert.WsoReferenceIdeal.nD Cert.WsoReferenceIdeal.τ).loc Cert.WsoReferenceIdeal.main_arg0) = m ((c.tc : Thread Cert.WsoKernelIdeal.nD Cert.WsoKernelIdeal.τ).loc Cert.WsoKernelIdeal.main_arg0)
      ∧ m' ((c.tc : Thread Cert.WsoReferenceIdeal.nD Cert.WsoReferenceIdeal.τ).loc Cert.WsoReferenceIdeal.main_arg1) = m ((c.tc : Thread Cert.WsoKernelIdeal.nD Cert.WsoKernelIdeal.τ).loc Cert.WsoKernelIdeal.main_arg1)) →
    ∃ (v0 : (c : Dev Cert.WsoKernelIdeal.nD) → Buf (Elt Ideal) ((c.tc : Thread Cert.WsoKernelIdeal.nD Cert.WsoKernelIdeal.τ).loc Cert.WsoKernelIdeal.main_v2)),
      θ_run (Cert.WsoKernelIdeal.defs (F := Ideal)) (onTc (τ := Cert.WsoKernelIdeal.τ) (Cert.WsoKernelIdeal.main (F := Ideal))) ⟨m, fun _ => 0, g⟩ (fun r => ∀ c : Dev Cert.WsoKernelIdeal.nD,
          r.2.mem ((c.tc : Thread Cert.WsoKernelIdeal.nD Cert.WsoKernelIdeal.τ).loc Cert.WsoKernelIdeal.main_v2) = v0 c
          ∧ r.2.mem ((c.tc : Thread Cert.WsoKernelIdeal.nD Cert.WsoKernelIdeal.τ).loc Cert.WsoKernelIdeal.main_arg0) = m ((c.tc : Thread Cert.WsoKernelIdeal.nD Cert.WsoKernelIdeal.τ).loc Cert.WsoKernelIdeal.main_arg0)
          ∧ r.2.mem ((c.tc : Thread Cert.WsoKernelIdeal.nD Cert.WsoKernelIdeal.τ).loc Cert.WsoKernelIdeal.main_arg1) = m ((c.tc : Thread Cert.WsoKernelIdeal.nD Cert.WsoKernelIdeal.τ).loc Cert.WsoKernelIdeal.main_arg1))
      ∧ θ_run (Cert.WsoReferenceIdeal.defs (F := Ideal)) (onTc (τ := Cert.WsoReferenceIdeal.τ) (Cert.WsoReferenceIdeal.main (F := Ideal))) ⟨m', fun _ => 0, g'⟩ (fun r => ∀ c : Dev Cert.WsoReferenceIdeal.nD,
          r.2.mem ((c.tc : Thread Cert.WsoReferenceIdeal.nD Cert.WsoReferenceIdeal.τ).loc Cert.WsoReferenceIdeal.main_v4) = v0 c
          ∧ r.2.mem ((c.tc : Thread Cert.WsoReferenceIdeal.nD Cert.WsoReferenceIdeal.τ).loc Cert.WsoReferenceIdeal.main_arg0) = m' ((c.tc : Thread Cert.WsoReferenceIdeal.nD Cert.WsoReferenceIdeal.τ).loc Cert.WsoReferenceIdeal.main_arg0)
          ∧ r.2.mem ((c.tc : Thread Cert.WsoReferenceIdeal.nD Cert.WsoReferenceIdeal.τ).loc Cert.WsoReferenceIdeal.main_arg1) = m' ((c.tc : Thread Cert.WsoReferenceIdeal.nD Cert.WsoReferenceIdeal.τ).loc Cert.WsoReferenceIdeal.main_arg1))

def preserves_WaoKernel_WaoKernelIdeal : Prop :=
  True

def algebraic_WaoKernelIdeal_WaoReferenceIdeal [hWaoKernelIdeal : Cert.WaoKernelIdeal.Facts] [hWaoReferenceIdeal : Cert.WaoReferenceIdeal.Facts] : Prop :=
  ∀ (m : (ℓ : Loc Cert.WaoKernelIdeal.nD Cert.WaoKernelIdeal.τ Cert.WaoKernelIdeal.sig) → Buf (Elt Ideal) ℓ) (g : Dev Cert.WaoKernelIdeal.nD → PrngReg)
    (m' : (ℓ : Loc Cert.WaoReferenceIdeal.nD Cert.WaoReferenceIdeal.τ Cert.WaoReferenceIdeal.sig) → Buf (Elt Ideal) ℓ) (g' : Dev Cert.WaoReferenceIdeal.nD → PrngReg), Pre_WaoKernelIdeal m →
    (∀ c : Dev Cert.WaoKernelIdeal.nD,
      m' ((c.tc : Thread Cert.WaoReferenceIdeal.nD Cert.WaoReferenceIdeal.τ).loc Cert.WaoReferenceIdeal.main_arg0) = m ((c.tc : Thread Cert.WaoKernelIdeal.nD Cert.WaoKernelIdeal.τ).loc Cert.WaoKernelIdeal.main_arg0)
      ∧ m' ((c.tc : Thread Cert.WaoReferenceIdeal.nD Cert.WaoReferenceIdeal.τ).loc Cert.WaoReferenceIdeal.main_arg1) = m ((c.tc : Thread Cert.WaoKernelIdeal.nD Cert.WaoKernelIdeal.τ).loc Cert.WaoKernelIdeal.main_arg1)) →
    ∃ (v0 : (c : Dev Cert.WaoKernelIdeal.nD) → Buf (Elt Ideal) ((c.tc : Thread Cert.WaoKernelIdeal.nD Cert.WaoKernelIdeal.τ).loc Cert.WaoKernelIdeal.main_v2)),
      θ_run (Cert.WaoKernelIdeal.defs (F := Ideal)) (onTc (τ := Cert.WaoKernelIdeal.τ) (Cert.WaoKernelIdeal.main (F := Ideal))) ⟨m, fun _ => 0, g⟩ (fun r => ∀ c : Dev Cert.WaoKernelIdeal.nD,
          r.2.mem ((c.tc : Thread Cert.WaoKernelIdeal.nD Cert.WaoKernelIdeal.τ).loc Cert.WaoKernelIdeal.main_v2) = v0 c
          ∧ r.2.mem ((c.tc : Thread Cert.WaoKernelIdeal.nD Cert.WaoKernelIdeal.τ).loc Cert.WaoKernelIdeal.main_arg0) = m ((c.tc : Thread Cert.WaoKernelIdeal.nD Cert.WaoKernelIdeal.τ).loc Cert.WaoKernelIdeal.main_arg0)
          ∧ r.2.mem ((c.tc : Thread Cert.WaoKernelIdeal.nD Cert.WaoKernelIdeal.τ).loc Cert.WaoKernelIdeal.main_arg1) = m ((c.tc : Thread Cert.WaoKernelIdeal.nD Cert.WaoKernelIdeal.τ).loc Cert.WaoKernelIdeal.main_arg1))
      ∧ θ_run (Cert.WaoReferenceIdeal.defs (F := Ideal)) (onTc (τ := Cert.WaoReferenceIdeal.τ) (Cert.WaoReferenceIdeal.main (F := Ideal))) ⟨m', fun _ => 0, g'⟩ (fun r => ∀ c : Dev Cert.WaoReferenceIdeal.nD,
          r.2.mem ((c.tc : Thread Cert.WaoReferenceIdeal.nD Cert.WaoReferenceIdeal.τ).loc Cert.WaoReferenceIdeal.main_v4) = v0 c
          ∧ r.2.mem ((c.tc : Thread Cert.WaoReferenceIdeal.nD Cert.WaoReferenceIdeal.τ).loc Cert.WaoReferenceIdeal.main_arg0) = m' ((c.tc : Thread Cert.WaoReferenceIdeal.nD Cert.WaoReferenceIdeal.τ).loc Cert.WaoReferenceIdeal.main_arg0)
          ∧ r.2.mem ((c.tc : Thread Cert.WaoReferenceIdeal.nD Cert.WaoReferenceIdeal.τ).loc Cert.WaoReferenceIdeal.main_arg1) = m' ((c.tc : Thread Cert.WaoReferenceIdeal.nD Cert.WaoReferenceIdeal.τ).loc Cert.WaoReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)) →
    ∃ (v0 : (c : Dev Cert.DhKernelIdeal.nD) → Buf (Elt Ideal) ((c.tc : Thread Cert.DhKernelIdeal.nD Cert.DhKernelIdeal.τ).loc Cert.DhKernelIdeal.main_v16_0)) (v1 : (c : Dev Cert.DhKernelIdeal.nD) → Buf (Elt Ideal) ((c.tc : Thread Cert.DhKernelIdeal.nD Cert.DhKernelIdeal.τ).loc Cert.DhKernelIdeal.main_v16_1)) (v2 : (c : Dev Cert.DhKernelIdeal.nD) → Buf (Elt Ideal) ((c.tc : Thread Cert.DhKernelIdeal.nD Cert.DhKernelIdeal.τ).loc Cert.DhKernelIdeal.main_v16_2)) (v3 : (c : Dev Cert.DhKernelIdeal.nD) → Buf (Elt Ideal) ((c.tc : Thread Cert.DhKernelIdeal.nD Cert.DhKernelIdeal.τ).loc Cert.DhKernelIdeal.main_v16_3)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v16_0) = v0 c
          ∧ r.2.mem ((c.tc : Thread Cert.DhKernelIdeal.nD Cert.DhKernelIdeal.τ).loc Cert.DhKernelIdeal.main_v16_1) = v1 c
          ∧ r.2.mem ((c.tc : Thread Cert.DhKernelIdeal.nD Cert.DhKernelIdeal.τ).loc Cert.DhKernelIdeal.main_v16_2) = v2 c
          ∧ r.2.mem ((c.tc : Thread Cert.DhKernelIdeal.nD Cert.DhKernelIdeal.τ).loc Cert.DhKernelIdeal.main_v16_3) = v3 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v52) = v0 c
          ∧ r.2.mem ((c.tc : Thread Cert.DhReferenceIdeal.nD Cert.DhReferenceIdeal.τ).loc Cert.DhReferenceIdeal.main_v73) = v1 c
          ∧ r.2.mem ((c.tc : Thread Cert.DhReferenceIdeal.nD Cert.DhReferenceIdeal.τ).loc Cert.DhReferenceIdeal.main_v35) = v2 c
          ∧ r.2.mem ((c.tc : Thread Cert.DhReferenceIdeal.nD Cert.DhReferenceIdeal.τ).loc Cert.DhReferenceIdeal.main_v56) = v3 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)) (v3 : (c : Dev Cert.LossKernelIdeal.nD) → Buf (Elt Ideal) ((c.tc : Thread Cert.LossKernelIdeal.nD Cert.LossKernelIdeal.τ).loc Cert.LossKernelIdeal.main_v2_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_v2_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v31) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v34) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)) →
    ∃ (v0 : (c : Dev Cert.DactKernelIdeal.nD) → Buf (Elt Ideal) ((c.tc : Thread Cert.DactKernelIdeal.nD Cert.DactKernelIdeal.τ).loc Cert.DactKernelIdeal.main_v3)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v3) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v3) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DaoKernel_DaoKernelIdeal : Prop :=
  True

def algebraic_DaoKernelIdeal_DaoReferenceIdeal [hDaoKernelIdeal : Cert.DaoKernelIdeal.Facts] [hDaoReferenceIdeal : Cert.DaoReferenceIdeal.Facts] : Prop :=
  ∀ (m : (ℓ : Loc Cert.DaoKernelIdeal.nD Cert.DaoKernelIdeal.τ Cert.DaoKernelIdeal.sig) → Buf (Elt Ideal) ℓ) (g : Dev Cert.DaoKernelIdeal.nD → PrngReg)
    (m' : (ℓ : Loc Cert.DaoReferenceIdeal.nD Cert.DaoReferenceIdeal.τ Cert.DaoReferenceIdeal.sig) → Buf (Elt Ideal) ℓ) (g' : Dev Cert.DaoReferenceIdeal.nD → PrngReg), Pre_DaoKernelIdeal m →
    (∀ c : Dev Cert.DaoKernelIdeal.nD,
      m' ((c.tc : Thread Cert.DaoReferenceIdeal.nD Cert.DaoReferenceIdeal.τ).loc Cert.DaoReferenceIdeal.main_arg0) = m ((c.tc : Thread Cert.DaoKernelIdeal.nD Cert.DaoKernelIdeal.τ).loc Cert.DaoKernelIdeal.main_arg0)
      ∧ m' ((c.tc : Thread Cert.DaoReferenceIdeal.nD Cert.DaoReferenceIdeal.τ).loc Cert.DaoReferenceIdeal.main_arg1) = m ((c.tc : Thread Cert.DaoKernelIdeal.nD Cert.DaoKernelIdeal.τ).loc Cert.DaoKernelIdeal.main_arg1)) →
    ∃ (v0 : (c : Dev Cert.DaoKernelIdeal.nD) → Buf (Elt Ideal) ((c.tc : Thread Cert.DaoKernelIdeal.nD Cert.DaoKernelIdeal.τ).loc Cert.DaoKernelIdeal.main_v3)),
      θ_run (Cert.DaoKernelIdeal.defs (F := Ideal)) (onTc (τ := Cert.DaoKernelIdeal.τ) (Cert.DaoKernelIdeal.main (F := Ideal))) ⟨m, fun _ => 0, g⟩ (fun r => ∀ c : Dev Cert.DaoKernelIdeal.nD,
          r.2.mem ((c.tc : Thread Cert.DaoKernelIdeal.nD Cert.DaoKernelIdeal.τ).loc Cert.DaoKernelIdeal.main_v3) = v0 c
          ∧ r.2.mem ((c.tc : Thread Cert.DaoKernelIdeal.nD Cert.DaoKernelIdeal.τ).loc Cert.DaoKernelIdeal.main_arg0) = m ((c.tc : Thread Cert.DaoKernelIdeal.nD Cert.DaoKernelIdeal.τ).loc Cert.DaoKernelIdeal.main_arg0)
          ∧ r.2.mem ((c.tc : Thread Cert.DaoKernelIdeal.nD Cert.DaoKernelIdeal.τ).loc Cert.DaoKernelIdeal.main_arg1) = m ((c.tc : Thread Cert.DaoKernelIdeal.nD Cert.DaoKernelIdeal.τ).loc Cert.DaoKernelIdeal.main_arg1))
      ∧ θ_run (Cert.DaoReferenceIdeal.defs (F := Ideal)) (onTc (τ := Cert.DaoReferenceIdeal.τ) (Cert.DaoReferenceIdeal.main (F := Ideal))) ⟨m', fun _ => 0, g'⟩ (fun r => ∀ c : Dev Cert.DaoReferenceIdeal.nD,
          r.2.mem ((c.tc : Thread Cert.DaoReferenceIdeal.nD Cert.DaoReferenceIdeal.τ).loc Cert.DaoReferenceIdeal.main_v3) = v0 c
          ∧ r.2.mem ((c.tc : Thread Cert.DaoReferenceIdeal.nD Cert.DaoReferenceIdeal.τ).loc Cert.DaoReferenceIdeal.main_arg0) = m' ((c.tc : Thread Cert.DaoReferenceIdeal.nD Cert.DaoReferenceIdeal.τ).loc Cert.DaoReferenceIdeal.main_arg0)
          ∧ r.2.mem ((c.tc : Thread Cert.DaoReferenceIdeal.nD Cert.DaoReferenceIdeal.τ).loc Cert.DaoReferenceIdeal.main_arg1) = m' ((c.tc : Thread Cert.DaoReferenceIdeal.nD Cert.DaoReferenceIdeal.τ).loc Cert.DaoReferenceIdeal.main_arg1))

def preserves_AoutKernel_AoutKernelIdeal : Prop :=
  True

def algebraic_AoutKernelIdeal_AoutReferenceIdeal [hAoutKernelIdeal : Cert.AoutKernelIdeal.Facts] [hAoutReferenceIdeal : Cert.AoutReferenceIdeal.Facts] : Prop :=
  ∀ (m : (ℓ : Loc Cert.AoutKernelIdeal.nD Cert.AoutKernelIdeal.τ Cert.AoutKernelIdeal.sig) → Buf (Elt Ideal) ℓ) (g : Dev Cert.AoutKernelIdeal.nD → PrngReg)
    (m' : (ℓ : Loc Cert.AoutReferenceIdeal.nD Cert.AoutReferenceIdeal.τ Cert.AoutReferenceIdeal.sig) → Buf (Elt Ideal) ℓ) (g' : Dev Cert.AoutReferenceIdeal.nD → PrngReg), Pre_AoutKernelIdeal m →
    (∀ c : Dev Cert.AoutKernelIdeal.nD,
      m' ((c.tc : Thread Cert.AoutReferenceIdeal.nD Cert.AoutReferenceIdeal.τ).loc Cert.AoutReferenceIdeal.main_arg0) = m ((c.tc : Thread Cert.AoutKernelIdeal.nD Cert.AoutKernelIdeal.τ).loc Cert.AoutKernelIdeal.main_arg0)
      ∧ m' ((c.tc : Thread Cert.AoutReferenceIdeal.nD Cert.AoutReferenceIdeal.τ).loc Cert.AoutReferenceIdeal.main_arg1) = m ((c.tc : Thread Cert.AoutKernelIdeal.nD Cert.AoutKernelIdeal.τ).loc Cert.AoutKernelIdeal.main_arg1)) →
    ∃ (v0 : (c : Dev Cert.AoutKernelIdeal.nD) → Buf (Elt Ideal) ((c.tc : Thread Cert.AoutKernelIdeal.nD Cert.AoutKernelIdeal.τ).loc Cert.AoutKernelIdeal.main_v2)),
      θ_run (Cert.AoutKernelIdeal.defs (F := Ideal)) (onTc (τ := Cert.AoutKernelIdeal.τ) (Cert.AoutKernelIdeal.main (F := Ideal))) ⟨m, fun _ => 0, g⟩ (fun r => ∀ c : Dev Cert.AoutKernelIdeal.nD,
          r.2.mem ((c.tc : Thread Cert.AoutKernelIdeal.nD Cert.AoutKernelIdeal.τ).loc Cert.AoutKernelIdeal.main_v2) = v0 c
          ∧ r.2.mem ((c.tc : Thread Cert.AoutKernelIdeal.nD Cert.AoutKernelIdeal.τ).loc Cert.AoutKernelIdeal.main_arg0) = m ((c.tc : Thread Cert.AoutKernelIdeal.nD Cert.AoutKernelIdeal.τ).loc Cert.AoutKernelIdeal.main_arg0)
          ∧ r.2.mem ((c.tc : Thread Cert.AoutKernelIdeal.nD Cert.AoutKernelIdeal.τ).loc Cert.AoutKernelIdeal.main_arg1) = m ((c.tc : Thread Cert.AoutKernelIdeal.nD Cert.AoutKernelIdeal.τ).loc Cert.AoutKernelIdeal.main_arg1))
      ∧ θ_run (Cert.AoutReferenceIdeal.defs (F := Ideal)) (onTc (τ := Cert.AoutReferenceIdeal.τ) (Cert.AoutReferenceIdeal.main (F := Ideal))) ⟨m', fun _ => 0, g'⟩ (fun r => ∀ c : Dev Cert.AoutReferenceIdeal.nD,
          r.2.mem ((c.tc : Thread Cert.AoutReferenceIdeal.nD Cert.AoutReferenceIdeal.τ).loc Cert.AoutReferenceIdeal.main_v0) = v0 c
          ∧ r.2.mem ((c.tc : Thread Cert.AoutReferenceIdeal.nD Cert.AoutReferenceIdeal.τ).loc Cert.AoutReferenceIdeal.main_arg0) = m' ((c.tc : Thread Cert.AoutReferenceIdeal.nD Cert.AoutReferenceIdeal.τ).loc Cert.AoutReferenceIdeal.main_arg0)
          ∧ r.2.mem ((c.tc : Thread Cert.AoutReferenceIdeal.nD Cert.AoutReferenceIdeal.τ).loc Cert.AoutReferenceIdeal.main_arg1) = m' ((c.tc : Thread Cert.AoutReferenceIdeal.nD Cert.AoutReferenceIdeal.τ).loc Cert.AoutReferenceIdeal.main_arg1))

def preserves_MixoKernel_MixoKernelIdeal : Prop :=
  True

def algebraic_MixoKernelIdeal_MixoReferenceIdeal [hMixoKernelIdeal : Cert.MixoKernelIdeal.Facts] [hMixoReferenceIdeal : Cert.MixoReferenceIdeal.Facts] : Prop :=
  ∀ (m : (ℓ : Loc Cert.MixoKernelIdeal.nD Cert.MixoKernelIdeal.τ Cert.MixoKernelIdeal.sig) → Buf (Elt Ideal) ℓ) (g : Dev Cert.MixoKernelIdeal.nD → PrngReg)
    (m' : (ℓ : Loc Cert.MixoReferenceIdeal.nD Cert.MixoReferenceIdeal.τ Cert.MixoReferenceIdeal.sig) → Buf (Elt Ideal) ℓ) (g' : Dev Cert.MixoReferenceIdeal.nD → PrngReg), Pre_MixoKernelIdeal m →
    (∀ c : Dev Cert.MixoKernelIdeal.nD,
      m' ((c.tc : Thread Cert.MixoReferenceIdeal.nD Cert.MixoReferenceIdeal.τ).loc Cert.MixoReferenceIdeal.main_arg0) = m ((c.tc : Thread Cert.MixoKernelIdeal.nD Cert.MixoKernelIdeal.τ).loc Cert.MixoKernelIdeal.main_arg0)
      ∧ m' ((c.tc : Thread Cert.MixoReferenceIdeal.nD Cert.MixoReferenceIdeal.τ).loc Cert.MixoReferenceIdeal.main_arg1) = m ((c.tc : Thread Cert.MixoKernelIdeal.nD Cert.MixoKernelIdeal.τ).loc Cert.MixoKernelIdeal.main_arg1)
      ∧ m' ((c.tc : Thread Cert.MixoReferenceIdeal.nD Cert.MixoReferenceIdeal.τ).loc Cert.MixoReferenceIdeal.main_arg2) = m ((c.tc : Thread Cert.MixoKernelIdeal.nD Cert.MixoKernelIdeal.τ).loc Cert.MixoKernelIdeal.main_arg2)
      ∧ m' ((c.tc : Thread Cert.MixoReferenceIdeal.nD Cert.MixoReferenceIdeal.τ).loc Cert.MixoReferenceIdeal.main_arg3) = m ((c.tc : Thread Cert.MixoKernelIdeal.nD Cert.MixoKernelIdeal.τ).loc Cert.MixoKernelIdeal.main_arg3)) →
    ∃ (v0 : (c : Dev Cert.MixoKernelIdeal.nD) → Buf (Elt Ideal) ((c.tc : Thread Cert.MixoKernelIdeal.nD Cert.MixoKernelIdeal.τ).loc Cert.MixoKernelIdeal.main_v2_0)) (v1 : (c : Dev Cert.MixoKernelIdeal.nD) → Buf (Elt Ideal) ((c.tc : Thread Cert.MixoKernelIdeal.nD Cert.MixoKernelIdeal.τ).loc Cert.MixoKernelIdeal.main_v2_1)),
      θ_run (Cert.MixoKernelIdeal.defs (F := Ideal)) (onTc (τ := Cert.MixoKernelIdeal.τ) (Cert.MixoKernelIdeal.main (F := Ideal))) ⟨m, fun _ => 0, g⟩ (fun r => ∀ c : Dev Cert.MixoKernelIdeal.nD,
          r.2.mem ((c.tc : Thread Cert.MixoKernelIdeal.nD Cert.MixoKernelIdeal.τ).loc Cert.MixoKernelIdeal.main_v2_0) = v0 c
          ∧ r.2.mem ((c.tc : Thread Cert.MixoKernelIdeal.nD Cert.MixoKernelIdeal.τ).loc Cert.MixoKernelIdeal.main_v2_1) = v1 c
          ∧ r.2.mem ((c.tc : Thread Cert.MixoKernelIdeal.nD Cert.MixoKernelIdeal.τ).loc Cert.MixoKernelIdeal.main_arg0) = m ((c.tc : Thread Cert.MixoKernelIdeal.nD Cert.MixoKernelIdeal.τ).loc Cert.MixoKernelIdeal.main_arg0)
          ∧ r.2.mem ((c.tc : Thread Cert.MixoKernelIdeal.nD Cert.MixoKernelIdeal.τ).loc Cert.MixoKernelIdeal.main_arg1) = m ((c.tc : Thread Cert.MixoKernelIdeal.nD Cert.MixoKernelIdeal.τ).loc Cert.MixoKernelIdeal.main_arg1)
          ∧ r.2.mem ((c.tc : Thread Cert.MixoKernelIdeal.nD Cert.MixoKernelIdeal.τ).loc Cert.MixoKernelIdeal.main_arg2) = m ((c.tc : Thread Cert.MixoKernelIdeal.nD Cert.MixoKernelIdeal.τ).loc Cert.MixoKernelIdeal.main_arg2)
          ∧ r.2.mem ((c.tc : Thread Cert.MixoKernelIdeal.nD Cert.MixoKernelIdeal.τ).loc Cert.MixoKernelIdeal.main_arg3) = m ((c.tc : Thread Cert.MixoKernelIdeal.nD Cert.MixoKernelIdeal.τ).loc Cert.MixoKernelIdeal.main_arg3))
      ∧ θ_run (Cert.MixoReferenceIdeal.defs (F := Ideal)) (onTc (τ := Cert.MixoReferenceIdeal.τ) (Cert.MixoReferenceIdeal.main (F := Ideal))) ⟨m', fun _ => 0, g'⟩ (fun r => ∀ c : Dev Cert.MixoReferenceIdeal.nD,
          r.2.mem ((c.tc : Thread Cert.MixoReferenceIdeal.nD Cert.MixoReferenceIdeal.τ).loc Cert.MixoReferenceIdeal.main_v13) = v0 c
          ∧ r.2.mem ((c.tc : Thread Cert.MixoReferenceIdeal.nD Cert.MixoReferenceIdeal.τ).loc Cert.MixoReferenceIdeal.main_v0) = v1 c
          ∧ r.2.mem ((c.tc : Thread Cert.MixoReferenceIdeal.nD Cert.MixoReferenceIdeal.τ).loc Cert.MixoReferenceIdeal.main_arg0) = m' ((c.tc : Thread Cert.MixoReferenceIdeal.nD Cert.MixoReferenceIdeal.τ).loc Cert.MixoReferenceIdeal.main_arg0)
          ∧ r.2.mem ((c.tc : Thread Cert.MixoReferenceIdeal.nD Cert.MixoReferenceIdeal.τ).loc Cert.MixoReferenceIdeal.main_arg1) = m' ((c.tc : Thread Cert.MixoReferenceIdeal.nD Cert.MixoReferenceIdeal.τ).loc Cert.MixoReferenceIdeal.main_arg1)
          ∧ r.2.mem ((c.tc : Thread Cert.MixoReferenceIdeal.nD Cert.MixoReferenceIdeal.τ).loc Cert.MixoReferenceIdeal.main_arg2) = m' ((c.tc : Thread Cert.MixoReferenceIdeal.nD Cert.MixoReferenceIdeal.τ).loc Cert.MixoReferenceIdeal.main_arg2)
          ∧ r.2.mem ((c.tc : Thread Cert.MixoReferenceIdeal.nD Cert.MixoReferenceIdeal.τ).loc Cert.MixoReferenceIdeal.main_arg3) = m' ((c.tc : Thread Cert.MixoReferenceIdeal.nD Cert.MixoReferenceIdeal.τ).loc Cert.MixoReferenceIdeal.main_arg3))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)
      ∧ m' ((c.tc : Thread Cert.WinReferenceIdeal.nD Cert.WinReferenceIdeal.τ).loc Cert.WinReferenceIdeal.main_arg4) = m ((c.tc : Thread Cert.WinKernelIdeal.nD Cert.WinKernelIdeal.τ).loc Cert.WinKernelIdeal.main_arg4)
      ∧ m' ((c.tc : Thread Cert.WinReferenceIdeal.nD Cert.WinReferenceIdeal.τ).loc Cert.WinReferenceIdeal.main_arg5) = m ((c.tc : Thread Cert.WinKernelIdeal.nD Cert.WinKernelIdeal.τ).loc Cert.WinKernelIdeal.main_arg5)
      ∧ m' ((c.tc : Thread Cert.WinReferenceIdeal.nD Cert.WinReferenceIdeal.τ).loc Cert.WinReferenceIdeal.main_arg6) = m ((c.tc : Thread Cert.WinKernelIdeal.nD Cert.WinKernelIdeal.τ).loc Cert.WinKernelIdeal.main_arg6)
      ∧ m' ((c.tc : Thread Cert.WinReferenceIdeal.nD Cert.WinReferenceIdeal.τ).loc Cert.WinReferenceIdeal.main_arg7) = m ((c.tc : Thread Cert.WinKernelIdeal.nD Cert.WinKernelIdeal.τ).loc Cert.WinKernelIdeal.main_arg7)
      ∧ m' ((c.tc : Thread Cert.WinReferenceIdeal.nD Cert.WinReferenceIdeal.τ).loc Cert.WinReferenceIdeal.main_arg8) = m ((c.tc : Thread Cert.WinKernelIdeal.nD Cert.WinKernelIdeal.τ).loc Cert.WinKernelIdeal.main_arg8)
      ∧ m' ((c.tc : Thread Cert.WinReferenceIdeal.nD Cert.WinReferenceIdeal.τ).loc Cert.WinReferenceIdeal.main_arg9) = m ((c.tc : Thread Cert.WinKernelIdeal.nD Cert.WinKernelIdeal.τ).loc Cert.WinKernelIdeal.main_arg9)) →
    ∃ (v0 : (c : Dev Cert.WinKernelIdeal.nD) → Buf (Elt Ideal) ((c.tc : Thread Cert.WinKernelIdeal.nD Cert.WinKernelIdeal.τ).loc Cert.WinKernelIdeal.main_v51)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v51) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
          ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
          ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
          ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7)
          ∧ r.2.mem ((c.tc : Thread Cert.WinKernelIdeal.nD Cert.WinKernelIdeal.τ).loc Cert.WinKernelIdeal.main_arg8) = m ((c.tc : Thread Cert.WinKernelIdeal.nD Cert.WinKernelIdeal.τ).loc Cert.WinKernelIdeal.main_arg8)
          ∧ r.2.mem ((c.tc : Thread Cert.WinKernelIdeal.nD Cert.WinKernelIdeal.τ).loc Cert.WinKernelIdeal.main_arg9) = m ((c.tc : Thread Cert.WinKernelIdeal.nD Cert.WinKernelIdeal.τ).loc Cert.WinKernelIdeal.main_arg9))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v18) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4)
          ∧ r.2.mem ((c.tc : Thread Cert.WinReferenceIdeal.nD Cert.WinReferenceIdeal.τ).loc Cert.WinReferenceIdeal.main_arg5) = m' ((c.tc : Thread Cert.WinReferenceIdeal.nD Cert.WinReferenceIdeal.τ).loc Cert.WinReferenceIdeal.main_arg5)
          ∧ r.2.mem ((c.tc : Thread Cert.WinReferenceIdeal.nD Cert.WinReferenceIdeal.τ).loc Cert.WinReferenceIdeal.main_arg6) = m' ((c.tc : Thread Cert.WinReferenceIdeal.nD Cert.WinReferenceIdeal.τ).loc Cert.WinReferenceIdeal.main_arg6)
          ∧ r.2.mem ((c.tc : Thread Cert.WinReferenceIdeal.nD Cert.WinReferenceIdeal.τ).loc Cert.WinReferenceIdeal.main_arg7) = m' ((c.tc : Thread Cert.WinReferenceIdeal.nD Cert.WinReferenceIdeal.τ).loc Cert.WinReferenceIdeal.main_arg7)
          ∧ r.2.mem ((c.tc : Thread Cert.WinReferenceIdeal.nD Cert.WinReferenceIdeal.τ).loc Cert.WinReferenceIdeal.main_arg8) = m' ((c.tc : Thread Cert.WinReferenceIdeal.nD Cert.WinReferenceIdeal.τ).loc Cert.WinReferenceIdeal.main_arg8)
          ∧ r.2.mem ((c.tc : Thread Cert.WinReferenceIdeal.nD Cert.WinReferenceIdeal.τ).loc Cert.WinReferenceIdeal.main_arg9) = m' ((c.tc : Thread Cert.WinReferenceIdeal.nD Cert.WinReferenceIdeal.τ).loc Cert.WinReferenceIdeal.main_arg9))

def preserves_OwinKernel_OwinKernelIdeal : Prop :=
  True

def algebraic_OwinKernelIdeal_OwinReferenceIdeal [hOwinKernelIdeal : Cert.OwinKernelIdeal.Facts] [hOwinReferenceIdeal : Cert.OwinReferenceIdeal.Facts] : Prop :=
  ∀ (m : (ℓ : Loc Cert.OwinKernelIdeal.nD Cert.OwinKernelIdeal.τ Cert.OwinKernelIdeal.sig) → Buf (Elt Ideal) ℓ) (g : Dev Cert.OwinKernelIdeal.nD → PrngReg)
    (m' : (ℓ : Loc Cert.OwinReferenceIdeal.nD Cert.OwinReferenceIdeal.τ Cert.OwinReferenceIdeal.sig) → Buf (Elt Ideal) ℓ) (g' : Dev Cert.OwinReferenceIdeal.nD → PrngReg), Pre_OwinKernelIdeal m →
    (∀ c : Dev Cert.OwinKernelIdeal.nD,
      m' ((c.tc : Thread Cert.OwinReferenceIdeal.nD Cert.OwinReferenceIdeal.τ).loc Cert.OwinReferenceIdeal.main_arg0) = m ((c.tc : Thread Cert.OwinKernelIdeal.nD Cert.OwinKernelIdeal.τ).loc Cert.OwinKernelIdeal.main_arg0)
      ∧ m' ((c.tc : Thread Cert.OwinReferenceIdeal.nD Cert.OwinReferenceIdeal.τ).loc Cert.OwinReferenceIdeal.main_arg1) = m ((c.tc : Thread Cert.OwinKernelIdeal.nD Cert.OwinKernelIdeal.τ).loc Cert.OwinKernelIdeal.main_arg1)
      ∧ m' ((c.tc : Thread Cert.OwinReferenceIdeal.nD Cert.OwinReferenceIdeal.τ).loc Cert.OwinReferenceIdeal.main_arg2) = m ((c.tc : Thread Cert.OwinKernelIdeal.nD Cert.OwinKernelIdeal.τ).loc Cert.OwinKernelIdeal.main_arg2)
      ∧ m' ((c.tc : Thread Cert.OwinReferenceIdeal.nD Cert.OwinReferenceIdeal.τ).loc Cert.OwinReferenceIdeal.main_arg3) = m ((c.tc : Thread Cert.OwinKernelIdeal.nD Cert.OwinKernelIdeal.τ).loc Cert.OwinKernelIdeal.main_arg3)) →
    ∃ (v0 : (c : Dev Cert.OwinKernelIdeal.nD) → Buf (Elt Ideal) ((c.tc : Thread Cert.OwinKernelIdeal.nD Cert.OwinKernelIdeal.τ).loc Cert.OwinKernelIdeal.main_v5_0)) (v1 : (c : Dev Cert.OwinKernelIdeal.nD) → Buf (Elt Ideal) ((c.tc : Thread Cert.OwinKernelIdeal.nD Cert.OwinKernelIdeal.τ).loc Cert.OwinKernelIdeal.main_v5_1)) (v2 : (c : Dev Cert.OwinKernelIdeal.nD) → Buf (Elt Ideal) ((c.tc : Thread Cert.OwinKernelIdeal.nD Cert.OwinKernelIdeal.τ).loc Cert.OwinKernelIdeal.main_v5_2)),
      θ_run (Cert.OwinKernelIdeal.defs (F := Ideal)) (onTc (τ := Cert.OwinKernelIdeal.τ) (Cert.OwinKernelIdeal.main (F := Ideal))) ⟨m, fun _ => 0, g⟩ (fun r => ∀ c : Dev Cert.OwinKernelIdeal.nD,
          r.2.mem ((c.tc : Thread Cert.OwinKernelIdeal.nD Cert.OwinKernelIdeal.τ).loc Cert.OwinKernelIdeal.main_v5_0) = v0 c
          ∧ r.2.mem ((c.tc : Thread Cert.OwinKernelIdeal.nD Cert.OwinKernelIdeal.τ).loc Cert.OwinKernelIdeal.main_v5_1) = v1 c
          ∧ r.2.mem ((c.tc : Thread Cert.OwinKernelIdeal.nD Cert.OwinKernelIdeal.τ).loc Cert.OwinKernelIdeal.main_v5_2) = v2 c
          ∧ r.2.mem ((c.tc : Thread Cert.OwinKernelIdeal.nD Cert.OwinKernelIdeal.τ).loc Cert.OwinKernelIdeal.main_arg0) = m ((c.tc : Thread Cert.OwinKernelIdeal.nD Cert.OwinKernelIdeal.τ).loc Cert.OwinKernelIdeal.main_arg0)
          ∧ r.2.mem ((c.tc : Thread Cert.OwinKernelIdeal.nD Cert.OwinKernelIdeal.τ).loc Cert.OwinKernelIdeal.main_arg1) = m ((c.tc : Thread Cert.OwinKernelIdeal.nD Cert.OwinKernelIdeal.τ).loc Cert.OwinKernelIdeal.main_arg1)
          ∧ r.2.mem ((c.tc : Thread Cert.OwinKernelIdeal.nD Cert.OwinKernelIdeal.τ).loc Cert.OwinKernelIdeal.main_arg2) = m ((c.tc : Thread Cert.OwinKernelIdeal.nD Cert.OwinKernelIdeal.τ).loc Cert.OwinKernelIdeal.main_arg2)
          ∧ r.2.mem ((c.tc : Thread Cert.OwinKernelIdeal.nD Cert.OwinKernelIdeal.τ).loc Cert.OwinKernelIdeal.main_arg3) = m ((c.tc : Thread Cert.OwinKernelIdeal.nD Cert.OwinKernelIdeal.τ).loc Cert.OwinKernelIdeal.main_arg3))
      ∧ θ_run (Cert.OwinReferenceIdeal.defs (F := Ideal)) (onTc (τ := Cert.OwinReferenceIdeal.τ) (Cert.OwinReferenceIdeal.main (F := Ideal))) ⟨m', fun _ => 0, g'⟩ (fun r => ∀ c : Dev Cert.OwinReferenceIdeal.nD,
          r.2.mem ((c.tc : Thread Cert.OwinReferenceIdeal.nD Cert.OwinReferenceIdeal.τ).loc Cert.OwinReferenceIdeal.main_v25) = v0 c
          ∧ r.2.mem ((c.tc : Thread Cert.OwinReferenceIdeal.nD Cert.OwinReferenceIdeal.τ).loc Cert.OwinReferenceIdeal.main_v26) = v1 c
          ∧ r.2.mem ((c.tc : Thread Cert.OwinReferenceIdeal.nD Cert.OwinReferenceIdeal.τ).loc Cert.OwinReferenceIdeal.main_v27) = v2 c
          ∧ r.2.mem ((c.tc : Thread Cert.OwinReferenceIdeal.nD Cert.OwinReferenceIdeal.τ).loc Cert.OwinReferenceIdeal.main_arg0) = m' ((c.tc : Thread Cert.OwinReferenceIdeal.nD Cert.OwinReferenceIdeal.τ).loc Cert.OwinReferenceIdeal.main_arg0)
          ∧ r.2.mem ((c.tc : Thread Cert.OwinReferenceIdeal.nD Cert.OwinReferenceIdeal.τ).loc Cert.OwinReferenceIdeal.main_arg1) = m' ((c.tc : Thread Cert.OwinReferenceIdeal.nD Cert.OwinReferenceIdeal.τ).loc Cert.OwinReferenceIdeal.main_arg1)
          ∧ r.2.mem ((c.tc : Thread Cert.OwinReferenceIdeal.nD Cert.OwinReferenceIdeal.τ).loc Cert.OwinReferenceIdeal.main_arg2) = m' ((c.tc : Thread Cert.OwinReferenceIdeal.nD Cert.OwinReferenceIdeal.τ).loc Cert.OwinReferenceIdeal.main_arg2)
          ∧ r.2.mem ((c.tc : Thread Cert.OwinReferenceIdeal.nD Cert.OwinReferenceIdeal.τ).loc Cert.OwinReferenceIdeal.main_arg3) = m' ((c.tc : Thread Cert.OwinReferenceIdeal.nD Cert.OwinReferenceIdeal.τ).loc Cert.OwinReferenceIdeal.main_arg3))

def preserves_OsoKernel_OsoKernelIdeal : Prop :=
  True

def algebraic_OsoKernelIdeal_OsoReferenceIdeal [hOsoKernelIdeal : Cert.OsoKernelIdeal.Facts] [hOsoReferenceIdeal : Cert.OsoReferenceIdeal.Facts] : Prop :=
  ∀ (m : (ℓ : Loc Cert.OsoKernelIdeal.nD Cert.OsoKernelIdeal.τ Cert.OsoKernelIdeal.sig) → Buf (Elt Ideal) ℓ) (g : Dev Cert.OsoKernelIdeal.nD → PrngReg)
    (m' : (ℓ : Loc Cert.OsoReferenceIdeal.nD Cert.OsoReferenceIdeal.τ Cert.OsoReferenceIdeal.sig) → Buf (Elt Ideal) ℓ) (g' : Dev Cert.OsoReferenceIdeal.nD → PrngReg), Pre_OsoKernelIdeal m →
    (∀ c : Dev Cert.OsoKernelIdeal.nD,
      m' ((c.tc : Thread Cert.OsoReferenceIdeal.nD Cert.OsoReferenceIdeal.τ).loc Cert.OsoReferenceIdeal.main_arg0) = m ((c.tc : Thread Cert.OsoKernelIdeal.nD Cert.OsoKernelIdeal.τ).loc Cert.OsoKernelIdeal.main_arg0)
      ∧ m' ((c.tc : Thread Cert.OsoReferenceIdeal.nD Cert.OsoReferenceIdeal.τ).loc Cert.OsoReferenceIdeal.main_arg1) = m ((c.tc : Thread Cert.OsoKernelIdeal.nD Cert.OsoKernelIdeal.τ).loc Cert.OsoKernelIdeal.main_arg1)
      ∧ m' ((c.tc : Thread Cert.OsoReferenceIdeal.nD Cert.OsoReferenceIdeal.τ).loc Cert.OsoReferenceIdeal.main_arg2) = m ((c.tc : Thread Cert.OsoKernelIdeal.nD Cert.OsoKernelIdeal.τ).loc Cert.OsoKernelIdeal.main_arg2)
      ∧ m' ((c.tc : Thread Cert.OsoReferenceIdeal.nD Cert.OsoReferenceIdeal.τ).loc Cert.OsoReferenceIdeal.main_arg3) = m ((c.tc : Thread Cert.OsoKernelIdeal.nD Cert.OsoKernelIdeal.τ).loc Cert.OsoKernelIdeal.main_arg3)) →
    ∃ (v0 : (c : Dev Cert.OsoKernelIdeal.nD) → Buf (Elt Ideal) ((c.tc : Thread Cert.OsoKernelIdeal.nD Cert.OsoKernelIdeal.τ).loc Cert.OsoKernelIdeal.main_v5_0)) (v1 : (c : Dev Cert.OsoKernelIdeal.nD) → Buf (Elt Ideal) ((c.tc : Thread Cert.OsoKernelIdeal.nD Cert.OsoKernelIdeal.τ).loc Cert.OsoKernelIdeal.main_v5_1)) (v2 : (c : Dev Cert.OsoKernelIdeal.nD) → Buf (Elt Ideal) ((c.tc : Thread Cert.OsoKernelIdeal.nD Cert.OsoKernelIdeal.τ).loc Cert.OsoKernelIdeal.main_v5_2)),
      θ_run (Cert.OsoKernelIdeal.defs (F := Ideal)) (onTc (τ := Cert.OsoKernelIdeal.τ) (Cert.OsoKernelIdeal.main (F := Ideal))) ⟨m, fun _ => 0, g⟩ (fun r => ∀ c : Dev Cert.OsoKernelIdeal.nD,
          r.2.mem ((c.tc : Thread Cert.OsoKernelIdeal.nD Cert.OsoKernelIdeal.τ).loc Cert.OsoKernelIdeal.main_v5_0) = v0 c
          ∧ r.2.mem ((c.tc : Thread Cert.OsoKernelIdeal.nD Cert.OsoKernelIdeal.τ).loc Cert.OsoKernelIdeal.main_v5_1) = v1 c
          ∧ r.2.mem ((c.tc : Thread Cert.OsoKernelIdeal.nD Cert.OsoKernelIdeal.τ).loc Cert.OsoKernelIdeal.main_v5_2) = v2 c
          ∧ r.2.mem ((c.tc : Thread Cert.OsoKernelIdeal.nD Cert.OsoKernelIdeal.τ).loc Cert.OsoKernelIdeal.main_arg0) = m ((c.tc : Thread Cert.OsoKernelIdeal.nD Cert.OsoKernelIdeal.τ).loc Cert.OsoKernelIdeal.main_arg0)
          ∧ r.2.mem ((c.tc : Thread Cert.OsoKernelIdeal.nD Cert.OsoKernelIdeal.τ).loc Cert.OsoKernelIdeal.main_arg1) = m ((c.tc : Thread Cert.OsoKernelIdeal.nD Cert.OsoKernelIdeal.τ).loc Cert.OsoKernelIdeal.main_arg1)
          ∧ r.2.mem ((c.tc : Thread Cert.OsoKernelIdeal.nD Cert.OsoKernelIdeal.τ).loc Cert.OsoKernelIdeal.main_arg2) = m ((c.tc : Thread Cert.OsoKernelIdeal.nD Cert.OsoKernelIdeal.τ).loc Cert.OsoKernelIdeal.main_arg2)
          ∧ r.2.mem ((c.tc : Thread Cert.OsoKernelIdeal.nD Cert.OsoKernelIdeal.τ).loc Cert.OsoKernelIdeal.main_arg3) = m ((c.tc : Thread Cert.OsoKernelIdeal.nD Cert.OsoKernelIdeal.τ).loc Cert.OsoKernelIdeal.main_arg3))
      ∧ θ_run (Cert.OsoReferenceIdeal.defs (F := Ideal)) (onTc (τ := Cert.OsoReferenceIdeal.τ) (Cert.OsoReferenceIdeal.main (F := Ideal))) ⟨m', fun _ => 0, g'⟩ (fun r => ∀ c : Dev Cert.OsoReferenceIdeal.nD,
          r.2.mem ((c.tc : Thread Cert.OsoReferenceIdeal.nD Cert.OsoReferenceIdeal.τ).loc Cert.OsoReferenceIdeal.main_v25) = v0 c
          ∧ r.2.mem ((c.tc : Thread Cert.OsoReferenceIdeal.nD Cert.OsoReferenceIdeal.τ).loc Cert.OsoReferenceIdeal.main_v26) = v1 c
          ∧ r.2.mem ((c.tc : Thread Cert.OsoReferenceIdeal.nD Cert.OsoReferenceIdeal.τ).loc Cert.OsoReferenceIdeal.main_v27) = v2 c
          ∧ r.2.mem ((c.tc : Thread Cert.OsoReferenceIdeal.nD Cert.OsoReferenceIdeal.τ).loc Cert.OsoReferenceIdeal.main_arg0) = m' ((c.tc : Thread Cert.OsoReferenceIdeal.nD Cert.OsoReferenceIdeal.τ).loc Cert.OsoReferenceIdeal.main_arg0)
          ∧ r.2.mem ((c.tc : Thread Cert.OsoReferenceIdeal.nD Cert.OsoReferenceIdeal.τ).loc Cert.OsoReferenceIdeal.main_arg1) = m' ((c.tc : Thread Cert.OsoReferenceIdeal.nD Cert.OsoReferenceIdeal.τ).loc Cert.OsoReferenceIdeal.main_arg1)
          ∧ r.2.mem ((c.tc : Thread Cert.OsoReferenceIdeal.nD Cert.OsoReferenceIdeal.τ).loc Cert.OsoReferenceIdeal.main_arg2) = m' ((c.tc : Thread Cert.OsoReferenceIdeal.nD Cert.OsoReferenceIdeal.τ).loc Cert.OsoReferenceIdeal.main_arg2)
          ∧ r.2.mem ((c.tc : Thread Cert.OsoReferenceIdeal.nD Cert.OsoReferenceIdeal.τ).loc Cert.OsoReferenceIdeal.main_arg3) = m' ((c.tc : Thread Cert.OsoReferenceIdeal.nD Cert.OsoReferenceIdeal.τ).loc Cert.OsoReferenceIdeal.main_arg3))

def preserves_OaoKernel_OaoKernelIdeal : Prop :=
  True

def algebraic_OaoKernelIdeal_OaoReferenceIdeal [hOaoKernelIdeal : Cert.OaoKernelIdeal.Facts] [hOaoReferenceIdeal : Cert.OaoReferenceIdeal.Facts] : Prop :=
  ∀ (m : (ℓ : Loc Cert.OaoKernelIdeal.nD Cert.OaoKernelIdeal.τ Cert.OaoKernelIdeal.sig) → Buf (Elt Ideal) ℓ) (g : Dev Cert.OaoKernelIdeal.nD → PrngReg)
    (m' : (ℓ : Loc Cert.OaoReferenceIdeal.nD Cert.OaoReferenceIdeal.τ Cert.OaoReferenceIdeal.sig) → Buf (Elt Ideal) ℓ) (g' : Dev Cert.OaoReferenceIdeal.nD → PrngReg), Pre_OaoKernelIdeal m →
    (∀ c : Dev Cert.OaoKernelIdeal.nD,
      m' ((c.tc : Thread Cert.OaoReferenceIdeal.nD Cert.OaoReferenceIdeal.τ).loc Cert.OaoReferenceIdeal.main_arg0) = m ((c.tc : Thread Cert.OaoKernelIdeal.nD Cert.OaoKernelIdeal.τ).loc Cert.OaoKernelIdeal.main_arg0)
      ∧ m' ((c.tc : Thread Cert.OaoReferenceIdeal.nD Cert.OaoReferenceIdeal.τ).loc Cert.OaoReferenceIdeal.main_arg1) = m ((c.tc : Thread Cert.OaoKernelIdeal.nD Cert.OaoKernelIdeal.τ).loc Cert.OaoKernelIdeal.main_arg1)
      ∧ m' ((c.tc : Thread Cert.OaoReferenceIdeal.nD Cert.OaoReferenceIdeal.τ).loc Cert.OaoReferenceIdeal.main_arg2) = m ((c.tc : Thread Cert.OaoKernelIdeal.nD Cert.OaoKernelIdeal.τ).loc Cert.OaoKernelIdeal.main_arg2)
      ∧ m' ((c.tc : Thread Cert.OaoReferenceIdeal.nD Cert.OaoReferenceIdeal.τ).loc Cert.OaoReferenceIdeal.main_arg3) = m ((c.tc : Thread Cert.OaoKernelIdeal.nD Cert.OaoKernelIdeal.τ).loc Cert.OaoKernelIdeal.main_arg3)) →
    ∃ (v0 : (c : Dev Cert.OaoKernelIdeal.nD) → Buf (Elt Ideal) ((c.tc : Thread Cert.OaoKernelIdeal.nD Cert.OaoKernelIdeal.τ).loc Cert.OaoKernelIdeal.main_v5_0)) (v1 : (c : Dev Cert.OaoKernelIdeal.nD) → Buf (Elt Ideal) ((c.tc : Thread Cert.OaoKernelIdeal.nD Cert.OaoKernelIdeal.τ).loc Cert.OaoKernelIdeal.main_v5_1)) (v2 : (c : Dev Cert.OaoKernelIdeal.nD) → Buf (Elt Ideal) ((c.tc : Thread Cert.OaoKernelIdeal.nD Cert.OaoKernelIdeal.τ).loc Cert.OaoKernelIdeal.main_v5_2)),
      θ_run (Cert.OaoKernelIdeal.defs (F := Ideal)) (onTc (τ := Cert.OaoKernelIdeal.τ) (Cert.OaoKernelIdeal.main (F := Ideal))) ⟨m, fun _ => 0, g⟩ (fun r => ∀ c : Dev Cert.OaoKernelIdeal.nD,
          r.2.mem ((c.tc : Thread Cert.OaoKernelIdeal.nD Cert.OaoKernelIdeal.τ).loc Cert.OaoKernelIdeal.main_v5_0) = v0 c
          ∧ r.2.mem ((c.tc : Thread Cert.OaoKernelIdeal.nD Cert.OaoKernelIdeal.τ).loc Cert.OaoKernelIdeal.main_v5_1) = v1 c
          ∧ r.2.mem ((c.tc : Thread Cert.OaoKernelIdeal.nD Cert.OaoKernelIdeal.τ).loc Cert.OaoKernelIdeal.main_v5_2) = v2 c
          ∧ r.2.mem ((c.tc : Thread Cert.OaoKernelIdeal.nD Cert.OaoKernelIdeal.τ).loc Cert.OaoKernelIdeal.main_arg0) = m ((c.tc : Thread Cert.OaoKernelIdeal.nD Cert.OaoKernelIdeal.τ).loc Cert.OaoKernelIdeal.main_arg0)
          ∧ r.2.mem ((c.tc : Thread Cert.OaoKernelIdeal.nD Cert.OaoKernelIdeal.τ).loc Cert.OaoKernelIdeal.main_arg1) = m ((c.tc : Thread Cert.OaoKernelIdeal.nD Cert.OaoKernelIdeal.τ).loc Cert.OaoKernelIdeal.main_arg1)
          ∧ r.2.mem ((c.tc : Thread Cert.OaoKernelIdeal.nD Cert.OaoKernelIdeal.τ).loc Cert.OaoKernelIdeal.main_arg2) = m ((c.tc : Thread Cert.OaoKernelIdeal.nD Cert.OaoKernelIdeal.τ).loc Cert.OaoKernelIdeal.main_arg2)
          ∧ r.2.mem ((c.tc : Thread Cert.OaoKernelIdeal.nD Cert.OaoKernelIdeal.τ).loc Cert.OaoKernelIdeal.main_arg3) = m ((c.tc : Thread Cert.OaoKernelIdeal.nD Cert.OaoKernelIdeal.τ).loc Cert.OaoKernelIdeal.main_arg3))
      ∧ θ_run (Cert.OaoReferenceIdeal.defs (F := Ideal)) (onTc (τ := Cert.OaoReferenceIdeal.τ) (Cert.OaoReferenceIdeal.main (F := Ideal))) ⟨m', fun _ => 0, g'⟩ (fun r => ∀ c : Dev Cert.OaoReferenceIdeal.nD,
          r.2.mem ((c.tc : Thread Cert.OaoReferenceIdeal.nD Cert.OaoReferenceIdeal.τ).loc Cert.OaoReferenceIdeal.main_v25) = v0 c
          ∧ r.2.mem ((c.tc : Thread Cert.OaoReferenceIdeal.nD Cert.OaoReferenceIdeal.τ).loc Cert.OaoReferenceIdeal.main_v26) = v1 c
          ∧ r.2.mem ((c.tc : Thread Cert.OaoReferenceIdeal.nD Cert.OaoReferenceIdeal.τ).loc Cert.OaoReferenceIdeal.main_v27) = v2 c
          ∧ r.2.mem ((c.tc : Thread Cert.OaoReferenceIdeal.nD Cert.OaoReferenceIdeal.τ).loc Cert.OaoReferenceIdeal.main_arg0) = m' ((c.tc : Thread Cert.OaoReferenceIdeal.nD Cert.OaoReferenceIdeal.τ).loc Cert.OaoReferenceIdeal.main_arg0)
          ∧ r.2.mem ((c.tc : Thread Cert.OaoReferenceIdeal.nD Cert.OaoReferenceIdeal.τ).loc Cert.OaoReferenceIdeal.main_arg1) = m' ((c.tc : Thread Cert.OaoReferenceIdeal.nD Cert.OaoReferenceIdeal.τ).loc Cert.OaoReferenceIdeal.main_arg1)
          ∧ r.2.mem ((c.tc : Thread Cert.OaoReferenceIdeal.nD Cert.OaoReferenceIdeal.τ).loc Cert.OaoReferenceIdeal.main_arg2) = m' ((c.tc : Thread Cert.OaoReferenceIdeal.nD Cert.OaoReferenceIdeal.τ).loc Cert.OaoReferenceIdeal.main_arg2)
          ∧ r.2.mem ((c.tc : Thread Cert.OaoReferenceIdeal.nD Cert.OaoReferenceIdeal.τ).loc Cert.OaoReferenceIdeal.main_arg3) = m' ((c.tc : Thread Cert.OaoReferenceIdeal.nD Cert.OaoReferenceIdeal.τ).loc Cert.OaoReferenceIdeal.main_arg3))

def preserves_OupKernel_OupKernelIdeal : Prop :=
  True

def algebraic_OupKernelIdeal_OupReferenceIdeal [hOupKernelIdeal : Cert.OupKernelIdeal.Facts] [hOupReferenceIdeal : Cert.OupReferenceIdeal.Facts] : Prop :=
  ∀ (m : (ℓ : Loc Cert.OupKernelIdeal.nD Cert.OupKernelIdeal.τ Cert.OupKernelIdeal.sig) → Buf (Elt Ideal) ℓ) (g : Dev Cert.OupKernelIdeal.nD → PrngReg)
    (m' : (ℓ : Loc Cert.OupReferenceIdeal.nD Cert.OupReferenceIdeal.τ Cert.OupReferenceIdeal.sig) → Buf (Elt Ideal) ℓ) (g' : Dev Cert.OupReferenceIdeal.nD → PrngReg), Pre_OupKernelIdeal m →
    (∀ c : Dev Cert.OupKernelIdeal.nD,
      m' ((c.tc : Thread Cert.OupReferenceIdeal.nD Cert.OupReferenceIdeal.τ).loc Cert.OupReferenceIdeal.main_arg0) = m ((c.tc : Thread Cert.OupKernelIdeal.nD Cert.OupKernelIdeal.τ).loc Cert.OupKernelIdeal.main_arg0)
      ∧ m' ((c.tc : Thread Cert.OupReferenceIdeal.nD Cert.OupReferenceIdeal.τ).loc Cert.OupReferenceIdeal.main_arg1) = m ((c.tc : Thread Cert.OupKernelIdeal.nD Cert.OupKernelIdeal.τ).loc Cert.OupKernelIdeal.main_arg1)
      ∧ m' ((c.tc : Thread Cert.OupReferenceIdeal.nD Cert.OupReferenceIdeal.τ).loc Cert.OupReferenceIdeal.main_arg2) = m ((c.tc : Thread Cert.OupKernelIdeal.nD Cert.OupKernelIdeal.τ).loc Cert.OupKernelIdeal.main_arg2)
      ∧ m' ((c.tc : Thread Cert.OupReferenceIdeal.nD Cert.OupReferenceIdeal.τ).loc Cert.OupReferenceIdeal.main_arg3) = m ((c.tc : Thread Cert.OupKernelIdeal.nD Cert.OupKernelIdeal.τ).loc Cert.OupKernelIdeal.main_arg3)) →
    ∃ (v0 : (c : Dev Cert.OupKernelIdeal.nD) → Buf (Elt Ideal) ((c.tc : Thread Cert.OupKernelIdeal.nD Cert.OupKernelIdeal.τ).loc Cert.OupKernelIdeal.main_v5_0)) (v1 : (c : Dev Cert.OupKernelIdeal.nD) → Buf (Elt Ideal) ((c.tc : Thread Cert.OupKernelIdeal.nD Cert.OupKernelIdeal.τ).loc Cert.OupKernelIdeal.main_v5_1)) (v2 : (c : Dev Cert.OupKernelIdeal.nD) → Buf (Elt Ideal) ((c.tc : Thread Cert.OupKernelIdeal.nD Cert.OupKernelIdeal.τ).loc Cert.OupKernelIdeal.main_v5_2)),
      θ_run (Cert.OupKernelIdeal.defs (F := Ideal)) (onTc (τ := Cert.OupKernelIdeal.τ) (Cert.OupKernelIdeal.main (F := Ideal))) ⟨m, fun _ => 0, g⟩ (fun r => ∀ c : Dev Cert.OupKernelIdeal.nD,
          r.2.mem ((c.tc : Thread Cert.OupKernelIdeal.nD Cert.OupKernelIdeal.τ).loc Cert.OupKernelIdeal.main_v5_0) = v0 c
          ∧ r.2.mem ((c.tc : Thread Cert.OupKernelIdeal.nD Cert.OupKernelIdeal.τ).loc Cert.OupKernelIdeal.main_v5_1) = v1 c
          ∧ r.2.mem ((c.tc : Thread Cert.OupKernelIdeal.nD Cert.OupKernelIdeal.τ).loc Cert.OupKernelIdeal.main_v5_2) = v2 c
          ∧ r.2.mem ((c.tc : Thread Cert.OupKernelIdeal.nD Cert.OupKernelIdeal.τ).loc Cert.OupKernelIdeal.main_arg0) = m ((c.tc : Thread Cert.OupKernelIdeal.nD Cert.OupKernelIdeal.τ).loc Cert.OupKernelIdeal.main_arg0)
          ∧ r.2.mem ((c.tc : Thread Cert.OupKernelIdeal.nD Cert.OupKernelIdeal.τ).loc Cert.OupKernelIdeal.main_arg1) = m ((c.tc : Thread Cert.OupKernelIdeal.nD Cert.OupKernelIdeal.τ).loc Cert.OupKernelIdeal.main_arg1)
          ∧ r.2.mem ((c.tc : Thread Cert.OupKernelIdeal.nD Cert.OupKernelIdeal.τ).loc Cert.OupKernelIdeal.main_arg2) = m ((c.tc : Thread Cert.OupKernelIdeal.nD Cert.OupKernelIdeal.τ).loc Cert.OupKernelIdeal.main_arg2)
          ∧ r.2.mem ((c.tc : Thread Cert.OupKernelIdeal.nD Cert.OupKernelIdeal.τ).loc Cert.OupKernelIdeal.main_arg3) = m ((c.tc : Thread Cert.OupKernelIdeal.nD Cert.OupKernelIdeal.τ).loc Cert.OupKernelIdeal.main_arg3))
      ∧ θ_run (Cert.OupReferenceIdeal.defs (F := Ideal)) (onTc (τ := Cert.OupReferenceIdeal.τ) (Cert.OupReferenceIdeal.main (F := Ideal))) ⟨m', fun _ => 0, g'⟩ (fun r => ∀ c : Dev Cert.OupReferenceIdeal.nD,
          r.2.mem ((c.tc : Thread Cert.OupReferenceIdeal.nD Cert.OupReferenceIdeal.τ).loc Cert.OupReferenceIdeal.main_v25) = v0 c
          ∧ r.2.mem ((c.tc : Thread Cert.OupReferenceIdeal.nD Cert.OupReferenceIdeal.τ).loc Cert.OupReferenceIdeal.main_v26) = v1 c
          ∧ r.2.mem ((c.tc : Thread Cert.OupReferenceIdeal.nD Cert.OupReferenceIdeal.τ).loc Cert.OupReferenceIdeal.main_v27) = v2 c
          ∧ r.2.mem ((c.tc : Thread Cert.OupReferenceIdeal.nD Cert.OupReferenceIdeal.τ).loc Cert.OupReferenceIdeal.main_arg0) = m' ((c.tc : Thread Cert.OupReferenceIdeal.nD Cert.OupReferenceIdeal.τ).loc Cert.OupReferenceIdeal.main_arg0)
          ∧ r.2.mem ((c.tc : Thread Cert.OupReferenceIdeal.nD Cert.OupReferenceIdeal.τ).loc Cert.OupReferenceIdeal.main_arg1) = m' ((c.tc : Thread Cert.OupReferenceIdeal.nD Cert.OupReferenceIdeal.τ).loc Cert.OupReferenceIdeal.main_arg1)
          ∧ r.2.mem ((c.tc : Thread Cert.OupReferenceIdeal.nD Cert.OupReferenceIdeal.τ).loc Cert.OupReferenceIdeal.main_arg2) = m' ((c.tc : Thread Cert.OupReferenceIdeal.nD Cert.OupReferenceIdeal.τ).loc Cert.OupReferenceIdeal.main_arg2)
          ∧ r.2.mem ((c.tc : Thread Cert.OupReferenceIdeal.nD Cert.OupReferenceIdeal.τ).loc Cert.OupReferenceIdeal.main_arg3) = m' ((c.tc : Thread Cert.OupReferenceIdeal.nD Cert.OupReferenceIdeal.τ).loc Cert.OupReferenceIdeal.main_arg3))

def preserves_OdnKernel_OdnKernelIdeal : Prop :=
  True

def algebraic_OdnKernelIdeal_OdnReferenceIdeal [hOdnKernelIdeal : Cert.OdnKernelIdeal.Facts] [hOdnReferenceIdeal : Cert.OdnReferenceIdeal.Facts] : Prop :=
  ∀ (m : (ℓ : Loc Cert.OdnKernelIdeal.nD Cert.OdnKernelIdeal.τ Cert.OdnKernelIdeal.sig) → Buf (Elt Ideal) ℓ) (g : Dev Cert.OdnKernelIdeal.nD → PrngReg)
    (m' : (ℓ : Loc Cert.OdnReferenceIdeal.nD Cert.OdnReferenceIdeal.τ Cert.OdnReferenceIdeal.sig) → Buf (Elt Ideal) ℓ) (g' : Dev Cert.OdnReferenceIdeal.nD → PrngReg), Pre_OdnKernelIdeal m →
    (∀ c : Dev Cert.OdnKernelIdeal.nD,
      m' ((c.tc : Thread Cert.OdnReferenceIdeal.nD Cert.OdnReferenceIdeal.τ).loc Cert.OdnReferenceIdeal.main_arg0) = m ((c.tc : Thread Cert.OdnKernelIdeal.nD Cert.OdnKernelIdeal.τ).loc Cert.OdnKernelIdeal.main_arg0)
      ∧ m' ((c.tc : Thread Cert.OdnReferenceIdeal.nD Cert.OdnReferenceIdeal.τ).loc Cert.OdnReferenceIdeal.main_arg1) = m ((c.tc : Thread Cert.OdnKernelIdeal.nD Cert.OdnKernelIdeal.τ).loc Cert.OdnKernelIdeal.main_arg1)
      ∧ m' ((c.tc : Thread Cert.OdnReferenceIdeal.nD Cert.OdnReferenceIdeal.τ).loc Cert.OdnReferenceIdeal.main_arg2) = m ((c.tc : Thread Cert.OdnKernelIdeal.nD Cert.OdnKernelIdeal.τ).loc Cert.OdnKernelIdeal.main_arg2)
      ∧ m' ((c.tc : Thread Cert.OdnReferenceIdeal.nD Cert.OdnReferenceIdeal.τ).loc Cert.OdnReferenceIdeal.main_arg3) = m ((c.tc : Thread Cert.OdnKernelIdeal.nD Cert.OdnKernelIdeal.τ).loc Cert.OdnKernelIdeal.main_arg3)) →
    ∃ (v0 : (c : Dev Cert.OdnKernelIdeal.nD) → Buf (Elt Ideal) ((c.tc : Thread Cert.OdnKernelIdeal.nD Cert.OdnKernelIdeal.τ).loc Cert.OdnKernelIdeal.main_v5_0)) (v1 : (c : Dev Cert.OdnKernelIdeal.nD) → Buf (Elt Ideal) ((c.tc : Thread Cert.OdnKernelIdeal.nD Cert.OdnKernelIdeal.τ).loc Cert.OdnKernelIdeal.main_v5_1)) (v2 : (c : Dev Cert.OdnKernelIdeal.nD) → Buf (Elt Ideal) ((c.tc : Thread Cert.OdnKernelIdeal.nD Cert.OdnKernelIdeal.τ).loc Cert.OdnKernelIdeal.main_v5_2)),
      θ_run (Cert.OdnKernelIdeal.defs (F := Ideal)) (onTc (τ := Cert.OdnKernelIdeal.τ) (Cert.OdnKernelIdeal.main (F := Ideal))) ⟨m, fun _ => 0, g⟩ (fun r => ∀ c : Dev Cert.OdnKernelIdeal.nD,
          r.2.mem ((c.tc : Thread Cert.OdnKernelIdeal.nD Cert.OdnKernelIdeal.τ).loc Cert.OdnKernelIdeal.main_v5_0) = v0 c
          ∧ r.2.mem ((c.tc : Thread Cert.OdnKernelIdeal.nD Cert.OdnKernelIdeal.τ).loc Cert.OdnKernelIdeal.main_v5_1) = v1 c
          ∧ r.2.mem ((c.tc : Thread Cert.OdnKernelIdeal.nD Cert.OdnKernelIdeal.τ).loc Cert.OdnKernelIdeal.main_v5_2) = v2 c
          ∧ r.2.mem ((c.tc : Thread Cert.OdnKernelIdeal.nD Cert.OdnKernelIdeal.τ).loc Cert.OdnKernelIdeal.main_arg0) = m ((c.tc : Thread Cert.OdnKernelIdeal.nD Cert.OdnKernelIdeal.τ).loc Cert.OdnKernelIdeal.main_arg0)
          ∧ r.2.mem ((c.tc : Thread Cert.OdnKernelIdeal.nD Cert.OdnKernelIdeal.τ).loc Cert.OdnKernelIdeal.main_arg1) = m ((c.tc : Thread Cert.OdnKernelIdeal.nD Cert.OdnKernelIdeal.τ).loc Cert.OdnKernelIdeal.main_arg1)
          ∧ r.2.mem ((c.tc : Thread Cert.OdnKernelIdeal.nD Cert.OdnKernelIdeal.τ).loc Cert.OdnKernelIdeal.main_arg2) = m ((c.tc : Thread Cert.OdnKernelIdeal.nD Cert.OdnKernelIdeal.τ).loc Cert.OdnKernelIdeal.main_arg2)
          ∧ r.2.mem ((c.tc : Thread Cert.OdnKernelIdeal.nD Cert.OdnKernelIdeal.τ).loc Cert.OdnKernelIdeal.main_arg3) = m ((c.tc : Thread Cert.OdnKernelIdeal.nD Cert.OdnKernelIdeal.τ).loc Cert.OdnKernelIdeal.main_arg3))
      ∧ θ_run (Cert.OdnReferenceIdeal.defs (F := Ideal)) (onTc (τ := Cert.OdnReferenceIdeal.τ) (Cert.OdnReferenceIdeal.main (F := Ideal))) ⟨m', fun _ => 0, g'⟩ (fun r => ∀ c : Dev Cert.OdnReferenceIdeal.nD,
          r.2.mem ((c.tc : Thread Cert.OdnReferenceIdeal.nD Cert.OdnReferenceIdeal.τ).loc Cert.OdnReferenceIdeal.main_v25) = v0 c
          ∧ r.2.mem ((c.tc : Thread Cert.OdnReferenceIdeal.nD Cert.OdnReferenceIdeal.τ).loc Cert.OdnReferenceIdeal.main_v26) = v1 c
          ∧ r.2.mem ((c.tc : Thread Cert.OdnReferenceIdeal.nD Cert.OdnReferenceIdeal.τ).loc Cert.OdnReferenceIdeal.main_v27) = v2 c
          ∧ r.2.mem ((c.tc : Thread Cert.OdnReferenceIdeal.nD Cert.OdnReferenceIdeal.τ).loc Cert.OdnReferenceIdeal.main_arg0) = m' ((c.tc : Thread Cert.OdnReferenceIdeal.nD Cert.OdnReferenceIdeal.τ).loc Cert.OdnReferenceIdeal.main_arg0)
          ∧ r.2.mem ((c.tc : Thread Cert.OdnReferenceIdeal.nD Cert.OdnReferenceIdeal.τ).loc Cert.OdnReferenceIdeal.main_arg1) = m' ((c.tc : Thread Cert.OdnReferenceIdeal.nD Cert.OdnReferenceIdeal.τ).loc Cert.OdnReferenceIdeal.main_arg1)
          ∧ r.2.mem ((c.tc : Thread Cert.OdnReferenceIdeal.nD Cert.OdnReferenceIdeal.τ).loc Cert.OdnReferenceIdeal.main_arg2) = m' ((c.tc : Thread Cert.OdnReferenceIdeal.nD Cert.OdnReferenceIdeal.τ).loc Cert.OdnReferenceIdeal.main_arg2)
          ∧ r.2.mem ((c.tc : Thread Cert.OdnReferenceIdeal.nD Cert.OdnReferenceIdeal.τ).loc Cert.OdnReferenceIdeal.main_arg3) = m' ((c.tc : Thread Cert.OdnReferenceIdeal.nD Cert.OdnReferenceIdeal.τ).loc Cert.OdnReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v5_0)) (v1 : (c : Dev Cert.MergeKernelIdeal.nD) → Buf (Elt Ideal) ((c.tc : Thread Cert.MergeKernelIdeal.nD Cert.MergeKernelIdeal.τ).loc Cert.MergeKernelIdeal.main_v5_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5_0) = v0 c
          ∧ r.2.mem ((c.tc : Thread Cert.MergeKernelIdeal.nD Cert.MergeKernelIdeal.τ).loc Cert.MergeKernelIdeal.main_v5_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v16) = v0 c
          ∧ r.2.mem ((c.tc : Thread Cert.MergeReferenceIdeal.nD Cert.MergeReferenceIdeal.τ).loc Cert.MergeReferenceIdeal.main_v0) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_DmergeKernel_DmergeKernelIdeal : Prop :=
  True

def algebraic_DmergeKernelIdeal_DmergeReferenceIdeal [hDmergeKernelIdeal : Cert.DmergeKernelIdeal.Facts] [hDmergeReferenceIdeal : Cert.DmergeReferenceIdeal.Facts] : Prop :=
  ∀ (m : (ℓ : Loc Cert.DmergeKernelIdeal.nD Cert.DmergeKernelIdeal.τ Cert.DmergeKernelIdeal.sig) → Buf (Elt Ideal) ℓ) (g : Dev Cert.DmergeKernelIdeal.nD → PrngReg)
    (m' : (ℓ : Loc Cert.DmergeReferenceIdeal.nD Cert.DmergeReferenceIdeal.τ Cert.DmergeReferenceIdeal.sig) → Buf (Elt Ideal) ℓ) (g' : Dev Cert.DmergeReferenceIdeal.nD → PrngReg), Pre_DmergeKernelIdeal m →
    (∀ c : Dev Cert.DmergeKernelIdeal.nD,
      m' ((c.tc : Thread Cert.DmergeReferenceIdeal.nD Cert.DmergeReferenceIdeal.τ).loc Cert.DmergeReferenceIdeal.main_arg0) = m ((c.tc : Thread Cert.DmergeKernelIdeal.nD Cert.DmergeKernelIdeal.τ).loc Cert.DmergeKernelIdeal.main_arg0)
      ∧ m' ((c.tc : Thread Cert.DmergeReferenceIdeal.nD Cert.DmergeReferenceIdeal.τ).loc Cert.DmergeReferenceIdeal.main_arg1) = m ((c.tc : Thread Cert.DmergeKernelIdeal.nD Cert.DmergeKernelIdeal.τ).loc Cert.DmergeKernelIdeal.main_arg1)
      ∧ m' ((c.tc : Thread Cert.DmergeReferenceIdeal.nD Cert.DmergeReferenceIdeal.τ).loc Cert.DmergeReferenceIdeal.main_arg2) = m ((c.tc : Thread Cert.DmergeKernelIdeal.nD Cert.DmergeKernelIdeal.τ).loc Cert.DmergeKernelIdeal.main_arg2)
      ∧ m' ((c.tc : Thread Cert.DmergeReferenceIdeal.nD Cert.DmergeReferenceIdeal.τ).loc Cert.DmergeReferenceIdeal.main_arg3) = m ((c.tc : Thread Cert.DmergeKernelIdeal.nD Cert.DmergeKernelIdeal.τ).loc Cert.DmergeKernelIdeal.main_arg3)
      ∧ m' ((c.tc : Thread Cert.DmergeReferenceIdeal.nD Cert.DmergeReferenceIdeal.τ).loc Cert.DmergeReferenceIdeal.main_arg4) = m ((c.tc : Thread Cert.DmergeKernelIdeal.nD Cert.DmergeKernelIdeal.τ).loc Cert.DmergeKernelIdeal.main_arg4)
      ∧ m' ((c.tc : Thread Cert.DmergeReferenceIdeal.nD Cert.DmergeReferenceIdeal.τ).loc Cert.DmergeReferenceIdeal.main_arg5) = m ((c.tc : Thread Cert.DmergeKernelIdeal.nD Cert.DmergeKernelIdeal.τ).loc Cert.DmergeKernelIdeal.main_arg5)) →
    ∃ (v0 : (c : Dev Cert.DmergeKernelIdeal.nD) → Buf (Elt Ideal) ((c.tc : Thread Cert.DmergeKernelIdeal.nD Cert.DmergeKernelIdeal.τ).loc Cert.DmergeKernelIdeal.main_v6_0)) (v1 : (c : Dev Cert.DmergeKernelIdeal.nD) → Buf (Elt Ideal) ((c.tc : Thread Cert.DmergeKernelIdeal.nD Cert.DmergeKernelIdeal.τ).loc Cert.DmergeKernelIdeal.main_v6_1)) (v2 : (c : Dev Cert.DmergeKernelIdeal.nD) → Buf (Elt Ideal) ((c.tc : Thread Cert.DmergeKernelIdeal.nD Cert.DmergeKernelIdeal.τ).loc Cert.DmergeKernelIdeal.main_v7)),
      θ_run (Cert.DmergeKernelIdeal.defs (F := Ideal)) (onTc (τ := Cert.DmergeKernelIdeal.τ) (Cert.DmergeKernelIdeal.main (F := Ideal))) ⟨m, fun _ => 0, g⟩ (fun r => ∀ c : Dev Cert.DmergeKernelIdeal.nD,
          r.2.mem ((c.tc : Thread Cert.DmergeKernelIdeal.nD Cert.DmergeKernelIdeal.τ).loc Cert.DmergeKernelIdeal.main_v6_0) = v0 c
          ∧ r.2.mem ((c.tc : Thread Cert.DmergeKernelIdeal.nD Cert.DmergeKernelIdeal.τ).loc Cert.DmergeKernelIdeal.main_v6_1) = v1 c
          ∧ r.2.mem ((c.tc : Thread Cert.DmergeKernelIdeal.nD Cert.DmergeKernelIdeal.τ).loc Cert.DmergeKernelIdeal.main_v7) = v2 c
          ∧ r.2.mem ((c.tc : Thread Cert.DmergeKernelIdeal.nD Cert.DmergeKernelIdeal.τ).loc Cert.DmergeKernelIdeal.main_arg0) = m ((c.tc : Thread Cert.DmergeKernelIdeal.nD Cert.DmergeKernelIdeal.τ).loc Cert.DmergeKernelIdeal.main_arg0)
          ∧ r.2.mem ((c.tc : Thread Cert.DmergeKernelIdeal.nD Cert.DmergeKernelIdeal.τ).loc Cert.DmergeKernelIdeal.main_arg1) = m ((c.tc : Thread Cert.DmergeKernelIdeal.nD Cert.DmergeKernelIdeal.τ).loc Cert.DmergeKernelIdeal.main_arg1)
          ∧ r.2.mem ((c.tc : Thread Cert.DmergeKernelIdeal.nD Cert.DmergeKernelIdeal.τ).loc Cert.DmergeKernelIdeal.main_arg2) = m ((c.tc : Thread Cert.DmergeKernelIdeal.nD Cert.DmergeKernelIdeal.τ).loc Cert.DmergeKernelIdeal.main_arg2)
          ∧ r.2.mem ((c.tc : Thread Cert.DmergeKernelIdeal.nD Cert.DmergeKernelIdeal.τ).loc Cert.DmergeKernelIdeal.main_arg3) = m ((c.tc : Thread Cert.DmergeKernelIdeal.nD Cert.DmergeKernelIdeal.τ).loc Cert.DmergeKernelIdeal.main_arg3)
          ∧ r.2.mem ((c.tc : Thread Cert.DmergeKernelIdeal.nD Cert.DmergeKernelIdeal.τ).loc Cert.DmergeKernelIdeal.main_arg4) = m ((c.tc : Thread Cert.DmergeKernelIdeal.nD Cert.DmergeKernelIdeal.τ).loc Cert.DmergeKernelIdeal.main_arg4)
          ∧ r.2.mem ((c.tc : Thread Cert.DmergeKernelIdeal.nD Cert.DmergeKernelIdeal.τ).loc Cert.DmergeKernelIdeal.main_arg5) = m ((c.tc : Thread Cert.DmergeKernelIdeal.nD Cert.DmergeKernelIdeal.τ).loc Cert.DmergeKernelIdeal.main_arg5))
      ∧ θ_run (Cert.DmergeReferenceIdeal.defs (F := Ideal)) (onTc (τ := Cert.DmergeReferenceIdeal.τ) (Cert.DmergeReferenceIdeal.main (F := Ideal))) ⟨m', fun _ => 0, g'⟩ (fun r => ∀ c : Dev Cert.DmergeReferenceIdeal.nD,
          r.2.mem ((c.tc : Thread Cert.DmergeReferenceIdeal.nD Cert.DmergeReferenceIdeal.τ).loc Cert.DmergeReferenceIdeal.main_v29) = v0 c
          ∧ r.2.mem ((c.tc : Thread Cert.DmergeReferenceIdeal.nD Cert.DmergeReferenceIdeal.τ).loc Cert.DmergeReferenceIdeal.main_v30) = v1 c
          ∧ r.2.mem ((c.tc : Thread Cert.DmergeReferenceIdeal.nD Cert.DmergeReferenceIdeal.τ).loc Cert.DmergeReferenceIdeal.main_v32) = v2 c
          ∧ r.2.mem ((c.tc : Thread Cert.DmergeReferenceIdeal.nD Cert.DmergeReferenceIdeal.τ).loc Cert.DmergeReferenceIdeal.main_arg0) = m' ((c.tc : Thread Cert.DmergeReferenceIdeal.nD Cert.DmergeReferenceIdeal.τ).loc Cert.DmergeReferenceIdeal.main_arg0)
          ∧ r.2.mem ((c.tc : Thread Cert.DmergeReferenceIdeal.nD Cert.DmergeReferenceIdeal.τ).loc Cert.DmergeReferenceIdeal.main_arg1) = m' ((c.tc : Thread Cert.DmergeReferenceIdeal.nD Cert.DmergeReferenceIdeal.τ).loc Cert.DmergeReferenceIdeal.main_arg1)
          ∧ r.2.mem ((c.tc : Thread Cert.DmergeReferenceIdeal.nD Cert.DmergeReferenceIdeal.τ).loc Cert.DmergeReferenceIdeal.main_arg2) = m' ((c.tc : Thread Cert.DmergeReferenceIdeal.nD Cert.DmergeReferenceIdeal.τ).loc Cert.DmergeReferenceIdeal.main_arg2)
          ∧ r.2.mem ((c.tc : Thread Cert.DmergeReferenceIdeal.nD Cert.DmergeReferenceIdeal.τ).loc Cert.DmergeReferenceIdeal.main_arg3) = m' ((c.tc : Thread Cert.DmergeReferenceIdeal.nD Cert.DmergeReferenceIdeal.τ).loc Cert.DmergeReferenceIdeal.main_arg3)
          ∧ r.2.mem ((c.tc : Thread Cert.DmergeReferenceIdeal.nD Cert.DmergeReferenceIdeal.τ).loc Cert.DmergeReferenceIdeal.main_arg4) = m' ((c.tc : Thread Cert.DmergeReferenceIdeal.nD Cert.DmergeReferenceIdeal.τ).loc Cert.DmergeReferenceIdeal.main_arg4)
          ∧ r.2.mem ((c.tc : Thread Cert.DmergeReferenceIdeal.nD Cert.DmergeReferenceIdeal.τ).loc Cert.DmergeReferenceIdeal.main_arg5) = m' ((c.tc : Thread Cert.DmergeReferenceIdeal.nD Cert.DmergeReferenceIdeal.τ).loc Cert.DmergeReferenceIdeal.main_arg5))

def preserves_FupKernel_FupKernelIdeal : Prop :=
  True

def algebraic_FupKernelIdeal_FupReferenceIdeal [hFupKernelIdeal : Cert.FupKernelIdeal.Facts] [hFupReferenceIdeal : Cert.FupReferenceIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)
      ∧ m' ((c.tc : Thread Cert.FupReferenceIdeal.nD Cert.FupReferenceIdeal.τ).loc Cert.FupReferenceIdeal.main_arg2) = m ((c.tc : Thread Cert.FupKernelIdeal.nD Cert.FupKernelIdeal.τ).loc Cert.FupKernelIdeal.main_arg2)) →
    ∃ (v0 : (c : Dev Cert.FupKernelIdeal.nD) → Buf (Elt Ideal) ((c.tc : Thread Cert.FupKernelIdeal.nD Cert.FupKernelIdeal.τ).loc Cert.FupKernelIdeal.main_v4_0)) (v1 : (c : Dev Cert.FupKernelIdeal.nD) → Buf (Elt Ideal) ((c.tc : Thread Cert.FupKernelIdeal.nD Cert.FupKernelIdeal.τ).loc Cert.FupKernelIdeal.main_v4_1)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v4_0) = v0 c
          ∧ r.2.mem ((c.tc : Thread Cert.FupKernelIdeal.nD Cert.FupKernelIdeal.τ).loc Cert.FupKernelIdeal.main_v4_1) = v1 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
          ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v12) = v0 c
          ∧ r.2.mem ((c.tc : Thread Cert.FupReferenceIdeal.nD Cert.FupReferenceIdeal.τ).loc Cert.FupReferenceIdeal.main_v13) = v1 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1)
          ∧ r.2.mem ((c.tc : Thread Cert.FupReferenceIdeal.nD Cert.FupReferenceIdeal.τ).loc Cert.FupReferenceIdeal.main_arg2) = m' ((c.tc : Thread Cert.FupReferenceIdeal.nD Cert.FupReferenceIdeal.τ).loc Cert.FupReferenceIdeal.main_arg2))

def preserves_InpKernel_InpKernelIdeal : Prop :=
  True

def algebraic_InpKernelIdeal_InpReferenceIdeal [hInpKernelIdeal : Cert.InpKernelIdeal.Facts] [hInpReferenceIdeal : Cert.InpReferenceIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)
      ∧ m' ((c.tc : Thread Cert.InpReferenceIdeal.nD Cert.InpReferenceIdeal.τ).loc Cert.InpReferenceIdeal.main_arg2) = m ((c.tc : Thread Cert.InpKernelIdeal.nD Cert.InpKernelIdeal.τ).loc Cert.InpKernelIdeal.main_arg2)) →
    ∃ (v0 : (c : Dev Cert.InpKernelIdeal.nD) → Buf (Elt Ideal) ((c.tc : Thread Cert.InpKernelIdeal.nD Cert.InpKernelIdeal.τ).loc Cert.InpKernelIdeal.main_v49)) (v1 : (c : Dev Cert.InpKernelIdeal.nD) → Buf (Elt Ideal) ((c.tc : Thread Cert.InpKernelIdeal.nD Cert.InpKernelIdeal.τ).loc Cert.InpKernelIdeal.main_v27_1)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v49) = v0 c
          ∧ r.2.mem ((c.tc : Thread Cert.InpKernelIdeal.nD Cert.InpKernelIdeal.τ).loc Cert.InpKernelIdeal.main_v27_1) = v1 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v12) = v0 c
          ∧ r.2.mem ((c.tc : Thread Cert.InpReferenceIdeal.nD Cert.InpReferenceIdeal.τ).loc Cert.InpReferenceIdeal.main_v13) = v1 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)
      ∧ m' ((c.tc : Thread Cert.SmallReferenceIdeal.nD Cert.SmallReferenceIdeal.τ).loc Cert.SmallReferenceIdeal.main_arg16) = m ((c.tc : Thread Cert.SmallKernelIdeal.nD Cert.SmallKernelIdeal.τ).loc Cert.SmallKernelIdeal.main_arg16)
      ∧ m' ((c.tc : Thread Cert.SmallReferenceIdeal.nD Cert.SmallReferenceIdeal.τ).loc Cert.SmallReferenceIdeal.main_arg17) = m ((c.tc : Thread Cert.SmallKernelIdeal.nD Cert.SmallKernelIdeal.τ).loc Cert.SmallKernelIdeal.main_arg17)
      ∧ m' ((c.tc : Thread Cert.SmallReferenceIdeal.nD Cert.SmallReferenceIdeal.τ).loc Cert.SmallReferenceIdeal.main_arg18) = m ((c.tc : Thread Cert.SmallKernelIdeal.nD Cert.SmallKernelIdeal.τ).loc Cert.SmallKernelIdeal.main_arg18)
      ∧ m' ((c.tc : Thread Cert.SmallReferenceIdeal.nD Cert.SmallReferenceIdeal.τ).loc Cert.SmallReferenceIdeal.main_arg19) = m ((c.tc : Thread Cert.SmallKernelIdeal.nD Cert.SmallKernelIdeal.τ).loc Cert.SmallKernelIdeal.main_arg19)
      ∧ m' ((c.tc : Thread Cert.SmallReferenceIdeal.nD Cert.SmallReferenceIdeal.τ).loc Cert.SmallReferenceIdeal.main_arg20) = m ((c.tc : Thread Cert.SmallKernelIdeal.nD Cert.SmallKernelIdeal.τ).loc Cert.SmallKernelIdeal.main_arg20)
      ∧ m' ((c.tc : Thread Cert.SmallReferenceIdeal.nD Cert.SmallReferenceIdeal.τ).loc Cert.SmallReferenceIdeal.main_arg21) = m ((c.tc : Thread Cert.SmallKernelIdeal.nD Cert.SmallKernelIdeal.τ).loc Cert.SmallKernelIdeal.main_arg21)
      ∧ m' ((c.tc : Thread Cert.SmallReferenceIdeal.nD Cert.SmallReferenceIdeal.τ).loc Cert.SmallReferenceIdeal.main_arg22) = m ((c.tc : Thread Cert.SmallKernelIdeal.nD Cert.SmallKernelIdeal.τ).loc Cert.SmallKernelIdeal.main_arg22)
      ∧ m' ((c.tc : Thread Cert.SmallReferenceIdeal.nD Cert.SmallReferenceIdeal.τ).loc Cert.SmallReferenceIdeal.main_arg23) = m ((c.tc : Thread Cert.SmallKernelIdeal.nD Cert.SmallKernelIdeal.τ).loc Cert.SmallKernelIdeal.main_arg23)
      ∧ m' ((c.tc : Thread Cert.SmallReferenceIdeal.nD Cert.SmallReferenceIdeal.τ).loc Cert.SmallReferenceIdeal.main_arg24) = m ((c.tc : Thread Cert.SmallKernelIdeal.nD Cert.SmallKernelIdeal.τ).loc Cert.SmallKernelIdeal.main_arg24)
      ∧ m' ((c.tc : Thread Cert.SmallReferenceIdeal.nD Cert.SmallReferenceIdeal.τ).loc Cert.SmallReferenceIdeal.main_arg25) = m ((c.tc : Thread Cert.SmallKernelIdeal.nD Cert.SmallKernelIdeal.τ).loc Cert.SmallKernelIdeal.main_arg25)
      ∧ m' ((c.tc : Thread Cert.SmallReferenceIdeal.nD Cert.SmallReferenceIdeal.τ).loc Cert.SmallReferenceIdeal.main_arg26) = m ((c.tc : Thread Cert.SmallKernelIdeal.nD Cert.SmallKernelIdeal.τ).loc Cert.SmallKernelIdeal.main_arg26)
      ∧ m' ((c.tc : Thread Cert.SmallReferenceIdeal.nD Cert.SmallReferenceIdeal.τ).loc Cert.SmallReferenceIdeal.main_arg27) = m ((c.tc : Thread Cert.SmallKernelIdeal.nD Cert.SmallKernelIdeal.τ).loc Cert.SmallKernelIdeal.main_arg27)
      ∧ m' ((c.tc : Thread Cert.SmallReferenceIdeal.nD Cert.SmallReferenceIdeal.τ).loc Cert.SmallReferenceIdeal.main_arg28) = m ((c.tc : Thread Cert.SmallKernelIdeal.nD Cert.SmallKernelIdeal.τ).loc Cert.SmallKernelIdeal.main_arg28)
      ∧ m' ((c.tc : Thread Cert.SmallReferenceIdeal.nD Cert.SmallReferenceIdeal.τ).loc Cert.SmallReferenceIdeal.main_arg29) = m ((c.tc : Thread Cert.SmallKernelIdeal.nD Cert.SmallKernelIdeal.τ).loc Cert.SmallKernelIdeal.main_arg29)
      ∧ m' ((c.tc : Thread Cert.SmallReferenceIdeal.nD Cert.SmallReferenceIdeal.τ).loc Cert.SmallReferenceIdeal.main_arg30) = m ((c.tc : Thread Cert.SmallKernelIdeal.nD Cert.SmallKernelIdeal.τ).loc Cert.SmallKernelIdeal.main_arg30)
      ∧ m' ((c.tc : Thread Cert.SmallReferenceIdeal.nD Cert.SmallReferenceIdeal.τ).loc Cert.SmallReferenceIdeal.main_arg31) = m ((c.tc : Thread Cert.SmallKernelIdeal.nD Cert.SmallKernelIdeal.τ).loc Cert.SmallKernelIdeal.main_arg31)
      ∧ m' ((c.tc : Thread Cert.SmallReferenceIdeal.nD Cert.SmallReferenceIdeal.τ).loc Cert.SmallReferenceIdeal.main_arg32) = m ((c.tc : Thread Cert.SmallKernelIdeal.nD Cert.SmallKernelIdeal.τ).loc Cert.SmallKernelIdeal.main_arg32)
      ∧ m' ((c.tc : Thread Cert.SmallReferenceIdeal.nD Cert.SmallReferenceIdeal.τ).loc Cert.SmallReferenceIdeal.main_arg33) = m ((c.tc : Thread Cert.SmallKernelIdeal.nD Cert.SmallKernelIdeal.τ).loc Cert.SmallKernelIdeal.main_arg33)
      ∧ m' ((c.tc : Thread Cert.SmallReferenceIdeal.nD Cert.SmallReferenceIdeal.τ).loc Cert.SmallReferenceIdeal.main_arg34) = m ((c.tc : Thread Cert.SmallKernelIdeal.nD Cert.SmallKernelIdeal.τ).loc Cert.SmallKernelIdeal.main_arg34)
      ∧ m' ((c.tc : Thread Cert.SmallReferenceIdeal.nD Cert.SmallReferenceIdeal.τ).loc Cert.SmallReferenceIdeal.main_arg35) = m ((c.tc : Thread Cert.SmallKernelIdeal.nD Cert.SmallKernelIdeal.τ).loc Cert.SmallKernelIdeal.main_arg35)
      ∧ m' ((c.tc : Thread Cert.SmallReferenceIdeal.nD Cert.SmallReferenceIdeal.τ).loc Cert.SmallReferenceIdeal.main_arg36) = m ((c.tc : Thread Cert.SmallKernelIdeal.nD Cert.SmallKernelIdeal.τ).loc Cert.SmallKernelIdeal.main_arg36)
      ∧ m' ((c.tc : Thread Cert.SmallReferenceIdeal.nD Cert.SmallReferenceIdeal.τ).loc Cert.SmallReferenceIdeal.main_arg37) = m ((c.tc : Thread Cert.SmallKernelIdeal.nD Cert.SmallKernelIdeal.τ).loc Cert.SmallKernelIdeal.main_arg37)
      ∧ m' ((c.tc : Thread Cert.SmallReferenceIdeal.nD Cert.SmallReferenceIdeal.τ).loc Cert.SmallReferenceIdeal.main_arg38) = m ((c.tc : Thread Cert.SmallKernelIdeal.nD Cert.SmallKernelIdeal.τ).loc Cert.SmallKernelIdeal.main_arg38)
      ∧ m' ((c.tc : Thread Cert.SmallReferenceIdeal.nD Cert.SmallReferenceIdeal.τ).loc Cert.SmallReferenceIdeal.main_arg39) = m ((c.tc : Thread Cert.SmallKernelIdeal.nD Cert.SmallKernelIdeal.τ).loc Cert.SmallKernelIdeal.main_arg39)
      ∧ m' ((c.tc : Thread Cert.SmallReferenceIdeal.nD Cert.SmallReferenceIdeal.τ).loc Cert.SmallReferenceIdeal.main_arg40) = m ((c.tc : Thread Cert.SmallKernelIdeal.nD Cert.SmallKernelIdeal.τ).loc Cert.SmallKernelIdeal.main_arg40)
      ∧ m' ((c.tc : Thread Cert.SmallReferenceIdeal.nD Cert.SmallReferenceIdeal.τ).loc Cert.SmallReferenceIdeal.main_arg41) = m ((c.tc : Thread Cert.SmallKernelIdeal.nD Cert.SmallKernelIdeal.τ).loc Cert.SmallKernelIdeal.main_arg41)
      ∧ m' ((c.tc : Thread Cert.SmallReferenceIdeal.nD Cert.SmallReferenceIdeal.τ).loc Cert.SmallReferenceIdeal.main_arg42) = m ((c.tc : Thread Cert.SmallKernelIdeal.nD Cert.SmallKernelIdeal.τ).loc Cert.SmallKernelIdeal.main_arg42)
      ∧ m' ((c.tc : Thread Cert.SmallReferenceIdeal.nD Cert.SmallReferenceIdeal.τ).loc Cert.SmallReferenceIdeal.main_arg43) = m ((c.tc : Thread Cert.SmallKernelIdeal.nD Cert.SmallKernelIdeal.τ).loc Cert.SmallKernelIdeal.main_arg43)
      ∧ m' ((c.tc : Thread Cert.SmallReferenceIdeal.nD Cert.SmallReferenceIdeal.τ).loc Cert.SmallReferenceIdeal.main_arg44) = m ((c.tc : Thread Cert.SmallKernelIdeal.nD Cert.SmallKernelIdeal.τ).loc Cert.SmallKernelIdeal.main_arg44)
      ∧ m' ((c.tc : Thread Cert.SmallReferenceIdeal.nD Cert.SmallReferenceIdeal.τ).loc Cert.SmallReferenceIdeal.main_arg45) = m ((c.tc : Thread Cert.SmallKernelIdeal.nD Cert.SmallKernelIdeal.τ).loc Cert.SmallKernelIdeal.main_arg45)
      ∧ m' ((c.tc : Thread Cert.SmallReferenceIdeal.nD Cert.SmallReferenceIdeal.τ).loc Cert.SmallReferenceIdeal.main_arg46) = m ((c.tc : Thread Cert.SmallKernelIdeal.nD Cert.SmallKernelIdeal.τ).loc Cert.SmallKernelIdeal.main_arg46)
      ∧ m' ((c.tc : Thread Cert.SmallReferenceIdeal.nD Cert.SmallReferenceIdeal.τ).loc Cert.SmallReferenceIdeal.main_arg47) = m ((c.tc : Thread Cert.SmallKernelIdeal.nD Cert.SmallKernelIdeal.τ).loc Cert.SmallKernelIdeal.main_arg47)
      ∧ m' ((c.tc : Thread Cert.SmallReferenceIdeal.nD Cert.SmallReferenceIdeal.τ).loc Cert.SmallReferenceIdeal.main_arg48) = m ((c.tc : Thread Cert.SmallKernelIdeal.nD Cert.SmallKernelIdeal.τ).loc Cert.SmallKernelIdeal.main_arg48)
      ∧ m' ((c.tc : Thread Cert.SmallReferenceIdeal.nD Cert.SmallReferenceIdeal.τ).loc Cert.SmallReferenceIdeal.main_arg49) = m ((c.tc : Thread Cert.SmallKernelIdeal.nD Cert.SmallKernelIdeal.τ).loc Cert.SmallKernelIdeal.main_arg49)
      ∧ m' ((c.tc : Thread Cert.SmallReferenceIdeal.nD Cert.SmallReferenceIdeal.τ).loc Cert.SmallReferenceIdeal.main_arg50) = m ((c.tc : Thread Cert.SmallKernelIdeal.nD Cert.SmallKernelIdeal.τ).loc Cert.SmallKernelIdeal.main_arg50)
      ∧ m' ((c.tc : Thread Cert.SmallReferenceIdeal.nD Cert.SmallReferenceIdeal.τ).loc Cert.SmallReferenceIdeal.main_arg51) = m ((c.tc : Thread Cert.SmallKernelIdeal.nD Cert.SmallKernelIdeal.τ).loc Cert.SmallKernelIdeal.main_arg51)) →
    ∃ (v0 : (c : Dev Cert.SmallKernelIdeal.nD) → Buf (Elt Ideal) ((c.tc : Thread Cert.SmallKernelIdeal.nD Cert.SmallKernelIdeal.τ).loc Cert.SmallKernelIdeal.main_v67)) (v1 : (c : Dev Cert.SmallKernelIdeal.nD) → Buf (Elt Ideal) ((c.tc : Thread Cert.SmallKernelIdeal.nD Cert.SmallKernelIdeal.τ).loc Cert.SmallKernelIdeal.main_v69)) (v2 : (c : Dev Cert.SmallKernelIdeal.nD) → Buf (Elt Ideal) ((c.tc : Thread Cert.SmallKernelIdeal.nD Cert.SmallKernelIdeal.τ).loc Cert.SmallKernelIdeal.main_v71)) (v3 : (c : Dev Cert.SmallKernelIdeal.nD) → Buf (Elt Ideal) ((c.tc : Thread Cert.SmallKernelIdeal.nD Cert.SmallKernelIdeal.τ).loc Cert.SmallKernelIdeal.main_v73)) (v4 : (c : Dev Cert.SmallKernelIdeal.nD) → Buf (Elt Ideal) ((c.tc : Thread Cert.SmallKernelIdeal.nD Cert.SmallKernelIdeal.τ).loc Cert.SmallKernelIdeal.main_v75)) (v5 : (c : Dev Cert.SmallKernelIdeal.nD) → Buf (Elt Ideal) ((c.tc : Thread Cert.SmallKernelIdeal.nD Cert.SmallKernelIdeal.τ).loc Cert.SmallKernelIdeal.main_v77)) (v6 : (c : Dev Cert.SmallKernelIdeal.nD) → Buf (Elt Ideal) ((c.tc : Thread Cert.SmallKernelIdeal.nD Cert.SmallKernelIdeal.τ).loc Cert.SmallKernelIdeal.main_v79)) (v7 : (c : Dev Cert.SmallKernelIdeal.nD) → Buf (Elt Ideal) ((c.tc : Thread Cert.SmallKernelIdeal.nD Cert.SmallKernelIdeal.τ).loc Cert.SmallKernelIdeal.main_v81)) (v8 : (c : Dev Cert.SmallKernelIdeal.nD) → Buf (Elt Ideal) ((c.tc : Thread Cert.SmallKernelIdeal.nD Cert.SmallKernelIdeal.τ).loc Cert.SmallKernelIdeal.main_v83)) (v9 : (c : Dev Cert.SmallKernelIdeal.nD) → Buf (Elt Ideal) ((c.tc : Thread Cert.SmallKernelIdeal.nD Cert.SmallKernelIdeal.τ).loc Cert.SmallKernelIdeal.main_v85)) (v10 : (c : Dev Cert.SmallKernelIdeal.nD) → Buf (Elt Ideal) ((c.tc : Thread Cert.SmallKernelIdeal.nD Cert.SmallKernelIdeal.τ).loc Cert.SmallKernelIdeal.main_v87)) (v11 : (c : Dev Cert.SmallKernelIdeal.nD) → Buf (Elt Ideal) ((c.tc : Thread Cert.SmallKernelIdeal.nD Cert.SmallKernelIdeal.τ).loc Cert.SmallKernelIdeal.main_v89)) (v12 : (c : Dev Cert.SmallKernelIdeal.nD) → Buf (Elt Ideal) ((c.tc : Thread Cert.SmallKernelIdeal.nD Cert.SmallKernelIdeal.τ).loc Cert.SmallKernelIdeal.main_v91)) (v13 : (c : Dev Cert.SmallKernelIdeal.nD) → Buf (Elt Ideal) ((c.tc : Thread Cert.SmallKernelIdeal.nD Cert.SmallKernelIdeal.τ).loc Cert.SmallKernelIdeal.main_v94)) (v14 : (c : Dev Cert.SmallKernelIdeal.nD) → Buf (Elt Ideal) ((c.tc : Thread Cert.SmallKernelIdeal.nD Cert.SmallKernelIdeal.τ).loc Cert.SmallKernelIdeal.main_v96)) (v15 : (c : Dev Cert.SmallKernelIdeal.nD) → Buf (Elt Ideal) ((c.tc : Thread Cert.SmallKernelIdeal.nD Cert.SmallKernelIdeal.τ).loc Cert.SmallKernelIdeal.main_v98)) (v16 : (c : Dev Cert.SmallKernelIdeal.nD) → Buf (Elt Ideal) ((c.tc : Thread Cert.SmallKernelIdeal.nD Cert.SmallKernelIdeal.τ).loc Cert.SmallKernelIdeal.main_v100)) (v17 : (c : Dev Cert.SmallKernelIdeal.nD) → Buf (Elt Ideal) ((c.tc : Thread Cert.SmallKernelIdeal.nD Cert.SmallKernelIdeal.τ).loc Cert.SmallKernelIdeal.main_v102)) (v18 : (c : Dev Cert.SmallKernelIdeal.nD) → Buf (Elt Ideal) ((c.tc : Thread Cert.SmallKernelIdeal.nD Cert.SmallKernelIdeal.τ).loc Cert.SmallKernelIdeal.main_v104)) (v19 : (c : Dev Cert.SmallKernelIdeal.nD) → Buf (Elt Ideal) ((c.tc : Thread Cert.SmallKernelIdeal.nD Cert.SmallKernelIdeal.τ).loc Cert.SmallKernelIdeal.main_v106)) (v20 : (c : Dev Cert.SmallKernelIdeal.nD) → Buf (Elt Ideal) ((c.tc : Thread Cert.SmallKernelIdeal.nD Cert.SmallKernelIdeal.τ).loc Cert.SmallKernelIdeal.main_v108)) (v21 : (c : Dev Cert.SmallKernelIdeal.nD) → Buf (Elt Ideal) ((c.tc : Thread Cert.SmallKernelIdeal.nD Cert.SmallKernelIdeal.τ).loc Cert.SmallKernelIdeal.main_v110)) (v22 : (c : Dev Cert.SmallKernelIdeal.nD) → Buf (Elt Ideal) ((c.tc : Thread Cert.SmallKernelIdeal.nD Cert.SmallKernelIdeal.τ).loc Cert.SmallKernelIdeal.main_v112)) (v23 : (c : Dev Cert.SmallKernelIdeal.nD) → Buf (Elt Ideal) ((c.tc : Thread Cert.SmallKernelIdeal.nD Cert.SmallKernelIdeal.τ).loc Cert.SmallKernelIdeal.main_v114)) (v24 : (c : Dev Cert.SmallKernelIdeal.nD) → Buf (Elt Ideal) ((c.tc : Thread Cert.SmallKernelIdeal.nD Cert.SmallKernelIdeal.τ).loc Cert.SmallKernelIdeal.main_v116)) (v25 : (c : Dev Cert.SmallKernelIdeal.nD) → Buf (Elt Ideal) ((c.tc : Thread Cert.SmallKernelIdeal.nD Cert.SmallKernelIdeal.τ).loc Cert.SmallKernelIdeal.main_v118)) (v26 : (c : Dev Cert.SmallKernelIdeal.nD) → Buf (Elt Ideal) ((c.tc : Thread Cert.SmallKernelIdeal.nD Cert.SmallKernelIdeal.τ).loc Cert.SmallKernelIdeal.main_v121)) (v27 : (c : Dev Cert.SmallKernelIdeal.nD) → Buf (Elt Ideal) ((c.tc : Thread Cert.SmallKernelIdeal.nD Cert.SmallKernelIdeal.τ).loc Cert.SmallKernelIdeal.main_v123)) (v28 : (c : Dev Cert.SmallKernelIdeal.nD) → Buf (Elt Ideal) ((c.tc : Thread Cert.SmallKernelIdeal.nD Cert.SmallKernelIdeal.τ).loc Cert.SmallKernelIdeal.main_v125)) (v29 : (c : Dev Cert.SmallKernelIdeal.nD) → Buf (Elt Ideal) ((c.tc : Thread Cert.SmallKernelIdeal.nD Cert.SmallKernelIdeal.τ).loc Cert.SmallKernelIdeal.main_v127)) (v30 : (c : Dev Cert.SmallKernelIdeal.nD) → Buf (Elt Ideal) ((c.tc : Thread Cert.SmallKernelIdeal.nD Cert.SmallKernelIdeal.τ).loc Cert.SmallKernelIdeal.main_v129)) (v31 : (c : Dev Cert.SmallKernelIdeal.nD) → Buf (Elt Ideal) ((c.tc : Thread Cert.SmallKernelIdeal.nD Cert.SmallKernelIdeal.τ).loc Cert.SmallKernelIdeal.main_v131)) (v32 : (c : Dev Cert.SmallKernelIdeal.nD) → Buf (Elt Ideal) ((c.tc : Thread Cert.SmallKernelIdeal.nD Cert.SmallKernelIdeal.τ).loc Cert.SmallKernelIdeal.main_v133)) (v33 : (c : Dev Cert.SmallKernelIdeal.nD) → Buf (Elt Ideal) ((c.tc : Thread Cert.SmallKernelIdeal.nD Cert.SmallKernelIdeal.τ).loc Cert.SmallKernelIdeal.main_v135)) (v34 : (c : Dev Cert.SmallKernelIdeal.nD) → Buf (Elt Ideal) ((c.tc : Thread Cert.SmallKernelIdeal.nD Cert.SmallKernelIdeal.τ).loc Cert.SmallKernelIdeal.main_v137)) (v35 : (c : Dev Cert.SmallKernelIdeal.nD) → Buf (Elt Ideal) ((c.tc : Thread Cert.SmallKernelIdeal.nD Cert.SmallKernelIdeal.τ).loc Cert.SmallKernelIdeal.main_v139)) (v36 : (c : Dev Cert.SmallKernelIdeal.nD) → Buf (Elt Ideal) ((c.tc : Thread Cert.SmallKernelIdeal.nD Cert.SmallKernelIdeal.τ).loc Cert.SmallKernelIdeal.main_v141)) (v37 : (c : Dev Cert.SmallKernelIdeal.nD) → Buf (Elt Ideal) ((c.tc : Thread Cert.SmallKernelIdeal.nD Cert.SmallKernelIdeal.τ).loc Cert.SmallKernelIdeal.main_v143)) (v38 : (c : Dev Cert.SmallKernelIdeal.nD) → Buf (Elt Ideal) ((c.tc : Thread Cert.SmallKernelIdeal.nD Cert.SmallKernelIdeal.τ).loc Cert.SmallKernelIdeal.main_v145)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v67) = v0 c
          ∧ r.2.mem ((c.tc : Thread Cert.SmallKernelIdeal.nD Cert.SmallKernelIdeal.τ).loc Cert.SmallKernelIdeal.main_v69) = v1 c
          ∧ r.2.mem ((c.tc : Thread Cert.SmallKernelIdeal.nD Cert.SmallKernelIdeal.τ).loc Cert.SmallKernelIdeal.main_v71) = v2 c
          ∧ r.2.mem ((c.tc : Thread Cert.SmallKernelIdeal.nD Cert.SmallKernelIdeal.τ).loc Cert.SmallKernelIdeal.main_v73) = v3 c
          ∧ r.2.mem ((c.tc : Thread Cert.SmallKernelIdeal.nD Cert.SmallKernelIdeal.τ).loc Cert.SmallKernelIdeal.main_v75) = v4 c
          ∧ r.2.mem ((c.tc : Thread Cert.SmallKernelIdeal.nD Cert.SmallKernelIdeal.τ).loc Cert.SmallKernelIdeal.main_v77) = v5 c
          ∧ r.2.mem ((c.tc : Thread Cert.SmallKernelIdeal.nD Cert.SmallKernelIdeal.τ).loc Cert.SmallKernelIdeal.main_v79) = v6 c
          ∧ r.2.mem ((c.tc : Thread Cert.SmallKernelIdeal.nD Cert.SmallKernelIdeal.τ).loc Cert.SmallKernelIdeal.main_v81) = v7 c
          ∧ r.2.mem ((c.tc : Thread Cert.SmallKernelIdeal.nD Cert.SmallKernelIdeal.τ).loc Cert.SmallKernelIdeal.main_v83) = v8 c
          ∧ r.2.mem ((c.tc : Thread Cert.SmallKernelIdeal.nD Cert.SmallKernelIdeal.τ).loc Cert.SmallKernelIdeal.main_v85) = v9 c
          ∧ r.2.mem ((c.tc : Thread Cert.SmallKernelIdeal.nD Cert.SmallKernelIdeal.τ).loc Cert.SmallKernelIdeal.main_v87) = v10 c
          ∧ r.2.mem ((c.tc : Thread Cert.SmallKernelIdeal.nD Cert.SmallKernelIdeal.τ).loc Cert.SmallKernelIdeal.main_v89) = v11 c
          ∧ r.2.mem ((c.tc : Thread Cert.SmallKernelIdeal.nD Cert.SmallKernelIdeal.τ).loc Cert.SmallKernelIdeal.main_v91) = v12 c
          ∧ r.2.mem ((c.tc : Thread Cert.SmallKernelIdeal.nD Cert.SmallKernelIdeal.τ).loc Cert.SmallKernelIdeal.main_v94) = v13 c
          ∧ r.2.mem ((c.tc : Thread Cert.SmallKernelIdeal.nD Cert.SmallKernelIdeal.τ).loc Cert.SmallKernelIdeal.main_v96) = v14 c
          ∧ r.2.mem ((c.tc : Thread Cert.SmallKernelIdeal.nD Cert.SmallKernelIdeal.τ).loc Cert.SmallKernelIdeal.main_v98) = v15 c
          ∧ r.2.mem ((c.tc : Thread Cert.SmallKernelIdeal.nD Cert.SmallKernelIdeal.τ).loc Cert.SmallKernelIdeal.main_v100) = v16 c
          ∧ r.2.mem ((c.tc : Thread Cert.SmallKernelIdeal.nD Cert.SmallKernelIdeal.τ).loc Cert.SmallKernelIdeal.main_v102) = v17 c
          ∧ r.2.mem ((c.tc : Thread Cert.SmallKernelIdeal.nD Cert.SmallKernelIdeal.τ).loc Cert.SmallKernelIdeal.main_v104) = v18 c
          ∧ r.2.mem ((c.tc : Thread Cert.SmallKernelIdeal.nD Cert.SmallKernelIdeal.τ).loc Cert.SmallKernelIdeal.main_v106) = v19 c
          ∧ r.2.mem ((c.tc : Thread Cert.SmallKernelIdeal.nD Cert.SmallKernelIdeal.τ).loc Cert.SmallKernelIdeal.main_v108) = v20 c
          ∧ r.2.mem ((c.tc : Thread Cert.SmallKernelIdeal.nD Cert.SmallKernelIdeal.τ).loc Cert.SmallKernelIdeal.main_v110) = v21 c
          ∧ r.2.mem ((c.tc : Thread Cert.SmallKernelIdeal.nD Cert.SmallKernelIdeal.τ).loc Cert.SmallKernelIdeal.main_v112) = v22 c
          ∧ r.2.mem ((c.tc : Thread Cert.SmallKernelIdeal.nD Cert.SmallKernelIdeal.τ).loc Cert.SmallKernelIdeal.main_v114) = v23 c
          ∧ r.2.mem ((c.tc : Thread Cert.SmallKernelIdeal.nD Cert.SmallKernelIdeal.τ).loc Cert.SmallKernelIdeal.main_v116) = v24 c
          ∧ r.2.mem ((c.tc : Thread Cert.SmallKernelIdeal.nD Cert.SmallKernelIdeal.τ).loc Cert.SmallKernelIdeal.main_v118) = v25 c
          ∧ r.2.mem ((c.tc : Thread Cert.SmallKernelIdeal.nD Cert.SmallKernelIdeal.τ).loc Cert.SmallKernelIdeal.main_v121) = v26 c
          ∧ r.2.mem ((c.tc : Thread Cert.SmallKernelIdeal.nD Cert.SmallKernelIdeal.τ).loc Cert.SmallKernelIdeal.main_v123) = v27 c
          ∧ r.2.mem ((c.tc : Thread Cert.SmallKernelIdeal.nD Cert.SmallKernelIdeal.τ).loc Cert.SmallKernelIdeal.main_v125) = v28 c
          ∧ r.2.mem ((c.tc : Thread Cert.SmallKernelIdeal.nD Cert.SmallKernelIdeal.τ).loc Cert.SmallKernelIdeal.main_v127) = v29 c
          ∧ r.2.mem ((c.tc : Thread Cert.SmallKernelIdeal.nD Cert.SmallKernelIdeal.τ).loc Cert.SmallKernelIdeal.main_v129) = v30 c
          ∧ r.2.mem ((c.tc : Thread Cert.SmallKernelIdeal.nD Cert.SmallKernelIdeal.τ).loc Cert.SmallKernelIdeal.main_v131) = v31 c
          ∧ r.2.mem ((c.tc : Thread Cert.SmallKernelIdeal.nD Cert.SmallKernelIdeal.τ).loc Cert.SmallKernelIdeal.main_v133) = v32 c
          ∧ r.2.mem ((c.tc : Thread Cert.SmallKernelIdeal.nD Cert.SmallKernelIdeal.τ).loc Cert.SmallKernelIdeal.main_v135) = v33 c
          ∧ r.2.mem ((c.tc : Thread Cert.SmallKernelIdeal.nD Cert.SmallKernelIdeal.τ).loc Cert.SmallKernelIdeal.main_v137) = v34 c
          ∧ r.2.mem ((c.tc : Thread Cert.SmallKernelIdeal.nD Cert.SmallKernelIdeal.τ).loc Cert.SmallKernelIdeal.main_v139) = v35 c
          ∧ r.2.mem ((c.tc : Thread Cert.SmallKernelIdeal.nD Cert.SmallKernelIdeal.τ).loc Cert.SmallKernelIdeal.main_v141) = v36 c
          ∧ r.2.mem ((c.tc : Thread Cert.SmallKernelIdeal.nD Cert.SmallKernelIdeal.τ).loc Cert.SmallKernelIdeal.main_v143) = v37 c
          ∧ r.2.mem ((c.tc : Thread Cert.SmallKernelIdeal.nD Cert.SmallKernelIdeal.τ).loc Cert.SmallKernelIdeal.main_v145) = v38 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
          ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
          ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
          ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
          ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
          ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
          ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
          ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
          ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
          ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
          ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
          ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
          ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
          ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
          ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
          ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
          ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
          ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
          ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
          ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
          ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
          ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
          ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
          ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
          ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
          ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
          ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
          ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
          ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
          ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
          ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
          ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
          ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
          ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
          ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
          ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
          ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v47) = v1 c
          ∧ r.2.mem ((c.tc : Thread Cert.SmallReferenceIdeal.nD Cert.SmallReferenceIdeal.τ).loc Cert.SmallReferenceIdeal.main_v71) = v2 c
          ∧ r.2.mem ((c.tc : Thread Cert.SmallReferenceIdeal.nD Cert.SmallReferenceIdeal.τ).loc Cert.SmallReferenceIdeal.main_v95) = v3 c
          ∧ r.2.mem ((c.tc : Thread Cert.SmallReferenceIdeal.nD Cert.SmallReferenceIdeal.τ).loc Cert.SmallReferenceIdeal.main_v119) = v4 c
          ∧ r.2.mem ((c.tc : Thread Cert.SmallReferenceIdeal.nD Cert.SmallReferenceIdeal.τ).loc Cert.SmallReferenceIdeal.main_v143) = v5 c
          ∧ r.2.mem ((c.tc : Thread Cert.SmallReferenceIdeal.nD Cert.SmallReferenceIdeal.τ).loc Cert.SmallReferenceIdeal.main_v167) = v6 c
          ∧ r.2.mem ((c.tc : Thread Cert.SmallReferenceIdeal.nD Cert.SmallReferenceIdeal.τ).loc Cert.SmallReferenceIdeal.main_v191) = v7 c
          ∧ r.2.mem ((c.tc : Thread Cert.SmallReferenceIdeal.nD Cert.SmallReferenceIdeal.τ).loc Cert.SmallReferenceIdeal.main_v215) = v8 c
          ∧ r.2.mem ((c.tc : Thread Cert.SmallReferenceIdeal.nD Cert.SmallReferenceIdeal.τ).loc Cert.SmallReferenceIdeal.main_v239) = v9 c
          ∧ r.2.mem ((c.tc : Thread Cert.SmallReferenceIdeal.nD Cert.SmallReferenceIdeal.τ).loc Cert.SmallReferenceIdeal.main_v263) = v10 c
          ∧ r.2.mem ((c.tc : Thread Cert.SmallReferenceIdeal.nD Cert.SmallReferenceIdeal.τ).loc Cert.SmallReferenceIdeal.main_v287) = v11 c
          ∧ r.2.mem ((c.tc : Thread Cert.SmallReferenceIdeal.nD Cert.SmallReferenceIdeal.τ).loc Cert.SmallReferenceIdeal.main_v311) = v12 c
          ∧ r.2.mem ((c.tc : Thread Cert.SmallReferenceIdeal.nD Cert.SmallReferenceIdeal.τ).loc Cert.SmallReferenceIdeal.main_v4) = v13 c
          ∧ r.2.mem ((c.tc : Thread Cert.SmallReferenceIdeal.nD Cert.SmallReferenceIdeal.τ).loc Cert.SmallReferenceIdeal.main_v28) = v14 c
          ∧ r.2.mem ((c.tc : Thread Cert.SmallReferenceIdeal.nD Cert.SmallReferenceIdeal.τ).loc Cert.SmallReferenceIdeal.main_v52) = v15 c
          ∧ r.2.mem ((c.tc : Thread Cert.SmallReferenceIdeal.nD Cert.SmallReferenceIdeal.τ).loc Cert.SmallReferenceIdeal.main_v76) = v16 c
          ∧ r.2.mem ((c.tc : Thread Cert.SmallReferenceIdeal.nD Cert.SmallReferenceIdeal.τ).loc Cert.SmallReferenceIdeal.main_v100) = v17 c
          ∧ r.2.mem ((c.tc : Thread Cert.SmallReferenceIdeal.nD Cert.SmallReferenceIdeal.τ).loc Cert.SmallReferenceIdeal.main_v124) = v18 c
          ∧ r.2.mem ((c.tc : Thread Cert.SmallReferenceIdeal.nD Cert.SmallReferenceIdeal.τ).loc Cert.SmallReferenceIdeal.main_v148) = v19 c
          ∧ r.2.mem ((c.tc : Thread Cert.SmallReferenceIdeal.nD Cert.SmallReferenceIdeal.τ).loc Cert.SmallReferenceIdeal.main_v172) = v20 c
          ∧ r.2.mem ((c.tc : Thread Cert.SmallReferenceIdeal.nD Cert.SmallReferenceIdeal.τ).loc Cert.SmallReferenceIdeal.main_v196) = v21 c
          ∧ r.2.mem ((c.tc : Thread Cert.SmallReferenceIdeal.nD Cert.SmallReferenceIdeal.τ).loc Cert.SmallReferenceIdeal.main_v220) = v22 c
          ∧ r.2.mem ((c.tc : Thread Cert.SmallReferenceIdeal.nD Cert.SmallReferenceIdeal.τ).loc Cert.SmallReferenceIdeal.main_v244) = v23 c
          ∧ r.2.mem ((c.tc : Thread Cert.SmallReferenceIdeal.nD Cert.SmallReferenceIdeal.τ).loc Cert.SmallReferenceIdeal.main_v268) = v24 c
          ∧ r.2.mem ((c.tc : Thread Cert.SmallReferenceIdeal.nD Cert.SmallReferenceIdeal.τ).loc Cert.SmallReferenceIdeal.main_v292) = v25 c
          ∧ r.2.mem ((c.tc : Thread Cert.SmallReferenceIdeal.nD Cert.SmallReferenceIdeal.τ).loc Cert.SmallReferenceIdeal.main_v10) = v26 c
          ∧ r.2.mem ((c.tc : Thread Cert.SmallReferenceIdeal.nD Cert.SmallReferenceIdeal.τ).loc Cert.SmallReferenceIdeal.main_v34) = v27 c
          ∧ r.2.mem ((c.tc : Thread Cert.SmallReferenceIdeal.nD Cert.SmallReferenceIdeal.τ).loc Cert.SmallReferenceIdeal.main_v58) = v28 c
          ∧ r.2.mem ((c.tc : Thread Cert.SmallReferenceIdeal.nD Cert.SmallReferenceIdeal.τ).loc Cert.SmallReferenceIdeal.main_v82) = v29 c
          ∧ r.2.mem ((c.tc : Thread Cert.SmallReferenceIdeal.nD Cert.SmallReferenceIdeal.τ).loc Cert.SmallReferenceIdeal.main_v106) = v30 c
          ∧ r.2.mem ((c.tc : Thread Cert.SmallReferenceIdeal.nD Cert.SmallReferenceIdeal.τ).loc Cert.SmallReferenceIdeal.main_v130) = v31 c
          ∧ r.2.mem ((c.tc : Thread Cert.SmallReferenceIdeal.nD Cert.SmallReferenceIdeal.τ).loc Cert.SmallReferenceIdeal.main_v154) = v32 c
          ∧ r.2.mem ((c.tc : Thread Cert.SmallReferenceIdeal.nD Cert.SmallReferenceIdeal.τ).loc Cert.SmallReferenceIdeal.main_v178) = v33 c
          ∧ r.2.mem ((c.tc : Thread Cert.SmallReferenceIdeal.nD Cert.SmallReferenceIdeal.τ).loc Cert.SmallReferenceIdeal.main_v202) = v34 c
          ∧ r.2.mem ((c.tc : Thread Cert.SmallReferenceIdeal.nD Cert.SmallReferenceIdeal.τ).loc Cert.SmallReferenceIdeal.main_v226) = v35 c
          ∧ r.2.mem ((c.tc : Thread Cert.SmallReferenceIdeal.nD Cert.SmallReferenceIdeal.τ).loc Cert.SmallReferenceIdeal.main_v250) = v36 c
          ∧ r.2.mem ((c.tc : Thread Cert.SmallReferenceIdeal.nD Cert.SmallReferenceIdeal.τ).loc Cert.SmallReferenceIdeal.main_v274) = v37 c
          ∧ r.2.mem ((c.tc : Thread Cert.SmallReferenceIdeal.nD Cert.SmallReferenceIdeal.τ).loc Cert.SmallReferenceIdeal.main_v298) = v38 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29)
          ∧ r.2.mem ((c.tc : Thread Cert.SmallReferenceIdeal.nD Cert.SmallReferenceIdeal.τ).loc Cert.SmallReferenceIdeal.main_arg30) = m' ((c.tc : Thread Cert.SmallReferenceIdeal.nD Cert.SmallReferenceIdeal.τ).loc Cert.SmallReferenceIdeal.main_arg30)
          ∧ r.2.mem ((c.tc : Thread Cert.SmallReferenceIdeal.nD Cert.SmallReferenceIdeal.τ).loc Cert.SmallReferenceIdeal.main_arg31) = m' ((c.tc : Thread Cert.SmallReferenceIdeal.nD Cert.SmallReferenceIdeal.τ).loc Cert.SmallReferenceIdeal.main_arg31)
          ∧ r.2.mem ((c.tc : Thread Cert.SmallReferenceIdeal.nD Cert.SmallReferenceIdeal.τ).loc Cert.SmallReferenceIdeal.main_arg32) = m' ((c.tc : Thread Cert.SmallReferenceIdeal.nD Cert.SmallReferenceIdeal.τ).loc Cert.SmallReferenceIdeal.main_arg32)
          ∧ r.2.mem ((c.tc : Thread Cert.SmallReferenceIdeal.nD Cert.SmallReferenceIdeal.τ).loc Cert.SmallReferenceIdeal.main_arg33) = m' ((c.tc : Thread Cert.SmallReferenceIdeal.nD Cert.SmallReferenceIdeal.τ).loc Cert.SmallReferenceIdeal.main_arg33)
          ∧ r.2.mem ((c.tc : Thread Cert.SmallReferenceIdeal.nD Cert.SmallReferenceIdeal.τ).loc Cert.SmallReferenceIdeal.main_arg34) = m' ((c.tc : Thread Cert.SmallReferenceIdeal.nD Cert.SmallReferenceIdeal.τ).loc Cert.SmallReferenceIdeal.main_arg34)
          ∧ r.2.mem ((c.tc : Thread Cert.SmallReferenceIdeal.nD Cert.SmallReferenceIdeal.τ).loc Cert.SmallReferenceIdeal.main_arg35) = m' ((c.tc : Thread Cert.SmallReferenceIdeal.nD Cert.SmallReferenceIdeal.τ).loc Cert.SmallReferenceIdeal.main_arg35)
          ∧ r.2.mem ((c.tc : Thread Cert.SmallReferenceIdeal.nD Cert.SmallReferenceIdeal.τ).loc Cert.SmallReferenceIdeal.main_arg36) = m' ((c.tc : Thread Cert.SmallReferenceIdeal.nD Cert.SmallReferenceIdeal.τ).loc Cert.SmallReferenceIdeal.main_arg36)
          ∧ r.2.mem ((c.tc : Thread Cert.SmallReferenceIdeal.nD Cert.SmallReferenceIdeal.τ).loc Cert.SmallReferenceIdeal.main_arg37) = m' ((c.tc : Thread Cert.SmallReferenceIdeal.nD Cert.SmallReferenceIdeal.τ).loc Cert.SmallReferenceIdeal.main_arg37)
          ∧ r.2.mem ((c.tc : Thread Cert.SmallReferenceIdeal.nD Cert.SmallReferenceIdeal.τ).loc Cert.SmallReferenceIdeal.main_arg38) = m' ((c.tc : Thread Cert.SmallReferenceIdeal.nD Cert.SmallReferenceIdeal.τ).loc Cert.SmallReferenceIdeal.main_arg38)
          ∧ r.2.mem ((c.tc : Thread Cert.SmallReferenceIdeal.nD Cert.SmallReferenceIdeal.τ).loc Cert.SmallReferenceIdeal.main_arg39) = m' ((c.tc : Thread Cert.SmallReferenceIdeal.nD Cert.SmallReferenceIdeal.τ).loc Cert.SmallReferenceIdeal.main_arg39)
          ∧ r.2.mem ((c.tc : Thread Cert.SmallReferenceIdeal.nD Cert.SmallReferenceIdeal.τ).loc Cert.SmallReferenceIdeal.main_arg40) = m' ((c.tc : Thread Cert.SmallReferenceIdeal.nD Cert.SmallReferenceIdeal.τ).loc Cert.SmallReferenceIdeal.main_arg40)
          ∧ r.2.mem ((c.tc : Thread Cert.SmallReferenceIdeal.nD Cert.SmallReferenceIdeal.τ).loc Cert.SmallReferenceIdeal.main_arg41) = m' ((c.tc : Thread Cert.SmallReferenceIdeal.nD Cert.SmallReferenceIdeal.τ).loc Cert.SmallReferenceIdeal.main_arg41)
          ∧ r.2.mem ((c.tc : Thread Cert.SmallReferenceIdeal.nD Cert.SmallReferenceIdeal.τ).loc Cert.SmallReferenceIdeal.main_arg42) = m' ((c.tc : Thread Cert.SmallReferenceIdeal.nD Cert.SmallReferenceIdeal.τ).loc Cert.SmallReferenceIdeal.main_arg42)
          ∧ r.2.mem ((c.tc : Thread Cert.SmallReferenceIdeal.nD Cert.SmallReferenceIdeal.τ).loc Cert.SmallReferenceIdeal.main_arg43) = m' ((c.tc : Thread Cert.SmallReferenceIdeal.nD Cert.SmallReferenceIdeal.τ).loc Cert.SmallReferenceIdeal.main_arg43)
          ∧ r.2.mem ((c.tc : Thread Cert.SmallReferenceIdeal.nD Cert.SmallReferenceIdeal.τ).loc Cert.SmallReferenceIdeal.main_arg44) = m' ((c.tc : Thread Cert.SmallReferenceIdeal.nD Cert.SmallReferenceIdeal.τ).loc Cert.SmallReferenceIdeal.main_arg44)
          ∧ r.2.mem ((c.tc : Thread Cert.SmallReferenceIdeal.nD Cert.SmallReferenceIdeal.τ).loc Cert.SmallReferenceIdeal.main_arg45) = m' ((c.tc : Thread Cert.SmallReferenceIdeal.nD Cert.SmallReferenceIdeal.τ).loc Cert.SmallReferenceIdeal.main_arg45)
          ∧ r.2.mem ((c.tc : Thread Cert.SmallReferenceIdeal.nD Cert.SmallReferenceIdeal.τ).loc Cert.SmallReferenceIdeal.main_arg46) = m' ((c.tc : Thread Cert.SmallReferenceIdeal.nD Cert.SmallReferenceIdeal.τ).loc Cert.SmallReferenceIdeal.main_arg46)
          ∧ r.2.mem ((c.tc : Thread Cert.SmallReferenceIdeal.nD Cert.SmallReferenceIdeal.τ).loc Cert.SmallReferenceIdeal.main_arg47) = m' ((c.tc : Thread Cert.SmallReferenceIdeal.nD Cert.SmallReferenceIdeal.τ).loc Cert.SmallReferenceIdeal.main_arg47)
          ∧ r.2.mem ((c.tc : Thread Cert.SmallReferenceIdeal.nD Cert.SmallReferenceIdeal.τ).loc Cert.SmallReferenceIdeal.main_arg48) = m' ((c.tc : Thread Cert.SmallReferenceIdeal.nD Cert.SmallReferenceIdeal.τ).loc Cert.SmallReferenceIdeal.main_arg48)
          ∧ r.2.mem ((c.tc : Thread Cert.SmallReferenceIdeal.nD Cert.SmallReferenceIdeal.τ).loc Cert.SmallReferenceIdeal.main_arg49) = m' ((c.tc : Thread Cert.SmallReferenceIdeal.nD Cert.SmallReferenceIdeal.τ).loc Cert.SmallReferenceIdeal.main_arg49)
          ∧ r.2.mem ((c.tc : Thread Cert.SmallReferenceIdeal.nD Cert.SmallReferenceIdeal.τ).loc Cert.SmallReferenceIdeal.main_arg50) = m' ((c.tc : Thread Cert.SmallReferenceIdeal.nD Cert.SmallReferenceIdeal.τ).loc Cert.SmallReferenceIdeal.main_arg50)
          ∧ r.2.mem ((c.tc : Thread Cert.SmallReferenceIdeal.nD Cert.SmallReferenceIdeal.τ).loc Cert.SmallReferenceIdeal.main_arg51) = m' ((c.tc : Thread Cert.SmallReferenceIdeal.nD Cert.SmallReferenceIdeal.τ).loc Cert.SmallReferenceIdeal.main_arg51))

def preserves_CgateKernel_CgateKernelIdeal : Prop :=
  True

def algebraic_CgateKernelIdeal_CgateReferenceIdeal [hCgateKernelIdeal : Cert.CgateKernelIdeal.Facts] [hCgateReferenceIdeal : Cert.CgateReferenceIdeal.Facts] : Prop :=
  ∀ (m : (ℓ : Loc Cert.CgateKernelIdeal.nD Cert.CgateKernelIdeal.τ Cert.CgateKernelIdeal.sig) → Buf (Elt Ideal) ℓ) (g : Dev Cert.CgateKernelIdeal.nD → PrngReg)
    (m' : (ℓ : Loc Cert.CgateReferenceIdeal.nD Cert.CgateReferenceIdeal.τ Cert.CgateReferenceIdeal.sig) → Buf (Elt Ideal) ℓ) (g' : Dev Cert.CgateReferenceIdeal.nD → PrngReg), Pre_CgateKernelIdeal m →
    (∀ c : Dev Cert.CgateKernelIdeal.nD,
      m' ((c.tc : Thread Cert.CgateReferenceIdeal.nD Cert.CgateReferenceIdeal.τ).loc Cert.CgateReferenceIdeal.main_arg0) = m ((c.tc : Thread Cert.CgateKernelIdeal.nD Cert.CgateKernelIdeal.τ).loc Cert.CgateKernelIdeal.main_arg0)
      ∧ m' ((c.tc : Thread Cert.CgateReferenceIdeal.nD Cert.CgateReferenceIdeal.τ).loc Cert.CgateReferenceIdeal.main_arg1) = m ((c.tc : Thread Cert.CgateKernelIdeal.nD Cert.CgateKernelIdeal.τ).loc Cert.CgateKernelIdeal.main_arg1)
      ∧ m' ((c.tc : Thread Cert.CgateReferenceIdeal.nD Cert.CgateReferenceIdeal.τ).loc Cert.CgateReferenceIdeal.main_arg2) = m ((c.tc : Thread Cert.CgateKernelIdeal.nD Cert.CgateKernelIdeal.τ).loc Cert.CgateKernelIdeal.main_arg2)) →
    ∃ (v0 : (c : Dev Cert.CgateKernelIdeal.nD) → Buf (Elt Ideal) ((c.tc : Thread Cert.CgateKernelIdeal.nD Cert.CgateKernelIdeal.τ).loc Cert.CgateKernelIdeal.main_v2)) (v1 : (c : Dev Cert.CgateKernelIdeal.nD) → Buf (Elt Ideal) ((c.tc : Thread Cert.CgateKernelIdeal.nD Cert.CgateKernelIdeal.τ).loc Cert.CgateKernelIdeal.main_v1_1)),
      θ_run (Cert.CgateKernelIdeal.defs (F := Ideal)) (onTc (τ := Cert.CgateKernelIdeal.τ) (Cert.CgateKernelIdeal.main (F := Ideal))) ⟨m, fun _ => 0, g⟩ (fun r => ∀ c : Dev Cert.CgateKernelIdeal.nD,
          r.2.mem ((c.tc : Thread Cert.CgateKernelIdeal.nD Cert.CgateKernelIdeal.τ).loc Cert.CgateKernelIdeal.main_v2) = v0 c
          ∧ r.2.mem ((c.tc : Thread Cert.CgateKernelIdeal.nD Cert.CgateKernelIdeal.τ).loc Cert.CgateKernelIdeal.main_v1_1) = v1 c
          ∧ r.2.mem ((c.tc : Thread Cert.CgateKernelIdeal.nD Cert.CgateKernelIdeal.τ).loc Cert.CgateKernelIdeal.main_arg0) = m ((c.tc : Thread Cert.CgateKernelIdeal.nD Cert.CgateKernelIdeal.τ).loc Cert.CgateKernelIdeal.main_arg0)
          ∧ r.2.mem ((c.tc : Thread Cert.CgateKernelIdeal.nD Cert.CgateKernelIdeal.τ).loc Cert.CgateKernelIdeal.main_arg1) = m ((c.tc : Thread Cert.CgateKernelIdeal.nD Cert.CgateKernelIdeal.τ).loc Cert.CgateKernelIdeal.main_arg1)
          ∧ r.2.mem ((c.tc : Thread Cert.CgateKernelIdeal.nD Cert.CgateKernelIdeal.τ).loc Cert.CgateKernelIdeal.main_arg2) = m ((c.tc : Thread Cert.CgateKernelIdeal.nD Cert.CgateKernelIdeal.τ).loc Cert.CgateKernelIdeal.main_arg2))
      ∧ θ_run (Cert.CgateReferenceIdeal.defs (F := Ideal)) (onTc (τ := Cert.CgateReferenceIdeal.τ) (Cert.CgateReferenceIdeal.main (F := Ideal))) ⟨m', fun _ => 0, g'⟩ (fun r => ∀ c : Dev Cert.CgateReferenceIdeal.nD,
          r.2.mem ((c.tc : Thread Cert.CgateReferenceIdeal.nD Cert.CgateReferenceIdeal.τ).loc Cert.CgateReferenceIdeal.main_v47) = v0 c
          ∧ r.2.mem ((c.tc : Thread Cert.CgateReferenceIdeal.nD Cert.CgateReferenceIdeal.τ).loc Cert.CgateReferenceIdeal.main_v44) = v1 c
          ∧ r.2.mem ((c.tc : Thread Cert.CgateReferenceIdeal.nD Cert.CgateReferenceIdeal.τ).loc Cert.CgateReferenceIdeal.main_arg0) = m' ((c.tc : Thread Cert.CgateReferenceIdeal.nD Cert.CgateReferenceIdeal.τ).loc Cert.CgateReferenceIdeal.main_arg0)
          ∧ r.2.mem ((c.tc : Thread Cert.CgateReferenceIdeal.nD Cert.CgateReferenceIdeal.τ).loc Cert.CgateReferenceIdeal.main_arg1) = m' ((c.tc : Thread Cert.CgateReferenceIdeal.nD Cert.CgateReferenceIdeal.τ).loc Cert.CgateReferenceIdeal.main_arg1)
          ∧ r.2.mem ((c.tc : Thread Cert.CgateReferenceIdeal.nD Cert.CgateReferenceIdeal.τ).loc Cert.CgateReferenceIdeal.main_arg2) = m' ((c.tc : Thread Cert.CgateReferenceIdeal.nD Cert.CgateReferenceIdeal.τ).loc Cert.CgateReferenceIdeal.main_arg2))

def preserves_CvalKernel_CvalKernelIdeal : Prop :=
  True

def algebraic_CvalKernelIdeal_CvalReferenceIdeal [hCvalKernelIdeal : Cert.CvalKernelIdeal.Facts] [hCvalReferenceIdeal : Cert.CvalReferenceIdeal.Facts] : Prop :=
  ∀ (m : (ℓ : Loc Cert.CvalKernelIdeal.nD Cert.CvalKernelIdeal.τ Cert.CvalKernelIdeal.sig) → Buf (Elt Ideal) ℓ) (g : Dev Cert.CvalKernelIdeal.nD → PrngReg)
    (m' : (ℓ : Loc Cert.CvalReferenceIdeal.nD Cert.CvalReferenceIdeal.τ Cert.CvalReferenceIdeal.sig) → Buf (Elt Ideal) ℓ) (g' : Dev Cert.CvalReferenceIdeal.nD → PrngReg), Pre_CvalKernelIdeal m →
    (∀ c : Dev Cert.CvalKernelIdeal.nD,
      m' ((c.tc : Thread Cert.CvalReferenceIdeal.nD Cert.CvalReferenceIdeal.τ).loc Cert.CvalReferenceIdeal.main_arg0) = m ((c.tc : Thread Cert.CvalKernelIdeal.nD Cert.CvalKernelIdeal.τ).loc Cert.CvalKernelIdeal.main_arg0)
      ∧ m' ((c.tc : Thread Cert.CvalReferenceIdeal.nD Cert.CvalReferenceIdeal.τ).loc Cert.CvalReferenceIdeal.main_arg1) = m ((c.tc : Thread Cert.CvalKernelIdeal.nD Cert.CvalKernelIdeal.τ).loc Cert.CvalKernelIdeal.main_arg1)
      ∧ m' ((c.tc : Thread Cert.CvalReferenceIdeal.nD Cert.CvalReferenceIdeal.τ).loc Cert.CvalReferenceIdeal.main_arg2) = m ((c.tc : Thread Cert.CvalKernelIdeal.nD Cert.CvalKernelIdeal.τ).loc Cert.CvalKernelIdeal.main_arg2)) →
    ∃ (v0 : (c : Dev Cert.CvalKernelIdeal.nD) → Buf (Elt Ideal) ((c.tc : Thread Cert.CvalKernelIdeal.nD Cert.CvalKernelIdeal.τ).loc Cert.CvalKernelIdeal.main_v2)) (v1 : (c : Dev Cert.CvalKernelIdeal.nD) → Buf (Elt Ideal) ((c.tc : Thread Cert.CvalKernelIdeal.nD Cert.CvalKernelIdeal.τ).loc Cert.CvalKernelIdeal.main_v1_1)),
      θ_run (Cert.CvalKernelIdeal.defs (F := Ideal)) (onTc (τ := Cert.CvalKernelIdeal.τ) (Cert.CvalKernelIdeal.main (F := Ideal))) ⟨m, fun _ => 0, g⟩ (fun r => ∀ c : Dev Cert.CvalKernelIdeal.nD,
          r.2.mem ((c.tc : Thread Cert.CvalKernelIdeal.nD Cert.CvalKernelIdeal.τ).loc Cert.CvalKernelIdeal.main_v2) = v0 c
          ∧ r.2.mem ((c.tc : Thread Cert.CvalKernelIdeal.nD Cert.CvalKernelIdeal.τ).loc Cert.CvalKernelIdeal.main_v1_1) = v1 c
          ∧ r.2.mem ((c.tc : Thread Cert.CvalKernelIdeal.nD Cert.CvalKernelIdeal.τ).loc Cert.CvalKernelIdeal.main_arg0) = m ((c.tc : Thread Cert.CvalKernelIdeal.nD Cert.CvalKernelIdeal.τ).loc Cert.CvalKernelIdeal.main_arg0)
          ∧ r.2.mem ((c.tc : Thread Cert.CvalKernelIdeal.nD Cert.CvalKernelIdeal.τ).loc Cert.CvalKernelIdeal.main_arg1) = m ((c.tc : Thread Cert.CvalKernelIdeal.nD Cert.CvalKernelIdeal.τ).loc Cert.CvalKernelIdeal.main_arg1)
          ∧ r.2.mem ((c.tc : Thread Cert.CvalKernelIdeal.nD Cert.CvalKernelIdeal.τ).loc Cert.CvalKernelIdeal.main_arg2) = m ((c.tc : Thread Cert.CvalKernelIdeal.nD Cert.CvalKernelIdeal.τ).loc Cert.CvalKernelIdeal.main_arg2))
      ∧ θ_run (Cert.CvalReferenceIdeal.defs (F := Ideal)) (onTc (τ := Cert.CvalReferenceIdeal.τ) (Cert.CvalReferenceIdeal.main (F := Ideal))) ⟨m', fun _ => 0, g'⟩ (fun r => ∀ c : Dev Cert.CvalReferenceIdeal.nD,
          r.2.mem ((c.tc : Thread Cert.CvalReferenceIdeal.nD Cert.CvalReferenceIdeal.τ).loc Cert.CvalReferenceIdeal.main_v47) = v0 c
          ∧ r.2.mem ((c.tc : Thread Cert.CvalReferenceIdeal.nD Cert.CvalReferenceIdeal.τ).loc Cert.CvalReferenceIdeal.main_v44) = v1 c
          ∧ r.2.mem ((c.tc : Thread Cert.CvalReferenceIdeal.nD Cert.CvalReferenceIdeal.τ).loc Cert.CvalReferenceIdeal.main_arg0) = m' ((c.tc : Thread Cert.CvalReferenceIdeal.nD Cert.CvalReferenceIdeal.τ).loc Cert.CvalReferenceIdeal.main_arg0)
          ∧ r.2.mem ((c.tc : Thread Cert.CvalReferenceIdeal.nD Cert.CvalReferenceIdeal.τ).loc Cert.CvalReferenceIdeal.main_arg1) = m' ((c.tc : Thread Cert.CvalReferenceIdeal.nD Cert.CvalReferenceIdeal.τ).loc Cert.CvalReferenceIdeal.main_arg1)
          ∧ r.2.mem ((c.tc : Thread Cert.CvalReferenceIdeal.nD Cert.CvalReferenceIdeal.τ).loc Cert.CvalReferenceIdeal.main_arg2) = m' ((c.tc : Thread Cert.CvalReferenceIdeal.nD Cert.CvalReferenceIdeal.τ).loc Cert.CvalReferenceIdeal.main_arg2))

def preserves_CssdKernel_CssdKernelIdeal : Prop :=
  True

def algebraic_CssdKernelIdeal_CssdReferenceIdeal [hCssdKernelIdeal : Cert.CssdKernelIdeal.Facts] [hCssdReferenceIdeal : Cert.CssdReferenceIdeal.Facts] : Prop :=
  ∀ (m : (ℓ : Loc Cert.CssdKernelIdeal.nD Cert.CssdKernelIdeal.τ Cert.CssdKernelIdeal.sig) → Buf (Elt Ideal) ℓ) (g : Dev Cert.CssdKernelIdeal.nD → PrngReg)
    (m' : (ℓ : Loc Cert.CssdReferenceIdeal.nD Cert.CssdReferenceIdeal.τ Cert.CssdReferenceIdeal.sig) → Buf (Elt Ideal) ℓ) (g' : Dev Cert.CssdReferenceIdeal.nD → PrngReg), Pre_CssdKernelIdeal m →
    (∀ c : Dev Cert.CssdKernelIdeal.nD,
      m' ((c.tc : Thread Cert.CssdReferenceIdeal.nD Cert.CssdReferenceIdeal.τ).loc Cert.CssdReferenceIdeal.main_arg0) = m ((c.tc : Thread Cert.CssdKernelIdeal.nD Cert.CssdKernelIdeal.τ).loc Cert.CssdKernelIdeal.main_arg0)
      ∧ m' ((c.tc : Thread Cert.CssdReferenceIdeal.nD Cert.CssdReferenceIdeal.τ).loc Cert.CssdReferenceIdeal.main_arg1) = m ((c.tc : Thread Cert.CssdKernelIdeal.nD Cert.CssdKernelIdeal.τ).loc Cert.CssdKernelIdeal.main_arg1)
      ∧ m' ((c.tc : Thread Cert.CssdReferenceIdeal.nD Cert.CssdReferenceIdeal.τ).loc Cert.CssdReferenceIdeal.main_arg2) = m ((c.tc : Thread Cert.CssdKernelIdeal.nD Cert.CssdKernelIdeal.τ).loc Cert.CssdKernelIdeal.main_arg2)) →
    ∃ (v0 : (c : Dev Cert.CssdKernelIdeal.nD) → Buf (Elt Ideal) ((c.tc : Thread Cert.CssdKernelIdeal.nD Cert.CssdKernelIdeal.τ).loc Cert.CssdKernelIdeal.main_v56)) (v1 : (c : Dev Cert.CssdKernelIdeal.nD) → Buf (Elt Ideal) ((c.tc : Thread Cert.CssdKernelIdeal.nD Cert.CssdKernelIdeal.τ).loc Cert.CssdKernelIdeal.main_v69)),
      θ_run (Cert.CssdKernelIdeal.defs (F := Ideal)) (onTc (τ := Cert.CssdKernelIdeal.τ) (Cert.CssdKernelIdeal.main (F := Ideal))) ⟨m, fun _ => 0, g⟩ (fun r => ∀ c : Dev Cert.CssdKernelIdeal.nD,
          r.2.mem ((c.tc : Thread Cert.CssdKernelIdeal.nD Cert.CssdKernelIdeal.τ).loc Cert.CssdKernelIdeal.main_v56) = v0 c
          ∧ r.2.mem ((c.tc : Thread Cert.CssdKernelIdeal.nD Cert.CssdKernelIdeal.τ).loc Cert.CssdKernelIdeal.main_v69) = v1 c
          ∧ r.2.mem ((c.tc : Thread Cert.CssdKernelIdeal.nD Cert.CssdKernelIdeal.τ).loc Cert.CssdKernelIdeal.main_arg0) = m ((c.tc : Thread Cert.CssdKernelIdeal.nD Cert.CssdKernelIdeal.τ).loc Cert.CssdKernelIdeal.main_arg0)
          ∧ r.2.mem ((c.tc : Thread Cert.CssdKernelIdeal.nD Cert.CssdKernelIdeal.τ).loc Cert.CssdKernelIdeal.main_arg1) = m ((c.tc : Thread Cert.CssdKernelIdeal.nD Cert.CssdKernelIdeal.τ).loc Cert.CssdKernelIdeal.main_arg1)
          ∧ r.2.mem ((c.tc : Thread Cert.CssdKernelIdeal.nD Cert.CssdKernelIdeal.τ).loc Cert.CssdKernelIdeal.main_arg2) = m ((c.tc : Thread Cert.CssdKernelIdeal.nD Cert.CssdKernelIdeal.τ).loc Cert.CssdKernelIdeal.main_arg2))
      ∧ θ_run (Cert.CssdReferenceIdeal.defs (F := Ideal)) (onTc (τ := Cert.CssdReferenceIdeal.τ) (Cert.CssdReferenceIdeal.main (F := Ideal))) ⟨m', fun _ => 0, g'⟩ (fun r => ∀ c : Dev Cert.CssdReferenceIdeal.nD,
          r.2.mem ((c.tc : Thread Cert.CssdReferenceIdeal.nD Cert.CssdReferenceIdeal.τ).loc Cert.CssdReferenceIdeal.main_v60) = v0 c
          ∧ r.2.mem ((c.tc : Thread Cert.CssdReferenceIdeal.nD Cert.CssdReferenceIdeal.τ).loc Cert.CssdReferenceIdeal.main_v57) = v1 c
          ∧ r.2.mem ((c.tc : Thread Cert.CssdReferenceIdeal.nD Cert.CssdReferenceIdeal.τ).loc Cert.CssdReferenceIdeal.main_arg0) = m' ((c.tc : Thread Cert.CssdReferenceIdeal.nD Cert.CssdReferenceIdeal.τ).loc Cert.CssdReferenceIdeal.main_arg0)
          ∧ r.2.mem ((c.tc : Thread Cert.CssdReferenceIdeal.nD Cert.CssdReferenceIdeal.τ).loc Cert.CssdReferenceIdeal.main_arg1) = m' ((c.tc : Thread Cert.CssdReferenceIdeal.nD Cert.CssdReferenceIdeal.τ).loc Cert.CssdReferenceIdeal.main_arg1)
          ∧ r.2.mem ((c.tc : Thread Cert.CssdReferenceIdeal.nD Cert.CssdReferenceIdeal.τ).loc Cert.CssdReferenceIdeal.main_arg2) = m' ((c.tc : Thread Cert.CssdReferenceIdeal.nD Cert.CssdReferenceIdeal.τ).loc Cert.CssdReferenceIdeal.main_arg2))

def preserves_CsiluKernel_CsiluKernelIdeal : Prop :=
  True

def algebraic_CsiluKernelIdeal_CsiluReferenceIdeal_pre_finite_ct [hCsiluKernelIdeal : Cert.CsiluKernelIdeal.Facts] [hCsiluReferenceIdeal : Cert.CsiluReferenceIdeal.Facts] [hPre_finite_ct : Cert.Pre_finite_ct.Facts] : Prop :=
  ∀ (m : (ℓ : Loc Cert.CsiluKernelIdeal.nD Cert.CsiluKernelIdeal.τ Cert.CsiluKernelIdeal.sig) → Buf (Elt Ideal) ℓ) (g : Dev Cert.CsiluKernelIdeal.nD → PrngReg)
    (m' : (ℓ : Loc Cert.CsiluReferenceIdeal.nD Cert.CsiluReferenceIdeal.τ Cert.CsiluReferenceIdeal.sig) → Buf (Elt Ideal) ℓ) (g' : Dev Cert.CsiluReferenceIdeal.nD → PrngReg), Pre_CsiluKernelIdeal_finite_ct m →
    (∀ c : Dev Cert.CsiluKernelIdeal.nD,
      m' ((c.tc : Thread Cert.CsiluReferenceIdeal.nD Cert.CsiluReferenceIdeal.τ).loc Cert.CsiluReferenceIdeal.main_arg0) = m ((c.tc : Thread Cert.CsiluKernelIdeal.nD Cert.CsiluKernelIdeal.τ).loc Cert.CsiluKernelIdeal.main_arg0)
      ∧ m' ((c.tc : Thread Cert.CsiluReferenceIdeal.nD Cert.CsiluReferenceIdeal.τ).loc Cert.CsiluReferenceIdeal.main_arg1) = m ((c.tc : Thread Cert.CsiluKernelIdeal.nD Cert.CsiluKernelIdeal.τ).loc Cert.CsiluKernelIdeal.main_arg1)) →
    ∃ (v0 : (c : Dev Cert.CsiluKernelIdeal.nD) → Buf (Elt Ideal) ((c.tc : Thread Cert.CsiluKernelIdeal.nD Cert.CsiluKernelIdeal.τ).loc Cert.CsiluKernelIdeal.main_v40)) (v1 : (c : Dev Cert.CsiluKernelIdeal.nD) → Buf (Elt Ideal) ((c.tc : Thread Cert.CsiluKernelIdeal.nD Cert.CsiluKernelIdeal.τ).loc Cert.CsiluKernelIdeal.main_v53)),
      θ_run (Cert.CsiluKernelIdeal.defs (F := Ideal)) (onTc (τ := Cert.CsiluKernelIdeal.τ) (Cert.CsiluKernelIdeal.main (F := Ideal))) ⟨m, fun _ => 0, g⟩ (fun r => ∀ c : Dev Cert.CsiluKernelIdeal.nD,
          r.2.mem ((c.tc : Thread Cert.CsiluKernelIdeal.nD Cert.CsiluKernelIdeal.τ).loc Cert.CsiluKernelIdeal.main_v40) = v0 c
          ∧ r.2.mem ((c.tc : Thread Cert.CsiluKernelIdeal.nD Cert.CsiluKernelIdeal.τ).loc Cert.CsiluKernelIdeal.main_v53) = v1 c
          ∧ r.2.mem ((c.tc : Thread Cert.CsiluKernelIdeal.nD Cert.CsiluKernelIdeal.τ).loc Cert.CsiluKernelIdeal.main_arg0) = m ((c.tc : Thread Cert.CsiluKernelIdeal.nD Cert.CsiluKernelIdeal.τ).loc Cert.CsiluKernelIdeal.main_arg0)
          ∧ r.2.mem ((c.tc : Thread Cert.CsiluKernelIdeal.nD Cert.CsiluKernelIdeal.τ).loc Cert.CsiluKernelIdeal.main_arg1) = m ((c.tc : Thread Cert.CsiluKernelIdeal.nD Cert.CsiluKernelIdeal.τ).loc Cert.CsiluKernelIdeal.main_arg1))
      ∧ θ_run (Cert.CsiluReferenceIdeal.defs (F := Ideal)) (onTc (τ := Cert.CsiluReferenceIdeal.τ) (Cert.CsiluReferenceIdeal.main (F := Ideal))) ⟨m', fun _ => 0, g'⟩ (fun r => ∀ c : Dev Cert.CsiluReferenceIdeal.nD,
          r.2.mem ((c.tc : Thread Cert.CsiluReferenceIdeal.nD Cert.CsiluReferenceIdeal.τ).loc Cert.CsiluReferenceIdeal.main_v7) = v0 c
          ∧ r.2.mem ((c.tc : Thread Cert.CsiluReferenceIdeal.nD Cert.CsiluReferenceIdeal.τ).loc Cert.CsiluReferenceIdeal.main_v6) = v1 c
          ∧ r.2.mem ((c.tc : Thread Cert.CsiluReferenceIdeal.nD Cert.CsiluReferenceIdeal.τ).loc Cert.CsiluReferenceIdeal.main_arg0) = m' ((c.tc : Thread Cert.CsiluReferenceIdeal.nD Cert.CsiluReferenceIdeal.τ).loc Cert.CsiluReferenceIdeal.main_arg0)
          ∧ r.2.mem ((c.tc : Thread Cert.CsiluReferenceIdeal.nD Cert.CsiluReferenceIdeal.τ).loc Cert.CsiluReferenceIdeal.main_arg1) = m' ((c.tc : Thread Cert.CsiluReferenceIdeal.nD Cert.CsiluReferenceIdeal.τ).loc Cert.CsiluReferenceIdeal.main_arg1))

def preserves_FactKernel_FactKernelIdeal : Prop :=
  IdealRules.named_const.Statement Cert.FactKernelIdeal.κ "gelu_cube" .f32 0x3D372713#32 ((8943 / 200000 : ℝ) : EReal)
  ∧ IdealRules.named_const.Statement Cert.FactKernelIdeal.κ "gelu_slope" .f32 0x3E095D4F#32 ((26829 / 200000 : ℝ) : EReal)

def algebraic_FactKernelIdeal_FactReferenceIdeal_pre_finite_act [hFactKernelIdeal : Cert.FactKernelIdeal.Facts] [hFactReferenceIdeal : Cert.FactReferenceIdeal.Facts] [hPre_finite_act : Cert.Pre_finite_act.Facts] : Prop :=
  ∀ (m : (ℓ : Loc Cert.FactKernelIdeal.nD Cert.FactKernelIdeal.τ Cert.FactKernelIdeal.sig) → Buf (Elt Ideal) ℓ) (g : Dev Cert.FactKernelIdeal.nD → PrngReg)
    (m' : (ℓ : Loc Cert.FactReferenceIdeal.nD Cert.FactReferenceIdeal.τ Cert.FactReferenceIdeal.sig) → Buf (Elt Ideal) ℓ) (g' : Dev Cert.FactReferenceIdeal.nD → PrngReg), Pre_FactKernelIdeal_finite_act m →
    (∀ c : Dev Cert.FactKernelIdeal.nD,
      m' ((c.tc : Thread Cert.FactReferenceIdeal.nD Cert.FactReferenceIdeal.τ).loc Cert.FactReferenceIdeal.main_arg0) = m ((c.tc : Thread Cert.FactKernelIdeal.nD Cert.FactKernelIdeal.τ).loc Cert.FactKernelIdeal.main_arg0)
      ∧ m' ((c.tc : Thread Cert.FactReferenceIdeal.nD Cert.FactReferenceIdeal.τ).loc Cert.FactReferenceIdeal.main_arg1) = m ((c.tc : Thread Cert.FactKernelIdeal.nD Cert.FactKernelIdeal.τ).loc Cert.FactKernelIdeal.main_arg1)
      ∧ m' ((c.tc : Thread Cert.FactReferenceIdeal.nD Cert.FactReferenceIdeal.τ).loc Cert.FactReferenceIdeal.main_arg2) = m ((c.tc : Thread Cert.FactKernelIdeal.nD Cert.FactKernelIdeal.τ).loc Cert.FactKernelIdeal.main_arg2)) →
    ∃ (v0 : (c : Dev Cert.FactKernelIdeal.nD) → Buf (Elt Ideal) ((c.tc : Thread Cert.FactKernelIdeal.nD Cert.FactKernelIdeal.τ).loc Cert.FactKernelIdeal.main_v3_0)) (v1 : (c : Dev Cert.FactKernelIdeal.nD) → Buf (Elt Ideal) ((c.tc : Thread Cert.FactKernelIdeal.nD Cert.FactKernelIdeal.τ).loc Cert.FactKernelIdeal.main_v3_1)) (v2 : (c : Dev Cert.FactKernelIdeal.nD) → Buf (Elt Ideal) ((c.tc : Thread Cert.FactKernelIdeal.nD Cert.FactKernelIdeal.τ).loc Cert.FactKernelIdeal.main_v3_2)) (v3 : (c : Dev Cert.FactKernelIdeal.nD) → Buf (Elt Ideal) ((c.tc : Thread Cert.FactKernelIdeal.nD Cert.FactKernelIdeal.τ).loc Cert.FactKernelIdeal.main_v3_3)),
      θ_run (Cert.FactKernelIdeal.defs (F := Ideal)) (onTc (τ := Cert.FactKernelIdeal.τ) (Cert.FactKernelIdeal.main (F := Ideal))) ⟨m, fun _ => 0, g⟩ (fun r => ∀ c : Dev Cert.FactKernelIdeal.nD,
          r.2.mem ((c.tc : Thread Cert.FactKernelIdeal.nD Cert.FactKernelIdeal.τ).loc Cert.FactKernelIdeal.main_v3_0) = v0 c
          ∧ r.2.mem ((c.tc : Thread Cert.FactKernelIdeal.nD Cert.FactKernelIdeal.τ).loc Cert.FactKernelIdeal.main_v3_1) = v1 c
          ∧ r.2.mem ((c.tc : Thread Cert.FactKernelIdeal.nD Cert.FactKernelIdeal.τ).loc Cert.FactKernelIdeal.main_v3_2) = v2 c
          ∧ r.2.mem ((c.tc : Thread Cert.FactKernelIdeal.nD Cert.FactKernelIdeal.τ).loc Cert.FactKernelIdeal.main_v3_3) = v3 c
          ∧ r.2.mem ((c.tc : Thread Cert.FactKernelIdeal.nD Cert.FactKernelIdeal.τ).loc Cert.FactKernelIdeal.main_arg0) = m ((c.tc : Thread Cert.FactKernelIdeal.nD Cert.FactKernelIdeal.τ).loc Cert.FactKernelIdeal.main_arg0)
          ∧ r.2.mem ((c.tc : Thread Cert.FactKernelIdeal.nD Cert.FactKernelIdeal.τ).loc Cert.FactKernelIdeal.main_arg1) = m ((c.tc : Thread Cert.FactKernelIdeal.nD Cert.FactKernelIdeal.τ).loc Cert.FactKernelIdeal.main_arg1)
          ∧ r.2.mem ((c.tc : Thread Cert.FactKernelIdeal.nD Cert.FactKernelIdeal.τ).loc Cert.FactKernelIdeal.main_arg2) = m ((c.tc : Thread Cert.FactKernelIdeal.nD Cert.FactKernelIdeal.τ).loc Cert.FactKernelIdeal.main_arg2))
      ∧ θ_run (Cert.FactReferenceIdeal.defs (F := Ideal)) (onTc (τ := Cert.FactReferenceIdeal.τ) (Cert.FactReferenceIdeal.main (F := Ideal))) ⟨m', fun _ => 0, g'⟩ (fun r => ∀ c : Dev Cert.FactReferenceIdeal.nD,
          r.2.mem ((c.tc : Thread Cert.FactReferenceIdeal.nD Cert.FactReferenceIdeal.τ).loc Cert.FactReferenceIdeal.main_v46) = v0 c
          ∧ r.2.mem ((c.tc : Thread Cert.FactReferenceIdeal.nD Cert.FactReferenceIdeal.τ).loc Cert.FactReferenceIdeal.main_v47) = v1 c
          ∧ r.2.mem ((c.tc : Thread Cert.FactReferenceIdeal.nD Cert.FactReferenceIdeal.τ).loc Cert.FactReferenceIdeal.main_v45) = v2 c
          ∧ r.2.mem ((c.tc : Thread Cert.FactReferenceIdeal.nD Cert.FactReferenceIdeal.τ).loc Cert.FactReferenceIdeal.main_v31) = v3 c
          ∧ r.2.mem ((c.tc : Thread Cert.FactReferenceIdeal.nD Cert.FactReferenceIdeal.τ).loc Cert.FactReferenceIdeal.main_arg0) = m' ((c.tc : Thread Cert.FactReferenceIdeal.nD Cert.FactReferenceIdeal.τ).loc Cert.FactReferenceIdeal.main_arg0)
          ∧ r.2.mem ((c.tc : Thread Cert.FactReferenceIdeal.nD Cert.FactReferenceIdeal.τ).loc Cert.FactReferenceIdeal.main_arg1) = m' ((c.tc : Thread Cert.FactReferenceIdeal.nD Cert.FactReferenceIdeal.τ).loc Cert.FactReferenceIdeal.main_arg1)
          ∧ r.2.mem ((c.tc : Thread Cert.FactReferenceIdeal.nD Cert.FactReferenceIdeal.τ).loc Cert.FactReferenceIdeal.main_arg2) = m' ((c.tc : Thread Cert.FactReferenceIdeal.nD Cert.FactReferenceIdeal.τ).loc Cert.FactReferenceIdeal.main_arg2))

def Claim : Prop :=
  ∃ (hKernel : Cert.Kernel.Facts) (hKernelIdeal : Cert.KernelIdeal.Facts) (hDuKernel : Cert.DuKernel.Facts) (hDuKernelIdeal : Cert.DuKernelIdeal.Facts) (hDuReferenceIdeal : Cert.DuReferenceIdeal.Facts) (hWupKernel : Cert.WupKernel.Facts) (hWupKernelIdeal : Cert.WupKernelIdeal.Facts) (hWupReferenceIdeal : Cert.WupReferenceIdeal.Facts) (hWdnKernel : Cert.WdnKernel.Facts) (hWdnKernelIdeal : Cert.WdnKernelIdeal.Facts) (hWdnReferenceIdeal : Cert.WdnReferenceIdeal.Facts) (hWmixKernel : Cert.WmixKernel.Facts) (hWmixKernelIdeal : Cert.WmixKernelIdeal.Facts) (hWmixReferenceIdeal : Cert.WmixReferenceIdeal.Facts) (hWsoKernel : Cert.WsoKernel.Facts) (hWsoKernelIdeal : Cert.WsoKernelIdeal.Facts) (hWsoReferenceIdeal : Cert.WsoReferenceIdeal.Facts) (hWaoKernel : Cert.WaoKernel.Facts) (hWaoKernelIdeal : Cert.WaoKernelIdeal.Facts) (hWaoReferenceIdeal : Cert.WaoReferenceIdeal.Facts) (hDhKernel : Cert.DhKernel.Facts) (hDhKernelIdeal : Cert.DhKernelIdeal.Facts) (hDhReferenceIdeal : Cert.DhReferenceIdeal.Facts) (hLossKernel : Cert.LossKernel.Facts) (hLossKernelIdeal : Cert.LossKernelIdeal.Facts) (hLossReferenceIdeal : Cert.LossReferenceIdeal.Facts) (hDactKernel : Cert.DactKernel.Facts) (hDactKernelIdeal : Cert.DactKernelIdeal.Facts) (hDactReferenceIdeal : Cert.DactReferenceIdeal.Facts) (hDaoKernel : Cert.DaoKernel.Facts) (hDaoKernelIdeal : Cert.DaoKernelIdeal.Facts) (hDaoReferenceIdeal : Cert.DaoReferenceIdeal.Facts) (hAoutKernel : Cert.AoutKernel.Facts) (hAoutKernelIdeal : Cert.AoutKernelIdeal.Facts) (hAoutReferenceIdeal : Cert.AoutReferenceIdeal.Facts) (hMixoKernel : Cert.MixoKernel.Facts) (hMixoKernelIdeal : Cert.MixoKernelIdeal.Facts) (hMixoReferenceIdeal : Cert.MixoReferenceIdeal.Facts) (hWinKernel : Cert.WinKernel.Facts) (hWinKernelIdeal : Cert.WinKernelIdeal.Facts) (hWinReferenceIdeal : Cert.WinReferenceIdeal.Facts) (hOwinKernel : Cert.OwinKernel.Facts) (hOwinKernelIdeal : Cert.OwinKernelIdeal.Facts) (hOwinReferenceIdeal : Cert.OwinReferenceIdeal.Facts) (hOsoKernel : Cert.OsoKernel.Facts) (hOsoKernelIdeal : Cert.OsoKernelIdeal.Facts) (hOsoReferenceIdeal : Cert.OsoReferenceIdeal.Facts) (hOaoKernel : Cert.OaoKernel.Facts) (hOaoKernelIdeal : Cert.OaoKernelIdeal.Facts) (hOaoReferenceIdeal : Cert.OaoReferenceIdeal.Facts) (hOupKernel : Cert.OupKernel.Facts) (hOupKernelIdeal : Cert.OupKernelIdeal.Facts) (hOupReferenceIdeal : Cert.OupReferenceIdeal.Facts) (hOdnKernel : Cert.OdnKernel.Facts) (hOdnKernelIdeal : Cert.OdnKernelIdeal.Facts) (hOdnReferenceIdeal : Cert.OdnReferenceIdeal.Facts) (hMergeKernel : Cert.MergeKernel.Facts) (hMergeKernelIdeal : Cert.MergeKernelIdeal.Facts) (hMergeReferenceIdeal : Cert.MergeReferenceIdeal.Facts) (hDmergeKernel : Cert.DmergeKernel.Facts) (hDmergeKernelIdeal : Cert.DmergeKernelIdeal.Facts) (hDmergeReferenceIdeal : Cert.DmergeReferenceIdeal.Facts) (hFupKernel : Cert.FupKernel.Facts) (hFupKernelIdeal : Cert.FupKernelIdeal.Facts) (hFupReferenceIdeal : Cert.FupReferenceIdeal.Facts) (hInpKernel : Cert.InpKernel.Facts) (hInpKernelIdeal : Cert.InpKernelIdeal.Facts) (hInpReferenceIdeal : Cert.InpReferenceIdeal.Facts) (hSmallKernel : Cert.SmallKernel.Facts) (hSmallKernelIdeal : Cert.SmallKernelIdeal.Facts) (hSmallReferenceIdeal : Cert.SmallReferenceIdeal.Facts) (hCgateKernel : Cert.CgateKernel.Facts) (hCgateKernelIdeal : Cert.CgateKernelIdeal.Facts) (hCgateReferenceIdeal : Cert.CgateReferenceIdeal.Facts) (hCvalKernel : Cert.CvalKernel.Facts) (hCvalKernelIdeal : Cert.CvalKernelIdeal.Facts) (hCvalReferenceIdeal : Cert.CvalReferenceIdeal.Facts) (hCssdKernel : Cert.CssdKernel.Facts) (hCssdKernelIdeal : Cert.CssdKernelIdeal.Facts) (hCssdReferenceIdeal : Cert.CssdReferenceIdeal.Facts) (hCsiluKernel : Cert.CsiluKernel.Facts) (hCsiluKernelIdeal : Cert.CsiluKernelIdeal.Facts) (hCsiluReferenceIdeal : Cert.CsiluReferenceIdeal.Facts) (hFactKernel : Cert.FactKernel.Facts) (hFactKernelIdeal : Cert.FactKernelIdeal.Facts) (hFactReferenceIdeal : Cert.FactReferenceIdeal.Facts) (hPre_finite_ct : Cert.Pre_finite_ct.Facts) (hPre_finite_act : Cert.Pre_finite_act.Facts),
    quiescent_Kernel (hKernel := hKernel)
    ∧ quiescent_KernelIdeal (hKernelIdeal := hKernelIdeal)
    ∧ quiescent_DuKernel (hDuKernel := hDuKernel)
    ∧ quiescent_DuKernelIdeal (hDuKernelIdeal := hDuKernelIdeal)
    ∧ quiescent_DuReferenceIdeal (hDuReferenceIdeal := hDuReferenceIdeal)
    ∧ quiescent_WupKernel (hWupKernel := hWupKernel)
    ∧ quiescent_WupKernelIdeal (hWupKernelIdeal := hWupKernelIdeal)
    ∧ quiescent_WupReferenceIdeal (hWupReferenceIdeal := hWupReferenceIdeal)
    ∧ quiescent_WdnKernel (hWdnKernel := hWdnKernel)
    ∧ quiescent_WdnKernelIdeal (hWdnKernelIdeal := hWdnKernelIdeal)
    ∧ quiescent_WdnReferenceIdeal (hWdnReferenceIdeal := hWdnReferenceIdeal)
    ∧ quiescent_WmixKernel (hWmixKernel := hWmixKernel)
    ∧ quiescent_WmixKernelIdeal (hWmixKernelIdeal := hWmixKernelIdeal)
    ∧ quiescent_WmixReferenceIdeal (hWmixReferenceIdeal := hWmixReferenceIdeal)
    ∧ quiescent_WsoKernel (hWsoKernel := hWsoKernel)
    ∧ quiescent_WsoKernelIdeal (hWsoKernelIdeal := hWsoKernelIdeal)
    ∧ quiescent_WsoReferenceIdeal (hWsoReferenceIdeal := hWsoReferenceIdeal)
    ∧ quiescent_WaoKernel (hWaoKernel := hWaoKernel)
    ∧ quiescent_WaoKernelIdeal (hWaoKernelIdeal := hWaoKernelIdeal)
    ∧ quiescent_WaoReferenceIdeal (hWaoReferenceIdeal := hWaoReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DaoKernel (hDaoKernel := hDaoKernel)
    ∧ quiescent_DaoKernelIdeal (hDaoKernelIdeal := hDaoKernelIdeal)
    ∧ quiescent_DaoReferenceIdeal (hDaoReferenceIdeal := hDaoReferenceIdeal)
    ∧ quiescent_AoutKernel (hAoutKernel := hAoutKernel)
    ∧ quiescent_AoutKernelIdeal (hAoutKernelIdeal := hAoutKernelIdeal)
    ∧ quiescent_AoutReferenceIdeal (hAoutReferenceIdeal := hAoutReferenceIdeal)
    ∧ quiescent_MixoKernel (hMixoKernel := hMixoKernel)
    ∧ quiescent_MixoKernelIdeal (hMixoKernelIdeal := hMixoKernelIdeal)
    ∧ quiescent_MixoReferenceIdeal (hMixoReferenceIdeal := hMixoReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_OwinKernel (hOwinKernel := hOwinKernel)
    ∧ quiescent_OwinKernelIdeal (hOwinKernelIdeal := hOwinKernelIdeal)
    ∧ quiescent_OwinReferenceIdeal (hOwinReferenceIdeal := hOwinReferenceIdeal)
    ∧ quiescent_OsoKernel (hOsoKernel := hOsoKernel)
    ∧ quiescent_OsoKernelIdeal (hOsoKernelIdeal := hOsoKernelIdeal)
    ∧ quiescent_OsoReferenceIdeal (hOsoReferenceIdeal := hOsoReferenceIdeal)
    ∧ quiescent_OaoKernel (hOaoKernel := hOaoKernel)
    ∧ quiescent_OaoKernelIdeal (hOaoKernelIdeal := hOaoKernelIdeal)
    ∧ quiescent_OaoReferenceIdeal (hOaoReferenceIdeal := hOaoReferenceIdeal)
    ∧ quiescent_OupKernel (hOupKernel := hOupKernel)
    ∧ quiescent_OupKernelIdeal (hOupKernelIdeal := hOupKernelIdeal)
    ∧ quiescent_OupReferenceIdeal (hOupReferenceIdeal := hOupReferenceIdeal)
    ∧ quiescent_OdnKernel (hOdnKernel := hOdnKernel)
    ∧ quiescent_OdnKernelIdeal (hOdnKernelIdeal := hOdnKernelIdeal)
    ∧ quiescent_OdnReferenceIdeal (hOdnReferenceIdeal := hOdnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_DmergeKernel (hDmergeKernel := hDmergeKernel)
    ∧ quiescent_DmergeKernelIdeal (hDmergeKernelIdeal := hDmergeKernelIdeal)
    ∧ quiescent_DmergeReferenceIdeal (hDmergeReferenceIdeal := hDmergeReferenceIdeal)
    ∧ quiescent_FupKernel (hFupKernel := hFupKernel)
    ∧ quiescent_FupKernelIdeal (hFupKernelIdeal := hFupKernelIdeal)
    ∧ quiescent_FupReferenceIdeal (hFupReferenceIdeal := hFupReferenceIdeal)
    ∧ quiescent_InpKernel (hInpKernel := hInpKernel)
    ∧ quiescent_InpKernelIdeal (hInpKernelIdeal := hInpKernelIdeal)
    ∧ quiescent_InpReferenceIdeal (hInpReferenceIdeal := hInpReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_CgateKernel (hCgateKernel := hCgateKernel)
    ∧ quiescent_CgateKernelIdeal (hCgateKernelIdeal := hCgateKernelIdeal)
    ∧ quiescent_CgateReferenceIdeal (hCgateReferenceIdeal := hCgateReferenceIdeal)
    ∧ quiescent_CvalKernel (hCvalKernel := hCvalKernel)
    ∧ quiescent_CvalKernelIdeal (hCvalKernelIdeal := hCvalKernelIdeal)
    ∧ quiescent_CvalReferenceIdeal (hCvalReferenceIdeal := hCvalReferenceIdeal)
    ∧ quiescent_CssdKernel (hCssdKernel := hCssdKernel)
    ∧ quiescent_CssdKernelIdeal (hCssdKernelIdeal := hCssdKernelIdeal)
    ∧ quiescent_CssdReferenceIdeal (hCssdReferenceIdeal := hCssdReferenceIdeal)
    ∧ quiescent_CsiluKernel (hCsiluKernel := hCsiluKernel)
    ∧ quiescent_CsiluKernelIdeal (hCsiluKernelIdeal := hCsiluKernelIdeal)
    ∧ quiescent_CsiluKernelIdeal_pre_finite_ct (hCsiluKernelIdeal := hCsiluKernelIdeal) (hPre_finite_ct := hPre_finite_ct)
    ∧ quiescent_CsiluReferenceIdeal (hCsiluReferenceIdeal := hCsiluReferenceIdeal)
    ∧ quiescent_CsiluReferenceIdeal_pre_finite_ct (hCsiluReferenceIdeal := hCsiluReferenceIdeal) (hPre_finite_ct := hPre_finite_ct)
    ∧ quiescent_FactKernel (hFactKernel := hFactKernel)
    ∧ quiescent_FactKernelIdeal (hFactKernelIdeal := hFactKernelIdeal)
    ∧ quiescent_FactKernelIdeal_pre_finite_act (hFactKernelIdeal := hFactKernelIdeal) (hPre_finite_act := hPre_finite_act)
    ∧ quiescent_FactReferenceIdeal (hFactReferenceIdeal := hFactReferenceIdeal)
    ∧ quiescent_FactReferenceIdeal_pre_finite_act (hFactReferenceIdeal := hFactReferenceIdeal) (hPre_finite_act := hPre_finite_act)
    ∧ preserves_Kernel_KernelIdeal
    ∧ preserves_DuKernel_DuKernelIdeal
    ∧ algebraic_DuKernelIdeal_DuReferenceIdeal (hDuKernelIdeal := hDuKernelIdeal) (hDuReferenceIdeal := hDuReferenceIdeal)
    ∧ preserves_WupKernel_WupKernelIdeal
    ∧ algebraic_WupKernelIdeal_WupReferenceIdeal (hWupKernelIdeal := hWupKernelIdeal) (hWupReferenceIdeal := hWupReferenceIdeal)
    ∧ preserves_WdnKernel_WdnKernelIdeal
    ∧ algebraic_WdnKernelIdeal_WdnReferenceIdeal (hWdnKernelIdeal := hWdnKernelIdeal) (hWdnReferenceIdeal := hWdnReferenceIdeal)
    ∧ preserves_WmixKernel_WmixKernelIdeal
    ∧ algebraic_WmixKernelIdeal_WmixReferenceIdeal (hWmixKernelIdeal := hWmixKernelIdeal) (hWmixReferenceIdeal := hWmixReferenceIdeal)
    ∧ preserves_WsoKernel_WsoKernelIdeal
    ∧ algebraic_WsoKernelIdeal_WsoReferenceIdeal (hWsoKernelIdeal := hWsoKernelIdeal) (hWsoReferenceIdeal := hWsoReferenceIdeal)
    ∧ preserves_WaoKernel_WaoKernelIdeal
    ∧ algebraic_WaoKernelIdeal_WaoReferenceIdeal (hWaoKernelIdeal := hWaoKernelIdeal) (hWaoReferenceIdeal := hWaoReferenceIdeal)
    ∧ preserves_DhKernel_DhKernelIdeal
    ∧ algebraic_DhKernelIdeal_DhReferenceIdeal (hDhKernelIdeal := hDhKernelIdeal) (hDhReferenceIdeal := hDhReferenceIdeal)
    ∧ preserves_LossKernel_LossKernelIdeal
    ∧ algebraic_LossKernelIdeal_LossReferenceIdeal (hLossKernelIdeal := hLossKernelIdeal) (hLossReferenceIdeal := hLossReferenceIdeal)
    ∧ preserves_DactKernel_DactKernelIdeal
    ∧ algebraic_DactKernelIdeal_DactReferenceIdeal (hDactKernelIdeal := hDactKernelIdeal) (hDactReferenceIdeal := hDactReferenceIdeal)
    ∧ preserves_DaoKernel_DaoKernelIdeal
    ∧ algebraic_DaoKernelIdeal_DaoReferenceIdeal (hDaoKernelIdeal := hDaoKernelIdeal) (hDaoReferenceIdeal := hDaoReferenceIdeal)
    ∧ preserves_AoutKernel_AoutKernelIdeal
    ∧ algebraic_AoutKernelIdeal_AoutReferenceIdeal (hAoutKernelIdeal := hAoutKernelIdeal) (hAoutReferenceIdeal := hAoutReferenceIdeal)
    ∧ preserves_MixoKernel_MixoKernelIdeal
    ∧ algebraic_MixoKernelIdeal_MixoReferenceIdeal (hMixoKernelIdeal := hMixoKernelIdeal) (hMixoReferenceIdeal := hMixoReferenceIdeal)
    ∧ preserves_WinKernel_WinKernelIdeal
    ∧ algebraic_WinKernelIdeal_WinReferenceIdeal (hWinKernelIdeal := hWinKernelIdeal) (hWinReferenceIdeal := hWinReferenceIdeal)
    ∧ preserves_OwinKernel_OwinKernelIdeal
    ∧ algebraic_OwinKernelIdeal_OwinReferenceIdeal (hOwinKernelIdeal := hOwinKernelIdeal) (hOwinReferenceIdeal := hOwinReferenceIdeal)
    ∧ preserves_OsoKernel_OsoKernelIdeal
    ∧ algebraic_OsoKernelIdeal_OsoReferenceIdeal (hOsoKernelIdeal := hOsoKernelIdeal) (hOsoReferenceIdeal := hOsoReferenceIdeal)
    ∧ preserves_OaoKernel_OaoKernelIdeal
    ∧ algebraic_OaoKernelIdeal_OaoReferenceIdeal (hOaoKernelIdeal := hOaoKernelIdeal) (hOaoReferenceIdeal := hOaoReferenceIdeal)
    ∧ preserves_OupKernel_OupKernelIdeal
    ∧ algebraic_OupKernelIdeal_OupReferenceIdeal (hOupKernelIdeal := hOupKernelIdeal) (hOupReferenceIdeal := hOupReferenceIdeal)
    ∧ preserves_OdnKernel_OdnKernelIdeal
    ∧ algebraic_OdnKernelIdeal_OdnReferenceIdeal (hOdnKernelIdeal := hOdnKernelIdeal) (hOdnReferenceIdeal := hOdnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_DmergeKernel_DmergeKernelIdeal
    ∧ algebraic_DmergeKernelIdeal_DmergeReferenceIdeal (hDmergeKernelIdeal := hDmergeKernelIdeal) (hDmergeReferenceIdeal := hDmergeReferenceIdeal)
    ∧ preserves_FupKernel_FupKernelIdeal
    ∧ algebraic_FupKernelIdeal_FupReferenceIdeal (hFupKernelIdeal := hFupKernelIdeal) (hFupReferenceIdeal := hFupReferenceIdeal)
    ∧ preserves_InpKernel_InpKernelIdeal
    ∧ algebraic_InpKernelIdeal_InpReferenceIdeal (hInpKernelIdeal := hInpKernelIdeal) (hInpReferenceIdeal := hInpReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_CgateKernel_CgateKernelIdeal
    ∧ algebraic_CgateKernelIdeal_CgateReferenceIdeal (hCgateKernelIdeal := hCgateKernelIdeal) (hCgateReferenceIdeal := hCgateReferenceIdeal)
    ∧ preserves_CvalKernel_CvalKernelIdeal
    ∧ algebraic_CvalKernelIdeal_CvalReferenceIdeal (hCvalKernelIdeal := hCvalKernelIdeal) (hCvalReferenceIdeal := hCvalReferenceIdeal)
    ∧ preserves_CssdKernel_CssdKernelIdeal
    ∧ algebraic_CssdKernelIdeal_CssdReferenceIdeal (hCssdKernelIdeal := hCssdKernelIdeal) (hCssdReferenceIdeal := hCssdReferenceIdeal)
    ∧ preserves_CsiluKernel_CsiluKernelIdeal
    ∧ algebraic_CsiluKernelIdeal_CsiluReferenceIdeal_pre_finite_ct (hCsiluKernelIdeal := hCsiluKernelIdeal) (hCsiluReferenceIdeal := hCsiluReferenceIdeal) (hPre_finite_ct := hPre_finite_ct)
    ∧ preserves_FactKernel_FactKernelIdeal
    ∧ algebraic_FactKernelIdeal_FactReferenceIdeal_pre_finite_act (hFactKernelIdeal := hFactKernelIdeal) (hFactReferenceIdeal := hFactReferenceIdeal) (hPre_finite_act := hPre_finite_act)
-- ==== Pre_finite_act.lean ====
abbrev S8192x2816 : Shape := ⟨2, ![8192, 2816]⟩
abbrev S_ : Shape := ⟨0, ![]⟩

class Facts : Prop where
  bcast_S_S8192x2816 : S_.BroadcastsInDim S8192x2816 (![] : Fin 0 → Fin S8192x2816.rank)

variable [Facts]

def fn {F : FTy → Type} [FloatOps F] (main_arg0 : FVec F S8192x2816 .f32) (main_arg1 : FVec F S8192x2816 .f32) (main_arg2 : FVec F S8192x2816 .f32) : IVec S8192x2816 1 :=
  let main_v0 : FVec F S8192x2816 .f32 := mulf main_arg0 main_arg2
  let main_v1 : FVec F S8192x2816 .f32 := mulf main_arg0 main_arg2
  let main_v2 : FVec F S8192x2816 .f32 := subf main_v0 main_v1
  let main_cst : FVec F S_ .f32 := constant S_ .f32 0x00000000#32
  let main_v3 : FVec F S8192x2816 .f32 := broadcastInDim S8192x2816 ![] bcast_S_S8192x2816 main_cst
  let main_v4 : IVec S8192x2816 1 := cmpf .oeq main_v2 main_v3
  main_v4
-- ==== Pre_finite_ct.lean ====
abbrev S8192x3072 : Shape := ⟨2, ![8192, 3072]⟩
abbrev S_ : Shape := ⟨0, ![]⟩

class Facts : Prop where
  bcast_S_S8192x3072 : S_.BroadcastsInDim S8192x3072 (![] : Fin 0 → Fin S8192x3072.rank)

variable [Facts]

def fn {F : FTy → Type} [FloatOps F] (main_arg0 : FVec F S8192x3072 .f32) (main_arg1 : FVec F S8192x3072 .f32) : IVec S8192x3072 1 :=
  let main_v0 : FVec F S8192x3072 .f32 := subf main_arg0 main_arg0
  let main_cst : FVec F S_ .f32 := constant S_ .f32 0x00000000#32
  let main_v1 : FVec F S8192x3072 .f32 := broadcastInDim S8192x3072 ![] bcast_S_S8192x3072 main_cst
  let main_v2 : IVec S8192x3072 1 := cmpf .oeq main_v0 main_v1
  main_v2
-- ==== Kernel.lean ====
abbrev S8192x3072 : Shape := ⟨2, ![8192, 3072]⟩
abbrev S4x8192x128 : Shape := ⟨3, ![4, 8192, 128]⟩
abbrev S4x8x8192 : Shape := ⟨3, ![4, 8, 8192]⟩
abbrev S4x1x128 : Shape := ⟨3, ![4, 1, 128]⟩
abbrev S4x8x1 : Shape := ⟨3, ![4, 8, 1]⟩
abbrev S1x2048 : Shape := ⟨2, ![1, 2048]⟩
abbrev S8192x2048 : Shape := ⟨2, ![8192, 2048]⟩
abbrev S64x4x128x512 : Shape := ⟨4, ![64, 4, 128, 512]⟩
abbrev S128x3072 : Shape := ⟨2, ![128, 3072]⟩
abbrev S4x128x128 : Shape := ⟨3, ![4, 128, 128]⟩
abbrev S4x8x128 : Shape := ⟨3, ![4, 8, 128]⟩
abbrev S128x2048 : Shape := ⟨2, ![128, 2048]⟩
abbrev S1x4x128x512 : Shape := ⟨4, ![1, 4, 128, 512]⟩
abbrev S4x128x512 : Shape := ⟨3, ![4, 128, 512]⟩
abbrev S384x1024 : Shape := ⟨2, ![384, 1024]⟩
abbrev S384x512 : Shape := ⟨2, ![384, 512]⟩
abbrev S512x128 : Shape := ⟨2, ![512, 128]⟩
abbrev S128x1024 : Shape := ⟨2, ![128, 1024]⟩
abbrev S128x384 : Shape := ⟨2, ![128, 384]⟩
abbrev S384x128 : Shape := ⟨2, ![384, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩
abbrev S1x8x1 : Shape := ⟨3, ![1, 8, 1]⟩
abbrev S8x1 : Shape := ⟨2, ![8, 1]⟩
abbrev S8x384 : Shape := ⟨2, ![8, 384]⟩
abbrev S128x512 : Shape := ⟨2, ![128, 512]⟩
abbrev S1x512 : Shape := ⟨2, ![1, 512]⟩
abbrev S128x768 : Shape := ⟨2, ![128, 768]⟩
abbrev S1x1x128x512 : Shape := ⟨4, ![1, 1, 128, 512]⟩
abbrev S1x128x512 : Shape := ⟨3, ![1, 128, 512]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 12
  | .vmem => 28
  | .smem => 0
  | _ => 0

abbrev bufTy : (tb : Table) → Fin (tcTables nBuf tb) → BufTy
  | .hbm, ⟨0, _⟩ => ⟨S8192x3072, .f32⟩
  | .hbm, ⟨1, _⟩ => ⟨S4x8192x128, .f32⟩
  | .hbm, ⟨2, _⟩ => ⟨S4x8x8192, .f32⟩
  | .hbm, ⟨3, _⟩ => ⟨S4x1x128, .f32⟩
  | .hbm, ⟨4, _⟩ => ⟨S4x8x1, .f32⟩
  | .hbm, ⟨5, _⟩ => ⟨S1x2048, .f32⟩
  | .hbm, ⟨6, _⟩ => ⟨S8192x2048, .f32⟩
  | .hbm, ⟨7, _⟩ => ⟨S64x4x128x512, .f32⟩
  | .hbm, ⟨8, _⟩ => ⟨S8192x3072, .f32⟩
  | .hbm, ⟨9, _⟩ => ⟨S4x8192x128, .f32⟩
  | .hbm, ⟨10, _⟩ => ⟨S4x1x128, .f32⟩
  | .hbm, ⟨11, _⟩ => ⟨S4x1x128, .f32⟩
  | .local _ .vmem, ⟨0, _⟩ => ⟨S128x3072, .f32⟩
  | .local _ .vmem, ⟨1, _⟩ => ⟨S128x3072, .f32⟩
  | .local _ .vmem, ⟨2, _⟩ => ⟨S4x128x128, .f32⟩
  | .local _ .vmem, ⟨3, _⟩ => ⟨S4x128x128, .f32⟩
  | .local _ .vmem, ⟨4, _⟩ => ⟨S4x8x128, .f32⟩
  | .local _ .vmem, ⟨5, _⟩ => ⟨S4x8x128, .f32⟩
  | .local _ .vmem, ⟨6, _⟩ => ⟨S4x1x128, .f32⟩
  | .local _ .vmem, ⟨7, _⟩ => ⟨S4x8x1, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S1x4x128x512, .f32⟩
  | .local _ .vmem, ⟨12, _⟩ => ⟨S1x4x128x512, .f32⟩
  | .local _ .vmem, ⟨13, _⟩ => ⟨S128x3072, .f32⟩
  | .local _ .vmem, ⟨14, _⟩ => ⟨S128x3072, .f32⟩
  | .local _ .vmem, ⟨15, _⟩ => ⟨S4x128x128, .f32⟩
  | .local _ .vmem, ⟨16, _⟩ => ⟨S4x128x128, .f32⟩
  | .local _ .vmem, ⟨17, _⟩ => ⟨S4x1x128, .f32⟩
  | .local _ .vmem, ⟨18, _⟩ => ⟨S4x1x128, .f32⟩
  | .local _ .vmem, ⟨19, _⟩ => ⟨S4x128x512, .f32⟩
  | .local _ .vmem, ⟨20, _⟩ => ⟨S384x1024, .bf16⟩
  | .local _ .vmem, ⟨21, _⟩ => ⟨S384x512, .bf16⟩
  | .local _ .vmem, ⟨22, _⟩ => ⟨S512x128, .bf16⟩
  | .local _ .vmem, ⟨23, _⟩ => ⟨S128x1024, .f32⟩
  | .local _ .vmem, ⟨24, _⟩ => ⟨S128x1024, .f32⟩
  | .local _ .vmem, ⟨25, _⟩ => ⟨S128x384, .bf16⟩
  | .local _ .vmem, ⟨26, _⟩ => ⟨S128x384, .bf16⟩
  | .local _ .vmem, ⟨27, _⟩ => ⟨S384x128, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c0_i32_160 : BitVec 32 := 0#32
  let v431 : BitVec 1 := Scalar.cmpi .eq arg0 c0_i32_160
  let v432 : BitVec 32 := Scalar.extui v431
  let c0_i32_161 : BitVec 32 := 0#32
  let v433 : BitVec 1 := Scalar.cmpi .ne v432 c0_i32_161
  v433

def k0_cond3 (i : grid0.Coords) : BitVec 1 :=
  let arg0 : BitVec 32 := BitVec.ofNat 32 (i 0).val
  let c0_i32_160 : BitVec 32 := 0#32
  let v431 : BitVec 1 := Scalar.cmpi .eq arg0 c0_i32_160
  let v_true : BitVec 1 := 1#1
  let v434 : BitVec 1 := Scalar.xori v431 v_true
  let v435 : BitVec 32 := Scalar.extui v434
  let c0_i32_162 : BitVec 32 := 0#32
  let v436 : BitVec 1 := Scalar.cmpi .ne v435 c0_i32_162
  v436

def k0_cond4 (i : grid0.Coords) : BitVec 1 :=
  let arg0 : BitVec 32 := BitVec.ofNat 32 (i 0).val
  let c0_i32_333 : BitVec 32 := 0#32
  let v865 : BitVec 1 := Scalar.cmpi .eq arg0 c0_i32_333
  let v866 : BitVec 32 := Scalar.extui v865
  let c0_i32_334 : BitVec 32 := 0#32
  let v867 : BitVec 1 := Scalar.cmpi .ne v866 c0_i32_334
  v867

def k0_cond5 (i : grid0.Coords) : BitVec 1 :=
  let arg0 : BitVec 32 := BitVec.ofNat 32 (i 0).val
  let c0_i32_333 : BitVec 32 := 0#32
  let v865 : BitVec 1 := Scalar.cmpi .eq arg0 c0_i32_333
  let true_335 : BitVec 1 := 1#1
  let v868 : BitVec 1 := Scalar.xori v865 true_335
  let v869 : BitVec 32 := Scalar.extui v868
  let c0_i32_336 : BitVec 32 := 0#32
  let v870 : BitVec 1 := Scalar.cmpi .ne v869 c0_i32_336
  v870

def k0_cond6 (i : grid0.Coords) : BitVec 1 :=
  let arg0 : BitVec 32 := BitVec.ofNat 32 (i 0).val
  let c0_i32_506 : BitVec 32 := 0#32
  let v1299 : BitVec 1 := Scalar.cmpi .eq arg0 c0_i32_506
  let v1300 : BitVec 32 := Scalar.extui v1299
  let c0_i32_507 : BitVec 32 := 0#32
  let v1301 : BitVec 1 := Scalar.cmpi .ne v1300 c0_i32_507
  v1301

def k0_cond7 (i : grid0.Coords) : BitVec 1 :=
  let arg0 : BitVec 32 := BitVec.ofNat 32 (i 0).val
  let c0_i32_506 : BitVec 32 := 0#32
  let v1299 : BitVec 1 := Scalar.cmpi .eq arg0 c0_i32_506
  let true_508 : BitVec 1 := 1#1
  let v1302 : BitVec 1 := Scalar.xori v1299 true_508
  let v1303 : BitVec 32 := Scalar.extui v1302
  let c0_i32_509 : BitVec 32 := 0#32
  let v1304 : BitVec 1 := Scalar.cmpi .ne v1303 c0_i32_509
  v1304

def k0_cond8 (i : grid0.Coords) : BitVec 1 :=
  let arg0 : BitVec 32 := BitVec.ofNat 32 (i 0).val
  let c0_i32_679 : BitVec 32 := 0#32
  let v1733 : BitVec 1 := Scalar.cmpi .eq arg0 c0_i32_679
  let v1734 : BitVec 32 := Scalar.extui v1733
  let c0_i32_680 : BitVec 32 := 0#32
  let v1735 : BitVec 1 := Scalar.cmpi .ne v1734 c0_i32_680
  v1735

def k0_cond9 (i : grid0.Coords) : BitVec 1 :=
  let arg0 : BitVec 32 := BitVec.ofNat 32 (i 0).val
  let c0_i32_679 : BitVec 32 := 0#32
  let v1733 : BitVec 1 := Scalar.cmpi .eq arg0 c0_i32_679
  let true_681 : BitVec 1 := 1#1
  let v1736 : BitVec 1 := Scalar.xori v1733 true_681
  let v1737 : BitVec 32 := Scalar.extui v1736
  let c0_i32_682 : BitVec 32 := 0#32
  let v1738 : BitVec 1 := Scalar.cmpi .ne v1737 c0_i32_682
  v1738

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DuKernel.lean ====
abbrev S8192x1024 : Shape := ⟨2, ![8192, 1024]⟩
abbrev S1x1024 : Shape := ⟨2, ![1, 1024]⟩
abbrev S1024x8736 : Shape := ⟨2, ![1024, 8736]⟩
abbrev S8192x2048 : Shape := ⟨2, ![8192, 2048]⟩
abbrev S8192x3072 : Shape := ⟨2, ![8192, 3072]⟩
abbrev S8192x32 : Shape := ⟨2, ![8192, 32]⟩
abbrev S8192x256 : Shape := ⟨2, ![8192, 256]⟩
abbrev S_ : Shape := ⟨0, ![]⟩
abbrev S8192x480 : Shape := ⟨2, ![8192, 480]⟩
abbrev S8192x512 : Shape := ⟨2, ![8192, 512]⟩
abbrev S8192x128 : Shape := ⟨2, ![8192, 128]⟩
abbrev S8192x9216 : Shape := ⟨2, ![8192, 9216]⟩
abbrev S8736x1024 : Shape := ⟨2, ![8736, 1024]⟩
abbrev S1024x1024 : Shape := ⟨2, ![1024, 1024]⟩
abbrev S256x1024 : Shape := ⟨2, ![256, 1024]⟩
abbrev S2048x1024 : Shape := ⟨2, ![2048, 1024]⟩
abbrev S32x1024 : Shape := ⟨2, ![32, 1024]⟩
abbrev S480x1024 : Shape := ⟨2, ![480, 1024]⟩
abbrev S512x1024 : Shape := ⟨2, ![512, 1024]⟩
abbrev S128x1024 : Shape := ⟨2, ![128, 1024]⟩
abbrev S8320x1024 : Shape := ⟨2, ![8320, 1024]⟩
abbrev S896x1024 : Shape := ⟨2, ![896, 1024]⟩
abbrev S9216x1024 : Shape := ⟨2, ![9216, 1024]⟩
abbrev S512x9216 : Shape := ⟨2, ![512, 9216]⟩
abbrev S512 : Shape := ⟨1, ![512]⟩
abbrev S512x1 : Shape := ⟨2, ![512, 1]⟩
abbrev S1024 : Shape := ⟨1, ![1024]⟩

abbrev nBuf : Space → Nat
  | .hbm => 57
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S8192x2048, .f32⟩
  | .hbm, ⟨5, _⟩ => ⟨S8192x3072, .f32⟩
  | .hbm, ⟨6, _⟩ => ⟨S8192x32, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x480, .f32⟩
  | .hbm, ⟨14, _⟩ => ⟨S8192x512, .f32⟩
  | .hbm, ⟨15, _⟩ => ⟨S8192x128, .f32⟩
  | .hbm, ⟨16, _⟩ => ⟨S8192x128, .f32⟩
  | .hbm, ⟨17, _⟩ => ⟨S8192x512, .f32⟩
  | .hbm, ⟨18, _⟩ => ⟨S8192x128, .f32⟩
  | .hbm, ⟨19, _⟩ => ⟨S8192x128, .f32⟩
  | .hbm, ⟨20, _⟩ => ⟨S8192x512, .f32⟩
  | .hbm, ⟨21, _⟩ => ⟨S8192x128, .f32⟩
  | .hbm, ⟨22, _⟩ => ⟨S8192x128, .f32⟩
  | .hbm, ⟨23, _⟩ => ⟨S8192x512, .f32⟩
  | .hbm, ⟨24, _⟩ => ⟨S8192x128, .f32⟩
  | .hbm, ⟨25, _⟩ => ⟨S8192x128, .f32⟩
  | .hbm, ⟨26, _⟩ => ⟨S8192x3072, .f32⟩
  | .hbm, ⟨27, _⟩ => ⟨S8192x9216, .f32⟩
  | .hbm, ⟨28, _⟩ => ⟨S8192x9216, .bf16⟩
  | .hbm, ⟨29, _⟩ => ⟨S8736x1024, .f32⟩
  | .hbm, ⟨30, _⟩ => ⟨S8736x1024, .bf16⟩
  | .hbm, ⟨31, _⟩ => ⟨S1024x1024, .bf16⟩
  | .hbm, ⟨32, _⟩ => ⟨S256x1024, .bf16⟩
  | .hbm, ⟨33, _⟩ => ⟨S256x1024, .bf16⟩
  | .hbm, ⟨34, _⟩ => ⟨S2048x1024, .bf16⟩
  | .hbm, ⟨35, _⟩ => ⟨S32x1024, .bf16⟩
  | .hbm, ⟨36, _⟩ => ⟨S_, .bf16⟩
  | .hbm, ⟨37, _⟩ => ⟨S480x1024, .bf16⟩
  | .hbm, ⟨38, _⟩ => ⟨S1024x1024, .bf16⟩
  | .hbm, ⟨39, _⟩ => ⟨S1024x1024, .bf16⟩
  | .hbm, ⟨40, _⟩ => ⟨S512x1024, .bf16⟩
  | .hbm, ⟨41, _⟩ => ⟨S128x1024, .bf16⟩
  | .hbm, ⟨42, _⟩ => ⟨S128x1024, .bf16⟩
  | .hbm, ⟨43, _⟩ => ⟨S512x1024, .bf16⟩
  | .hbm, ⟨44, _⟩ => ⟨S128x1024, .bf16⟩
  | .hbm, ⟨45, _⟩ => ⟨S128x1024, .bf16⟩
  | .hbm, ⟨46, _⟩ => ⟨S512x1024, .bf16⟩
  | .hbm, ⟨47, _⟩ => ⟨S128x1024, .bf16⟩
  | .hbm, ⟨48, _⟩ => ⟨S128x1024, .bf16⟩
  | .hbm, ⟨49, _⟩ => ⟨S512x1024, .bf16⟩
  | .hbm, ⟨50, _⟩ => ⟨S128x1024, .bf16⟩
  | .hbm, ⟨51, _⟩ => ⟨S128x1024, .bf16⟩
  | .hbm, ⟨52, _⟩ => ⟨S8320x1024, .bf16⟩
  | .hbm, ⟨53, _⟩ => ⟨S896x1024, .bf16⟩
  | .hbm, ⟨54, _⟩ => ⟨S9216x1024, .bf16⟩
  | .hbm, ⟨55, _⟩ => ⟨S8192x1024, .f32⟩
  | .hbm, ⟨56, _⟩ => ⟨S1x1024, .f32⟩
  | .local _ .vmem, ⟨0, _⟩ => ⟨S512x9216, .bf16⟩
  | .local _ .vmem, ⟨1, _⟩ => ⟨S512x9216, .bf16⟩
  | .local _ .vmem, ⟨2, _⟩ => ⟨S9216x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S9216x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DuReferenceIdeal.lean ====
abbrev S8192x1024 : Shape := ⟨2, ![8192, 1024]⟩
abbrev S1x1024 : Shape := ⟨2, ![1, 1024]⟩
abbrev S1024x8736 : Shape := ⟨2, ![1024, 8736]⟩
abbrev S8192x2048 : Shape := ⟨2, ![8192, 2048]⟩
abbrev S8192x3072 : Shape := ⟨2, ![8192, 3072]⟩
abbrev S8192x32 : Shape := ⟨2, ![8192, 32]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8736 : Shape := ⟨2, ![8192, 8736]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S8192x2048, .f32⟩
  | .hbm, ⟨5, _⟩ => ⟨S8192x3072, .f32⟩
  | .hbm, ⟨6, _⟩ => ⟨S8192x32, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x8736, .f32⟩
  | .hbm, ⟨32, _⟩ => ⟨S8192x2048, .f32⟩
  | .hbm, ⟨33, _⟩ => ⟨S8192x3072, .f32⟩
  | .hbm, ⟨34, _⟩ => ⟨S8192x32, .f32⟩
  | .hbm, ⟨35, _⟩ => ⟨S8192x1024, .f32⟩
  | .hbm, ⟨36, _⟩ => ⟨S8192x256, .f32⟩
  | .hbm, ⟨37, _⟩ => ⟨S8192x256, .f32⟩
  | .hbm, ⟨38, _⟩ => ⟨S8192x1024, .f32⟩
  | .hbm, ⟨39, _⟩ => ⟨S8192x1024, .f32⟩
  | .hbm, ⟨40, _⟩ => ⟨S8192x8736, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== WupKernel.lean ====
abbrev S8192x1024 : Shape := ⟨2, ![8192, 1024]⟩
abbrev S8192x5632 : Shape := ⟨2, ![8192, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x5632, .bf16⟩
  | .hbm, ⟨3, _⟩ => ⟨S8192x1024, .bf16⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WupReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WdnKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdnReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WmixKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WmixReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WsoKernel.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WsoReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WaoKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WaoReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhKernel.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 30
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .bf16⟩
  | .hbm, ⟨24, _⟩ => ⟨S5632x1024, .f32⟩
  | .hbm, ⟨25, _⟩ => ⟨S5632x1024, .bf16⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_29 : BitVec 32 := 0#32
  let v67 : BitVec 1 := Scalar.cmpi .ne v66 c0_i32_29
  v67

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v68 : BitVec 1 := Scalar.xori v65 v_true
  let v69 : BitVec 32 := Scalar.extui v68
  let c0_i32_30 : BitVec 32 := 0#32
  let v70 : BitVec 1 := Scalar.cmpi .ne v69 c0_i32_30
  v70

def k0_cond3 (i : grid0.Coords) : BitVec 1 :=
  let arg0 : BitVec 32 := BitVec.ofNat 32 (i 0).val
  let c0_i32_31 : BitVec 32 := 0#32
  let v71 : BitVec 1 := Scalar.cmpi .eq arg0 c0_i32_31
  let v72 : BitVec 32 := Scalar.extui v71
  let c0_i32_32 : BitVec 32 := 0#32
  let v73 : BitVec 1 := Scalar.cmpi .ne v72 c0_i32_32
  v73

def k0_cond4 (i : grid0.Coords) : BitVec 1 :=
  let arg0 : BitVec 32 := BitVec.ofNat 32 (i 0).val
  let c0_i32_31 : BitVec 32 := 0#32
  let v71 : BitVec 1 := Scalar.cmpi .eq arg0 c0_i32_31
  let true_33 : BitVec 1 := 1#1
  let v74 : BitVec 1 := Scalar.xori v71 true_33
  let v75 : BitVec 32 := Scalar.extui v74
  let c0_i32_34 : BitVec 32 := 0#32
  let v76 : BitVec 1 := Scalar.cmpi .ne v75 c0_i32_34
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== DhReferenceIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== LossKernel.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .bf16⟩
  | .hbm, ⟨6, _⟩ => ⟨S2816x1024, .bf16⟩
  | .hbm, ⟨7, _⟩ => ⟨S8192x1024, .bf16⟩
  | .hbm, ⟨8, _⟩ => ⟨S8192x1024, .f32⟩
  | .hbm, ⟨9, _⟩ => ⟨S1x1, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg0 : BitVec 32 := BitVec.ofNat 32 (i 0).val
  let c0_i32_25 : BitVec 32 := 0#32
  let v58 : BitVec 1 := Scalar.cmpi .eq arg0 c0_i32_25
  let v67 : BitVec 32 := Scalar.extui v58
  let c0_i32_28 : BitVec 32 := 0#32
  let v68 : BitVec 1 := Scalar.cmpi .ne v67 c0_i32_28
  v68

def k0_cond4 (i : grid0.Coords) : BitVec 1 :=
  let arg0 : BitVec 32 := BitVec.ofNat 32 (i 0).val
  let c0_i32_25 : BitVec 32 := 0#32
  let v58 : BitVec 1 := Scalar.cmpi .eq arg0 c0_i32_25
  let true_29 : BitVec 1 := 1#1
  let v69 : BitVec 1 := Scalar.xori v58 true_29
  let v70 : BitVec 32 := Scalar.extui v69
  let c0_i32_30 : BitVec 32 := 0#32
  let v71 : BitVec 1 := Scalar.cmpi .ne v70 c0_i32_30
  v71

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_23 : BitVec 32 := 0#32
  let v54 : BitVec 1 := Scalar.cmpi .ne v53 c0_i32_23
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== LossReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x1, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== DactKernel.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S1024x2816, .f32⟩
  | .hbm, ⟨4, _⟩ => ⟨S1024x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DaoKernel.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .f32⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaoReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AoutKernel.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AoutReferenceIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixoKernel.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixoReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== WinKernel.lean ====
abbrev S8192x1024 : Shape := ⟨2, ![8192, 1024]⟩
abbrev S1x1024 : Shape := ⟨2, ![1, 1024]⟩
abbrev S8192x2048 : Shape := ⟨2, ![8192, 2048]⟩
abbrev S8192x3072 : Shape := ⟨2, ![8192, 3072]⟩
abbrev S8192x32 : Shape := ⟨2, ![8192, 32]⟩
abbrev S8192x256 : Shape := ⟨2, ![8192, 256]⟩
abbrev S_ : Shape := ⟨0, ![]⟩
abbrev S8192x480 : Shape := ⟨2, ![8192, 480]⟩
abbrev S8192x512 : Shape := ⟨2, ![8192, 512]⟩
abbrev S8192x128 : Shape := ⟨2, ![8192, 128]⟩
abbrev S8192x9216 : Shape := ⟨2, ![8192, 9216]⟩
abbrev S8192 : Shape := ⟨1, ![8192]⟩
abbrev S8192x1 : Shape := ⟨2, ![8192, 1]⟩
abbrev S9216x1024 : Shape := ⟨2, ![9216, 1024]⟩
abbrev S2048x1024 : Shape := ⟨2, ![2048, 1024]⟩
abbrev S1024x1024 : Shape := ⟨2, ![1024, 1024]⟩
abbrev S512x1024 : Shape := ⟨2, ![512, 1024]⟩
abbrev S128x1024 : Shape := ⟨2, ![128, 1024]⟩
abbrev S32x1024 : Shape := ⟨2, ![32, 1024]⟩
abbrev S256x1024 : Shape := ⟨2, ![256, 1024]⟩
abbrev S6432x1024 : Shape := ⟨2, ![6432, 1024]⟩
abbrev S2304x1024 : Shape := ⟨2, ![2304, 1024]⟩
abbrev S8736x1024 : Shape := ⟨2, ![8736, 1024]⟩

abbrev nBuf : Space → Nat
  | .hbm => 66
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S8192x3072, .f32⟩
  | .hbm, ⟨4, _⟩ => ⟨S8192x32, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x480, .f32⟩
  | .hbm, ⟨12, _⟩ => ⟨S8192x512, .f32⟩
  | .hbm, ⟨13, _⟩ => ⟨S8192x128, .f32⟩
  | .hbm, ⟨14, _⟩ => ⟨S8192x128, .f32⟩
  | .hbm, ⟨15, _⟩ => ⟨S8192x512, .f32⟩
  | .hbm, ⟨16, _⟩ => ⟨S8192x128, .f32⟩
  | .hbm, ⟨17, _⟩ => ⟨S8192x128, .f32⟩
  | .hbm, ⟨18, _⟩ => ⟨S8192x512, .f32⟩
  | .hbm, ⟨19, _⟩ => ⟨S8192x128, .f32⟩
  | .hbm, ⟨20, _⟩ => ⟨S8192x128, .f32⟩
  | .hbm, ⟨21, _⟩ => ⟨S8192x512, .f32⟩
  | .hbm, ⟨22, _⟩ => ⟨S8192x128, .f32⟩
  | .hbm, ⟨23, _⟩ => ⟨S8192x128, .f32⟩
  | .hbm, ⟨24, _⟩ => ⟨S8192x3072, .f32⟩
  | .hbm, ⟨25, _⟩ => ⟨S8192x9216, .f32⟩
  | .hbm, ⟨26, _⟩ => ⟨S8192x9216, .bf16⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S9216x1024, .bf16⟩
  | .hbm, ⟨44, _⟩ => ⟨S2048x1024, .bf16⟩
  | .hbm, ⟨45, _⟩ => ⟨S512x1024, .bf16⟩
  | .hbm, ⟨46, _⟩ => ⟨S512x1024, .bf16⟩
  | .hbm, ⟨47, _⟩ => ⟨S512x1024, .bf16⟩
  | .hbm, ⟨48, _⟩ => ⟨S512x1024, .bf16⟩
  | .hbm, ⟨49, _⟩ => ⟨S128x1024, .bf16⟩
  | .hbm, ⟨50, _⟩ => ⟨S128x1024, .bf16⟩
  | .hbm, ⟨51, _⟩ => ⟨S128x1024, .bf16⟩
  | .hbm, ⟨52, _⟩ => ⟨S128x1024, .bf16⟩
  | .hbm, ⟨53, _⟩ => ⟨S128x1024, .bf16⟩
  | .hbm, ⟨54, _⟩ => ⟨S128x1024, .bf16⟩
  | .hbm, ⟨55, _⟩ => ⟨S128x1024, .bf16⟩
  | .hbm, ⟨56, _⟩ => ⟨S128x1024, .bf16⟩
  | .hbm, ⟨57, _⟩ => ⟨S32x1024, .bf16⟩
  | .hbm, ⟨58, _⟩ => ⟨S1024x1024, .bf16⟩
  | .hbm, ⟨59, _⟩ => ⟨S256x1024, .bf16⟩
  | .hbm, ⟨60, _⟩ => ⟨S256x1024, .bf16⟩
  | .hbm, ⟨61, _⟩ => ⟨S1024x1024, .bf16⟩
  | .hbm, ⟨62, _⟩ => ⟨S1024x1024, .bf16⟩
  | .hbm, ⟨63, _⟩ => ⟨S6432x1024, .bf16⟩
  | .hbm, ⟨64, _⟩ => ⟨S2304x1024, .bf16⟩
  | .hbm, ⟨65, _⟩ => ⟨S8736x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S8192x1024 : Shape := ⟨2, ![8192, 1024]⟩
abbrev S1x1024 : Shape := ⟨2, ![1, 1024]⟩
abbrev S8192x2048 : Shape := ⟨2, ![8192, 2048]⟩
abbrev S8192x3072 : Shape := ⟨2, ![8192, 3072]⟩
abbrev S8192x32 : Shape := ⟨2, ![8192, 32]⟩
abbrev S8192x256 : Shape := ⟨2, ![8192, 256]⟩
abbrev S_ : Shape := ⟨0, ![]⟩
abbrev S1024x8736 : Shape := ⟨2, ![1024, 8736]⟩
abbrev S8192 : Shape := ⟨1, ![8192]⟩
abbrev S8192x1 : Shape := ⟨2, ![8192, 1]⟩
abbrev S8192x8736 : Shape := ⟨2, ![8192, 8736]⟩
abbrev S8736x1024 : Shape := ⟨2, ![8736, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S8192x3072, .f32⟩
  | .hbm, ⟨4, _⟩ => ⟨S8192x32, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S1024x8736, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x8736, .f32⟩
  | .hbm, ⟨28, _⟩ => ⟨S8192x8736, .f32⟩
  | .hbm, ⟨29, _⟩ => ⟨S8736x1024, .f32⟩
  | .hbm, ⟨30, _⟩ => ⟨S1024x8736, .f32⟩
  | .hbm, ⟨31, _⟩ => ⟨S8736x1024, .f32⟩
  | .hbm, ⟨32, _⟩ => ⟨S8736x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== OwinKernel.lean ====
abbrev S1x1024x2184 : Shape := ⟨3, ![1, 1024, 2184]⟩
abbrev S1024x2184 : Shape := ⟨2, ![1024, 2184]⟩
abbrev S256x2184 : Shape := ⟨2, ![256, 2184]⟩

abbrev nBuf : Space → Nat
  | .hbm => 12
  | .vmem => 14
  | .smem => 0
  | _ => 0

abbrev bufTy : (tb : Table) → Fin (tcTables nBuf tb) → BufTy
  | .hbm, ⟨0, _⟩ => ⟨S1x1024x2184, .f32⟩
  | .hbm, ⟨1, _⟩ => ⟨S1024x2184, .f32⟩
  | .hbm, ⟨2, _⟩ => ⟨S1x1024x2184, .f32⟩
  | .hbm, ⟨3, _⟩ => ⟨S1x1024x2184, .f32⟩
  | .hbm, ⟨4, _⟩ => ⟨S1024x2184, .f32⟩
  | .hbm, ⟨5, _⟩ => ⟨S1024x2184, .f32⟩
  | .hbm, ⟨6, _⟩ => ⟨S1024x2184, .f32⟩
  | .hbm, ⟨7, _⟩ => ⟨S1024x2184, .f32⟩
  | .hbm, ⟨8, _⟩ => ⟨S1024x2184, .f32⟩
  | .hbm, ⟨9, _⟩ => ⟨S1024x2184, .f32⟩
  | .hbm, ⟨10, _⟩ => ⟨S1024x2184, .f32⟩
  | .hbm, ⟨11, _⟩ => ⟨S1024x2184, .f32⟩
  | .local _ .vmem, ⟨0, _⟩ => ⟨S256x2184, .f32⟩
  | .local _ .vmem, ⟨1, _⟩ => ⟨S256x2184, .f32⟩
  | .local _ .vmem, ⟨2, _⟩ => ⟨S256x2184, .f32⟩
  | .local _ .vmem, ⟨3, _⟩ => ⟨S256x2184, .f32⟩
  | .local _ .vmem, ⟨4, _⟩ => ⟨S256x2184, .f32⟩
  | .local _ .vmem, ⟨5, _⟩ => ⟨S256x2184, .f32⟩
  | .local _ .vmem, ⟨6, _⟩ => ⟨S256x2184, .f32⟩
  | .local _ .vmem, ⟨7, _⟩ => ⟨S256x2184, .f32⟩
  | .local _ .vmem, ⟨8, _⟩ => ⟨S256x2184, .f32⟩
  | .local _ .vmem, ⟨9, _⟩ => ⟨S256x2184, .f32⟩
  | .local _ .vmem, ⟨10, _⟩ => ⟨S256x2184, .f32⟩
  | .local _ .vmem, ⟨11, _⟩ => ⟨S256x2184, .f32⟩
  | .local _ .vmem, ⟨12, _⟩ => ⟨S256x2184, .f32⟩
  | .local _ .vmem, ⟨13, _⟩ => ⟨S256x2184, .f32⟩
  | _, _ => ⟨S1x1024x2184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2184 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2184 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2184 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2184 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OwinReferenceIdeal.lean ====
abbrev S1x1024x2184 : Shape := ⟨3, ![1, 1024, 2184]⟩
abbrev S1024x2184 : Shape := ⟨2, ![1024, 2184]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2184, .f32⟩
  | .hbm, ⟨1, _⟩ => ⟨S1024x2184, .f32⟩
  | .hbm, ⟨2, _⟩ => ⟨S1x1024x2184, .f32⟩
  | .hbm, ⟨3, _⟩ => ⟨S1x1024x2184, .f32⟩
  | .hbm, ⟨4, _⟩ => ⟨S1x1024x2184, .f32⟩
  | .hbm, ⟨5, _⟩ => ⟨S_, .f32⟩
  | .hbm, ⟨6, _⟩ => ⟨S1x1024x2184, .f32⟩
  | .hbm, ⟨7, _⟩ => ⟨S1x1024x2184, .f32⟩
  | .hbm, ⟨8, _⟩ => ⟨S_, .f32⟩
  | .hbm, ⟨9, _⟩ => ⟨S1x1024x2184, .f32⟩
  | .hbm, ⟨10, _⟩ => ⟨S1x1024x2184, .f32⟩
  | .hbm, ⟨11, _⟩ => ⟨S1x1024x2184, .f32⟩
  | .hbm, ⟨12, _⟩ => ⟨S_, .f32⟩
  | .hbm, ⟨13, _⟩ => ⟨S1x1024x2184, .f32⟩
  | .hbm, ⟨14, _⟩ => ⟨S1x1024x2184, .f32⟩
  | .hbm, ⟨15, _⟩ => ⟨S1x1024x2184, .f32⟩
  | .hbm, ⟨16, _⟩ => ⟨S_, .f32⟩
  | .hbm, ⟨17, _⟩ => ⟨S1x1024x2184, .f32⟩
  | .hbm, ⟨18, _⟩ => ⟨S1x1024x2184, .f32⟩
  | .hbm, ⟨19, _⟩ => ⟨S1x1024x2184, .f32⟩
  | .hbm, ⟨20, _⟩ => ⟨S_, .f32⟩
  | .hbm, ⟨21, _⟩ => ⟨S1x1024x2184, .f32⟩
  | .hbm, ⟨22, _⟩ => ⟨S1x1024x2184, .f32⟩
  | .hbm, ⟨23, _⟩ => ⟨S_, .f32⟩
  | .hbm, ⟨24, _⟩ => ⟨S1x1024x2184, .f32⟩
  | .hbm, ⟨25, _⟩ => ⟨S1x1024x2184, .f32⟩
  | .hbm, ⟨26, _⟩ => ⟨S1x1024x2184, .f32⟩
  | .hbm, ⟨27, _⟩ => ⟨S_, .f32⟩
  | .hbm, ⟨28, _⟩ => ⟨S1x1024x2184, .f32⟩
  | .hbm, ⟨29, _⟩ => ⟨S1x1024x2184, .f32⟩
  | .hbm, ⟨30, _⟩ => ⟨S1x1024x2184, .f32⟩
  | .hbm, ⟨31, _⟩ => ⟨S_, .f32⟩
  | .hbm, ⟨32, _⟩ => ⟨S1x1024x2184, .f32⟩
  | .hbm, ⟨33, _⟩ => ⟨S1x1024x2184, .f32⟩
  | .hbm, ⟨34, _⟩ => ⟨S1x1024x2184, .f32⟩
  | .hbm, ⟨35, _⟩ => ⟨S_, .f32⟩
  | .hbm, ⟨36, _⟩ => ⟨S1x1024x2184, .f32⟩
  | .hbm, ⟨37, _⟩ => ⟨S1x1024x2184, .f32⟩
  | .hbm, ⟨38, _⟩ => ⟨S1024x2184, .f32⟩
  | .hbm, ⟨39, _⟩ => ⟨S1024x2184, .f32⟩
  | .hbm, ⟨40, _⟩ => ⟨S1024x2184, .f32⟩
  | _, _ => ⟨S1x1024x2184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OsoKernel.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OsoReferenceIdeal.lean ====
abbrev S1x512x1024 : Shape := ⟨3, ![1, 512, 1024]⟩
abbrev S512x1024 : Shape := ⟨2, ![512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S_, .f32⟩
  | .hbm, ⟨6, _⟩ => ⟨S1x512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S_, .f32⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S_, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S_, .f32⟩
  | .hbm, ⟨36, _⟩ => ⟨S1x512x1024, .f32⟩
  | .hbm, ⟨37, _⟩ => ⟨S1x512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OaoKernel.lean ====
abbrev S1x256x1024 : Shape := ⟨3, ![1, 256, 1024]⟩
abbrev S256x1024 : Shape := ⟨2, ![256, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OaoReferenceIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OupKernel.lean ====
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 12
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OupReferenceIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S_, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S_, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S_, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S1x1024x1408, .f32⟩
  | .hbm, ⟨35, _⟩ => ⟨S_, .f32⟩
  | .hbm, ⟨36, _⟩ => ⟨S1x1024x1408, .f32⟩
  | .hbm, ⟨37, _⟩ => ⟨S1x1024x1408, .f32⟩
  | .hbm, ⟨38, _⟩ => ⟨S1024x1408, .f32⟩
  | .hbm, ⟨39, _⟩ => ⟨S1024x1408, .f32⟩
  | .hbm, ⟨40, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OdnKernel.lean ====
abbrev S1x704x1024 : Shape := ⟨3, ![1, 704, 1024]⟩
abbrev S704x1024 : Shape := ⟨2, ![704, 1024]⟩
abbrev S352x1024 : Shape := ⟨2, ![352, 1024]⟩

abbrev nBuf : Space → Nat
  | .hbm => 12
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OdnReferenceIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S_, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | .hbm, ⟨38, _⟩ => ⟨S704x1024, .f32⟩
  | .hbm, ⟨39, _⟩ => ⟨S704x1024, .f32⟩
  | .hbm, ⟨40, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MergeKernel.lean ====
abbrev S8192x2048 : Shape := ⟨2, ![8192, 2048]⟩
abbrev S2048x1024 : Shape := ⟨2, ![2048, 1024]⟩
abbrev S8192x1024 : Shape := ⟨2, ![8192, 1024]⟩
abbrev S_ : Shape := ⟨0, ![]⟩
abbrev S8192x4096 : Shape := ⟨2, ![8192, 4096]⟩
abbrev S8192x3072 : Shape := ⟨2, ![8192, 3072]⟩
abbrev S8192x9216 : Shape := ⟨2, ![8192, 9216]⟩
abbrev S512x2048 : Shape := ⟨2, ![512, 2048]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S_, .f32⟩
  | .hbm, ⟨8, _⟩ => ⟨S8192x3072, .f32⟩
  | .hbm, ⟨9, _⟩ => ⟨S8192x9216, .f32⟩
  | .hbm, ⟨10, _⟩ => ⟨S8192x2048, .bf16⟩
  | .hbm, ⟨11, _⟩ => ⟨S2048x1024, .bf16⟩
  | .hbm, ⟨12, _⟩ => ⟨S8192x1024, .bf16⟩
  | .hbm, ⟨13, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MergeReferenceIdeal.lean ====
abbrev S8192x2048 : Shape := ⟨2, ![8192, 2048]⟩
abbrev S2048x1024 : Shape := ⟨2, ![2048, 1024]⟩
abbrev S8192x1024 : Shape := ⟨2, ![8192, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== DmergeKernel.lean ====
abbrev S8192x1024 : Shape := ⟨2, ![8192, 1024]⟩
abbrev S1024x1024 : Shape := ⟨2, ![1024, 1024]⟩
abbrev S_ : Shape := ⟨0, ![]⟩
abbrev S8192x4096 : Shape := ⟨2, ![8192, 4096]⟩
abbrev S8192x3072 : Shape := ⟨2, ![8192, 3072]⟩
abbrev S8192x9216 : Shape := ⟨2, ![8192, 9216]⟩
abbrev S512x1024 : Shape := ⟨2, ![512, 1024]⟩
abbrev S512x2048 : Shape := ⟨2, ![512, 2048]⟩
abbrev S8192x2048 : Shape := ⟨2, ![8192, 2048]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x4096, .f32⟩
  | .hbm, ⟨8, _⟩ => ⟨S_, .f32⟩
  | .hbm, ⟨9, _⟩ => ⟨S8192x3072, .f32⟩
  | .hbm, ⟨10, _⟩ => ⟨S8192x9216, .f32⟩
  | .hbm, ⟨11, _⟩ => ⟨S8192x1024, .bf16⟩
  | .hbm, ⟨12, _⟩ => ⟨S1024x1024, .f32⟩
  | .hbm, ⟨13, _⟩ => ⟨S1024x1024, .bf16⟩
  | .hbm, ⟨14, _⟩ => ⟨S8192x1024, .bf16⟩
  | .hbm, ⟨15, _⟩ => ⟨S8192x1024, .bf16⟩
  | .hbm, ⟨16, _⟩ => ⟨S8192x9216, .bf16⟩
  | .hbm, ⟨17, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== DmergeReferenceIdeal.lean ====
abbrev S8192x1024 : Shape := ⟨2, ![8192, 1024]⟩
abbrev S1024x1024 : Shape := ⟨2, ![1024, 1024]⟩
abbrev S_ : Shape := ⟨0, ![]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== FupKernel.lean ====
abbrev S8192x1024 : Shape := ⟨2, ![8192, 1024]⟩
abbrev S1x1024 : Shape := ⟨2, ![1, 1024]⟩
abbrev S1024x5632 : Shape := ⟨2, ![1024, 5632]⟩
abbrev S5632x1024 : Shape := ⟨2, ![5632, 1024]⟩
abbrev S4x1408x1024 : Shape := ⟨3, ![4, 1408, 1024]⟩
abbrev S4x1024x1408 : Shape := ⟨3, ![4, 1024, 1408]⟩
abbrev S8192x5632 : Shape := ⟨2, ![8192, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩
abbrev S1x1024x1408 : Shape := ⟨3, ![1, 1024, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S4x1408x1024, .bf16⟩
  | .hbm, ⟨6, _⟩ => ⟨S4x1024x1408, .bf16⟩
  | .hbm, ⟨7, _⟩ => ⟨S8192x5632, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v5 : Index := Scalar.indexCast arg1
  let c0_2 : Index := 0#32
  let c0_3 : Index := 0#32
  ![v5.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FupReferenceIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InpKernel.lean ====
abbrev S8192x1024 : Shape := ⟨2, ![8192, 1024]⟩
abbrev S1x1024 : Shape := ⟨2, ![1, 1024]⟩
abbrev S1024x8736 : Shape := ⟨2, ![1024, 8736]⟩
abbrev S8736x1024 : Shape := ⟨2, ![8736, 1024]⟩
abbrev S1024x1024 : Shape := ⟨2, ![1024, 1024]⟩
abbrev S256x1024 : Shape := ⟨2, ![256, 1024]⟩
abbrev S2048x1024 : Shape := ⟨2, ![2048, 1024]⟩
abbrev S32x1024 : Shape := ⟨2, ![32, 1024]⟩
abbrev S_ : Shape := ⟨0, ![]⟩
abbrev S480x1024 : Shape := ⟨2, ![480, 1024]⟩
abbrev S512x1024 : Shape := ⟨2, ![512, 1024]⟩
abbrev S128x1024 : Shape := ⟨2, ![128, 1024]⟩
abbrev S8320x1024 : Shape := ⟨2, ![8320, 1024]⟩
abbrev S896x1024 : Shape := ⟨2, ![896, 1024]⟩
abbrev S9216x1024 : Shape := ⟨2, ![9216, 1024]⟩
abbrev S9x1024x1024 : Shape := ⟨3, ![9, 1024, 1024]⟩
abbrev S8192x9216 : Shape := ⟨2, ![8192, 9216]⟩
abbrev S1024 : Shape := ⟨1, ![1024]⟩
abbrev S1024x1 : Shape := ⟨2, ![1024, 1]⟩
abbrev S1x1024x1024 : Shape := ⟨3, ![1, 1024, 1024]⟩
abbrev S8192x2048 : Shape := ⟨2, ![8192, 2048]⟩
abbrev S8192x512 : Shape := ⟨2, ![8192, 512]⟩
abbrev S8192x128 : Shape := ⟨2, ![8192, 128]⟩
abbrev S8192x32 : Shape := ⟨2, ![8192, 32]⟩
abbrev S8192x256 : Shape := ⟨2, ![8192, 256]⟩
abbrev S8192x6432 : Shape := ⟨2, ![8192, 6432]⟩
abbrev S8192x2304 : Shape := ⟨2, ![8192, 2304]⟩
abbrev S8192x8736 : Shape := ⟨2, ![8192, 8736]⟩

abbrev nBuf : Space → Nat
  | .hbm => 55
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8736x1024, .f32⟩
  | .hbm, ⟨4, _⟩ => ⟨S8736x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S2048x1024, .bf16⟩
  | .hbm, ⟨9, _⟩ => ⟨S32x1024, .bf16⟩
  | .hbm, ⟨10, _⟩ => ⟨S_, .bf16⟩
  | .hbm, ⟨11, _⟩ => ⟨S480x1024, .bf16⟩
  | .hbm, ⟨12, _⟩ => ⟨S1024x1024, .bf16⟩
  | .hbm, ⟨13, _⟩ => ⟨S1024x1024, .bf16⟩
  | .hbm, ⟨14, _⟩ => ⟨S512x1024, .bf16⟩
  | .hbm, ⟨15, _⟩ => ⟨S128x1024, .bf16⟩
  | .hbm, ⟨16, _⟩ => ⟨S128x1024, .bf16⟩
  | .hbm, ⟨17, _⟩ => ⟨S512x1024, .bf16⟩
  | .hbm, ⟨18, _⟩ => ⟨S128x1024, .bf16⟩
  | .hbm, ⟨19, _⟩ => ⟨S128x1024, .bf16⟩
  | .hbm, ⟨20, _⟩ => ⟨S512x1024, .bf16⟩
  | .hbm, ⟨21, _⟩ => ⟨S128x1024, .bf16⟩
  | .hbm, ⟨22, _⟩ => ⟨S128x1024, .bf16⟩
  | .hbm, ⟨23, _⟩ => ⟨S512x1024, .bf16⟩
  | .hbm, ⟨24, _⟩ => ⟨S128x1024, .bf16⟩
  | .hbm, ⟨25, _⟩ => ⟨S128x1024, .bf16⟩
  | .hbm, ⟨26, _⟩ => ⟨S8320x1024, .bf16⟩
  | .hbm, ⟨27, _⟩ => ⟨S896x1024, .bf16⟩
  | .hbm, ⟨28, _⟩ => ⟨S9216x1024, .bf16⟩
  | .hbm, ⟨29, _⟩ => ⟨S9x1024x1024, .bf16⟩
  | .hbm, ⟨30, _⟩ => ⟨S9x1024x1024, .bf16⟩
  | .hbm, ⟨31, _⟩ => ⟨S8192x9216, .f32⟩
  | .hbm, ⟨32, _⟩ => ⟨S8192x1024, .bf16⟩
  | .hbm, ⟨33, _⟩ => ⟨S8192x2048, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x32, .f32⟩
  | .hbm, ⟨47, _⟩ => ⟨S8192x1024, .f32⟩
  | .hbm, ⟨48, _⟩ => ⟨S8192x256, .f32⟩
  | .hbm, ⟨49, _⟩ => ⟨S8192x256, .f32⟩
  | .hbm, ⟨50, _⟩ => ⟨S8192x1024, .f32⟩
  | .hbm, ⟨51, _⟩ => ⟨S8192x1024, .f32⟩
  | .hbm, ⟨52, _⟩ => ⟨S8192x6432, .f32⟩
  | .hbm, ⟨53, _⟩ => ⟨S8192x2304, .f32⟩
  | .hbm, ⟨54, _⟩ => ⟨S8192x8736, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S9x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27_0 : Ref sig .tc := ⟨.hbm, 31, rfl⟩
abbrev main_v27_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def k0_off1 (i : grid0.Coords) : Fin 3 → Nat :=
  let arg1 : BitVec 32 := BitVec.ofNat 32 (i 1).val
  let v5 : Index := Scalar.indexCast arg1
  let c0_2 : Index := 0#32
  let c0_3 : Index := 0#32
  ![v5.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S9x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InpReferenceIdeal.lean ====
abbrev S8192x1024 : Shape := ⟨2, ![8192, 1024]⟩
abbrev S1x1024 : Shape := ⟨2, ![1, 1024]⟩
abbrev S1024x8736 : Shape := ⟨2, ![1024, 8736]⟩
abbrev S_ : Shape := ⟨0, ![]⟩
abbrev S8192 : Shape := ⟨1, ![8192]⟩
abbrev S8192x1 : Shape := ⟨2, ![8192, 1]⟩
abbrev S8192x8736 : Shape := ⟨2, ![8192, 8736]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x8736, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SmallKernel.lean ====
abbrev S1x1024 : Shape := ⟨2, ![1, 1024]⟩
abbrev S4x768 : Shape := ⟨2, ![4, 768]⟩
abbrev S1x3072 : Shape := ⟨2, ![1, 3072]⟩
abbrev S1x32 : Shape := ⟨2, ![1, 32]⟩
abbrev S1x2048 : Shape := ⟨2, ![1, 2048]⟩
abbrev S1x16 : Shape := ⟨2, ![1, 16]⟩
abbrev S3x1408 : Shape := ⟨2, ![3, 1408]⟩
abbrev S1x5632 : Shape := ⟨2, ![1, 5632]⟩
abbrev S1024 : Shape := ⟨1, ![1024]⟩
abbrev S3072 : Shape := ⟨1, ![3072]⟩
abbrev S32 : Shape := ⟨1, ![32]⟩
abbrev S2048 : Shape := ⟨1, ![2048]⟩
abbrev S16 : Shape := ⟨1, ![16]⟩
abbrev S4224 : Shape := ⟨1, ![4224]⟩
abbrev S5632 : Shape := ⟨1, ![5632]⟩
abbrev S22256 : Shape := ⟨1, ![22256]⟩
abbrev S_ : Shape := ⟨0, ![]⟩
abbrev S22528 : Shape := ⟨1, ![22528]⟩
abbrev S176x128 : Shape := ⟨2, ![176, 128]⟩

abbrev nBuf : Space → Nat
  | .hbm => 208
  | .vmem => 7
  | .smem => 0
  | _ => 0

abbrev hbmTy0_0 (i : Nat) : BufTy := match i % 128 with
  | 0 => ⟨S1x1024, .f32⟩
  | 1 => ⟨S4x768, .f32⟩
  | 2 => ⟨S1x3072, .f32⟩
  | 3 => ⟨S1x32, .f32⟩
  | 4 => ⟨S1x32, .f32⟩
  | 5 => ⟨S1x32, .f32⟩
  | 6 => ⟨S1x2048, .f32⟩
  | 7 => ⟨S1x16, .f32⟩
  | 8 => ⟨S1x1024, .f32⟩
  | 9 => ⟨S1x1024, .f32⟩
  | 10 => ⟨S3x1408, .f32⟩
  | 11 => ⟨S1x5632, .f32⟩
  | 12 => ⟨S1x1024, .f32⟩
  | 13 => ⟨S1x1024, .f32⟩
  | 14 => ⟨S4x768, .f32⟩
  | 15 => ⟨S1x3072, .f32⟩
  | 16 => ⟨S1x32, .f32⟩
  | 17 => ⟨S1x32, .f32⟩
  | 18 => ⟨S1x32, .f32⟩
  | 19 => ⟨S1x2048, .f32⟩
  | 20 => ⟨S1x16, .f32⟩
  | 21 => ⟨S1x1024, .f32⟩
  | 22 => ⟨S1x1024, .f32⟩
  | 23 => ⟨S3x1408, .f32⟩
  | 24 => ⟨S1x5632, .f32⟩
  | 25 => ⟨S1x1024, .f32⟩
  | 26 => ⟨S1x1024, .f32⟩
  | 27 => ⟨S4x768, .f32⟩
  | 28 => ⟨S1x3072, .f32⟩
  | 29 => ⟨S1x32, .f32⟩
  | 30 => ⟨S1x32, .f32⟩
  | 31 => ⟨S1x32, .f32⟩
  | 32 => ⟨S1x2048, .f32⟩
  | 33 => ⟨S1x16, .f32⟩
  | 34 => ⟨S1x1024, .f32⟩
  | 35 => ⟨S1x1024, .f32⟩
  | 36 => ⟨S3x1408, .f32⟩
  | 37 => ⟨S1x5632, .f32⟩
  | 38 => ⟨S1x1024, .f32⟩
  | 39 => ⟨S1x1024, .f32⟩
  | 40 => ⟨S4x768, .f32⟩
  | 41 => ⟨S1x3072, .f32⟩
  | 42 => ⟨S1x32, .f32⟩
  | 43 => ⟨S1x32, .f32⟩
  | 44 => ⟨S1x32, .f32⟩
  | 45 => ⟨S1x2048, .f32⟩
  | 46 => ⟨S1x16, .f32⟩
  | 47 => ⟨S1x1024, .f32⟩
  | 48 => ⟨S1x1024, .f32⟩
  | 49 => ⟨S3x1408, .f32⟩
  | 50 => ⟨S1x5632, .f32⟩
  | 51 => ⟨S1x1024, .f32⟩
  | 52 => ⟨S1024, .f32⟩
  | 53 => ⟨S3072, .f32⟩
  | 54 => ⟨S3072, .f32⟩
  | 55 => ⟨S32, .f32⟩
  | 56 => ⟨S32, .f32⟩
  | 57 => ⟨S32, .f32⟩
  | 58 => ⟨S2048, .f32⟩
  | 59 => ⟨S16, .f32⟩
  | 60 => ⟨S1024, .f32⟩
  | 61 => ⟨S1024, .f32⟩
  | 62 => ⟨S4224, .f32⟩
  | 63 => ⟨S5632, .f32⟩
  | 64 => ⟨S1024, .f32⟩
  | 65 => ⟨S22256, .f32⟩
  | 66 => ⟨S_, .i32⟩
  | 67 => ⟨S_, .f32⟩
  | 68 => ⟨S22528, .f32⟩
  | 69 => ⟨S176x128, .f32⟩
  | 70 => ⟨S1024, .f32⟩
  | 71 => ⟨S3072, .f32⟩
  | 72 => ⟨S3072, .f32⟩
  | 73 => ⟨S32, .f32⟩
  | 74 => ⟨S32, .f32⟩
  | 75 => ⟨S32, .f32⟩
  | 76 => ⟨S2048, .f32⟩
  | 77 => ⟨S16, .f32⟩
  | 78 => ⟨S1024, .f32⟩
  | 79 => ⟨S1024, .f32⟩
  | 80 => ⟨S4224, .f32⟩
  | 81 => ⟨S5632, .f32⟩
  | 82 => ⟨S1024, .f32⟩
  | 83 => ⟨S22256, .f32⟩
  | 84 => ⟨S_, .i32⟩
  | 85 => ⟨S_, .f32⟩
  | 86 => ⟨S22528, .f32⟩
  | 87 => ⟨S176x128, .f32⟩
  | 88 => ⟨S1024, .f32⟩
  | 89 => ⟨S3072, .f32⟩
  | 90 => ⟨S3072, .f32⟩
  | 91 => ⟨S32, .f32⟩
  | 92 => ⟨S32, .f32⟩
  | 93 => ⟨S32, .f32⟩
  | 94 => ⟨S2048, .f32⟩
  | 95 => ⟨S16, .f32⟩
  | 96 => ⟨S1024, .f32⟩
  | 97 => ⟨S1024, .f32⟩
  | 98 => ⟨S4224, .f32⟩
  | 99 => ⟨S5632, .f32⟩
  | 100 => ⟨S1024, .f32⟩
  | 101 => ⟨S22256, .f32⟩
  | 102 => ⟨S_, .i32⟩
  | 103 => ⟨S_, .f32⟩
  | 104 => ⟨S22528, .f32⟩
  | 105 => ⟨S176x128, .f32⟩
  | 106 => ⟨S1024, .f32⟩
  | 107 => ⟨S3072, .f32⟩
  | 108 => ⟨S3072, .f32⟩
  | 109 => ⟨S32, .f32⟩
  | 110 => ⟨S32, .f32⟩
  | 111 => ⟨S32, .f32⟩
  | 112 => ⟨S2048, .f32⟩
  | 113 => ⟨S16, .f32⟩
  | 114 => ⟨S1024, .f32⟩
  | 115 => ⟨S1024, .f32⟩
  | 116 => ⟨S4224, .f32⟩
  | 117 => ⟨S5632, .f32⟩
  | 118 => ⟨S1024, .f32⟩
  | 119 => ⟨S22256, .f32⟩
  | 120 => ⟨S_, .i32⟩
  | 121 => ⟨S_, .f32⟩
  | 122 => ⟨S22528, .f32⟩
  | 123 => ⟨S176x128, .f32⟩
  | 124 => ⟨S176x128, .f32⟩
  | 125 => ⟨S176x128, .f32⟩
  | 126 => ⟨S176x128, .f32⟩
  | 127 => ⟨S22528, .f32⟩
  | _ => ⟨S1x1024, .f32⟩

abbrev hbmTy0_1 (i : Nat) : BufTy := match i % 128 with
  | 0 => ⟨S1024, .f32⟩
  | 1 => ⟨S1x1024, .f32⟩
  | 2 => ⟨S3072, .f32⟩
  | 3 => ⟨S4x768, .f32⟩
  | 4 => ⟨S3072, .f32⟩
  | 5 => ⟨S1x3072, .f32⟩
  | 6 => ⟨S32, .f32⟩
  | 7 => ⟨S1x32, .f32⟩
  | 8 => ⟨S32, .f32⟩
  | 9 => ⟨S1x32, .f32⟩
  | 10 => ⟨S32, .f32⟩
  | 11 => ⟨S1x32, .f32⟩
  | 12 => ⟨S2048, .f32⟩
  | 13 => ⟨S1x2048, .f32⟩
  | 14 => ⟨S16, .f32⟩
  | 15 => ⟨S1x16, .f32⟩
  | 16 => ⟨S1024, .f32⟩
  | 17 => ⟨S1x1024, .f32⟩
  | 18 => ⟨S1024, .f32⟩
  | 19 => ⟨S1x1024, .f32⟩
  | 20 => ⟨S4224, .f32⟩
  | 21 => ⟨S3x1408, .f32⟩
  | 22 => ⟨S5632, .f32⟩
  | 23 => ⟨S1x5632, .f32⟩
  | 24 => ⟨S1024, .f32⟩
  | 25 => ⟨S1x1024, .f32⟩
  | 26 => ⟨S22528, .f32⟩
  | 27 => ⟨S1024, .f32⟩
  | 28 => ⟨S1x1024, .f32⟩
  | 29 => ⟨S3072, .f32⟩
  | 30 => ⟨S4x768, .f32⟩
  | 31 => ⟨S3072, .f32⟩
  | 32 => ⟨S1x3072, .f32⟩
  | 33 => ⟨S32, .f32⟩
  | 34 => ⟨S1x32, .f32⟩
  | 35 => ⟨S32, .f32⟩
  | 36 => ⟨S1x32, .f32⟩
  | 37 => ⟨S32, .f32⟩
  | 38 => ⟨S1x32, .f32⟩
  | 39 => ⟨S2048, .f32⟩
  | 40 => ⟨S1x2048, .f32⟩
  | 41 => ⟨S16, .f32⟩
  | 42 => ⟨S1x16, .f32⟩
  | 43 => ⟨S1024, .f32⟩
  | 44 => ⟨S1x1024, .f32⟩
  | 45 => ⟨S1024, .f32⟩
  | 46 => ⟨S1x1024, .f32⟩
  | 47 => ⟨S4224, .f32⟩
  | 48 => ⟨S3x1408, .f32⟩
  | 49 => ⟨S5632, .f32⟩
  | 50 => ⟨S1x5632, .f32⟩
  | 51 => ⟨S1024, .f32⟩
  | 52 => ⟨S1x1024, .f32⟩
  | 53 => ⟨S22528, .f32⟩
  | 54 => ⟨S1024, .f32⟩
  | 55 => ⟨S1x1024, .f32⟩
  | 56 => ⟨S3072, .f32⟩
  | 57 => ⟨S4x768, .f32⟩
  | 58 => ⟨S3072, .f32⟩
  | 59 => ⟨S1x3072, .f32⟩
  | 60 => ⟨S32, .f32⟩
  | 61 => ⟨S1x32, .f32⟩
  | 62 => ⟨S32, .f32⟩
  | 63 => ⟨S1x32, .f32⟩
  | 64 => ⟨S32, .f32⟩
  | 65 => ⟨S1x32, .f32⟩
  | 66 => ⟨S2048, .f32⟩
  | 67 => ⟨S1x2048, .f32⟩
  | 68 => ⟨S16, .f32⟩
  | 69 => ⟨S1x16, .f32⟩
  | 70 => ⟨S1024, .f32⟩
  | 71 => ⟨S1x1024, .f32⟩
  | 72 => ⟨S1024, .f32⟩
  | 73 => ⟨S1x1024, .f32⟩
  | 74 => ⟨S4224, .f32⟩
  | 75 => ⟨S3x1408, .f32⟩
  | 76 => ⟨S5632, .f32⟩
  | 77 => ⟨S1x5632, .f32⟩
  | 78 => ⟨S1024, .f32⟩
  | 79 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_call0_v0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_call1_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_1 : Ref sig .tc := ⟨.hbm, 102, rfl⟩
abbrev main_call2_v0 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_2 : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64_0 : Ref sig .tc := ⟨.hbm, 124, rfl⟩
abbrev main_v64_1 : Ref sig .tc := ⟨.hbm, 125, rfl⟩
abbrev main_v64_2 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SmallReferenceIdeal.lean ====
abbrev S1x1024 : Shape := ⟨2, ![1, 1024]⟩
abbrev S4x768 : Shape := ⟨2, ![4, 768]⟩
abbrev S1x3072 : Shape := ⟨2, ![1, 3072]⟩
abbrev S1x32 : Shape := ⟨2, ![1, 32]⟩
abbrev S1x2048 : Shape := ⟨2, ![1, 2048]⟩
abbrev S1x16 : Shape := ⟨2, ![1, 16]⟩
abbrev S3x1408 : Shape := ⟨2, ![3, 1408]⟩
abbrev S1x5632 : Shape := ⟨2, ![1, 5632]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S1x1024, .f32⟩
  | 1 => ⟨S4x768, .f32⟩
  | 2 => ⟨S1x3072, .f32⟩
  | 3 => ⟨S1x32, .f32⟩
  | 4 => ⟨S1x32, .f32⟩
  | 5 => ⟨S1x32, .f32⟩
  | 6 => ⟨S1x2048, .f32⟩
  | 7 => ⟨S1x16, .f32⟩
  | 8 => ⟨S1x1024, .f32⟩
  | 9 => ⟨S1x1024, .f32⟩
  | 10 => ⟨S3x1408, .f32⟩
  | 11 => ⟨S1x5632, .f32⟩
  | 12 => ⟨S1x1024, .f32⟩
  | 13 => ⟨S1x1024, .f32⟩
  | 14 => ⟨S4x768, .f32⟩
  | 15 => ⟨S1x3072, .f32⟩
  | 16 => ⟨S1x32, .f32⟩
  | 17 => ⟨S1x32, .f32⟩
  | 18 => ⟨S1x32, .f32⟩
  | 19 => ⟨S1x2048, .f32⟩
  | 20 => ⟨S1x16, .f32⟩
  | 21 => ⟨S1x1024, .f32⟩
  | 22 => ⟨S1x1024, .f32⟩
  | 23 => ⟨S3x1408, .f32⟩
  | 24 => ⟨S1x5632, .f32⟩
  | 25 => ⟨S1x1024, .f32⟩
  | 26 => ⟨S1x1024, .f32⟩
  | 27 => ⟨S4x768, .f32⟩
  | 28 => ⟨S1x3072, .f32⟩
  | 29 => ⟨S1x32, .f32⟩
  | 30 => ⟨S1x32, .f32⟩
  | 31 => ⟨S1x32, .f32⟩
  | 32 => ⟨S1x2048, .f32⟩
  | 33 => ⟨S1x16, .f32⟩
  | 34 => ⟨S1x1024, .f32⟩
  | 35 => ⟨S1x1024, .f32⟩
  | 36 => ⟨S3x1408, .f32⟩
  | 37 => ⟨S1x5632, .f32⟩
  | 38 => ⟨S1x1024, .f32⟩
  | 39 => ⟨S1x1024, .f32⟩
  | 40 => ⟨S4x768, .f32⟩
  | 41 => ⟨S1x3072, .f32⟩
  | 42 => ⟨S1x32, .f32⟩
  | 43 => ⟨S1x32, .f32⟩
  | 44 => ⟨S1x32, .f32⟩
  | 45 => ⟨S1x2048, .f32⟩
  | 46 => ⟨S1x16, .f32⟩
  | 47 => ⟨S1x1024, .f32⟩
  | 48 => ⟨S1x1024, .f32⟩
  | 49 => ⟨S3x1408, .f32⟩
  | 50 => ⟨S1x5632, .f32⟩
  | 51 => ⟨S1x1024, .f32⟩
  | 52 => ⟨S_, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S4x768, .f32⟩
  | 87 => ⟨S4x768, .f32⟩
  | 88 => ⟨S_, .f32⟩
  | 89 => ⟨S4x768, .f32⟩
  | 90 => ⟨S4x768, .f32⟩
  | 91 => ⟨S4x768, .f32⟩
  | 92 => ⟨S_, .f32⟩
  | 93 => ⟨S4x768, .f32⟩
  | 94 => ⟨S4x768, .f32⟩
  | 95 => ⟨S4x768, .f32⟩
  | 96 => ⟨S_, .f32⟩
  | 97 => ⟨S4x768, .f32⟩
  | 98 => ⟨S4x768, .f32⟩
  | 99 => ⟨S4x768, .f32⟩
  | 100 => ⟨S_, .f32⟩
  | 101 => ⟨S4x768, .f32⟩
  | 102 => ⟨S4x768, .f32⟩
  | 103 => ⟨S_, .f32⟩
  | 104 => ⟨S4x768, .f32⟩
  | 105 => ⟨S4x768, .f32⟩
  | 106 => ⟨S4x768, .f32⟩
  | 107 => ⟨S_, .f32⟩
  | 108 => ⟨S4x768, .f32⟩
  | 109 => ⟨S4x768, .f32⟩
  | 110 => ⟨S4x768, .f32⟩
  | 111 => ⟨S_, .f32⟩
  | 112 => ⟨S4x768, .f32⟩
  | 113 => ⟨S4x768, .f32⟩
  | 114 => ⟨S4x768, .f32⟩
  | 115 => ⟨S_, .f32⟩
  | 116 => ⟨S4x768, .f32⟩
  | 117 => ⟨S4x768, .f32⟩
  | 118 => ⟨S_, .f32⟩
  | 119 => ⟨S1x3072, .f32⟩
  | 120 => ⟨S1x3072, .f32⟩
  | 121 => ⟨S_, .f32⟩
  | 122 => ⟨S1x3072, .f32⟩
  | 123 => ⟨S1x3072, .f32⟩
  | 124 => ⟨S1x3072, .f32⟩
  | 125 => ⟨S_, .f32⟩
  | 126 => ⟨S1x3072, .f32⟩
  | 127 => ⟨S1x3072, .f32⟩
  | _ => ⟨S1x1024, .f32⟩

abbrev hbmTy0_1 (i : Nat) : BufTy := match i % 128 with
  | 0 => ⟨S1x3072, .f32⟩
  | 1 => ⟨S_, .f32⟩
  | 2 => ⟨S1x3072, .f32⟩
  | 3 => ⟨S1x3072, .f32⟩
  | 4 => ⟨S1x3072, .f32⟩
  | 5 => ⟨S_, .f32⟩
  | 6 => ⟨S1x3072, .f32⟩
  | 7 => ⟨S1x3072, .f32⟩
  | 8 => ⟨S_, .f32⟩
  | 9 => ⟨S1x3072, .f32⟩
  | 10 => ⟨S1x3072, .f32⟩
  | 11 => ⟨S1x3072, .f32⟩
  | 12 => ⟨S_, .f32⟩
  | 13 => ⟨S1x3072, .f32⟩
  | 14 => ⟨S1x3072, .f32⟩
  | 15 => ⟨S1x3072, .f32⟩
  | 16 => ⟨S_, .f32⟩
  | 17 => ⟨S1x3072, .f32⟩
  | 18 => ⟨S1x3072, .f32⟩
  | 19 => ⟨S1x3072, .f32⟩
  | 20 => ⟨S_, .f32⟩
  | 21 => ⟨S1x3072, .f32⟩
  | 22 => ⟨S1x3072, .f32⟩
  | 23 => ⟨S_, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S1x32, .f32⟩
  | 34 => ⟨S_, .f32⟩
  | 35 => ⟨S1x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S_, .f32⟩
  | 42 => ⟨S1x32, .f32⟩
  | 43 => ⟨S1x32, .f32⟩
  | 44 => ⟨S1x32, .f32⟩
  | 45 => ⟨S_, .f32⟩
  | 46 => ⟨S1x32, .f32⟩
  | 47 => ⟨S1x32, .f32⟩
  | 48 => ⟨S1x32, .f32⟩
  | 49 => ⟨S_, .f32⟩
  | 50 => ⟨S1x32, .f32⟩
  | 51 => ⟨S1x32, .f32⟩
  | 52 => ⟨S1x32, .f32⟩
  | 53 => ⟨S_, .f32⟩
  | 54 => ⟨S1x32, .f32⟩
  | 55 => ⟨S1x32, .f32⟩
  | 56 => ⟨S_, .f32⟩
  | 57 => ⟨S1x32, .f32⟩
  | 58 => ⟨S1x32, .f32⟩
  | 59 => ⟨S_, .f32⟩
  | 60 => ⟨S1x32, .f32⟩
  | 61 => ⟨S1x32, .f32⟩
  | 62 => ⟨S1x32, .f32⟩
  | 63 => ⟨S_, .f32⟩
  | 64 => ⟨S1x32, .f32⟩
  | 65 => ⟨S1x32, .f32⟩
  | 66 => ⟨S1x32, .f32⟩
  | 67 => ⟨S_, .f32⟩
  | 68 => ⟨S1x32, .f32⟩
  | 69 => ⟨S1x32, .f32⟩
  | 70 => ⟨S1x32, .f32⟩
  | 71 => ⟨S_, .f32⟩
  | 72 => ⟨S1x32, .f32⟩
  | 73 => ⟨S1x32, .f32⟩
  | 74 => ⟨S_, .f32⟩
  | 75 => ⟨S1x32, .f32⟩
  | 76 => ⟨S1x32, .f32⟩
  | 77 => ⟨S1x32, .f32⟩
  | 78 => ⟨S_, .f32⟩
  | 79 => ⟨S1x32, .f32⟩
  | 80 => ⟨S1x32, .f32⟩
  | 81 => ⟨S1x32, .f32⟩
  | 82 => ⟨S_, .f32⟩
  | 83 => ⟨S1x32, .f32⟩
  | 84 => ⟨S1x32, .f32⟩
  | 85 => ⟨S1x32, .f32⟩
  | 86 => ⟨S_, .f32⟩
  | 87 => ⟨S1x32, .f32⟩
  | 88 => ⟨S1x32, .f32⟩
  | 89 => ⟨S_, .f32⟩
  | 90 => ⟨S1x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S_, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x1024, .f32⟩

abbrev hbmTy0_2 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S1x2048, .f32⟩
  | 24 => ⟨S_, .f32⟩
  | 25 => ⟨S1x2048, .f32⟩
  | 26 => ⟨S1x2048, .f32⟩
  | 27 => ⟨S_, .f32⟩
  | 28 => ⟨S1x16, .f32⟩
  | 29 => ⟨S1x16, .f32⟩
  | 30 => ⟨S_, .f32⟩
  | 31 => ⟨S1x16, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S_, .f32⟩
  | 46 => ⟨S1x16, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S1x16, .f32⟩
  | 53 => ⟨S_, .f32⟩
  | 54 => ⟨S1x16, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S_, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S_, .f32⟩
  | 127 => ⟨S3x1408, .f32⟩
  | _ => ⟨S1x1024, .f32⟩

abbrev hbmTy0_3 (i : Nat) : BufTy := match i % 128 with
  | 0 => ⟨S3x1408, .f32⟩
  | 1 => ⟨S_, .f32⟩
  | 2 => ⟨S3x1408, .f32⟩
  | 3 => ⟨S3x1408, .f32⟩
  | 4 => ⟨S3x1408, .f32⟩
  | 5 => ⟨S_, .f32⟩
  | 6 => ⟨S3x1408, .f32⟩
  | 7 => ⟨S3x1408, .f32⟩
  | 8 => ⟨S3x1408, .f32⟩
  | 9 => ⟨S_, .f32⟩
  | 10 => ⟨S3x1408, .f32⟩
  | 11 => ⟨S3x1408, .f32⟩
  | 12 => ⟨S3x1408, .f32⟩
  | 13 => ⟨S_, .f32⟩
  | 14 => ⟨S3x1408, .f32⟩
  | 15 => ⟨S3x1408, .f32⟩
  | 16 => ⟨S_, .f32⟩
  | 17 => ⟨S3x1408, .f32⟩
  | 18 => ⟨S3x1408, .f32⟩
  | 19 => ⟨S3x1408, .f32⟩
  | 20 => ⟨S_, .f32⟩
  | 21 => ⟨S3x1408, .f32⟩
  | 22 => ⟨S3x1408, .f32⟩
  | 23 => ⟨S3x1408, .f32⟩
  | 24 => ⟨S_, .f32⟩
  | 25 => ⟨S3x1408, .f32⟩
  | 26 => ⟨S3x1408, .f32⟩
  | 27 => ⟨S3x1408, .f32⟩
  | 28 => ⟨S_, .f32⟩
  | 29 => ⟨S3x1408, .f32⟩
  | 30 => ⟨S3x1408, .f32⟩
  | 31 => ⟨S_, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S1x5632, .f32⟩
  | 46 => ⟨S_, .f32⟩
  | 47 => ⟨S1x5632, .f32⟩
  | 48 => ⟨S1x5632, .f32⟩
  | 49 => ⟨S_, .f32⟩
  | 50 => ⟨S1x5632, .f32⟩
  | 51 => ⟨S1x5632, .f32⟩
  | 52 => ⟨S1x5632, .f32⟩
  | 53 => ⟨S_, .f32⟩
  | 54 => ⟨S1x5632, .f32⟩
  | 55 => ⟨S1x5632, .f32⟩
  | 56 => ⟨S1x5632, .f32⟩
  | 57 => ⟨S_, .f32⟩
  | 58 => ⟨S1x5632, .f32⟩
  | 59 => ⟨S1x5632, .f32⟩
  | 60 => ⟨S1x5632, .f32⟩
  | 61 => ⟨S_, .f32⟩
  | 62 => ⟨S1x5632, .f32⟩
  | 63 => ⟨S1x5632, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== CgateKernel.lean ====
abbrev S8192x2816 : Shape := ⟨2, ![8192, 2816]⟩
abbrev S8192x5632 : Shape := ⟨2, ![8192, 5632]⟩
abbrev S3x2816 : Shape := ⟨2, ![3, 2816]⟩
abbrev S512x1408 : Shape := ⟨2, ![512, 1408]⟩
abbrev S16x1408 : Shape := ⟨2, ![16, 1408]⟩
abbrev S3x1408 : Shape := ⟨2, ![3, 1408]⟩
abbrev S8x1408 : Shape := ⟨2, ![8, 1408]⟩
abbrev S504x1408 : Shape := ⟨2, ![504, 1408]⟩
abbrev S1x1408 : Shape := ⟨2, ![1, 1408]⟩
abbrev S1408 : Shape := ⟨1, ![1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S3x2816, .f32⟩
  | .hbm, ⟨3, _⟩ => ⟨S8192x2816, .bf16⟩
  | .hbm, ⟨4, _⟩ => ⟨S8192x5632, .bf16⟩
  | .hbm, ⟨5, _⟩ => ⟨S3x2816, .f32⟩
  | .hbm, ⟨6, _⟩ => ⟨S8192x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .f32⟩
  | .local _ .vmem, ⟨5, _⟩ => ⟨S512x1408, .f32⟩
  | .local _ .vmem, ⟨6, _⟩ => ⟨S3x1408, .f32⟩
  | .local _ .vmem, ⟨7, _⟩ => ⟨S3x1408, .f32⟩
  | .local _ .vmem, ⟨8, _⟩ => ⟨S512x1408, .bf16⟩
  | .local _ .vmem, ⟨9, _⟩ => ⟨S512x1408, .bf16⟩
  | .local _ .vmem, ⟨10, _⟩ => ⟨S3x1408, .f32⟩
  | .local _ .vmem, ⟨11, _⟩ => ⟨S3x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_14 : BitVec 32 := 0#32
  let v54 : BitVec 1 := Scalar.cmpi .ne v53 c0_i32_14
  v54

def k0_cond2 (i : grid0.Coords) : BitVec 1 :=
  let arg1 : BitVec 32 := BitVec.ofNat 32 (i 1).val
  let c0_i32_15 : BitVec 32 := 0#32
  let v55 : BitVec 1 := Scalar.cmpi .sgt arg1 c0_i32_15
  let v56 : BitVec 32 := Scalar.extui v55
  let c0_i32_16 : BitVec 32 := 0#32
  let v57 : BitVec 1 := Scalar.cmpi .ne v56 c0_i32_16
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CgateReferenceIdeal.lean ====
abbrev S8192x2816 : Shape := ⟨2, ![8192, 2816]⟩
abbrev S8192x5632 : Shape := ⟨2, ![8192, 5632]⟩
abbrev S3x2816 : Shape := ⟨2, ![3, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S2816 : Shape := ⟨1, ![2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S3x2816, .f32⟩
  | .hbm, ⟨3, _⟩ => ⟨S8192x2816, .f32⟩
  | .hbm, ⟨4, _⟩ => ⟨S_, .f32⟩
  | .hbm, ⟨5, _⟩ => ⟨S2x2816, .f32⟩
  | .hbm, ⟨6, _⟩ => ⟨S8194x2816, .f32⟩
  | .hbm, ⟨7, _⟩ => ⟨S_, .f32⟩
  | .hbm, ⟨8, _⟩ => ⟨S2x2816, .f32⟩
  | .hbm, ⟨9, _⟩ => ⟨S1x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S1x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S2816, .f32⟩
  | .hbm, ⟨30, _⟩ => ⟨S1x2816, .f32⟩
  | .hbm, ⟨31, _⟩ => ⟨S_, .f32⟩
  | .hbm, ⟨32, _⟩ => ⟨S8194x2816, .f32⟩
  | .hbm, ⟨33, _⟩ => ⟨S_, .f32⟩
  | .hbm, ⟨34, _⟩ => ⟨S3x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S2816, .f32⟩
  | .hbm, ⟨40, _⟩ => ⟨S1x2816, .f32⟩
  | .hbm, ⟨41, _⟩ => ⟨S_, .f32⟩
  | .hbm, ⟨42, _⟩ => ⟨S8194x2816, .f32⟩
  | .hbm, ⟨43, _⟩ => ⟨S8194x2816, .f32⟩
  | .hbm, ⟨44, _⟩ => ⟨S_, .f32⟩
  | .hbm, ⟨45, _⟩ => ⟨S3x2816, .f32⟩
  | .hbm, ⟨46, _⟩ => ⟨S3x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S2816, .f32⟩
  | .hbm, ⟨52, _⟩ => ⟨S1x2816, .f32⟩
  | .hbm, ⟨53, _⟩ => ⟨S_, .f32⟩
  | .hbm, ⟨54, _⟩ => ⟨S8194x2816, .f32⟩
  | .hbm, ⟨55, _⟩ => ⟨S8194x2816, .f32⟩
  | .hbm, ⟨56, _⟩ => ⟨S_, .f32⟩
  | .hbm, ⟨57, _⟩ => ⟨S3x2816, .f32⟩
  | .hbm, ⟨58, _⟩ => ⟨S3x2816, .f32⟩
  | .hbm, ⟨59, _⟩ => ⟨S2x2816, .f32⟩
  | .hbm, ⟨60, _⟩ => ⟨S8192x2816, .f32⟩
  | .hbm, ⟨61, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== CvalKernel.lean ====
abbrev S8192x2816 : Shape := ⟨2, ![8192, 2816]⟩
abbrev S8192x5632 : Shape := ⟨2, ![8192, 5632]⟩
abbrev S3x2816 : Shape := ⟨2, ![3, 2816]⟩
abbrev S512x1408 : Shape := ⟨2, ![512, 1408]⟩
abbrev S16x1408 : Shape := ⟨2, ![16, 1408]⟩
abbrev S3x1408 : Shape := ⟨2, ![3, 1408]⟩
abbrev S8x1408 : Shape := ⟨2, ![8, 1408]⟩
abbrev S504x1408 : Shape := ⟨2, ![504, 1408]⟩
abbrev S1x1408 : Shape := ⟨2, ![1, 1408]⟩
abbrev S1408 : Shape := ⟨1, ![1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S3x2816, .f32⟩
  | .hbm, ⟨3, _⟩ => ⟨S8192x2816, .bf16⟩
  | .hbm, ⟨4, _⟩ => ⟨S8192x5632, .bf16⟩
  | .hbm, ⟨5, _⟩ => ⟨S3x2816, .f32⟩
  | .hbm, ⟨6, _⟩ => ⟨S8192x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .f32⟩
  | .local _ .vmem, ⟨5, _⟩ => ⟨S512x1408, .f32⟩
  | .local _ .vmem, ⟨6, _⟩ => ⟨S3x1408, .f32⟩
  | .local _ .vmem, ⟨7, _⟩ => ⟨S3x1408, .f32⟩
  | .local _ .vmem, ⟨8, _⟩ => ⟨S512x1408, .bf16⟩
  | .local _ .vmem, ⟨9, _⟩ => ⟨S512x1408, .bf16⟩
  | .local _ .vmem, ⟨10, _⟩ => ⟨S3x1408, .f32⟩
  | .local _ .vmem, ⟨11, _⟩ => ⟨S3x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_14 : BitVec 32 := 0#32
  let v54 : BitVec 1 := Scalar.cmpi .ne v53 c0_i32_14
  v54

def k0_cond2 (i : grid0.Coords) : BitVec 1 :=
  let arg1 : BitVec 32 := BitVec.ofNat 32 (i 1).val
  let c0_i32_15 : BitVec 32 := 0#32
  let v55 : BitVec 1 := Scalar.cmpi .sgt arg1 c0_i32_15
  let v56 : BitVec 32 := Scalar.extui v55
  let c0_i32_16 : BitVec 32 := 0#32
  let v57 : BitVec 1 := Scalar.cmpi .ne v56 c0_i32_16
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CvalReferenceIdeal.lean ====
abbrev S8192x2816 : Shape := ⟨2, ![8192, 2816]⟩
abbrev S8192x5632 : Shape := ⟨2, ![8192, 5632]⟩
abbrev S3x2816 : Shape := ⟨2, ![3, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S2816 : Shape := ⟨1, ![2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S3x2816, .f32⟩
  | .hbm, ⟨3, _⟩ => ⟨S8192x2816, .f32⟩
  | .hbm, ⟨4, _⟩ => ⟨S_, .f32⟩
  | .hbm, ⟨5, _⟩ => ⟨S2x2816, .f32⟩
  | .hbm, ⟨6, _⟩ => ⟨S8194x2816, .f32⟩
  | .hbm, ⟨7, _⟩ => ⟨S_, .f32⟩
  | .hbm, ⟨8, _⟩ => ⟨S2x2816, .f32⟩
  | .hbm, ⟨9, _⟩ => ⟨S1x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S1x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S2816, .f32⟩
  | .hbm, ⟨30, _⟩ => ⟨S1x2816, .f32⟩
  | .hbm, ⟨31, _⟩ => ⟨S_, .f32⟩
  | .hbm, ⟨32, _⟩ => ⟨S8194x2816, .f32⟩
  | .hbm, ⟨33, _⟩ => ⟨S_, .f32⟩
  | .hbm, ⟨34, _⟩ => ⟨S3x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S2816, .f32⟩
  | .hbm, ⟨40, _⟩ => ⟨S1x2816, .f32⟩
  | .hbm, ⟨41, _⟩ => ⟨S_, .f32⟩
  | .hbm, ⟨42, _⟩ => ⟨S8194x2816, .f32⟩
  | .hbm, ⟨43, _⟩ => ⟨S8194x2816, .f32⟩
  | .hbm, ⟨44, _⟩ => ⟨S_, .f32⟩
  | .hbm, ⟨45, _⟩ => ⟨S3x2816, .f32⟩
  | .hbm, ⟨46, _⟩ => ⟨S3x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S2816, .f32⟩
  | .hbm, ⟨52, _⟩ => ⟨S1x2816, .f32⟩
  | .hbm, ⟨53, _⟩ => ⟨S_, .f32⟩
  | .hbm, ⟨54, _⟩ => ⟨S8194x2816, .f32⟩
  | .hbm, ⟨55, _⟩ => ⟨S8194x2816, .f32⟩
  | .hbm, ⟨56, _⟩ => ⟨S_, .f32⟩
  | .hbm, ⟨57, _⟩ => ⟨S3x2816, .f32⟩
  | .hbm, ⟨58, _⟩ => ⟨S3x2816, .f32⟩
  | .hbm, ⟨59, _⟩ => ⟨S2x2816, .f32⟩
  | .hbm, ⟨60, _⟩ => ⟨S8192x2816, .f32⟩
  | .hbm, ⟨61, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== CssdKernel.lean ====
abbrev S8192x3072 : Shape := ⟨2, ![8192, 3072]⟩
abbrev S4x3072 : Shape := ⟨2, ![4, 3072]⟩
abbrev S_ : Shape := ⟨0, ![]⟩
abbrev S8192x6144 : Shape := ⟨2, ![8192, 6144]⟩
abbrev S8192x512 : Shape := ⟨2, ![8192, 512]⟩
abbrev S8192x128 : Shape := ⟨2, ![8192, 128]⟩
abbrev S8192x9216 : Shape := ⟨2, ![8192, 9216]⟩
abbrev S4x512 : Shape := ⟨2, ![4, 512]⟩
abbrev S4x128 : Shape := ⟨2, ![4, 128]⟩
abbrev S512x1536 : Shape := ⟨2, ![512, 1536]⟩
abbrev S16x1536 : Shape := ⟨2, ![16, 1536]⟩
abbrev S4x1536 : Shape := ⟨2, ![4, 1536]⟩
abbrev S8x1536 : Shape := ⟨2, ![8, 1536]⟩
abbrev S504x1536 : Shape := ⟨2, ![504, 1536]⟩
abbrev S1x1536 : Shape := ⟨2, ![1, 1536]⟩
abbrev S1536 : Shape := ⟨1, ![1536]⟩

abbrev nBuf : Space → Nat
  | .hbm => 75
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S4x3072, .f32⟩
  | .hbm, ⟨3, _⟩ => ⟨S_, .f32⟩
  | .hbm, ⟨4, _⟩ => ⟨S8192x6144, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x512, .f32⟩
  | .hbm, ⟨9, _⟩ => ⟨S8192x128, .f32⟩
  | .hbm, ⟨10, _⟩ => ⟨S8192x128, .f32⟩
  | .hbm, ⟨11, _⟩ => ⟨S8192x512, .f32⟩
  | .hbm, ⟨12, _⟩ => ⟨S8192x128, .f32⟩
  | .hbm, ⟨13, _⟩ => ⟨S8192x128, .f32⟩
  | .hbm, ⟨14, _⟩ => ⟨S8192x512, .f32⟩
  | .hbm, ⟨15, _⟩ => ⟨S8192x128, .f32⟩
  | .hbm, ⟨16, _⟩ => ⟨S8192x128, .f32⟩
  | .hbm, ⟨17, _⟩ => ⟨S8192x3072, .f32⟩
  | .hbm, ⟨18, _⟩ => ⟨S8192x9216, .f32⟩
  | .hbm, ⟨19, _⟩ => ⟨S8192x512, .f32⟩
  | .hbm, ⟨20, _⟩ => ⟨S8192x128, .f32⟩
  | .hbm, ⟨21, _⟩ => ⟨S8192x128, .f32⟩
  | .hbm, ⟨22, _⟩ => ⟨S8192x512, .f32⟩
  | .hbm, ⟨23, _⟩ => ⟨S8192x128, .f32⟩
  | .hbm, ⟨24, _⟩ => ⟨S8192x128, .f32⟩
  | .hbm, ⟨25, _⟩ => ⟨S8192x512, .f32⟩
  | .hbm, ⟨26, _⟩ => ⟨S8192x128, .f32⟩
  | .hbm, ⟨27, _⟩ => ⟨S8192x128, .f32⟩
  | .hbm, ⟨28, _⟩ => ⟨S8192x512, .f32⟩
  | .hbm, ⟨29, _⟩ => ⟨S8192x128, .f32⟩
  | .hbm, ⟨30, _⟩ => ⟨S8192x128, .f32⟩
  | .hbm, ⟨31, _⟩ => ⟨S8192x3072, .f32⟩
  | .hbm, ⟨32, _⟩ => ⟨S8192x3072, .bf16⟩
  | .hbm, ⟨33, _⟩ => ⟨S4x512, .f32⟩
  | .hbm, ⟨34, _⟩ => ⟨S4x128, .f32⟩
  | .hbm, ⟨35, _⟩ => ⟨S4x128, .f32⟩
  | .hbm, ⟨36, _⟩ => ⟨S4x512, .f32⟩
  | .hbm, ⟨37, _⟩ => ⟨S4x128, .f32⟩
  | .hbm, ⟨38, _⟩ => ⟨S4x128, .f32⟩
  | .hbm, ⟨39, _⟩ => ⟨S4x512, .f32⟩
  | .hbm, ⟨40, _⟩ => ⟨S4x128, .f32⟩
  | .hbm, ⟨41, _⟩ => ⟨S4x128, .f32⟩
  | .hbm, ⟨42, _⟩ => ⟨S4x512, .f32⟩
  | .hbm, ⟨43, _⟩ => ⟨S4x128, .f32⟩
  | .hbm, ⟨44, _⟩ => ⟨S4x128, .f32⟩
  | .hbm, ⟨45, _⟩ => ⟨S4x3072, .f32⟩
  | .hbm, ⟨46, _⟩ => ⟨S8192x9216, .bf16⟩
  | .hbm, ⟨47, _⟩ => ⟨S4x3072, .f32⟩
  | .hbm, ⟨48, _⟩ => ⟨S8192x3072, .bf16⟩
  | .hbm, ⟨49, _⟩ => ⟨S8192x512, .bf16⟩
  | .hbm, ⟨50, _⟩ => ⟨S8192x512, .bf16⟩
  | .hbm, ⟨51, _⟩ => ⟨S8192x512, .bf16⟩
  | .hbm, ⟨52, _⟩ => ⟨S8192x512, .bf16⟩
  | .hbm, ⟨53, _⟩ => ⟨S8192x128, .bf16⟩
  | .hbm, ⟨54, _⟩ => ⟨S8192x128, .bf16⟩
  | .hbm, ⟨55, _⟩ => ⟨S8192x128, .bf16⟩
  | .hbm, ⟨56, _⟩ => ⟨S8192x128, .bf16⟩
  | .hbm, ⟨57, _⟩ => ⟨S8192x128, .bf16⟩
  | .hbm, ⟨58, _⟩ => ⟨S8192x128, .bf16⟩
  | .hbm, ⟨59, _⟩ => ⟨S8192x128, .bf16⟩
  | .hbm, ⟨60, _⟩ => ⟨S8192x128, .bf16⟩
  | .hbm, ⟨61, _⟩ => ⟨S8192x3072, .bf16⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S4x512, .f32⟩
  | .hbm, ⟨66, _⟩ => ⟨S4x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S4x3072, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S512x1536, .f32⟩
  | .local _ .vmem, ⟨5, _⟩ => ⟨S512x1536, .f32⟩
  | .local _ .vmem, ⟨6, _⟩ => ⟨S4x1536, .f32⟩
  | .local _ .vmem, ⟨7, _⟩ => ⟨S4x1536, .f32⟩
  | .local _ .vmem, ⟨8, _⟩ => ⟨S512x1536, .bf16⟩
  | .local _ .vmem, ⟨9, _⟩ => ⟨S512x1536, .bf16⟩
  | .local _ .vmem, ⟨10, _⟩ => ⟨S4x1536, .f32⟩
  | .local _ .vmem, ⟨11, _⟩ => ⟨S4x1536, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42_0 : Ref sig .tc := ⟨.hbm, 46, rfl⟩
abbrev main_v42_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v70 : BitVec 1 := Scalar.cmpi .eq arg1 c0_i32
  let v71 : BitVec 32 := Scalar.extui v70
  let c0_i32_16 : BitVec 32 := 0#32
  let v72 : BitVec 1 := Scalar.cmpi .ne v71 c0_i32_16
  v72

def k0_cond2 (i : grid0.Coords) : BitVec 1 :=
  let arg1 : BitVec 32 := BitVec.ofNat 32 (i 1).val
  let c0_i32_17 : BitVec 32 := 0#32
  let v73 : BitVec 1 := Scalar.cmpi .sgt arg1 c0_i32_17
  let v74 : BitVec 32 := Scalar.extui v73
  let c0_i32_18 : BitVec 32 := 0#32
  let v75 : BitVec 1 := Scalar.cmpi .ne v74 c0_i32_18
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CssdReferenceIdeal.lean ====
abbrev S8192x3072 : Shape := ⟨2, ![8192, 3072]⟩
abbrev S4x3072 : Shape := ⟨2, ![4, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 78
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S4x3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S_, .f32⟩
  | .hbm, ⟨7, _⟩ => ⟨S3x3072, .f32⟩
  | .hbm, ⟨8, _⟩ => ⟨S1x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S3072, .f32⟩
  | .hbm, ⟨34, _⟩ => ⟨S1x3072, .f32⟩
  | .hbm, ⟨35, _⟩ => ⟨S_, .f32⟩
  | .hbm, ⟨36, _⟩ => ⟨S8195x3072, .f32⟩
  | .hbm, ⟨37, _⟩ => ⟨S_, .f32⟩
  | .hbm, ⟨38, _⟩ => ⟨S4x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S3072, .f32⟩
  | .hbm, ⟨44, _⟩ => ⟨S1x3072, .f32⟩
  | .hbm, ⟨45, _⟩ => ⟨S_, .f32⟩
  | .hbm, ⟨46, _⟩ => ⟨S8195x3072, .f32⟩
  | .hbm, ⟨47, _⟩ => ⟨S8195x3072, .f32⟩
  | .hbm, ⟨48, _⟩ => ⟨S_, .f32⟩
  | .hbm, ⟨49, _⟩ => ⟨S4x3072, .f32⟩
  | .hbm, ⟨50, _⟩ => ⟨S4x3072, .f32⟩
  | .hbm, ⟨51, _⟩ => ⟨S8192x3072, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S3072, .f32⟩
  | .hbm, ⟨56, _⟩ => ⟨S1x3072, .f32⟩
  | .hbm, ⟨57, _⟩ => ⟨S_, .f32⟩
  | .hbm, ⟨58, _⟩ => ⟨S8195x3072, .f32⟩
  | .hbm, ⟨59, _⟩ => ⟨S8195x3072, .f32⟩
  | .hbm, ⟨60, _⟩ => ⟨S_, .f32⟩
  | .hbm, ⟨61, _⟩ => ⟨S4x3072, .f32⟩
  | .hbm, ⟨62, _⟩ => ⟨S4x3072, .f32⟩
  | .hbm, ⟨63, _⟩ => ⟨S8192x3072, .f32⟩
  | .hbm, ⟨64, _⟩ => ⟨S8192x3072, .f32⟩
  | .hbm, ⟨65, _⟩ => ⟨S8192x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S8195x3072, .f32⟩
  | .hbm, ⟨71, _⟩ => ⟨S8195x3072, .f32⟩
  | .hbm, ⟨72, _⟩ => ⟨S_, .f32⟩
  | .hbm, ⟨73, _⟩ => ⟨S4x3072, .f32⟩
  | .hbm, ⟨74, _⟩ => ⟨S4x3072, .f32⟩
  | .hbm, ⟨75, _⟩ => ⟨S3x3072, .f32⟩
  | .hbm, ⟨76, _⟩ => ⟨S8192x3072, .f32⟩
  | .hbm, ⟨77, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== CsiluKernel.lean ====
abbrev S8192x3072 : Shape := ⟨2, ![8192, 3072]⟩
abbrev S8192x512 : Shape := ⟨2, ![8192, 512]⟩
abbrev S8192x128 : Shape := ⟨2, ![8192, 128]⟩
abbrev S1x3072 : Shape := ⟨2, ![1, 3072]⟩
abbrev S512x1536 : Shape := ⟨2, ![512, 1536]⟩
abbrev S1x1536 : Shape := ⟨2, ![1, 1536]⟩
abbrev S1536 : Shape := ⟨1, ![1536]⟩
abbrev S1x512 : Shape := ⟨2, ![1, 512]⟩
abbrev S1x128 : Shape := ⟨2, ![1, 128]⟩

abbrev nBuf : Space → Nat
  | .hbm => 57
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x512, .f32⟩
  | .hbm, ⟨9, _⟩ => ⟨S8192x128, .f32⟩
  | .hbm, ⟨10, _⟩ => ⟨S8192x128, .f32⟩
  | .hbm, ⟨11, _⟩ => ⟨S8192x512, .f32⟩
  | .hbm, ⟨12, _⟩ => ⟨S8192x128, .f32⟩
  | .hbm, ⟨13, _⟩ => ⟨S8192x128, .f32⟩
  | .hbm, ⟨14, _⟩ => ⟨S8192x3072, .f32⟩
  | .hbm, ⟨15, _⟩ => ⟨S8192x512, .f32⟩
  | .hbm, ⟨16, _⟩ => ⟨S8192x128, .f32⟩
  | .hbm, ⟨17, _⟩ => ⟨S8192x128, .f32⟩
  | .hbm, ⟨18, _⟩ => ⟨S8192x512, .f32⟩
  | .hbm, ⟨19, _⟩ => ⟨S8192x128, .f32⟩
  | .hbm, ⟨20, _⟩ => ⟨S8192x128, .f32⟩
  | .hbm, ⟨21, _⟩ => ⟨S8192x512, .f32⟩
  | .hbm, ⟨22, _⟩ => ⟨S8192x128, .f32⟩
  | .hbm, ⟨23, _⟩ => ⟨S8192x128, .f32⟩
  | .hbm, ⟨24, _⟩ => ⟨S8192x512, .f32⟩
  | .hbm, ⟨25, _⟩ => ⟨S8192x128, .f32⟩
  | .hbm, ⟨26, _⟩ => ⟨S8192x128, .f32⟩
  | .hbm, ⟨27, _⟩ => ⟨S8192x3072, .f32⟩
  | .hbm, ⟨28, _⟩ => ⟨S8192x3072, .bf16⟩
  | .hbm, ⟨29, _⟩ => ⟨S8192x3072, .bf16⟩
  | .hbm, ⟨30, _⟩ => ⟨S1x3072, .f32⟩
  | .hbm, ⟨31, _⟩ => ⟨S8192x512, .bf16⟩
  | .hbm, ⟨32, _⟩ => ⟨S8192x512, .bf16⟩
  | .hbm, ⟨33, _⟩ => ⟨S8192x512, .bf16⟩
  | .hbm, ⟨34, _⟩ => ⟨S8192x512, .bf16⟩
  | .hbm, ⟨35, _⟩ => ⟨S8192x128, .bf16⟩
  | .hbm, ⟨36, _⟩ => ⟨S8192x128, .bf16⟩
  | .hbm, ⟨37, _⟩ => ⟨S8192x128, .bf16⟩
  | .hbm, ⟨38, _⟩ => ⟨S8192x128, .bf16⟩
  | .hbm, ⟨39, _⟩ => ⟨S8192x128, .bf16⟩
  | .hbm, ⟨40, _⟩ => ⟨S8192x128, .bf16⟩
  | .hbm, ⟨41, _⟩ => ⟨S8192x128, .bf16⟩
  | .hbm, ⟨42, _⟩ => ⟨S8192x128, .bf16⟩
  | .hbm, ⟨43, _⟩ => ⟨S8192x3072, .bf16⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x3072, .f32⟩
  | .local _ .vmem, ⟨0, _⟩ => ⟨S512x1536, .f32⟩
  | .local _ .vmem, ⟨1, _⟩ => ⟨S512x1536, .f32⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1x1536, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27_0 : Ref sig .tc := ⟨.hbm, 29, rfl⟩
abbrev main_v27_1 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v24 : BitVec 32 := Scalar.extui v21
  let c0_i32_10 : BitVec 32 := 0#32
  let v25 : BitVec 1 := Scalar.cmpi .ne v24 c0_i32_10
  v25

def k0_cond2 (i : grid0.Coords) : BitVec 1 :=
  let arg1 : BitVec 32 := BitVec.ofNat 32 (i 1).val
  let c0_i32 : BitVec 32 := 0#32
  let v21 : BitVec 1 := Scalar.cmpi .eq arg1 c0_i32
  let v_true : BitVec 1 := 1#1
  let v26 : BitVec 1 := Scalar.xori v21 v_true
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== CsiluReferenceIdeal.lean ====
abbrev S8192x3072 : Shape := ⟨2, ![8192, 3072]⟩
abbrev S_ : Shape := ⟨0, ![]⟩
abbrev S1x3072 : Shape := ⟨2, ![1, 3072]⟩
abbrev S3072 : Shape := ⟨1, ![3072]⟩

abbrev nBuf : Space → Nat
  | .hbm => 27
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S_, .f32⟩
  | .hbm, ⟨3, _⟩ => ⟨S1x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S3072, .f32⟩
  | .hbm, ⟨25, _⟩ => ⟨S1x3072, .f32⟩
  | .hbm, ⟨26, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== FactKernel.lean ====
abbrev S8192x2816 : Shape := ⟨2, ![8192, 2816]⟩
abbrev S1x2816 : Shape := ⟨2, ![1, 2816]⟩
abbrev S512x1408 : Shape := ⟨2, ![512, 1408]⟩
abbrev S1x1408 : Shape := ⟨2, ![1, 1408]⟩
abbrev S1408 : Shape := ⟨1, ![1408]⟩

abbrev nBuf : Space → Nat
  | .hbm => 10
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S1x2816, .f32⟩
  | .hbm, ⟨9, _⟩ => ⟨S1x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v48 : BitVec 1 := Scalar.cmpi .eq arg1 c0_i32
  let v51 : BitVec 32 := Scalar.extui v48
  let c0_i32_20 : BitVec 32 := 0#32
  let v52 : BitVec 1 := Scalar.cmpi .ne v51 c0_i32_20
  v52

def k0_cond2 (i : grid0.Coords) : BitVec 1 :=
  let arg1 : BitVec 32 := BitVec.ofNat 32 (i 1).val
  let c0_i32 : BitVec 32 := 0#32
  let v48 : BitVec 1 := Scalar.cmpi .eq arg1 c0_i32
  let v_true : BitVec 1 := 1#1
  let v53 : BitVec 1 := Scalar.xori v48 v_true
  let v54 : BitVec 32 := Scalar.extui v53
  let c0_i32_21 : BitVec 32 := 0#32
  let v55 : BitVec 1 := Scalar.cmpi .ne v54 c0_i32_21
  v55

def k0_cond3 (i : grid0.Coords) : BitVec 1 :=
  let arg1 : BitVec 32 := BitVec.ofNat 32 (i 1).val
  let c0_i32_22 : BitVec 32 := 0#32
  let v56 : BitVec 1 := Scalar.cmpi .eq arg1 c0_i32_22
  let v59 : BitVec 32 := Scalar.extui v56
  let c0_i32_24 : BitVec 32 := 0#32
  let v60 : BitVec 1 := Scalar.cmpi .ne v59 c0_i32_24
  v60

def k0_cond4 (i : grid0.Coords) : BitVec 1 :=
  let arg1 : BitVec 32 := BitVec.ofNat 32 (i 1).val
  let c0_i32_22 : BitVec 32 := 0#32
  let v56 : BitVec 1 := Scalar.cmpi .eq arg1 c0_i32_22
  let true_25 : BitVec 1 := 1#1
  let v61 : BitVec 1 := Scalar.xori v56 true_25
  let v62 : BitVec 32 := Scalar.extui v61
  let c0_i32_26 : BitVec 32 := 0#32
  let v63 : BitVec 1 := Scalar.cmpi .ne v62 c0_i32_26
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FactKernelIdeal.lean ====
variable {F : FTy → Type} [FloatOps F] [Named F]
def κ : String → Option EReal := fun
  | "gelu_cube" => some ((8943 / 200000 : ℝ) : EReal)
  | "gelu_slope" => some ((26829 / 200000 : ℝ) : EReal)
  | _ => none
-- ==== FactReferenceIdeal.lean ====
abbrev S8192x2816 : Shape := ⟨2, ![8192, 2816]⟩
abbrev S_ : Shape := ⟨0, ![]⟩
abbrev S1x2816 : Shape := ⟨2, ![1, 2816]⟩
abbrev S2816 : Shape := ⟨1, ![2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S2816, .f32⟩
  | .hbm, ⟨44, _⟩ => ⟨S1x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S8192x2816, .bf16⟩
  | .hbm, ⟨63, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.RmsMath.lean ====
/- The mathematics of the normalisation's gradient over the extended reals: the form the kernels compute, with the row's
   mean taken of the product with the normalised row, and the form that comes out of differentiating the forward lines.
   They agree at every extended-real input. -/
module

public import Idealize.ShloMosaic.Lib.Pointwise
public import Idealize.ShloMosaic.PureOps.Ideal.Laws

@[expose] public section

noncomputable section

namespace Cert.Maths

open Idealize.ShloMosaic

/-- A square is not negative, the infinities' included. -/
theorem sq_nonneg (x : EReal) : 0 ≤ x * x := by
  induction x with
  | bot => simp
  | top => simp
  | coe r => rw [← EReal.coe_mul]; exact_mod_cast mul_self_nonneg r

/-- A product with a real number that is not negative distributes over a finite sum. -/
theorem sum_mul_coe {ι : Type} (s : Finset ι) (f : ι → EReal) (c : ℝ) (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- If a sum of squares is a real number, so is every term's root. -/
theorem coe_of_sum_sq {n : ℕ} (x : Fin n → EReal) (s : ℝ) (h : ∑ k, x k * x k = (s : EReal)) (j : Fin n) :
    ∃ r : ℝ, x j = r := by
  have hle : x j * x j ≤ ∑ k, x k * x k := Finset.single_le_sum (f := fun k => x k * x k) (fun k _ => sq_nonneg (x k)) (Finset.mem_univ j)
  rw [h] at hle
  generalize x j = y at hle
  induction y with
  | bot => exact absurd hle (by simp)
  | top => exact absurd hle (by simp)
  | coe r => exact ⟨r, rfl⟩

/-- Two equal real multiples of one extended real add up to the doubled multiple. -/
theorem coe_mul_add_self (c : ℝ) (t : EReal) : (c : EReal) * t + (c : EReal) * t = ((2 * c : ℝ) : EReal) * t := by
  induction t with
  | coe r => rw [← EReal.coe_mul, ← EReal.coe_mul, ← EReal.coe_add]; congr 1; ring
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The reciprocal root of a row's mean square plus a positive number. -/
def rms {n : ℕ} (N eps : ℝ) (x : Fin n → EReal) : EReal := Ideal.rsqrt (Ideal.div (∑ k, x k * x k) (N : EReal) + (eps : EReal))

/-- A row's mean square plus a positive number is positive: a real number, or the positive infinity. -/
theorem ms_cases {n : ℕ} (N eps : ℝ) (hN : 0 < N) (heps : 0 < eps) (x : Fin n → EReal) :
    Ideal.div (∑ k, x k * x k) (N : EReal) + (eps : EReal) = ⊤
      ∨ ∃ v : ℝ, 0 < v ∧ Ideal.div (∑ k, x k * x k) (N : EReal) + (eps : EReal) = v ∧ ∀ j, ∃ r : ℝ, x j = r := by
  have h0 : 0 ≤ ∑ k, x k * x k := Finset.sum_nonneg fun k _ => sq_nonneg (x k)
  rw [Ideal.div_coe hN.ne']
  have hj := fun s h => coe_of_sum_sq x s h
  generalize ∑ k, x k * x k = S at h0 hj ⊢
  induction S with
  | bot => exact absurd h0 (by simp)
  | top => left; rw [EReal.top_mul_coe_of_pos (by positivity)]; rfl
  | coe s =>
    right
    have hs : 0 ≤ s := by exact_mod_cast h0
    exact ⟨s * (1 / N) + eps, by positivity, by push_cast; rfl, hj s rfl⟩

/-- THE GRADIENT OF THE NORMALISATION at one element of a row: the kernels' form (the mean of the product with the
    normalised row, taken away before the row's reciprocal root multiplies) is the differentiated form (the product with the
    reciprocal root, and twice the term that the root's own derivative leaves). -/
theorem rms_grad {n : ℕ} (N eps : ℝ) (hN : 0 < N) (heps : 0 < eps) (x d : Fin n → EReal) (j : Fin n) :
    rms N eps x * (d j - x j * rms N eps x * Ideal.div (∑ k, d k * (x k * rms N eps x)) (N : EReal))
      = d j * rms N eps x
        + (x j * Ideal.div ((∑ k, x k * d k) * (((-1 / 2 : ℝ) : EReal)
            * Ideal.div (rms N eps x) (Ideal.div (∑ k, x k * x k) (N : EReal) + (eps : EReal)))) (N : EReal)
          + Ideal.div ((∑ k, x k * d k) * (((-1 / 2 : ℝ) : EReal)
            * Ideal.div (rms N eps x) (Ideal.div (∑ k, x k * x k) (N : EReal) + (eps : EReal)))) (N : EReal) * x j) := by
  unfold rms
  rcases ms_cases N eps hN heps x with h | ⟨v, hv, h, hx⟩
  · rw [h, Ideal.rsqrt_top]
    simp [Ideal.div, hN.ne']
  · rw [h, Ideal.rsqrt_coe, if_neg hv.not_gt, if_neg hv.ne']
    obtain ⟨ξ, hξ⟩ := hx j
    have hρ : 0 < (Real.sqrt v)⁻¹ := inv_pos.mpr (Real.sqrt_pos.mpr hv)
    have hρ2 : (Real.sqrt v)⁻¹ * (Real.sqrt v)⁻¹ = 1 / v := by
      rw [← mul_inv, Real.mul_self_sqrt hv.le, one_div]
    generalize (Real.sqrt v)⁻¹ = ρ at hρ hρ2
    have hsum : ∑ k, d k * (x k * (ρ : EReal)) = (∑ k, x k * d k) * (ρ : EReal) := by
      rw [← sum_mul_coe _ _ _ hρ.le]
      exact Finset.sum_congr rfl fun k _ => by rw [← mul_assoc, mul_comm (d k)]
    rw [hsum, hξ, Ideal.div_coe hN.ne', Ideal.div_coe hv.ne', Ideal.div_coe hN.ne']
    generalize ∑ k, x k * d k = T
    have hl : (ξ : EReal) * (ρ : EReal) * (T * (ρ : EReal) * ((1 / N : ℝ) : EReal)) = ((ξ * ρ * ρ * (1 / N) : ℝ) : EReal) * T := by
      push_cast; ac_rfl
    have hq : T * (((-1 / 2 : ℝ) : EReal) * ((ρ : EReal) * ((1 / v : ℝ) : EReal))) * ((1 / N : ℝ) : EReal)
        = ((-1 / 2 * (ρ * (1 / v)) * (1 / N) : ℝ) : EReal) * T := by
      push_cast; ac_rfl
    rw [hl, hq, sub_eq_add_neg, EReal.left_distrib_of_nonneg_of_ne_top (by exact_mod_cast hρ.le) (EReal.coe_ne_top ρ), mul_comm (ρ : EReal) (d j),
      mul_comm _ (ξ : EReal), ← mul_assoc (ξ : EReal), ← EReal.coe_mul, coe_mul_add_self, ← neg_mul, ← EReal.coe_neg, ← mul_assoc,
      ← EReal.coe_mul]
    congr 3
    rw [← hρ2]; ring

/-! ## The constants of the programs -/

/-- The normalisation's small constant, the rational number of its float word. -/
abbrev epsR : ℝ := 8796093 / 8796093022208

theorem epsR_pos : 0 < epsR := by norm_num

theorem ofBits_eps : Ideal.ofBits .f32 0x358637BD#32 = ((epsR : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

/-! ## Sums over tiles -/

/-- A sum over all rows, taken tile by tile. -/
theorem sum_tiles (T n : ℕ) (f : ℕ → EReal) :
    ∑ t ∈ Finset.range T, ∑ i : Fin n, f (n * t + i.val) = ∑ R : Fin (n * T), f R.val := by
  rw [Fin.sum_univ_eq_sum_range f]
  induction T with
  | zero => simp
  | succ T ih => rw [Finset.sum_range_succ, ih, Nat.mul_succ, Finset.sum_range_add, Fin.sum_univ_eq_sum_range (fun i => f (n * T + i))]

end Cert.Maths

end
-- ==== Proof.DuPay.lean ====
/- The input-projection gradient kernel's payloads, read at an element. -/
module

public import proofs.«01_k».proof.Proof.RmsMath
public import proofs.«01_k».proof.Proof.Gen.DuKernelIdeal.Skeleton

@[expose] public section

noncomputable section

namespace Cert.DuKernelIdeal.Pay

open Cert.DuKernelIdeal Cert.DuKernelIdeal.Gen Idealize.ShloMosaic Cert.Maths

/-- The product of a tile of the projection's cotangent with the transposed weights. -/
theorem pay2_apply (v0 : Vec Ideal S512x9216 .bf16) (v2 : Vec Ideal S9216x1024 .bf16) (i : Fin 512) (j : Fin 1024) :
    k0_pay2 (F := Ideal) v0 v2 (ix2 i j) = ∑ k : Fin 9216, v0 (ix2 i k) * v2 (ix2 k j) := by
  pointwise [k0_pay2]

theorem pay3_apply (x : Vec Ideal S512x1024 .f32) (i : Fin 512) :
    k0_pay3 (F := Ideal) x (ix2 i 0) = rms 1024 epsR (fun k => x (ix2 i k)) := by
  pointwise [k0_pay3, ofBits_eps, ofBits_1024]
  rfl

theorem pay4_apply (x : Vec Ideal S512x1024 .f32) (i : Fin 512) (j : Fin 1024) :
    k0_pay4 (F := Ideal) x (ix2 i j) = x (ix2 i j) * k0_pay3 (F := Ideal) x (ix2 i 0) := by
  pointwise [k0_pay4]

theorem pay5_apply (v0 : Vec Ideal S512x9216 .bf16) (v2 : Vec Ideal S9216x1024 .bf16) (x : Vec Ideal S512x1024 .f32) (j : Fin 1024) :
    k0_pay5 (F := Ideal) v0 v2 x (ix2 0 j) = ∑ i : Fin 512, k0_pay2 (F := Ideal) v0 v2 (ix2 i j) * k0_pay4 (F := Ideal) x (ix2 i j) := by
  pointwise [k0_pay5]

theorem pay6_apply (v0 : Vec Ideal S512x9216 .bf16) (v2 : Vec Ideal S9216x1024 .bf16) (x : Vec Ideal S512x1024 .f32)
    (w : Vec Ideal S1x1024 .f32) (dx : Vec Ideal S512x1024 .f32) (i : Fin 512) (j : Fin 1024) :
    k0_pay6 (F := Ideal) v0 v2 x w dx (ix2 i j)
      = dx (ix2 i j) + k0_pay3 (F := Ideal) x (ix2 i 0) * (k0_pay2 (F := Ideal) v0 v2 (ix2 i j) * w (ix2 0 j)
        - k0_pay4 (F := Ideal) x (ix2 i j) * Ideal.div (∑ k : Fin 1024, k0_pay2 (F := Ideal) v0 v2 (ix2 i k) * w (ix2 0 k)
            * k0_pay4 (F := Ideal) x (ix2 i k)) ((1024 : ℝ) : EReal)) := by
  pointwise [k0_pay6, ofBits_1024]

end Cert.DuKernelIdeal.Pay

end
-- ==== Proof.DuOut.lean ====
/- What one grid point of the input-projection gradient kernel leaves in its two output buffers. -/
module

public import proofs.«01_k».proof.Proof.DuPay
public import proofs.«01_k».proof.Proof.Gen.DuKernelIdeal.Value

@[expose] public section

noncomputable section

namespace Cert.DuKernelIdeal.Out

open Cert.DuKernelIdeal Cert.DuKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a0 : Memref sig .tc .vmem S512x9216 .bf16) (h0 : a0.IsWhole)
  (a1 : Memref sig .tc .vmem S9216x1024 .bf16) (h1 : a1.IsWhole) (a2 : Memref sig .tc .vmem S512x1024 .f32) (h2 : a2.IsWhole)
  (a3 : Memref sig .tc .vmem S1x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (x0 : Vec F S512x9216 .bf16) (x1 : Vec F S9216x1024 .bf16) (x2 : Vec F S512x1024 .f32) (x3 : Vec F S1x1024 .f32)
  (x4 : Vec F S512x1024 .f32) (prev : Vec F S1x1024 .f32)

/-- The first point's tile of the gradient of the input. -/
theorem out_A_5 (hA : cond0_0 i) (hA' : ¬cond0_1 i) :
    out0_A_5 c i a0 h0 a1 h1 a2 h2 a3 h3 a4 h4 a5 h5 a6 h6 hA hA' x0 x1 x2 x3 x4 = k0_pay6 x0 x1 x2 x3 x4 := by
  unfold out0_A_5
  rw [View.read_writes_eq_canon _ _ _ (fun _ => cover0_A_5 ..)]
  unfold kernelRun0_A
  dsimp only
  rw [View.canon_unit_zero hz]
  simp only [View.readAt_eq_ld, h0.read_unread, h1.read_unread, h2.read_unread, h3.read_unread, h4.read_unread,
    View.ld_unit_zero (S := S512x9216) hz, View.ld_unit_zero (S := S9216x1024) hz, View.ld_unit_zero (S := S512x1024) hz,
    View.ld_unit_zero (S := S1x1024) hz, shapeCast_self]

/-- The first point's row for the weight's gradient: its tile's sum. -/
theorem out_A_6 (hA : cond0_0 i) (hA' : ¬cond0_1 i) :
    out0_A_6 c i a0 h0 a1 h1 a2 h2 a3 h3 a4 h4 a5 h5 a6 h6 hA hA' x0 x1 x2 x3 x4 = k0_pay5 x0 x1 x2 := by
  unfold out0_A_6
  rw [View.read_writes_eq_canon _ _ _ (fun _ => cover0_A_6 ..)]
  unfold kernelRun0_A
  dsimp only
  sl_unfold_words
  rw [View.canon_unit_zero hz]
  simp only [View.readAt_eq_ld, h0.read_unread, h1.read_unread, h2.read_unread, h3.read_unread, h4.read_unread,
    View.ld_unit_zero (S := S512x9216) hz, View.ld_unit_zero (S := S9216x1024) hz, View.ld_unit_zero (S := S512x1024) hz,
    View.ld_unit_zero (S := S1x1024) hz, shapeCast_self]

/-- A later point's tile of the gradient of the input. -/
theorem out_B_5 (hA : ¬cond0_0 i) (hA' : cond0_1 i) :
    out0_B_5 c i a0 h0 a1 h1 a2 h2 a3 h3 a4 h4 a5 h5 a6 h6 hA hA' x0 x1 x2 x3 x4 prev = k0_pay6 x0 x1 x2 x3 x4 := by
  unfold out0_B_5
  rw [View.read_writes_eq_canon _ _ _ (fun _ => cover0_B_5 ..)]
  unfold kernelRun0_B
  dsimp only
  rw [View.canon_unit_zero hz]
  simp only [View.readAt_eq_ld, h0.read_unread, h1.read_unread, h2.read_unread, h3.read_unread, h4.read_unread,
    View.ld_unit_zero (S := S512x9216) hz, View.ld_unit_zero (S := S9216x1024) hz, View.ld_unit_zero (S := S512x1024) hz,
    View.ld_unit_zero (S := S1x1024) hz, shapeCast_self]

/-- A later point's row for the weight's gradient: what the points before left, and its tile's sum. -/
theorem out_B_6 (hA : ¬cond0_0 i) (hA' : cond0_1 i) :
    out0_B_6 c i a0 h0 a1 h1 a2 h2 a3 h3 a4 h4 a5 h5 a6 h6 hA hA' x0 x1 x2 x3 x4 prev = k0_pay1 (k0_pay5 x0 x1 x2) prev := by
  unfold out0_B_6
  rw [View.read_writes_eq_canon _ _ _ (fun _ => cover0_B_6 ..)]
  unfold kernelRun0_B
  dsimp only
  sl_unfold_words
  rw [View.canon_unit_zero hz]
  simp only [View.readAt_eq_ld, h0.read_unread, h1.read_unread, h2.read_unread, h3.read_unread, h4.read_unread, h6.read_unread,
    View.ld_unit_zero (S := S512x9216) hz, View.ld_unit_zero (S := S9216x1024) hz, View.ld_unit_zero (S := S512x1024) hz,
    View.ld_unit_zero (S := S1x1024) hz, shapeCast_self]

end

variable (m : (ℓ : Loc nD τ sig) → Buf (Elt F) ℓ) (c : Dev nD)

/-- After every point the first output's buffer holds the point's own tile. -/
theorem outs_fst (t : Fin cfg0.N) : (outsAt0 m c t.val t.isLt).1
    = k0_pay6 (iblk m c 0 t) (iblk m c 1 t) (iblk m c 2 t) (iblk m c 3 t) (iblk m c 4 t) := by
  have hN : t.val < 16 := t.isLt
  by_cases h : t.val % 16 = 0
  · rw [outsAt0_A m c t h (by omega)]; dsimp only; rw [out_A_5]
  · rw [outsAt0_B m c t h (by omega)]; dsimp only; rw [out_B_5]

/-- After the first point the second output's buffer holds that point's row, -/
theorem outs_snd_zero (h : 0 < cfg0.N) : (outsAt0 m c 0 h).2 = k0_pay5 (iblk m c 0 ⟨0, h⟩) (iblk m c 1 ⟨0, h⟩) (iblk m c 2 ⟨0, h⟩) := by
  rw [outsAt0_A m c ⟨0, h⟩ (Nat.zero_mod _) (Nat.not_succ_le_zero 0)]; dsimp only; rw [out_A_6]

/-- and after each later one that point's row added to what was there. -/
theorem outs_snd_succ (n : ℕ) (h : n + 1 < cfg0.N) : (outsAt0 m c (n + 1) h).2
    = k0_pay1 (k0_pay5 (iblk m c 0 ⟨n + 1, h⟩) (iblk m c 1 ⟨n + 1, h⟩) (iblk m c 2 ⟨n + 1, h⟩)) (outsAt0 m c n (Nat.lt_of_succ_lt h)).2 := by
  have hN : n + 1 < 16 := h
  rw [outsAt0_B m c ⟨n + 1, h⟩ (by dsimp only; omega) (by dsimp only; omega)]; dsimp only; rw [out_B_6]; rfl

end Cert.DuKernelIdeal.Out

end
-- ==== Proof.ProjLayout.lean ====
/- The kernels' layout of the input projection's columns: the eight parts of the projection in another order, the
   convolution's channels grouped by state group, and a gap of zeros. A sum over the laid-out columns is the sum over the
   projection's own columns. -/
module

public import Idealize.ShloMosaic.Lib.Pointwise

@[expose] public section

noncomputable section

namespace Cert.Maths

open Idealize.ShloMosaic

/-- A concatenation along the second axis of matrices, read inside its piece `k`. -/
theorem cat_axis1 {α : Type} {m n n₁ : ℕ} (xs : List ((s : Shape) × (s.Idx → α)))
    (h : Shape.Concatenates (xs.map (·.1)) ⟨2, ![m, n]⟩ 1) (k : ℕ) (hk : k < xs.length)
    (x₁ : (⟨2, ![m, n₁]⟩ : Shape).Idx → α) (hxk : xs[k] = ⟨_, x₁⟩) (pre : ℕ)
    (hpre : (((xs.take k).map (·.1)).map fun s => if h : s.rank = (⟨2, ![m, n]⟩ : Shape).rank then
      s.size ((1 : Fin (⟨2, ![m, n]⟩ : Shape).rank).cast h.symm) else 0).sum = pre)
    (R : Fin m) (c : Fin n) (j : Fin n₁) (hj : pre + j.val = c.val) :
    concatenate ⟨2, ![m, n]⟩ 1 xs h (ix2 R c) = x₁ (ix2 R j) :=
  concatenate_apply_piece 1 xs h (ix2 R c) k hk _ x₁ hxk rfl pre hpre (ix2 R j)
    (fun b hb => match b with
      | ⟨0, _⟩ => rfl
      | ⟨1, _⟩ => absurd rfl hb) hj

/-- A concatenation along the first axis of matrices, read inside its piece `k`. -/
theorem cat_axis0 {α : Type} {m n m₁ : ℕ} (xs : List ((s : Shape) × (s.Idx → α)))
    (h : Shape.Concatenates (xs.map (·.1)) ⟨2, ![m, n]⟩ 0) (k : ℕ) (hk : k < xs.length)
    (x₁ : (⟨2, ![m₁, n]⟩ : Shape).Idx → α) (hxk : xs[k] = ⟨_, x₁⟩) (pre : ℕ)
    (hpre : (((xs.take k).map (·.1)).map fun s => if h : s.rank = (⟨2, ![m, n]⟩ : Shape).rank then
      s.size ((0 : Fin (⟨2, ![m, n]⟩ : Shape).rank).cast h.symm) else 0).sum = pre)
    (r : Fin m) (C : Fin n) (j : Fin m₁) (hj : pre + j.val = r.val) :
    concatenate ⟨2, ![m, n]⟩ 0 xs h (ix2 r C) = x₁ (ix2 j C) :=
  concatenate_apply_piece 0 xs h (ix2 r C) k hk _ x₁ hxk rfl pre hpre (ix2 j C)
    (fun b hb => match b with
      | ⟨0, _⟩ => absurd rfl hb
      | ⟨1, _⟩ => rfl) hj

/-- `D` holds, in the kernels' layout, what `C` holds in the projection's own order: the parts z, x/B/C of the
    convolution, dt, q, k, v and the two gates, and zeros in the gap after dt. -/
structure ProjLayout (D C : ℕ → EReal) : Prop where
  q : ∀ k < 1024, D (0 + k) = C (5152 + k)
  k : ∀ k < 256, D (1024 + k) = C (6176 + k)
  v : ∀ k < 256, D (1280 + k) = C (6432 + k)
  z : ∀ k < 2048, D (1536 + k) = C (0 + k)
  dt : ∀ k < 32, D (3584 + k) = C (5120 + k)
  gap : ∀ k < 480, D (3616 + k) = 0
  gs : ∀ k < 1024, D (4096 + k) = C (6688 + k)
  ga : ∀ k < 1024, D (5120 + k) = C (7712 + k)
  xs : ∀ g < 4, ∀ k < 512, D (6144 + 768 * g + k) = C (2048 + 512 * g + k)
  b : ∀ g < 4, ∀ k < 128, D (6656 + 768 * g + k) = C (4096 + 128 * g + k)
  c : ∀ g < 4, ∀ k < 128, D (6784 + 768 * g + k) = C (4608 + 128 * g + k)

/-- Two sums over a stretch agree when the terms do. -/
theorem sum_seg (n a b : ℕ) (f g : ℕ → EReal) (h : ∀ k < n, f (a + k) = g (b + k)) :
    ∑ k ∈ Finset.range n, f (a + k) = ∑ k ∈ Finset.range n, g (b + k) :=
  Finset.sum_congr rfl fun k hk => h k (Finset.mem_range.mp hk)

/-- A sum over all laid-out columns is the sum over the projection's own columns. -/
theorem ProjLayout.sum_eq {D C : ℕ → EReal} (h : ProjLayout D C) :
    ∑ k ∈ Finset.range 9216, D k = ∑ k ∈ Finset.range 8736, C k := by
  rw [show (9216 : ℕ) = 0 + 1024 + 256 + 256 + 2048 + 32 + 480 + 1024 + 1024 + 512 + 128 + 128 + 512 + 128 + 128 + 512 + 128 + 128
      + 512 + 128 + 128 from rfl,
    show (8736 : ℕ) = 0 + 2048 + 512 + 512 + 512 + 512 + 128 + 128 + 128 + 128 + 128 + 128 + 128 + 128 + 32 + 1024 + 256 + 256 + 1024
      + 1024 from rfl]
  simp only [Finset.sum_range_add, -Nat.reduceAdd, Finset.range_zero, Finset.sum_empty]
  simp only [Nat.reduceAdd]
  rw [sum_seg 1024 0 5152 D C h.q, sum_seg 256 1024 6176 D C h.k, sum_seg 256 1280 6432 D C h.v, sum_seg 2048 1536 0 D C h.z,
    sum_seg 32 3584 5120 D C h.dt, sum_seg 1024 4096 6688 D C h.gs, sum_seg 1024 5120 7712 D C h.ga,
    sum_seg 480 3616 0 D (fun _ => 0) h.gap,
    sum_seg 512 6144 2048 D C (h.xs 0 (by decide)), sum_seg 128 6656 4096 D C (h.b 0 (by decide)), sum_seg 128 6784 4608 D C (h.c 0 (by decide)),
    sum_seg 512 6912 2560 D C (h.xs 1 (by decide)), sum_seg 128 7424 4224 D C (h.b 1 (by decide)), sum_seg 128 7552 4736 D C (h.c 1 (by decide)),
    sum_seg 512 7680 3072 D C (h.xs 2 (by decide)), sum_seg 128 8192 4352 D C (h.b 2 (by decide)), sum_seg 128 8320 4864 D C (h.c 2 (by decide)),
    sum_seg 512 8448 3584 D C (h.xs 3 (by decide)), sum_seg 128 8960 4480 D C (h.b 3 (by decide)), sum_seg 128 9088 4992 D C (h.c 3 (by decide))]
  simp only [Finset.sum_const_zero]
  abel

/-- Products of two laid-out rows are laid out. -/
theorem ProjLayout.mul {D C D' C' : ℕ → EReal} (h : ProjLayout D C) (h' : ProjLayout D' C') :
    ProjLayout (fun k => D k * D' k) (fun k => C k * C' k) where
  q k hk := by rw [h.q k hk, h'.q k hk]
  k k hk := by rw [h.k k hk, h'.k k hk]
  v k hk := by rw [h.v k hk, h'.v k hk]
  z k hk := by rw [h.z k hk, h'.z k hk]
  dt k hk := by rw [h.dt k hk, h'.dt k hk]
  gap k hk := by rw [h.gap k hk, zero_mul]
  gs k hk := by rw [h.gs k hk, h'.gs k hk]
  ga k hk := by rw [h.ga k hk, h'.ga k hk]
  xs g hg k hk := by rw [h.xs g hg k hk, h'.xs g hg k hk]
  b g hg k hk := by rw [h.b g hg k hk, h'.b g hg k hk]
  c g hg k hk := by rw [h.c g hg k hk, h'.c g hg k hk]

/-- A finite family as a function of every natural number, zero past its end. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

theorem sum_ext {n : ℕ} (f : Fin n → EReal) : ∑ k ∈ Finset.range n, ext f k = ∑ k, f k := by
  rw [← Fin.sum_univ_eq_sum_range (ext f)]
  exact Finset.sum_congr rfl fun k _ => ext_of_lt f k.val k.isLt

/-- The sum of products of two laid-out rows is the sum of products of the rows they lay out. -/
theorem ProjLayout.dot {D D' : Fin 9216 → EReal} {C C' : Fin 8736 → EReal} (h : ProjLayout (ext D) (ext C)) (h' : ProjLayout (ext D') (ext C')) :
    ∑ k, D k * D' k = ∑ k, C k * C' k := by
  have e := (h.mul h').sum_eq
  rw [← Fin.sum_univ_eq_sum_range (fun k => ext D k * ext D' k), ← Fin.sum_univ_eq_sum_range (fun k => ext C k * ext C' k)] at e
  simpa only [ext_of_lt _ _ (Fin.isLt _)] using e

end Cert.Maths

end
-- ==== Proof.DuHost.lean ====
/- What the host prepares for the input-projection gradient kernel: the cotangents' columns and the transposed weights' rows
   in the kernels' layout. -/
module

public import proofs.«01_k».proof.Proof.ProjLayout
public import proofs.«01_k».proof.Proof.Gen.DuKernelIdeal.Frame.Runs
public import proofs.«01_k».proof.Proof.Gen.DuReferenceIdeal.Read

@[expose] public section

noncomputable section

namespace Cert.DuKernelIdeal.Host

open Cert.DuKernelIdeal Cert.DuKernelIdeal.Gen Idealize.ShloMosaic Idealize.ShloMosaic.TcCoe Idealize.ShloMosaic.StableHlo Idealize.SL.Sem Cert.Maths

/-- The convolution's channels grouped by state group: x, B and C of one group side by side. -/
def grouped (x5 : FVec Ideal S8192x3072 .f32) : FVec Ideal S8192x3072 .f32 :=
  (concatenate S8192x3072 1 [⟨S8192x512, extractStridedSlice S8192x512 ![0, 0] x5 slices_S8192x3072_S8192x512_0_0⟩,
    ⟨S8192x128, extractStridedSlice S8192x128 ![0, 2048] x5 slices_S8192x3072_S8192x128_0_2048⟩,
    ⟨S8192x128, extractStridedSlice S8192x128 ![0, 2560] x5 slices_S8192x3072_S8192x128_0_2560⟩,
    ⟨S8192x512, extractStridedSlice S8192x512 ![0, 512] x5 slices_S8192x3072_S8192x512_0_512⟩,
    ⟨S8192x128, extractStridedSlice S8192x128 ![0, 2176] x5 slices_S8192x3072_S8192x128_0_2176⟩,
    ⟨S8192x128, extractStridedSlice S8192x128 ![0, 2688] x5 slices_S8192x3072_S8192x128_0_2688⟩,
    ⟨S8192x512, extractStridedSlice S8192x512 ![0, 1024] x5 slices_S8192x3072_S8192x512_0_1024⟩,
    ⟨S8192x128, extractStridedSlice S8192x128 ![0, 2304] x5 slices_S8192x3072_S8192x128_0_2304⟩,
    ⟨S8192x128, extractStridedSlice S8192x128 ![0, 2816] x5 slices_S8192x3072_S8192x128_0_2816⟩,
    ⟨S8192x512, extractStridedSlice S8192x512 ![0, 1536] x5 slices_S8192x3072_S8192x512_0_1536⟩,
    ⟨S8192x128, extractStridedSlice S8192x128 ![0, 2432] x5 slices_S8192x3072_S8192x128_0_2432⟩,
    ⟨S8192x128, extractStridedSlice S8192x128 ![0, 2944] x5 slices_S8192x3072_S8192x128_0_2944⟩]
    concatenates_S8192x512_S8192x128_S8192x128_S8192x512_S8192x128_S8192x128_S8192x512_S8192x128_S8192x128_S8192x512_S8192x128_S8192x128_S8192x3072_d1)

/-- The cotangents of the projection's parts, in the kernels' layout. -/
def dProj (x4 : FVec Ideal S8192x2048 .f32) (x5 : FVec Ideal S8192x3072 .f32) (x6 : FVec Ideal S8192x32 .f32)
    (x7 : FVec Ideal S8192x1024 .f32) (x8 x9 : FVec Ideal S8192x256 .f32) (x10 x11 : FVec Ideal S8192x1024 .f32) :
    FVec Ideal S8192x9216 .f32 :=
  (concatenate S8192x9216 1 [⟨S8192x1024, x7⟩,
    ⟨S8192x256, x8⟩,
    ⟨S8192x256, x9⟩,
    ⟨S8192x2048, x4⟩,
    ⟨S8192x32, x6⟩,
    ⟨S8192x480, broadcastInDim S8192x480 ![] bcast_S_S8192x480 (constant S_ .f32 0x00000000#32)⟩,
    ⟨S8192x1024, x10⟩,
    ⟨S8192x1024, x11⟩,
    ⟨S8192x3072, grouped x5⟩]
    concatenates_S8192x1024_S8192x256_S8192x256_S8192x2048_S8192x32_S8192x480_S8192x1024_S8192x1024_S8192x3072_S8192x9216_d1)

/-- The weights transposed. -/
def weightsT (x2 : FVec Ideal S1024x8736 .f32) : FVec Ideal S8736x1024 .bf16 :=
  truncf .bf16 (transpose S8736x1024 [1, 0] x2 transposes_S1024x8736_S8736x1024_1_0) bitsLt_bf16_f32

/-- The transposed weights' rows in the kernels' layout: the first sixteen pieces, -/
def wHead (x2 : FVec Ideal S1024x8736 .f32) : FVec Ideal S8320x1024 .bf16 :=
  (concatenate S8320x1024 0 [⟨S1024x1024, extractStridedSlice S1024x1024 ![5152, 0] (weightsT x2) slices_S8736x1024_S1024x1024_5152_0⟩,
    ⟨S256x1024, extractStridedSlice S256x1024 ![6176, 0] (weightsT x2) slices_S8736x1024_S256x1024_6176_0⟩,
    ⟨S256x1024, extractStridedSlice S256x1024 ![6432, 0] (weightsT x2) slices_S8736x1024_S256x1024_6432_0⟩,
    ⟨S2048x1024, extractStridedSlice S2048x1024 ![0, 0] (weightsT x2) slices_S8736x1024_S2048x1024_0_0⟩,
    ⟨S32x1024, extractStridedSlice S32x1024 ![5120, 0] (weightsT x2) slices_S8736x1024_S32x1024_5120_0⟩,
    ⟨S480x1024, broadcastInDim S480x1024 ![] bcast_S_S480x1024 (constant S_ .bf16 0x0000#16)⟩,
    ⟨S1024x1024, extractStridedSlice S1024x1024 ![6688, 0] (weightsT x2) slices_S8736x1024_S1024x1024_6688_0⟩,
    ⟨S1024x1024, extractStridedSlice S1024x1024 ![7712, 0] (weightsT x2) slices_S8736x1024_S1024x1024_7712_0⟩,
    ⟨S512x1024, extractStridedSlice S512x1024 ![2048, 0] (weightsT x2) slices_S8736x1024_S512x1024_2048_0⟩,
    ⟨S128x1024, extractStridedSlice S128x1024 ![4096, 0] (weightsT x2) slices_S8736x1024_S128x1024_4096_0⟩,
    ⟨S128x1024, extractStridedSlice S128x1024 ![4608, 0] (weightsT x2) slices_S8736x1024_S128x1024_4608_0⟩,
    ⟨S512x1024, extractStridedSlice S512x1024 ![2560, 0] (weightsT x2) slices_S8736x1024_S512x1024_2560_0⟩,
    ⟨S128x1024, extractStridedSlice S128x1024 ![4224, 0] (weightsT x2) slices_S8736x1024_S128x1024_4224_0⟩,
    ⟨S128x1024, extractStridedSlice S128x1024 ![4736, 0] (weightsT x2) slices_S8736x1024_S128x1024_4736_0⟩,
    ⟨S512x1024, extractStridedSlice S512x1024 ![3072, 0] (weightsT x2) slices_S8736x1024_S512x1024_3072_0⟩,
    ⟨S128x1024, extractStridedSlice S128x1024 ![4352, 0] (weightsT x2) slices_S8736x1024_S128x1024_4352_0⟩]
    concatenates_S1024x1024_S256x1024_S256x1024_S2048x1024_S32x1024_S480x1024_S1024x1024_S1024x1024_S512x1024_S128x1024_S128x1024_S512x1024_S128x1024_S128x1024_S512x1024_S128x1024_S8320x1024_d0)

/-- the other four, -/
def wTail (x2 : FVec Ideal S1024x8736 .f32) : FVec Ideal S896x1024 .bf16 :=
  (concatenate S896x1024 0 [⟨S128x1024, extractStridedSlice S128x1024 ![4864, 0] (weightsT x2) slices_S8736x1024_S128x1024_4864_0⟩,
    ⟨S512x1024, extractStridedSlice S512x1024 ![3584, 0] (weightsT x2) slices_S8736x1024_S512x1024_3584_0⟩,
    ⟨S128x1024, extractStridedSlice S128x1024 ![4480, 0] (weightsT x2) slices_S8736x1024_S128x1024_4480_0⟩,
    ⟨S128x1024, extractStridedSlice S128x1024 ![4992, 0] (weightsT x2) slices_S8736x1024_S128x1024_4992_0⟩]
    concatenates_S128x1024_S512x1024_S128x1024_S128x1024_S896x1024_d0)

/-- and all of them. -/
def wProj (x2 : FVec Ideal S1024x8736 .f32) : FVec Ideal S9216x1024 .bf16 :=
  concatenate S9216x1024 0 [⟨S8320x1024, wHead x2⟩, ⟨S896x1024, wTail x2⟩] concatenates_S8320x1024_S896x1024_S9216x1024_d0

variable (m : (ℓ : Loc nD τ sig) → Buf (Elt Ideal) ℓ) (c : Dev nD)

/-- The region finds the first operand at the laid-out cotangents. -/
theorem V_main_v15 : V m c main_v15 = truncf .bf16 (dProj (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))) bitsLt_bf16_f32 := by
  unfold V hostOps0
  after_results_simp <;> (try dsimp only [Matrix.cons_val]) <;> (try after_results_simp) <;> rfl

/-- The region finds the second operand at the laid-out weights. -/
theorem V_main_v40 : V m c main_v40 = wProj (m ((c : Thread nD τ).loc main_arg2)) := by
  unfold V hostOps0
  after_results_simp <;> (try dsimp only [Matrix.cons_val]) <;> (try after_results_simp) <;> rfl

/-! ## Read at an element -/

variable (x2 : FVec Ideal S1024x8736 .f32) (x4 : FVec Ideal S8192x2048 .f32) (x5 : FVec Ideal S8192x3072 .f32) (x6 : FVec Ideal S8192x32 .f32)
  (x7 : FVec Ideal S8192x1024 .f32) (x8 x9 : FVec Ideal S8192x256 .f32) (x10 x11 : FVec Ideal S8192x1024 .f32)

theorem weightsT_apply (k : Fin 8736) (j : Fin 1024) : weightsT x2 (ix2 k j) = x2 (ix2 j k) := by
  pointwise [weightsT]

/-- The grouped channels, x of group `g`. -/
theorem grouped_x (R : Fin 8192) (g : ℕ) (hg : g < 4) (k : ℕ) (hk : k < 512) :
    grouped x5 (ix2 R ⟨768 * g + k, by omega⟩) = x5 (ix2 R ⟨512 * g + k, by omega⟩) := by
  unfold grouped
  interval_cases g
  · refine (cat_axis1 _ _ 0 (of_decide_eq_true rfl) _ rfl 0 rfl R _ (⟨k, hk⟩ : Fin 512) (by simp)).trans ?_
    pointwise
  · refine (cat_axis1 _ _ 3 (of_decide_eq_true rfl) _ rfl 768 rfl R _ (⟨k, hk⟩ : Fin 512) (by simp)).trans ?_
    pointwise
  · refine (cat_axis1 _ _ 6 (of_decide_eq_true rfl) _ rfl 1536 rfl R _ (⟨k, hk⟩ : Fin 512) (by simp)).trans ?_
    pointwise
  · refine (cat_axis1 _ _ 9 (of_decide_eq_true rfl) _ rfl 2304 rfl R _ (⟨k, hk⟩ : Fin 512) (by simp)).trans ?_
    pointwise

/-- The grouped channels, B of group `g`. -/
theorem grouped_b (R : Fin 8192) (g : ℕ) (hg : g < 4) (k : ℕ) (hk : k < 128) :
    grouped x5 (ix2 R ⟨512 + 768 * g + k, by omega⟩) = x5 (ix2 R ⟨2048 + 128 * g + k, by omega⟩) := by
  unfold grouped
  interval_cases g
  · refine (cat_axis1 _ _ 1 (of_decide_eq_true rfl) _ rfl 512 rfl R _ (⟨k, hk⟩ : Fin 128) (by simp)).trans ?_
    pointwise
  · refine (cat_axis1 _ _ 4 (of_decide_eq_true rfl) _ rfl 1280 rfl R _ (⟨k, hk⟩ : Fin 128) (by simp)).trans ?_
    pointwise
  · refine (cat_axis1 _ _ 7 (of_decide_eq_true rfl) _ rfl 2048 rfl R _ (⟨k, hk⟩ : Fin 128) (by simp)).trans ?_
    pointwise
  · refine (cat_axis1 _ _ 10 (of_decide_eq_true rfl) _ rfl 2816 rfl R _ (⟨k, hk⟩ : Fin 128) (by simp)).trans ?_
    pointwise

/-- The grouped channels, C of group `g`. -/
theorem grouped_c (R : Fin 8192) (g : ℕ) (hg : g < 4) (k : ℕ) (hk : k < 128) :
    grouped x5 (ix2 R ⟨640 + 768 * g + k, by omega⟩) = x5 (ix2 R ⟨2560 + 128 * g + k, by omega⟩) := by
  unfold grouped
  interval_cases g
  · refine (cat_axis1 _ _ 2 (of_decide_eq_true rfl) _ rfl 640 rfl R _ (⟨k, hk⟩ : Fin 128) (by simp)).trans ?_
    pointwise
  · refine (cat_axis1 _ _ 5 (of_decide_eq_true rfl) _ rfl 1408 rfl R _ (⟨k, hk⟩ : Fin 128) (by simp)).trans ?_
    pointwise
  · refine (cat_axis1 _ _ 8 (of_decide_eq_true rfl) _ rfl 2176 rfl R _ (⟨k, hk⟩ : Fin 128) (by simp)).trans ?_
    pointwise
  · refine (cat_axis1 _ _ 11 (of_decide_eq_true rfl) _ rfl 2944 rfl R _ (⟨k, hk⟩ : Fin 128) (by simp)).trans ?_
    pointwise

/-- A column of a matrix as a function of every natural number, read at a column it has. -/
theorem ext_row {n m : ℕ} (y : (⟨2, ![m, n]⟩ : Shape).Idx → EReal) (R : Fin m) (k : ℕ) (h : k < n) :
    ext (fun c => y (ix2 R c)) k = y (ix2 R ⟨k, h⟩) := ext_of_lt _ k h

/-- The reference's joined cotangents, part by part. -/
theorem joined_z (R : Fin 8192) (k : ℕ) (hk : k < 2048) :
    ext (fun c => Cert.DuReferenceIdeal.Read.val_main_v24 (F := Ideal) x4 x5 x6 x7 x8 x9 x10 x11 (ix2 R c)) (0 + k) = x4 (ix2 R ⟨k, hk⟩) :=
  (ext_of_lt _ _ (by omega)).trans (cat_axis1 _ _ 0 (of_decide_eq_true rfl) _ rfl 0 rfl R _ (⟨k, hk⟩ : Fin 2048) rfl)

theorem joined_xbc (R : Fin 8192) (k n : ℕ) (hk : k < 3072) (hn : 2048 + k = n) :
    ext (fun c => Cert.DuReferenceIdeal.Read.val_main_v24 (F := Ideal) x4 x5 x6 x7 x8 x9 x10 x11 (ix2 R c)) n = x5 (ix2 R ⟨k, hk⟩) :=
  (ext_of_lt _ _ (by omega)).trans (cat_axis1 _ _ 1 (of_decide_eq_true rfl) _ rfl 2048 rfl R _ (⟨k, hk⟩ : Fin 3072) hn)

theorem joined_dt (R : Fin 8192) (k : ℕ) (hk : k < 32) :
    ext (fun c => Cert.DuReferenceIdeal.Read.val_main_v24 (F := Ideal) x4 x5 x6 x7 x8 x9 x10 x11 (ix2 R c)) (5120 + k) = x6 (ix2 R ⟨k, hk⟩) :=
  (ext_of_lt _ _ (by omega)).trans (cat_axis1 _ _ 2 (of_decide_eq_true rfl) _ rfl 5120 (by simp) R _ (⟨k, hk⟩ : Fin 32) rfl)

theorem joined_q (R : Fin 8192) (k : ℕ) (hk : k < 1024) :
    ext (fun c => Cert.DuReferenceIdeal.Read.val_main_v24 (F := Ideal) x4 x5 x6 x7 x8 x9 x10 x11 (ix2 R c)) (5152 + k) = x7 (ix2 R ⟨k, hk⟩) :=
  (ext_of_lt _ _ (by omega)).trans (cat_axis1 _ _ 3 (of_decide_eq_true rfl) _ rfl 5152 (by simp) R _ (⟨k, hk⟩ : Fin 1024) rfl)

theorem joined_k (R : Fin 8192) (k : ℕ) (hk : k < 256) :
    ext (fun c => Cert.DuReferenceIdeal.Read.val_main_v24 (F := Ideal) x4 x5 x6 x7 x8 x9 x10 x11 (ix2 R c)) (6176 + k) = x8 (ix2 R ⟨k, hk⟩) :=
  (ext_of_lt _ _ (by omega)).trans (cat_axis1 _ _ 4 (of_decide_eq_true rfl) _ rfl 6176 (by simp) R _ (⟨k, hk⟩ : Fin 256) rfl)

theorem joined_v (R : Fin 8192) (k : ℕ) (hk : k < 256) :
    ext (fun c => Cert.DuReferenceIdeal.Read.val_main_v24 (F := Ideal) x4 x5 x6 x7 x8 x9 x10 x11 (ix2 R c)) (6432 + k) = x9 (ix2 R ⟨k, hk⟩) :=
  (ext_of_lt _ _ (by omega)).trans (cat_axis1 _ _ 5 (of_decide_eq_true rfl) _ rfl 6432 (by simp) R _ (⟨k, hk⟩ : Fin 256) rfl)

theorem joined_gs (R : Fin 8192) (k : ℕ) (hk : k < 1024) :
    ext (fun c => Cert.DuReferenceIdeal.Read.val_main_v24 (F := Ideal) x4 x5 x6 x7 x8 x9 x10 x11 (ix2 R c)) (6688 + k) = x10 (ix2 R ⟨k, hk⟩) :=
  (ext_of_lt _ _ (by omega)).trans (cat_axis1 _ _ 6 (of_decide_eq_true rfl) _ rfl 6688 (by simp) R _ (⟨k, hk⟩ : Fin 1024) rfl)

theorem joined_ga (R : Fin 8192) (k : ℕ) (hk : k < 1024) :
    ext (fun c => Cert.DuReferenceIdeal.Read.val_main_v24 (F := Ideal) x4 x5 x6 x7 x8 x9 x10 x11 (ix2 R c)) (7712 + k) = x11 (ix2 R ⟨k, hk⟩) :=
  (ext_of_lt _ _ (by omega)).trans (cat_axis1 _ _ 7 (of_decide_eq_true rfl) _ rfl 7712 (by simp) R _ (⟨k, hk⟩ : Fin 1024) rfl)

/-- THE COTANGENTS' LAYOUT: each row of the kernel's operand lays out the same row of the reference's joined cotangents. -/
theorem dProj_layout (R : Fin 8192) :
    ProjLayout (ext fun c => dProj x4 x5 x6 x7 x8 x9 x10 x11 (ix2 R c))
      (ext fun c => Cert.DuReferenceIdeal.Read.val_main_v24 (F := Ideal) x4 x5 x6 x7 x8 x9 x10 x11 (ix2 R c)) where
  q k hk := by
    rw [joined_q _ _ _ _ _ _ _ _ R k hk, ext_row _ R _ (by omega)]
    exact cat_axis1 _ _ 0 (of_decide_eq_true rfl) _ rfl 0 rfl R _ (⟨k, hk⟩ : Fin 1024) rfl
  k k hk := by
    rw [joined_k _ _ _ _ _ _ _ _ R k hk, ext_row _ R _ (by omega)]
    exact cat_axis1 _ _ 1 (of_decide_eq_true rfl) _ rfl 1024 rfl R _ (⟨k, hk⟩ : Fin 256) rfl
  v k hk := by
    rw [joined_v _ _ _ _ _ _ _ _ R k hk, ext_row _ R _ (by omega)]
    exact cat_axis1 _ _ 2 (of_decide_eq_true rfl) _ rfl 1280 rfl R _ (⟨k, hk⟩ : Fin 256) rfl
  z k hk := by
    rw [joined_z _ _ _ _ _ _ _ _ R k hk, ext_row _ R _ (by omega)]
    exact cat_axis1 _ _ 3 (of_decide_eq_true rfl) _ rfl 1536 rfl R _ (⟨k, hk⟩ : Fin 2048) rfl
  dt k hk := by
    rw [joined_dt _ _ _ _ _ _ _ _ R k hk, ext_row _ R _ (by omega)]
    exact cat_axis1 _ _ 4 (of_decide_eq_true rfl) _ rfl 3584 rfl R _ (⟨k, hk⟩ : Fin 32) rfl
  gap k hk := by
    rw [ext_row _ R _ (by omega)]
    refine (cat_axis1 _ _ 5 (of_decide_eq_true rfl) _ rfl 3616 rfl R _ (⟨k, hk⟩ : Fin 480) rfl).trans ?_
    pointwise
  gs k hk := by
    rw [joined_gs _ _ _ _ _ _ _ _ R k hk, ext_row _ R _ (by omega)]
    exact cat_axis1 _ _ 6 (of_decide_eq_true rfl) _ rfl 4096 (by simp) R _ (⟨k, hk⟩ : Fin 1024) rfl
  ga k hk := by
    rw [joined_ga _ _ _ _ _ _ _ _ R k hk, ext_row _ R _ (by omega)]
    exact cat_axis1 _ _ 7 (of_decide_eq_true rfl) _ rfl 5120 (by simp) R _ (⟨k, hk⟩ : Fin 1024) rfl
  xs g hg k hk := by
    rw [joined_xbc _ _ _ _ _ _ _ _ R (512 * g + k) _ (by omega) (by omega), ext_row _ R _ (by omega)]
    exact (cat_axis1 _ _ 8 (of_decide_eq_true rfl) _ rfl 6144 (by simp) R _ (⟨768 * g + k, by omega⟩ : Fin 3072) (by dsimp only; omega)).trans
      (grouped_x x5 R g hg k hk)
  b g hg k hk := by
    rw [joined_xbc _ _ _ _ _ _ _ _ R (2048 + 128 * g + k) _ (by omega) (by omega), ext_row _ R _ (by omega)]
    exact (cat_axis1 _ _ 8 (of_decide_eq_true rfl) _ rfl 6144 (by simp) R _ (⟨512 + 768 * g + k, by omega⟩ : Fin 3072) (by dsimp only; omega)).trans
      (grouped_b x5 R g hg k hk)
  c g hg k hk := by
    rw [joined_xbc _ _ _ _ _ _ _ _ R (2560 + 128 * g + k) _ (by omega) (by omega), ext_row _ R _ (by omega)]
    exact (cat_axis1 _ _ 8 (of_decide_eq_true rfl) _ rfl 6144 (by simp) R _ (⟨640 + 768 * g + k, by omega⟩ : Fin 3072) (by dsimp only; omega)).trans
      (grouped_c x5 R g hg k hk)

/-- A slice of whole rows of the transposed weights, read at an element of the weights. -/
theorem rows_apply (s n : ℕ) (h : S8736x1024.Slices ![s, 0] ⟨2, ![n, 1024]⟩) (k : ℕ) (hk : k < n) (hs : s + k < 8736) (j : Fin 1024) :
    extractStridedSlice ⟨2, ![n, 1024]⟩ ![s, 0] (weightsT x2) h (ix2 ⟨k, hk⟩ j) = x2 (ix2 j ⟨s + k, hs⟩) :=
  (extractStridedSlice_apply _ _ _ _ (ix2 ⟨s + k, hs⟩ j) (fun a => match a with
    | ⟨0, _⟩ => rfl
    | ⟨1, _⟩ => (Nat.zero_add _).symm)).trans (weightsT_apply x2 _ j)

/-- The first sixteen pieces are the operand's first 8320 rows, -/
theorem wProj_head (k : ℕ) (hk : k < 8320) (j : Fin 1024) :
    wProj x2 (ix2 ⟨k, by omega⟩ j) = wHead x2 (ix2 ⟨k, hk⟩ j) :=
  cat_axis0 _ _ 0 (of_decide_eq_true rfl) _ rfl 0 rfl _ j (⟨k, hk⟩ : Fin 8320) (by simp)

/-- and the other four the rows after them. -/
theorem wProj_tail (k n : ℕ) (hn : n < 9216) (hk : k < 896) (h : 8320 + k = n) (j : Fin 1024) :
    wProj x2 (ix2 ⟨n, hn⟩ j) = wTail x2 (ix2 ⟨k, hk⟩ j) :=
  cat_axis0 _ _ 1 (of_decide_eq_true rfl) _ rfl 8320 (by simp) _ j (⟨k, hk⟩ : Fin 896) h

/-- THE WEIGHTS' LAYOUT: each column of the kernel's operand lays out the same row of the weights. -/
theorem wProj_layout (j : Fin 1024) :
    ProjLayout (ext fun c => wProj x2 (ix2 c j)) (ext fun c => x2 (ix2 j c)) where
  q k hk := by
    rw [ext_of_lt _ _ (by omega), ext_of_lt _ _ (by omega)]
    exact (wProj_head x2 _ (by omega) j).trans <|
      (cat_axis0 _ _ 0 (of_decide_eq_true rfl) _ rfl 0 (by simp) _ j (⟨k, hk⟩ : Fin 1024) rfl).trans (rows_apply x2 5152 1024 _ k hk (by omega) j)
  k k hk := by
    rw [ext_of_lt _ _ (by omega), ext_of_lt _ _ (by omega)]
    exact (wProj_head x2 _ (by omega) j).trans <|
      (cat_axis0 _ _ 1 (of_decide_eq_true rfl) _ rfl 1024 (by simp) _ j (⟨k, hk⟩ : Fin 256) rfl).trans (rows_apply x2 6176 256 _ k hk (by omega) j)
  v k hk := by
    rw [ext_of_lt _ _ (by omega), ext_of_lt _ _ (by omega)]
    exact (wProj_head x2 _ (by omega) j).trans <|
      (cat_axis0 _ _ 2 (of_decide_eq_true rfl) _ rfl 1280 (by simp) _ j (⟨k, hk⟩ : Fin 256) rfl).trans (rows_apply x2 6432 256 _ k hk (by omega) j)
  z k hk := by
    rw [ext_of_lt _ _ (by omega), ext_of_lt _ _ (by omega)]
    exact (wProj_head x2 _ (by omega) j).trans <|
      (cat_axis0 _ _ 3 (of_decide_eq_true rfl) _ rfl 1536 (by simp) _ j (⟨k, hk⟩ : Fin 2048) rfl).trans (rows_apply x2 0 2048 _ k hk (by omega) j)
  dt k hk := by
    rw [ext_of_lt _ _ (by omega), ext_of_lt _ _ (by omega)]
    exact (wProj_head x2 _ (by omega) j).trans <|
      (cat_axis0 _ _ 4 (of_decide_eq_true rfl) _ rfl 3584 (by simp) _ j (⟨k, hk⟩ : Fin 32) rfl).trans (rows_apply x2 5120 32 _ k hk (by omega) j)
  gap k hk := by
    rw [ext_of_lt _ _ (by omega)]
    refine (wProj_head x2 _ (by omega) j).trans <|
      (cat_axis0 _ _ 5 (of_decide_eq_true rfl) _ rfl 3616 (by simp) _ j (⟨k, hk⟩ : Fin 480) rfl).trans ?_
    pointwise
  gs k hk := by
    rw [ext_of_lt _ _ (by omega), ext_of_lt _ _ (by omega)]
    exact (wProj_head x2 _ (by omega) j).trans <|
      (cat_axis0 _ _ 6 (of_decide_eq_true rfl) _ rfl 4096 (by simp) _ j (⟨k, hk⟩ : Fin 1024) rfl).trans (rows_apply x2 6688 1024 _ k hk (by omega) j)
  ga k hk := by
    rw [ext_of_lt _ _ (by omega), ext_of_lt _ _ (by omega)]
    exact (wProj_head x2 _ (by omega) j).trans <|
      (cat_axis0 _ _ 7 (of_decide_eq_true rfl) _ rfl 5120 (by simp) _ j (⟨k, hk⟩ : Fin 1024) rfl).trans (rows_apply x2 7712 1024 _ k hk (by omega) j)
  xs g hg k hk := by
    rw [ext_of_lt _ _ (by omega), ext_of_lt _ _ (by omega)]
    interval_cases g
    · exact (wProj_head x2 _ (by omega) j).trans <|
        (cat_axis0 _ _ 8 (of_decide_eq_true rfl) _ rfl 6144 (by simp) _ j (⟨k, hk⟩ : Fin 512) rfl).trans (rows_apply x2 2048 512 _ k hk (by omega) j)
    · exact (wProj_head x2 _ (by omega) j).trans <|
        (cat_axis0 _ _ 11 (of_decide_eq_true rfl) _ rfl 6912 (by simp) _ j (⟨k, hk⟩ : Fin 512) rfl).trans (rows_apply x2 2560 512 _ k hk (by omega) j)
    · exact (wProj_head x2 _ (by omega) j).trans <|
        (cat_axis0 _ _ 14 (of_decide_eq_true rfl) _ rfl 7680 (by simp) _ j (⟨k, hk⟩ : Fin 512) rfl).trans (rows_apply x2 3072 512 _ k hk (by omega) j)
    · exact (wProj_tail x2 (128 + k) _ _ (by omega) (by omega) j).trans <|
        (cat_axis0 _ _ 1 (of_decide_eq_true rfl) _ rfl 128 (by simp) _ j (⟨k, hk⟩ : Fin 512) rfl).trans (rows_apply x2 3584 512 _ k hk (by omega) j)
  b g hg k hk := by
    rw [ext_of_lt _ _ (by omega), ext_of_lt _ _ (by omega)]
    interval_cases g
    · exact (wProj_head x2 _ (by omega) j).trans <|
        (cat_axis0 _ _ 9 (of_decide_eq_true rfl) _ rfl 6656 (by simp) _ j (⟨k, hk⟩ : Fin 128) rfl).trans (rows_apply x2 4096 128 _ k hk (by omega) j)
    · exact (wProj_head x2 _ (by omega) j).trans <|
        (cat_axis0 _ _ 12 (of_decide_eq_true rfl) _ rfl 7424 (by simp) _ j (⟨k, hk⟩ : Fin 128) rfl).trans (rows_apply x2 4224 128 _ k hk (by omega) j)
    · exact (wProj_head x2 _ (by omega) j).trans <|
        (cat_axis0 _ _ 15 (of_decide_eq_true rfl) _ rfl 8192 (by simp) _ j (⟨k, hk⟩ : Fin 128) rfl).trans (rows_apply x2 4352 128 _ k hk (by omega) j)
    · exact (wProj_tail x2 (640 + k) _ _ (by omega) (by omega) j).trans <|
        (cat_axis0 _ _ 2 (of_decide_eq_true rfl) _ rfl 640 (by simp) _ j (⟨k, hk⟩ : Fin 128) rfl).trans (rows_apply x2 4480 128 _ k hk (by omega) j)
  c g hg k hk := by
    rw [ext_of_lt _ _ (by omega), ext_of_lt _ _ (by omega)]
    interval_cases g
    · exact (wProj_head x2 _ (by omega) j).trans <|
        (cat_axis0 _ _ 10 (of_decide_eq_true rfl) _ rfl 6784 (by simp) _ j (⟨k, hk⟩ : Fin 128) rfl).trans (rows_apply x2 4608 128 _ k hk (by omega) j)
    · exact (wProj_head x2 _ (by omega) j).trans <|
        (cat_axis0 _ _ 13 (of_decide_eq_true rfl) _ rfl 7552 (by simp) _ j (⟨k, hk⟩ : Fin 128) rfl).trans (rows_apply x2 4736 128 _ k hk (by omega) j)
    · exact (wProj_tail x2 (0 + k) _ _ (by omega) (by omega) j).trans <|
        (cat_axis0 _ _ 0 (of_decide_eq_true rfl) _ rfl 0 (by simp) _ j (⟨k, hk⟩ : Fin 128) rfl).trans (rows_apply x2 4864 128 _ k hk (by omega) j)
    · exact (wProj_tail x2 (768 + k) _ _ (by omega) (by omega) j).trans <|
        (cat_axis0 _ _ 3 (of_decide_eq_true rfl) _ rfl 768 (by simp) _ j (⟨k, hk⟩ : Fin 128) rfl).trans (rows_apply x2 4992 128 _ k hk (by omega) j)

end Cert.DuKernelIdeal.Host

end
-- ==== Proof.DuRef.lean ====
/- The reference of the input projection's gradient, read at an element. -/
module

public import proofs.«01_k».proof.Proof.RmsMath
public import proofs.«01_k».proof.Proof.Gen.DuReferenceIdeal.Read

@[expose] public section

noncomputable section

namespace Cert.DuReferenceIdeal.Ref

open Cert.DuReferenceIdeal Cert.DuReferenceIdeal.Gen Cert.DuReferenceIdeal.Read Idealize.ShloMosaic Cert.Maths

variable (x0 x3 : (⟨S8192x1024, .f32⟩ : BufTy).Contents (Elt Ideal)) (x1 : (⟨S1x1024, .f32⟩ : BufTy).Contents (Elt Ideal))
  (x2 : (⟨S1024x8736, .f32⟩ : BufTy).Contents (Elt Ideal)) (x4 : (⟨S8192x2048, .f32⟩ : BufTy).Contents (Elt Ideal))
  (x5 : (⟨S8192x3072, .f32⟩ : BufTy).Contents (Elt Ideal)) (x6 : (⟨S8192x32, .f32⟩ : BufTy).Contents (Elt Ideal))
  (x7 x10 x11 : (⟨S8192x1024, .f32⟩ : BufTy).Contents (Elt Ideal)) (x8 x9 : (⟨S8192x256, .f32⟩ : BufTy).Contents (Elt Ideal))

/-- The reciprocal root of a row's mean square. -/
theorem v7_apply (R : Fin 8192) : val_main_v7 (F := Ideal) x0 (ix2 R 0) = rms 1024 epsR (fun k => x0 (ix2 R k)) := by
  pointwise [val_main_v7, val_main_v6, val_main_v5, val_main_v4, val_main_v3, val_main_v2, val_main_v1, val_main_v0, val_main_cst,
    val_main_cst_0, val_main_cst_1, ofBits_eps, ofBits_1024]
  rfl

/-- The gradient of the norm's weight: the sum over the rows. -/
theorem v28_apply (j : Fin 1024) : val_main_v28 (F := Ideal) x0 x2 x4 x5 x6 x7 x8 x9 x10 x11 (ix2 0 j)
    = ∑ R : Fin 8192, x0 (ix2 R j) * val_main_v7 (F := Ideal) x0 (ix2 R 0) * val_main_v25 (F := Ideal) x2 x4 x5 x6 x7 x8 x9 x10 x11 (ix2 R j) := by
  pointwise [val_main_v28, val_main_v27, val_main_v26, val_main_v12, val_main_v11, val_main_cst_3]

/-- The gradient of the input: what arrives beside the norm, and the norm's own gradient. -/
theorem v45_apply (R : Fin 8192) (j : Fin 1024) : val_main_v45 (F := Ideal) x0 x1 x2 x3 x4 x5 x6 x7 x8 x9 x10 x11 (ix2 R j)
    = x3 (ix2 R j) + (val_main_v25 (F := Ideal) x2 x4 x5 x6 x7 x8 x9 x10 x11 (ix2 R j) * x1 (ix2 0 j) * rms 1024 epsR (fun k => x0 (ix2 R k))
        + (x0 (ix2 R j) * Ideal.div ((∑ k : Fin 1024, x0 (ix2 R k) * (val_main_v25 (F := Ideal) x2 x4 x5 x6 x7 x8 x9 x10 x11 (ix2 R k) * x1 (ix2 0 k)))
              * (((-1 / 2 : ℝ) : EReal) * Ideal.div (rms 1024 epsR (fun k => x0 (ix2 R k)))
                (Ideal.div (∑ k : Fin 1024, x0 (ix2 R k) * x0 (ix2 R k)) ((1024 : ℝ) : EReal) + (epsR : EReal)))) ((1024 : ℝ) : EReal)
          + Ideal.div ((∑ k : Fin 1024, x0 (ix2 R k) * (val_main_v25 (F := Ideal) x2 x4 x5 x6 x7 x8 x9 x10 x11 (ix2 R k) * x1 (ix2 0 k)))
              * (((-1 / 2 : ℝ) : EReal) * Ideal.div (rms 1024 epsR (fun k => x0 (ix2 R k)))
                (Ideal.div (∑ k : Fin 1024, x0 (ix2 R k) * x0 (ix2 R k)) ((1024 : ℝ) : EReal) + (epsR : EReal)))) ((1024 : ℝ) : EReal)
            * x0 (ix2 R j))) := by
  pointwise [val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v10, val_main_v9, val_main_v8,
    val_main_v6, val_main_v5, val_main_v4, val_main_v3, val_main_v2, val_main_v1, val_main_v0, val_main_cst,
    val_main_cst_0, val_main_cst_1, val_main_cst_2, val_main_cst_4, val_main_cst_5, val_main_cst_6, ofBits_eps, ofBits_1024, ofBits_neg_half]
  simp only [Fin.sum_univ_one, v7_apply, add_assoc]

/-- The gradient of the normalised input: the product of the joined cotangents with the transposed weights. -/
theorem v25_apply (R : Fin 8192) (j : Fin 1024) : val_main_v25 (F := Ideal) x2 x4 x5 x6 x7 x8 x9 x10 x11 (ix2 R j)
    = ∑ k : Fin 8736, val_main_v24 (F := Ideal) x4 x5 x6 x7 x8 x9 x10 x11 (ix2 R k) * x2 (ix2 j k) := by
  pointwise [val_main_v25]

end Cert.DuReferenceIdeal.Ref

end
-- ==== Proof.DuValue.lean ====
/- The input-projection gradient kernel's two result arrays are the reference's. -/
module

public import Idealize.ShloMosaic.Lib.Pipeline.ValueKit
public import proofs.«01_k».proof.Proof.DuOut
public import proofs.«01_k».proof.Proof.DuHost
public import proofs.«01_k».proof.Proof.DuRef

@[expose] public section

noncomputable section

namespace Cert.DuKernelIdeal.Result

open Cert.DuKernelIdeal Cert.DuKernelIdeal.Gen Idealize.ShloMosaic Idealize.ShloMosaic.TcCoe Idealize.SL.Sem
open Idealize.ShloMosaic.Pipeline (Dat)
open Cert.Maths Cert.DuKernelIdeal.Host Cert.DuKernelIdeal.Pay Cert.DuKernelIdeal.Out Cert.DuReferenceIdeal.Ref
open Cert.DuReferenceIdeal.Read (val_main_v24 val_main_v25 val_main_v28 val_main_v45 val_main_v7)

variable (m : (ℓ : Loc nD τ sig) → Buf (Elt Ideal) ℓ) (c : Dev nD)

/-- Row `i` of tile `t`. -/
abbrev row (t : Fin cfg0.N) (i : Fin 512) : Fin 8192 :=
  ⟨512 * t.val + i.val, by have : t.val < 16 := t.isLt; omega⟩

/-- The block each window reads at a point: the tiled arrays' point `t`, the whole of the others. -/
theorem index_eq : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0))

/-- The step's input and the norm's weight, at the kernel's arguments. -/
abbrev xIn : S8192x1024.Idx → EReal := m ((c : Thread nD τ).loc main_arg0)
abbrev wIn : S1x1024.Idx → EReal := m ((c : Thread nD τ).loc main_arg1)

theorem iblk0 (t : Fin cfg0.N) (i : Fin 512) (k : Fin 9216) :
    (iblk m c 0 t : Vec Ideal S512x9216 .bf16) (ix2 i k) = V m c main_v15 (ix2 (row t i) k) := by
  unfold iblk
  rw [View.read_apply]
  show V m c main_v15 _ = _
  congr 1
  funext a
  apply Fin.ext
  match a with
  | ⟨0, _⟩ => show win0_0.index t 0 * 512 + 1 * i.val = 512 * t.val + i.val; rw [(index_eq t).1.1]; omega
  | ⟨1, _⟩ => show win0_0.index t 1 * 9216 + 1 * k.val = k.val; rw [(index_eq t).1.2]; omega

theorem iblk1 (t : Fin cfg0.N) (k : Fin 9216) (j : Fin 1024) :
    (iblk m c 1 t : Vec Ideal S9216x1024 .bf16) (ix2 k j) = V m c main_v40 (ix2 k j) := by
  unfold iblk
  rw [View.read_apply]
  show V m c main_v40 _ = _
  congr 1
  funext a
  apply Fin.ext
  match a with
  | ⟨0, _⟩ => show win0_1.index t 0 * 9216 + 1 * k.val = k.val; rw [(index_eq t).2.1.1]; omega
  | ⟨1, _⟩ => show win0_1.index t 1 * 1024 + 1 * j.val = j.val; rw [(index_eq t).2.1.2]; omega

theorem iblk2 (t : Fin cfg0.N) (i : Fin 512) (j : Fin 1024) :
    (iblk m c 2 t : Vec Ideal S512x1024 .f32) (ix2 i j) = m ((c : Thread nD τ).loc main_arg0) (ix2 (row t i) j) := by
  rw [← V_main_arg0 m c]
  unfold iblk
  rw [View.read_apply]
  show V m c main_arg0 _ = _
  congr 1
  funext a
  apply Fin.ext
  match a with
  | ⟨0, _⟩ => show win0_2.index t 0 * 512 + 1 * i.val = 512 * t.val + i.val; rw [(index_eq t).2.2.1.1]; omega
  | ⟨1, _⟩ => show win0_2.index t 1 * 1024 + 1 * j.val = j.val; rw [(index_eq t).2.2.1.2]; omega

theorem iblk3 (t : Fin cfg0.N) (j : Fin 1024) :
    (iblk m c 3 t : Vec Ideal S1x1024 .f32) (ix2 0 j) = m ((c : Thread nD τ).loc main_arg1) (ix2 0 j) := by
  rw [← V_main_arg1 m c]
  unfold iblk
  rw [View.read_apply]
  show V m c main_arg1 _ = _
  congr 1
  funext a
  apply Fin.ext
  match a with
  | ⟨0, _⟩ => show win0_3.index t 0 * 1 + 1 * 0 = 0; rw [(index_eq t).2.2.2.1.1]
  | ⟨1, _⟩ => show win0_3.index t 1 * 1024 + 1 * j.val = j.val; rw [(index_eq t).2.2.2.1.2]; omega

theorem iblk4 (t : Fin cfg0.N) (i : Fin 512) (j : Fin 1024) :
    (iblk m c 4 t : Vec Ideal S512x1024 .f32) (ix2 i j) = m ((c : Thread nD τ).loc main_arg3) (ix2 (row t i) j) := by
  rw [← V_main_arg3 m c]
  unfold iblk
  rw [View.read_apply]
  show V m c main_arg3 _ = _
  congr 1
  funext a
  apply Fin.ext
  match a with
  | ⟨0, _⟩ => show win0_4.index t 0 * 512 + 1 * i.val = 512 * t.val + i.val; rw [(index_eq t).2.2.2.2.1.1]; omega
  | ⟨1, _⟩ => show win0_4.index t 1 * 1024 + 1 * j.val = j.val; rw [(index_eq t).2.2.2.2.1.2]; omega

/-- The reference's gradient of the normalised input, at the kernel's arguments. -/
abbrev dn : (⟨Cert.DuReferenceIdeal.S8192x1024, .f32⟩ : BufTy).Contents (Elt Ideal) :=
  val_main_v25 (F := Ideal) (m ((c : Thread nD τ).loc main_arg2)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- THE PRODUCT: a tile's product with the laid-out weights is the reference's product, row by row. -/
theorem product_eq (t : Fin cfg0.N) (i : Fin 512) (j : Fin 1024) :
    k0_pay2 (F := Ideal) (iblk m c 0 t) (iblk m c 1 t) (ix2 i j) = dn m c (ix2 (row t i) j) := by
  refine (pay2_apply _ _ i j).trans ?_
  rw [dn, v25_apply]
  refine Eq.trans (Finset.sum_congr rfl fun k _ => ?_) ((dProj_layout _ _ _ _ _ _ _ _ (row t i)).dot (wProj_layout _ j))
  rw [iblk0, iblk1, V_main_v15, V_main_v40]
  rfl

/-- The first result array. -/
abbrev result5 : Buf (Elt Ideal) ((c : Thread nD τ).loc main_v41_0) :=
  val_main_v45 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The second result array. -/
abbrev result6 : Buf (Elt Ideal) ((c : Thread nD τ).loc main_v41_1) :=
  val_main_v28 (F := Ideal) (m ((c : Thread nD τ).loc main_arg0)) (m ((c : Thread nD τ).loc main_arg2))
    (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The reciprocal root of a row's mean square, in the kernel's tile. -/
theorem root_eq (t : Fin cfg0.N) (i : Fin 512) :
    k0_pay3 (F := Ideal) (iblk m c 2 t) (ix2 i 0) = rms 1024 epsR (fun k => xIn m c (ix2 (row t i) k)) := by
  refine (pay3_apply _ i).trans ?_
  congr 1
  funext k
  exact iblk2 m c t i k

/-- A tile of the first result: element by element the reference's gradient of the input. -/
theorem tile5 (t : Fin cfg0.N) (i : Fin 512) (j : Fin 1024) :
    k0_pay6 (F := Ideal) (iblk m c 0 t) (iblk m c 1 t) (iblk m c 2 t) (iblk m c 3 t) (iblk m c 4 t) (ix2 i j)
      = result5 m c (ix2 (row t i) j) := by
  refine (pay6_apply _ _ _ _ _ i j).trans ?_
  rw [result5, v45_apply, ← rms_grad 1024 epsR (by norm_num) epsR_pos
    (fun k => xIn m c (ix2 (row t i) k))
    (fun k => dn m c (ix2 (row t i) k) * wIn m c (ix2 0 k)) j]
  simp only [product_eq, pay4_apply, root_eq, iblk2, iblk3, iblk4]

/-- One tile's row of the second result: the sum over the tile's rows. -/
theorem tile6 (t : Fin cfg0.N) (j : Fin 1024) :
    k0_pay5 (F := Ideal) (iblk m c 0 t) (iblk m c 1 t) (iblk m c 2 t) (ix2 0 j)
      = ∑ i : Fin 512, xIn m c (ix2 (row t i) j)
          * rms 1024 epsR (fun k => xIn m c (ix2 (row t i) k)) * dn m c (ix2 (row t i) j) := by
  refine (pay5_apply _ _ _ j).trans (Finset.sum_congr rfl fun i _ => ?_)
  simp only [product_eq, pay4_apply, root_eq, iblk2]
  exact mul_comm _ _

/-- Row `R`'s term of the weight's gradient. -/
abbrev term (j : Fin 1024) (R : Fin 8192) : EReal :=
  xIn m c (ix2 R j)
    * rms 1024 epsR (fun k => xIn m c (ix2 R k)) * dn m c (ix2 R j)

/-- One tile's row of the second result, over the terms of all rows. -/
theorem tile6_ext (t : Fin cfg0.N) (j : Fin 1024) :
    k0_pay5 (F := Ideal) (iblk m c 0 t) (iblk m c 1 t) (iblk m c 2 t) (ix2 0 j)
      = ∑ i : Fin 512, ext (term m c j) (512 * t.val + i.val) :=
  (tile6 m c t j).trans (Finset.sum_congr rfl fun i _ => (ext_of_lt (term m c j) _ (row t i).isLt).symm)

/-- The accumulation: after point `n` the second output's buffer holds the sum over the tiles so far. -/
theorem outs_snd (j : Fin 1024) : ∀ (n : ℕ) (h : n < cfg0.N), (outsAt0 m c n h).2 (ix2 0 j)
    = ∑ t ∈ Finset.range (n + 1), ∑ i : Fin 512, ext (term m c j) (512 * t + i.val)
  | 0, h => by
    rw [outs_snd_zero, Finset.sum_range_one]
    exact tile6_ext m c ⟨0, h⟩ j
  | n + 1, h => by
    rw [outs_snd_succ, Finset.sum_range_succ, ← outs_snd j n (Nat.lt_of_succ_lt h), ← tile6_ext m c ⟨n + 1, h⟩ j]
    pointwise [k0_pay1]

/-- So the last point leaves the reference's gradient of the weight. -/
theorem outs_last (h : 15 < cfg0.N) : (outsAt0 m c 15 h).2 = result6 m c := by
  funext y
  obtain ⟨p, j, rfl⟩ : ∃ (p : Fin 1) (j : Fin 1024), y = ix2 p j := ⟨y 0, y 1, funext fun a => match a with | ⟨0, _⟩ => rfl | ⟨1, _⟩ => rfl⟩
  obtain rfl : p = 0 := Subsingleton.elim _ _
  rw [outs_snd, result6, v28_apply, sum_tiles 16 512]
  refine Finset.sum_congr rfl fun R _ => ?_
  rw [ext_of_lt _ _ R.isLt, v7_apply]

/-- What each point writes back of the first result is the reference's block there. -/
theorem flushed5_eq (t : Fin cfg0.N) (_ : (cfg0.win 5).flush t = true) :
    (dats m 0 c).flushed 5 t = ((cfg0.win 5).blk t).view.read (Elt Ideal) (result5 m c) := by
  rw [Value.flushed5, outs_fst]
  funext y
  obtain ⟨i, j, rfl⟩ : ∃ (i : Fin 512) (j : Fin 1024), y = ix2 i j := ⟨y 0, y 1, funext fun a => match a with | ⟨0, _⟩ => rfl | ⟨1, _⟩ => rfl⟩
  rw [View.read_apply]
  refine (tile5 m c t i j).trans ?_
  show _ = result5 m c _
  congr 1
  funext a
  apply Fin.ext
  match a with
  | ⟨0, _⟩ => show 512 * t.val + i.val = win0_5.index t 0 * 512 + 1 * i.val; rw [(index_eq t).2.2.2.2.2.1.1]; omega
  | ⟨1, _⟩ => show j.val = win0_5.index t 1 * 1024 + 1 * j.val; rw [(index_eq t).2.2.2.2.2.1.2]; omega

/-- The first result array ends holding the reference's gradient of the input. -/
theorem final5 : (dats m 0 c).arrAt 5 cfg0.N = result5 m c :=
  (dats m 0 c).arrAt_eq_of_cover 5 (result5 m c) (flushed5_eq m c)
    ((by decide +kernel : (cfg0.win 5).Covers).cover _ (Memref.isWhole_whole _))

/-- The one write-back of the second result, at the last point. -/
theorem flushed6_eq (t : Fin cfg0.N) (hf : (cfg0.win 6).flush t = true) :
    (dats m 0 c).flushed 6 t = ((cfg0.win 6).blk t).view.read (Elt Ideal) (result6 m c) := by
  have hN : t.val < 16 := t.isLt
  obtain ⟨n, hn⟩ := t
  obtain rfl : n = 15 := by have := (flush0_6 ⟨n, hn⟩).mp hf; dsimp only at this hN; omega
  rw [Value.flushed6, outs_last]
  funext y
  obtain ⟨i, j, rfl⟩ : ∃ (i : Fin 1) (j : Fin 1024), y = ix2 i j := ⟨y 0, y 1, funext fun a => match a with | ⟨0, _⟩ => rfl | ⟨1, _⟩ => rfl⟩
  rw [View.read_apply]
  show result6 m c (ix2 i j) = result6 m c _
  congr 1
  funext a
  apply Fin.ext
  match a with
  | ⟨0, _⟩ => show i.val = win0_6.index _ 0 * 1 + 1 * i.val; rw [(index_eq ⟨15, hn⟩).2.2.2.2.2.2.1]; omega
  | ⟨1, _⟩ => show j.val = win0_6.index _ 1 * 1024 + 1 * j.val; rw [(index_eq ⟨15, hn⟩).2.2.2.2.2.2.2]; omega

/-- The second result array ends holding the reference's gradient of the weight. -/
theorem final6 : (dats m 0 c).arrAt 6 cfg0.N = result6 m c :=
  (dats m 0 c).arrAt_eq_of_cover 6 (result6 m c) (flushed6_eq m c)
    ((by decide +kernel : (cfg0.win 6).Covers).cover _ (Memref.isWhole_whole _))

end Cert.DuKernelIdeal.Result

end
-- ==== Proof.DuClaim.lean ====
/- The claims about the input-projection gradient: its frames, and its value against the reference. -/
module

public import proofs.«01_k».proof.Defs
public import proofs.«01_k».proof.Proof.DuValue
public import proofs.«01_k».proof.Proof.Gen.DuKernel
public import proofs.«01_k».proof.Proof.Gen.DuKernel.Frame
public import proofs.«01_k».proof.Proof.Gen.DuReferenceIdeal.Run
public import Idealize.ShloMosaic.Adequacy
public import Idealize.ShloMosaic.Init

@[expose] public section

noncomputable section

namespace Cert.Proof

open Idealize.ShloMosaic Idealize.SL.Sem

/-- The reference runs to the end with every semaphore at zero and its arguments kept. -/
theorem du_reference_frame : Cert.quiescent_DuReferenceIdeal (hDuReferenceIdeal := Cert.DuReferenceIdeal.Gen.facts) := fun m ρ _ =>
  (θ_run (Cert.DuReferenceIdeal.defs (F := Ideal)) _ _).mono
    (fun r h => ⟨fun c => (h c).2.2, Idealize.ShloMosaic.sem_eq_zero_of_no_sems (by decide) r.2⟩)
    (Cert.DuReferenceIdeal.Value.run (F := Ideal) m ρ)

/-- THE VALUE: the kernel's two result arrays are the reference's, at every input. -/
theorem du_algebraic : Cert.algebraic_DuKernelIdeal_DuReferenceIdeal (hDuKernelIdeal := Cert.DuKernelIdeal.Gen.facts)
    (hDuReferenceIdeal := Cert.DuReferenceIdeal.Gen.facts) := by
  intro m g m' g' _ hm
  refine ⟨fun c => Cert.DuKernelIdeal.Result.result5 m c, fun c => Cert.DuKernelIdeal.Result.result6 m c, ?_, ?_⟩
  · exact (θ_run (Cert.DuKernelIdeal.defs (F := Ideal)) _ _).mono
      (fun r h c => ⟨(h c).1.trans (Cert.DuKernelIdeal.Result.final5 m c), (h c).2.1.trans (Cert.DuKernelIdeal.Result.final6 m c), (h c).2.2⟩)
      (Cert.DuKernelIdeal.Value.run_blocks (F := Ideal) m g)
  · refine (θ_run (Cert.DuReferenceIdeal.defs (F := Ideal)) _ _).mono (fun r h c => ⟨(h c).1.trans ?_, (h c).2.1.trans ?_, (h c).2.2⟩)
      (Cert.DuReferenceIdeal.Value.run (F := Ideal) m' g')
    · obtain ⟨e0, e1, e2, e3, e4, e5, e6, e7, e8, e9, e10, e11⟩ := hm c
      refine (Cert.DuReferenceIdeal.Read.val_main_v45_eq (F := Ideal) m' c).trans ?_
      rw [e0, e1, e2, e3, e4, e5, e6, e7, e8, e9, e10, e11]
    · obtain ⟨e0, e1, e2, e3, e4, e5, e6, e7, e8, e9, e10, e11⟩ := hm c
      refine (Cert.DuReferenceIdeal.Read.val_main_v28_eq (F := Ideal) _ _ _ _ _ _ _ _ _ _).trans ?_
      rw [e0, e2, e4, e5, e6, e7, e8, e9, e10, e11]

end Cert.Proof

end
-- ==== Proof.WupValue.lean ====
/- The gradient of the feed-forward's first weight: the kernel's result array is the reference's. -/
module

public import Idealize.ShloMosaic.Lib.Pipeline.ValueKit
public import Idealize.ShloMosaic.Lib.Pipeline.ReadBack
public import Idealize.ShloMosaic.Lib.Pointwise
public import proofs.«01_k».proof.Proof.Gen.WupKernelIdeal.Value
public import proofs.«01_k».proof.Proof.Gen.WupReferenceIdeal.Read

@[expose] public section

set_option maxRecDepth 16384

noncomputable section

namespace Cert.WupKernelIdeal.Result

open Cert.WupKernelIdeal Cert.WupKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments. -/
abbrev lhs : S8192x5632.Idx → EReal := m ((c : Thread nD τ).loc main_arg1)
abbrev rhs : S8192x1024.Idx → EReal := m ((c : Thread nD τ).loc main_arg0)

theorem pay1_apply (A : Vec Ideal S2048x1408 .bf16) (B : Vec Ideal S2048x1024 .bf16) (i : Fin 1408) (j : Fin 1024) :
    k0_pay1 (F := Ideal) A B (ix2 i j) = ∑ k : Fin 2048, A (ix2 k i) * B (ix2 k j) := by
  pointwise [k0_pay1]

theorem V_lhs : V m c main_v0 = lhs m c := by
  unfold V hostOps0; after_results_simp <;> rfl

theorem V_rhs : V m c main_v1 = rhs m c := by
  unfold V hostOps0; after_results_simp <;> rfl

abbrev result : Buf (Elt Ideal) ((c : Thread nD τ).loc main_v2) :=
  Cert.WupReferenceIdeal.Read.val_main_v5 (F := Ideal) (rhs m c) (lhs m c)

theorem result_apply (i : Fin 5632) (j : Fin 1024) : result m c (ix2 i j) = ∑ k : Fin 8192, lhs m c (ix2 k i) * rhs m c (ix2 k j) := by
  pointwise [result, Cert.WupReferenceIdeal.Read.val_main_v5, Cert.WupReferenceIdeal.Read.val_main_v4, Cert.WupReferenceIdeal.Read.val_main_v3, Cert.WupReferenceIdeal.Read.val_main_v2]

/-- One point's product. -/
abbrev term (t : Fin cfg0.N) : Vec Ideal S1408x1024 .f32 := k0_pay1 (F := Ideal) (iblk m c 0 t) (iblk m c 1 t)

/-- A run's last point holds the run's sum. -/
theorem acc (t : Fin cfg0.N) (ht : t.val % 4 = 4 - 1) (y : S1408x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      rw [outsAt0_A m c t h (by omega) (by omega)]
      frame_out
      pointwise [term, k0_pay2]
      )
    (fun t h y => by
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]
      ) t ht y
  rw [zero_add] at h
  exact h

theorem final : (dats m 0 c).arrAt 2 cfg0.N = result m c := by
  refine (dats m 0 c).arrAt_eq_of_covers 2 _ (by decide +kernel) fun t hf y => ?_
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1408) (j : Fin 1024), y = ix2 i j := ⟨y 0, y 1, funext fun a => match a with | ⟨0, _⟩ => rfl | ⟨1, _⟩ => rfl⟩
  have hN : t.val < 16 := t.isLt
  have eG : ((cfg0.win 2).blk t).view.emb (ix2 i j) = ix2 (⟨1408 * (t.val / 4) + i.val, by omega⟩ : Fin 5632) j := by
    blk_ext [idx t]
  rw [eG, result_apply]
  simp only [pay1_apply]
  refine Fin.sum_mul_add_congr fun s k hl => ?_
  rw [← V_lhs, ← V_rhs]
  congr 1 <;> blk_ext [iblk, idx _]

end Cert.WupKernelIdeal.Result

end
-- ==== Proof.WdnValue.lean ====
/- The gradient of the feed-forward's second weight: the kernel's result array is the reference's. -/
module

public import Idealize.ShloMosaic.Lib.Pipeline.ValueKit
public import Idealize.ShloMosaic.Lib.Pipeline.ReadBack
public import Idealize.ShloMosaic.Lib.Pointwise
public import proofs.«01_k».proof.Proof.Gen.WdnKernelIdeal.Value
public import proofs.«01_k».proof.Proof.Gen.WdnReferenceIdeal.Read

@[expose] public section

set_option maxRecDepth 16384

noncomputable section

namespace Cert.WdnKernelIdeal.Result

open Cert.WdnKernelIdeal Cert.WdnKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments. -/
abbrev lhs : S8192x2816.Idx → EReal := m ((c : Thread nD τ).loc main_arg0)
abbrev rhs : S8192x1024.Idx → EReal := m ((c : Thread nD τ).loc main_arg1)

theorem pay1_apply (A : Vec Ideal S2048x1408 .bf16) (B : Vec Ideal S2048x1024 .bf16) (i : Fin 1408) (j : Fin 1024) :
    k0_pay1 (F := Ideal) A B (ix2 i j) = ∑ k : Fin 2048, A (ix2 k i) * B (ix2 k j) := by
  pointwise [k0_pay1]

theorem V_lhs : V m c main_v0 = lhs m c := by
  unfold V hostOps0; after_results_simp <;> rfl

theorem V_rhs : V m c main_v1 = rhs m c := by
  unfold V hostOps0; after_results_simp <;> rfl

abbrev result : Buf (Elt Ideal) ((c : Thread nD τ).loc main_v2) :=
  Cert.WdnReferenceIdeal.Read.val_main_v4 (F := Ideal) (lhs m c) (rhs m c)

theorem result_apply (i : Fin 2816) (j : Fin 1024) : result m c (ix2 i j) = ∑ k : Fin 8192, lhs m c (ix2 k i) * rhs m c (ix2 k j) := by
  pointwise [result, Cert.WdnReferenceIdeal.Read.val_main_v4, Cert.WdnReferenceIdeal.Read.val_main_v3, Cert.WdnReferenceIdeal.Read.val_main_v2]
  exact (Finset.sum_congr rfl fun k _ => mul_comm (rhs m c (ix2 k j)) (lhs m c (ix2 k i)) :
    ∑ k : Fin 8192, rhs m c (ix2 k j) * lhs m c (ix2 k i) = ∑ k : Fin 8192, lhs m c (ix2 k i) * rhs m c (ix2 k j))

/-- One point's product. -/
abbrev term (t : Fin cfg0.N) : Vec Ideal S1408x1024 .f32 := k0_pay1 (F := Ideal) (iblk m c 0 t) (iblk m c 1 t)

/-- A run's last point holds the run's sum. -/
theorem acc (t : Fin cfg0.N) (ht : t.val % 4 = 4 - 1) (y : S1408x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      rw [outsAt0_A m c t h (by omega) (by omega)]
      frame_out
      pointwise [term, k0_pay2]
      )
    (fun t h y => by
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]
      ) t ht y
  rw [zero_add] at h
  exact h

theorem final : (dats m 0 c).arrAt 2 cfg0.N = result m c := by
  refine (dats m 0 c).arrAt_eq_of_covers 2 _ (by decide +kernel) fun t hf y => ?_
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1408) (j : Fin 1024), y = ix2 i j := ⟨y 0, y 1, funext fun a => match a with | ⟨0, _⟩ => rfl | ⟨1, _⟩ => rfl⟩
  have hN : t.val < 8 := t.isLt
  have eG : ((cfg0.win 2).blk t).view.emb (ix2 i j) = ix2 (⟨1408 * (t.val / 4) + i.val, by omega⟩ : Fin 2816) j := by
    blk_ext [idx t]
  rw [eG, result_apply]
  simp only [pay1_apply]
  refine Fin.sum_mul_add_congr fun s k hl => ?_
  rw [← V_lhs, ← V_rhs]
  congr 1 <;> blk_ext [iblk, idx _]

end Cert.WdnKernelIdeal.Result

end
-- ==== Proof.WmixValue.lean ====
/- The gradient of the merging projection's weight: the kernel's result array is the reference's. -/
module

public import Idealize.ShloMosaic.Lib.Pipeline.ValueKit
public import Idealize.ShloMosaic.Lib.Pipeline.ReadBack
public import Idealize.ShloMosaic.Lib.Pointwise
public import proofs.«01_k».proof.Proof.Gen.WmixKernelIdeal.Value
public import proofs.«01_k».proof.Proof.Gen.WmixReferenceIdeal.Read

@[expose] public section

set_option maxRecDepth 16384

noncomputable section

namespace Cert.WmixKernelIdeal.Result

open Cert.WmixKernelIdeal Cert.WmixKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments. -/
abbrev lhs : S8192x1024.Idx → EReal := m ((c : Thread nD τ).loc main_arg0)
abbrev rhs : S8192x1024.Idx → EReal := m ((c : Thread nD τ).loc main_arg1)

theorem pay1_apply (A : Vec Ideal S2048x1024 .bf16) (B : Vec Ideal S2048x1024 .bf16) (i : Fin 1024) (j : Fin 1024) :
    k0_pay1 (F := Ideal) A B (ix2 i j) = ∑ k : Fin 2048, A (ix2 k i) * B (ix2 k j) := by
  pointwise [k0_pay1]

theorem V_lhs : V m c main_v0 = lhs m c := by
  unfold V hostOps0; after_results_simp <;> rfl

theorem V_rhs : V m c main_v1 = rhs m c := by
  unfold V hostOps0; after_results_simp <;> rfl

abbrev result : Buf (Elt Ideal) ((c : Thread nD τ).loc main_v2) :=
  Cert.WmixReferenceIdeal.Read.val_main_v4 (F := Ideal) (lhs m c) (rhs m c)

theorem result_apply (i : Fin 1024) (j : Fin 1024) : result m c (ix2 i j) = ∑ k : Fin 8192, lhs m c (ix2 k i) * rhs m c (ix2 k j) := by
  pointwise [result, Cert.WmixReferenceIdeal.Read.val_main_v4, Cert.WmixReferenceIdeal.Read.val_main_v3, Cert.WmixReferenceIdeal.Read.val_main_v2]
  exact (Finset.sum_congr rfl fun k _ => mul_comm (rhs m c (ix2 k j)) (lhs m c (ix2 k i)) :
    ∑ k : Fin 8192, rhs m c (ix2 k j) * lhs m c (ix2 k i) = ∑ k : Fin 8192, lhs m c (ix2 k i) * rhs m c (ix2 k j))

/-- One point's product. -/
abbrev term (t : Fin cfg0.N) : Vec Ideal S1024x1024 .f32 := k0_pay1 (F := Ideal) (iblk m c 0 t) (iblk m c 1 t)

/-- A run's last point holds the run's sum. -/
theorem acc (t : Fin cfg0.N) (ht : t.val % 4 = 4 - 1) (y : S1024x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      have hN : t.val < 4 := t.isLt
      rw [outsAt0_A m c t h (by omega) (by omega)]
      frame_out
      pointwise [term, k0_pay2]
      )
    (fun t h y => by
      have hN : t.val < 4 := t.isLt
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]
      ) t ht y
  rw [zero_add] at h
  exact h

theorem final : (dats m 0 c).arrAt 2 cfg0.N = result m c := by
  refine (dats m 0 c).arrAt_eq_of_covers 2 _ (by decide +kernel) fun t hf y => ?_
  have hN : t.val < 4 := t.isLt
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 2).blk t).view.emb (ix2 i j) = ix2 (⟨1024 * (t.val / 4) + i.val, by omega⟩ : Fin 1024) j := by
    blk_ext [idx t]
  rw [eG, result_apply]
  simp only [pay1_apply]
  refine Fin.sum_mul_add_congr fun s k hl => ?_
  rw [← V_lhs, ← V_rhs]
  congr 1 <;> blk_ext [iblk, idx _]

end Cert.WmixKernelIdeal.Result

end
-- ==== Proof.WsoValue.lean ====
/- The gradient of the state-space branch's output projection: the kernel's result array is the reference's. -/
module

public import Idealize.ShloMosaic.Lib.Pipeline.ValueKit
public import Idealize.ShloMosaic.Lib.Pipeline.ReadBack
public import Idealize.ShloMosaic.Lib.Pointwise
public import proofs.«01_k».proof.Proof.Gen.WsoKernelIdeal.Value
public import proofs.«01_k».proof.Proof.Gen.WsoReferenceIdeal.Read

@[expose] public section

set_option maxRecDepth 16384

noncomputable section

namespace Cert.WsoKernelIdeal.Result

open Cert.WsoKernelIdeal Cert.WsoKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments. -/
abbrev lhs : S8192x2048.Idx → EReal := m ((c : Thread nD τ).loc main_arg0)
abbrev rhs : S8192x1024.Idx → EReal := m ((c : Thread nD τ).loc main_arg1)

theorem pay1_apply (A : Vec Ideal S2048x1024 .bf16) (B : Vec Ideal S2048x1024 .bf16) (i : Fin 1024) (j : Fin 1024) :
    k0_pay1 (F := Ideal) A B (ix2 i j) = ∑ k : Fin 2048, A (ix2 k i) * B (ix2 k j) := by
  pointwise [k0_pay1]

theorem V_lhs : V m c main_v0 = lhs m c := by
  unfold V hostOps0; after_results_simp <;> rfl

theorem V_rhs : V m c main_v1 = rhs m c := by
  unfold V hostOps0; after_results_simp <;> rfl

abbrev result : Buf (Elt Ideal) ((c : Thread nD τ).loc main_v2) :=
  Cert.WsoReferenceIdeal.Read.val_main_v4 (F := Ideal) (lhs m c) (rhs m c)

theorem result_apply (i : Fin 2048) (j : Fin 1024) : result m c (ix2 i j) = ∑ k : Fin 8192, lhs m c (ix2 k i) * rhs m c (ix2 k j) := by
  pointwise [result, Cert.WsoReferenceIdeal.Read.val_main_v4, Cert.WsoReferenceIdeal.Read.val_main_v3, Cert.WsoReferenceIdeal.Read.val_main_v2]
  exact (Finset.sum_congr rfl fun k _ => mul_comm (rhs m c (ix2 k j)) (lhs m c (ix2 k i)) :
    ∑ k : Fin 8192, rhs m c (ix2 k j) * lhs m c (ix2 k i) = ∑ k : Fin 8192, lhs m c (ix2 k i) * rhs m c (ix2 k j))

/-- One point's product. -/
abbrev term (t : Fin cfg0.N) : Vec Ideal S1024x1024 .f32 := k0_pay1 (F := Ideal) (iblk m c 0 t) (iblk m c 1 t)

/-- A run's last point holds the run's sum. -/
theorem acc (t : Fin cfg0.N) (ht : t.val % 4 = 4 - 1) (y : S1024x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      rw [outsAt0_A m c t h (by omega) (by omega)]
      frame_out
      pointwise [term, k0_pay2]
      )
    (fun t h y => by
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]
      ) t ht y
  rw [zero_add] at h
  exact h

theorem final : (dats m 0 c).arrAt 2 cfg0.N = result m c := by
  refine (dats m 0 c).arrAt_eq_of_covers 2 _ (by decide +kernel) fun t hf y => ?_
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1024) (j : Fin 1024), y = ix2 i j := ⟨y 0, y 1, funext fun a => match a with | ⟨0, _⟩ => rfl | ⟨1, _⟩ => rfl⟩
  have hN : t.val < 8 := t.isLt
  have eG : ((cfg0.win 2).blk t).view.emb (ix2 i j) = ix2 (⟨1024 * (t.val / 4) + i.val, by omega⟩ : Fin 2048) j := by
    blk_ext [idx t]
  rw [eG, result_apply]
  simp only [pay1_apply]
  refine Fin.sum_mul_add_congr fun s k hl => ?_
  rw [← V_lhs, ← V_rhs]
  congr 1 <;> blk_ext [iblk, idx _]

end Cert.WsoKernelIdeal.Result

end
-- ==== Proof.WaoValue.lean ====
/- The gradient of the attention branch's output projection: the kernel's result array is the reference's. -/
module

public import Idealize.ShloMosaic.Lib.Pipeline.ValueKit
public import Idealize.ShloMosaic.Lib.Pipeline.ReadBack
public import Idealize.ShloMosaic.Lib.Pointwise
public import proofs.«01_k».proof.Proof.Gen.WaoKernelIdeal.Value
public import proofs.«01_k».proof.Proof.Gen.WaoReferenceIdeal.Read

@[expose] public section

set_option maxRecDepth 16384

noncomputable section

namespace Cert.WaoKernelIdeal.Result

open Cert.WaoKernelIdeal Cert.WaoKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments. -/
abbrev lhs : S8192x1024.Idx → EReal := m ((c : Thread nD τ).loc main_arg0)
abbrev rhs : S8192x1024.Idx → EReal := m ((c : Thread nD τ).loc main_arg1)

theorem pay1_apply (A : Vec Ideal S2048x1024 .bf16) (B : Vec Ideal S2048x1024 .bf16) (i : Fin 1024) (j : Fin 1024) :
    k0_pay1 (F := Ideal) A B (ix2 i j) = ∑ k : Fin 2048, A (ix2 k i) * B (ix2 k j) := by
  pointwise [k0_pay1]

theorem V_lhs : V m c main_v0 = lhs m c := by
  unfold V hostOps0; after_results_simp <;> rfl

theorem V_rhs : V m c main_v1 = rhs m c := by
  unfold V hostOps0; after_results_simp <;> rfl

abbrev result : Buf (Elt Ideal) ((c : Thread nD τ).loc main_v2) :=
  Cert.WaoReferenceIdeal.Read.val_main_v4 (F := Ideal) (lhs m c) (rhs m c)

theorem result_apply (i : Fin 1024) (j : Fin 1024) : result m c (ix2 i j) = ∑ k : Fin 8192, lhs m c (ix2 k i) * rhs m c (ix2 k j) := by
  pointwise [result, Cert.WaoReferenceIdeal.Read.val_main_v4, Cert.WaoReferenceIdeal.Read.val_main_v3, Cert.WaoReferenceIdeal.Read.val_main_v2]
  exact (Finset.sum_congr rfl fun k _ => mul_comm (rhs m c (ix2 k j)) (lhs m c (ix2 k i)) :
    ∑ k : Fin 8192, rhs m c (ix2 k j) * lhs m c (ix2 k i) = ∑ k : Fin 8192, lhs m c (ix2 k i) * rhs m c (ix2 k j))

/-- One point's product. -/
abbrev term (t : Fin cfg0.N) : Vec Ideal S1024x1024 .f32 := k0_pay1 (F := Ideal) (iblk m c 0 t) (iblk m c 1 t)

/-- A run's last point holds the run's sum. -/
theorem acc (t : Fin cfg0.N) (ht : t.val % 4 = 4 - 1) (y : S1024x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      have hN : t.val < 4 := t.isLt
      rw [outsAt0_A m c t h (by omega) (by omega)]
      frame_out
      pointwise [term, k0_pay2]
      )
    (fun t h y => by
      have hN : t.val < 4 := t.isLt
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]
      ) t ht y
  rw [zero_add] at h
  exact h

theorem final : (dats m 0 c).arrAt 2 cfg0.N = result m c := by
  refine (dats m 0 c).arrAt_eq_of_covers 2 _ (by decide +kernel) fun t hf y => ?_
  have hN : t.val < 4 := t.isLt
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 2).blk t).view.emb (ix2 i j) = ix2 (⟨1024 * (t.val / 4) + i.val, by omega⟩ : Fin 1024) j := by
    blk_ext [idx t]
  rw [eG, result_apply]
  simp only [pay1_apply]
  refine Fin.sum_mul_add_congr fun s k hl => ?_
  rw [← V_lhs, ← V_rhs]
  congr 1 <;> blk_ext [iblk, idx _]

end Cert.WaoKernelIdeal.Result

end
-- ==== Proof.WgradClaim.lean ====
/- The claims about the five plain weight gradients: each kernel's frame, its reference's frame, and its value
   against the reference. -/
module

public import proofs.«01_k».proof.Defs
public import proofs.«01_k».proof.Proof.WupValue
public import proofs.«01_k».proof.Proof.WdnValue
public import proofs.«01_k».proof.Proof.WmixValue
public import proofs.«01_k».proof.Proof.WsoValue
public import proofs.«01_k».proof.Proof.WaoValue
public import proofs.«01_k».proof.Proof.Gen.WupReferenceIdeal.Run
public import proofs.«01_k».proof.Proof.Gen.WdnReferenceIdeal.Run
public import proofs.«01_k».proof.Proof.Gen.WmixReferenceIdeal.Run
public import proofs.«01_k».proof.Proof.Gen.WsoReferenceIdeal.Run
public import proofs.«01_k».proof.Proof.Gen.WaoReferenceIdeal.Run
public import Idealize.ShloMosaic.Adequacy
public import Idealize.ShloMosaic.Init

@[expose] public section

noncomputable section

namespace Cert.Proof

open Idealize.ShloMosaic Idealize.SL.Sem

/-- The reference of the gradient of the gated unit's first weight runs to the end with every semaphore at zero and its arguments kept. -/
theorem wup_reference_frame : Cert.quiescent_WupReferenceIdeal (hWupReferenceIdeal := Cert.WupReferenceIdeal.Gen.facts) := fun m ρ _ =>
  (θ_run (Cert.WupReferenceIdeal.defs (F := Ideal)) _ _).mono
    (fun r h => ⟨fun c => (h c).2, sem_eq_zero_of_no_sems (by decide) r.2⟩)
    (Cert.WupReferenceIdeal.Value.run (F := Ideal) m ρ)

/-- THE VALUE of the gradient of the gated unit's first weight: the kernel's result array is the reference's, at every input. -/
theorem wup_algebraic : Cert.algebraic_WupKernelIdeal_WupReferenceIdeal (hWupKernelIdeal := Cert.WupKernelIdeal.Gen.facts)
    (hWupReferenceIdeal := Cert.WupReferenceIdeal.Gen.facts) := by
  intro m g m' g' _ hm
  refine ⟨fun c => Cert.WupKernelIdeal.Result.result m c, ?_, ?_⟩
  · exact (θ_run (Cert.WupKernelIdeal.defs (F := Ideal)) _ _).mono
      (fun r h c => ⟨(h c).1.trans (Cert.WupKernelIdeal.Result.final m c), (h c).2⟩)
      (Cert.WupKernelIdeal.Value.run_blocks (F := Ideal) m g)
  · refine (θ_run (Cert.WupReferenceIdeal.defs (F := Ideal)) _ _).mono (fun r h c => ⟨(h c).1.trans ?_, (h c).2⟩)
      (Cert.WupReferenceIdeal.Value.run (F := Ideal) m' g')
    obtain ⟨e0, e1⟩ := hm c
    rw [e0, e1]
    exact (Cert.WupReferenceIdeal.Read.val_main_v5_eq _ _).symm

/-- The reference of the gradient of the gated unit's second weight runs to the end with every semaphore at zero and its arguments kept. -/
theorem wdn_reference_frame : Cert.quiescent_WdnReferenceIdeal (hWdnReferenceIdeal := Cert.WdnReferenceIdeal.Gen.facts) := fun m ρ _ =>
  (θ_run (Cert.WdnReferenceIdeal.defs (F := Ideal)) _ _).mono
    (fun r h => ⟨fun c => (h c).2, sem_eq_zero_of_no_sems (by decide) r.2⟩)
    (Cert.WdnReferenceIdeal.Value.run (F := Ideal) m ρ)

/-- THE VALUE of the gradient of the gated unit's second weight: the kernel's result array is the reference's, at every input. -/
theorem wdn_algebraic : Cert.algebraic_WdnKernelIdeal_WdnReferenceIdeal (hWdnKernelIdeal := Cert.WdnKernelIdeal.Gen.facts)
    (hWdnReferenceIdeal := Cert.WdnReferenceIdeal.Gen.facts) := by
  intro m g m' g' _ hm
  refine ⟨fun c => Cert.WdnKernelIdeal.Result.result m c, ?_, ?_⟩
  · exact (θ_run (Cert.WdnKernelIdeal.defs (F := Ideal)) _ _).mono
      (fun r h c => ⟨(h c).1.trans (Cert.WdnKernelIdeal.Result.final m c), (h c).2⟩)
      (Cert.WdnKernelIdeal.Value.run_blocks (F := Ideal) m g)
  · refine (θ_run (Cert.WdnReferenceIdeal.defs (F := Ideal)) _ _).mono (fun r h c => ⟨(h c).1.trans ?_, (h c).2⟩)
      (Cert.WdnReferenceIdeal.Value.run (F := Ideal) m' g')
    obtain ⟨e0, e1⟩ := hm c
    rw [e0, e1]
    exact (Cert.WdnReferenceIdeal.Read.val_main_v4_eq _ _).symm

/-- The reference of the gradient of the mixing weight runs to the end with every semaphore at zero and its arguments kept. -/
theorem wmix_reference_frame : Cert.quiescent_WmixReferenceIdeal (hWmixReferenceIdeal := Cert.WmixReferenceIdeal.Gen.facts) := fun m ρ _ =>
  (θ_run (Cert.WmixReferenceIdeal.defs (F := Ideal)) _ _).mono
    (fun r h => ⟨fun c => (h c).2, sem_eq_zero_of_no_sems (by decide) r.2⟩)
    (Cert.WmixReferenceIdeal.Value.run (F := Ideal) m ρ)

/-- THE VALUE of the gradient of the mixing weight: the kernel's result array is the reference's, at every input. -/
theorem wmix_algebraic : Cert.algebraic_WmixKernelIdeal_WmixReferenceIdeal (hWmixKernelIdeal := Cert.WmixKernelIdeal.Gen.facts)
    (hWmixReferenceIdeal := Cert.WmixReferenceIdeal.Gen.facts) := by
  intro m g m' g' _ hm
  refine ⟨fun c => Cert.WmixKernelIdeal.Result.result m c, ?_, ?_⟩
  · exact (θ_run (Cert.WmixKernelIdeal.defs (F := Ideal)) _ _).mono
      (fun r h c => ⟨(h c).1.trans (Cert.WmixKernelIdeal.Result.final m c), (h c).2⟩)
      (Cert.WmixKernelIdeal.Value.run_blocks (F := Ideal) m g)
  · refine (θ_run (Cert.WmixReferenceIdeal.defs (F := Ideal)) _ _).mono (fun r h c => ⟨(h c).1.trans ?_, (h c).2⟩)
      (Cert.WmixReferenceIdeal.Value.run (F := Ideal) m' g')
    obtain ⟨e0, e1⟩ := hm c
    rw [e0, e1]
    exact (Cert.WmixReferenceIdeal.Read.val_main_v4_eq _ _).symm

/-- The reference of the gradient of the recurrence's output weight runs to the end with every semaphore at zero and its arguments kept. -/
theorem wso_reference_frame : Cert.quiescent_WsoReferenceIdeal (hWsoReferenceIdeal := Cert.WsoReferenceIdeal.Gen.facts) := fun m ρ _ =>
  (θ_run (Cert.WsoReferenceIdeal.defs (F := Ideal)) _ _).mono
    (fun r h => ⟨fun c => (h c).2, sem_eq_zero_of_no_sems (by decide) r.2⟩)
    (Cert.WsoReferenceIdeal.Value.run (F := Ideal) m ρ)

/-- THE VALUE of the gradient of the recurrence's output weight: the kernel's result array is the reference's, at every input. -/
theorem wso_algebraic : Cert.algebraic_WsoKernelIdeal_WsoReferenceIdeal (hWsoKernelIdeal := Cert.WsoKernelIdeal.Gen.facts)
    (hWsoReferenceIdeal := Cert.WsoReferenceIdeal.Gen.facts) := by
  intro m g m' g' _ hm
  refine ⟨fun c => Cert.WsoKernelIdeal.Result.result m c, ?_, ?_⟩
  · exact (θ_run (Cert.WsoKernelIdeal.defs (F := Ideal)) _ _).mono
      (fun r h c => ⟨(h c).1.trans (Cert.WsoKernelIdeal.Result.final m c), (h c).2⟩)
      (Cert.WsoKernelIdeal.Value.run_blocks (F := Ideal) m g)
  · refine (θ_run (Cert.WsoReferenceIdeal.defs (F := Ideal)) _ _).mono (fun r h c => ⟨(h c).1.trans ?_, (h c).2⟩)
      (Cert.WsoReferenceIdeal.Value.run (F := Ideal) m' g')
    obtain ⟨e0, e1⟩ := hm c
    rw [e0, e1]
    exact (Cert.WsoReferenceIdeal.Read.val_main_v4_eq _ _).symm

/-- The reference of the gradient of the attention's output weight runs to the end with every semaphore at zero and its arguments kept. -/
theorem wao_reference_frame : Cert.quiescent_WaoReferenceIdeal (hWaoReferenceIdeal := Cert.WaoReferenceIdeal.Gen.facts) := fun m ρ _ =>
  (θ_run (Cert.WaoReferenceIdeal.defs (F := Ideal)) _ _).mono
    (fun r h => ⟨fun c => (h c).2, sem_eq_zero_of_no_sems (by decide) r.2⟩)
    (Cert.WaoReferenceIdeal.Value.run (F := Ideal) m ρ)

/-- THE VALUE of the gradient of the attention's output weight: the kernel's result array is the reference's, at every input. -/
theorem wao_algebraic : Cert.algebraic_WaoKernelIdeal_WaoReferenceIdeal (hWaoKernelIdeal := Cert.WaoKernelIdeal.Gen.facts)
    (hWaoReferenceIdeal := Cert.WaoReferenceIdeal.Gen.facts) := by
  intro m g m' g' _ hm
  refine ⟨fun c => Cert.WaoKernelIdeal.Result.result m c, ?_, ?_⟩
  · exact (θ_run (Cert.WaoKernelIdeal.defs (F := Ideal)) _ _).mono
      (fun r h c => ⟨(h c).1.trans (Cert.WaoKernelIdeal.Result.final m c), (h c).2⟩)
      (Cert.WaoKernelIdeal.Value.run_blocks (F := Ideal) m g)
  · refine (θ_run (Cert.WaoReferenceIdeal.defs (F := Ideal)) _ _).mono (fun r h c => ⟨(h c).1.trans ?_, (h c).2⟩)
      (Cert.WaoReferenceIdeal.Value.run (F := Ideal) m' g')
    obtain ⟨e0, e1⟩ := hm c
    rw [e0, e1]
    exact (Cert.WaoReferenceIdeal.Read.val_main_v4_eq _ _).symm

end Cert.Proof

end
-- ==== Proof.DhRef.lean ====
/- The reference of the gradient that passes the two norms around the gated unit's input, read at an element. -/
module

public import proofs.«01_k».proof.Proof.RmsMath
public import proofs.«01_k».proof.Proof.Gen.DhReferenceIdeal.Read

@[expose] public section

noncomputable section

namespace Cert.DhReferenceIdeal.Ref

open Cert.DhReferenceIdeal Cert.DhReferenceIdeal.Gen Cert.DhReferenceIdeal.Read Idealize.ShloMosaic Cert.Maths

variable (x mm dout : (⟨S8192x1024, .f32⟩ : BufTy).Contents (Elt Ideal)) (wpost wpre : (⟨S1x1024, .f32⟩ : BufTy).Contents (Elt Ideal))
  (wup : (⟨S1024x5632, .f32⟩ : BufTy).Contents (Elt Ideal)) (dup : (⟨S8192x5632, .f32⟩ : BufTy).Contents (Elt Ideal))

/-- The reciprocal root of a row's mean square, of the mixed projection. -/
theorem v7_apply (R : Fin 8192) : val_main_v7 (F := Ideal) mm (ix2 R 0) = rms 1024 epsR (fun k => mm (ix2 R k)) := by
  pointwise [val_main_v7, val_main_v6, val_main_v5, val_main_v4, val_main_v3, val_main_v2, val_main_v1, val_main_v0, val_main_cst,
    val_main_cst_0, val_main_cst_1, ofBits_eps, ofBits_1024]
  rfl

/-- The stream between the two halves of the layer. -/
theorem v15_apply (R : Fin 8192) (j : Fin 1024) : val_main_v15 (F := Ideal) x mm wpost (ix2 R j)
    = x (ix2 R j) + mm (ix2 R j) * rms 1024 epsR (fun k => mm (ix2 R k)) * wpost (ix2 0 j) := by
  pointwise [val_main_v15, val_main_v14, val_main_v13, val_main_v12, val_main_v11, v7_apply]

/-- The reciprocal root of a row's mean square, of that stream. -/
theorem v23_apply (R : Fin 8192) : val_main_v23 (F := Ideal) x mm wpost (ix2 R 0)
    = rms 1024 epsR (fun k => val_main_v15 (F := Ideal) x mm wpost (ix2 R k)) := by
  pointwise [val_main_v23, val_main_v22, val_main_v21, val_main_v20, val_main_v19, val_main_v18, val_main_v17, val_main_v16, val_main_cst_3,
    val_main_cst_4, val_main_cst_5, ofBits_eps, ofBits_1024]
  rfl

/-- The gradient of the normalised stream: the product with the transposed weights. -/
theorem v32_apply (R : Fin 8192) (j : Fin 1024) : val_main_v32 (F := Ideal) wup dup (ix2 R j)
    = ∑ k : Fin 5632, dup (ix2 R k) * wup (ix2 j k) := by
  pointwise [val_main_v32]

/-- The gradient of the second norm's weight: the sum over the rows. -/
theorem v35_apply (j : Fin 1024) : val_main_v35 (F := Ideal) x mm wpost wup dup (ix2 0 j)
    = ∑ R : Fin 8192, val_main_v15 (F := Ideal) x mm wpost (ix2 R j) * rms 1024 epsR (fun k => val_main_v15 (F := Ideal) x mm wpost (ix2 R k))
        * val_main_v32 (F := Ideal) wup dup (ix2 R j) := by
  pointwise [val_main_v35, val_main_v34, val_main_v33, val_main_v28, val_main_v27, val_main_cst_7, v23_apply]

/-- The gradient of the stream, in the form the kernels compute. -/
theorem v52_apply (R : Fin 8192) (j : Fin 1024) : val_main_v52 (F := Ideal) x mm wpost wpre wup dout dup (ix2 R j)
    = dout (ix2 R j) + rms 1024 epsR (fun k => val_main_v15 (F := Ideal) x mm wpost (ix2 R k))
      * (val_main_v32 (F := Ideal) wup dup (ix2 R j) * wpre (ix2 0 j)
        - val_main_v15 (F := Ideal) x mm wpost (ix2 R j) * rms 1024 epsR (fun k => val_main_v15 (F := Ideal) x mm wpost (ix2 R k))
          * Ideal.div (∑ k : Fin 1024, val_main_v32 (F := Ideal) wup dup (ix2 R k) * wpre (ix2 0 k)
              * (val_main_v15 (F := Ideal) x mm wpost (ix2 R k) * rms 1024 epsR (fun k => val_main_v15 (F := Ideal) x mm wpost (ix2 R k)))) ((1024 : ℝ) : EReal)) := by
  rw [rms_grad 1024 epsR (by norm_num) epsR_pos (fun k => val_main_v15 (F := Ideal) x mm wpost (ix2 R k))
    (fun k => val_main_v32 (F := Ideal) wup dup (ix2 R k) * wpre (ix2 0 k)) j]
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v26, val_main_v25,
    val_main_v24, val_main_v22, val_main_v21, val_main_v20, val_main_v19, val_main_v18, val_main_v17, val_main_v16, val_main_cst_3,
    val_main_cst_4, val_main_cst_5, val_main_cst_6, val_main_cst_8, val_main_cst_9, val_main_cst_10, ofBits_eps, ofBits_1024, ofBits_neg_half]
  simp only [Fin.sum_univ_one, v23_apply, add_assoc]

theorem v53_apply (R : Fin 8192) (j : Fin 1024) : val_main_v53 (F := Ideal) x mm wpost wpre wup dout dup (ix2 R j)
    = val_main_v52 (F := Ideal) x mm wpost wpre wup dout dup (ix2 R j) := by
  pointwise [val_main_v53]

/-- The gradient of the first norm's weight: the sum over the rows. -/
theorem v56_apply (j : Fin 1024) : val_main_v56 (F := Ideal) x mm wpost wpre wup dout dup (ix2 0 j)
    = ∑ R : Fin 8192, mm (ix2 R j) * rms 1024 epsR (fun k => mm (ix2 R k)) * val_main_v52 (F := Ideal) x mm wpost wpre wup dout dup (ix2 R j) := by
  pointwise [val_main_v56, val_main_v55, val_main_v54, val_main_v12, val_main_v11, val_main_cst_11, v7_apply, v53_apply]

/-- The gradient of the mixed projection, in the form the kernels compute. -/
theorem v73_apply (R : Fin 8192) (j : Fin 1024) : val_main_v73 (F := Ideal) x mm wpost wpre wup dout dup (ix2 R j)
    = rms 1024 epsR (fun k => mm (ix2 R k))
      * (val_main_v52 (F := Ideal) x mm wpost wpre wup dout dup (ix2 R j) * wpost (ix2 0 j)
        - mm (ix2 R j) * rms 1024 epsR (fun k => mm (ix2 R k))
          * Ideal.div (∑ k : Fin 1024, val_main_v52 (F := Ideal) x mm wpost wpre wup dout dup (ix2 R k) * wpost (ix2 0 k)
              * (mm (ix2 R k) * rms 1024 epsR (fun k => mm (ix2 R k)))) ((1024 : ℝ) : EReal)) := by
  rw [rms_grad 1024 epsR (by norm_num) epsR_pos (fun k => mm (ix2 R k))
    (fun k => val_main_v52 (F := Ideal) x mm wpost wpre wup dout dup (ix2 R k) * wpost (ix2 0 k)) j]
  pointwise [val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v10, val_main_v9,
    val_main_v8, val_main_v6, val_main_v5, val_main_v4, val_main_v3, val_main_v2, val_main_v1, val_main_v0, val_main_cst,
    val_main_cst_0, val_main_cst_1, val_main_cst_2, val_main_cst_12, val_main_cst_13, val_main_cst_14, ofBits_eps, ofBits_1024, ofBits_neg_half]
  simp only [Fin.sum_univ_one, v7_apply, v53_apply, add_assoc]

end Cert.DhReferenceIdeal.Ref

end
-- ==== Proof.DhValue.lean ====
/- The gradient that passes the two norms around the gated unit's input: the kernel's four result arrays are the
   reference's. -/
module

public import Idealize.ShloMosaic.Lib.Pipeline.ValueKit
public import Idealize.ShloMosaic.Lib.Pipeline.ReadBack
public import proofs.«01_k».proof.Proof.DhRef
public import proofs.«01_k».proof.Proof.Gen.DhKernelIdeal.Value

@[expose] public section

set_option maxRecDepth 16384

noncomputable section

namespace Cert.DhKernelIdeal.Result

open Cert.DhKernelIdeal Cert.DhKernelIdeal.Gen Idealize.ShloMosaic Idealize.ShloMosaic.TcCoe Idealize.SL.Sem
open Cert.Maths Cert.DhReferenceIdeal.Ref
open Cert.DhReferenceIdeal.Read (val_main_v15 val_main_v32 val_main_v35 val_main_v52 val_main_v56 val_main_v73)

variable (m : (ℓ : Loc nD τ sig) → Buf (Elt Ideal) ℓ) (c : Dev nD)

/-! ## The payloads at an element -/

section
variable (a : Vec Ideal S512x5632 .bf16) (b : Vec Ideal S5632x1024 .bf16) (w : Vec Ideal S1x1024 .f32) (x d : Vec Ideal S512x1024 .f32)

theorem pay2_apply (i : Fin 512) (j : Fin 1024) : k0_pay2 (F := Ideal) a b (ix2 i j) = ∑ k : Fin 5632, a (ix2 i k) * b (ix2 k j) := by
  pointwise [k0_pay2]

theorem pay4_apply (i : Fin 512) : k0_pay4 (F := Ideal) x (ix2 i 0) = rms 1024 epsR (fun k => x (ix2 i k)) := by
  pointwise [k0_pay4, k0_pay3, ofBits_eps, ofBits_1024]
  rfl

theorem pay5_apply (i : Fin 512) (j : Fin 1024) : k0_pay5 (F := Ideal) x (ix2 i j) = x (ix2 i j) * rms 1024 epsR (fun k => x (ix2 i k)) := by
  pointwise [k0_pay5, k0_pay3, pay4_apply]

theorem pay6_apply (j : Fin 1024) : k0_pay6 (F := Ideal) a b x (ix2 0 j)
    = ∑ i : Fin 512, k0_pay2 (F := Ideal) a b (ix2 i j) * (x (ix2 i j) * rms 1024 epsR (fun k => x (ix2 i k))) := by
  pointwise [k0_pay6, pay5_apply]

theorem pay7_apply (i : Fin 512) (j : Fin 1024) : k0_pay7 (F := Ideal) a b x w d (ix2 i j)
    = d (ix2 i j) + rms 1024 epsR (fun k => x (ix2 i k))
      * (k0_pay2 (F := Ideal) a b (ix2 i j) * w (ix2 0 j) - x (ix2 i j) * rms 1024 epsR (fun k => x (ix2 i k))
        * Ideal.div (∑ k : Fin 1024, k0_pay2 (F := Ideal) a b (ix2 i k) * w (ix2 0 k) * (x (ix2 i k) * rms 1024 epsR (fun k => x (ix2 i k))))
          ((1024 : ℝ) : EReal)) := by
  pointwise [k0_pay7, pay5_apply, pay4_apply, ofBits_1024]

theorem pay8_apply (i : Fin 512) : k0_pay8 (F := Ideal) x (ix2 i 0) = rms 1024 epsR (fun k => x (ix2 i k)) := by
  pointwise [k0_pay8, ofBits_eps, ofBits_1024]
  rfl

theorem pay9_apply (i : Fin 512) (j : Fin 1024) : k0_pay9 (F := Ideal) x (ix2 i j) = x (ix2 i j) * rms 1024 epsR (fun k => x (ix2 i k)) := by
  pointwise [k0_pay9, pay8_apply]

theorem pay10_apply (j : Fin 1024) : k0_pay10 (F := Ideal) d x (ix2 0 j)
    = ∑ i : Fin 512, d (ix2 i j) * (x (ix2 i j) * rms 1024 epsR (fun k => x (ix2 i k))) := by
  pointwise [k0_pay10, pay9_apply]

theorem pay11_apply (i : Fin 512) (j : Fin 1024) : k0_pay11 (F := Ideal) d x w (ix2 i j)
    = rms 1024 epsR (fun k => x (ix2 i k))
      * (d (ix2 i j) * w (ix2 0 j) - x (ix2 i j) * rms 1024 epsR (fun k => x (ix2 i k))
        * Ideal.div (∑ k : Fin 1024, d (ix2 i k) * w (ix2 0 k) * (x (ix2 i k) * rms 1024 epsR (fun k => x (ix2 i k)))) ((1024 : ℝ) : EReal)) := by
  pointwise [k0_pay11, pay9_apply, pay8_apply, ofBits_1024]

end

/-! ## The blocks -/

/-- The block each window reads at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0])

/-- Row `i` of tile `t`. -/
abbrev row (t : Fin cfg0.N) (i : Fin 512) : Fin 8192 :=
  ⟨512 * t.val + i.val, by have : t.val < 16 := t.isLt; omega⟩

abbrev xs : S8192x1024.Idx → EReal := m ((c : Thread nD τ).loc main_arg0)
abbrev mm : S8192x1024.Idx → EReal := m ((c : Thread nD τ).loc main_arg1)
abbrev wpost : S1x1024.Idx → EReal := m ((c : Thread nD τ).loc main_arg2)
abbrev wpre : S1x1024.Idx → EReal := m ((c : Thread nD τ).loc main_arg3)
abbrev wup : S1024x5632.Idx → EReal := m ((c : Thread nD τ).loc main_arg4)
abbrev dout : S8192x1024.Idx → EReal := m ((c : Thread nD τ).loc main_arg5)
abbrev dup : S8192x5632.Idx → EReal := m ((c : Thread nD τ).loc main_arg6)

/-- The stream and its gradients, at the kernel's arguments. -/
abbrev x1 : S8192x1024.Idx → EReal := val_main_v15 (F := Ideal) (xs m c) (mm m c) (wpost m c)
abbrev dh : S8192x1024.Idx → EReal := val_main_v32 (F := Ideal) (wup m c) (dup m c)
abbrev dx1 : S8192x1024.Idx → EReal := val_main_v52 (F := Ideal) (xs m c) (mm m c) (wpost m c) (wpre m c) (wup m c) (dout m c) (dup m c)

theorem V_dup : V m c main_v13 = dup m c := by
  unfold V hostOps0
  after_results_simp <;> rfl

theorem V_wup (k : Fin 5632) (j : Fin 1024) : V m c main_v15 (ix2 k j) = wup m c (ix2 j k) := by
  unfold V hostOps0
  after_results_simp; pointwise

theorem V_x1 : V m c main_v12 = x1 m c := by
  unfold V hostOps0
  after_results_simp <;> rfl

theorem iblk0 (t : Fin cfg0.N) (i : Fin 512) (k : Fin 5632) : (iblk m c 0 t : Vec Ideal S512x5632 .bf16) (ix2 i k) = dup m c (ix2 (row t i) k) := by
  rw [← V_dup]; blk_ext [iblk, idx t]

theorem iblk1 (t : Fin cfg0.N) (k : Fin 5632) (j : Fin 1024) : (iblk m c 1 t : Vec Ideal S5632x1024 .bf16) (ix2 k j) = wup m c (ix2 j k) := by
  rw [← V_wup]; blk_ext [iblk, idx t]

theorem iblk2 (t : Fin cfg0.N) (i : Fin 512) (j : Fin 1024) : (iblk m c 2 t : Vec Ideal S512x1024 .f32) (ix2 i j) = x1 m c (ix2 (row t i) j) := by
  rw [← V_x1]; blk_ext [iblk, idx t]

theorem iblk3 (t : Fin cfg0.N) (j : Fin 1024) : (iblk m c 3 t : Vec Ideal S1x1024 .f32) (ix2 0 j) = wpre m c (ix2 0 j) := by
  rw [wpre, ← V_main_arg3 m c]; blk_ext [iblk, idx t]

theorem iblk4 (t : Fin cfg0.N) (i : Fin 512) (j : Fin 1024) : (iblk m c 4 t : Vec Ideal S512x1024 .f32) (ix2 i j) = dout m c (ix2 (row t i) j) := by
  rw [dout, ← V_main_arg5 m c]; blk_ext [iblk, idx t]

theorem iblk5 (t : Fin cfg0.N) (i : Fin 512) (j : Fin 1024) : (iblk m c 5 t : Vec Ideal S512x1024 .f32) (ix2 i j) = mm m c (ix2 (row t i) j) := by
  rw [mm, ← V_main_arg1 m c]; blk_ext [iblk, idx t]

theorem iblk6 (t : Fin cfg0.N) (j : Fin 1024) : (iblk m c 6 t : Vec Ideal S1x1024 .f32) (ix2 0 j) = wpost m c (ix2 0 j) := by
  rw [wpost, ← V_main_arg2 m c]; blk_ext [iblk, idx t]

/-! ## A tile's values are the reference's rows -/

theorem dh_eq (t : Fin cfg0.N) (i : Fin 512) (j : Fin 1024) : k0_pay2 (F := Ideal) (iblk m c 0 t) (iblk m c 1 t) (ix2 i j)
    = dh m c (ix2 (row t i) j) := by
  simp only [pay2_apply, dh, v32_apply, iblk0, iblk1]

/-- The stream's gradient on a tile. -/
abbrev tile (t : Fin cfg0.N) : Vec Ideal S512x1024 .f32 :=
  k0_pay7 (F := Ideal) (iblk m c 0 t) (iblk m c 1 t) (iblk m c 2 t) (iblk m c 3 t) (iblk m c 4 t)

theorem dx1_eq (t : Fin cfg0.N) (i : Fin 512) (j : Fin 1024) : tile m c t (ix2 i j) = dx1 m c (ix2 (row t i) j) := by
  rw [tile, pay7_apply, dx1, v52_apply]
  simp only [dh_eq, iblk2, iblk3, iblk4]

/-! ## The results -/

abbrev result7 : Buf (Elt Ideal) ((c : Thread nD τ).loc main_v16_0) :=
  val_main_v52 (F := Ideal) (xs m c) (mm m c) (wpost m c) (wpre m c) (wup m c) (dout m c) (dup m c)
abbrev result8 : Buf (Elt Ideal) ((c : Thread nD τ).loc main_v16_1) :=
  val_main_v73 (F := Ideal) (xs m c) (mm m c) (wpost m c) (wpre m c) (wup m c) (dout m c) (dup m c)
abbrev result9 : Buf (Elt Ideal) ((c : Thread nD τ).loc main_v16_2) := val_main_v35 (F := Ideal) (xs m c) (mm m c) (wpost m c) (wup m c) (dup m c)
abbrev result10 : Buf (Elt Ideal) ((c : Thread nD τ).loc main_v16_3) :=
  val_main_v56 (F := Ideal) (xs m c) (mm m c) (wpost m c) (wpre m c) (wup m c) (dout m c) (dup m c)

theorem emb7 (t : Fin cfg0.N) (i : Fin 512) (j : Fin 1024) : ((cfg0.win 7).blk t).view.emb (ix2 i j) = ix2 (row t i) j := by
  blk_ext [idx t]

theorem emb8 (t : Fin cfg0.N) (i : Fin 512) (j : Fin 1024) : ((cfg0.win 8).blk t).view.emb (ix2 i j) = ix2 (row t i) j := by
  blk_ext [idx t]

/-- What the first output's buffer holds after a point. -/
theorem outs7 (t : Fin cfg0.N) : (outsAt0 m c t.val t.isLt).1 = tile m c t := by
  have hN : t.val < 16 := t.isLt
  by_cases h : t.val % 16 = 0
  · rw [outsAt0_A m c t h (by omega) h (by omega)]; frame_out
  · rw [outsAt0_B m c t h (by omega) h (by omega)]; frame_out

/-- What the second output's buffer holds after a point. -/
theorem outs8 (t : Fin cfg0.N) : (outsAt0 m c t.val t.isLt).2.1 = k0_pay11 (F := Ideal) (tile m c t) (iblk m c 5 t) (iblk m c 6 t) := by
  have hN : t.val < 16 := t.isLt
  by_cases h : t.val % 16 = 0
  · rw [outsAt0_A m c t h (by omega) h (by omega)]; frame_out
  · rw [outsAt0_B m c t h (by omega) h (by omega)]; frame_out

/-- The gradient of the stream between the layer's halves. -/
theorem final7 : (dats m 0 c).arrAt 7 cfg0.N = result7 m c := by
  refine (dats m 0 c).arrAt_eq_of_covers 7 _ (by decide +kernel) fun t hf y => ?_
  blk_simp
  rw [after0_7, outs7]
  obtain ⟨i, j, rfl⟩ : ∃ (i : Fin 512) (j : Fin 1024), y = ix2 i j := ⟨y 0, y 1, funext fun a => match a with | ⟨0, _⟩ => rfl | ⟨1, _⟩ => rfl⟩
  rw [emb7, dx1_eq]

/-- The gradient of the mixed projection. -/
theorem final8 : (dats m 0 c).arrAt 8 cfg0.N = result8 m c := by
  refine (dats m 0 c).arrAt_eq_of_covers 8 _ (by decide +kernel) fun t hf y => ?_
  blk_simp
  rw [after0_8, outs8]
  obtain ⟨i, j, rfl⟩ : ∃ (i : Fin 512) (j : Fin 1024), y = ix2 i j := ⟨y 0, y 1, funext fun a => match a with | ⟨0, _⟩ => rfl | ⟨1, _⟩ => rfl⟩
  rw [emb8, result8, v73_apply, pay11_apply]
  simp only [dx1_eq, iblk5, iblk6]

/-- One tile's part of the second norm's weight gradient. -/
abbrev term9 (t : Fin cfg0.N) : Vec Ideal S1x1024 .f32 := k0_pay6 (F := Ideal) (iblk m c 0 t) (iblk m c 1 t) (iblk m c 2 t)

/-- One tile's part of the first norm's weight gradient. -/
abbrev term10 (t : Fin cfg0.N) : Vec Ideal S1x1024 .f32 := k0_pay10 (F := Ideal) (tile m c t) (iblk m c 5 t)

/-- The buffer after the last point: the sum of the tiles' parts. -/
theorem acc9 (y : S1x1024.Idx) : (outsAt0 m c t0_15.val t0_15.isLt).2.2.1 y = ∑ p : Fin cfg0.N, term9 m c p y := by
  have h := Pipeline.eq_sum_fin_of_reset_step_apply_last (fun n h => (outsAt0 m c n h).2.2.1) 16 (fun _ => (0 : EReal)) (term9 m c)
    (fun t h y => by
      have hN : t.val < 16 := t.isLt
      rw [outsAt0_A m c t h (by omega) h (by omega)]; frame_out; rw [zero_add])
    (fun t h y => by
      have hN : t.val < 16 := t.isLt
      rw [outsAt0_B m c t h (by omega) h (by omega)]; frame_out; pointwise [term9, k0_pay12])
    (le_of_eq N_0) t0_15 rfl y
  rw [zero_add] at h; exact h

theorem acc10 (y : S1x1024.Idx) : (outsAt0 m c t0_15.val t0_15.isLt).2.2.2 y = ∑ p : Fin cfg0.N, term10 m c p y := by
  have h := Pipeline.eq_sum_fin_of_reset_step_apply_last (fun n h => (outsAt0 m c n h).2.2.2) 16 (fun _ => (0 : EReal)) (term10 m c)
    (fun t h y => by
      have hN : t.val < 16 := t.isLt
      rw [outsAt0_A m c t h (by omega) h (by omega)]; frame_out; rw [zero_add])
    (fun t h y => by
      have hN : t.val < 16 := t.isLt
      rw [outsAt0_B m c t h (by omega) h (by omega)]; frame_out; pointwise [term10, k0_pay1])
    (le_of_eq N_0) t0_15 rfl y
  rw [zero_add] at h; exact h

/-- The gradient of the second norm's weight. -/
theorem final9 : (dats m 0 c).arrAt 9 cfg0.N = result9 m c := by
  refine (dats m 0 c).arrAt_eq_of_after_last 9 t0_15 (by decide +kernel) _ fun y => ?_
  blk_simp
  rw [after0_9, acc9]
  obtain ⟨j, rfl⟩ : ∃ j : Fin 1024, y = ix2 0 j := ⟨y 1, funext fun a => match a with | ⟨0, _⟩ => Subsingleton.elim (α := Fin 1) _ _ | ⟨1, _⟩ => rfl⟩
  rw [result9, v35_apply]
  simp only [term9, pay6_apply, dh_eq, iblk2]
  exact Fin.sum_mul_add_congr fun s k hl => by
    have hr : (⟨512 * s.val + k.val, by omega⟩ : Fin 8192) = ⟨s.val * 512 + k.val, hl⟩ := Fin.ext (by simp only; omega)
    simp only [row]; rw [mul_comm, hr]

/-- The gradient of the first norm's weight. -/
theorem final10 : (dats m 0 c).arrAt 10 cfg0.N = result10 m c := by
  refine (dats m 0 c).arrAt_eq_of_after_last 10 t0_15 (by decide +kernel) _ fun y => ?_
  blk_simp
  rw [after0_10, acc10]
  obtain ⟨j, rfl⟩ : ∃ j : Fin 1024, y = ix2 0 j := ⟨y 1, funext fun a => match a with | ⟨0, _⟩ => Subsingleton.elim (α := Fin 1) _ _ | ⟨1, _⟩ => rfl⟩
  rw [result10, v56_apply]
  simp only [term10, pay10_apply, dx1_eq, iblk5]
  exact Fin.sum_mul_add_congr fun s k hl => by
    have hr : (⟨512 * s.val + k.val, by omega⟩ : Fin 8192) = ⟨s.val * 512 + k.val, hl⟩ := Fin.ext (by simp only; omega)
    simp only [row]; rw [mul_comm, hr]

end Cert.DhKernelIdeal.Result

end
-- ==== Proof.DhClaim.lean ====
/- The claims about the gradient that passes the two norms around the gated unit's input. -/
module

public import proofs.«01_k».proof.Defs
public import proofs.«01_k».proof.Proof.DhValue
public import proofs.«01_k».proof.Proof.Gen.DhReferenceIdeal.Run
public import Idealize.ShloMosaic.Adequacy
public import Idealize.ShloMosaic.Init

@[expose] public section

noncomputable section

namespace Cert.Proof

open Idealize.ShloMosaic Idealize.SL.Sem

/-- The reference of the gradient of the stream between the layer's halves runs to the end with every semaphore at zero and its arguments kept. -/
theorem dh_reference_frame : Cert.quiescent_DhReferenceIdeal (hDhReferenceIdeal := Cert.DhReferenceIdeal.Gen.facts) := fun m ρ _ =>
  (θ_run (Cert.DhReferenceIdeal.defs (F := Ideal)) _ _).mono
    (fun r h => ⟨fun c => (h c).2.2.2.2, sem_eq_zero_of_no_sems (by decide) r.2⟩)
    (Cert.DhReferenceIdeal.Value.run (F := Ideal) m ρ)

/-- THE VALUE of the gradient of the stream between the layer's halves: the kernel's result arrays are the reference's, at every input. -/
theorem dh_algebraic : Cert.algebraic_DhKernelIdeal_DhReferenceIdeal (hDhKernelIdeal := Cert.DhKernelIdeal.Gen.facts)
    (hDhReferenceIdeal := Cert.DhReferenceIdeal.Gen.facts) := by
  intro m g m' g' _ hm
  refine ⟨fun c => Cert.DhKernelIdeal.Result.result7 m c, fun c => Cert.DhKernelIdeal.Result.result8 m c, fun c => Cert.DhKernelIdeal.Result.result9 m c, fun c => Cert.DhKernelIdeal.Result.result10 m c, ?_, ?_⟩
  · exact (θ_run (Cert.DhKernelIdeal.defs (F := Ideal)) _ _).mono
      (fun r h c => ⟨(h c).1.trans (Cert.DhKernelIdeal.Result.final7 m c), (h c).2.1.trans (Cert.DhKernelIdeal.Result.final8 m c), (h c).2.2.1.trans (Cert.DhKernelIdeal.Result.final9 m c), (h c).2.2.2.1.trans (Cert.DhKernelIdeal.Result.final10 m c), (h c).2.2.2.2⟩)
      (Cert.DhKernelIdeal.Value.run_blocks (F := Ideal) m g)
  · refine (θ_run (Cert.DhReferenceIdeal.defs (F := Ideal)) _ _).mono (fun r h c => ⟨(h c).1.trans ?_, (h c).2.1.trans ?_, (h c).2.2.1.trans ?_, (h c).2.2.2.1.trans ?_, (h c).2.2.2.2⟩)
      (Cert.DhReferenceIdeal.Value.run (F := Ideal) m' g')
    · obtain ⟨e0, e1, e2, e3, e4, e5, e6⟩ := hm c
      refine (Cert.DhReferenceIdeal.Read.val_main_v52_eq (F := Ideal) m' c).trans ?_
      rw [e0, e1, e2, e3, e4, e5, e6]
    · obtain ⟨e0, e1, e2, e3, e4, e5, e6⟩ := hm c
      refine (Cert.DhReferenceIdeal.Read.val_main_v73_eq (F := Ideal) m' c).trans ?_
      rw [e0, e1, e2, e3, e4, e5, e6]
    · obtain ⟨e0, e1, e2, e3, e4, e5, e6⟩ := hm c
      refine (Cert.DhReferenceIdeal.Read.val_main_v35_eq (F := Ideal) _ _ _ _ _).trans ?_
      rw [e0, e1, e2, e4, e6]
    · obtain ⟨e0, e1, e2, e3, e4, e5, e6⟩ := hm c
      refine (Cert.DhReferenceIdeal.Read.val_main_v56_eq (F := Ideal) m' c).trans ?_
      rw [e0, e1, e2, e3, e4, e5, e6]

end Cert.Proof

end
-- ==== Proof.LossRef.lean ====
/- The reference of the loss and of its gradient through the gated unit's output norm, read at an element. -/
module

public import proofs.«01_k».proof.Proof.RmsMath
public import proofs.«01_k».proof.Proof.Gen.LossReferenceIdeal.Read

@[expose] public section

noncomputable section

namespace Cert.LossReferenceIdeal.Ref

open Cert.LossReferenceIdeal Cert.LossReferenceIdeal.Gen Cert.LossReferenceIdeal.Read Idealize.ShloMosaic Cert.Maths

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

variable (act : (⟨S8192x2816, .f32⟩ : BufTy).Contents (Elt Ideal)) (wd : (⟨S2816x1024, .f32⟩ : BufTy).Contents (Elt Ideal))
  (x1 tgt : (⟨S8192x1024, .f32⟩ : BufTy).Contents (Elt Ideal)) (w : (⟨S1x1024, .f32⟩ : BufTy).Contents (Elt Ideal))

/-- The gated unit's output. -/
theorem v0_apply (R : Fin 8192) (j : Fin 1024) : val_main_v0 (F := Ideal) act wd (ix2 R j) = ∑ k : Fin 2816, act (ix2 R k) * wd (ix2 k j) := by
  pointwise [val_main_v0]

/-- The reciprocal root of a row's mean square. -/
theorem v8_apply (R : Fin 8192) : val_main_v8 (F := Ideal) act wd (ix2 R 0) = rms 1024 epsR (fun k => val_main_v0 (F := Ideal) act wd (ix2 R k)) := by
  pointwise [val_main_v8, val_main_v7, val_main_v6, val_main_v5, val_main_v4, val_main_v3, val_main_v2, val_main_v1, val_main_cst,
    val_main_cst_0, val_main_cst_1, ofBits_eps, ofBits_1024]
  rfl

/-- The distance from the target. -/
theorem v17_apply (R : Fin 8192) (j : Fin 1024) : val_main_v17 (F := Ideal) act wd x1 tgt w (ix2 R j)
    = x1 (ix2 R j) + val_main_v0 (F := Ideal) act wd (ix2 R j) * rms 1024 epsR (fun k => val_main_v0 (F := Ideal) act wd (ix2 R k)) * w (ix2 0 j)
      - tgt (ix2 R j) := by
  pointwise [val_main_v17, val_main_v16, val_main_v15, val_main_v14, val_main_v13, val_main_v12, v8_apply]

/-- The cotangent of the step's output. -/
theorem v31_apply (R : Fin 8192) (j : Fin 1024) : val_main_v31 (F := Ideal) act wd x1 tgt w (ix2 R j)
    = val_main_v17 (F := Ideal) act wd x1 tgt w (ix2 R j) * ((1 / 1024 : ℝ) : EReal) := by
  pointwise [val_main_v31, val_main_v30, val_main_v29, val_main_v28, val_main_v27, val_main_v26, val_main_v20, val_main_v19, val_main_cst_3,
    val_main_cst_8, val_main_cst_9, val_main_cst_10, ofBits_half, ofBits_one, ofBits_two, ofBits_1024]
  generalize val_main_v17 (F := Ideal) act wd x1 tgt w (ix2 R j) = e
  rw [Ideal.div_coe (by norm_num), ← mul_assoc, ← EReal.coe_mul, ← EReal.coe_mul, ← EReal.coe_mul, mul_comm]
  norm_num

/-- The gradient of the norm's weight: the sum over the rows. -/
theorem v34_apply (j : Fin 1024) : val_main_v34 (F := Ideal) act wd x1 tgt w (ix2 0 j)
    = ∑ R : Fin 8192, val_main_v0 (F := Ideal) act wd (ix2 R j) * rms 1024 epsR (fun k => val_main_v0 (F := Ideal) act wd (ix2 R k))
        * val_main_v31 (F := Ideal) act wd x1 tgt w (ix2 R j) := by
  pointwise [val_main_v34, val_main_v33, val_main_v32, val_main_v13, val_main_v12, val_main_cst_11, v8_apply]

/-- The gradient of the gated unit's output, in the form the kernels compute. -/
theorem v51_apply (R : Fin 8192) (j : Fin 1024) : val_main_v51 (F := Ideal) act wd x1 tgt w (ix2 R j)
    = rms 1024 epsR (fun k => val_main_v0 (F := Ideal) act wd (ix2 R k))
      * (val_main_v31 (F := Ideal) act wd x1 tgt w (ix2 R j) * w (ix2 0 j)
        - val_main_v0 (F := Ideal) act wd (ix2 R j) * rms 1024 epsR (fun k => val_main_v0 (F := Ideal) act wd (ix2 R k))
          * Ideal.div (∑ k : Fin 1024, val_main_v31 (F := Ideal) act wd x1 tgt w (ix2 R k) * w (ix2 0 k)
              * (val_main_v0 (F := Ideal) act wd (ix2 R k) * rms 1024 epsR (fun k => val_main_v0 (F := Ideal) act wd (ix2 R k)))) ((1024 : ℝ) : EReal)) := by
  rw [rms_grad 1024 epsR (by norm_num) epsR_pos (fun k => val_main_v0 (F := Ideal) act wd (ix2 R k))
    (fun k => val_main_v31 (F := Ideal) act wd x1 tgt w (ix2 R k) * w (ix2 0 k)) j]
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v11, val_main_v10,
    val_main_v9, val_main_v7, val_main_v6, val_main_v5, val_main_v4, val_main_v3, val_main_v2, val_main_v1, val_main_cst,
    val_main_cst_0, val_main_cst_1, val_main_cst_2, val_main_cst_12, val_main_cst_13, val_main_cst_14, ofBits_eps, ofBits_1024, ofBits_neg_half]
  simp only [Fin.sum_univ_one, v8_apply, add_assoc]

/-- The loss: half the sum over the rows of the mean squared distance, as one multiple of the sum of the squares. -/
theorem v52_apply : val_main_v52 (F := Ideal) act wd x1 tgt w (ix2 0 0)
    = ∑ R : Fin 8192, (∑ j : Fin 1024, val_main_v17 (F := Ideal) act wd x1 tgt w (ix2 R j) * val_main_v17 (F := Ideal) act wd x1 tgt w (ix2 R j))
        * ((1 / 2048 : ℝ) : EReal) := by
  pointwise [val_main_v52, val_main_v25, val_main_v24, val_main_v23, val_main_v22, val_main_v21, val_main_v18, val_main_cst_4, val_main_cst_5,
    val_main_cst_6, val_main_cst_7, ofBits_half, ofBits_1024]
  simp only [Ideal.div_coe (show (1024 : ℝ) ≠ 0 by norm_num)]
  rw [sum_mul_coe _ _ _ (by norm_num), sum_mul_coe _ _ _ (by norm_num), mul_comm, mul_assoc, ← EReal.coe_mul]
  norm_num

end Cert.LossReferenceIdeal.Ref

end
-- ==== Proof.LossValue.lean ====
/- The loss kernel's four result arrays are the reference's. -/
module

public import Idealize.ShloMosaic.Lib.Pipeline.ValueKit
public import Idealize.ShloMosaic.Lib.Pipeline.ReadBack
public import proofs.«01_k».proof.Proof.LossRef
public import proofs.«01_k».proof.Proof.Gen.LossKernelIdeal.Value

@[expose] public section

set_option maxRecDepth 16384

noncomputable section

namespace Cert.LossKernelIdeal.Result

open Cert.LossKernelIdeal Cert.LossKernelIdeal.Gen Idealize.ShloMosaic Idealize.ShloMosaic.TcCoe Idealize.SL.Sem
open Cert.Maths Cert.LossReferenceIdeal.Ref
open Cert.LossReferenceIdeal.Read (val_main_v0 val_main_v17 val_main_v31 val_main_v34 val_main_v51 val_main_v52)

variable (m : (ℓ : Loc nD τ sig) → Buf (Elt Ideal) ℓ) (c : Dev nD)

/-! ## The payloads at an element -/

section
variable (a : Vec Ideal S512x2816 .bf16) (b : Vec Ideal S2816x1024 .bf16) (w : Vec Ideal S1x1024 .f32) (x t : Vec Ideal S512x1024 .f32)

theorem pay6_apply (i : Fin 512) (j : Fin 1024) : k0_pay6 (F := Ideal) a b (ix2 i j) = ∑ k : Fin 2816, a (ix2 i k) * b (ix2 k j) := by
  pointwise [k0_pay6]

theorem pay9_apply (i : Fin 512) : k0_pay9 (F := Ideal) a b (ix2 i 0) = rms 1024 epsR (fun k => k0_pay6 (F := Ideal) a b (ix2 i k)) := by
  pointwise [k0_pay9, ofBits_eps, ofBits_1024]
  rfl

theorem pay7_apply (i : Fin 512) (j : Fin 1024) : k0_pay7 (F := Ideal) a b w x t (ix2 i j)
    = x (ix2 i j) + k0_pay6 (F := Ideal) a b (ix2 i j) * rms 1024 epsR (fun k => k0_pay6 (F := Ideal) a b (ix2 i k)) * w (ix2 0 j) - t (ix2 i j) := by
  pointwise [k0_pay7, ofBits_eps, ofBits_1024]
  rfl

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

theorem pay8_apply (i : Fin 512) (j : Fin 1024) : k0_pay8 (F := Ideal) a b w x t (ix2 i j)
    = k0_pay7 (F := Ideal) a b w x t (ix2 i j) * ((1 / 1024 : ℝ) : EReal) := by
  pointwise [k0_pay8, ofBits_inv_1024]

theorem pay10_apply (i : Fin 512) (j : Fin 1024) : k0_pay10 (F := Ideal) a b (ix2 i j)
    = k0_pay6 (F := Ideal) a b (ix2 i j) * k0_pay9 (F := Ideal) a b (ix2 i 0) := by
  pointwise [k0_pay10]

theorem pay11_apply (i : Fin 512) (j : Fin 1024) : k0_pay11 (F := Ideal) w (ix2 i j) = w (ix2 0 j) := by
  pointwise [k0_pay11]

theorem pay1_apply (j : Fin 1024) : k0_pay1 (F := Ideal) x t (ix2 0 j) = ∑ i : Fin 512, x (ix2 i j) * t (ix2 i j) := by
  pointwise [k0_pay1]

theorem pay2_apply (r : Vec Ideal S512x1 .f32) (y : Vec Ideal S512x1024 .f32) (i : Fin 512) (j : Fin 1024) :
    k0_pay2 (F := Ideal) x r t y (ix2 i j)
      = r (ix2 i 0) * (x (ix2 i j) * y (ix2 i j)
        - t (ix2 i j) * Ideal.div (∑ k : Fin 1024, x (ix2 i k) * y (ix2 i k) * t (ix2 i k)) ((1024 : ℝ) : EReal)) := by
  pointwise [k0_pay2, ofBits_1024]

theorem pay4_apply : k0_pay4 (F := Ideal) x (ix2 0 0)
    = ∑ i : Fin 512, (∑ j : Fin 1024, x (ix2 i j) * x (ix2 i j)) * ((1 / 2048 : ℝ) : EReal) := by
  pointwise [k0_pay4, ofBits_inv_2048]
  rw [sum_mul_coe _ _ _ (by norm_num)]

end

/-! ## The blocks -/

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0])

/-- Row `i` of tile `t`. -/
abbrev row (t : Fin cfg0.N) (i : Fin 512) : Fin 8192 :=
  ⟨512 * t.val + i.val, by have : t.val < 16 := t.isLt; omega⟩

abbrev act : S8192x2816.Idx → EReal := m ((c : Thread nD τ).loc main_arg0)
abbrev wd : S2816x1024.Idx → EReal := m ((c : Thread nD τ).loc main_arg1)
abbrev x1 : S8192x1024.Idx → EReal := m ((c : Thread nD τ).loc main_arg2)
abbrev tgt : S8192x1024.Idx → EReal := m ((c : Thread nD τ).loc main_arg3)
abbrev wn : S1x1024.Idx → EReal := m ((c : Thread nD τ).loc main_arg4)

theorem V_act : V m c main_v0 = act m c := by
  unfold V hostOps0
  after_results_simp <;> rfl

theorem V_wd : V m c main_v1 = wd m c := by
  unfold V hostOps0
  after_results_simp <;> rfl

theorem iblk0 (t : Fin cfg0.N) (i : Fin 512) (k : Fin 2816) : (iblk m c 0 t : Vec Ideal S512x2816 .bf16) (ix2 i k) = act m c (ix2 (row t i) k) := by
  rw [← V_act]; blk_ext [iblk, idx t]

theorem iblk1 (t : Fin cfg0.N) (k : Fin 2816) (j : Fin 1024) : (iblk m c 1 t : Vec Ideal S2816x1024 .bf16) (ix2 k j) = wd m c (ix2 k j) := by
  rw [← V_wd]; blk_ext [iblk, idx t]

theorem iblk2 (t : Fin cfg0.N) (i : Fin 512) (j : Fin 1024) : (iblk m c 2 t : Vec Ideal S512x1024 .f32) (ix2 i j) = x1 m c (ix2 (row t i) j) := by
  rw [x1, ← V_main_arg2 m c]; blk_ext [iblk, idx t]

theorem iblk3 (t : Fin cfg0.N) (i : Fin 512) (j : Fin 1024) : (iblk m c 3 t : Vec Ideal S512x1024 .f32) (ix2 i j) = tgt m c (ix2 (row t i) j) := by
  rw [tgt, ← V_main_arg3 m c]; blk_ext [iblk, idx t]

theorem iblk4 (t : Fin cfg0.N) (j : Fin 1024) : (iblk m c 4 t : Vec Ideal S1x1024 .f32) (ix2 0 j) = wn m c (ix2 0 j) := by
  rw [wn, ← V_main_arg4 m c]; blk_ext [iblk, idx t]

/-! ## A tile's values are the reference's rows -/

theorem ff_eq (t : Fin cfg0.N) (i : Fin 512) (j : Fin 1024) : k0_pay6 (F := Ideal) (iblk m c 0 t) (iblk m c 1 t) (ix2 i j)
    = val_main_v0 (F := Ideal) (act m c) (wd m c) (ix2 (row t i) j) := by
  simp only [pay6_apply, v0_apply, iblk0, iblk1]

theorem err_eq (t : Fin cfg0.N) (i : Fin 512) (j : Fin 1024) :
    k0_pay7 (F := Ideal) (iblk m c 0 t) (iblk m c 1 t) (iblk m c 4 t) (iblk m c 2 t) (iblk m c 3 t) (ix2 i j)
      = val_main_v17 (F := Ideal) (act m c) (wd m c) (x1 m c) (tgt m c) (wn m c) (ix2 (row t i) j) := by
  simp only [pay7_apply, v17_apply, ff_eq, iblk2, iblk3, iblk4]

theorem dout_eq (t : Fin cfg0.N) (i : Fin 512) (j : Fin 1024) :
    k0_pay8 (F := Ideal) (iblk m c 0 t) (iblk m c 1 t) (iblk m c 4 t) (iblk m c 2 t) (iblk m c 3 t) (ix2 i j)
      = val_main_v31 (F := Ideal) (act m c) (wd m c) (x1 m c) (tgt m c) (wn m c) (ix2 (row t i) j) := by
  simp only [pay8_apply, v31_apply, err_eq]

/-! ## The results -/

abbrev result5 : Buf (Elt Ideal) ((c : Thread nD τ).loc main_v2_0) := val_main_v51 (F := Ideal) (act m c) (wd m c) (x1 m c) (tgt m c) (wn m c)
abbrev result6 : Buf (Elt Ideal) ((c : Thread nD τ).loc main_v2_1) := val_main_v31 (F := Ideal) (act m c) (wd m c) (x1 m c) (tgt m c) (wn m c)
abbrev result7 : Buf (Elt Ideal) ((c : Thread nD τ).loc main_v2_2) := val_main_v52 (F := Ideal) (act m c) (wd m c) (x1 m c) (tgt m c) (wn m c)
abbrev result8 : Buf (Elt Ideal) ((c : Thread nD τ).loc main_v2_3) := val_main_v34 (F := Ideal) (act m c) (wd m c) (x1 m c) (tgt m c) (wn m c)

/-- The block an output window writes at a point, and its place in the array. -/
theorem emb5 (t : Fin cfg0.N) (i : Fin 512) (j : Fin 1024) : ((cfg0.win 5).blk t).view.emb (ix2 i j) = ix2 (row t i) j := by
  blk_ext [idx t]

theorem emb6 (t : Fin cfg0.N) (i : Fin 512) (j : Fin 1024) : ((cfg0.win 6).blk t).view.emb (ix2 i j) = ix2 (row t i) j := by
  blk_ext [idx t]

/-- What the first output's buffer holds after a point. -/
theorem outs5 (t : Fin cfg0.N) : (outsAt0 m c t.val t.isLt).1
    = k0_pay2 (F := Ideal) (k0_pay8 (iblk m c 0 t) (iblk m c 1 t) (iblk m c 4 t) (iblk m c 2 t) (iblk m c 3 t))
      (k0_pay9 (iblk m c 0 t) (iblk m c 1 t)) (k0_pay10 (iblk m c 0 t) (iblk m c 1 t)) (k0_pay11 (iblk m c 4 t)) := by
  have hN : t.val < 16 := t.isLt
  by_cases h : t.val % 16 = 0
  · rw [outsAt0_A m c t h (by omega) h (by omega)]; frame_out
  · rw [outsAt0_B m c t h (by omega) h (by omega)]; frame_out

/-- What the second output's buffer holds after a point. -/
theorem outs6 (t : Fin cfg0.N) : (outsAt0 m c t.val t.isLt).2.1
    = k0_pay8 (F := Ideal) (iblk m c 0 t) (iblk m c 1 t) (iblk m c 4 t) (iblk m c 2 t) (iblk m c 3 t) := by
  have hN : t.val < 16 := t.isLt
  by_cases h : t.val % 16 = 0
  · rw [outsAt0_A m c t h (by omega) h (by omega)]; frame_out
  · rw [outsAt0_B m c t h (by omega) h (by omega)]; frame_out

/-- The gradient of the gated unit's output. -/
theorem final5 : (dats m 0 c).arrAt 5 cfg0.N = result5 m c := by
  refine (dats m 0 c).arrAt_eq_of_covers 5 _ (by decide +kernel) fun t hf y => ?_
  blk_simp
  rw [after0_5, outs5]
  obtain ⟨i, j, rfl⟩ : ∃ (i : Fin 512) (j : Fin 1024), y = ix2 i j := ⟨y 0, y 1, funext fun a => match a with | ⟨0, _⟩ => rfl | ⟨1, _⟩ => rfl⟩
  rw [emb5, result5, v51_apply, pay2_apply]
  simp only [dout_eq, pay9_apply, pay10_apply, pay11_apply, ff_eq, iblk4]

/-- The cotangent of the step's output. -/
theorem final6 : (dats m 0 c).arrAt 6 cfg0.N = result6 m c := by
  refine (dats m 0 c).arrAt_eq_of_covers 6 _ (by decide +kernel) fun t hf y => ?_
  blk_simp
  rw [after0_6, outs6]
  obtain ⟨i, j, rfl⟩ : ∃ (i : Fin 512) (j : Fin 1024), y = ix2 i j := ⟨y 0, y 1, funext fun a => match a with | ⟨0, _⟩ => rfl | ⟨1, _⟩ => rfl⟩
  rw [emb6, dout_eq]

/-- One tile's part of the loss. -/
abbrev term7 (t : Fin cfg0.N) : Vec Ideal S1x1 .f32 :=
  k0_pay4 (F := Ideal) (k0_pay7 (iblk m c 0 t) (iblk m c 1 t) (iblk m c 4 t) (iblk m c 2 t) (iblk m c 3 t))

/-- One tile's part of the gradient of the norm's weight. -/
abbrev term8 (t : Fin cfg0.N) : Vec Ideal S1x1024 .f32 :=
  k0_pay1 (F := Ideal) (k0_pay8 (iblk m c 0 t) (iblk m c 1 t) (iblk m c 4 t) (iblk m c 2 t) (iblk m c 3 t)) (k0_pay10 (iblk m c 0 t) (iblk m c 1 t))

/-- The loss's buffer after the last point: the sum of the tiles' parts. -/
theorem acc7 (y : S1x1.Idx) : (outsAt0 m c t0_15.val t0_15.isLt).2.2.1 y = ∑ p : Fin cfg0.N, term7 m c p y := by
  have h := Pipeline.eq_sum_fin_of_reset_step_apply_last (fun n h => (outsAt0 m c n h).2.2.1) 16 (fun _ => (0 : EReal)) (term7 m c)
    (fun t h y => by
      have hN : t.val < 16 := t.isLt
      rw [outsAt0_A m c t h (by omega) h (by omega)]; frame_out; rw [zero_add])
    (fun t h y => by
      have hN : t.val < 16 := t.isLt
      rw [outsAt0_B m c t h (by omega) h (by omega)]; frame_out; pointwise [term7, k0_pay5])
    (le_of_eq N_0) t0_15 rfl y
  rw [zero_add] at h; exact h

/-- The weight gradient's buffer after the last point: the sum of the tiles' parts. -/
theorem acc8 (y : S1x1024.Idx) : (outsAt0 m c t0_15.val t0_15.isLt).2.2.2 y = ∑ p : Fin cfg0.N, term8 m c p y := by
  have h := Pipeline.eq_sum_fin_of_reset_step_apply_last (fun n h => (outsAt0 m c n h).2.2.2) 16 (fun _ => (0 : EReal)) (term8 m c)
    (fun t h y => by
      have hN : t.val < 16 := t.isLt
      rw [outsAt0_A m c t h (by omega) h (by omega)]; frame_out; rw [zero_add])
    (fun t h y => by
      have hN : t.val < 16 := t.isLt
      rw [outsAt0_B m c t h (by omega) h (by omega)]; frame_out; pointwise [term8, k0_pay3])
    (le_of_eq N_0) t0_15 rfl y
  rw [zero_add] at h; exact h

/-- The loss. -/
theorem final7 : (dats m 0 c).arrAt 7 cfg0.N = result7 m c := by
  refine (dats m 0 c).arrAt_eq_of_after_last 7 t0_15 (by decide +kernel) _ fun y => ?_
  blk_simp
  rw [after0_7, acc7]
  obtain rfl : y = ix2 0 0 := funext fun a => match a with | ⟨0, _⟩ => Subsingleton.elim (α := Fin 1) _ _ | ⟨1, _⟩ => Subsingleton.elim (α := Fin 1) _ _
  rw [result7, v52_apply]
  simp only [term7, pay4_apply, err_eq]
  exact Fin.sum_mul_add_congr fun s k hl => by simp only [row, mul_comm]

/-- The gradient of the norm's weight. -/
theorem final8 : (dats m 0 c).arrAt 8 cfg0.N = result8 m c := by
  refine (dats m 0 c).arrAt_eq_of_after_last 8 t0_15 (by decide +kernel) _ fun y => ?_
  blk_simp
  rw [after0_8, acc8]
  obtain ⟨j, rfl⟩ : ∃ j : Fin 1024, y = ix2 0 j := ⟨y 1, funext fun a => match a with | ⟨0, _⟩ => Subsingleton.elim (α := Fin 1) _ _ | ⟨1, _⟩ => rfl⟩
  rw [result8, v34_apply]
  simp only [term8, pay1_apply, dout_eq, pay10_apply, pay9_apply, ff_eq]
  exact Fin.sum_mul_add_congr fun s k hl => by
    have hr : (⟨512 * s.val + k.val, by omega⟩ : Fin 8192) = ⟨s.val * 512 + k.val, hl⟩ := Fin.ext (by simp only; omega)
    simp only [row]; rw [mul_comm, hr]

end Cert.LossKernelIdeal.Result

end
-- ==== Proof.LossClaim.lean ====
/- The claims about the loss, its gradient and the gradient of the gated unit's output. -/
module

public import proofs.«01_k».proof.Defs
public import proofs.«01_k».proof.Proof.LossValue
public import proofs.«01_k».proof.Proof.Gen.LossReferenceIdeal.Run
public import Idealize.ShloMosaic.Adequacy
public import Idealize.ShloMosaic.Init

@[expose] public section

noncomputable section

namespace Cert.Proof

open Idealize.ShloMosaic Idealize.SL.Sem

/-- The reference of the loss and its gradients runs to the end with every semaphore at zero and its arguments kept. -/
theorem loss_reference_frame : Cert.quiescent_LossReferenceIdeal (hLossReferenceIdeal := Cert.LossReferenceIdeal.Gen.facts) := fun m ρ _ =>
  (θ_run (Cert.LossReferenceIdeal.defs (F := Ideal)) _ _).mono
    (fun r h => ⟨fun c => (h c).2.2.2.2, sem_eq_zero_of_no_sems (by decide) r.2⟩)
    (Cert.LossReferenceIdeal.Value.run (F := Ideal) m ρ)

/-- THE VALUE of the loss and its gradients: the kernel's result arrays are the reference's, at every input. -/
theorem loss_algebraic : Cert.algebraic_LossKernelIdeal_LossReferenceIdeal (hLossKernelIdeal := Cert.LossKernelIdeal.Gen.facts)
    (hLossReferenceIdeal := Cert.LossReferenceIdeal.Gen.facts) := by
  intro m g m' g' _ hm
  refine ⟨fun c => Cert.LossKernelIdeal.Result.result5 m c, fun c => Cert.LossKernelIdeal.Result.result6 m c, fun c => Cert.LossKernelIdeal.Result.result7 m c, fun c => Cert.LossKernelIdeal.Result.result8 m c, ?_, ?_⟩
  · exact (θ_run (Cert.LossKernelIdeal.defs (F := Ideal)) _ _).mono
      (fun r h c => ⟨(h c).1.trans (Cert.LossKernelIdeal.Result.final5 m c), (h c).2.1.trans (Cert.LossKernelIdeal.Result.final6 m c), (h c).2.2.1.trans (Cert.LossKernelIdeal.Result.final7 m c), (h c).2.2.2.1.trans (Cert.LossKernelIdeal.Result.final8 m c), (h c).2.2.2.2⟩)
      (Cert.LossKernelIdeal.Value.run_blocks (F := Ideal) m g)
  · refine (θ_run (Cert.LossReferenceIdeal.defs (F := Ideal)) _ _).mono (fun r h c => ⟨(h c).1.trans ?_, (h c).2.1.trans ?_, (h c).2.2.1.trans ?_, (h c).2.2.2.1.trans ?_, (h c).2.2.2.2⟩)
      (Cert.LossReferenceIdeal.Value.run (F := Ideal) m' g')
    · obtain ⟨e0, e1, e2, e3, e4⟩ := hm c
      refine (Cert.LossReferenceIdeal.Read.val_main_v51_eq (F := Ideal) m' c).trans ?_
      rw [e0, e1, e2, e3, e4]
    · obtain ⟨e0, e1, e2, e3, e4⟩ := hm c
      refine (Cert.LossReferenceIdeal.Read.val_main_v31_eq (F := Ideal) _ _ _ _ _).trans ?_
      rw [e0, e1, e2, e3, e4]
    · obtain ⟨e0, e1, e2, e3, e4⟩ := hm c
      refine (Cert.LossReferenceIdeal.Read.val_main_v52_eq (F := Ideal) _ _ _ _ _).trans ?_
      rw [e0, e1, e2, e3, e4]
    · obtain ⟨e0, e1, e2, e3, e4⟩ := hm c
      refine (Cert.LossReferenceIdeal.Read.val_main_v34_eq (F := Ideal) _ _ _ _ _).trans ?_
      rw [e0, e1, e2, e3, e4]

end Cert.Proof

end
-- ==== Proof.DactValue.lean ====
/- The gradient of the gated activations: the kernel's result array is the reference's. -/
module

public import Idealize.ShloMosaic.Lib.Pipeline.ValueKit
public import Idealize.ShloMosaic.Lib.Pointwise
public import proofs.«01_k».proof.Proof.Gen.DactKernelIdeal.Value
public import proofs.«01_k».proof.Proof.Gen.DactReferenceIdeal.Read

@[expose] public section

set_option maxRecDepth 16384

noncomputable section

namespace Cert.DactKernelIdeal.Result

open Cert.DactKernelIdeal Cert.DactKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

/-- The two factors, at the kernel's arguments. -/
abbrev lhs : S8192x1024.Idx → EReal := m ((c : Thread nD τ).loc main_arg0)
abbrev rhs : S2816x1024.Idx → EReal := m ((c : Thread nD τ).loc main_arg1)

theorem pay1_apply (A : Vec Ideal S1024x1024 .bf16) (B : Vec Ideal S1024x1408 .bf16) (i : Fin 1024) (j : Fin 1408) :
    k0_pay1 (F := Ideal) A B (ix2 i j) = ∑ k : Fin 1024, A (ix2 i k) * B (ix2 k j) := by
  pointwise [k0_pay1]

theorem V_lhs : V m c main_v0 = lhs m c := by
  unfold V hostOps0; after_results_simp <;> rfl

theorem V_rhs (i : Fin 1024) (j : Fin 2816) : V m c main_v2 (ix2 i j) = rhs m c (ix2 j i) := by
  unfold V hostOps0; after_results_simp; pointwise

abbrev result : Buf (Elt Ideal) ((c : Thread nD τ).loc main_v3) :=
  Cert.DactReferenceIdeal.Read.val_main_v3 (F := Ideal) (lhs m c) (rhs m c)

theorem result_apply (i : Fin 8192) (j : Fin 2816) : result m c (ix2 i j) = ∑ k : Fin 1024, lhs m c (ix2 i k) * rhs m c (ix2 j k) := by
  pointwise [result, Cert.DactReferenceIdeal.Read.val_main_v3, Cert.DactReferenceIdeal.Read.val_main_v2]

/-- Row `i` of the point's tile of rows, and column `j` of its tile of columns. -/
abbrev row (t : Fin cfg0.N) (i : Fin 1024) : Fin 8192 := ⟨1024 * (t.val / 2) + i.val, by have : t.val < 16 := t.isLt; omega⟩
abbrev col (t : Fin cfg0.N) (j : Fin 1408) : Fin 2816 := ⟨1408 * (t.val % 2) + j.val, by omega⟩

theorem iblk0 (t : Fin cfg0.N) (i : Fin 1024) (k : Fin 1024) : (iblk m c 0 t : Vec Ideal S1024x1024 .bf16) (ix2 i k) = lhs m c (ix2 (row t i) k) := by
  rw [← V_lhs]; blk_ext [iblk, idx t]

theorem iblk1 (t : Fin cfg0.N) (k : Fin 1024) (j : Fin 1408) : (iblk m c 1 t : Vec Ideal S1024x1408 .bf16) (ix2 k j) = rhs m c (ix2 (col t j) k) := by
  rw [← V_rhs]; blk_ext [iblk, idx t]

theorem final : (dats m 0 c).arrAt 2 cfg0.N = result m c := by
  refine (dats m 0 c).arrAt_eq_of_covers 2 _ (by decide +kernel) fun t hf y => ?_
  blk_simp
  rw [after0_2]
  frame_out
  obtain ⟨i, j, rfl⟩ : ∃ (i : Fin 1024) (j : Fin 1408), y = ix2 i j := ⟨y 0, y 1, funext fun a => match a with | ⟨0, _⟩ => rfl | ⟨1, _⟩ => rfl⟩
  have eG : ((cfg0.win 2).blk t).view.emb (ix2 i j) = ix2 (row t i) (col t j) := by
    blk_ext [idx t]
  rw [eG, result_apply, pay1_apply]
  simp only [iblk0, iblk1]

end Cert.DactKernelIdeal.Result

end
-- ==== Proof.DaoValue.lean ====
/- The gradient of the attention's output: the kernel's result array is the reference's. -/
module

public import Idealize.ShloMosaic.Lib.Pipeline.ValueKit
public import Idealize.ShloMosaic.Lib.Pointwise
public import proofs.«01_k».proof.Proof.Gen.DaoKernelIdeal.Value
public import proofs.«01_k».proof.Proof.Gen.DaoReferenceIdeal.Read

@[expose] public section

set_option maxRecDepth 16384

noncomputable section

namespace Cert.DaoKernelIdeal.Result

open Cert.DaoKernelIdeal Cert.DaoKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The two factors, at the kernel's arguments. -/
abbrev lhs : S8192x1024.Idx → EReal := m ((c : Thread nD τ).loc main_arg0)
abbrev rhs : S1024x1024.Idx → EReal := m ((c : Thread nD τ).loc main_arg1)

theorem pay1_apply (A : Vec Ideal S1024x1024 .bf16) (B : Vec Ideal S1024x1024 .bf16) (i : Fin 1024) (j : Fin 1024) :
    k0_pay1 (F := Ideal) A B (ix2 i j) = ∑ k : Fin 1024, A (ix2 i k) * B (ix2 k j) := by
  pointwise [k0_pay1]

theorem V_lhs : V m c main_v0 = lhs m c := by
  unfold V hostOps0; after_results_simp <;> rfl

theorem V_rhs (i : Fin 1024) (j : Fin 1024) : V m c main_v2 (ix2 i j) = rhs m c (ix2 j i) := by
  unfold V hostOps0; after_results_simp; pointwise

abbrev result : Buf (Elt Ideal) ((c : Thread nD τ).loc main_v3) :=
  Cert.DaoReferenceIdeal.Read.val_main_v3 (F := Ideal) (lhs m c) (rhs m c)

theorem result_apply (i : Fin 8192) (j : Fin 1024) : result m c (ix2 i j) = ∑ k : Fin 1024, lhs m c (ix2 i k) * rhs m c (ix2 j k) := by
  pointwise [result, Cert.DaoReferenceIdeal.Read.val_main_v3, Cert.DaoReferenceIdeal.Read.val_main_v2]

/-- Row `i` of the point's tile of rows. -/
abbrev row (t : Fin cfg0.N) (i : Fin 1024) : Fin 8192 := ⟨1024 * t.val + i.val, by have : t.val < 8 := t.isLt; omega⟩

theorem iblk0 (t : Fin cfg0.N) (i : Fin 1024) (k : Fin 1024) : (iblk m c 0 t : Vec Ideal S1024x1024 .bf16) (ix2 i k) = lhs m c (ix2 (row t i) k) := by
  rw [← V_lhs]; blk_ext [iblk, idx t]

theorem iblk1 (t : Fin cfg0.N) (k : Fin 1024) (j : Fin 1024) : (iblk m c 1 t : Vec Ideal S1024x1024 .bf16) (ix2 k j) = rhs m c (ix2 j k) := by
  rw [← V_rhs]; blk_ext [iblk, idx t]

theorem final : (dats m 0 c).arrAt 2 cfg0.N = result m c := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 2).blk t).view.emb (ix2 i j) = ix2 (row t i) j := by
    blk_ext [idx t]
  rw [eG, result_apply, pay1_apply]
  simp only [iblk0, iblk1]

end Cert.DaoKernelIdeal.Result

end
-- ==== Proof.AoutValue.lean ====
/- The attention's output projection: the kernel's result array is the reference's. -/
module

public import Idealize.ShloMosaic.Lib.Pipeline.ValueKit
public import Idealize.ShloMosaic.Lib.Pointwise
public import proofs.«01_k».proof.Proof.Gen.AoutKernelIdeal.Value
public import proofs.«01_k».proof.Proof.Gen.AoutReferenceIdeal.Read

@[expose] public section

set_option maxRecDepth 16384

noncomputable section

namespace Cert.AoutKernelIdeal.Result

open Cert.AoutKernelIdeal Cert.AoutKernelIdeal.Gen Idealize.ShloMosaic Idealize.ShloMosaic.TcCoe Idealize.SL.Sem

variable (m : (ℓ : Loc nD τ sig) → Buf (Elt Ideal) ℓ) (c : Dev nD)

/-- The block each window reads at a point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The two factors, at the kernel's arguments. -/
abbrev lhs : S8192x1024.Idx → EReal := m ((c : Thread nD τ).loc main_arg0)
abbrev rhs : S1024x1024.Idx → EReal := m ((c : Thread nD τ).loc main_arg1)

theorem pay1_apply (A : Vec Ideal S1024x1024 .bf16) (B : Vec Ideal S1024x1024 .bf16) (i : Fin 1024) (j : Fin 1024) :
    k0_pay1 (F := Ideal) A B (ix2 i j) = ∑ k : Fin 1024, A (ix2 i k) * B (ix2 k j) := by
  pointwise [k0_pay1]

theorem V_lhs : V m c main_v0 = lhs m c := by
  unfold V hostOps0; after_results_simp <;> rfl

theorem V_rhs (i : Fin 1024) (j : Fin 1024) : V m c main_v1 (ix2 i j) = rhs m c (ix2 i j) := by
  unfold V hostOps0; after_results_simp; pointwise

abbrev result : Buf (Elt Ideal) ((c : Thread nD τ).loc main_v2) :=
  Cert.AoutReferenceIdeal.Read.val_main_v0 (F := Ideal) (lhs m c) (rhs m c)

theorem result_apply (i : Fin 8192) (j : Fin 1024) : result m c (ix2 i j) = ∑ k : Fin 1024, lhs m c (ix2 i k) * rhs m c (ix2 k j) := by
  pointwise [result, Cert.AoutReferenceIdeal.Read.val_main_v0]

/-- Row `i` of the point's tile of rows. -/
abbrev row (t : Fin cfg0.N) (i : Fin 1024) : Fin 8192 := ⟨1024 * t.val + i.val, by have : t.val < 8 := t.isLt; omega⟩

theorem iblk0 (t : Fin cfg0.N) (i : Fin 1024) (k : Fin 1024) : (iblk m c 0 t : Vec Ideal S1024x1024 .bf16) (ix2 i k) = lhs m c (ix2 (row t i) k) := by
  rw [← V_lhs]; blk_ext [iblk, idx t]

theorem iblk1 (t : Fin cfg0.N) (k : Fin 1024) (j : Fin 1024) : (iblk m c 1 t : Vec Ideal S1024x1024 .bf16) (ix2 k j) = rhs m c (ix2 k j) := by
  rw [← V_rhs]; blk_ext [iblk, idx t]

theorem final : (dats m 0 c).arrAt 2 cfg0.N = result m c := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 2).blk t).view.emb (ix2 i j) = ix2 (row t i) j := by
    blk_ext [idx t]
  rw [eG, result_apply, pay1_apply]
  simp only [iblk0, iblk1]

end Cert.AoutKernelIdeal.Result

end
-- ==== Proof.MixoValue.lean ====
/- The merging projection with the norm behind it: the kernel's two result arrays are the reference's. -/
module

public import Idealize.ShloMosaic.Lib.Pipeline.ValueKit
public import proofs.«01_k».proof.Proof.RmsMath
public import proofs.«01_k».proof.Proof.Gen.MixoKernelIdeal.Value
public import proofs.«01_k».proof.Proof.Gen.MixoReferenceIdeal.Read

@[expose] public section

set_option maxRecDepth 16384

noncomputable section

namespace Cert.MixoReferenceIdeal.Ref

open Cert.MixoReferenceIdeal Cert.MixoReferenceIdeal.Gen Cert.MixoReferenceIdeal.Read Idealize.ShloMosaic Cert.Maths

variable (a x : (⟨S8192x1024, .f32⟩ : BufTy).Contents (Elt Ideal)) (b : (⟨S1024x1024, .f32⟩ : BufTy).Contents (Elt Ideal))
  (w : (⟨S1x1024, .f32⟩ : BufTy).Contents (Elt Ideal))

theorem v0_apply (R : Fin 8192) (j : Fin 1024) : val_main_v0 (F := Ideal) a b (ix2 R j) = ∑ k : Fin 1024, a (ix2 R k) * b (ix2 k j) := by
  pointwise [val_main_v0]

theorem v8_apply (R : Fin 8192) : val_main_v8 (F := Ideal) a b (ix2 R 0) = rms 1024 epsR (fun k => val_main_v0 (F := Ideal) a b (ix2 R k)) := by
  pointwise [val_main_v8, val_main_v7, val_main_v6, val_main_v5, val_main_v4, val_main_v3, val_main_v2, val_main_v1, val_main_cst,
    val_main_cst_0, val_main_cst_1, ofBits_eps, ofBits_1024]
  rfl

theorem v13_apply (R : Fin 8192) (j : Fin 1024) : val_main_v13 (F := Ideal) a b x w (ix2 R j)
    = x (ix2 R j) + val_main_v0 (F := Ideal) a b (ix2 R j) * rms 1024 epsR (fun k => val_main_v0 (F := Ideal) a b (ix2 R k)) * w (ix2 0 j) := by
  pointwise [val_main_v13, val_main_v12, val_main_v11, val_main_v10, val_main_v9, v8_apply]

end Cert.MixoReferenceIdeal.Ref

namespace Cert.MixoKernelIdeal.Result

open Cert.MixoKernelIdeal Cert.MixoKernelIdeal.Gen Idealize.ShloMosaic Idealize.ShloMosaic.TcCoe Idealize.SL.Sem
open Cert.Maths Cert.MixoReferenceIdeal.Ref
open Cert.MixoReferenceIdeal.Read (val_main_v0 val_main_v13)

variable (m : (ℓ : Loc nD τ sig) → Buf (Elt Ideal) ℓ) (c : Dev nD)

/-- The block each window reads at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

abbrev lhs : S8192x1024.Idx → EReal := m ((c : Thread nD τ).loc main_arg0)
abbrev rhs : S1024x1024.Idx → EReal := m ((c : Thread nD τ).loc main_arg1)
abbrev xs : S8192x1024.Idx → EReal := m ((c : Thread nD τ).loc main_arg2)
abbrev wn : S1x1024.Idx → EReal := m ((c : Thread nD τ).loc main_arg3)

theorem pay1_apply (A : Vec Ideal S512x1024 .bf16) (B : Vec Ideal S1024x1024 .bf16) (i : Fin 512) (j : Fin 1024) :
    k0_pay1 (F := Ideal) A B (ix2 i j) = ∑ k : Fin 1024, A (ix2 i k) * B (ix2 k j) := by
  pointwise [k0_pay1]

theorem pay2_apply (A : Vec Ideal S512x1024 .bf16) (B : Vec Ideal S1024x1024 .bf16) (x : Vec Ideal S512x1024 .f32) (w : Vec Ideal S1x1024 .f32)
    (i : Fin 512) (j : Fin 1024) : k0_pay2 (F := Ideal) A B x w (ix2 i j)
      = x (ix2 i j) + k0_pay1 (F := Ideal) A B (ix2 i j) * rms 1024 epsR (fun k => k0_pay1 (F := Ideal) A B (ix2 i k)) * w (ix2 0 j) := by
  pointwise [k0_pay2, ofBits_eps, ofBits_1024]
  rfl

/-- Row `i` of tile `t`. -/
abbrev row (t : Fin cfg0.N) (i : Fin 512) : Fin 8192 := ⟨512 * t.val + i.val, by have : t.val < 16 := t.isLt; omega⟩

theorem V_lhs : V m c main_v0 = lhs m c := by
  unfold V hostOps0; after_results_simp <;> rfl

theorem V_rhs : V m c main_v1 = rhs m c := by
  unfold V hostOps0; after_results_simp <;> rfl

theorem iblk0 (t : Fin cfg0.N) (i : Fin 512) (k : Fin 1024) : (iblk m c 0 t : Vec Ideal S512x1024 .bf16) (ix2 i k) = lhs m c (ix2 (row t i) k) := by
  rw [← V_lhs]; blk_ext [iblk, idx t]

theorem iblk1 (t : Fin cfg0.N) (k : Fin 1024) (j : Fin 1024) : (iblk m c 1 t : Vec Ideal S1024x1024 .bf16) (ix2 k j) = rhs m c (ix2 k j) := by
  rw [← V_rhs]; blk_ext [iblk, idx t]

theorem iblk2 (t : Fin cfg0.N) (i : Fin 512) (j : Fin 1024) : (iblk m c 2 t : Vec Ideal S512x1024 .f32) (ix2 i j) = xs m c (ix2 (row t i) j) := by
  rw [xs, ← V_main_arg2 m c]; blk_ext [iblk, idx t]

theorem iblk3 (t : Fin cfg0.N) (j : Fin 1024) : (iblk m c 3 t : Vec Ideal S1x1024 .f32) (ix2 0 j) = wn m c (ix2 0 j) := by
  rw [wn, ← V_main_arg3 m c]; blk_ext [iblk, idx t]

abbrev result4 : Buf (Elt Ideal) ((c : Thread nD τ).loc main_v2_0) := val_main_v13 (F := Ideal) (lhs m c) (rhs m c) (xs m c) (wn m c)
abbrev result5 : Buf (Elt Ideal) ((c : Thread nD τ).loc main_v2_1) := val_main_v0 (F := Ideal) (lhs m c) (rhs m c)

theorem mm_eq (t : Fin cfg0.N) (i : Fin 512) (j : Fin 1024) : k0_pay1 (F := Ideal) (iblk m c 0 t) (iblk m c 1 t) (ix2 i j)
    = val_main_v0 (F := Ideal) (lhs m c) (rhs m c) (ix2 (row t i) j) := by
  simp only [pay1_apply, v0_apply, iblk0, iblk1]

/-- The stream behind the projection. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v13_apply, pay2_apply]
  simp only [mm_eq, iblk2, iblk3]

/-- The projection itself. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, mm_eq]

end Cert.MixoKernelIdeal.Result

end
-- ==== Proof.ProjClaim.lean ====
/- The claims about four projections: two forward, two of the backward step. -/
module

public import proofs.«01_k».proof.Defs
public import proofs.«01_k».proof.Proof.DactValue
public import proofs.«01_k».proof.Proof.Gen.DactReferenceIdeal.Run
public import proofs.«01_k».proof.Proof.DaoValue
public import proofs.«01_k».proof.Proof.Gen.DaoReferenceIdeal.Run
public import proofs.«01_k».proof.Proof.AoutValue
public import proofs.«01_k».proof.Proof.Gen.AoutReferenceIdeal.Run
public import proofs.«01_k».proof.Proof.MixoValue
public import proofs.«01_k».proof.Proof.Gen.MixoReferenceIdeal.Run
public import Idealize.ShloMosaic.Adequacy
public import Idealize.ShloMosaic.Init

@[expose] public section

noncomputable section

namespace Cert.Proof

open Idealize.ShloMosaic Idealize.SL.Sem

/-- The reference of the gradient of the gated activations runs to the end with every semaphore at zero and its arguments kept. -/
theorem dact_reference_frame : Cert.quiescent_DactReferenceIdeal (hDactReferenceIdeal := Cert.DactReferenceIdeal.Gen.facts) := fun m ρ _ =>
  (θ_run (Cert.DactReferenceIdeal.defs (F := Ideal)) _ _).mono
    (fun r h => ⟨fun c => (h c).2, sem_eq_zero_of_no_sems (by decide) r.2⟩)
    (Cert.DactReferenceIdeal.Value.run (F := Ideal) m ρ)

/-- THE VALUE of the gradient of the gated activations: the kernel's result array is the reference's, at every input. -/
theorem dact_algebraic : Cert.algebraic_DactKernelIdeal_DactReferenceIdeal (hDactKernelIdeal := Cert.DactKernelIdeal.Gen.facts)
    (hDactReferenceIdeal := Cert.DactReferenceIdeal.Gen.facts) := by
  intro m g m' g' _ hm
  refine ⟨fun c => Cert.DactKernelIdeal.Result.result m c, ?_, ?_⟩
  · exact (θ_run (Cert.DactKernelIdeal.defs (F := Ideal)) _ _).mono
      (fun r h c => ⟨(h c).1.trans (Cert.DactKernelIdeal.Result.final m c), (h c).2⟩)
      (Cert.DactKernelIdeal.Value.run_blocks (F := Ideal) m g)
  · refine (θ_run (Cert.DactReferenceIdeal.defs (F := Ideal)) _ _).mono (fun r h c => ⟨(h c).1.trans ?_, (h c).2⟩)
      (Cert.DactReferenceIdeal.Value.run (F := Ideal) m' g')
    · obtain ⟨e0, e1⟩ := hm c
      refine (Cert.DactReferenceIdeal.Read.val_main_v3_eq (F := Ideal) _ _).trans ?_
      rw [e0, e1]

/-- The reference of the gradient of the attention's output runs to the end with every semaphore at zero and its arguments kept. -/
theorem dao_reference_frame : Cert.quiescent_DaoReferenceIdeal (hDaoReferenceIdeal := Cert.DaoReferenceIdeal.Gen.facts) := fun m ρ _ =>
  (θ_run (Cert.DaoReferenceIdeal.defs (F := Ideal)) _ _).mono
    (fun r h => ⟨fun c => (h c).2, sem_eq_zero_of_no_sems (by decide) r.2⟩)
    (Cert.DaoReferenceIdeal.Value.run (F := Ideal) m ρ)

/-- THE VALUE of the gradient of the attention's output: the kernel's result array is the reference's, at every input. -/
theorem dao_algebraic : Cert.algebraic_DaoKernelIdeal_DaoReferenceIdeal (hDaoKernelIdeal := Cert.DaoKernelIdeal.Gen.facts)
    (hDaoReferenceIdeal := Cert.DaoReferenceIdeal.Gen.facts) := by
  intro m g m' g' _ hm
  refine ⟨fun c => Cert.DaoKernelIdeal.Result.result m c, ?_, ?_⟩
  · exact (θ_run (Cert.DaoKernelIdeal.defs (F := Ideal)) _ _).mono
      (fun r h c => ⟨(h c).1.trans (Cert.DaoKernelIdeal.Result.final m c), (h c).2⟩)
      (Cert.DaoKernelIdeal.Value.run_blocks (F := Ideal) m g)
  · refine (θ_run (Cert.DaoReferenceIdeal.defs (F := Ideal)) _ _).mono (fun r h c => ⟨(h c).1.trans ?_, (h c).2⟩)
      (Cert.DaoReferenceIdeal.Value.run (F := Ideal) m' g')
    · obtain ⟨e0, e1⟩ := hm c
      refine (Cert.DaoReferenceIdeal.Read.val_main_v3_eq (F := Ideal) _ _).trans ?_
      rw [e0, e1]

/-- The reference of the attention's output projection runs to the end with every semaphore at zero and its arguments kept. -/
theorem aout_reference_frame : Cert.quiescent_AoutReferenceIdeal (hAoutReferenceIdeal := Cert.AoutReferenceIdeal.Gen.facts) := fun m ρ _ =>
  (θ_run (Cert.AoutReferenceIdeal.defs (F := Ideal)) _ _).mono
    (fun r h => ⟨fun c => (h c).2, sem_eq_zero_of_no_sems (by decide) r.2⟩)
    (Cert.AoutReferenceIdeal.Value.run (F := Ideal) m ρ)

/-- THE VALUE of the attention's output projection: the kernel's result array is the reference's, at every input. -/
theorem aout_algebraic : Cert.algebraic_AoutKernelIdeal_AoutReferenceIdeal (hAoutKernelIdeal := Cert.AoutKernelIdeal.Gen.facts)
    (hAoutReferenceIdeal := Cert.AoutReferenceIdeal.Gen.facts) := by
  intro m g m' g' _ hm
  refine ⟨fun c => Cert.AoutKernelIdeal.Result.result m c, ?_, ?_⟩
  · exact (θ_run (Cert.AoutKernelIdeal.defs (F := Ideal)) _ _).mono
      (fun r h c => ⟨(h c).1.trans (Cert.AoutKernelIdeal.Result.final m c), (h c).2⟩)
      (Cert.AoutKernelIdeal.Value.run_blocks (F := Ideal) m g)
  · refine (θ_run (Cert.AoutReferenceIdeal.defs (F := Ideal)) _ _).mono (fun r h c => ⟨(h c).1.trans ?_, (h c).2⟩)
      (Cert.AoutReferenceIdeal.Value.run (F := Ideal) m' g')
    · obtain ⟨e0, e1⟩ := hm c
      refine (Cert.AoutReferenceIdeal.Read.val_main_v0_eq (F := Ideal) _ _).trans ?_
      rw [e0, e1]

/-- The reference of the merging projection with the norm behind it runs to the end with every semaphore at zero and its arguments kept. -/
theorem mixo_reference_frame : Cert.quiescent_MixoReferenceIdeal (hMixoReferenceIdeal := Cert.MixoReferenceIdeal.Gen.facts) := fun m ρ _ =>
  (θ_run (Cert.MixoReferenceIdeal.defs (F := Ideal)) _ _).mono
    (fun r h => ⟨fun c => (h c).2.2, sem_eq_zero_of_no_sems (by decide) r.2⟩)
    (Cert.MixoReferenceIdeal.Value.run (F := Ideal) m ρ)

/-- THE VALUE of the merging projection with the norm behind it: the kernel's result arrays are the reference's, at every input. -/
theorem mixo_algebraic : Cert.algebraic_MixoKernelIdeal_MixoReferenceIdeal (hMixoKernelIdeal := Cert.MixoKernelIdeal.Gen.facts)
    (hMixoReferenceIdeal := Cert.MixoReferenceIdeal.Gen.facts) := by
  intro m g m' g' _ hm
  refine ⟨fun c => Cert.MixoKernelIdeal.Result.result4 m c, fun c => Cert.MixoKernelIdeal.Result.result5 m c, ?_, ?_⟩
  · exact (θ_run (Cert.MixoKernelIdeal.defs (F := Ideal)) _ _).mono
      (fun r h c => ⟨(h c).1.trans (Cert.MixoKernelIdeal.Result.final4 m c), (h c).2.1.trans (Cert.MixoKernelIdeal.Result.final5 m c), (h c).2.2⟩)
      (Cert.MixoKernelIdeal.Value.run_blocks (F := Ideal) m g)
  · refine (θ_run (Cert.MixoReferenceIdeal.defs (F := Ideal)) _ _).mono (fun r h c => ⟨(h c).1.trans ?_, (h c).2.1.trans ?_, (h c).2.2⟩)
      (Cert.MixoReferenceIdeal.Value.run (F := Ideal) m' g')
    · obtain ⟨e0, e1, e2, e3⟩ := hm c
      refine (Cert.MixoReferenceIdeal.Read.val_main_v13_eq (F := Ideal) _ _ _ _).trans ?_
      rw [e0, e1, e2, e3]
    · obtain ⟨e0, e1, e2, e3⟩ := hm c
      refine (Cert.MixoReferenceIdeal.Read.val_main_v0_eq (F := Ideal) _ _).trans ?_
      rw [e0, e1]

end Cert.Proof

end
-- ==== Proof.WinHost.lean ====
/- The gradient of the input projection's weight: the rows of the kernel's product, put back from the kernels' layout
   into the projection's own order by the host. -/
module

public import proofs.«01_k».proof.Proof.DuHost
public import proofs.«01_k».proof.Proof.Gen.WinKernelIdeal.Frame.Runs

@[expose] public section

noncomputable section

namespace Cert.Maths

/-- A weighted sum of laid-out rows lays out the weighted sum of the rows. -/
theorem ProjLayout.sum_mul {n : ℕ} {D C : Fin n → ℕ → EReal} (h : ∀ R, ProjLayout (D R) (C R)) (u : Fin n → EReal) :
    ProjLayout (fun k => ∑ R, D R k * u R) (fun k => ∑ R, C R k * u R) where
  q k hk := Finset.sum_congr rfl fun R _ => by rw [(h R).q k hk]
  k k hk := Finset.sum_congr rfl fun R _ => by rw [(h R).k k hk]
  v k hk := Finset.sum_congr rfl fun R _ => by rw [(h R).v k hk]
  z k hk := Finset.sum_congr rfl fun R _ => by rw [(h R).z k hk]
  dt k hk := Finset.sum_congr rfl fun R _ => by rw [(h R).dt k hk]
  gap k hk := Finset.sum_eq_zero fun R _ => by rw [(h R).gap k hk, zero_mul]
  gs k hk := Finset.sum_congr rfl fun R _ => by rw [(h R).gs k hk]
  ga k hk := Finset.sum_congr rfl fun R _ => by rw [(h R).ga k hk]
  xs g hg k hk := Finset.sum_congr rfl fun R _ => by rw [(h R).xs g hg k hk]
  b g hg k hk := Finset.sum_congr rfl fun R _ => by rw [(h R).b g hg k hk]
  c g hg k hk := Finset.sum_congr rfl fun R _ => by rw [(h R).c g hg k hk]

end Cert.Maths

namespace Cert.WinKernelIdeal.Host

open Cert.WinKernelIdeal Cert.WinKernelIdeal.Gen Idealize.ShloMosaic Idealize.ShloMosaic.TcCoe Idealize.ShloMosaic.StableHlo Idealize.SL.Sem Cert.Maths

/-- The host's way back: the first sixteen pieces of the projection's own order, -/
abbrev headPieces (y : FVec Ideal S9216x1024 .bf16) : List ((s : Shape) × (s.Idx → Ideal .bf16)) :=
  [⟨S2048x1024, extractStridedSlice S2048x1024 ![1536, 0] y slices_S9216x1024_S2048x1024_1536_0⟩,
    ⟨S512x1024, extractStridedSlice S512x1024 ![6144, 0] y slices_S9216x1024_S512x1024_6144_0⟩,
    ⟨S512x1024, extractStridedSlice S512x1024 ![6912, 0] y slices_S9216x1024_S512x1024_6912_0⟩,
    ⟨S512x1024, extractStridedSlice S512x1024 ![7680, 0] y slices_S9216x1024_S512x1024_7680_0⟩,
    ⟨S512x1024, extractStridedSlice S512x1024 ![8448, 0] y slices_S9216x1024_S512x1024_8448_0⟩,
    ⟨S128x1024, extractStridedSlice S128x1024 ![6656, 0] y slices_S9216x1024_S128x1024_6656_0⟩,
    ⟨S128x1024, extractStridedSlice S128x1024 ![7424, 0] y slices_S9216x1024_S128x1024_7424_0⟩,
    ⟨S128x1024, extractStridedSlice S128x1024 ![8192, 0] y slices_S9216x1024_S128x1024_8192_0⟩,
    ⟨S128x1024, extractStridedSlice S128x1024 ![8960, 0] y slices_S9216x1024_S128x1024_8960_0⟩,
    ⟨S128x1024, extractStridedSlice S128x1024 ![6784, 0] y slices_S9216x1024_S128x1024_6784_0⟩,
    ⟨S128x1024, extractStridedSlice S128x1024 ![7552, 0] y slices_S9216x1024_S128x1024_7552_0⟩,
    ⟨S128x1024, extractStridedSlice S128x1024 ![8320, 0] y slices_S9216x1024_S128x1024_8320_0⟩,
    ⟨S128x1024, extractStridedSlice S128x1024 ![9088, 0] y slices_S9216x1024_S128x1024_9088_0⟩,
    ⟨S32x1024, extractStridedSlice S32x1024 ![3584, 0] y slices_S9216x1024_S32x1024_3584_0⟩,
    ⟨S1024x1024, extractStridedSlice S1024x1024 ![0, 0] y slices_S9216x1024_S1024x1024_0_0⟩,
    ⟨S256x1024, extractStridedSlice S256x1024 ![1024, 0] y slices_S9216x1024_S256x1024_1024_0⟩]

/-- the other three, -/
abbrev tailPieces (y : FVec Ideal S9216x1024 .bf16) : List ((s : Shape) × (s.Idx → Ideal .bf16)) :=
  [⟨S256x1024, extractStridedSlice S256x1024 ![1280, 0] y slices_S9216x1024_S256x1024_1280_0⟩,
    ⟨S1024x1024, extractStridedSlice S1024x1024 ![4096, 0] y slices_S9216x1024_S1024x1024_4096_0⟩,
    ⟨S1024x1024, extractStridedSlice S1024x1024 ![5120, 0] y slices_S9216x1024_S1024x1024_5120_0⟩]

def ownHead (y : FVec Ideal S9216x1024 .bf16) : FVec Ideal S6432x1024 .bf16 :=
  concatenate S6432x1024 0 (headPieces y) concatenates_S2048x1024_S512x1024_S512x1024_S512x1024_S512x1024_S128x1024_S128x1024_S128x1024_S128x1024_S128x1024_S128x1024_S128x1024_S128x1024_S32x1024_S1024x1024_S256x1024_S6432x1024_d0

def ownTail (y : FVec Ideal S9216x1024 .bf16) : FVec Ideal S2304x1024 .bf16 :=
  concatenate S2304x1024 0 (tailPieces y) concatenates_S256x1024_S1024x1024_S1024x1024_S2304x1024_d0

/-- and all of them. -/
def own (y : FVec Ideal S9216x1024 .bf16) : FVec Ideal S8736x1024 .bf16 :=
  concatenate S8736x1024 0 [⟨S6432x1024, ownHead y⟩, ⟨S2304x1024, ownTail y⟩] concatenates_S6432x1024_S2304x1024_S8736x1024_d0

variable (y : FVec Ideal S9216x1024 .bf16) (j : Fin 1024)

/-- A slice of whole rows, read at an element. -/
theorem rows_apply (s n : ℕ) (h : S9216x1024.Slices ![s, 0] ⟨2, ![n, 1024]⟩) (k : ℕ) (hk : k < n) (hs : s + k < 9216) :
    extractStridedSlice ⟨2, ![n, 1024]⟩ ![s, 0] y h (ix2 ⟨k, hk⟩ j) = ext (fun r => y (ix2 r j)) (s + k) :=
  (extractStridedSlice_apply _ _ _ _ (ix2 ⟨s + k, hs⟩ j) (fun a => match a with
    | ⟨0, _⟩ => rfl
    | ⟨1, _⟩ => (Nat.zero_add _).symm)).trans (ext_of_lt (fun r => y (ix2 r j)) _ hs).symm

/-- The widths of the first pieces of a list, added up. -/
abbrev rowsBefore (xs : List ((s : Shape) × (s.Idx → Ideal .bf16))) (i : ℕ) : ℕ :=
  (((xs.take i).map (·.1)).map fun s => if h : s.rank = 2 then s.size ((0 : Fin 2).cast h.symm) else 0).sum

/-- A row inside piece `i` of the first sixteen is the row of the laid-out matrix that piece was cut from. -/
theorem head_row {H : ℕ → EReal} (i len pre src : ℕ) (hi : i < 16) {hs : S9216x1024.Slices ![src, 0] ⟨2, ![len, 1024]⟩}
    (hx : (headPieces y)[i] = ⟨_, extractStridedSlice ⟨2, ![len, 1024]⟩ ![src, 0] y hs⟩) (hpre : rowsBefore (headPieces y) i = pre)
    (hsrc : src + len ≤ 9216) (hH : ∀ k < len, ext (fun r => y (ix2 r j)) (src + k) = H (pre + k))
    (n : ℕ) (hn : n < 6432) (h1 : pre ≤ n) (h2 : n < pre + len) : own y (ix2 ⟨n, by omega⟩ j) = H n := by
  obtain ⟨k, rfl⟩ := Nat.exists_eq_add_of_le h1
  have hk : k < len := by omega
  refine (cat_axis0 _ _ 0 (of_decide_eq_true rfl) _ rfl 0 rfl _ j (⟨pre + k, hn⟩ : Fin 6432) (by simp)).trans ?_
  exact (cat_axis0 (headPieces y) _ i hi _ hx pre hpre _ j (⟨k, hk⟩ : Fin len) rfl).trans ((rows_apply y j src len hs k hk (by omega)).trans (hH k hk))

/-- The same for the other three. -/
theorem tail_row {H : ℕ → EReal} (i len pre src : ℕ) (hi : i < 3) {hs : S9216x1024.Slices ![src, 0] ⟨2, ![len, 1024]⟩}
    (hx : (tailPieces y)[i] = ⟨_, extractStridedSlice ⟨2, ![len, 1024]⟩ ![src, 0] y hs⟩) (hpre : rowsBefore (tailPieces y) i = pre)
    (hsrc : src + len ≤ 9216) (hH : ∀ k < len, ext (fun r => y (ix2 r j)) (src + k) = H (6432 + pre + k))
    (n : ℕ) (hn : n < 8736) (h1 : 6432 + pre ≤ n) (h2 : n < 6432 + pre + len) : own y (ix2 ⟨n, hn⟩ j) = H n := by
  obtain ⟨k, rfl⟩ := Nat.exists_eq_add_of_le h1
  have hk : k < len := by omega
  refine (cat_axis0 _ _ 1 (of_decide_eq_true rfl) _ rfl 6432 (by simp) _ j (⟨pre + k, by omega⟩ : Fin 2304) (by simp only; omega)).trans ?_
  exact (cat_axis0 (tailPieces y) _ i hi _ hx pre hpre _ j (⟨k, hk⟩ : Fin len) rfl).trans ((rows_apply y j src len hs k hk (by omega)).trans (hH k hk))

/-- Rows in the projection's own order hold what the laid-out rows lay out. -/
theorem own_apply (H : ℕ → EReal) (h : ProjLayout (ext fun r => y (ix2 r j)) H) (n : Fin 8736) : own y (ix2 n j) = H n.val := by
  obtain ⟨n, hn⟩ := n
  by_cases c0 : n < 2048
  · exact head_row y j 0 2048 0 1536 (by omega) rfl (by simp [rowsBefore, headPieces]) (by omega) h.z n (by omega) (by omega) c0
  by_cases c1 : n < 2560
  · exact head_row y j 1 512 2048 6144 (by omega) rfl (by simp [rowsBefore, headPieces]) (by omega) (h.xs 0 (by omega)) n (by omega) (by omega) c1
  by_cases c2 : n < 3072
  · exact head_row y j 2 512 2560 6912 (by omega) rfl (by simp [rowsBefore, headPieces]) (by omega) (h.xs 1 (by omega)) n (by omega) (by omega) c2
  by_cases c3 : n < 3584
  · exact head_row y j 3 512 3072 7680 (by omega) rfl (by simp [rowsBefore, headPieces]) (by omega) (h.xs 2 (by omega)) n (by omega) (by omega) c3
  by_cases c4 : n < 4096
  · exact head_row y j 4 512 3584 8448 (by omega) rfl (by simp [rowsBefore, headPieces]) (by omega) (h.xs 3 (by omega)) n (by omega) (by omega) c4
  by_cases c5 : n < 4224
  · exact head_row y j 5 128 4096 6656 (by omega) rfl (by simp [rowsBefore, headPieces]) (by omega) (h.b 0 (by omega)) n (by omega) (by omega) c5
  by_cases c6 : n < 4352
  · exact head_row y j 6 128 4224 7424 (by omega) rfl (by simp [rowsBefore, headPieces]) (by omega) (h.b 1 (by omega)) n (by omega) (by omega) c6
  by_cases c7 : n < 4480
  · exact head_row y j 7 128 4352 8192 (by omega) rfl (by simp [rowsBefore, headPieces]) (by omega) (h.b 2 (by omega)) n (by omega) (by omega) c7
  by_cases c8 : n < 4608
  · exact head_row y j 8 128 4480 8960 (by omega) rfl (by simp [rowsBefore, headPieces]) (by omega) (h.b 3 (by omega)) n (by omega) (by omega) c8
  by_cases c9 : n < 4736
  · exact head_row y j 9 128 4608 6784 (by omega) rfl (by simp [rowsBefore, headPieces]) (by omega) (h.c 0 (by omega)) n (by omega) (by omega) c9
  by_cases c10 : n < 4864
  · exact head_row y j 10 128 4736 7552 (by omega) rfl (by simp [rowsBefore, headPieces]) (by omega) (h.c 1 (by omega)) n (by omega) (by omega) c10
  by_cases c11 : n < 4992
  · exact head_row y j 11 128 4864 8320 (by omega) rfl (by simp [rowsBefore, headPieces]) (by omega) (h.c 2 (by omega)) n (by omega) (by omega) c11
  by_cases c12 : n < 5120
  · exact head_row y j 12 128 4992 9088 (by omega) rfl (by simp [rowsBefore, headPieces]) (by omega) (h.c 3 (by omega)) n (by omega) (by omega) c12
  by_cases c13 : n < 5152
  · exact head_row y j 13 32 5120 3584 (by omega) rfl (by simp [rowsBefore, headPieces]) (by omega) h.dt n (by omega) (by omega) c13
  by_cases c14 : n < 6176
  · exact head_row y j 14 1024 5152 0 (by omega) rfl (by simp [rowsBefore, headPieces]) (by omega) h.q n (by omega) (by omega) c14
  by_cases c15 : n < 6432
  · exact head_row y j 15 256 6176 1024 (by omega) rfl (by simp [rowsBefore, headPieces]) (by omega) h.k n (by omega) (by omega) c15
  by_cases t0 : n < 6688
  · exact tail_row y j 0 256 0 1280 (by omega) rfl (by simp [rowsBefore, tailPieces]) (by omega) h.v n hn (by omega) (by omega)
  by_cases t1 : n < 7712
  · exact tail_row y j 1 1024 256 4096 (by omega) rfl (by simp [rowsBefore, tailPieces]) (by omega) h.gs n hn (by omega) (by omega)
  · exact tail_row y j 2 1024 1280 5120 (by omega) rfl (by simp [rowsBefore, tailPieces]) (by omega) h.ga n hn (by omega) (by omega)

variable (m : (ℓ : Loc nD τ sig) → Buf (Elt Ideal) ℓ) (c : Dev nD)

/-- The laid-out cotangents, at the kernel's arguments. -/
abbrev cts : FVec Ideal S8192x9216 .f32 :=
  Cert.DuKernelIdeal.Host.dProj (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The region finds the first operand at the laid-out cotangents. -/
theorem V_main_v15 : V m c main_v15 = truncf .bf16 (cts m c) bitsLt_bf16_f32 := by
  show StableHlo.after (List.flatten [hostOps0]) (fun b => m (c, b)) main_v15 = _
  simp only [hostOps0, List.flatten_cons, List.flatten_nil, List.append_nil, List.cons_append]
  after_results_simp <;> (try dsimp only [Matrix.cons_val]) <;> (try after_results_simp) <;> rfl

/-- After the region the host leaves the rows put back in the result's buffer. -/
theorem tail_result (A : (w : Fin 3) → Buf (Elt Ideal) ((spec0 w).arr.view.loc (c.tc : Thread nD τ))) :
    StableHlo.after hostOps1 (Pipeline.withArrays spec0 c (V0 m c) A) (Proc.devRef .tc main_v51) = own (A 2) := by
  have h : Pipeline.withArrays spec0 c (V0 m c) A (Proc.devRef .tc main_v29) = A 2 :=
    Pipeline.withArrays_arr spec0 (by decide) c (V0 m c) A 2
  generalize Pipeline.withArrays spec0 c (V0 m c) A = W at h
  rw [← h]
  unfold hostOps1
  after_results_simp <;> (try dsimp only [Matrix.cons_val]) <;> (try after_results_simp) <;> rfl

end Cert.WinKernelIdeal.Host

end
-- ==== Proof.WinValue.lean ====
/- The gradient of the input projection's weight: the kernel's result array is the reference's. -/
module

public import Idealize.ShloMosaic.Lib.Pipeline.ValueKit
public import Idealize.ShloMosaic.Lib.Pipeline.ReadBack
public import Idealize.ShloMosaic.Lib.Pointwise
public import proofs.«01_k».proof.Proof.WinHost
public import proofs.«01_k».proof.Proof.Gen.WinKernelIdeal.Frame
public import proofs.«01_k».proof.Proof.Gen.WinReferenceIdeal.Read

@[expose] public section

set_option maxRecDepth 16384

noncomputable section

namespace Cert.WinKernelIdeal.Result

open Cert.WinKernelIdeal Cert.WinKernelIdeal.Gen Idealize.ShloMosaic Idealize.ShloMosaic.TcCoe Idealize.SL.Sem
open Cert.WinKernelIdeal.Host Cert.Maths

variable (m : (ℓ : Loc nD τ sig) → Buf (Elt Ideal) ℓ) (c : Dev nD)

/-- The block each window reads at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors, at the kernel's arguments: the laid-out cotangents and the normed input. -/
abbrev lhs : S8192x9216.Idx → EReal := cts m c
abbrev rhs : S8192x1024.Idx → EReal :=
  Cert.WinReferenceIdeal.Read.val_main_v12 (F := Ideal) (m ((c : Thread nD τ).loc main_arg0)) (m ((c : Thread nD τ).loc main_arg1))

theorem pay1_apply (A : Vec Ideal S2048x1024 .bf16) (B : Vec Ideal S2048x1024 .bf16) (i : Fin 1024) (j : Fin 1024) :
    k0_pay1 (F := Ideal) A B (ix2 i j) = ∑ k : Fin 2048, A (ix2 k i) * B (ix2 k j) := by
  pointwise [k0_pay1]

theorem V_lhs : V m c main_v15 = lhs m c := V_main_v15 m c

theorem V_rhs : V m c main_v28 = rhs m c := by
  show StableHlo.after (List.flatten [hostOps0]) (fun b => m (c, b)) main_v28 = _
  simp only [hostOps0, List.flatten_cons, List.flatten_nil, List.append_nil, List.cons_append]
  after_results_simp <;> rfl

theorem iblk0 (t : Fin cfg0.N) (k : Fin 2048) (i : Fin 1024) (K : Fin 8192) (I : Fin 9216) (hK : K.val = 2048 * (t.val % 4) + k.val)
    (hI : I.val = 1024 * (t.val / 4) + i.val) : (iblk m c 0 t : Vec Ideal S2048x1024 .bf16) (ix2 k i) = lhs m c (ix2 K I) := by
  rw [← V_lhs]
  blk_ext [iblk, idx t]

theorem iblk1 (t : Fin cfg0.N) (k : Fin 2048) (j : Fin 1024) (K : Fin 8192) (hK : K.val = 2048 * (t.val % 4) + k.val) :
    (iblk m c 1 t : Vec Ideal S2048x1024 .bf16) (ix2 k j) = rhs m c (ix2 K j) := by
  rw [← V_rhs]; blk_ext [iblk, idx t]

/-- The product, in the kernels' layout. -/
def laid : Buf (Elt Ideal) ((c : Thread nD τ).loc main_v29) :=
  fun y : S9216x1024.Idx => (∑ k : Fin 8192, lhs m c (ix2 k (y 0)) * rhs m c (ix2 k (y 1)) : EReal)

theorem laid_apply (i : Fin 9216) (j : Fin 1024) : laid m c (ix2 i j) = ∑ k : Fin 8192, lhs m c (ix2 k i) * rhs m c (ix2 k j) := rfl

/-- One point's product. -/
abbrev term (t : Fin cfg0.N) : Vec Ideal S1024x1024 .f32 := k0_pay1 (F := Ideal) (iblk m c 0 t) (iblk m c 1 t)

/-- A run's last point holds the run's sum. -/
theorem acc (t : Fin cfg0.N) (ht : t.val % 4 = 4 - 1) (y : S1024x1024.Idx) :
    (outsAt0 m c t.val t.isLt).2 y = ∑ s : Fin 4, term m c ⟨4 * (t.val / 4) + s.val, Pipeline.run_point_lt_of_flush t ht s⟩ y := by
  have h := Pipeline.eq_sum_fin_of_reset_step_apply_of_flush (fun n h => (outsAt0 m c n h).2) 4 (fun _ => (0 : EReal)) (term m c)
    (fun t h y => by
      rw [outsAt0_A m c t h (by omega) (by omega)]
      frame_out
      pointwise [term, k0_pay2])
    (fun t h y => by
      by_cases h2 : t.val % 4 = 3
      · rw [outsAt0_C m c t h (by omega) h2]
        frame_out
        simp only [read_unread_whole]
        pointwise [term, k0_pay3]
      · rw [outsAt0_B m c t h (by omega) h2]
        frame_out
        simp only [read_unread_whole]
        pointwise [term, k0_pay3]) t ht y
  rw [zero_add] at h
  exact h

/-- After the region the product stands in its array. -/
theorem final : (dats m 0 c).arrAt 2 cfg0.N = laid m c := by
  refine (dats m 0 c).arrAt_eq_of_covers 2 _ (by decide +kernel) fun t hf y => ?_
  have ht : t.val % 4 = 3 := (flush0_2 t).mp hf
  blk_simp
  have e : (outsAt0 m c t.val t.isLt).1 = k0_pay4 (F := Ideal) (outsAt0 m c t.val t.isLt).2 := by
    rw [outsAt0_C m c t (by omega) (by omega) ht]
    frame_out
  rw [after0_2, e]
  refine (acc m c t ht y).trans ?_
  obtain ⟨i, j, rfl⟩ : ∃ (i : Fin 1024) (j : Fin 1024), y = ix2 i j := ⟨y 0, y 1, funext fun a => match a with | ⟨0, _⟩ => rfl | ⟨1, _⟩ => rfl⟩
  have hN : t.val < 36 := t.isLt
  have eG : ((cfg0.win 2).blk t).view.emb (ix2 i j) = ix2 (⟨1024 * (t.val / 4) + i.val, by omega⟩ : Fin 9216) j := by
    blk_ext [idx t]
  rw [eG, laid_apply]
  simp only [pay1_apply]
  refine Fin.sum_mul_add_congr fun s k hl => ?_
  have hs : s.val < 4 := s.isLt
  rw [iblk0 m c _ k i ⟨_, hl⟩ ⟨1024 * (t.val / 4) + i.val, by omega⟩ (by simp only; omega) (by simp only; omega),
    iblk1 m c _ k j ⟨_, hl⟩ (by simp only; omega)]

/-- The reference's result at the kernel's arguments. -/
abbrev result : Buf (Elt Ideal) ((c : Thread nD τ).loc main_v51) :=
  Cert.WinReferenceIdeal.Read.val_main_v18 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The cotangents joined in the projection's own order. -/
abbrev joined : (⟨2, ![8192, 8736]⟩ : Shape).Idx → EReal :=
  Cert.WinReferenceIdeal.Read.val_main_v14 (F := Ideal)
    (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

theorem result_apply (i : Fin 8736) (j : Fin 1024) :
    result m c (ix2 i j) = ∑ k : Fin 8192, joined m c (ix2 k i) * rhs m c (ix2 k j) := by
  pointwise [result, Cert.WinReferenceIdeal.Read.val_main_v18, Cert.WinReferenceIdeal.Read.val_main_v17, Cert.WinReferenceIdeal.Read.val_main_v16, Cert.WinReferenceIdeal.Read.val_main_v15]

theorem ext_sum {n N : ℕ} (f : Fin n → Fin N → EReal) (u : Fin n → EReal) (k : ℕ) :
    ext (fun r => ∑ R, f R r * u R) k = ∑ R, ext (f R) k * u R := by
  by_cases h : k < N
  · rw [ext_of_lt _ k h]
    exact Finset.sum_congr rfl fun R _ => by rw [ext_of_lt _ k h]
  · rw [ext, dif_neg h]
    exact (Finset.sum_eq_zero fun R _ => by rw [ext, dif_neg h, zero_mul]).symm

/-- The host puts the laid-out product back into the reference's result. -/
theorem own_laid : own (laid m c) = result m c := by
  funext y
  obtain ⟨i, j, rfl⟩ : ∃ (i : Fin 8736) (j : Fin 1024), y = ix2 i j := ⟨y 0, y 1, funext fun a => match a with | ⟨0, _⟩ => rfl | ⟨1, _⟩ => rfl⟩
  have h := ProjLayout.sum_mul (fun R => Cert.DuKernelIdeal.Host.dProj_layout (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) R) (fun R => rhs m c (ix2 R j))
  have e : (ext fun r => laid m c (ix2 r j)) = fun k => ∑ R, ext (fun n => lhs m c (ix2 R n)) k * rhs m c (ix2 R j) :=
    funext fun k => ext_sum (fun R r => lhs m c (ix2 R r)) (fun R => rhs m c (ix2 R j)) k
  refine (own_apply (laid m c) j _ (e ▸ h) i).trans ?_
  rw [result_apply]
  exact Finset.sum_congr rfl fun R _ => congrArg (· * _) (ext_of_lt _ _ i.isLt)

end Cert.WinKernelIdeal.Result

end
-- ==== Proof.WinClaim.lean ====
/- The claims about the gradient of the input projection's weight: its reference's frame, and its value against the
   reference. -/
module

public import proofs.«01_k».proof.Defs
public import proofs.«01_k».proof.Proof.WinValue
public import proofs.«01_k».proof.Proof.Gen.WinReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The reference of the gradient of the input projection's weight runs to the end with every semaphore at zero and its arguments kept. -/
theorem win_reference_frame : Cert.quiescent_WinReferenceIdeal (hWinReferenceIdeal := Cert.WinReferenceIdeal.Gen.facts) := fun m ρ _ =>
  (θ_run (Cert.WinReferenceIdeal.defs (F := Ideal)) _ _).mono
    (fun r h => ⟨fun c => (h c).2, sem_eq_zero_of_no_sems (by decide) r.2⟩)
    (Cert.WinReferenceIdeal.Value.run (F := Ideal) m ρ)

/-- THE VALUE of the gradient of the input projection's weight: the kernel's result array, put back into the projection's
    own order, is the reference's, at every input. -/
theorem win_algebraic : Cert.algebraic_WinKernelIdeal_WinReferenceIdeal (hWinKernelIdeal := Cert.WinKernelIdeal.Gen.facts)
    (hWinReferenceIdeal := Cert.WinReferenceIdeal.Gen.facts) := by
  intro m g m' g' _ hm
  refine ⟨fun c => Cert.WinKernelIdeal.Result.result m c, ?_, ?_⟩
  · refine θ_run_mono (θ_run_and (Cert.WinKernelIdeal.Gen.run_main (F := Ideal) m g) (Cert.WinKernelIdeal.Gen.frame (F := Ideal) m g))
      fun r h c => ⟨((h.1 c).2 Cert.WinKernelIdeal.main_v51 (by decide)).trans ?_, h.2.1 c⟩
    refine (Cert.WinKernelIdeal.Host.tail_result m c fun w => (Cert.WinKernelIdeal.Gen.dats m 0 c).arrAt w Cert.WinKernelIdeal.cfg0.N).trans ?_
    rw [Cert.WinKernelIdeal.Result.final]
    exact Cert.WinKernelIdeal.Result.own_laid m c
  · refine (θ_run (Cert.WinReferenceIdeal.defs (F := Ideal)) _ _).mono (fun r h c => ⟨(h c).1.trans ?_, (h c).2⟩)
      (Cert.WinReferenceIdeal.Value.run (F := Ideal) m' g')
    obtain ⟨e0, e1, e2, e3, e4, e5, e6, e7, e8, e9⟩ := hm c
    rw [e0, e1, e2, e3, e4, e5, e6, e7, e8, e9]
    exact (Cert.WinReferenceIdeal.Read.val_main_v18_eq _ _ _ _ _ _ _ _ _ _).symm

end Cert.Proof

end
-- ==== Proof.AdamMath.lean ====
/- One step of the optimizer on one entry. -/
module

public import Idealize.ShloMosaic.Lib.Pipeline.ValueKit

@[expose] public section

noncomputable section

namespace Cert.Maths

open Idealize.ShloMosaic

/-- A number written as a float word. -/
abbrev lit (b : BitVec 32) : EReal := (FloatOps.ofBits (F := Ideal) .f32 b : Ideal .f32)

/-- The new first moment. -/
def adamM (g m : EReal) : EReal := lit 0x3F666666#32 * m + lit 0x3DCCCCCD#32 * g

/-- The new second moment. -/
def adamV (g v : EReal) : EReal := lit 0x3F7FBE77#32 * v + lit 0x3A83126F#32 * (g * g)

/-- The step: both moments with their start corrected, and the decay of the weight. -/
def adamD (w g m v : EReal) : EReal :=
  lit 0xBA83126F#32 * (Ideal.div (Ideal.div (adamM g m) (lit 0x3F26BD02#32))
    (Ideal.sqrt (Ideal.div (adamV g v) (lit 0x3C231ACC#32)) + lit 0x322BCC77#32) + lit 0x3C23D70A#32 * w)

end Cert.Maths

end
-- ==== Proof.OwinValue.lean ====
/- The optimizer's step on the input projection's weight: the kernel's three result arrays are the reference's. -/
module

public import proofs.«01_k».proof.Proof.AdamMath
public import proofs.«01_k».proof.Proof.Gen.OwinKernelIdeal.Value
public import proofs.«01_k».proof.Proof.Gen.OwinReferenceIdeal.Read

@[expose] public section

set_option maxRecDepth 16384

noncomputable section

namespace Cert.OwinReferenceIdeal.Ref

open Cert.OwinReferenceIdeal Cert.OwinReferenceIdeal.Gen Cert.OwinReferenceIdeal.Read Idealize.ShloMosaic Cert.Maths

variable (w m v : (⟨S1x1024x2184, .f32⟩ : BufTy).Contents (Elt Ideal)) (g : (⟨S1024x2184, .f32⟩ : BufTy).Contents (Elt Ideal)) (r : Fin 1024) (j : Fin 2184)

theorem v26_apply : val_main_v26 (F := Ideal) g m (ix2 r j) = adamM (g (ix2 r j)) (m (ix3 0 r j)) := by
  have e : idx_main_v26 (ix2 r j) = ix3 0 r j := by
    ext a; fin_cases a <;> simp <;> omega
  rw [val_main_v26_apply, e]
  pointwise [val_main_v5, val_main_v2, val_main_v1, val_main_v4, val_main_v3, val_main_v0, val_main_cst, val_main_cst_0]
  rfl

theorem v27_apply : val_main_v27 (F := Ideal) g v (ix2 r j) = adamV (g (ix2 r j)) (v (ix3 0 r j)) := by
  have e : idx_main_v27 (ix2 r j) = ix3 0 r j := by
    ext a; fin_cases a <;> simp <;> omega
  rw [val_main_v27_apply, e]
  pointwise [val_main_v11, val_main_v10, val_main_v9, val_main_v8, val_main_v7, val_main_v6, val_main_v0, val_main_cst_1, val_main_cst_2]
  rfl

theorem v25_apply : val_main_v25 (F := Ideal) w g m v (ix2 r j) = adamD (w (ix3 0 r j)) (g (ix2 r j)) (m (ix3 0 r j)) (v (ix3 0 r j)) := by
  have e : idx_main_v25 (ix2 r j) = ix3 0 r j := by
    ext a; fin_cases a <;> simp <;> omega
  rw [val_main_v25_apply, e]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Cert.OwinReferenceIdeal.Ref

namespace Cert.OwinKernelIdeal.Result

open Cert.OwinKernelIdeal Cert.OwinKernelIdeal.Gen Idealize.ShloMosaic Idealize.ShloMosaic.TcCoe Idealize.SL.Sem
open Cert.Maths Cert.OwinReferenceIdeal.Ref
open Cert.OwinReferenceIdeal.Read (val_main_v25 val_main_v26 val_main_v27)

variable (m : (ℓ : Loc nD τ sig) → Buf (Elt Ideal) ℓ) (c : Dev nD)

/-- Every window reads or writes the tile of its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

abbrev ws : S1x1024x2184.Idx → EReal := m ((c : Thread nD τ).loc main_arg0)
abbrev gs : S1024x2184.Idx → EReal := m ((c : Thread nD τ).loc main_arg1)
abbrev ms : S1x1024x2184.Idx → EReal := m ((c : Thread nD τ).loc main_arg2)
abbrev vs : S1x1024x2184.Idx → EReal := m ((c : Thread nD τ).loc main_arg3)

section payloads

variable (g mm vv w : Vec Ideal S256x2184 .f32) (i : Fin 256) (j : Fin 2184)

theorem pay1_apply : k0_pay1 (F := Ideal) g mm (ix2 i j) = adamM (g (ix2 i j)) (mm (ix2 i j)) := by
  pointwise [k0_pay1]
  rfl

theorem pay2_apply : k0_pay2 (F := Ideal) g vv (ix2 i j) = adamV (g (ix2 i j)) (vv (ix2 i j)) := by
  pointwise [k0_pay2]
  rfl

theorem pay3_apply : k0_pay3 (F := Ideal) g mm vv w (ix2 i j) = adamD (w (ix2 i j)) (g (ix2 i j)) (mm (ix2 i j)) (vv (ix2 i j)) := by
  pointwise [k0_pay3, pay1_apply, pay2_apply]
  rfl

end payloads

/-- Row `i` of tile `t`. -/
abbrev row (t : Fin cfg0.N) (i : Fin 256) : Fin 1024 := ⟨256 * t.val + i.val, by have : t.val < 4 := t.isLt; omega⟩

theorem V_w : V m c main_v0 = shapeCast _ (ws m c) shapeCasts_S1x1024x2184_S1024x2184 := by
  unfold V hostOps0; after_results_simp <;> rfl

theorem V_m : V m c main_v2 = shapeCast _ (ms m c) shapeCasts_S1x1024x2184_S1024x2184 := by
  unfold V hostOps0; after_results_simp <;> rfl

theorem V_v : V m c main_v4 = shapeCast _ (vs m c) shapeCasts_S1x1024x2184_S1024x2184 := by
  unfold V hostOps0; after_results_simp <;> rfl

/-- Dropping the leading axis of extent one. -/
theorem flat (x : S1x1024x2184.Idx → EReal) (r : Fin 1024) (j : Fin 2184) :
    (shapeCast S1024x2184 (x : Vec Ideal S1x1024x2184 .f32) shapeCasts_S1x1024x2184_S1024x2184 : Vec Ideal S1024x2184 .f32) (ix2 r j) = x (ix3 0 r j) := by
  pointwise []

theorem iblk0 (t : Fin cfg0.N) (i : Fin 256) (j : Fin 2184) : (iblk m c 0 t : Vec Ideal S256x2184 .f32) (ix2 i j) = ws m c (ix3 0 (row t i) j) := by
  rw [← flat (ws m c), ← V_w]; blk_ext [iblk, idx t]

theorem iblk1 (t : Fin cfg0.N) (i : Fin 256) (j : Fin 2184) : (iblk m c 1 t : Vec Ideal S256x2184 .f32) (ix2 i j) = gs m c (ix2 (row t i) j) := by
  rw [gs, ← V_main_arg1 m c]; blk_ext [iblk, idx t]

theorem iblk2 (t : Fin cfg0.N) (i : Fin 256) (j : Fin 2184) : (iblk m c 2 t : Vec Ideal S256x2184 .f32) (ix2 i j) = ms m c (ix3 0 (row t i) j) := by
  rw [← flat (ms m c), ← V_m]; blk_ext [iblk, idx t]

theorem iblk3 (t : Fin cfg0.N) (i : Fin 256) (j : Fin 2184) : (iblk m c 3 t : Vec Ideal S256x2184 .f32) (ix2 i j) = vs m c (ix3 0 (row t i) j) := by
  rw [← flat (vs m c), ← V_v]; blk_ext [iblk, idx t]

abbrev result4 : Buf (Elt Ideal) ((c : Thread nD τ).loc main_v5_0) := val_main_v25 (F := Ideal) (ws m c) (gs m c) (ms m c) (vs m c)
abbrev result5 : Buf (Elt Ideal) ((c : Thread nD τ).loc main_v5_1) := val_main_v26 (F := Ideal) (gs m c) (ms m c)
abbrev result6 : Buf (Elt Ideal) ((c : Thread nD τ).loc main_v5_2) := val_main_v27 (F := Ideal) (gs m c) (vs m c)

/-- The step of the weight. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 256) (j : Fin 2184), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v25_apply, pay3_apply, iblk0, iblk1, iblk2, iblk3]

/-- The new first moment. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 256) (j : Fin 2184), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v26_apply, pay1_apply, iblk1, iblk2]

/-- The new second moment. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 256) (j : Fin 2184), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v27_apply, pay2_apply, iblk1, iblk3]

end Cert.OwinKernelIdeal.Result

end
-- ==== Proof.OsoValue.lean ====
/- The optimizer's step on the scan half's output weight: the kernel's three result arrays are the reference's. -/
module

public import proofs.«01_k».proof.Proof.AdamMath
public import proofs.«01_k».proof.Proof.Gen.OsoKernelIdeal.Value
public import proofs.«01_k».proof.Proof.Gen.OsoReferenceIdeal.Read

@[expose] public section

set_option maxRecDepth 16384

noncomputable section

namespace Cert.OsoReferenceIdeal.Ref

open Cert.OsoReferenceIdeal Cert.OsoReferenceIdeal.Gen Cert.OsoReferenceIdeal.Read Idealize.ShloMosaic Cert.Maths

variable (w m v : (⟨S1x512x1024, .f32⟩ : BufTy).Contents (Elt Ideal)) (g : (⟨S512x1024, .f32⟩ : BufTy).Contents (Elt Ideal)) (r : Fin 512) (j : Fin 1024)

theorem v26_apply : val_main_v26 (F := Ideal) g m (ix2 r j) = adamM (g (ix2 r j)) (m (ix3 0 r j)) := by
  have e : idx_main_v26 (ix2 r j) = ix3 0 r j := by
    ext a; fin_cases a <;> simp <;> omega
  rw [val_main_v26_apply, e]
  pointwise [val_main_v5, val_main_v2, val_main_v1, val_main_v4, val_main_v3, val_main_v0, val_main_cst, val_main_cst_0]
  rfl

theorem v27_apply : val_main_v27 (F := Ideal) g v (ix2 r j) = adamV (g (ix2 r j)) (v (ix3 0 r j)) := by
  have e : idx_main_v27 (ix2 r j) = ix3 0 r j := by
    ext a; fin_cases a <;> simp <;> omega
  rw [val_main_v27_apply, e]
  pointwise [val_main_v11, val_main_v10, val_main_v9, val_main_v8, val_main_v7, val_main_v6, val_main_v0, val_main_cst_1, val_main_cst_2]
  rfl

theorem v25_apply : val_main_v25 (F := Ideal) w g m v (ix2 r j) = adamD (w (ix3 0 r j)) (g (ix2 r j)) (m (ix3 0 r j)) (v (ix3 0 r j)) := by
  have e : idx_main_v25 (ix2 r j) = ix3 0 r j := by
    ext a; fin_cases a <;> simp <;> omega
  rw [val_main_v25_apply, e]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Cert.OsoReferenceIdeal.Ref

namespace Cert.OsoKernelIdeal.Result

open Cert.OsoKernelIdeal Cert.OsoKernelIdeal.Gen Idealize.ShloMosaic Idealize.ShloMosaic.TcCoe Idealize.SL.Sem
open Cert.Maths Cert.OsoReferenceIdeal.Ref
open Cert.OsoReferenceIdeal.Read (val_main_v25 val_main_v26 val_main_v27)

variable (m : (ℓ : Loc nD τ sig) → Buf (Elt Ideal) ℓ) (c : Dev nD)

/-- Every window reads or writes the tile of its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

abbrev ws : S1x512x1024.Idx → EReal := m ((c : Thread nD τ).loc main_arg0)
abbrev gs : S512x1024.Idx → EReal := m ((c : Thread nD τ).loc main_arg1)
abbrev ms : S1x512x1024.Idx → EReal := m ((c : Thread nD τ).loc main_arg2)
abbrev vs : S1x512x1024.Idx → EReal := m ((c : Thread nD τ).loc main_arg3)

section payloads

variable (g mm vv w : Vec Ideal S256x1024 .f32) (i : Fin 256) (j : Fin 1024)

theorem pay1_apply : k0_pay1 (F := Ideal) g mm (ix2 i j) = adamM (g (ix2 i j)) (mm (ix2 i j)) := by
  pointwise [k0_pay1]
  rfl

theorem pay2_apply : k0_pay2 (F := Ideal) g vv (ix2 i j) = adamV (g (ix2 i j)) (vv (ix2 i j)) := by
  pointwise [k0_pay2]
  rfl

theorem pay3_apply : k0_pay3 (F := Ideal) g mm vv w (ix2 i j) = adamD (w (ix2 i j)) (g (ix2 i j)) (mm (ix2 i j)) (vv (ix2 i j)) := by
  pointwise [k0_pay3, pay1_apply, pay2_apply]
  rfl

end payloads

/-- Row `i` of tile `t`. -/
abbrev row (t : Fin cfg0.N) (i : Fin 256) : Fin 512 := ⟨256 * t.val + i.val, by have : t.val < 2 := t.isLt; omega⟩

theorem V_w : V m c main_v0 = shapeCast _ (ws m c) shapeCasts_S1x512x1024_S512x1024 := by
  unfold V hostOps0; after_results_simp <;> rfl

theorem V_m : V m c main_v2 = shapeCast _ (ms m c) shapeCasts_S1x512x1024_S512x1024 := by
  unfold V hostOps0; after_results_simp <;> rfl

theorem V_v : V m c main_v4 = shapeCast _ (vs m c) shapeCasts_S1x512x1024_S512x1024 := by
  unfold V hostOps0; after_results_simp <;> rfl

/-- Dropping the leading axis of extent one. -/
theorem flat (x : S1x512x1024.Idx → EReal) (r : Fin 512) (j : Fin 1024) :
    (shapeCast S512x1024 (x : Vec Ideal S1x512x1024 .f32) shapeCasts_S1x512x1024_S512x1024 : Vec Ideal S512x1024 .f32) (ix2 r j) = x (ix3 0 r j) := by
  pointwise []

theorem iblk0 (t : Fin cfg0.N) (i : Fin 256) (j : Fin 1024) : (iblk m c 0 t : Vec Ideal S256x1024 .f32) (ix2 i j) = ws m c (ix3 0 (row t i) j) := by
  rw [← flat (ws m c), ← V_w]; blk_ext [iblk, idx t]

theorem iblk1 (t : Fin cfg0.N) (i : Fin 256) (j : Fin 1024) : (iblk m c 1 t : Vec Ideal S256x1024 .f32) (ix2 i j) = gs m c (ix2 (row t i) j) := by
  rw [gs, ← V_main_arg1 m c]; blk_ext [iblk, idx t]

theorem iblk2 (t : Fin cfg0.N) (i : Fin 256) (j : Fin 1024) : (iblk m c 2 t : Vec Ideal S256x1024 .f32) (ix2 i j) = ms m c (ix3 0 (row t i) j) := by
  rw [← flat (ms m c), ← V_m]; blk_ext [iblk, idx t]

theorem iblk3 (t : Fin cfg0.N) (i : Fin 256) (j : Fin 1024) : (iblk m c 3 t : Vec Ideal S256x1024 .f32) (ix2 i j) = vs m c (ix3 0 (row t i) j) := by
  rw [← flat (vs m c), ← V_v]; blk_ext [iblk, idx t]

abbrev result4 : Buf (Elt Ideal) ((c : Thread nD τ).loc main_v5_0) := val_main_v25 (F := Ideal) (ws m c) (gs m c) (ms m c) (vs m c)
abbrev result5 : Buf (Elt Ideal) ((c : Thread nD τ).loc main_v5_1) := val_main_v26 (F := Ideal) (gs m c) (ms m c)
abbrev result6 : Buf (Elt Ideal) ((c : Thread nD τ).loc main_v5_2) := val_main_v27 (F := Ideal) (gs m c) (vs m c)

/-- The step of the weight. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v25_apply, pay3_apply, iblk0, iblk1, iblk2, iblk3]

/-- The new first moment. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v26_apply, pay1_apply, iblk1, iblk2]

/-- The new second moment. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v27_apply, pay2_apply, iblk1, iblk3]

end Cert.OsoKernelIdeal.Result

end
-- ==== Proof.OaoValue.lean ====
/- The optimizer's step on the attention half's output weight: the kernel's three result arrays are the reference's. -/
module

public import proofs.«01_k».proof.Proof.AdamMath
public import proofs.«01_k».proof.Proof.Gen.OaoKernelIdeal.Value
public import proofs.«01_k».proof.Proof.Gen.OaoReferenceIdeal.Read

@[expose] public section

set_option maxRecDepth 16384

noncomputable section

namespace Cert.OaoReferenceIdeal.Ref

open Cert.OaoReferenceIdeal Cert.OaoReferenceIdeal.Gen Cert.OaoReferenceIdeal.Read Idealize.ShloMosaic Cert.Maths

variable (w m v : (⟨S1x256x1024, .f32⟩ : BufTy).Contents (Elt Ideal)) (g : (⟨S256x1024, .f32⟩ : BufTy).Contents (Elt Ideal)) (r : Fin 256) (j : Fin 1024)

theorem v26_apply : val_main_v26 (F := Ideal) g m (ix2 r j) = adamM (g (ix2 r j)) (m (ix3 0 r j)) := by
  have e : idx_main_v26 (ix2 r j) = ix3 0 r j := by
    ext a; fin_cases a <;> simp <;> omega
  rw [val_main_v26_apply, e]
  pointwise [val_main_v5, val_main_v2, val_main_v1, val_main_v4, val_main_v3, val_main_v0, val_main_cst, val_main_cst_0]
  rfl

theorem v27_apply : val_main_v27 (F := Ideal) g v (ix2 r j) = adamV (g (ix2 r j)) (v (ix3 0 r j)) := by
  have e : idx_main_v27 (ix2 r j) = ix3 0 r j := by
    ext a; fin_cases a <;> simp <;> omega
  rw [val_main_v27_apply, e]
  pointwise [val_main_v11, val_main_v10, val_main_v9, val_main_v8, val_main_v7, val_main_v6, val_main_v0, val_main_cst_1, val_main_cst_2]
  rfl

theorem v25_apply : val_main_v25 (F := Ideal) w g m v (ix2 r j) = adamD (w (ix3 0 r j)) (g (ix2 r j)) (m (ix3 0 r j)) (v (ix3 0 r j)) := by
  have e : idx_main_v25 (ix2 r j) = ix3 0 r j := by
    ext a; fin_cases a <;> simp <;> omega
  rw [val_main_v25_apply, e]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Cert.OaoReferenceIdeal.Ref

namespace Cert.OaoKernelIdeal.Result

open Cert.OaoKernelIdeal Cert.OaoKernelIdeal.Gen Idealize.ShloMosaic Idealize.ShloMosaic.TcCoe Idealize.SL.Sem
open Cert.Maths Cert.OaoReferenceIdeal.Ref
open Cert.OaoReferenceIdeal.Read (val_main_v25 val_main_v26 val_main_v27)

variable (m : (ℓ : Loc nD τ sig) → Buf (Elt Ideal) ℓ) (c : Dev nD)

/-- Every window reads or writes the tile of its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

abbrev ws : S1x256x1024.Idx → EReal := m ((c : Thread nD τ).loc main_arg0)
abbrev gs : S256x1024.Idx → EReal := m ((c : Thread nD τ).loc main_arg1)
abbrev ms : S1x256x1024.Idx → EReal := m ((c : Thread nD τ).loc main_arg2)
abbrev vs : S1x256x1024.Idx → EReal := m ((c : Thread nD τ).loc main_arg3)

section payloads

variable (g mm vv w : Vec Ideal S256x1024 .f32) (i : Fin 256) (j : Fin 1024)

theorem pay1_apply : k0_pay1 (F := Ideal) g mm (ix2 i j) = adamM (g (ix2 i j)) (mm (ix2 i j)) := by
  pointwise [k0_pay1]
  rfl

theorem pay2_apply : k0_pay2 (F := Ideal) g vv (ix2 i j) = adamV (g (ix2 i j)) (vv (ix2 i j)) := by
  pointwise [k0_pay2]
  rfl

theorem pay3_apply : k0_pay3 (F := Ideal) g mm vv w (ix2 i j) = adamD (w (ix2 i j)) (g (ix2 i j)) (mm (ix2 i j)) (vv (ix2 i j)) := by
  pointwise [k0_pay3, pay1_apply, pay2_apply]
  rfl

end payloads

/-- Row `i` of tile `t`. -/
abbrev row (t : Fin cfg0.N) (i : Fin 256) : Fin 256 := ⟨256 * t.val + i.val, by have : t.val < 1 := t.isLt; omega⟩

theorem V_w : V m c main_v0 = shapeCast _ (ws m c) shapeCasts_S1x256x1024_S256x1024 := by
  unfold V hostOps0; after_results_simp <;> rfl

theorem V_m : V m c main_v2 = shapeCast _ (ms m c) shapeCasts_S1x256x1024_S256x1024 := by
  unfold V hostOps0; after_results_simp <;> rfl

theorem V_v : V m c main_v4 = shapeCast _ (vs m c) shapeCasts_S1x256x1024_S256x1024 := by
  unfold V hostOps0; after_results_simp <;> rfl

/-- Dropping the leading axis of extent one. -/
theorem flat (x : S1x256x1024.Idx → EReal) (r : Fin 256) (j : Fin 1024) :
    (shapeCast S256x1024 (x : Vec Ideal S1x256x1024 .f32) shapeCasts_S1x256x1024_S256x1024 : Vec Ideal S256x1024 .f32) (ix2 r j) = x (ix3 0 r j) := by
  pointwise []

theorem iblk0 (t : Fin cfg0.N) (i : Fin 256) (j : Fin 1024) : (iblk m c 0 t : Vec Ideal S256x1024 .f32) (ix2 i j) = ws m c (ix3 0 (row t i) j) := by
  rw [← flat (ws m c), ← V_w]; blk_ext [iblk, idx t]

theorem iblk1 (t : Fin cfg0.N) (i : Fin 256) (j : Fin 1024) : (iblk m c 1 t : Vec Ideal S256x1024 .f32) (ix2 i j) = gs m c (ix2 (row t i) j) := by
  rw [gs, ← V_main_arg1 m c]; blk_ext [iblk, idx t]

theorem iblk2 (t : Fin cfg0.N) (i : Fin 256) (j : Fin 1024) : (iblk m c 2 t : Vec Ideal S256x1024 .f32) (ix2 i j) = ms m c (ix3 0 (row t i) j) := by
  rw [← flat (ms m c), ← V_m]; blk_ext [iblk, idx t]

theorem iblk3 (t : Fin cfg0.N) (i : Fin 256) (j : Fin 1024) : (iblk m c 3 t : Vec Ideal S256x1024 .f32) (ix2 i j) = vs m c (ix3 0 (row t i) j) := by
  rw [← flat (vs m c), ← V_v]; blk_ext [iblk, idx t]

abbrev result4 : Buf (Elt Ideal) ((c : Thread nD τ).loc main_v5_0) := val_main_v25 (F := Ideal) (ws m c) (gs m c) (ms m c) (vs m c)
abbrev result5 : Buf (Elt Ideal) ((c : Thread nD τ).loc main_v5_1) := val_main_v26 (F := Ideal) (gs m c) (ms m c)
abbrev result6 : Buf (Elt Ideal) ((c : Thread nD τ).loc main_v5_2) := val_main_v27 (F := Ideal) (gs m c) (vs m c)

/-- The step of the weight. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v25_apply, pay3_apply, iblk0, iblk1, iblk2, iblk3]

/-- The new first moment. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v26_apply, pay1_apply, iblk1, iblk2]

/-- The new second moment. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 256) (j : Fin 1024), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v27_apply, pay2_apply, iblk1, iblk3]

end Cert.OaoKernelIdeal.Result

end
-- ==== Proof.OupValue.lean ====
/- The optimizer's step on the gated unit's first weight: the kernel's three result arrays are the reference's. -/
module

public import proofs.«01_k».proof.Proof.AdamMath
public import proofs.«01_k».proof.Proof.Gen.OupKernelIdeal.Value
public import proofs.«01_k».proof.Proof.Gen.OupReferenceIdeal.Read

@[expose] public section

set_option maxRecDepth 16384

noncomputable section

namespace Cert.OupReferenceIdeal.Ref

open Cert.OupReferenceIdeal Cert.OupReferenceIdeal.Gen Cert.OupReferenceIdeal.Read Idealize.ShloMosaic Cert.Maths

variable (w m v : (⟨S1x1024x1408, .f32⟩ : BufTy).Contents (Elt Ideal)) (g : (⟨S1024x1408, .f32⟩ : BufTy).Contents (Elt Ideal)) (r : Fin 1024) (j : Fin 1408)

theorem v26_apply : val_main_v26 (F := Ideal) g m (ix2 r j) = adamM (g (ix2 r j)) (m (ix3 0 r j)) := by
  have e : idx_main_v26 (ix2 r j) = ix3 0 r j := by
    ext a; fin_cases a <;> simp <;> omega
  rw [val_main_v26_apply, e]
  pointwise [val_main_v5, val_main_v2, val_main_v1, val_main_v4, val_main_v3, val_main_v0, val_main_cst, val_main_cst_0]
  rfl

theorem v27_apply : val_main_v27 (F := Ideal) g v (ix2 r j) = adamV (g (ix2 r j)) (v (ix3 0 r j)) := by
  have e : idx_main_v27 (ix2 r j) = ix3 0 r j := by
    ext a; fin_cases a <;> simp <;> omega
  rw [val_main_v27_apply, e]
  pointwise [val_main_v11, val_main_v10, val_main_v9, val_main_v8, val_main_v7, val_main_v6, val_main_v0, val_main_cst_1, val_main_cst_2]
  rfl

theorem v25_apply : val_main_v25 (F := Ideal) w g m v (ix2 r j) = adamD (w (ix3 0 r j)) (g (ix2 r j)) (m (ix3 0 r j)) (v (ix3 0 r j)) := by
  have e : idx_main_v25 (ix2 r j) = ix3 0 r j := by
    ext a; fin_cases a <;> simp <;> omega
  rw [val_main_v25_apply, e]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Cert.OupReferenceIdeal.Ref

namespace Cert.OupKernelIdeal.Result

open Cert.OupKernelIdeal Cert.OupKernelIdeal.Gen Idealize.ShloMosaic Idealize.ShloMosaic.TcCoe Idealize.SL.Sem
open Cert.Maths Cert.OupReferenceIdeal.Ref
open Cert.OupReferenceIdeal.Read (val_main_v25 val_main_v26 val_main_v27)

variable (m : (ℓ : Loc nD τ sig) → Buf (Elt Ideal) ℓ) (c : Dev nD)

/-- Every window reads or writes the tile of its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

abbrev ws : S1x1024x1408.Idx → EReal := m ((c : Thread nD τ).loc main_arg0)
abbrev gs : S1024x1408.Idx → EReal := m ((c : Thread nD τ).loc main_arg1)
abbrev ms : S1x1024x1408.Idx → EReal := m ((c : Thread nD τ).loc main_arg2)
abbrev vs : S1x1024x1408.Idx → EReal := m ((c : Thread nD τ).loc main_arg3)

section payloads

variable (g mm vv w : Vec Ideal S256x1408 .f32) (i : Fin 256) (j : Fin 1408)

theorem pay1_apply : k0_pay1 (F := Ideal) g mm (ix2 i j) = adamM (g (ix2 i j)) (mm (ix2 i j)) := by
  pointwise [k0_pay1]
  rfl

theorem pay2_apply : k0_pay2 (F := Ideal) g vv (ix2 i j) = adamV (g (ix2 i j)) (vv (ix2 i j)) := by
  pointwise [k0_pay2]
  rfl

theorem pay3_apply : k0_pay3 (F := Ideal) g mm vv w (ix2 i j) = adamD (w (ix2 i j)) (g (ix2 i j)) (mm (ix2 i j)) (vv (ix2 i j)) := by
  pointwise [k0_pay3, pay1_apply, pay2_apply]
  rfl

end payloads

/-- Row `i` of tile `t`. -/
abbrev row (t : Fin cfg0.N) (i : Fin 256) : Fin 1024 := ⟨256 * t.val + i.val, by have : t.val < 4 := t.isLt; omega⟩

theorem V_w : V m c main_v0 = shapeCast _ (ws m c) shapeCasts_S1x1024x1408_S1024x1408 := by
  unfold V hostOps0; after_results_simp <;> rfl

theorem V_m : V m c main_v2 = shapeCast _ (ms m c) shapeCasts_S1x1024x1408_S1024x1408 := by
  unfold V hostOps0; after_results_simp <;> rfl

theorem V_v : V m c main_v4 = shapeCast _ (vs m c) shapeCasts_S1x1024x1408_S1024x1408 := by
  unfold V hostOps0; after_results_simp <;> rfl

/-- Dropping the leading axis of extent one. -/
theorem flat (x : S1x1024x1408.Idx → EReal) (r : Fin 1024) (j : Fin 1408) :
    (shapeCast S1024x1408 (x : Vec Ideal S1x1024x1408 .f32) shapeCasts_S1x1024x1408_S1024x1408 : Vec Ideal S1024x1408 .f32) (ix2 r j) = x (ix3 0 r j) := by
  pointwise []

theorem iblk0 (t : Fin cfg0.N) (i : Fin 256) (j : Fin 1408) : (iblk m c 0 t : Vec Ideal S256x1408 .f32) (ix2 i j) = ws m c (ix3 0 (row t i) j) := by
  rw [← flat (ws m c), ← V_w]; blk_ext [iblk, idx t]

theorem iblk1 (t : Fin cfg0.N) (i : Fin 256) (j : Fin 1408) : (iblk m c 1 t : Vec Ideal S256x1408 .f32) (ix2 i j) = gs m c (ix2 (row t i) j) := by
  rw [gs, ← V_main_arg1 m c]; blk_ext [iblk, idx t]

theorem iblk2 (t : Fin cfg0.N) (i : Fin 256) (j : Fin 1408) : (iblk m c 2 t : Vec Ideal S256x1408 .f32) (ix2 i j) = ms m c (ix3 0 (row t i) j) := by
  rw [← flat (ms m c), ← V_m]; blk_ext [iblk, idx t]

theorem iblk3 (t : Fin cfg0.N) (i : Fin 256) (j : Fin 1408) : (iblk m c 3 t : Vec Ideal S256x1408 .f32) (ix2 i j) = vs m c (ix3 0 (row t i) j) := by
  rw [← flat (vs m c), ← V_v]; blk_ext [iblk, idx t]

abbrev result4 : Buf (Elt Ideal) ((c : Thread nD τ).loc main_v5_0) := val_main_v25 (F := Ideal) (ws m c) (gs m c) (ms m c) (vs m c)
abbrev result5 : Buf (Elt Ideal) ((c : Thread nD τ).loc main_v5_1) := val_main_v26 (F := Ideal) (gs m c) (ms m c)
abbrev result6 : Buf (Elt Ideal) ((c : Thread nD τ).loc main_v5_2) := val_main_v27 (F := Ideal) (gs m c) (vs m c)

/-- The step of the weight. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 256) (j : Fin 1408), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v25_apply, pay3_apply, iblk0, iblk1, iblk2, iblk3]

/-- The new first moment. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 256) (j : Fin 1408), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v26_apply, pay1_apply, iblk1, iblk2]

/-- The new second moment. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 256) (j : Fin 1408), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v27_apply, pay2_apply, iblk1, iblk3]

end Cert.OupKernelIdeal.Result

end
-- ==== Proof.OdnValue.lean ====
/- The optimizer's step on the gated unit's second weight: the kernel's three result arrays are the reference's. -/
module

public import proofs.«01_k».proof.Proof.AdamMath
public import proofs.«01_k».proof.Proof.Gen.OdnKernelIdeal.Value
public import proofs.«01_k».proof.Proof.Gen.OdnReferenceIdeal.Read

@[expose] public section

set_option maxRecDepth 16384

noncomputable section

namespace Cert.OdnReferenceIdeal.Ref

open Cert.OdnReferenceIdeal Cert.OdnReferenceIdeal.Gen Cert.OdnReferenceIdeal.Read Idealize.ShloMosaic Cert.Maths

variable (w m v : (⟨S1x704x1024, .f32⟩ : BufTy).Contents (Elt Ideal)) (g : (⟨S704x1024, .f32⟩ : BufTy).Contents (Elt Ideal)) (r : Fin 704) (j : Fin 1024)

theorem v26_apply : val_main_v26 (F := Ideal) g m (ix2 r j) = adamM (g (ix2 r j)) (m (ix3 0 r j)) := by
  have e : idx_main_v26 (ix2 r j) = ix3 0 r j := by
    ext a; fin_cases a <;> simp <;> omega
  rw [val_main_v26_apply, e]
  pointwise [val_main_v5, val_main_v2, val_main_v1, val_main_v4, val_main_v3, val_main_v0, val_main_cst, val_main_cst_0]
  rfl

theorem v27_apply : val_main_v27 (F := Ideal) g v (ix2 r j) = adamV (g (ix2 r j)) (v (ix3 0 r j)) := by
  have e : idx_main_v27 (ix2 r j) = ix3 0 r j := by
    ext a; fin_cases a <;> simp <;> omega
  rw [val_main_v27_apply, e]
  pointwise [val_main_v11, val_main_v10, val_main_v9, val_main_v8, val_main_v7, val_main_v6, val_main_v0, val_main_cst_1, val_main_cst_2]
  rfl

theorem v25_apply : val_main_v25 (F := Ideal) w g m v (ix2 r j) = adamD (w (ix3 0 r j)) (g (ix2 r j)) (m (ix3 0 r j)) (v (ix3 0 r j)) := by
  have e : idx_main_v25 (ix2 r j) = ix3 0 r j := by
    ext a; fin_cases a <;> simp <;> omega
  rw [val_main_v25_apply, e]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Cert.OdnReferenceIdeal.Ref

namespace Cert.OdnKernelIdeal.Result

open Cert.OdnKernelIdeal Cert.OdnKernelIdeal.Gen Idealize.ShloMosaic Idealize.ShloMosaic.TcCoe Idealize.SL.Sem
open Cert.Maths Cert.OdnReferenceIdeal.Ref
open Cert.OdnReferenceIdeal.Read (val_main_v25 val_main_v26 val_main_v27)

variable (m : (ℓ : Loc nD τ sig) → Buf (Elt Ideal) ℓ) (c : Dev nD)

/-- Every window reads or writes the tile of its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

abbrev ws : S1x704x1024.Idx → EReal := m ((c : Thread nD τ).loc main_arg0)
abbrev gs : S704x1024.Idx → EReal := m ((c : Thread nD τ).loc main_arg1)
abbrev ms : S1x704x1024.Idx → EReal := m ((c : Thread nD τ).loc main_arg2)
abbrev vs : S1x704x1024.Idx → EReal := m ((c : Thread nD τ).loc main_arg3)

section payloads

variable (g mm vv w : Vec Ideal S352x1024 .f32) (i : Fin 352) (j : Fin 1024)

theorem pay1_apply : k0_pay1 (F := Ideal) g mm (ix2 i j) = adamM (g (ix2 i j)) (mm (ix2 i j)) := by
  pointwise [k0_pay1]
  rfl

theorem pay2_apply : k0_pay2 (F := Ideal) g vv (ix2 i j) = adamV (g (ix2 i j)) (vv (ix2 i j)) := by
  pointwise [k0_pay2]
  rfl

theorem pay3_apply : k0_pay3 (F := Ideal) g mm vv w (ix2 i j) = adamD (w (ix2 i j)) (g (ix2 i j)) (mm (ix2 i j)) (vv (ix2 i j)) := by
  pointwise [k0_pay3, pay1_apply, pay2_apply]
  rfl

end payloads

/-- Row `i` of tile `t`. -/
abbrev row (t : Fin cfg0.N) (i : Fin 352) : Fin 704 := ⟨352 * t.val + i.val, by have : t.val < 2 := t.isLt; omega⟩

theorem V_w : V m c main_v0 = shapeCast _ (ws m c) shapeCasts_S1x704x1024_S704x1024 := by
  unfold V hostOps0; after_results_simp <;> rfl

theorem V_m : V m c main_v2 = shapeCast _ (ms m c) shapeCasts_S1x704x1024_S704x1024 := by
  unfold V hostOps0; after_results_simp <;> rfl

theorem V_v : V m c main_v4 = shapeCast _ (vs m c) shapeCasts_S1x704x1024_S704x1024 := by
  unfold V hostOps0; after_results_simp <;> rfl

/-- Dropping the leading axis of extent one. -/
theorem flat (x : S1x704x1024.Idx → EReal) (r : Fin 704) (j : Fin 1024) :
    (shapeCast S704x1024 (x : Vec Ideal S1x704x1024 .f32) shapeCasts_S1x704x1024_S704x1024 : Vec Ideal S704x1024 .f32) (ix2 r j) = x (ix3 0 r j) := by
  pointwise []

theorem iblk0 (t : Fin cfg0.N) (i : Fin 352) (j : Fin 1024) : (iblk m c 0 t : Vec Ideal S352x1024 .f32) (ix2 i j) = ws m c (ix3 0 (row t i) j) := by
  rw [← flat (ws m c), ← V_w]; blk_ext [iblk, idx t]

theorem iblk1 (t : Fin cfg0.N) (i : Fin 352) (j : Fin 1024) : (iblk m c 1 t : Vec Ideal S352x1024 .f32) (ix2 i j) = gs m c (ix2 (row t i) j) := by
  rw [gs, ← V_main_arg1 m c]; blk_ext [iblk, idx t]

theorem iblk2 (t : Fin cfg0.N) (i : Fin 352) (j : Fin 1024) : (iblk m c 2 t : Vec Ideal S352x1024 .f32) (ix2 i j) = ms m c (ix3 0 (row t i) j) := by
  rw [← flat (ms m c), ← V_m]; blk_ext [iblk, idx t]

theorem iblk3 (t : Fin cfg0.N) (i : Fin 352) (j : Fin 1024) : (iblk m c 3 t : Vec Ideal S352x1024 .f32) (ix2 i j) = vs m c (ix3 0 (row t i) j) := by
  rw [← flat (vs m c), ← V_v]; blk_ext [iblk, idx t]

abbrev result4 : Buf (Elt Ideal) ((c : Thread nD τ).loc main_v5_0) := val_main_v25 (F := Ideal) (ws m c) (gs m c) (ms m c) (vs m c)
abbrev result5 : Buf (Elt Ideal) ((c : Thread nD τ).loc main_v5_1) := val_main_v26 (F := Ideal) (gs m c) (ms m c)
abbrev result6 : Buf (Elt Ideal) ((c : Thread nD τ).loc main_v5_2) := val_main_v27 (F := Ideal) (gs m c) (vs m c)

/-- The step of the weight. -/
theorem final4 : (dats m 0 c).arrAt 4 cfg0.N = result4 m c := by
  refine (dats m 0 c).arrAt_eq_of_covers 4 _ (by decide +kernel) fun t hf y => ?_
  blk_simp
  rw [after0_4]
  frame_out
  obtain ⟨i, j, rfl⟩ : ∃ (i : Fin 352) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v25_apply, pay3_apply, iblk0, iblk1, iblk2, iblk3]

/-- The new first moment. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 352) (j : Fin 1024), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v26_apply, pay1_apply, iblk1, iblk2]

/-- The new second moment. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 352) (j : Fin 1024), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v27_apply, pay2_apply, iblk1, iblk3]

end Cert.OdnKernelIdeal.Result

end
-- ==== Proof.AdamClaim.lean ====
/- The claims about the optimizer's step on the weights of the products. -/
module

public import proofs.«01_k».proof.Defs
public import proofs.«01_k».proof.Proof.OwinValue
public import proofs.«01_k».proof.Proof.Gen.OwinReferenceIdeal.Run
public import proofs.«01_k».proof.Proof.OsoValue
public import proofs.«01_k».proof.Proof.Gen.OsoReferenceIdeal.Run
public import proofs.«01_k».proof.Proof.OaoValue
public import proofs.«01_k».proof.Proof.Gen.OaoReferenceIdeal.Run
public import proofs.«01_k».proof.Proof.OupValue
public import proofs.«01_k».proof.Proof.Gen.OupReferenceIdeal.Run
public import proofs.«01_k».proof.Proof.OdnValue
public import proofs.«01_k».proof.Proof.Gen.OdnReferenceIdeal.Run
public import Idealize.ShloMosaic.Adequacy
public import Idealize.ShloMosaic.Init

@[expose] public section

noncomputable section

namespace Cert.Proof

open Idealize.ShloMosaic Idealize.SL.Sem

/-- The reference of the step on the input projection's weight runs to the end with every semaphore at zero and its arguments kept. -/
theorem owin_reference_frame : Cert.quiescent_OwinReferenceIdeal (hOwinReferenceIdeal := Cert.OwinReferenceIdeal.Gen.facts) := fun m ρ _ =>
  (θ_run (Cert.OwinReferenceIdeal.defs (F := Ideal)) _ _).mono
    (fun r h => ⟨fun c => (h c).2.2.2, sem_eq_zero_of_no_sems (by decide) r.2⟩)
    (Cert.OwinReferenceIdeal.Value.run (F := Ideal) m ρ)

/-- THE VALUE of the step on the input projection's weight: the kernel's three result arrays are the reference's, at every input. -/
theorem owin_algebraic : Cert.algebraic_OwinKernelIdeal_OwinReferenceIdeal (hOwinKernelIdeal := Cert.OwinKernelIdeal.Gen.facts)
    (hOwinReferenceIdeal := Cert.OwinReferenceIdeal.Gen.facts) := by
  intro m g m' g' _ hm
  refine ⟨fun c => Cert.OwinKernelIdeal.Result.result4 m c, fun c => Cert.OwinKernelIdeal.Result.result5 m c,
    fun c => Cert.OwinKernelIdeal.Result.result6 m c, ?_, ?_⟩
  · exact (θ_run (Cert.OwinKernelIdeal.defs (F := Ideal)) _ _).mono
      (fun r h c => ⟨(h c).1.trans (Cert.OwinKernelIdeal.Result.final4 m c), (h c).2.1.trans (Cert.OwinKernelIdeal.Result.final5 m c),
        (h c).2.2.1.trans (Cert.OwinKernelIdeal.Result.final6 m c), (h c).2.2.2⟩)
      (Cert.OwinKernelIdeal.Value.run_blocks (F := Ideal) m g)
  · refine (θ_run (Cert.OwinReferenceIdeal.defs (F := Ideal)) _ _).mono
      (fun r h c => ⟨(h c).1.trans ?_, (h c).2.1.trans ?_, (h c).2.2.1.trans ?_, (h c).2.2.2⟩)
      (Cert.OwinReferenceIdeal.Value.run (F := Ideal) m' g')
    all_goals obtain ⟨e0, e1, e2, e3⟩ := hm c
    · refine (Cert.OwinReferenceIdeal.Read.val_main_v25_eq (F := Ideal) _ _ _ _).trans ?_
      rw [e0, e1, e2, e3]
    · refine (Cert.OwinReferenceIdeal.Read.val_main_v26_eq (F := Ideal) _ _).trans ?_
      rw [e1, e2]
    · refine (Cert.OwinReferenceIdeal.Read.val_main_v27_eq (F := Ideal) _ _).trans ?_
      rw [e1, e3]

/-- The reference of the step on the scan half's output weight runs to the end with every semaphore at zero and its arguments kept. -/
theorem oso_reference_frame : Cert.quiescent_OsoReferenceIdeal (hOsoReferenceIdeal := Cert.OsoReferenceIdeal.Gen.facts) := fun m ρ _ =>
  (θ_run (Cert.OsoReferenceIdeal.defs (F := Ideal)) _ _).mono
    (fun r h => ⟨fun c => (h c).2.2.2, sem_eq_zero_of_no_sems (by decide) r.2⟩)
    (Cert.OsoReferenceIdeal.Value.run (F := Ideal) m ρ)

/-- THE VALUE of the step on the scan half's output weight: the kernel's three result arrays are the reference's, at every input. -/
theorem oso_algebraic : Cert.algebraic_OsoKernelIdeal_OsoReferenceIdeal (hOsoKernelIdeal := Cert.OsoKernelIdeal.Gen.facts)
    (hOsoReferenceIdeal := Cert.OsoReferenceIdeal.Gen.facts) := by
  intro m g m' g' _ hm
  refine ⟨fun c => Cert.OsoKernelIdeal.Result.result4 m c, fun c => Cert.OsoKernelIdeal.Result.result5 m c,
    fun c => Cert.OsoKernelIdeal.Result.result6 m c, ?_, ?_⟩
  · exact (θ_run (Cert.OsoKernelIdeal.defs (F := Ideal)) _ _).mono
      (fun r h c => ⟨(h c).1.trans (Cert.OsoKernelIdeal.Result.final4 m c), (h c).2.1.trans (Cert.OsoKernelIdeal.Result.final5 m c),
        (h c).2.2.1.trans (Cert.OsoKernelIdeal.Result.final6 m c), (h c).2.2.2⟩)
      (Cert.OsoKernelIdeal.Value.run_blocks (F := Ideal) m g)
  · refine (θ_run (Cert.OsoReferenceIdeal.defs (F := Ideal)) _ _).mono
      (fun r h c => ⟨(h c).1.trans ?_, (h c).2.1.trans ?_, (h c).2.2.1.trans ?_, (h c).2.2.2⟩)
      (Cert.OsoReferenceIdeal.Value.run (F := Ideal) m' g')
    all_goals obtain ⟨e0, e1, e2, e3⟩ := hm c
    · refine (Cert.OsoReferenceIdeal.Read.val_main_v25_eq (F := Ideal) _ _ _ _).trans ?_
      rw [e0, e1, e2, e3]
    · refine (Cert.OsoReferenceIdeal.Read.val_main_v26_eq (F := Ideal) _ _).trans ?_
      rw [e1, e2]
    · refine (Cert.OsoReferenceIdeal.Read.val_main_v27_eq (F := Ideal) _ _).trans ?_
      rw [e1, e3]

/-- The reference of the step on the attention half's output weight runs to the end with every semaphore at zero and its arguments kept. -/
theorem oao_reference_frame : Cert.quiescent_OaoReferenceIdeal (hOaoReferenceIdeal := Cert.OaoReferenceIdeal.Gen.facts) := fun m ρ _ =>
  (θ_run (Cert.OaoReferenceIdeal.defs (F := Ideal)) _ _).mono
    (fun r h => ⟨fun c => (h c).2.2.2, sem_eq_zero_of_no_sems (by decide) r.2⟩)
    (Cert.OaoReferenceIdeal.Value.run (F := Ideal) m ρ)

/-- THE VALUE of the step on the attention half's output weight: the kernel's three result arrays are the reference's, at every input. -/
theorem oao_algebraic : Cert.algebraic_OaoKernelIdeal_OaoReferenceIdeal (hOaoKernelIdeal := Cert.OaoKernelIdeal.Gen.facts)
    (hOaoReferenceIdeal := Cert.OaoReferenceIdeal.Gen.facts) := by
  intro m g m' g' _ hm
  refine ⟨fun c => Cert.OaoKernelIdeal.Result.result4 m c, fun c => Cert.OaoKernelIdeal.Result.result5 m c,
    fun c => Cert.OaoKernelIdeal.Result.result6 m c, ?_, ?_⟩
  · exact (θ_run (Cert.OaoKernelIdeal.defs (F := Ideal)) _ _).mono
      (fun r h c => ⟨(h c).1.trans (Cert.OaoKernelIdeal.Result.final4 m c), (h c).2.1.trans (Cert.OaoKernelIdeal.Result.final5 m c),
        (h c).2.2.1.trans (Cert.OaoKernelIdeal.Result.final6 m c), (h c).2.2.2⟩)
      (Cert.OaoKernelIdeal.Value.run_blocks (F := Ideal) m g)
  · refine (θ_run (Cert.OaoReferenceIdeal.defs (F := Ideal)) _ _).mono
      (fun r h c => ⟨(h c).1.trans ?_, (h c).2.1.trans ?_, (h c).2.2.1.trans ?_, (h c).2.2.2⟩)
      (Cert.OaoReferenceIdeal.Value.run (F := Ideal) m' g')
    all_goals obtain ⟨e0, e1, e2, e3⟩ := hm c
    · refine (Cert.OaoReferenceIdeal.Read.val_main_v25_eq (F := Ideal) _ _ _ _).trans ?_
      rw [e0, e1, e2, e3]
    · refine (Cert.OaoReferenceIdeal.Read.val_main_v26_eq (F := Ideal) _ _).trans ?_
      rw [e1, e2]
    · refine (Cert.OaoReferenceIdeal.Read.val_main_v27_eq (F := Ideal) _ _).trans ?_
      rw [e1, e3]

/-- The reference of the step on the gated unit's first weight runs to the end with every semaphore at zero and its arguments kept. -/
theorem oup_reference_frame : Cert.quiescent_OupReferenceIdeal (hOupReferenceIdeal := Cert.OupReferenceIdeal.Gen.facts) := fun m ρ _ =>
  (θ_run (Cert.OupReferenceIdeal.defs (F := Ideal)) _ _).mono
    (fun r h => ⟨fun c => (h c).2.2.2, sem_eq_zero_of_no_sems (by decide) r.2⟩)
    (Cert.OupReferenceIdeal.Value.run (F := Ideal) m ρ)

/-- THE VALUE of the step on the gated unit's first weight: the kernel's three result arrays are the reference's, at every input. -/
theorem oup_algebraic : Cert.algebraic_OupKernelIdeal_OupReferenceIdeal (hOupKernelIdeal := Cert.OupKernelIdeal.Gen.facts)
    (hOupReferenceIdeal := Cert.OupReferenceIdeal.Gen.facts) := by
  intro m g m' g' _ hm
  refine ⟨fun c => Cert.OupKernelIdeal.Result.result4 m c, fun c => Cert.OupKernelIdeal.Result.result5 m c,
    fun c => Cert.OupKernelIdeal.Result.result6 m c, ?_, ?_⟩
  · exact (θ_run (Cert.OupKernelIdeal.defs (F := Ideal)) _ _).mono
      (fun r h c => ⟨(h c).1.trans (Cert.OupKernelIdeal.Result.final4 m c), (h c).2.1.trans (Cert.OupKernelIdeal.Result.final5 m c),
        (h c).2.2.1.trans (Cert.OupKernelIdeal.Result.final6 m c), (h c).2.2.2⟩)
      (Cert.OupKernelIdeal.Value.run_blocks (F := Ideal) m g)
  · refine (θ_run (Cert.OupReferenceIdeal.defs (F := Ideal)) _ _).mono
      (fun r h c => ⟨(h c).1.trans ?_, (h c).2.1.trans ?_, (h c).2.2.1.trans ?_, (h c).2.2.2⟩)
      (Cert.OupReferenceIdeal.Value.run (F := Ideal) m' g')
    all_goals obtain ⟨e0, e1, e2, e3⟩ := hm c
    · refine (Cert.OupReferenceIdeal.Read.val_main_v25_eq (F := Ideal) _ _ _ _).trans ?_
      rw [e0, e1, e2, e3]
    · refine (Cert.OupReferenceIdeal.Read.val_main_v26_eq (F := Ideal) _ _).trans ?_
      rw [e1, e2]
    · refine (Cert.OupReferenceIdeal.Read.val_main_v27_eq (F := Ideal) _ _).trans ?_
      rw [e1, e3]

/-- The reference of the step on the gated unit's second weight runs to the end with every semaphore at zero and its arguments kept. -/
theorem odn_reference_frame : Cert.quiescent_OdnReferenceIdeal (hOdnReferenceIdeal := Cert.OdnReferenceIdeal.Gen.facts) := fun m ρ _ =>
  (θ_run (Cert.OdnReferenceIdeal.defs (F := Ideal)) _ _).mono
    (fun r h => ⟨fun c => (h c).2.2.2, sem_eq_zero_of_no_sems (by decide) r.2⟩)
    (Cert.OdnReferenceIdeal.Value.run (F := Ideal) m ρ)

/-- THE VALUE of the step on the gated unit's second weight: the kernel's three result arrays are the reference's, at every input. -/
theorem odn_algebraic : Cert.algebraic_OdnKernelIdeal_OdnReferenceIdeal (hOdnKernelIdeal := Cert.OdnKernelIdeal.Gen.facts)
    (hOdnReferenceIdeal := Cert.OdnReferenceIdeal.Gen.facts) := by
  intro m g m' g' _ hm
  refine ⟨fun c => Cert.OdnKernelIdeal.Result.result4 m c, fun c => Cert.OdnKernelIdeal.Result.result5 m c,
    fun c => Cert.OdnKernelIdeal.Result.result6 m c, ?_, ?_⟩
  · exact (θ_run (Cert.OdnKernelIdeal.defs (F := Ideal)) _ _).mono
      (fun r h c => ⟨(h c).1.trans (Cert.OdnKernelIdeal.Result.final4 m c), (h c).2.1.trans (Cert.OdnKernelIdeal.Result.final5 m c),
        (h c).2.2.1.trans (Cert.OdnKernelIdeal.Result.final6 m c), (h c).2.2.2⟩)
      (Cert.OdnKernelIdeal.Value.run_blocks (F := Ideal) m g)
  · refine (θ_run (Cert.OdnReferenceIdeal.defs (F := Ideal)) _ _).mono
      (fun r h c => ⟨(h c).1.trans ?_, (h c).2.1.trans ?_, (h c).2.2.1.trans ?_, (h c).2.2.2⟩)
      (Cert.OdnReferenceIdeal.Value.run (F := Ideal) m' g')
    all_goals obtain ⟨e0, e1, e2, e3⟩ := hm c
    · refine (Cert.OdnReferenceIdeal.Read.val_main_v25_eq (F := Ideal) _ _ _ _).trans ?_
      rw [e0, e1, e2, e3]
    · refine (Cert.OdnReferenceIdeal.Read.val_main_v26_eq (F := Ideal) _ _).trans ?_
      rw [e1, e2]
    · refine (Cert.OdnReferenceIdeal.Read.val_main_v27_eq (F := Ideal) _ _).trans ?_
      rw [e1, e3]

end Cert.Proof

end
-- ==== Proof.Logistic.lean ====
/- The logistic function over the extended reals, as the kernels and the references compute it. -/
module

public import Idealize.ShloMosaic.Lib.Pointwise

@[expose] public section

noncomputable section

namespace Cert.Maths

open Idealize.ShloMosaic

/-- The logistic function. -/
def sigma (v : EReal) : EReal := Ideal.div 1 (1 + Ideal.exp (-v))

end Cert.Maths

end
-- ==== Proof.MergeValue.lean ====
/- The merge of the two halves behind the scan half's output product: the kernel's two result arrays are the
   reference's. -/
module

public import Idealize.ShloMosaic.Lib.Pipeline.ValueKit
public import Idealize.ShloMosaic.Lib.Pointwise
public import proofs.«01_k».proof.Proof.ProjLayout
public import proofs.«01_k».proof.Proof.Logistic
public import proofs.«01_k».proof.Proof.Gen.MergeKernelIdeal.Value
public import proofs.«01_k».proof.Proof.Gen.MergeReferenceIdeal.Read

@[expose] public section

set_option maxRecDepth 16384

noncomputable section

namespace Cert.MergeReferenceIdeal.Ref

open Cert.MergeReferenceIdeal Cert.MergeReferenceIdeal.Gen Cert.MergeReferenceIdeal.Read Idealize.ShloMosaic Cert.Maths

variable (g : (⟨S8192x2048, .f32⟩ : BufTy).Contents (Elt Ideal)) (b : (⟨S2048x1024, .f32⟩ : BufTy).Contents (Elt Ideal))
  (gs ga ya : (⟨S8192x1024, .f32⟩ : BufTy).Contents (Elt Ideal))

theorem v0_apply (R : Fin 8192) (j : Fin 1024) : val_main_v0 (F := Ideal) g b (ix2 R j) = ∑ k : Fin 2048, g (ix2 R k) * b (ix2 k j) := by
  pointwise [val_main_v0]

theorem v16_apply (R : Fin 8192) (j : Fin 1024) : val_main_v16 (F := Ideal) g b gs ga ya (ix2 R j)
    = sigma (gs (ix2 R j)) * val_main_v0 (F := Ideal) g b (ix2 R j) + sigma (ga (ix2 R j)) * ya (ix2 R j) := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_cst, val_main_cst_0, val_main_cst_1,
    val_main_cst_2, sigma]

end Cert.MergeReferenceIdeal.Ref

namespace Cert.MergeKernelIdeal.Result

open Cert.MergeKernelIdeal Cert.MergeKernelIdeal.Gen Idealize.ShloMosaic Idealize.ShloMosaic.TcCoe Idealize.SL.Sem
open Cert.Maths Cert.MergeReferenceIdeal.Ref
open Cert.MergeReferenceIdeal.Read (val_main_v0 val_main_v16)

variable (m : (ℓ : Loc nD τ sig) → Buf (Elt Ideal) ℓ) (c : Dev nD)

/-- The block each window reads at a point. -/
theorem idx : ∀ t : Fin cfg0.N, win0_0.index t = ![t.val, 0] ∧ win0_1.index t = ![0, 0] ∧ win0_2.index t = ![t.val, 4]
    ∧ win0_3.index t = ![t.val, 5] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 4]
    ∧ win0_3.index t = ![t.val, 5] ∧ win0_4.index t = ![t.val, 0] ∧ win0_5.index t = ![t.val, 0] ∧ win0_6.index t = ![t.val, 0])

abbrev lhs : S8192x2048.Idx → EReal := m ((c : Thread nD τ).loc main_arg0)
abbrev rhs : S2048x1024.Idx → EReal := m ((c : Thread nD τ).loc main_arg1)
abbrev gs : S8192x1024.Idx → EReal := m ((c : Thread nD τ).loc main_arg2)
abbrev ga : S8192x1024.Idx → EReal := m ((c : Thread nD τ).loc main_arg3)
abbrev ya : S8192x1024.Idx → EReal := m ((c : Thread nD τ).loc main_arg4)

theorem pay1_apply (A : Vec Ideal S512x2048 .bf16) (B : Vec Ideal S2048x1024 .bf16) (i : Fin 512) (j : Fin 1024) :
    k0_pay1 (F := Ideal) A B (ix2 i j) = ∑ k : Fin 2048, A (ix2 i k) * B (ix2 k j) := by
  pointwise [k0_pay1]

theorem pay2_apply (A : Vec Ideal S512x2048 .bf16) (B : Vec Ideal S2048x1024 .bf16) (s a y : Vec Ideal S512x1024 .f32)
    (i : Fin 512) (j : Fin 1024) : k0_pay2 (F := Ideal) A B s a y (ix2 i j)
      = sigma (s (ix2 i j)) * k0_pay1 (F := Ideal) A B (ix2 i j) + sigma (a (ix2 i j)) * y (ix2 i j) := by
  pointwise [k0_pay2, sigma, zero_sub]

/-- Row `i` of tile `t`. -/
abbrev row (t : Fin cfg0.N) (i : Fin 512) : Fin 8192 := ⟨512 * t.val + i.val, by have : t.val < 16 := t.isLt; omega⟩

theorem V_lhs : V m c main_v3 = lhs m c := by
  unfold V hostOps0; after_results_simp <;> rfl

theorem V_rhs : V m c main_v4 = rhs m c := by
  unfold V hostOps0; after_results_simp <;> rfl

/-- The scan half's gate in the projection's columns. -/
theorem V_gs (R : Fin 8192) (j : Fin 1024) : V m c main_v2 (ix2 R ⟨4096 + j.val, by omega⟩) = gs m c (ix2 R j) := by
  unfold V hostOps0; after_results_simp
  exact cat_axis1 _ _ 1 (of_decide_eq_true rfl) _ rfl 4096 rfl R _ j rfl

/-- The attention half's. -/
theorem V_ga (R : Fin 8192) (j : Fin 1024) : V m c main_v2 (ix2 R ⟨5120 + j.val, by omega⟩) = ga m c (ix2 R j) := by
  unfold V hostOps0; after_results_simp
  exact cat_axis1 _ _ 2 (of_decide_eq_true rfl) _ rfl 5120 rfl R _ j rfl

theorem iblk0 (t : Fin cfg0.N) (i : Fin 512) (k : Fin 2048) : (iblk m c 0 t : Vec Ideal S512x2048 .bf16) (ix2 i k) = lhs m c (ix2 (row t i) k) := by
  rw [← V_lhs]; blk_ext [iblk, idx t]

theorem iblk1 (t : Fin cfg0.N) (k : Fin 2048) (j : Fin 1024) : (iblk m c 1 t : Vec Ideal S2048x1024 .bf16) (ix2 k j) = rhs m c (ix2 k j) := by
  rw [← V_rhs]; blk_ext [iblk, idx t]

theorem iblk2 (t : Fin cfg0.N) (i : Fin 512) (j : Fin 1024) : (iblk m c 2 t : Vec Ideal S512x1024 .f32) (ix2 i j) = gs m c (ix2 (row t i) j) := by
  rw [← V_gs]; blk_ext [iblk, idx t]

theorem iblk3 (t : Fin cfg0.N) (i : Fin 512) (j : Fin 1024) : (iblk m c 3 t : Vec Ideal S512x1024 .f32) (ix2 i j) = ga m c (ix2 (row t i) j) := by
  rw [← V_ga]; blk_ext [iblk, idx t]

theorem iblk4 (t : Fin cfg0.N) (i : Fin 512) (j : Fin 1024) : (iblk m c 4 t : Vec Ideal S512x1024 .f32) (ix2 i j) = ya m c (ix2 (row t i) j) := by
  rw [ya, ← V_main_arg4 m c]; blk_ext [iblk, idx t]

abbrev result5 : Buf (Elt Ideal) ((c : Thread nD τ).loc main_v5_0) := val_main_v16 (F := Ideal) (lhs m c) (rhs m c) (gs m c) (ga m c) (ya m c)
abbrev result6 : Buf (Elt Ideal) ((c : Thread nD τ).loc main_v5_1) := val_main_v0 (F := Ideal) (lhs m c) (rhs m c)

theorem mm_eq (t : Fin cfg0.N) (i : Fin 512) (j : Fin 1024) : k0_pay1 (F := Ideal) (iblk m c 0 t) (iblk m c 1 t) (ix2 i j)
    = val_main_v0 (F := Ideal) (lhs m c) (rhs m c) (ix2 (row t i) j) := by
  simp only [pay1_apply, v0_apply, iblk0, iblk1]

/-- The merged halves. -/
theorem final5 : (dats m 0 c).arrAt 5 cfg0.N = result5 m c := by
  refine (dats m 0 c).arrAt_eq_of_covers 5 _ (by decide +kernel) fun t hf y => ?_
  blk_simp
  rw [after0_5]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 5).blk t).view.emb (ix2 i j) = ix2 (row t i) j := by blk_ext [idx t]
  rw [eG, result5, v16_apply, pay2_apply]
  simp only [mm_eq, iblk2, iblk3, iblk4]

/-- The scan half's output. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, mm_eq]

end Cert.MergeKernelIdeal.Result

end
-- ==== Proof.MergeClaim.lean ====
/- The claims about the merge of the two halves. -/
module

public import proofs.«01_k».proof.Defs
public import proofs.«01_k».proof.Proof.MergeValue
public import proofs.«01_k».proof.Proof.Gen.MergeReferenceIdeal.Run
public import Idealize.ShloMosaic.Adequacy
public import Idealize.ShloMosaic.Init

@[expose] public section

noncomputable section

namespace Cert.Proof

open Idealize.ShloMosaic Idealize.SL.Sem

/-- The reference of the merge runs to the end with every semaphore at zero and its arguments kept. -/
theorem merge_reference_frame : Cert.quiescent_MergeReferenceIdeal (hMergeReferenceIdeal := Cert.MergeReferenceIdeal.Gen.facts) := fun m ρ _ =>
  (θ_run (Cert.MergeReferenceIdeal.defs (F := Ideal)) _ _).mono
    (fun r h => ⟨fun c => (h c).2.2, sem_eq_zero_of_no_sems (by decide) r.2⟩)
    (Cert.MergeReferenceIdeal.Value.run (F := Ideal) m ρ)

/-- THE VALUE of the merge: the kernel's two result arrays are the reference's, at every input. -/
theorem merge_algebraic : Cert.algebraic_MergeKernelIdeal_MergeReferenceIdeal (hMergeKernelIdeal := Cert.MergeKernelIdeal.Gen.facts)
    (hMergeReferenceIdeal := Cert.MergeReferenceIdeal.Gen.facts) := by
  intro m g m' g' _ hm
  refine ⟨fun c => Cert.MergeKernelIdeal.Result.result5 m c, fun c => Cert.MergeKernelIdeal.Result.result6 m c, ?_, ?_⟩
  · exact θ_run_mono (θ_run_and (Cert.MergeKernelIdeal.Gen.run_main (F := Ideal) m g) (Cert.MergeKernelIdeal.Gen.frame (F := Ideal) m g))
      fun r h c => ⟨((h.1 c).1 5).trans (Cert.MergeKernelIdeal.Result.final5 m c),
        ((h.1 c).1 6).trans (Cert.MergeKernelIdeal.Result.final6 m c), h.2.1 c⟩
  · refine (θ_run (Cert.MergeReferenceIdeal.defs (F := Ideal)) _ _).mono (fun r h c => ⟨(h c).1.trans ?_, (h c).2.1.trans ?_, (h c).2.2⟩)
      (Cert.MergeReferenceIdeal.Value.run (F := Ideal) m' g')
    · obtain ⟨e0, e1, e2, e3, e4⟩ := hm c
      refine (Cert.MergeReferenceIdeal.Read.val_main_v16_eq (F := Ideal) _ _ _ _ _).trans ?_
      rw [e0, e1, e2, e3, e4]
    · obtain ⟨e0, e1, e2, e3, e4⟩ := hm c
      refine (Cert.MergeReferenceIdeal.Read.val_main_v0_eq (F := Ideal) _ _).trans ?_
      rw [e0, e1]

end Cert.Proof

end
-- ==== Proof.DmergeValue.lean ====
/- The gradients of the merge of the two halves: the kernel's two result arrays, and the columns the host cuts from its
   third, are the reference's. -/
module

public import Idealize.ShloMosaic.Lib.Pipeline.ValueKit
public import Idealize.ShloMosaic.Lib.Pipeline.ValueKit.Partial
public import Idealize.ShloMosaic.Lib.Pointwise
public import proofs.«01_k».proof.Proof.ProjLayout
public import proofs.«01_k».proof.Proof.Logistic
public import proofs.«01_k».proof.Proof.Gen.DmergeKernelIdeal.Frame
public import proofs.«01_k».proof.Proof.Gen.DmergeReferenceIdeal.Read

@[expose] public section

set_option maxRecDepth 16384

noncomputable section

namespace Cert.DmergeReferenceIdeal.Ref

open Cert.DmergeReferenceIdeal Cert.DmergeReferenceIdeal.Gen Cert.DmergeReferenceIdeal.Read Idealize.ShloMosaic Cert.Maths

variable (d : (⟨S8192x1024, .f32⟩ : BufTy).Contents (Elt Ideal)) (w : (⟨S1024x1024, .f32⟩ : BufTy).Contents (Elt Ideal))
  (gs ga ys ya : (⟨S8192x1024, .f32⟩ : BufTy).Contents (Elt Ideal)) (R : Fin 8192) (j : Fin 1024)

/-- The merged rows' gradient. -/
theorem v22_apply : val_main_v22 (F := Ideal) d w (ix2 R j) = ∑ k : Fin 1024, d (ix2 R k) * w (ix2 j k) := by
  pointwise [val_main_v22]

theorem v5_apply : val_main_v5 (F := Ideal) gs (ix2 R j) = sigma (gs (ix2 R j)) := by
  pointwise [val_main_v5, val_main_v4, val_main_v3, val_main_v2, val_main_v1, val_main_v0, val_main_cst, val_main_cst_0, sigma]

theorem v15_apply : val_main_v15 (F := Ideal) ga (ix2 R j) = sigma (ga (ix2 R j)) := by
  pointwise [val_main_v15, val_main_v14, val_main_v13, val_main_v12, val_main_v11, val_main_v10, val_main_cst_2, val_main_cst_3, sigma]

theorem v29_apply : val_main_v29 (F := Ideal) d w gs (ix2 R j) = sigma (gs (ix2 R j)) * val_main_v22 (F := Ideal) d w (ix2 R j) := by
  rw [← v5_apply]; pointwise [val_main_v29, val_main_v26]

theorem v30_apply : val_main_v30 (F := Ideal) d w ga (ix2 R j) = sigma (ga (ix2 R j)) * val_main_v22 (F := Ideal) d w (ix2 R j) := by
  rw [← v15_apply]; pointwise [val_main_v30, val_main_v23]

theorem v28_apply : val_main_v28 (F := Ideal) d w gs ys (ix2 R j) = (val_main_v22 (F := Ideal) d w (ix2 R j) * ys (ix2 R j))
    * (sigma (gs (ix2 R j)) * (1 - sigma (gs (ix2 R j)))) := by
  rw [← v5_apply]; pointwise [val_main_v28, val_main_v27, val_main_v8, val_main_v7, val_main_v6, val_main_cst_1]

theorem v25_apply : val_main_v25 (F := Ideal) d w ga ya (ix2 R j) = (val_main_v22 (F := Ideal) d w (ix2 R j) * ya (ix2 R j))
    * (sigma (ga (ix2 R j)) * (1 - sigma (ga (ix2 R j)))) := by
  rw [← v15_apply]; pointwise [val_main_v25, val_main_v24, val_main_v18, val_main_v17, val_main_v16, val_main_cst_4]

/-- The gates' gradient: the scan half's columns first, -/
theorem v32_lo : val_main_v32 (F := Ideal) d w gs ga ys ya (ix2 R ⟨j.val, by omega⟩) = val_main_v28 (F := Ideal) d w gs ys (ix2 R j) := by
  show val_main_v31 (F := Ideal) d w gs ga ys ya (ix2 R ⟨j.val, by omega⟩) = _
  unfold val_main_v31
  exact cat_axis1 _ _ 0 (of_decide_eq_true rfl) _ rfl 0 rfl R _ j (Nat.zero_add _)

/-- the attention half's behind them. -/
theorem v32_hi : val_main_v32 (F := Ideal) d w gs ga ys ya (ix2 R ⟨1024 + j.val, by omega⟩) = val_main_v25 (F := Ideal) d w ga ya (ix2 R j) := by
  show val_main_v31 (F := Ideal) d w gs ga ys ya (ix2 R ⟨1024 + j.val, by omega⟩) = _
  unfold val_main_v31
  exact cat_axis1 _ _ 1 (of_decide_eq_true rfl) _ rfl 1024 rfl R _ j rfl

end Cert.DmergeReferenceIdeal.Ref

namespace Cert.DmergeKernelIdeal.Result

open Cert.DmergeKernelIdeal Cert.DmergeKernelIdeal.Gen Idealize.ShloMosaic Idealize.ShloMosaic.TcCoe Idealize.SL.Sem
open Cert.Maths Cert.DmergeReferenceIdeal.Ref
open Cert.DmergeReferenceIdeal.Read (val_main_v22 val_main_v29 val_main_v30 val_main_v28 val_main_v25 val_main_v32)

variable (m : (ℓ : Loc nD τ sig) → Buf (Elt Ideal) ℓ) (c : Dev nD)

/-- The block each window reads at a point. -/
theorem idx : ∀ t : Fin cfg0.N, win0_0.index t = ![t.val, 0] ∧ win0_1.index t = ![0, 0] ∧ win0_2.index t = ![t.val, 4]
    ∧ win0_3.index t = ![t.val, 5] ∧ win0_4.index t = ![t.val, 0] ∧ win0_5.index t = ![t.val, 0] ∧ win0_6.index t = ![t.val, 0]
    ∧ win0_7.index t = ![t.val, 0] ∧ win0_8.index t = ![t.val, 2] :=
  (by decide +kernel : ∀ t : Fin grid0.N, win0_0.index t = ![t.val, 0] ∧ win0_1.index t = ![0, 0] ∧ win0_2.index t = ![t.val, 4]
    ∧ win0_3.index t = ![t.val, 5] ∧ win0_4.index t = ![t.val, 0] ∧ win0_5.index t = ![t.val, 0] ∧ win0_6.index t = ![t.val, 0]
    ∧ win0_7.index t = ![t.val, 0] ∧ win0_8.index t = ![t.val, 2])

abbrev d : S8192x1024.Idx → EReal := m ((c : Thread nD τ).loc main_arg0)
abbrev w : S1024x1024.Idx → EReal := m ((c : Thread nD τ).loc main_arg1)
abbrev gs : S8192x1024.Idx → EReal := m ((c : Thread nD τ).loc main_arg2)
abbrev ga : S8192x1024.Idx → EReal := m ((c : Thread nD τ).loc main_arg3)
abbrev ys : S8192x1024.Idx → EReal := m ((c : Thread nD τ).loc main_arg4)
abbrev ya : S8192x1024.Idx → EReal := m ((c : Thread nD τ).loc main_arg5)

section
variable (A : Vec Ideal S512x1024 .bf16) (B : Vec Ideal S1024x1024 .bf16) (s y : Vec Ideal S512x1024 .f32) (i : Fin 512) (j : Fin 1024)

theorem pay3_apply : k0_pay3 (F := Ideal) A B (ix2 i j) = ∑ k : Fin 1024, A (ix2 i k) * B (ix2 k j) := by
  pointwise [k0_pay3]

theorem pay4_apply : k0_pay4 (F := Ideal) s (ix2 i j) = sigma (s (ix2 i j)) := by
  pointwise [k0_pay4, sigma, zero_sub]

theorem pay5_apply : k0_pay5 (F := Ideal) s (ix2 i j) = sigma (s (ix2 i j)) := by
  pointwise [k0_pay5, sigma, zero_sub]

theorem pay6_apply : k0_pay6 (F := Ideal) A B s (ix2 i j) = k0_pay3 (F := Ideal) A B (ix2 i j) * sigma (s (ix2 i j)) := by
  rw [← pay4_apply]; pointwise [k0_pay6]

theorem pay7_apply : k0_pay7 (F := Ideal) A B s (ix2 i j) = k0_pay3 (F := Ideal) A B (ix2 i j) * sigma (s (ix2 i j)) := by
  rw [← pay5_apply]; pointwise [k0_pay7]

theorem pay1_apply : k0_pay1 (F := Ideal) (k0_pay4 (F := Ideal) s) (k0_pay8 (F := Ideal) A B s y) (k0_pay9 (F := Ideal)) (ix2 i j)
    = k0_pay3 (F := Ideal) A B (ix2 i j) * y (ix2 i j) * sigma (s (ix2 i j)) * (1 - sigma (s (ix2 i j))) := by
  rw [← pay4_apply]; pointwise [k0_pay1, k0_pay8, k0_pay9]

theorem pay2_apply : k0_pay2 (F := Ideal) (k0_pay3 (F := Ideal) A B) (k0_pay5 (F := Ideal) s) y (ix2 i j)
    = k0_pay3 (F := Ideal) A B (ix2 i j) * y (ix2 i j) * sigma (s (ix2 i j)) * (1 - sigma (s (ix2 i j))) := by
  rw [← pay5_apply]; pointwise [k0_pay2]

end

section
variable (x0 : Vec Ideal S512x1024 .bf16) (x1 : Vec Ideal S1024x1024 .bf16) (x2 x3 x4 x5 : Vec Ideal S512x1024 .f32) (i : Fin 512) (j : Fin 1024)

private theorem hz : (![0, 0] : Fin 2 → ℕ) = fun _ => 0 := by decide

/-- The place of a tile's first half in the third result's tile, -/
theorem emb_lo : r0_2.emb (ix2 i j) = (ix2 i ⟨j.val, by omega⟩ : S512x2048.Idx) := by
  refine funext fun a => Fin.ext ?_
  match a with
  | ⟨0, _⟩ => exact (Rect.idx_unit_val _ _ _ _ _).trans (Nat.zero_add _)
  | ⟨1, _⟩ => exact (Rect.idx_unit_val _ _ _ _ _).trans (Nat.zero_add _)

/-- and of its second. -/
theorem emb_hi : r0_3.emb (ix2 i j) = (ix2 i ⟨1024 + j.val, by omega⟩ : S512x2048.Idx) := by
  refine funext fun a => Fin.ext ?_
  match a with
  | ⟨0, _⟩ => exact (Rect.idx_unit_val _ _ _ _ _).trans (Nat.zero_add _)
  | ⟨1, _⟩ => exact Rect.idx_unit_val _ _ _ _ _

theorem not_hi : (ix2 i ⟨j.val, by omega⟩ : S512x2048.Idx) ∉ r0_3.set := by
  rw [Rect.mem_set_unit]
  intro h
  have h1 : 1024 ≤ j.val := (h 1).1
  omega

/-- The third result's tile: the scan gate's columns first, -/
theorem out8_lo : out0_8 (F := Ideal) x0 x1 x2 x3 x4 x5 (ix2 i ⟨j.val, by omega⟩)
    = k0_pay3 (F := Ideal) x0 x1 (ix2 i j) * x4 (ix2 i j) * sigma (x2 (ix2 i j)) * (1 - sigma (x2 (ix2 i j))) := by
  unfold out0_8
  refine (View.canon_cons_of_not_mem _ _ ?_).trans ?_
  · exact not_hi i j
  rw [← emb_lo, View.canon_cons_emb]
  simp only [View.ld_unit_zero (S := S512x1024) hz, View.ld_unit_zero (S := S1024x1024) hz]
  exact pay1_apply x0 x1 x2 x4 i j

/-- the attention gate's behind them. -/
theorem out8_hi : out0_8 (F := Ideal) x0 x1 x2 x3 x4 x5 (ix2 i ⟨1024 + j.val, by omega⟩)
    = k0_pay3 (F := Ideal) x0 x1 (ix2 i j) * x5 (ix2 i j) * sigma (x3 (ix2 i j)) * (1 - sigma (x3 (ix2 i j))) := by
  unfold out0_8
  rw [← emb_hi, View.canon_cons_emb]
  simp only [View.ld_unit_zero (S := S512x1024) hz, View.ld_unit_zero (S := S1024x1024) hz]
  exact pay2_apply x0 x1 x3 x5 i j

end

/-- Row `i` of tile `t`. -/
abbrev row (t : Fin cfg0.N) (i : Fin 512) : Fin 8192 := ⟨512 * t.val + i.val, by have : t.val < 16 := t.isLt; omega⟩

theorem V_d : V m c main_v3 = d m c := by
  show StableHlo.after (List.flatten [hostOps0]) (fun b => m (c, b)) main_v3 = _
  simp only [hostOps0, List.flatten_cons, List.flatten_nil, List.append_nil, List.cons_append]
  after_results_simp <;> rfl

theorem V_w (k j : Fin 1024) : V m c main_v5 (ix2 k j) = w m c (ix2 j k) := by
  have e : V m c main_v5 = transpose S1024x1024 [1, 0] (w m c) transposes_S1024x1024_S1024x1024_1_0 := by
    show StableHlo.after (List.flatten [hostOps0]) (fun b => m (c, b)) main_v5 = _
    simp only [hostOps0, List.flatten_cons, List.flatten_nil, List.append_nil, List.cons_append]
    after_results_simp <;> rfl
  rw [e]
  pointwise

/-- The scan half's gate in the projection's columns. -/
theorem V_gs (R : Fin 8192) (j : Fin 1024) : V m c main_v2 (ix2 R ⟨4096 + j.val, by omega⟩) = gs m c (ix2 R j) := by
  show StableHlo.after (List.flatten [hostOps0]) (fun b => m (c, b)) main_v2 _ = _
  simp only [hostOps0, List.flatten_cons, List.flatten_nil, List.append_nil, List.cons_append]
  after_results_simp
  exact cat_axis1 _ _ 1 (of_decide_eq_true rfl) _ rfl 4096 rfl R _ j rfl

/-- The attention half's. -/
theorem V_ga (R : Fin 8192) (j : Fin 1024) : V m c main_v2 (ix2 R ⟨5120 + j.val, by omega⟩) = ga m c (ix2 R j) := by
  show StableHlo.after (List.flatten [hostOps0]) (fun b => m (c, b)) main_v2 _ = _
  simp only [hostOps0, List.flatten_cons, List.flatten_nil, List.append_nil, List.cons_append]
  after_results_simp
  exact cat_axis1 _ _ 2 (of_decide_eq_true rfl) _ rfl 5120 rfl R _ j rfl

section
variable (t : Fin cfg0.N) (i : Fin 512) (j k : Fin 1024)

theorem iblk0 : (iblk m c 0 t : Vec Ideal S512x1024 .bf16) (ix2 i k) = d m c (ix2 (row t i) k) := by
  rw [← V_d]; blk_ext [iblk, idx t]

theorem iblk1 : (iblk m c 1 t : Vec Ideal S1024x1024 .bf16) (ix2 k j) = w m c (ix2 j k) := by
  rw [← V_w]; blk_ext [iblk, idx t]

theorem iblk2 : (iblk m c 2 t : Vec Ideal S512x1024 .f32) (ix2 i j) = gs m c (ix2 (row t i) j) := by
  rw [← V_gs]; blk_ext [iblk, idx t]

theorem iblk3 : (iblk m c 3 t : Vec Ideal S512x1024 .f32) (ix2 i j) = ga m c (ix2 (row t i) j) := by
  rw [← V_ga]; blk_ext [iblk, idx t]

theorem iblk4 : (iblk m c 4 t : Vec Ideal S512x1024 .f32) (ix2 i j) = ys m c (ix2 (row t i) j) := by
  rw [ys, ← V_main_arg4 m c]; blk_ext [iblk, idx t]

theorem iblk5 : (iblk m c 5 t : Vec Ideal S512x1024 .f32) (ix2 i j) = ya m c (ix2 (row t i) j) := by
  rw [ya, ← V_main_arg5 m c]; blk_ext [iblk, idx t]

theorem mm_eq : k0_pay3 (F := Ideal) (iblk m c 0 t) (iblk m c 1 t) (ix2 i j) = val_main_v22 (F := Ideal) (d m c) (w m c) (ix2 (row t i) j) := by
  simp only [pay3_apply, v22_apply, iblk0, iblk1]

end

abbrev result6 : Buf (Elt Ideal) ((c : Thread nD τ).loc main_v6_0) := val_main_v29 (F := Ideal) (d m c) (w m c) (gs m c)
abbrev result7 : Buf (Elt Ideal) ((c : Thread nD τ).loc main_v6_1) := val_main_v30 (F := Ideal) (d m c) (w m c) (ga m c)
abbrev result8 : Buf (Elt Ideal) ((c : Thread nD τ).loc main_v7) :=
  val_main_v32 (F := Ideal) (d m c) (w m c) (gs m c) (ga m c) (ys m c) (ya m c)

/-- The scan half's gradient. -/
theorem final6 : (dats m 0 c).arrAt 6 cfg0.N = result6 m c := by
  refine (dats m 0 c).arrAt_eq_of_covers 6 _ (by decide +kernel) fun t hf y => ?_
  blk_simp
  rw [after0_6]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 6).blk t).view.emb (ix2 i j) = ix2 (row t i) j := by blk_ext [idx t]
  rw [eG, result6, v29_apply, pay6_apply]
  simp only [mm_eq, iblk2]
  exact mul_comm (_ : EReal) _

/-- The attention half's. -/
theorem final7 : (dats m 0 c).arrAt 7 cfg0.N = result7 m c := by
  refine (dats m 0 c).arrAt_eq_of_covers 7 _ (by decide +kernel) fun t hf y => ?_
  blk_simp
  rw [after0_7]
  frame_out
  obtain ⟨i, j, rfl⟩ : ∃ (i : Fin 512) (j : Fin 1024), y = ix2 i j := ⟨y 0, y 1, funext fun a => match a with | ⟨0, _⟩ => rfl | ⟨1, _⟩ => rfl⟩
  have eG : ((cfg0.win 7).blk t).view.emb (ix2 i j) = ix2 (row t i) j := by blk_ext [idx t]
  rw [eG, result7, v30_apply, pay7_apply]
  simp only [mm_eq, iblk3]
  exact mul_comm (_ : EReal) _

/-- A tile of the gates' gradient. -/
theorem out8_eq (t : Fin cfg0.N) (i : Fin 512) (q : Fin 2048) :
    out0_8 (F := Ideal) (iblk m c 0 t) (iblk m c 1 t) (iblk m c 2 t) (iblk m c 3 t) (iblk m c 4 t) (iblk m c 5 t) (ix2 i q)
      = result8 m c (ix2 (row t i) q) := by
  obtain ⟨q, hq⟩ := q
  by_cases h : q < 1024
  · refine (out8_lo _ _ _ _ _ _ i ⟨q, h⟩).trans ?_
    refine Eq.trans ?_ (v32_lo _ _ _ _ _ _ (row t i) ⟨q, h⟩).symm
    rw [v28_apply]
    simp only [mm_eq, iblk2, iblk4]
    exact mul_assoc (_ : EReal) _ _
  · obtain ⟨p, rfl⟩ := Nat.exists_eq_add_of_le (Nat.le_of_not_lt h)
    refine (out8_hi _ _ _ _ _ _ i ⟨p, by omega⟩).trans ?_
    refine Eq.trans ?_ (v32_hi _ _ _ _ _ _ (row t i) ⟨p, by omega⟩).symm
    rw [v25_apply]
    simp only [mm_eq, iblk3, iblk5]
    exact mul_assoc (_ : EReal) _ _

/-- The gates' columns of the kernel's third array. -/
theorem final8 (R : Fin 8192) (q : Fin 2048) : (dats m 0 c).arrAt 8 cfg0.N (ix2 R ⟨4096 + q.val, by omega⟩) = result8 m c (ix2 R q) := by
  refine (dats m 0 c).arrAt_forall_of_coversWhere 8
    (fun (i : S8192x9216.Idx) v => ∀ q : Fin 2048, (i 1).val = 4096 + q.val → v = result8 m c (ix2 (i 0) q))
    (fun β => β (1 : Fin 2) = 2) (by decide +kernel) (fun t hf y q hq => ?_) (fun j hj q hq => ?_)
    (ix2 R ⟨4096 + q.val, by omega⟩ : S8192x9216.Idx) (Memref.isWhole_whole _) q rfl
  · blk_simp at hq ⊢
    rw [after0_8]
    have hi : win0_8.index t 1 = 2 := congrFun (idx t).2.2.2.2.2.2.2.2 1
    rw [hi] at hq
    obtain ⟨i, h0⟩ : ∃ i : Fin 512, i.val = (y 0).val := ⟨(cfg0.win 8).xinj (cfg0.grid.coords t) y 0, rfl⟩
    have ey : (cfg0.win 8).xinj (cfg0.grid.coords t) y = (ix2 i q : S512x2048.Idx) := by
      refine funext fun a => Fin.ext ?_
      match a with
      | ⟨0, _⟩ => exact h0.symm
      | ⟨1, _⟩ =>
        show (y 1).val = q.val
        omega
    have eR : (win0_8.blk t).view.emb y 0 = row t i := by
      refine Fin.ext ?_
      blk_simp [idx t]
      show t.val * 512 + (y 0).val = 512 * t.val + i.val
      omega
    rw [ey, eR]
    exact out8_eq m c t i q
  · blk_simp [Pipeline.Window.cell_apply] at hj hq
    exact absurd (by omega) hj

/-- What the host cuts from the kernel's third array after the region. -/
theorem tail_result : StableHlo.after hostOps1
    (Pipeline.withArrays spec0 c (V0 m c) fun w => (dats m 0 c).arrAt w cfg0.N) (Proc.devRef .tc main_v7)
      = extractStridedSlice S8192x2048 ![0, 4096] ((dats m 0 c).arrAt 8 cfg0.N) slices_S8192x9216_S8192x2048_0_4096 := by
  have h : Pipeline.withArrays spec0 c (V0 m c) (fun w => (dats m 0 c).arrAt w cfg0.N) (Proc.devRef .tc main_v6_2) = (dats m 0 c).arrAt 8 cfg0.N :=
    (dats m 0 c).withArrays_arrAt (by decide) (V0 m c) (A_eq m c) 8
  generalize Pipeline.withArrays spec0 c (V0 m c) (fun w => (dats m 0 c).arrAt w cfg0.N) = W at h
  rw [← h]
  unfold hostOps1
  after_results_simp <;> (try dsimp only [Matrix.cons_val]) <;> (try after_results_simp) <;> rfl

/-- The gates' gradient. -/
theorem cut8 : extractStridedSlice S8192x2048 ![0, 4096] ((dats m 0 c).arrAt 8 cfg0.N) slices_S8192x9216_S8192x2048_0_4096 = result8 m c := by
  refine funext fun p => ?_
  obtain ⟨R, q, rfl⟩ : ∃ (R : Fin 8192) (q : Fin 2048), p = ix2 R q := ⟨p 0, p 1, funext fun a => match a with | ⟨0, _⟩ => rfl | ⟨1, _⟩ => rfl⟩
  rw [← final8]
  generalize (dats m 0 c).arrAt 8 cfg0.N = y
  refine congrArg y (funext fun a => Fin.ext ?_)
  match a with
  | ⟨0, _⟩ => simp
  | ⟨1, _⟩ => simp

end Cert.DmergeKernelIdeal.Result

end
-- ==== Proof.DmergeClaim.lean ====
/- The claims about the gradients of the merge of the two halves. -/
module

public import proofs.«01_k».proof.Defs
public import proofs.«01_k».proof.Proof.DmergeValue
public import proofs.«01_k».proof.Proof.Gen.DmergeReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The reference of the merge's gradients runs to the end with every semaphore at zero and its arguments kept. -/
theorem dmerge_reference_frame : Cert.quiescent_DmergeReferenceIdeal (hDmergeReferenceIdeal := Cert.DmergeReferenceIdeal.Gen.facts) := fun m ρ _ =>
  (θ_run (Cert.DmergeReferenceIdeal.defs (F := Ideal)) _ _).mono
    (fun r h => ⟨fun c => (h c).2.2.2, sem_eq_zero_of_no_sems (by decide) r.2⟩)
    (Cert.DmergeReferenceIdeal.Value.run (F := Ideal) m ρ)

/-- THE VALUE of the merge's gradients: the kernel's two result arrays and the gates' columns of its third are the
    reference's, at every input. -/
theorem dmerge_algebraic : Cert.algebraic_DmergeKernelIdeal_DmergeReferenceIdeal (hDmergeKernelIdeal := Cert.DmergeKernelIdeal.Gen.facts)
    (hDmergeReferenceIdeal := Cert.DmergeReferenceIdeal.Gen.facts) := by
  intro m g m' g' _ hm
  refine ⟨fun c => Cert.DmergeKernelIdeal.Result.result6 m c, fun c => Cert.DmergeKernelIdeal.Result.result7 m c,
    fun c => Cert.DmergeKernelIdeal.Result.result8 m c, ?_, ?_⟩
  · refine θ_run_mono (θ_run_and (Cert.DmergeKernelIdeal.Gen.run_main (F := Ideal) m g) (Cert.DmergeKernelIdeal.Gen.frame (F := Ideal) m g))
      fun r h c => ⟨((h.1 c).1 6).trans (Cert.DmergeKernelIdeal.Result.final6 m c),
        ((h.1 c).1 7).trans (Cert.DmergeKernelIdeal.Result.final7 m c),
        ((h.1 c).2 Cert.DmergeKernelIdeal.main_v7 (by decide)).trans ?_, h.2.1 c⟩
    exact (Cert.DmergeKernelIdeal.Result.tail_result m c).trans
      (Cert.DmergeKernelIdeal.Result.cut8 m c)
  · refine (θ_run (Cert.DmergeReferenceIdeal.defs (F := Ideal)) _ _).mono
      (fun r h c => ⟨(h c).1.trans ?_, (h c).2.1.trans ?_, (h c).2.2.1.trans ?_, (h c).2.2.2⟩)
      (Cert.DmergeReferenceIdeal.Value.run (F := Ideal) m' g')
    · obtain ⟨e0, e1, e2, e3, e4, e5⟩ := hm c
      refine (Cert.DmergeReferenceIdeal.Read.val_main_v29_eq (F := Ideal) _ _ _).trans ?_
      rw [e0, e1, e2]
    · obtain ⟨e0, e1, e2, e3, e4, e5⟩ := hm c
      refine (Cert.DmergeReferenceIdeal.Read.val_main_v30_eq (F := Ideal) _ _ _).trans ?_
      rw [e0, e1, e3]
    · obtain ⟨e0, e1, e2, e3, e4, e5⟩ := hm c
      refine (Cert.DmergeReferenceIdeal.Read.val_main_v32_eq (F := Ideal) _ _ _ _ _ _).trans ?_
      rw [e0, e1, e2, e3, e4, e5]

end Cert.Proof

end
-- ==== Proof.FupRun.lean ====
/- The run of `ffn_up`: a norm and a product in one kernel. The normed rows are stored when a block of rows is
   met first and read back at that block's later column tiles, so the second output is idle at those points. -/
module
public import proofs.«01_k».proof.Proof.Gen.FupKernelIdeal.Launch
public import proofs.«01_k».proof.Proof.Gen.FupKernelIdeal.Skeleton
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
@[expose] public section
set_option maxRecDepth 16384
noncomputable section
namespace Cert.FupKernelIdeal.Run
open Cert.FupKernelIdeal Cert.FupKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## Up to the region -/

/-- A core's buffers when the region is entered. -/
abbrev V (c : Dev nD) (b : Ref sig .tc) : Buf (Elt F) ((c : Thread nD τ).loc b) :=
  StableHlo.after hostOps0 (fun b => m (c, b)) b

/-- The host operations draw no fresh buffer. -/
theorem ops_fresh : (hostOps0 : List (HloOp τ sig (Elt F))).Forall fun op => op.fresh = ∅ := by
  simp only [List.Forall]; repeat' constructor

set_option maxHeartbeats 800000 in
/-- The program is its host operations, then the region. -/
theorem to_region (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ops_fresh main_chain

/-- A buffer that is an argument is as launched when the region is entered. -/
theorem V_arg (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨?_, ?_, ?_, ?_⟩ <;> apply StableHlo.devRef_ne_of_ne <;> assumption))

/-! ## Blocks -/

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of the row of points that a point stands in. -/
def rowStart (t : Fin cfg0.N) : Fin cfg0.N := ⟨t.val - t.val % 4, Nat.lt_of_le_of_lt (Nat.sub_le _ _) t.isLt⟩

/-- A point whose condition holds is the first of its row. -/
theorem rowStart_first : ∀ t : Fin cfg0.N, k0_cond1 (grid0.coords t) = 1#1 → rowStart t = t := by decide +kernel

/-- The rectangles the body loads and stores whole. -/
abbrev rX : Rect S1024x1024 := Rect.unit (s := S1024x1024) ![0, 0] S1024x1024.size inb_S1024x1024_S1024x1024_0_0
abbrev rN : Rect S1x1024 := Rect.unit (s := S1x1024) ![0, 0] S1x1024.size inb_S1x1024_S1x1024_0_0
abbrev rO : Rect S1024x1408 := Rect.unit (s := S1024x1408) ![0, 0] S1024x1408.size inb_S1024x1408_S1024x1408_0_0
/-- The column tile of the weight that a point multiplies by. -/
abbrev rW (i : grid0.Coords) : Rect S4x1024x1408 := Rect.unit (s := S4x1024x1408) (k0_off1 i) S1x1024x1408.size (k0_off1_inb i)

/-- The normed rows' staging buffer after the body stored them. -/
def normed (x : Vec F S1024x1024 .f32) (w : Vec F S1x1024 .f32) : Vec F S1024x1024 .bf16 :=
  View.canon [⟨rX, k0_pay1 (View.ld x rX) (View.ld w rN)⟩]

/-- The product's staging buffer after the body, from the normed rows and the weight. -/
def product (i : grid0.Coords) (u : Vec F S1024x1024 .bf16) (w : Vec F S4x1024x1408 .bf16) : Vec F S1024x1408 .f32 :=
  View.canon [⟨rO, k0_pay2 (View.ld u rX) (View.ld w (rW i))⟩]

theorem cover_normed (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

theorem cover_product (p : Vec F S1024x1408 .f32) (y : S1024x1408.Idx) :
    ∃ pc ∈ ([⟨rO, p⟩] : List (View.Piece (Elt F) S1024x1408 .f32)), y ∈ pc.1.set :=
  View.cover_of_tiled [⟨rO, p⟩] S1024x1408.size (by rfl) y

/-! ## The body's triples -/

set_option maxHeartbeats 1000000 in
/-- At the first point of a row the body stores the normed rows, then the product of what it stored. -/
theorem body_first (c : Dev nD) (E : Set ℕ) (i : grid0.Coords) (hc : k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S4x1024x1408 .bf16) (harg4 : arg4.IsWhole) (arg5 : Memref sig .tc .vmem S1024x1408 .f32) (harg5 : arg5.IsWhole)
    (arg6 : Memref sig .tc .vmem S1024x1024 .bf16) (harg6 : arg6.IsWhole)
    (x0 : Vec F S1024x1024 .f32) (x1 : Vec F S1x1024 .f32) (x2 : Vec F S4x1024x1408 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (product i (normed x0 x1) x2)
            ∗ owns (c : Thread nD τ) arg6 fullShare (normed x0 x1)) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_product _)).trans ?_
    unfold body_first.sl.v3 body_first.sl.H4_1
    rw [View.readCov_eq_canon_ld _ _ rX (cover_normed _)]
    rfl
  iexists _; isplitr
  swap; · iexact H4
  ipureintro
  exact View.read_writes_eq_canon _ _ _ (cover_normed _)

set_option maxHeartbeats 1000000 in
/-- At a later point of a row the body reads the normed rows back and stores their product. -/
theorem body_later (c : Dev nD) (E : Set ℕ) (i : grid0.Coords) (hc : ¬k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S4x1024x1408 .bf16) (harg4 : arg4.IsWhole) (arg5 : Memref sig .tc .vmem S1024x1408 .f32) (harg5 : arg5.IsWhole)
    (arg6 : Memref sig .tc .vmem S1024x1024 .bf16) (harg6 : arg6.IsWhole)
    (x2 : Vec F S4x1024x1408 .bf16) (u : Vec F S1024x1024 .bf16) (K : PUnit → sProp 𝕄) :
    iprop(owns (c : Thread nD τ) arg4 fullShare x2
        ∗ (∃ d, owns (c : Thread nD τ) arg5 fullShare d) ∗ owns (c : Thread nD τ) arg6 fullShare u
        ∗ (iprop(owns (c : Thread nD τ) arg4 fullShare x2
            ∗ owns (c : Thread nD τ) arg5 fullShare (product i u x2)
            ∗ owns (c : Thread nD τ) arg6 fullShare u) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]; unfold cc0_ffn_up_skel
  unfold owns
  iintro ⟨⟨%f2, %hf2, H2⟩, ⟨%d3, %f3, -, H3⟩, ⟨%f4, %hf4, H4⟩, Hk⟩
  subst hf2 hf4
  sl_exec (disch := first | sl_exact hc)
  sl_step
  iapply Hk
  isplitl [H2]
  · iexists f2; isplitr; · ipureintro; rfl
    iexact H2
  isplitl [H3]
  · iexists _; isplitr
    swap; · iexact H3
    ipureintro
    exact View.read_writes_eq_canon _ _ _ (cover_product _)
  iexists f4; isplitr; · ipureintro; rfl
  iexact H4

/-! ## The proof data -/

/-- The normed rows of the row of points that a point stands in. -/
def rowsAt (c : Dev nD) (t : Fin cfg0.N) : Vec F S1024x1024 .bf16 :=
  normed (iblk m c 0 (rowStart t)) (iblk m c 1 (rowStart t))

/-- After a point the inputs hold their blocks, the product its tile, the normed rows those of the point's row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (grid0.coords t) (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = product (grid0.coords t) (rowsAt m c t) (iblk m c 2 t) := by dsimp only [dats]
theorem after_4 (c : Dev nD) (t : Fin cfg0.N) : (dats m 0 c).after 4 t = rowsAt m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## Where the normed rows' window is idle, fresh or written back -/

/-- The window is live exactly at the first point of a row. -/
theorem live_4 : ∀ t : Fin cfg0.N, k0_cond1 (grid0.coords t) = 1#1 → cfg0.idle 4 (grid0.coords t) = false := by decide +kernel
theorem idle_4 : ∀ t : Fin cfg0.N, ¬k0_cond1 (grid0.coords t) = 1#1 → cfg0.idle 4 (grid0.coords t) = true := by decide +kernel

/-- Nothing is in the buffer at the first point of a row, and at no other point. -/
def freshTab : ℕ → Bool := fun n => n % 4 == 0

theorem freshTab_step : ∀ t : Fin cfg0.N,
    freshTab (t.val + 1) = ((cfg0.win 4).flush t || (cfg0.idle 4 (cfg0.grid.coords t) && freshTab t.val)) := by decide +kernel

theorem fresh_4 (t : Fin cfg0.N) : cfg0.fresh 4 t.val = freshTab t.val :=
  Pipeline.Cfg.fresh_tab cfg0 4 freshTab rfl freshTab_step t.val (Nat.le_of_lt t.isLt)

theorem notFresh_4 : ∀ t : Fin cfg0.N, ¬k0_cond1 (grid0.coords t) = 1#1 → cfg0.fresh 4 t.val = false := by
  intro t; rw [fresh_4 t]; revert t; decide +kernel

theorem not_first : ∀ t : Fin cfg0.N, cfg0.fresh 4 t.val = false → t.val % 4 ≠ 0 := by
  intro t; rw [fresh_4 t]; revert t; decide +kernel

/-- Along a row the normed rows do not change. -/
theorem rowsAt_prev (c : Dev nD) (t : Fin cfg0.N) (h : t.val % 4 ≠ 0) :
    rowsAt m c t = rowsAt m c ⟨t.val - 1, by omega⟩ := by
  unfold rowsAt
  rw [show rowStart (⟨t.val - 1, by omega⟩ : Fin cfg0.N) = rowStart t from Fin.ext (by simp only [rowStart]; omega)]

/-- Before a later point of a row the buffer holds the row's normed rows. -/
theorem before_4 (c : Dev nD) (t : Fin cfg0.N) (h : ¬k0_cond1 (grid0.coords t) = 1#1) (d) :
    (dats m 0 c).before 4 t d = rowsAt m c t := by
  have hn := notFresh_4 t h
  rw [(dats m 0 c).before_out_traj 4 rfl (fun _ _ => rfl)
    (fun s _ _ hf => by rw [after_4, after_4]; exact rowsAt_prev m c s (not_first s hf)) t.val t rfl d, hn, if_neg (by decide),
    after_4]
  exact (rowsAt_prev m c t (not_first t hn)).symm

/-- At the first point of a row the row's normed rows are those of the point's own blocks. -/
theorem rowsAt_first (c : Dev nD) (t : Fin cfg0.N) (h : k0_cond1 (grid0.coords t) = 1#1) :
    rowsAt m c t = normed (iblk m c 0 t) (iblk m c 1 t) := by
  unfold rowsAt; rw [rowStart_first t h]

/-- What the body owes for the normed rows' window: its buffer at the row's normed rows. -/
theorem leaves_4 (c : Dev nD) (t : Fin cfg0.N) :
    (owns (c : Thread nD τ) ((cfg0.win 4).stage (cfg0.slots t 4)) fullShare (rowsAt m c t) : sProp 𝕄) ⊢ (dats m 0 c).leavesExact 4 t := by
  by_cases h : k0_cond1 (grid0.coords t) = 1#1
  · unfold Dat.leavesExact
    rw [live_4 t h, after_4]
  · by_cases hf : (cfg0.win 4).flush t = true
    · unfold Dat.leavesExact
      rw [idle_4 t h, hf, after_4]
    · rw [(dats m 0 c).leavesExact_idle 4 t (idle_4 t h) (by simpa using hf)]
      iintro H
      iexists (fun _ => Classical.choice inferInstance)
      rw [before_4 m c t h]
      iexact H

/-! ## The body obligation -/

/-- The body at a point, with the windows' buffers one by one. -/
theorem body_at (c : Dev nD) (t : Fin cfg0.N) :
    (iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))) : sProp 𝕄)
    ⊢ wp frame (wpE (defs₀ (F := F)) Variants.none c none) Set.univ
      (defs₀ (F := F) .tc cfg0.body (cfg0.bodyArgs t (cfg0.slots t)))
      (fun _ => iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ owns (c : Thread nD τ) (win0_3.stage (cfg0.slots t 3)) fullShare ((dats m 0 c).after 3 t)
        ∗ (dats m 0 c).leavesExact 4 t)) := by
  unfold defs₀
  rw [Defs.onTc_tc]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  by_cases h : k0_cond1 (grid0.coords t) = 1#1
  · iapply (body_first c Set.univ (grid0.coords t) h _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    rw [← rowsAt_first m c t h]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · rw [before_4 m c t h]
    iapply (body_later c Set.univ (grid0.coords t) h _ _ _ _ _ _ _ _ _ _ (iblk m c 2 t) (rowsAt m c t) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

/-- The library's obligation of the body, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are found by unifying its conclusion with this one
set_option backward.isDefEq.respectTransparency.types false in
set_option maxHeartbeats 800000 in
/-- The run ends, with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := to_region m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 0).trans (((dats m 0 c).arrAt_in 0 rfl _).trans ((A_eq m c 0).trans (V_arg m c main_arg0 (by decide) (by decide) (by decide) (by decide)))),
      ((h.1 c).1 1).trans (((dats m 0 c).arrAt_in 1 rfl _).trans ((A_eq m c 1).trans (V_arg m c main_arg1 (by decide) (by decide) (by decide) (by decide)))),
      ((h.1 c).2 main_arg2 (Pipeline.mem_restRefs_of main_arg2 (by decide) (by decide))).trans
        (V_arg m c main_arg2 (by decide) (by decide) (by decide) (by decide))⟩, h.2⟩) (run_quiescent m ρ)

end Cert.FupKernelIdeal.Run
end
-- ==== Proof.FupFrame.lean ====
/- The frame of `ffn_up` before idealization: the two programs have the same text, so the run over any float values
   serves both. -/
module
public import proofs.«01_k».proof.Proof.FupRun
public import Idealize.ShloMosaic.PureOps.BitExact
public import proofs.«01_k».proof.Proof.Gen.FupKernel.Launch
@[expose] public section
set_option maxRecDepth 16384
open Idealize.ShloMosaic Idealize.ShloMosaic.TcCoe Idealize.SL.Sem
namespace Cert.FupKernel
open Cert.FupKernel.Gen

-- the two body tables are the same match, compiled twice
set_option smartUnfolding false in
/-- The arguments end unchanged and the counters at zero. -/
theorem run_frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run Cert.FupKernelIdeal.defs _ _).mono (fun _ h => h) (Cert.FupKernelIdeal.Run.frame (F := Bits) m ρ)

end Cert.FupKernel
end
-- ==== Proof.FupValue.lean ====
/- The feed-forward's first product with the norm before it: the kernel's two result arrays are the reference's. -/
module

public import Idealize.ShloMosaic.Lib.Pipeline.ValueKit
public import Idealize.ShloMosaic.Lib.Pipeline.ReadBack
public import Idealize.ShloMosaic.Lib.Pointwise
public import proofs.«01_k».proof.Proof.RmsMath
public import proofs.«01_k».proof.Proof.FupRun
public import proofs.«01_k».proof.Proof.Gen.FupReferenceIdeal.Read

@[expose] public section

set_option maxRecDepth 16384

noncomputable section

namespace Cert.FupReferenceIdeal.Ref

open Cert.FupReferenceIdeal Cert.FupReferenceIdeal.Gen Cert.FupReferenceIdeal.Read Idealize.ShloMosaic Cert.Maths

variable (x : (⟨S8192x1024, .f32⟩ : BufTy).Contents (Elt Ideal)) (w : (⟨S1x1024, .f32⟩ : BufTy).Contents (Elt Ideal))
  (b : (⟨S1024x5632, .f32⟩ : BufTy).Contents (Elt Ideal))

theorem v7_apply (R : Fin 8192) : val_main_v7 (F := Ideal) x (ix2 R 0) = rms 1024 epsR (fun k => x (ix2 R k)) := by
  pointwise [val_main_v7, val_main_v6, val_main_v5, val_main_v4, val_main_v3, val_main_v2, val_main_v1, val_main_v0, val_main_cst,
    val_main_cst_0, val_main_cst_1, ofBits_eps, ofBits_1024]
  rfl

/-- The normed rows. -/
theorem v11_apply (R : Fin 8192) (j : Fin 1024) : val_main_v11 (F := Ideal) x w (ix2 R j)
    = x (ix2 R j) * rms 1024 epsR (fun k => x (ix2 R k)) * w (ix2 0 j) := by
  pointwise [val_main_v11, val_main_v10, val_main_v9, val_main_v8, v7_apply]

/-- Their product. -/
theorem v12_apply (R : Fin 8192) (j : Fin 5632) : val_main_v12 (F := Ideal) x w b (ix2 R j)
    = ∑ k : Fin 1024, val_main_v11 (F := Ideal) x w (ix2 R k) * b (ix2 k j) := by
  pointwise [val_main_v12]

/-- The normed rows again, as the second result. -/
theorem v13_apply (R : Fin 8192) (j : Fin 1024) : val_main_v13 (F := Ideal) x w (ix2 R j) = val_main_v11 (F := Ideal) x w (ix2 R j) := by
  pointwise [val_main_v13]

end Cert.FupReferenceIdeal.Ref

namespace Cert.FupKernelIdeal.Result

open Cert.FupKernelIdeal Cert.FupKernelIdeal.Gen Cert.FupKernelIdeal.Run Idealize.ShloMosaic Idealize.ShloMosaic.TcCoe Idealize.SL.Sem
open Cert.Maths Cert.FupReferenceIdeal.Ref
open Cert.FupReferenceIdeal.Read (val_main_v11 val_main_v12 val_main_v13)

variable (m : (ℓ : Loc nD τ sig) → Buf (Elt Ideal) ℓ) (c : Dev nD)

/-- The block each window reads at a point. -/
theorem idx : ∀ t : Fin cfg0.N, win0_0.index t = ![t.val / 4, 0] ∧ win0_1.index t = ![0, 0] ∧ win0_2.index t = ![0, 0, 0]
    ∧ win0_3.index t = ![t.val / 4, t.val % 4] ∧ win0_4.index t = ![t.val / 4, 0] :=
  (by decide +kernel : ∀ t : Fin grid0.N, win0_0.index t = ![t.val / 4, 0] ∧ win0_1.index t = ![0, 0] ∧ win0_2.index t = ![0, 0, 0]
    ∧ win0_3.index t = ![t.val / 4, t.val % 4] ∧ win0_4.index t = ![t.val / 4, 0])

/-- The column tile a point loads. -/
theorem off : ∀ t : Fin cfg0.N, k0_off1 (grid0.coords t) = ![t.val % 4, 0, 0] :=
  (by decide +kernel : ∀ t : Fin grid0.N, k0_off1 (grid0.coords t) = ![t.val % 4, 0, 0])

abbrev xs : S8192x1024.Idx → EReal := m ((c : Thread nD τ).loc main_arg0)
abbrev wn : S1x1024.Idx → EReal := m ((c : Thread nD τ).loc main_arg1)
abbrev wu : S1024x5632.Idx → EReal := m ((c : Thread nD τ).loc main_arg2)

theorem pay1_apply (x : Vec Ideal S1024x1024 .f32) (w : Vec Ideal S1x1024 .f32) (i : Fin 1024) (j : Fin 1024) :
    k0_pay1 (F := Ideal) x w (ix2 i j) = x (ix2 i j) * rms 1024 epsR (fun k => x (ix2 i k)) * w (ix2 0 j) := by
  pointwise [k0_pay1, ofBits_eps, ofBits_1024]
  rfl

theorem pay2_apply (u : Vec Ideal S1024x1024 .bf16) (w : Vec Ideal S1x1024x1408 .bf16) (i : Fin 1024) (j : Fin 1408) :
    k0_pay2 (F := Ideal) u w (ix2 i j) = ∑ k : Fin 1024, u (ix2 i k) * w (ix3 0 k j) := by
  pointwise [k0_pay2]

/-- Row `i` of a point's block of rows, column `j` of its tile. -/
abbrev row (t : Fin cfg0.N) (i : Fin 1024) : Fin 8192 := ⟨1024 * (t.val / 4) + i.val, by have : t.val < 32 := t.isLt; omega⟩
abbrev col (t : Fin cfg0.N) (j : Fin 1408) : Fin 5632 := ⟨t.val % 4 * 1408 + j.val, by omega⟩

theorem V_x : V m c main_arg0 = xs m c := V_arg m c main_arg0 (by decide) (by decide) (by decide) (by decide)
theorem V_wn : V m c main_arg1 = wn m c := V_arg m c main_arg1 (by decide) (by decide) (by decide) (by decide)

/-- The weight's column tiles, as the host lays them out. -/
theorem V_wu (g : Fin 4) (k : Fin 1024) (j : Fin 1408) : V m c main_v3 (ix3 g k j) = wu m c (ix2 k ⟨g.val * 1408 + j.val, by omega⟩) := by
  unfold V hostOps0; after_results_simp; pointwise

theorem row_rowStart (t : Fin cfg0.N) (i : Fin 1024) : row (rowStart t) i = row t i :=
  Fin.ext (by simp only [row, rowStart]; omega)

theorem iblk0 (t : Fin cfg0.N) (i : Fin 1024) (k : Fin 1024) : (iblk m c 0 t : Vec Ideal S1024x1024 .f32) (ix2 i k) = xs m c (ix2 (row t i) k) := by
  rw [← V_x]; blk_ext [iblk, idx t]

theorem iblk1 (t : Fin cfg0.N) (j : Fin 1024) : (iblk m c 1 t : Vec Ideal S1x1024 .f32) (ix2 0 j) = wn m c (ix2 0 j) := by
  rw [← V_wn]; blk_ext [iblk, idx t]

theorem iblk2 (t : Fin cfg0.N) (g : Fin 4) (k : Fin 1024) (j : Fin 1408) :
    (iblk m c 2 t : Vec Ideal S4x1024x1408 .bf16) (ix3 g k j) = wu m c (ix2 k ⟨g.val * 1408 + j.val, by omega⟩) := by
  rw [← V_wu]; blk_ext [iblk, idx t]

/-- The tile a point loads, at the weight's own columns. -/
theorem tile (t : Fin cfg0.N) (k : Fin 1024) (j : Fin 1408) :
    View.ld (iblk m c 2 t : Vec Ideal S4x1024x1408 .bf16) (rW (grid0.coords t)) (ix3 0 k j) = wu m c (ix2 k (col t j)) := by
  refine (View.ld_unit_apply_of _ _ _ _ _ (ix3 (⟨t.val % 4, by omega⟩ : Fin 4) k j) fun a => ?_).trans (iblk2 m c t _ k j)
  have h := congrFun (off t) a
  match a with
  | ⟨0, _⟩ => exact h.symm
  | ⟨1, _⟩ => exact (Nat.zero_add k.val).symm.trans (congrArg (· + k.val) h.symm)
  | ⟨2, _⟩ => exact (Nat.zero_add j.val).symm.trans (congrArg (· + j.val) h.symm)

/-- The normed rows of a point's block, at the reference's. -/
theorem rows_eq (t : Fin cfg0.N) (i : Fin 1024) (k : Fin 1024) :
    rowsAt m c t (ix2 i k) = val_main_v11 (F := Ideal) (xs m c) (wn m c) (ix2 (row t i) k) := by
  unfold rowsAt normed
  frame_out
  rw [pay1_apply, v11_apply]
  simp only [iblk0, iblk1, row_rowStart]

abbrev result3 : Buf (Elt Ideal) ((c : Thread nD τ).loc main_v4_0) := val_main_v12 (F := Ideal) (xs m c) (wn m c) (wu m c)
abbrev result4 : Buf (Elt Ideal) ((c : Thread nD τ).loc main_v4_1) := val_main_v13 (F := Ideal) (xs m c) (wn m c)

/-- The product. -/
theorem final3 : (dats m 0 c).arrAt 3 cfg0.N = result3 m c := by
  refine (dats m 0 c).arrAt_eq_of_covers 3 _ (by decide +kernel) fun t hf y => ?_
  blk_simp
  rw [after_3]
  unfold product
  frame_out
  obtain ⟨i, j, rfl⟩ : ∃ (i : Fin 1024) (j : Fin 1408), y = ix2 i j := ⟨y 0, y 1, funext fun a => match a with | ⟨0, _⟩ => rfl | ⟨1, _⟩ => rfl⟩
  have eG : ((cfg0.win 3).blk t).view.emb (ix2 i j) = ix2 (row t i) (col t j) := by blk_ext [idx t]
  rw [eG, result3, v12_apply, pay2_apply]
  simp only [tile, rows_eq]

/-- The normed rows. -/
theorem final4 : (dats m 0 c).arrAt 4 cfg0.N = result4 m c := by
  refine (dats m 0 c).arrAt_eq_of_covers 4 _ (by decide +kernel) fun t hf y => ?_
  blk_simp
  rw [after_4]
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v13_apply, rows_eq]

end Cert.FupKernelIdeal.Result

end
-- ==== Proof.FupClaim.lean ====
/- The claims about the feed-forward's first product with the norm before it. -/
module

public import proofs.«01_k».proof.Defs
public import proofs.«01_k».proof.Proof.FupFrame
public import proofs.«01_k».proof.Proof.FupValue
public import proofs.«01_k».proof.Proof.Gen.FupReferenceIdeal.Run
public import Idealize.ShloMosaic.Adequacy
public import Idealize.ShloMosaic.Init

@[expose] public section

noncomputable section

namespace Cert.Proof

open Idealize.ShloMosaic Idealize.SL.Sem

/-- The reference of the normed product runs to the end with every semaphore at zero and its arguments kept. -/
theorem fup_reference_frame : Cert.quiescent_FupReferenceIdeal (hFupReferenceIdeal := Cert.FupReferenceIdeal.Gen.facts) := fun m ρ _ =>
  (θ_run (Cert.FupReferenceIdeal.defs (F := Ideal)) _ _).mono
    (fun r h => ⟨fun c => (h c).2.2, sem_eq_zero_of_no_sems (by decide) r.2⟩)
    (Cert.FupReferenceIdeal.Value.run (F := Ideal) m ρ)

/-- THE VALUE of the normed product: the kernel's two result arrays are the reference's, at every input. -/
theorem fup_algebraic : Cert.algebraic_FupKernelIdeal_FupReferenceIdeal (hFupKernelIdeal := Cert.FupKernelIdeal.Gen.facts)
    (hFupReferenceIdeal := Cert.FupReferenceIdeal.Gen.facts) := by
  intro m g m' g' _ hm
  refine ⟨fun c => Cert.FupKernelIdeal.Result.result3 m c, fun c => Cert.FupKernelIdeal.Result.result4 m c, ?_, ?_⟩
  · exact θ_run_mono (θ_run_and (Cert.FupKernelIdeal.Run.run_quiescent (F := Ideal) m g) (Cert.FupKernelIdeal.Run.frame (F := Ideal) m g))
      fun r h c => ⟨((h.1.1 c).1 3).trans (Cert.FupKernelIdeal.Result.final3 m c),
        ((h.1.1 c).1 4).trans (Cert.FupKernelIdeal.Result.final4 m c), h.2.1 c⟩
  · refine (θ_run (Cert.FupReferenceIdeal.defs (F := Ideal)) _ _).mono (fun r h c => ⟨(h c).1.trans ?_, (h c).2.1.trans ?_, (h c).2.2⟩)
      (Cert.FupReferenceIdeal.Value.run (F := Ideal) m' g')
    · obtain ⟨e0, e1, e2⟩ := hm c
      refine (Cert.FupReferenceIdeal.Read.val_main_v12_eq (F := Ideal) _ _ _).trans ?_
      rw [e0, e1, e2]
    · obtain ⟨e0, e1, e2⟩ := hm c
      refine (Cert.FupReferenceIdeal.Read.val_main_v13_eq (F := Ideal) _ _).trans ?_
      rw [e0, e1]

end Cert.Proof

end
-- ==== Proof.InpRun.lean ====
/- The run of `in_proj`: a norm and a product in one kernel, and the host lines that put the product's columns back in
   the projection's own order. The normed rows are stored when a block of rows is
   met first and read back at that block's later column tiles, so the second output is idle at those points. -/
module
public import proofs.«01_k».proof.Proof.Gen.InpKernelIdeal.Launch
public import proofs.«01_k».proof.Proof.Gen.InpKernelIdeal.Skeleton
public import Idealize.ShloMosaic.Lib.Pipeline.FrameBody
public import Idealize.ShloMosaic.Lib.Pipeline.TableIdle
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
@[expose] public section
set_option maxRecDepth 16384
noncomputable section
namespace Cert.InpKernelIdeal.Run
open Cert.InpKernelIdeal Cert.InpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## Around the region -/

/-- A core's buffers when the region is entered, -/
abbrev V0 (c : Dev nD) : Valuation τ sig (Elt F) := StableHlo.after (List.flatten [hostOps0]) (fun b => m (c, b))

/-- each by its reference. -/
abbrev V (c : Dev nD) (b : Ref sig .tc) : Buf (Elt F) ((c : Thread nD τ).loc b) := V0 m c (Proc.devRef .tc b)

/-- The host operations before the region draw no fresh buffer, -/
theorem ops_fresh : (hostOps0 : List (HloOp τ sig (Elt F))).Forall fun op => op.fresh = ∅ := by
  simp only [List.Forall]; repeat' constructor

/-- nor do those after it. -/
theorem later_fresh : (hostOps1 : List (HloOp τ sig (Elt F))).Forall fun op => op.fresh = ∅ := by
  simp only [List.Forall]; repeat' constructor

set_option maxHeartbeats 1600000 in
/-- The program is host operations, the region, host operations. -/
theorem around_region (𝒱₀ : Variants) :
    Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact ops_fresh) main_chain

/-- The later operations touch unscoped buffers only, -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

theorem later_no_fresh : ∀ ops ∈ ([hostOps1] : List (List (HloOp τ sig (Elt F)))), ∀ op ∈ ops, op.fresh = ∅ := by
  intro ops hops op hop
  obtain rfl := List.mem_singleton.mp hops
  exact (List.forall_iff_forall_mem.mp later_fresh) op hop

/-- A buffer that no later operation writes. -/
abbrev Later (b : Ref sig .tc) : Prop :=
  (hostOps1 : List (HloOp τ sig (Elt F))).Forall fun op => Proc.devRef .tc b ∉ op.writes

/-- The region's arrays and the arguments have lower numbers than what the later operations write. -/
theorem later_keeps_of (b : Ref sig .tc) (h : b.idx.val < 33) : Later (F := F) b := by
  simp only [Later, hostOps1, List.Forall, StableHlo.unary_writes, StableHlo.binary_writes, StableHlo.nary_writes, Finset.mem_singleton]
  repeat' apply And.intro
  all_goals
    apply StableHlo.devRef_ne_of_ne
    rintro rfl
    exact absurd h (by decide)

/-- and write no array of the region. -/
theorem later_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact List.forall_iff_forall_mem.mp (later_keeps_of (Pipeline.arrRef spec0 w)
    ((by decide : ∀ w, (Pipeline.arrRef spec0 w).idx.val < 33) w)) op hop

/-- An argument is as launched when the region is entered, -/
theorem V_arg (c : Dev nD) (b : Ref sig .tc) (h : b.idx.val < 3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.Forall, StableHlo.nullary_writes,
      StableHlo.unary_writes, StableHlo.binary_writes, StableHlo.nary_writes, StableHlo.reshape_writes, Finset.mem_singleton]
    repeat' apply And.intro
    all_goals
      apply StableHlo.devRef_ne_of_ne
      rintro rfl
      exact absurd h (by decide)))

/-- and at the end, when it is no array of the region. -/
theorem W_arg (dats : (p : Fin _) → (c : Dev nD) → Dat τ (Elt F) Unit ℕ (UR sig nD τ) ℕ (cfgs p) c) (c : Dev nD) (b : Ref sig .tc)
    (h : b.idx.val < 3) (hb : ∀ w, Pipeline.arrRef spec0 w ≠ b) :
    Pipeline.afterTail₀ cfgs dats 0 (V0 m) [hostOps1] c b = m ((c : Thread nD τ).loc b) := by
  unfold Pipeline.afterTail₀
  rw [show List.flatten [hostOps1 (F := F)] = hostOps1 from by simp only [List.flatten_cons, List.flatten_nil, List.append_nil],
    StableHlo.after_of_forall_not_mem (b := Proc.devRef .tc b) _ _
      (List.forall_iff_forall_mem.mp (later_keeps_of (F := F) b (Nat.lt_trans h (by decide)))),
    Pipeline.withArrays_of_ne _ c (V0 m c) _ b hb]
  exact V_arg m c b h

/-! ## Blocks -/

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of the row of points that a point stands in. -/
def rowStart (t : Fin cfg0.N) : Fin cfg0.N := ⟨t.val - t.val % 9, Nat.lt_of_le_of_lt (Nat.sub_le _ _) t.isLt⟩

/-- A point whose condition holds is the first of its row. -/
theorem rowStart_first : ∀ t : Fin cfg0.N, k0_cond1 (grid0.coords t) = 1#1 → rowStart t = t := by decide +kernel

/-- The rectangles the body loads and stores whole. -/
abbrev rX : Rect S1024x1024 := Rect.unit (s := S1024x1024) ![0, 0] S1024x1024.size inb_S1024x1024_S1024x1024_0_0
abbrev rN : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0
/-- The column tile of the weight that a point multiplies by. -/
abbrev rW (i : grid0.Coords) : Rect S9x1024x1024 := Rect.unit (s := S9x1024x1024) (k0_off1 i) S1x1024x1024.size (k0_off1_inb i)

/-- The normed rows' staging buffer after the body stored them. -/
def normed (x : Vec F S1024x1024 .f32) (w : Vec F S1x1024 .f32) : Vec F S1024x1024 .bf16 :=
  View.canon [⟨rX, k0_pay1 (View.ld x rX) (View.ld w rN)⟩]

/-- The product's staging buffer after the body, from the normed rows and the weight. -/
def product (i : grid0.Coords) (u : Vec F S1024x1024 .bf16) (w : Vec F S9x1024x1024 .bf16) : Vec F S1024x1024 .f32 :=
  View.canon [⟨rO, k0_pay2 (View.ld u rX) (View.ld w (rW i))⟩]

theorem cover_normed (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

theorem cover_product (p : Vec F S1024x1024 .f32) (y : S1024x1024.Idx) :
    ∃ pc ∈ ([⟨rO, p⟩] : List (View.Piece (Elt F) S1024x1024 .f32)), y ∈ pc.1.set :=
  View.cover_of_tiled [⟨rO, p⟩] S1024x1024.size (by rfl) y

/-! ## The body's triples -/

set_option maxHeartbeats 1000000 in
/-- At the first point of a row the body stores the normed rows, then the product of what it stored. -/
theorem body_first (c : Dev nD) (E : Set ℕ) (i : grid0.Coords) (hc : k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S9x1024x1024 .bf16) (harg4 : arg4.IsWhole) (arg5 : Memref sig .tc .vmem S1024x1024 .f32) (harg5 : arg5.IsWhole)
    (arg6 : Memref sig .tc .vmem S1024x1024 .bf16) (harg6 : arg6.IsWhole)
    (x0 : Vec F S1024x1024 .f32) (x1 : Vec F S1x1024 .f32) (x2 : Vec F S9x1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (product i (normed x0 x1) x2)
            ∗ owns (c : Thread nD τ) arg6 fullShare (normed x0 x1)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_product _)).trans ?_
    unfold body_first.sl.v3 body_first.sl.H4_1
    rw [View.readCov_eq_canon_ld _ _ rX (cover_normed _)]
    rfl
  iexists _; isplitr
  swap; · iexact H4
  ipureintro
  exact View.read_writes_eq_canon _ _ _ (cover_normed _)

set_option maxHeartbeats 1000000 in
/-- At a later point of a row the body reads the normed rows back and stores their product. -/
theorem body_later (c : Dev nD) (E : Set ℕ) (i : grid0.Coords) (hc : ¬k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S9x1024x1024 .bf16) (harg4 : arg4.IsWhole) (arg5 : Memref sig .tc .vmem S1024x1024 .f32) (harg5 : arg5.IsWhole)
    (arg6 : Memref sig .tc .vmem S1024x1024 .bf16) (harg6 : arg6.IsWhole)
    (x2 : Vec F S9x1024x1024 .bf16) (u : Vec F S1024x1024 .bf16) (K : PUnit → sProp 𝕄) :
    iprop(owns (c : Thread nD τ) arg4 fullShare x2
        ∗ (∃ d, owns (c : Thread nD τ) arg5 fullShare d) ∗ owns (c : Thread nD τ) arg6 fullShare u
        ∗ (iprop(owns (c : Thread nD τ) arg4 fullShare x2
            ∗ owns (c : Thread nD τ) arg5 fullShare (product i u x2)
            ∗ owns (c : Thread nD τ) arg6 fullShare u) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%d3, %f3, -, H3⟩, ⟨%f4, %hf4, H4⟩, Hk⟩
  subst hf2 hf4
  sl_exec (disch := first | sl_exact hc)
  sl_step
  iapply Hk
  isplitl [H2]
  · iexists f2; isplitr; · ipureintro; rfl
    iexact H2
  isplitl [H3]
  · iexists _; isplitr
    swap; · iexact H3
    ipureintro
    exact View.read_writes_eq_canon _ _ _ (cover_product _)
  iexists f4; isplitr; · ipureintro; rfl
  iexact H4

/-! ## The proof data -/

/-- The normed rows of the row of points that a point stands in. -/
def rowsAt (c : Dev nD) (t : Fin cfg0.N) : Vec F S1024x1024 .bf16 :=
  normed (iblk m c 0 (rowStart t)) (iblk m c 1 (rowStart t))

/-- After a point the inputs hold their blocks, the product its tile, the normed rows those of the point's row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (grid0.coords t) (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = product (grid0.coords t) (rowsAt m c t) (iblk m c 2 t) := by dsimp only [dats]
theorem after_4 (c : Dev nD) (t : Fin cfg0.N) : (dats m 0 c).after 4 t = rowsAt m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## Where the normed rows' window is idle, fresh or written back -/

/-- The window is live exactly at the first point of a row. -/
theorem live_4 : ∀ t : Fin cfg0.N, k0_cond1 (grid0.coords t) = 1#1 → cfg0.idle 4 (grid0.coords t) = false := by decide +kernel
theorem idle_4 : ∀ t : Fin cfg0.N, ¬k0_cond1 (grid0.coords t) = 1#1 → cfg0.idle 4 (grid0.coords t) = true := by decide +kernel

/-- Nothing is in the buffer at the first point of a row, and at no other point. -/
def freshTab : ℕ → Bool := fun n => n % 9 == 0

theorem freshTab_step : ∀ t : Fin cfg0.N,
    freshTab (t.val + 1) = ((cfg0.win 4).flush t || (cfg0.idle 4 (cfg0.grid.coords t) && freshTab t.val)) := by decide +kernel

theorem fresh_4 (t : Fin cfg0.N) : cfg0.fresh 4 t.val = freshTab t.val :=
  Pipeline.Cfg.fresh_tab cfg0 4 freshTab rfl freshTab_step t.val (Nat.le_of_lt t.isLt)

theorem notFresh_4 : ∀ t : Fin cfg0.N, ¬k0_cond1 (grid0.coords t) = 1#1 → cfg0.fresh 4 t.val = false := by
  intro t; rw [fresh_4 t]; revert t; decide +kernel

theorem not_first : ∀ t : Fin cfg0.N, cfg0.fresh 4 t.val = false → t.val % 9 ≠ 0 := by
  intro t; rw [fresh_4 t]; revert t; decide +kernel

/-- Along a row the normed rows do not change. -/
theorem rowsAt_prev (c : Dev nD) (t : Fin cfg0.N) (h : t.val % 9 ≠ 0) :
    rowsAt m c t = rowsAt m c ⟨t.val - 1, by omega⟩ := by
  unfold rowsAt
  rw [show rowStart (⟨t.val - 1, by omega⟩ : Fin cfg0.N) = rowStart t from Fin.ext (by simp only [rowStart]; omega)]

/-- Before a later point of a row the buffer holds the row's normed rows. -/
theorem before_4 (c : Dev nD) (t : Fin cfg0.N) (h : ¬k0_cond1 (grid0.coords t) = 1#1) (d) :
    (dats m 0 c).before 4 t d = rowsAt m c t := by
  have hn := notFresh_4 t h
  rw [(dats m 0 c).before_out_traj 4 rfl (fun _ _ => rfl)
    (fun s _ _ hf => by rw [after_4, after_4]; exact rowsAt_prev m c s (not_first s hf)) t.val t rfl d, hn, if_neg (by decide),
    after_4]
  exact (rowsAt_prev m c t (not_first t hn)).symm

/-- At the first point of a row the row's normed rows are those of the point's own blocks. -/
theorem rowsAt_first (c : Dev nD) (t : Fin cfg0.N) (h : k0_cond1 (grid0.coords t) = 1#1) :
    rowsAt m c t = normed (iblk m c 0 t) (iblk m c 1 t) := by
  unfold rowsAt; rw [rowStart_first t h]

/-- What the body owes for the normed rows' window: its buffer at the row's normed rows. -/
theorem leaves_4 (c : Dev nD) (t : Fin cfg0.N) :
    (owns (c : Thread nD τ) ((cfg0.win 4).stage (cfg0.slots t 4)) fullShare (rowsAt m c t) : sProp 𝕄) ⊢ (dats m 0 c).leavesExact 4 t := by
  by_cases h : k0_cond1 (grid0.coords t) = 1#1
  · unfold Dat.leavesExact
    rw [live_4 t h, after_4]
  · by_cases hf : (cfg0.win 4).flush t = true
    · unfold Dat.leavesExact
      rw [idle_4 t h, hf, after_4]
    · rw [(dats m 0 c).leavesExact_idle 4 t (idle_4 t h) (by simpa using hf)]
      iintro H
      iexists (fun _ => Classical.choice inferInstance)
      rw [before_4 m c t h]
      iexact H

/-! ## The body obligation -/

/-- The body at a point, with the windows' buffers one by one. -/
theorem body_at (c : Dev nD) (t : Fin cfg0.N) :
    (iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))) : sProp 𝕄)
    ⊢ wp frame (wpE (defs₀ (F := F)) Variants.none c none) Set.univ
      (defs₀ (F := F) .tc cfg0.body (cfg0.bodyArgs t (cfg0.slots t)))
      (fun _ => iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ owns (c : Thread nD τ) (win0_3.stage (cfg0.slots t 3)) fullShare ((dats m 0 c).after 3 t)
        ∗ (dats m 0 c).leavesExact 4 t)) := by
  unfold defs₀
  rw [Defs.onTc_tc]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  by_cases h : k0_cond1 (grid0.coords t) = 1#1
  · iapply (body_first c Set.univ (grid0.coords t) h _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    rw [← rowsAt_first m c t h]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · rw [before_4 m c t h]
    iapply (body_later c Set.univ (grid0.coords t) h _ _ _ _ _ _ _ _ _ _ (iblk m c 2 t) (rowsAt m c t) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

/-- The library's obligation of the body, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are found by unifying its conclusion with this one
set_option backward.isDefEq.respectTransparency.types false in
set_option maxHeartbeats 800000 in
/-- The run ends, with the arrays at what the proof data says, the other buffers as the later operations leave them and
    every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_no_fresh) (hkeep := later_keeps)
    (hmain := around_region m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).2 main_arg2 (Pipeline.mem_restRefs_of main_arg2 (by decide) (by decide))).trans
        (W_arg m (dats m) c main_arg2 (by decide) (by decide))⟩, h.2⟩) (run_quiescent m ρ)

end Cert.InpKernelIdeal.Run
end
-- ==== Proof.InpFrame.lean ====
/- The frame of `in_proj` before idealization: the two programs have the same text, so the run over any float values
   serves both. -/
module
public import proofs.«01_k».proof.Proof.InpRun
public import Idealize.ShloMosaic.PureOps.BitExact
public import proofs.«01_k».proof.Proof.Gen.InpKernel.Launch
@[expose] public section
set_option maxRecDepth 16384
open Idealize.ShloMosaic Idealize.ShloMosaic.TcCoe Idealize.SL.Sem
namespace Cert.InpKernel
open Cert.InpKernel.Gen

-- the two body tables are the same match, compiled twice
set_option maxHeartbeats 8000000 in
set_option smartUnfolding false in
/-- The arguments end unchanged and the counters at zero. -/
theorem run_frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run Cert.InpKernelIdeal.defs _ _).mono (fun _ h => h) (Cert.InpKernelIdeal.Run.frame (F := Bits) m ρ)

end Cert.InpKernel
end
-- ==== Proof.InpHost.lean ====
/- The input projection's host lines: the weight's rows in the kernels' layout and as column tiles, and the columns of the
   kernel's product put back from that layout into the projection's own order. -/
module

public import proofs.«01_k».proof.Proof.DuHost
public import proofs.«01_k».proof.Proof.WinHost
public import proofs.«01_k».proof.Proof.InpRun

@[expose] public section

noncomputable section

namespace Cert.InpKernelIdeal.Host

open Cert.InpKernelIdeal Cert.InpKernelIdeal.Gen Cert.InpKernelIdeal.Run Idealize.ShloMosaic Idealize.ShloMosaic.TcCoe Idealize.ShloMosaic.StableHlo Idealize.SL.Sem Cert.Maths

/-- The host's way back: the first sixteen pieces of the projection's own order, -/
abbrev headPieces (y : FVec Ideal S8192x9216 .f32) : List ((s : Shape) × (s.Idx → Ideal .f32)) :=
  [⟨S8192x2048, extractStridedSlice S8192x2048 ![0, 1536] y slices_S8192x9216_S8192x2048_0_1536⟩,
    ⟨S8192x512, extractStridedSlice S8192x512 ![0, 6144] y slices_S8192x9216_S8192x512_0_6144⟩,
    ⟨S8192x512, extractStridedSlice S8192x512 ![0, 6912] y slices_S8192x9216_S8192x512_0_6912⟩,
    ⟨S8192x512, extractStridedSlice S8192x512 ![0, 7680] y slices_S8192x9216_S8192x512_0_7680⟩,
    ⟨S8192x512, extractStridedSlice S8192x512 ![0, 8448] y slices_S8192x9216_S8192x512_0_8448⟩,
    ⟨S8192x128, extractStridedSlice S8192x128 ![0, 6656] y slices_S8192x9216_S8192x128_0_6656⟩,
    ⟨S8192x128, extractStridedSlice S8192x128 ![0, 7424] y slices_S8192x9216_S8192x128_0_7424⟩,
    ⟨S8192x128, extractStridedSlice S8192x128 ![0, 8192] y slices_S8192x9216_S8192x128_0_8192⟩,
    ⟨S8192x128, extractStridedSlice S8192x128 ![0, 8960] y slices_S8192x9216_S8192x128_0_8960⟩,
    ⟨S8192x128, extractStridedSlice S8192x128 ![0, 6784] y slices_S8192x9216_S8192x128_0_6784⟩,
    ⟨S8192x128, extractStridedSlice S8192x128 ![0, 7552] y slices_S8192x9216_S8192x128_0_7552⟩,
    ⟨S8192x128, extractStridedSlice S8192x128 ![0, 8320] y slices_S8192x9216_S8192x128_0_8320⟩,
    ⟨S8192x128, extractStridedSlice S8192x128 ![0, 9088] y slices_S8192x9216_S8192x128_0_9088⟩,
    ⟨S8192x32, extractStridedSlice S8192x32 ![0, 3584] y slices_S8192x9216_S8192x32_0_3584⟩,
    ⟨S8192x1024, extractStridedSlice S8192x1024 ![0, 0] y slices_S8192x9216_S8192x1024_0_0⟩,
    ⟨S8192x256, extractStridedSlice S8192x256 ![0, 1024] y slices_S8192x9216_S8192x256_0_1024⟩]

/-- the other three, -/
abbrev tailPieces (y : FVec Ideal S8192x9216 .f32) : List ((s : Shape) × (s.Idx → Ideal .f32)) :=
  [⟨S8192x256, extractStridedSlice S8192x256 ![0, 1280] y slices_S8192x9216_S8192x256_0_1280⟩,
    ⟨S8192x1024, extractStridedSlice S8192x1024 ![0, 4096] y slices_S8192x9216_S8192x1024_0_4096⟩,
    ⟨S8192x1024, extractStridedSlice S8192x1024 ![0, 5120] y slices_S8192x9216_S8192x1024_0_5120⟩]

def ownHead (y : FVec Ideal S8192x9216 .f32) : FVec Ideal S8192x6432 .f32 :=
  concatenate S8192x6432 1 (headPieces y) concatenates_S8192x2048_S8192x512_S8192x512_S8192x512_S8192x512_S8192x128_S8192x128_S8192x128_S8192x128_S8192x128_S8192x128_S8192x128_S8192x128_S8192x32_S8192x1024_S8192x256_S8192x6432_d1

def ownTail (y : FVec Ideal S8192x9216 .f32) : FVec Ideal S8192x2304 .f32 :=
  concatenate S8192x2304 1 (tailPieces y) concatenates_S8192x256_S8192x1024_S8192x1024_S8192x2304_d1

/-- and all of them. -/
def own (y : FVec Ideal S8192x9216 .f32) : FVec Ideal S8192x8736 .f32 :=
  concatenate S8192x8736 1 [⟨S8192x6432, ownHead y⟩, ⟨S8192x2304, ownTail y⟩] concatenates_S8192x6432_S8192x2304_S8192x8736_d1

variable (y : FVec Ideal S8192x9216 .f32) (R : Fin 8192)

/-- A slice of whole columns, read at an element. -/
theorem cols_apply (s n : ℕ) (h : S8192x9216.Slices ![0, s] ⟨2, ![8192, n]⟩) (k : ℕ) (hk : k < n) (hs : s + k < 9216) :
    extractStridedSlice ⟨2, ![8192, n]⟩ ![0, s] y h (ix2 R ⟨k, hk⟩) = ext (fun r => y (ix2 R r)) (s + k) :=
  (extractStridedSlice_apply _ _ _ _ (ix2 R ⟨s + k, hs⟩) (fun a => match a with
    | ⟨0, _⟩ => (Nat.zero_add _).symm
    | ⟨1, _⟩ => rfl)).trans (ext_of_lt (fun r => y (ix2 R r)) _ hs).symm

/-- The widths of the first pieces of a list, added up. -/
abbrev colsBefore (xs : List ((s : Shape) × (s.Idx → Ideal .f32))) (i : ℕ) : ℕ :=
  (((xs.take i).map (·.1)).map fun s => if h : s.rank = 2 then s.size ((1 : Fin 2).cast h.symm) else 0).sum

/-- A column inside piece `i` of the first sixteen is the column of the laid-out matrix that piece was cut from. -/
theorem head_col {H : ℕ → EReal} (i len pre src : ℕ) (hi : i < 16) {hs : S8192x9216.Slices ![0, src] ⟨2, ![8192, len]⟩}
    (hx : (headPieces y)[i] = ⟨_, extractStridedSlice ⟨2, ![8192, len]⟩ ![0, src] y hs⟩) (hpre : colsBefore (headPieces y) i = pre)
    (hsrc : src + len ≤ 9216) (hH : ∀ k < len, ext (fun r => y (ix2 R r)) (src + k) = H (pre + k))
    (n : ℕ) (hn : n < 6432) (h1 : pre ≤ n) (h2 : n < pre + len) : own y (ix2 R ⟨n, by omega⟩) = H n := by
  obtain ⟨k, rfl⟩ := Nat.exists_eq_add_of_le h1
  have hk : k < len := by omega
  refine (cat_axis1 _ _ 0 (of_decide_eq_true rfl) _ rfl 0 rfl R _ (⟨pre + k, hn⟩ : Fin 6432) (by simp)).trans ?_
  exact (cat_axis1 (headPieces y) _ i hi _ hx pre hpre R _ (⟨k, hk⟩ : Fin len) rfl).trans ((cols_apply y R src len hs k hk (by omega)).trans (hH k hk))

/-- The same for the other three. -/
theorem tail_col {H : ℕ → EReal} (i len pre src : ℕ) (hi : i < 3) {hs : S8192x9216.Slices ![0, src] ⟨2, ![8192, len]⟩}
    (hx : (tailPieces y)[i] = ⟨_, extractStridedSlice ⟨2, ![8192, len]⟩ ![0, src] y hs⟩) (hpre : colsBefore (tailPieces y) i = pre)
    (hsrc : src + len ≤ 9216) (hH : ∀ k < len, ext (fun r => y (ix2 R r)) (src + k) = H (6432 + pre + k))
    (n : ℕ) (hn : n < 8736) (h1 : 6432 + pre ≤ n) (h2 : n < 6432 + pre + len) : own y (ix2 R ⟨n, hn⟩) = H n := by
  obtain ⟨k, rfl⟩ := Nat.exists_eq_add_of_le h1
  have hk : k < len := by omega
  refine (cat_axis1 _ _ 1 (of_decide_eq_true rfl) _ rfl 6432 (by simp) R _ (⟨pre + k, by omega⟩ : Fin 2304) (by simp only; omega)).trans ?_
  exact (cat_axis1 (tailPieces y) _ i hi _ hx pre hpre R _ (⟨k, hk⟩ : Fin len) rfl).trans ((cols_apply y R src len hs k hk (by omega)).trans (hH k hk))

/-- Columns in the projection's own order hold what the laid-out columns lay out. -/
theorem own_apply (H : ℕ → EReal) (h : ProjLayout (ext fun r => y (ix2 R r)) H) (n : Fin 8736) : own y (ix2 R n) = H n.val := by
  obtain ⟨n, hn⟩ := n
  by_cases c0 : n < 2048
  · exact head_col y R 0 2048 0 1536 (by omega) rfl (by simp [colsBefore, headPieces]) (by omega) h.z n (by omega) (by omega) c0
  by_cases c1 : n < 2560
  · exact head_col y R 1 512 2048 6144 (by omega) rfl (by simp [colsBefore, headPieces]) (by omega) (h.xs 0 (by omega)) n (by omega) (by omega) c1
  by_cases c2 : n < 3072
  · exact head_col y R 2 512 2560 6912 (by omega) rfl (by simp [colsBefore, headPieces]) (by omega) (h.xs 1 (by omega)) n (by omega) (by omega) c2
  by_cases c3 : n < 3584
  · exact head_col y R 3 512 3072 7680 (by omega) rfl (by simp [colsBefore, headPieces]) (by omega) (h.xs 2 (by omega)) n (by omega) (by omega) c3
  by_cases c4 : n < 4096
  · exact head_col y R 4 512 3584 8448 (by omega) rfl (by simp [colsBefore, headPieces]) (by omega) (h.xs 3 (by omega)) n (by omega) (by omega) c4
  by_cases c5 : n < 4224
  · exact head_col y R 5 128 4096 6656 (by omega) rfl (by simp [colsBefore, headPieces]) (by omega) (h.b 0 (by omega)) n (by omega) (by omega) c5
  by_cases c6 : n < 4352
  · exact head_col y R 6 128 4224 7424 (by omega) rfl (by simp [colsBefore, headPieces]) (by omega) (h.b 1 (by omega)) n (by omega) (by omega) c6
  by_cases c7 : n < 4480
  · exact head_col y R 7 128 4352 8192 (by omega) rfl (by simp [colsBefore, headPieces]) (by omega) (h.b 2 (by omega)) n (by omega) (by omega) c7
  by_cases c8 : n < 4608
  · exact head_col y R 8 128 4480 8960 (by omega) rfl (by simp [colsBefore, headPieces]) (by omega) (h.b 3 (by omega)) n (by omega) (by omega) c8
  by_cases c9 : n < 4736
  · exact head_col y R 9 128 4608 6784 (by omega) rfl (by simp [colsBefore, headPieces]) (by omega) (h.c 0 (by omega)) n (by omega) (by omega) c9
  by_cases c10 : n < 4864
  · exact head_col y R 10 128 4736 7552 (by omega) rfl (by simp [colsBefore, headPieces]) (by omega) (h.c 1 (by omega)) n (by omega) (by omega) c10
  by_cases c11 : n < 4992
  · exact head_col y R 11 128 4864 8320 (by omega) rfl (by simp [colsBefore, headPieces]) (by omega) (h.c 2 (by omega)) n (by omega) (by omega) c11
  by_cases c12 : n < 5120
  · exact head_col y R 12 128 4992 9088 (by omega) rfl (by simp [colsBefore, headPieces]) (by omega) (h.c 3 (by omega)) n (by omega) (by omega) c12
  by_cases c13 : n < 5152
  · exact head_col y R 13 32 5120 3584 (by omega) rfl (by simp [colsBefore, headPieces]) (by omega) h.dt n (by omega) (by omega) c13
  by_cases c14 : n < 6176
  · exact head_col y R 14 1024 5152 0 (by omega) rfl (by simp [colsBefore, headPieces]) (by omega) h.q n (by omega) (by omega) c14
  by_cases c15 : n < 6432
  · exact head_col y R 15 256 6176 1024 (by omega) rfl (by simp [colsBefore, headPieces]) (by omega) h.k n (by omega) (by omega) c15
  by_cases t0 : n < 6688
  · exact tail_col y R 0 256 0 1280 (by omega) rfl (by simp [colsBefore, tailPieces]) (by omega) h.v n hn (by omega) (by omega)
  by_cases t1 : n < 7712
  · exact tail_col y R 1 1024 256 4096 (by omega) rfl (by simp [colsBefore, tailPieces]) (by omega) h.gs n hn (by omega) (by omega)
  · exact tail_col y R 2 1024 1280 5120 (by omega) rfl (by simp [colsBefore, tailPieces]) (by omega) h.ga n hn (by omega) (by omega)

variable (m : (ℓ : Loc nD τ sig) → Buf (Elt Ideal) ℓ) (c : Dev nD)

/-- The region finds the weight's column tiles: a row of the laid-out weight is a column of its tile. -/
theorem V_w (g : Fin 9) (k j : Fin 1024) : V m c main_v26 (ix3 g k j)
    = Cert.DuKernelIdeal.Host.wProj (m ((c : Thread nD τ).loc main_arg2)) (ix2 ⟨g.val * 1024 + j.val, by omega⟩ k) := by
  have e : V m c main_v26 = transpose S9x1024x1024 [0, 2, 1]
      (shapeCast S9x1024x1024 (Cert.DuKernelIdeal.Host.wProj (m ((c : Thread nD τ).loc main_arg2))) shapeCasts_S9216x1024_S9x1024x1024)
      transposes_S9x1024x1024_S9x1024x1024_0_2_1 := by
    show StableHlo.after (List.flatten [hostOps0]) (fun b => m (c, b)) main_v26 = _
    simp only [hostOps0, List.flatten_cons, List.flatten_nil, List.append_nil, List.cons_append]
    after_results_simp <;> (try dsimp only [Matrix.cons_val]) <;> (try after_results_simp) <;> rfl
  rw [e]
  generalize Cert.DuKernelIdeal.Host.wProj _ = y
  pointwise

/-- After the region the host leaves the columns put back in the result's buffer. -/
theorem tail_result (A : (w : Fin 5) → Buf (Elt Ideal) ((spec0 w).arr.view.loc (c.tc : Thread nD τ))) :
    StableHlo.after hostOps1 (Pipeline.withArrays spec0 c (V0 m c) A) (Proc.devRef .tc main_v49) = own (A 3) := by
  have h : Pipeline.withArrays spec0 c (V0 m c) A (Proc.devRef .tc main_v27_0) = A 3 :=
    Pipeline.withArrays_arr spec0 (by decide) c (V0 m c) A 3
  generalize Pipeline.withArrays spec0 c (V0 m c) A = W at h
  rw [← h]
  unfold hostOps1
  after_results_simp <;> (try dsimp only [Matrix.cons_val]) <;> (try after_results_simp) <;> rfl

end Cert.InpKernelIdeal.Host

end
-- ==== Proof.InpValue.lean ====
/- The input projection with the norm before it: the kernel's product, put back into the projection's own order, and its
   normed rows are the reference's. -/
module

public import Idealize.ShloMosaic.Lib.Pipeline.ValueKit
public import Idealize.ShloMosaic.Lib.Pipeline.ReadBack
public import Idealize.ShloMosaic.Lib.Pointwise
public import proofs.«01_k».proof.Proof.RmsMath
public import proofs.«01_k».proof.Proof.InpHost
public import proofs.«01_k».proof.Proof.WinValue
public import proofs.«01_k».proof.Proof.Gen.InpReferenceIdeal.Read

@[expose] public section

set_option maxRecDepth 16384

noncomputable section

namespace Cert.InpReferenceIdeal.Ref

open Cert.InpReferenceIdeal Cert.InpReferenceIdeal.Gen Cert.InpReferenceIdeal.Read Idealize.ShloMosaic Cert.Maths

variable (x : (⟨S8192x1024, .f32⟩ : BufTy).Contents (Elt Ideal)) (w : (⟨S1x1024, .f32⟩ : BufTy).Contents (Elt Ideal))
  (b : (⟨S1024x8736, .f32⟩ : BufTy).Contents (Elt Ideal))

theorem v7_apply (R : Fin 8192) : val_main_v7 (F := Ideal) x (ix2 R 0) = rms 1024 epsR (fun k => x (ix2 R k)) := by
  pointwise [val_main_v7, val_main_v6, val_main_v5, val_main_v4, val_main_v3, val_main_v2, val_main_v1, val_main_v0, val_main_cst,
    val_main_cst_0, val_main_cst_1, ofBits_eps, ofBits_1024]
  rfl

/-- The normed rows. -/
theorem v11_apply (R : Fin 8192) (j : Fin 1024) : val_main_v11 (F := Ideal) x w (ix2 R j)
    = x (ix2 R j) * rms 1024 epsR (fun k => x (ix2 R k)) * w (ix2 0 j) := by
  pointwise [val_main_v11, val_main_v10, val_main_v9, val_main_v8, v7_apply]

/-- Their product. -/
theorem v12_apply (R : Fin 8192) (j : Fin 8736) : val_main_v12 (F := Ideal) x w b (ix2 R j)
    = ∑ k : Fin 1024, val_main_v11 (F := Ideal) x w (ix2 R k) * b (ix2 k j) := by
  pointwise [val_main_v12]

/-- The normed rows again, as the second result. -/
theorem v13_apply (R : Fin 8192) (j : Fin 1024) : val_main_v13 (F := Ideal) x w (ix2 R j) = val_main_v11 (F := Ideal) x w (ix2 R j) := by
  pointwise [val_main_v13]

end Cert.InpReferenceIdeal.Ref

namespace Cert.InpKernelIdeal.Result

open Cert.InpKernelIdeal Cert.InpKernelIdeal.Gen Cert.InpKernelIdeal.Run Idealize.ShloMosaic Idealize.ShloMosaic.TcCoe Idealize.SL.Sem
open Cert.Maths Cert.InpReferenceIdeal.Ref
open Cert.InpReferenceIdeal.Read (val_main_v11 val_main_v12 val_main_v13)

variable (m : (ℓ : Loc nD τ sig) → Buf (Elt Ideal) ℓ) (c : Dev nD)

/-- The block each window reads at a point. -/
theorem idx : ∀ t : Fin cfg0.N, win0_0.index t = ![t.val / 9, 0] ∧ win0_1.index t = ![0, 0] ∧ win0_2.index t = ![0, 0, 0]
    ∧ win0_3.index t = ![t.val / 9, t.val % 9] ∧ win0_4.index t = ![t.val / 9, 0] :=
  (by decide +kernel : ∀ t : Fin grid0.N, win0_0.index t = ![t.val / 9, 0] ∧ win0_1.index t = ![0, 0] ∧ win0_2.index t = ![0, 0, 0]
    ∧ win0_3.index t = ![t.val / 9, t.val % 9] ∧ win0_4.index t = ![t.val / 9, 0])

/-- The column tile a point loads. -/
theorem off : ∀ t : Fin cfg0.N, k0_off1 (grid0.coords t) = ![t.val % 9, 0, 0] :=
  (by decide +kernel : ∀ t : Fin grid0.N, k0_off1 (grid0.coords t) = ![t.val % 9, 0, 0])

abbrev xs : S8192x1024.Idx → EReal := m ((c : Thread nD τ).loc main_arg0)
abbrev wn : S1x1024.Idx → EReal := m ((c : Thread nD τ).loc main_arg1)
abbrev wu : S1024x8736.Idx → EReal := m ((c : Thread nD τ).loc main_arg2)

theorem pay1_apply (x : Vec Ideal S1024x1024 .f32) (w : Vec Ideal S1x1024 .f32) (i : Fin 1024) (j : Fin 1024) :
    k0_pay1 (F := Ideal) x w (ix2 i j) = x (ix2 i j) * rms 1024 epsR (fun k => x (ix2 i k)) * w (ix2 0 j) := by
  pointwise [k0_pay1, ofBits_eps, ofBits_1024]
  rfl

theorem pay2_apply (u : Vec Ideal S1024x1024 .bf16) (w : Vec Ideal S1x1024x1024 .bf16) (i : Fin 1024) (j : Fin 1024) :
    k0_pay2 (F := Ideal) u w (ix2 i j) = ∑ k : Fin 1024, u (ix2 i k) * w (ix3 0 k j) := by
  pointwise [k0_pay2]

/-- Row `i` of a point's block of rows, column `j` of its tile. -/
abbrev row (t : Fin cfg0.N) (i : Fin 1024) : Fin 8192 := ⟨1024 * (t.val / 9) + i.val, by have : t.val < 72 := t.isLt; omega⟩
abbrev col (t : Fin cfg0.N) (j : Fin 1024) : Fin 9216 := ⟨t.val % 9 * 1024 + j.val, by omega⟩

theorem V_x : V m c main_arg0 = xs m c := V_arg m c main_arg0 (by decide)
theorem V_wn : V m c main_arg1 = wn m c := V_arg m c main_arg1 (by decide)

/-- The weight's rows in the kernels' layout. -/
abbrev laidW : S9216x1024.Idx → EReal := Cert.DuKernelIdeal.Host.wProj (wu m c)

theorem row_rowStart (t : Fin cfg0.N) (i : Fin 1024) : row (rowStart t) i = row t i :=
  Fin.ext (by simp only [row, rowStart]; omega)

theorem iblk0 (t : Fin cfg0.N) (i : Fin 1024) (k : Fin 1024) : (iblk m c 0 t : Vec Ideal S1024x1024 .f32) (ix2 i k) = xs m c (ix2 (row t i) k) := by
  rw [← V_x]; blk_ext [iblk, idx t]

theorem iblk1 (t : Fin cfg0.N) (j : Fin 1024) : (iblk m c 1 t : Vec Ideal S1x1024 .f32) (ix2 0 j) = wn m c (ix2 0 j) := by
  rw [← V_wn]; blk_ext [iblk, idx t]

theorem iblk2 (t : Fin cfg0.N) (g : Fin 9) (k : Fin 1024) (j : Fin 1024) :
    (iblk m c 2 t : Vec Ideal S9x1024x1024 .bf16) (ix3 g k j) = laidW m c (ix2 ⟨g.val * 1024 + j.val, by omega⟩ k) := by
  refine Eq.trans ?_ (Host.V_w m c g k j); blk_ext [iblk, idx t]

/-- The tile a point loads, at the weight's own columns. -/
theorem tile (t : Fin cfg0.N) (k : Fin 1024) (j : Fin 1024) :
    View.ld (iblk m c 2 t : Vec Ideal S9x1024x1024 .bf16) (rW (grid0.coords t)) (ix3 0 k j) = laidW m c (ix2 (col t j) k) := by
  refine (View.ld_unit_apply_of _ _ _ _ _ (ix3 (⟨t.val % 9, by omega⟩ : Fin 9) k j) fun a => ?_).trans (iblk2 m c t _ k j)
  have h := congrFun (off t) a
  match a with
  | ⟨0, _⟩ => exact h.symm
  | ⟨1, _⟩ => exact (Nat.zero_add k.val).symm.trans (congrArg (· + k.val) h.symm)
  | ⟨2, _⟩ => exact (Nat.zero_add j.val).symm.trans (congrArg (· + j.val) h.symm)

/-- The normed rows of a point's block, at the reference's. -/
theorem rows_eq (t : Fin cfg0.N) (i : Fin 1024) (k : Fin 1024) :
    rowsAt m c t (ix2 i k) = val_main_v11 (F := Ideal) (xs m c) (wn m c) (ix2 (row t i) k) := by
  unfold rowsAt normed
  frame_out
  rw [pay1_apply, v11_apply]
  simp only [iblk0, iblk1, row_rowStart]

abbrev result3 : Buf (Elt Ideal) ((c : Thread nD τ).loc main_v49) := val_main_v12 (F := Ideal) (xs m c) (wn m c) (wu m c)
abbrev result4 : Buf (Elt Ideal) ((c : Thread nD τ).loc main_v27_1) := val_main_v13 (F := Ideal) (xs m c) (wn m c)

/-- The product in the kernels' layout. -/
def laid : S8192x9216.Idx → EReal := fun y =>
  ∑ k : Fin 1024, laidW m c (ix2 (y 1) k) * val_main_v11 (F := Ideal) (xs m c) (wn m c) (ix2 (y 0) k)

theorem laid_apply (R : Fin 8192) (n : Fin 9216) : laid m c (ix2 R n)
    = ∑ k : Fin 1024, laidW m c (ix2 n k) * val_main_v11 (F := Ideal) (xs m c) (wn m c) (ix2 R k) := rfl

/-- A point's product, at the laid-out columns. -/
theorem prod_eq (t : Fin cfg0.N) (i j : Fin 1024) :
    ∑ k : Fin 1024, rowsAt m c t (ix2 i k) * View.ld (iblk m c 2 t : Vec Ideal S9x1024x1024 .bf16) (rW (grid0.coords t)) (ix3 0 k j)
      = laid m c (ix2 (row t i) (col t j)) := by
  rw [laid_apply]
  exact Finset.sum_congr rfl fun k _ => by rw [tile, rows_eq, mul_comm]

/-- The region leaves it in its first array. -/
theorem final3 : (dats m 0 c).arrAt 3 cfg0.N = (laid m c : Buf (Elt Ideal) ((c : Thread nD τ).loc main_v27_0)) := by
  refine (dats m 0 c).arrAt_eq_of_covers 3 _ (by decide +kernel) fun t hf y => ?_
  blk_simp
  rw [after_3]
  unfold product
  frame_out
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 3).blk t).view.emb (ix2 i j) = ix2 (row t i) (col t j) := by blk_ext [idx t]
  rw [eG, pay2_apply]
  exact prod_eq m c t i j

/-- The host puts it back into the reference's result. -/
theorem own_laid : Host.own (laid m c) = result3 m c := by
  funext y
  obtain ⟨R, n, rfl⟩ : ∃ (R : Fin 8192) (n : Fin 8736), y = ix2 R n := ⟨y 0, y 1, funext fun a => match a with | ⟨0, _⟩ => rfl | ⟨1, _⟩ => rfl⟩
  have h := ProjLayout.sum_mul (fun k => Cert.DuKernelIdeal.Host.wProj_layout (wu m c) k)
    (fun k => val_main_v11 (F := Ideal) (xs m c) (wn m c) (ix2 R k))
  have e : (ext fun r => laid m c (ix2 R r)) = fun q => ∑ k, ext (fun n => laidW m c (ix2 n k)) q
      * val_main_v11 (F := Ideal) (xs m c) (wn m c) (ix2 R k) :=
    funext fun q => Cert.WinKernelIdeal.Result.ext_sum (fun k n => laidW m c (ix2 n k))
      (fun k => val_main_v11 (F := Ideal) (xs m c) (wn m c) (ix2 R k)) q
  refine (Host.own_apply (laid m c) R _ (e ▸ h) n).trans ?_
  rw [result3, v12_apply]
  exact Finset.sum_congr rfl fun k _ => (congrArg (· * _) (ext_of_lt _ _ n.isLt)).trans (mul_comm _ _)

/-- The normed rows. -/
theorem final4 : (dats m 0 c).arrAt 4 cfg0.N = result4 m c := by
  refine (dats m 0 c).arrAt_eq_of_covers 4 _ (by decide +kernel) fun t hf y => ?_
  blk_simp
  rw [after_4]
  obtain ⟨i, j, rfl⟩ : ∃ (i : Fin 1024) (j : Fin 1024), y = ix2 i j := ⟨y 0, y 1, funext fun a => match a with | ⟨0, _⟩ => rfl | ⟨1, _⟩ => rfl⟩
  have eG : ((cfg0.win 4).blk t).view.emb (ix2 i j) = ix2 (row t i) j := by blk_ext [idx t]
  rw [eG, result4, v13_apply, rows_eq]

end Cert.InpKernelIdeal.Result

end
-- ==== Proof.InpClaim.lean ====
/- The claims about the input projection with the norm before it. -/
module

public import proofs.«01_k».proof.Defs
public import proofs.«01_k».proof.Proof.InpFrame
public import proofs.«01_k».proof.Proof.InpValue
public import proofs.«01_k».proof.Proof.Gen.InpReferenceIdeal.Run
public import Idealize.ShloMosaic.Adequacy
public import Idealize.ShloMosaic.Init

@[expose] public section

noncomputable section

namespace Cert.Proof

open Idealize.ShloMosaic Idealize.SL.Sem

/-- The reference of the normed input projection runs to the end with every semaphore at zero and its arguments kept. -/
theorem inp_reference_frame : Cert.quiescent_InpReferenceIdeal (hInpReferenceIdeal := Cert.InpReferenceIdeal.Gen.facts) := fun m ρ _ =>
  (θ_run (Cert.InpReferenceIdeal.defs (F := Ideal)) _ _).mono
    (fun r h => ⟨fun c => (h c).2.2, sem_eq_zero_of_no_sems (by decide) r.2⟩)
    (Cert.InpReferenceIdeal.Value.run (F := Ideal) m ρ)

/-- THE VALUE of the normed input projection: the kernel's product, put back into the projection's own
    order, and its normed rows are the reference's, at every input. -/
theorem inp_algebraic : Cert.algebraic_InpKernelIdeal_InpReferenceIdeal (hInpKernelIdeal := Cert.InpKernelIdeal.Gen.facts)
    (hInpReferenceIdeal := Cert.InpReferenceIdeal.Gen.facts) := by
  intro m g m' g' _ hm
  refine ⟨fun c => Cert.InpKernelIdeal.Result.result3 m c, fun c => Cert.InpKernelIdeal.Result.result4 m c, ?_, ?_⟩
  · exact θ_run_mono (θ_run_and (Cert.InpKernelIdeal.Run.run_quiescent (F := Ideal) m g) (Cert.InpKernelIdeal.Run.frame (F := Ideal) m g))
      fun r h c => ⟨((h.1.1 c).2 Cert.InpKernelIdeal.main_v49 (by decide)).trans ((Cert.InpKernelIdeal.Host.tail_result m c
          fun w => (Cert.InpKernelIdeal.Run.dats m 0 c).arrAt w Cert.InpKernelIdeal.cfg0.N).trans
            ((congrArg Cert.InpKernelIdeal.Host.own (Cert.InpKernelIdeal.Result.final3 m c)).trans (Cert.InpKernelIdeal.Result.own_laid m c))),
        ((h.1.1 c).1 4).trans (Cert.InpKernelIdeal.Result.final4 m c), h.2.1 c⟩
  · refine (θ_run (Cert.InpReferenceIdeal.defs (F := Ideal)) _ _).mono (fun r h c => ⟨(h c).1.trans ?_, (h c).2.1.trans ?_, (h c).2.2⟩)
      (Cert.InpReferenceIdeal.Value.run (F := Ideal) m' g')
    · obtain ⟨e0, e1, e2⟩ := hm c
      refine (Cert.InpReferenceIdeal.Read.val_main_v12_eq (F := Ideal) _ _ _).trans ?_
      rw [e0, e1, e2]
    · obtain ⟨e0, e1, e2⟩ := hm c
      refine (Cert.InpReferenceIdeal.Read.val_main_v13_eq (F := Ideal) _ _).trans ?_
      rw [e0, e1]

end Cert.Proof

end
-- ==== Proof.SmallPack.lean ====
/- The thirteen small weights laid end to end and filled up to 176 rows of 128, and each cut out again. -/
module

public import Idealize.ShloMosaic.Lib.Pipeline.ValueKit
public import Idealize.ShloMosaic.Lib.KernelVsHost

@[expose] public section

set_option maxRecDepth 65536

noncomputable section

namespace Cert.Maths

open Idealize.ShloMosaic

/-- The shapes of the thirteen small weights. -/
abbrev smallShape : Fin 13 → Shape
  | 0 => ⟨2, ![1, 1024]⟩ | 1 => ⟨2, ![4, 768]⟩ | 2 => ⟨2, ![1, 3072]⟩ | 3 => ⟨2, ![1, 32]⟩ | 4 => ⟨2, ![1, 32]⟩
  | 5 => ⟨2, ![1, 32]⟩ | 6 => ⟨2, ![1, 2048]⟩ | 7 => ⟨2, ![1, 16]⟩ | 8 => ⟨2, ![1, 1024]⟩ | 9 => ⟨2, ![1, 1024]⟩
  | 10 => ⟨2, ![3, 1408]⟩ | 11 => ⟨2, ![1, 5632]⟩ | 12 => ⟨2, ![1, 1024]⟩

/-- How many entries each has. -/
abbrev smallLen : Fin 13 → ℕ
  | 0 => 1024 | 1 => 3072 | 2 => 3072 | 3 => 32 | 4 => 32 | 5 => 32 | 6 => 2048 | 7 => 16 | 8 => 1024 | 9 => 1024
  | 10 => 4224 | 11 => 5632 | 12 => 1024

/-- Where each begins. -/
abbrev smallOff : Fin 13 → ℕ
  | 0 => 0 | 1 => 1024 | 2 => 4096 | 3 => 7168 | 4 => 7200 | 5 => 7232 | 6 => 7264 | 7 => 9312 | 8 => 9328 | 9 => 10352
  | 10 => 11376 | 11 => 15600 | 12 => 21232

theorem small_numel : ∀ k, (smallShape k).numel = smallLen k := by decide

theorem small_casts (k : Fin 13) : (smallShape k).ShapeCasts ⟨1, ![smallLen k]⟩ :=
  (of_decide_eq_true rfl : ∀ k, (⟨1, ![smallLen k]⟩ : Shape).numel = (smallShape k).numel) k

theorem small_back (k : Fin 13) : (⟨1, ![smallLen k]⟩ : Shape).ShapeCasts (smallShape k) := (small_casts k).symm

theorem small_room : ∀ k, smallOff k + smallLen k ≤ 22528 := by decide

theorem small_slices (k : Fin 13) : (⟨1, ![22528]⟩ : Shape).Slices ![smallOff k] ⟨1, ![smallLen k]⟩ :=
  ⟨rfl, fun a => match a with | ⟨0, _⟩ => small_room k⟩

/-- Thirteen arrays of those shapes. -/
abbrev Small : Type := (k : Fin 13) → (smallShape k).Idx → EReal

/-- The pieces, each as a row. -/
abbrev smallRows (x : Small) : List ((s : Shape) × (s.Idx → EReal)) :=
  [⟨⟨1, ![1024]⟩, shapeCast _ (x 0) (small_casts 0)⟩, ⟨⟨1, ![3072]⟩, shapeCast _ (x 1) (small_casts 1)⟩,
    ⟨⟨1, ![3072]⟩, shapeCast _ (x 2) (small_casts 2)⟩, ⟨⟨1, ![32]⟩, shapeCast _ (x 3) (small_casts 3)⟩,
    ⟨⟨1, ![32]⟩, shapeCast _ (x 4) (small_casts 4)⟩, ⟨⟨1, ![32]⟩, shapeCast _ (x 5) (small_casts 5)⟩,
    ⟨⟨1, ![2048]⟩, shapeCast _ (x 6) (small_casts 6)⟩, ⟨⟨1, ![16]⟩, shapeCast _ (x 7) (small_casts 7)⟩,
    ⟨⟨1, ![1024]⟩, shapeCast _ (x 8) (small_casts 8)⟩, ⟨⟨1, ![1024]⟩, shapeCast _ (x 9) (small_casts 9)⟩,
    ⟨⟨1, ![4224]⟩, shapeCast _ (x 10) (small_casts 10)⟩, ⟨⟨1, ![5632]⟩, shapeCast _ (x 11) (small_casts 11)⟩,
    ⟨⟨1, ![1024]⟩, shapeCast _ (x 12) (small_casts 12)⟩]

theorem small_concatenates (x : Small) : Shape.Concatenates ((smallRows x).map (·.1)) ⟨1, ![22256]⟩ 0 :=
  (by decide : Shape.Concatenates [⟨1, ![1024]⟩, ⟨1, ![3072]⟩, ⟨1, ![3072]⟩, ⟨1, ![32]⟩, ⟨1, ![32]⟩, ⟨1, ![32]⟩, ⟨1, ![2048]⟩, ⟨1, ![16]⟩,
    ⟨1, ![1024]⟩, ⟨1, ![1024]⟩, ⟨1, ![4224]⟩, ⟨1, ![5632]⟩, ⟨1, ![1024]⟩] ⟨1, ![22256]⟩ 0)

theorem small_pads : (⟨1, ![22256]⟩ : Shape).Pads (![0] : Fin 1 → ℕ) ![272] ![0] ⟨1, ![22528]⟩ := by decide

/-- The pieces end to end, filled up with `v`. -/
def smallRow (x : Small) (v : (⟨0, ![]⟩ : Shape).Idx → EReal) : (⟨1, ![22528]⟩ : Shape).Idx → EReal :=
  pad ⟨1, ![22528]⟩ ![0] ![272] ![0] (concatenate ⟨1, ![22256]⟩ 0 (smallRows x) (small_concatenates x)) v small_pads (by decide)

/-- The row as 176 rows of 128. -/
def smallPack (x : Small) (v : (⟨0, ![]⟩ : Shape).Idx → EReal) : (⟨2, ![176, 128]⟩ : Shape).Idx → EReal :=
  shapeCast ⟨2, ![176, 128]⟩ (smallRow x v) (of_decide_eq_true rfl)

/-- Piece `k` of a packed array. -/
def smallCut (k : Fin 13) (y : (⟨2, ![176, 128]⟩ : Shape).Idx → EReal) : (smallShape k).Idx → EReal :=
  shapeCast (smallShape k) (extractStridedSlice ⟨1, ![smallLen k]⟩ ![smallOff k]
    (shapeCast ⟨1, ![22528]⟩ y (of_decide_eq_true rfl)) (small_slices k)) (small_back k)

/-- The place in the row of entry `i` of piece `k`. -/
def smallPos (k : Fin 13) (i : (smallShape k).Idx) : Fin 22528 :=
  ⟨smallOff k + ((smallShape k).rowMajor i).val, by
    have h := ((smallShape k).rowMajor i).isLt
    have := small_numel k; have := small_room k; omega⟩

/-- One piece of the row. -/
theorem row_piece {s : Shape} (n o : ℕ) (xs : List ((s : Shape) × (s.Idx → EReal))) (h : Shape.Concatenates (xs.map (·.1)) ⟨1, ![22256]⟩ 0)
    (v : (⟨0, ![]⟩ : Shape).Idx → EReal) (k : ℕ) (hk : k < xs.length) (x : s.Idx → EReal) (hc : s.ShapeCasts ⟨1, ![n]⟩)
    (hxk : xs[k] = ⟨⟨1, ![n]⟩, shapeCast _ x hc⟩)
    (ho : (((xs.take k).map (·.1)).map fun s => if h : s.rank = (⟨1, ![22256]⟩ : Shape).rank then
      s.size ((0 : Fin (⟨1, ![22256]⟩ : Shape).rank).cast h.symm) else 0).sum = o)
    (i : s.Idx) (hn : s.numel = n) (hr : o + n ≤ 22256) (p : Fin 22528) (hp : p.val = o + (s.rowMajor i).val) :
    pad ⟨1, ![22528]⟩ ![0] ![272] ![0] (concatenate ⟨1, ![22256]⟩ 0 xs h) v small_pads (by decide) (ix1 p) = x i := by
  have hi : (s.rowMajor i).val < n := hn ▸ (s.rowMajor i).isLt
  refine (pad_apply_of_inside _ _ _ _ v small_pads _ (ix1 p) (ix1 (⟨o + (s.rowMajor i).val, by omega⟩ : Fin 22256))
    (fun a => match a with | ⟨0, _⟩ => ?_)).trans ?_
  · show p.val = 0 + (o + (s.rowMajor i).val) * 1
    omega
  · refine (concatenate_apply_piece 0 xs h _ k hk _ _ hxk rfl o ho (ix1 (⟨(s.rowMajor i).val, hi⟩ : Fin n))
      (fun b hb => match b with | ⟨0, _⟩ => absurd rfl hb) rfl).trans ?_
    exact shapeCast_apply _ hc _ i (Shape.rowMajor_val_one (ix1 (⟨(s.rowMajor i).val, hi⟩ : Fin n))).symm

theorem smallRows_length (x : Small) (k : Fin 13) : k.val < (smallRows x).length := k.isLt

/-- Piece `k` stands at place `k`. -/
theorem smallRows_get (x : Small) (k : Fin 13) :
    (smallRows x)[k.val]'(smallRows_length x k) = ⟨⟨1, ![smallLen k]⟩, shapeCast _ (x k) (small_casts k)⟩ := by
  fin_cases k <;> rfl

/-- The lengths before piece `k` add up to where it begins. -/
theorem smallRows_before (x : Small) (k : Fin 13) :
    ((((smallRows x).take k.val).map (·.1)).map fun s => if h : s.rank = (⟨1, ![22256]⟩ : Shape).rank then
      s.size ((0 : Fin (⟨1, ![22256]⟩ : Shape).rank).cast h.symm) else 0).sum = smallOff k := by
  fin_cases k <;> simp [smallOff]

theorem small_inside : ∀ k, smallOff k + smallLen k ≤ 22256 := by decide

/-- Entry `i` of piece `k` is where the piece begins and `i`'s own place further. -/
theorem smallRow_apply (x : Small) (v : (⟨0, ![]⟩ : Shape).Idx → EReal) (k : Fin 13) (i : (smallShape k).Idx) :
    smallRow x v (ix1 (smallPos k i)) = x k i :=
  row_piece (smallLen k) (smallOff k) (smallRows x) (small_concatenates x) v k.val (smallRows_length x k) (x k) (small_casts k)
    (smallRows_get x k) (smallRows_before x k) i (small_numel k) (small_inside k) (smallPos k i) rfl

/-- Cutting reads the row at the entry's place. -/
theorem smallCut_apply (k : Fin 13) (y : (⟨2, ![176, 128]⟩ : Shape).Idx → EReal) (i : (smallShape k).Idx) :
    smallCut k y i = shapeCast ⟨1, ![22528]⟩ y (of_decide_eq_true rfl) (ix1 (smallPos k i)) := by
  have hi : ((smallShape k).rowMajor i).val < smallLen k := small_numel k ▸ ((smallShape k).rowMajor i).isLt
  unfold smallCut
  refine (shapeCast_apply _ (small_back k) i (ix1 (⟨_, hi⟩ : Fin (smallLen k))) (Shape.rowMajor_val_one _)).trans ?_
  unfold extractStridedSlice
  exact congrArg _ (funext fun a => match a with | ⟨0, _⟩ => rfl)

/-- What was packed is cut out again. -/
theorem smallCut_pack (k : Fin 13) (x : Small) (v : (⟨0, ![]⟩ : Shape).Idx → EReal) : smallCut k (smallPack x v) = x k := by
  refine funext fun i => (smallCut_apply k _ i).trans ((Eq.trans ?_ (smallRow_apply x v k i)))
  unfold smallPack
  refine (shapeCast_apply _ _ _ (Shape.reshapeEquiv (s := ⟨2, ![176, 128]⟩) (s' := ⟨1, ![22528]⟩) (of_decide_eq_true rfl) (ix1 (smallPos k i))) (Shape.rowMajor_reshapeEquiv _ _)).trans ?_
  exact shapeCast_apply _ _ _ _ (Shape.rowMajor_reshapeEquiv _ _).symm

end Cert.Maths

end
-- ==== Proof.SmallValue.lean ====
/- The optimizer's step on the thirteen small weights: what the kernel leaves in each of its thirty-nine results. -/
module

public import proofs.«01_k».proof.Proof.AdamMath
public import proofs.«01_k».proof.Proof.SmallPack
public import proofs.«01_k».proof.Proof.Gen.SmallKernelIdeal.Frame

@[expose] public section

set_option maxRecDepth 65536

noncomputable section

namespace Cert.SmallKernelIdeal.Result

open Cert.SmallKernelIdeal Cert.SmallKernelIdeal.Gen Idealize.ShloMosaic Idealize.ShloMosaic.TcCoe Idealize.SL.Sem
open Cert.Maths

variable (m : (ℓ : Loc nD τ sig) → Buf (Elt Ideal) ℓ) (c : Dev nD)

/-- The weights as given. -/
def ws : Small
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)
  | 6 => m ((c : Thread nD τ).loc main_arg6)
  | 7 => m ((c : Thread nD τ).loc main_arg7)
  | 8 => m ((c : Thread nD τ).loc main_arg8)
  | 9 => m ((c : Thread nD τ).loc main_arg9)
  | 10 => m ((c : Thread nD τ).loc main_arg10)
  | 11 => m ((c : Thread nD τ).loc main_arg11)
  | 12 => m ((c : Thread nD τ).loc main_arg12)

/-- The gradients as given. -/
def gs : Small
  | 0 => m ((c : Thread nD τ).loc main_arg13)
  | 1 => m ((c : Thread nD τ).loc main_arg14)
  | 2 => m ((c : Thread nD τ).loc main_arg15)
  | 3 => m ((c : Thread nD τ).loc main_arg16)
  | 4 => m ((c : Thread nD τ).loc main_arg17)
  | 5 => m ((c : Thread nD τ).loc main_arg18)
  | 6 => m ((c : Thread nD τ).loc main_arg19)
  | 7 => m ((c : Thread nD τ).loc main_arg20)
  | 8 => m ((c : Thread nD τ).loc main_arg21)
  | 9 => m ((c : Thread nD τ).loc main_arg22)
  | 10 => m ((c : Thread nD τ).loc main_arg23)
  | 11 => m ((c : Thread nD τ).loc main_arg24)
  | 12 => m ((c : Thread nD τ).loc main_arg25)

/-- The first moments as given. -/
def mms : Small
  | 0 => m ((c : Thread nD τ).loc main_arg26)
  | 1 => m ((c : Thread nD τ).loc main_arg27)
  | 2 => m ((c : Thread nD τ).loc main_arg28)
  | 3 => m ((c : Thread nD τ).loc main_arg29)
  | 4 => m ((c : Thread nD τ).loc main_arg30)
  | 5 => m ((c : Thread nD τ).loc main_arg31)
  | 6 => m ((c : Thread nD τ).loc main_arg32)
  | 7 => m ((c : Thread nD τ).loc main_arg33)
  | 8 => m ((c : Thread nD τ).loc main_arg34)
  | 9 => m ((c : Thread nD τ).loc main_arg35)
  | 10 => m ((c : Thread nD τ).loc main_arg36)
  | 11 => m ((c : Thread nD τ).loc main_arg37)
  | 12 => m ((c : Thread nD τ).loc main_arg38)

/-- The second moments as given. -/
def vs : Small
  | 0 => m ((c : Thread nD τ).loc main_arg39)
  | 1 => m ((c : Thread nD τ).loc main_arg40)
  | 2 => m ((c : Thread nD τ).loc main_arg41)
  | 3 => m ((c : Thread nD τ).loc main_arg42)
  | 4 => m ((c : Thread nD τ).loc main_arg43)
  | 5 => m ((c : Thread nD τ).loc main_arg44)
  | 6 => m ((c : Thread nD τ).loc main_arg45)
  | 7 => m ((c : Thread nD τ).loc main_arg46)
  | 8 => m ((c : Thread nD τ).loc main_arg47)
  | 9 => m ((c : Thread nD τ).loc main_arg48)
  | 10 => m ((c : Thread nD τ).loc main_arg49)
  | 11 => m ((c : Thread nD τ).loc main_arg50)
  | 12 => m ((c : Thread nD τ).loc main_arg51)

/-- What fills the row up. -/
abbrev fill : (⟨0, ![]⟩ : Shape).Idx → EReal := sitofp (F := Ideal) .f32 (constantI S_ 32 0#32)

set_option maxHeartbeats 8000000 in
theorem V_w : V m c main_v15 = smallPack (ws m c) fill := by
  unfold V V0
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp <;> rfl

set_option maxHeartbeats 8000000 in
theorem V_g : V m c main_v31 = smallPack (gs m c) fill := by
  unfold V V0
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp <;> rfl

set_option maxHeartbeats 8000000 in
theorem V_m : V m c main_v47 = smallPack (mms m c) fill := by
  unfold V V0
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp <;> rfl

set_option maxHeartbeats 8000000 in
theorem V_v : V m c main_v63 = smallPack (vs m c) fill := by
  unfold V V0
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp <;> rfl

section payloads

variable (g mm vv w : Vec Ideal S176x128 .f32)

theorem pay2_apply (i : Fin 176) (j : Fin 128) : k0_pay2 (F := Ideal) g mm (ix2 i j) = adamM (g (ix2 i j)) (mm (ix2 i j)) := by
  pointwise [k0_pay2, k0_pay1]
  rfl

theorem pay3_apply (i : Fin 176) (j : Fin 128) : k0_pay3 (F := Ideal) g vv (ix2 i j) = adamV (g (ix2 i j)) (vv (ix2 i j)) := by
  pointwise [k0_pay3, k0_pay1]
  rfl

theorem pay4_apply (i : Fin 176) (j : Fin 128) :
    k0_pay4 (F := Ideal) g mm vv w (ix2 i j) = adamD (w (ix2 i j)) (g (ix2 i j)) (mm (ix2 i j)) (vv (ix2 i j)) := by
  pointwise [k0_pay4, pay2_apply, pay3_apply]
  rfl

end payloads

/-- The one point reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0])

theorem iblk0 (t : Fin cfg0.N) (i : Fin 176) (j : Fin 128) : (iblk m c 0 t : Vec Ideal S176x128 .f32) (ix2 i j) = smallPack (ws m c) fill (ix2 i j) := by
  rw [← V_w]; blk_ext [iblk, idx t]

theorem iblk1 (t : Fin cfg0.N) (i : Fin 176) (j : Fin 128) : (iblk m c 1 t : Vec Ideal S176x128 .f32) (ix2 i j) = smallPack (gs m c) fill (ix2 i j) := by
  rw [← V_g]; blk_ext [iblk, idx t]

theorem iblk2 (t : Fin cfg0.N) (i : Fin 176) (j : Fin 128) : (iblk m c 2 t : Vec Ideal S176x128 .f32) (ix2 i j) = smallPack (mms m c) fill (ix2 i j) := by
  rw [← V_m]; blk_ext [iblk, idx t]

theorem iblk3 (t : Fin cfg0.N) (i : Fin 176) (j : Fin 128) : (iblk m c 3 t : Vec Ideal S176x128 .f32) (ix2 i j) = smallPack (vs m c) fill (ix2 i j) := by
  rw [← V_v]; blk_ext [iblk, idx t]

set_option maxHeartbeats 8000000 in
/-- The packed steps. -/
theorem final4 : (dats m 0 c).arrAt 4 cfg0.N = fun p => adamD (smallPack (ws m c) fill p) (smallPack (gs m c) fill p) (smallPack (mms m c) fill p) (smallPack (vs m c) fill p) := by
  refine (dats m 0 c).arrAt_eq_of_covers 4 _ (by decide +kernel) fun t hf y => ?_
  blk_simp
  rw [after0_4]
  frame_out
  obtain ⟨i, j, rfl⟩ : ∃ (i : Fin 176) (j : Fin 128), y = ix2 i j := ⟨y 0, y 1, funext fun a => match a with | ⟨0, _⟩ => rfl | ⟨1, _⟩ => rfl⟩
  have eG : ((cfg0.win 4).blk t).view.emb (ix2 i j) = ix2 i j := by blk_ext [idx t]
  rw [eG, pay4_apply, iblk0, iblk1, iblk2, iblk3]

/-- The packed first moments. -/
theorem final5 : (dats m 0 c).arrAt 5 cfg0.N = fun p => adamM (smallPack (gs m c) fill p) (smallPack (mms m c) fill p) := by
  refine (dats m 0 c).arrAt_eq_of_covers 5 _ (by decide +kernel) fun t hf y => ?_
  blk_simp
  rw [after0_5]
  frame_out
  obtain ⟨i, j, rfl⟩ : ∃ (i : Fin 176) (j : Fin 128), y = ix2 i j := ⟨y 0, y 1, funext fun a => match a with | ⟨0, _⟩ => rfl | ⟨1, _⟩ => rfl⟩
  have eG : ((cfg0.win 5).blk t).view.emb (ix2 i j) = ix2 i j := by blk_ext [idx t]
  rw [eG, pay2_apply, iblk1, iblk2]

/-- The packed second moments. -/
theorem final6 : (dats m 0 c).arrAt 6 cfg0.N = fun p => adamV (smallPack (gs m c) fill p) (smallPack (vs m c) fill p) := by
  refine (dats m 0 c).arrAt_eq_of_covers 6 _ (by decide +kernel) fun t hf y => ?_
  blk_simp
  rw [after0_6]
  frame_out
  obtain ⟨i, j, rfl⟩ : ∃ (i : Fin 176) (j : Fin 128), y = ix2 i j := ⟨y 0, y 1, funext fun a => match a with | ⟨0, _⟩ => rfl | ⟨1, _⟩ => rfl⟩
  have eG : ((cfg0.win 6).blk t).view.emb (ix2 i j) = ix2 i j := by blk_ext [idx t]
  rw [eG, pay3_apply, iblk1, iblk3]

/-- The steps, piece by piece. -/
def stepD (k : Fin 13) : (smallShape k).Idx → EReal := fun i => adamD (ws m c k i) (gs m c k i) (mms m c k i) (vs m c k i)
/-- The new first moments, piece by piece. -/
def stepM (k : Fin 13) : (smallShape k).Idx → EReal := fun i => adamM (gs m c k i) (mms m c k i)
/-- The new second moments, piece by piece. -/
def stepV (k : Fin 13) : (smallShape k).Idx → EReal := fun i => adamV (gs m c k i) (vs m c k i)

/-- A piece of the packed steps is the piece's step. -/
theorem cutD (k : Fin 13) : smallCut k ((dats m 0 c).arrAt 4 cfg0.N) = stepD m c k := by
  rw [final4]
  show (fun i => adamD (smallCut k (smallPack (ws m c) fill) i) (smallCut k (smallPack (gs m c) fill) i)
    (smallCut k (smallPack (mms m c) fill) i) (smallCut k (smallPack (vs m c) fill) i)) = _
  simp only [smallCut_pack]
  rfl

theorem cutM (k : Fin 13) : smallCut k ((dats m 0 c).arrAt 5 cfg0.N) = stepM m c k := by
  rw [final5]
  show (fun i => adamM (smallCut k (smallPack (gs m c) fill) i) (smallCut k (smallPack (mms m c) fill) i)) = _
  simp only [smallCut_pack]
  rfl

theorem cutV (k : Fin 13) : smallCut k ((dats m 0 c).arrAt 6 cfg0.N) = stepV m c k := by
  rw [final6]
  show (fun i => adamV (smallCut k (smallPack (gs m c) fill) i) (smallCut k (smallPack (vs m c) fill) i)) = _
  simp only [smallCut_pack]
  rfl

end Cert.SmallKernelIdeal.Result

end
-- ==== Proof.SmallTail.lean ====
/- The host's cuts behind the optimizer's step on the small weights: each of the thirty-nine results is its piece of a packed array. -/
module

public import proofs.«01_k».proof.Proof.SmallValue

@[expose] public section

set_option maxRecDepth 65536

noncomputable section

namespace Cert.SmallKernelIdeal.Result

open Cert.SmallKernelIdeal Cert.SmallKernelIdeal.Gen Idealize.ShloMosaic Idealize.ShloMosaic.TcCoe Idealize.SL.Sem
open Cert.Maths

set_option maxHeartbeats 8000000 in
/-- The steps are cut from the kernel's array 0. -/
theorem tailD (W : Valuation τ sig (Elt Ideal)) : StableHlo.after hostOps1 W (Proc.devRef .tc main_v67) = smallCut 0 (W (Proc.devRef .tc main_v64_0))
    ∧ StableHlo.after hostOps1 W (Proc.devRef .tc main_v69) = smallCut 1 (W (Proc.devRef .tc main_v64_0))
    ∧ StableHlo.after hostOps1 W (Proc.devRef .tc main_v71) = smallCut 2 (W (Proc.devRef .tc main_v64_0))
    ∧ StableHlo.after hostOps1 W (Proc.devRef .tc main_v73) = smallCut 3 (W (Proc.devRef .tc main_v64_0))
    ∧ StableHlo.after hostOps1 W (Proc.devRef .tc main_v75) = smallCut 4 (W (Proc.devRef .tc main_v64_0))
    ∧ StableHlo.after hostOps1 W (Proc.devRef .tc main_v77) = smallCut 5 (W (Proc.devRef .tc main_v64_0))
    ∧ StableHlo.after hostOps1 W (Proc.devRef .tc main_v79) = smallCut 6 (W (Proc.devRef .tc main_v64_0))
    ∧ StableHlo.after hostOps1 W (Proc.devRef .tc main_v81) = smallCut 7 (W (Proc.devRef .tc main_v64_0))
    ∧ StableHlo.after hostOps1 W (Proc.devRef .tc main_v83) = smallCut 8 (W (Proc.devRef .tc main_v64_0))
    ∧ StableHlo.after hostOps1 W (Proc.devRef .tc main_v85) = smallCut 9 (W (Proc.devRef .tc main_v64_0))
    ∧ StableHlo.after hostOps1 W (Proc.devRef .tc main_v87) = smallCut 10 (W (Proc.devRef .tc main_v64_0))
    ∧ StableHlo.after hostOps1 W (Proc.devRef .tc main_v89) = smallCut 11 (W (Proc.devRef .tc main_v64_0))
    ∧ StableHlo.after hostOps1 W (Proc.devRef .tc main_v91) = smallCut 12 (W (Proc.devRef .tc main_v64_0)) := by
  unfold hostOps1
  refine ⟨?_, ?_, ?_, ?_, ?_, ?_, ?_, ?_, ?_, ?_, ?_, ?_, ?_⟩ <;> (after_results_simp <;> rfl)

set_option maxHeartbeats 8000000 in
/-- The first moments are cut from the kernel's array 1. -/
theorem tailM (W : Valuation τ sig (Elt Ideal)) : StableHlo.after hostOps1 W (Proc.devRef .tc main_v94) = smallCut 0 (W (Proc.devRef .tc main_v64_1))
    ∧ StableHlo.after hostOps1 W (Proc.devRef .tc main_v96) = smallCut 1 (W (Proc.devRef .tc main_v64_1))
    ∧ StableHlo.after hostOps1 W (Proc.devRef .tc main_v98) = smallCut 2 (W (Proc.devRef .tc main_v64_1))
    ∧ StableHlo.after hostOps1 W (Proc.devRef .tc main_v100) = smallCut 3 (W (Proc.devRef .tc main_v64_1))
    ∧ StableHlo.after hostOps1 W (Proc.devRef .tc main_v102) = smallCut 4 (W (Proc.devRef .tc main_v64_1))
    ∧ StableHlo.after hostOps1 W (Proc.devRef .tc main_v104) = smallCut 5 (W (Proc.devRef .tc main_v64_1))
    ∧ StableHlo.after hostOps1 W (Proc.devRef .tc main_v106) = smallCut 6 (W (Proc.devRef .tc main_v64_1))
    ∧ StableHlo.after hostOps1 W (Proc.devRef .tc main_v108) = smallCut 7 (W (Proc.devRef .tc main_v64_1))
    ∧ StableHlo.after hostOps1 W (Proc.devRef .tc main_v110) = smallCut 8 (W (Proc.devRef .tc main_v64_1))
    ∧ StableHlo.after hostOps1 W (Proc.devRef .tc main_v112) = smallCut 9 (W (Proc.devRef .tc main_v64_1))
    ∧ StableHlo.after hostOps1 W (Proc.devRef .tc main_v114) = smallCut 10 (W (Proc.devRef .tc main_v64_1))
    ∧ StableHlo.after hostOps1 W (Proc.devRef .tc main_v116) = smallCut 11 (W (Proc.devRef .tc main_v64_1))
    ∧ StableHlo.after hostOps1 W (Proc.devRef .tc main_v118) = smallCut 12 (W (Proc.devRef .tc main_v64_1)) := by
  unfold hostOps1
  refine ⟨?_, ?_, ?_, ?_, ?_, ?_, ?_, ?_, ?_, ?_, ?_, ?_, ?_⟩ <;> (after_results_simp <;> rfl)

set_option maxHeartbeats 8000000 in
/-- The second moments are cut from the kernel's array 2. -/
theorem tailV (W : Valuation τ sig (Elt Ideal)) : StableHlo.after hostOps1 W (Proc.devRef .tc main_v121) = smallCut 0 (W (Proc.devRef .tc main_v64_2))
    ∧ StableHlo.after hostOps1 W (Proc.devRef .tc main_v123) = smallCut 1 (W (Proc.devRef .tc main_v64_2))
    ∧ StableHlo.after hostOps1 W (Proc.devRef .tc main_v125) = smallCut 2 (W (Proc.devRef .tc main_v64_2))
    ∧ StableHlo.after hostOps1 W (Proc.devRef .tc main_v127) = smallCut 3 (W (Proc.devRef .tc main_v64_2))
    ∧ StableHlo.after hostOps1 W (Proc.devRef .tc main_v129) = smallCut 4 (W (Proc.devRef .tc main_v64_2))
    ∧ StableHlo.after hostOps1 W (Proc.devRef .tc main_v131) = smallCut 5 (W (Proc.devRef .tc main_v64_2))
    ∧ StableHlo.after hostOps1 W (Proc.devRef .tc main_v133) = smallCut 6 (W (Proc.devRef .tc main_v64_2))
    ∧ StableHlo.after hostOps1 W (Proc.devRef .tc main_v135) = smallCut 7 (W (Proc.devRef .tc main_v64_2))
    ∧ StableHlo.after hostOps1 W (Proc.devRef .tc main_v137) = smallCut 8 (W (Proc.devRef .tc main_v64_2))
    ∧ StableHlo.after hostOps1 W (Proc.devRef .tc main_v139) = smallCut 9 (W (Proc.devRef .tc main_v64_2))
    ∧ StableHlo.after hostOps1 W (Proc.devRef .tc main_v141) = smallCut 10 (W (Proc.devRef .tc main_v64_2))
    ∧ StableHlo.after hostOps1 W (Proc.devRef .tc main_v143) = smallCut 11 (W (Proc.devRef .tc main_v64_2))
    ∧ StableHlo.after hostOps1 W (Proc.devRef .tc main_v145) = smallCut 12 (W (Proc.devRef .tc main_v64_2)) := by
  unfold hostOps1
  refine ⟨?_, ?_, ?_, ?_, ?_, ?_, ?_, ?_, ?_, ?_, ?_, ?_, ?_⟩ <;> (after_results_simp <;> rfl)

variable (m : (ℓ : Loc nD τ sig) → Buf (Elt Ideal) ℓ) (c : Dev nD)

/-- The device's contents behind the region. -/
abbrev after0 : Valuation τ sig (Elt Ideal) := Pipeline.withArrays spec0 c (V0 m c) fun w => (dats m 0 c).arrAt w cfg0.N

theorem pieceD (k : Fin 13) : smallCut k (after0 m c (Proc.devRef .tc main_v64_0)) = stepD m c k :=
  (congrArg (smallCut k) (Pipeline.withArrays_arr spec0 (by decide) c (V0 m c) (fun w => (dats m 0 c).arrAt w cfg0.N) 4)).trans (cutD m c k)

theorem pieceM (k : Fin 13) : smallCut k (after0 m c (Proc.devRef .tc main_v64_1)) = stepM m c k :=
  (congrArg (smallCut k) (Pipeline.withArrays_arr spec0 (by decide) c (V0 m c) (fun w => (dats m 0 c).arrAt w cfg0.N) 5)).trans (cutM m c k)

theorem pieceV (k : Fin 13) : smallCut k (after0 m c (Proc.devRef .tc main_v64_2)) = stepV m c k :=
  (congrArg (smallCut k) (Pipeline.withArrays_arr spec0 (by decide) c (V0 m c) (fun w => (dats m 0 c).arrAt w cfg0.N) 6)).trans (cutV m c k)

end Cert.SmallKernelIdeal.Result

end
-- ==== Proof.SmallClaim.lean ====
/- The claims about the optimizer's step on the small weights. -/
module

public import proofs.«01_k».proof.Defs
public import proofs.«01_k».proof.Proof.SmallTail
public import proofs.«01_k».proof.Proof.Gen.SmallReferenceIdeal.Run
public import Idealize.ShloMosaic.Adequacy
public import Idealize.ShloMosaic.Init

@[expose] public section

set_option maxRecDepth 65536

noncomputable section

namespace Cert.Maths

open Idealize.ShloMosaic

variable {s : Shape} {hb : (⟨0, ![]⟩ : Shape).BroadcastsInDim s (![] : Fin 0 → Fin s.rank)} {w g m v w' g' m' v' : FVec Ideal s .f32}

/-- A number spread over the whole array. -/
abbrev spread (hb : (⟨0, ![]⟩ : Shape).BroadcastsInDim s (![] : Fin 0 → Fin s.rank)) (b : BitVec 32) : FVec Ideal s .f32 :=
  broadcastInDim s ![] hb (constant (F := Ideal) ⟨0, ![]⟩ .f32 b)

/-- The reference's first moment, entry by entry. -/
theorem ref_adamM (eg : g = g') (em : m = m') :
    (addf (mulf (spread hb 0x3F666666#32) m) (mulf (spread hb 0x3DCCCCCD#32) g) : FVec Ideal s .f32) = fun i => adamM (g' i) (m' i) := by
  subst eg em; rfl

/-- The reference's second moment. -/
theorem ref_adamV (eg : g = g') (ev : v = v') :
    (addf (mulf (spread hb 0x3F7FBE77#32) v) (mulf (spread hb 0x3A83126F#32) (mulf g g)) : FVec Ideal s .f32) = fun i => adamV (g' i) (v' i) := by
  subst eg ev; rfl

/-- The reference's step. -/
theorem ref_adamD (ew : w = w') (eg : g = g') (em : m = m') (ev : v = v') :
    (mulf (spread hb 0xBA83126F#32) (addf (Host.divf
      (Host.divf (addf (mulf (spread hb 0x3F666666#32) m) (mulf (spread hb 0x3DCCCCCD#32) g)) (spread hb 0x3F26BD02#32))
      (addf (Host.sqrt (Host.divf (addf (mulf (spread hb 0x3F7FBE77#32) v) (mulf (spread hb 0x3A83126F#32) (mulf g g)))
        (spread hb 0x3C231ACC#32))) (spread hb 0x322BCC77#32))) (mulf (spread hb 0x3C23D70A#32) w)) : FVec Ideal s .f32)
      = fun i => adamD (w' i) (g' i) (m' i) (v' i) := by
  subst ew eg em ev; rfl

end Cert.Maths

namespace Cert.Proof

open Idealize.ShloMosaic Idealize.SL.Sem Cert.Maths
open Cert.SmallKernelIdeal.Result

/-- The reference of the step runs to the end with every semaphore at zero and its arguments kept. -/
theorem small_reference_frame : Cert.quiescent_SmallReferenceIdeal (hSmallReferenceIdeal := Cert.SmallReferenceIdeal.Gen.facts) := fun m ρ _ =>
  (θ_run (Cert.SmallReferenceIdeal.defs (F := Ideal)) _ _).mono
    (fun r h => ⟨fun c => (h c).2.2.2.2.2.2.2.2.2.2.2.2.2.2.2.2.2.2.2.2.2.2.2.2.2.2.2.2.2.2.2.2.2.2.2.2.2.2.2, sem_eq_zero_of_no_sems (by decide) r.2⟩)
    (Cert.SmallReferenceIdeal.Value.run (F := Ideal) m ρ)

set_option maxHeartbeats 8000000 in
/-- THE VALUE of the step on the small weights: the kernel's steps and moments of all thirteen are the reference's, at
    every input. -/
theorem small_algebraic : Cert.algebraic_SmallKernelIdeal_SmallReferenceIdeal (hSmallKernelIdeal := Cert.SmallKernelIdeal.Gen.facts)
    (hSmallReferenceIdeal := Cert.SmallReferenceIdeal.Gen.facts) := by
  intro m g m' g' _ hm
  refine ⟨fun c => stepD m c 0, fun c => stepD m c 1, fun c => stepD m c 2, fun c => stepD m c 3, fun c => stepD m c 4, fun c => stepD m c 5, fun c => stepD m c 6,
    fun c => stepD m c 7, fun c => stepD m c 8, fun c => stepD m c 9, fun c => stepD m c 10, fun c => stepD m c 11, fun c => stepD m c 12,
    fun c => stepM m c 0, fun c => stepM m c 1, fun c => stepM m c 2, fun c => stepM m c 3, fun c => stepM m c 4, fun c => stepM m c 5, fun c => stepM m c 6,
    fun c => stepM m c 7, fun c => stepM m c 8, fun c => stepM m c 9, fun c => stepM m c 10, fun c => stepM m c 11, fun c => stepM m c 12,
    fun c => stepV m c 0, fun c => stepV m c 1, fun c => stepV m c 2, fun c => stepV m c 3, fun c => stepV m c 4, fun c => stepV m c 5, fun c => stepV m c 6,
    fun c => stepV m c 7, fun c => stepV m c 8, fun c => stepV m c 9, fun c => stepV m c 10, fun c => stepV m c 11, fun c => stepV m c 12,
    ?_, ?_⟩
  · exact θ_run_mono (θ_run_and (Cert.SmallKernelIdeal.Gen.run_main (F := Ideal) m g) (Cert.SmallKernelIdeal.Gen.frame (F := Ideal) m g))
      fun r h c => ⟨((h.1 c).2 Cert.SmallKernelIdeal.main_v67 (by decide)).trans (((tailD _).1).trans (pieceD m c 0)),
        ((h.1 c).2 Cert.SmallKernelIdeal.main_v69 (by decide)).trans (((tailD _).2.1).trans (pieceD m c 1)),
        ((h.1 c).2 Cert.SmallKernelIdeal.main_v71 (by decide)).trans (((tailD _).2.2.1).trans (pieceD m c 2)),
        ((h.1 c).2 Cert.SmallKernelIdeal.main_v73 (by decide)).trans (((tailD _).2.2.2.1).trans (pieceD m c 3)),
        ((h.1 c).2 Cert.SmallKernelIdeal.main_v75 (by decide)).trans (((tailD _).2.2.2.2.1).trans (pieceD m c 4)),
        ((h.1 c).2 Cert.SmallKernelIdeal.main_v77 (by decide)).trans (((tailD _).2.2.2.2.2.1).trans (pieceD m c 5)),
        ((h.1 c).2 Cert.SmallKernelIdeal.main_v79 (by decide)).trans (((tailD _).2.2.2.2.2.2.1).trans (pieceD m c 6)),
        ((h.1 c).2 Cert.SmallKernelIdeal.main_v81 (by decide)).trans (((tailD _).2.2.2.2.2.2.2.1).trans (pieceD m c 7)),
        ((h.1 c).2 Cert.SmallKernelIdeal.main_v83 (by decide)).trans (((tailD _).2.2.2.2.2.2.2.2.1).trans (pieceD m c 8)),
        ((h.1 c).2 Cert.SmallKernelIdeal.main_v85 (by decide)).trans (((tailD _).2.2.2.2.2.2.2.2.2.1).trans (pieceD m c 9)),
        ((h.1 c).2 Cert.SmallKernelIdeal.main_v87 (by decide)).trans (((tailD _).2.2.2.2.2.2.2.2.2.2.1).trans (pieceD m c 10)),
        ((h.1 c).2 Cert.SmallKernelIdeal.main_v89 (by decide)).trans (((tailD _).2.2.2.2.2.2.2.2.2.2.2.1).trans (pieceD m c 11)),
        ((h.1 c).2 Cert.SmallKernelIdeal.main_v91 (by decide)).trans (((tailD _).2.2.2.2.2.2.2.2.2.2.2.2).trans (pieceD m c 12)),
        ((h.1 c).2 Cert.SmallKernelIdeal.main_v94 (by decide)).trans (((tailM _).1).trans (pieceM m c 0)),
        ((h.1 c).2 Cert.SmallKernelIdeal.main_v96 (by decide)).trans (((tailM _).2.1).trans (pieceM m c 1)),
        ((h.1 c).2 Cert.SmallKernelIdeal.main_v98 (by decide)).trans (((tailM _).2.2.1).trans (pieceM m c 2)),
        ((h.1 c).2 Cert.SmallKernelIdeal.main_v100 (by decide)).trans (((tailM _).2.2.2.1).trans (pieceM m c 3)),
        ((h.1 c).2 Cert.SmallKernelIdeal.main_v102 (by decide)).trans (((tailM _).2.2.2.2.1).trans (pieceM m c 4)),
        ((h.1 c).2 Cert.SmallKernelIdeal.main_v104 (by decide)).trans (((tailM _).2.2.2.2.2.1).trans (pieceM m c 5)),
        ((h.1 c).2 Cert.SmallKernelIdeal.main_v106 (by decide)).trans (((tailM _).2.2.2.2.2.2.1).trans (pieceM m c 6)),
        ((h.1 c).2 Cert.SmallKernelIdeal.main_v108 (by decide)).trans (((tailM _).2.2.2.2.2.2.2.1).trans (pieceM m c 7)),
        ((h.1 c).2 Cert.SmallKernelIdeal.main_v110 (by decide)).trans (((tailM _).2.2.2.2.2.2.2.2.1).trans (pieceM m c 8)),
        ((h.1 c).2 Cert.SmallKernelIdeal.main_v112 (by decide)).trans (((tailM _).2.2.2.2.2.2.2.2.2.1).trans (pieceM m c 9)),
        ((h.1 c).2 Cert.SmallKernelIdeal.main_v114 (by decide)).trans (((tailM _).2.2.2.2.2.2.2.2.2.2.1).trans (pieceM m c 10)),
        ((h.1 c).2 Cert.SmallKernelIdeal.main_v116 (by decide)).trans (((tailM _).2.2.2.2.2.2.2.2.2.2.2.1).trans (pieceM m c 11)),
        ((h.1 c).2 Cert.SmallKernelIdeal.main_v118 (by decide)).trans (((tailM _).2.2.2.2.2.2.2.2.2.2.2.2).trans (pieceM m c 12)),
        ((h.1 c).2 Cert.SmallKernelIdeal.main_v121 (by decide)).trans (((tailV _).1).trans (pieceV m c 0)),
        ((h.1 c).2 Cert.SmallKernelIdeal.main_v123 (by decide)).trans (((tailV _).2.1).trans (pieceV m c 1)),
        ((h.1 c).2 Cert.SmallKernelIdeal.main_v125 (by decide)).trans (((tailV _).2.2.1).trans (pieceV m c 2)),
        ((h.1 c).2 Cert.SmallKernelIdeal.main_v127 (by decide)).trans (((tailV _).2.2.2.1).trans (pieceV m c 3)),
        ((h.1 c).2 Cert.SmallKernelIdeal.main_v129 (by decide)).trans (((tailV _).2.2.2.2.1).trans (pieceV m c 4)),
        ((h.1 c).2 Cert.SmallKernelIdeal.main_v131 (by decide)).trans (((tailV _).2.2.2.2.2.1).trans (pieceV m c 5)),
        ((h.1 c).2 Cert.SmallKernelIdeal.main_v133 (by decide)).trans (((tailV _).2.2.2.2.2.2.1).trans (pieceV m c 6)),
        ((h.1 c).2 Cert.SmallKernelIdeal.main_v135 (by decide)).trans (((tailV _).2.2.2.2.2.2.2.1).trans (pieceV m c 7)),
        ((h.1 c).2 Cert.SmallKernelIdeal.main_v137 (by decide)).trans (((tailV _).2.2.2.2.2.2.2.2.1).trans (pieceV m c 8)),
        ((h.1 c).2 Cert.SmallKernelIdeal.main_v139 (by decide)).trans (((tailV _).2.2.2.2.2.2.2.2.2.1).trans (pieceV m c 9)),
        ((h.1 c).2 Cert.SmallKernelIdeal.main_v141 (by decide)).trans (((tailV _).2.2.2.2.2.2.2.2.2.2.1).trans (pieceV m c 10)),
        ((h.1 c).2 Cert.SmallKernelIdeal.main_v143 (by decide)).trans (((tailV _).2.2.2.2.2.2.2.2.2.2.2.1).trans (pieceV m c 11)),
        ((h.1 c).2 Cert.SmallKernelIdeal.main_v145 (by decide)).trans (((tailV _).2.2.2.2.2.2.2.2.2.2.2.2).trans (pieceV m c 12)), h.2.1 c⟩
  · refine (θ_run (Cert.SmallReferenceIdeal.defs (F := Ideal)) _ _).mono (fun r h c => ?_) (Cert.SmallReferenceIdeal.Value.run (F := Ideal) m' g')
    obtain ⟨e0, e1, e2, e3, e4, e5, e6, e7, e8, e9, e10, e11, e12, e13, e14, e15, e16, e17, e18, e19, e20, e21, e22, e23, e24, e25, e26, e27, e28,
      e29, e30, e31, e32, e33, e34, e35, e36, e37, e38, e39, e40, e41, e42, e43, e44, e45, e46, e47, e48, e49, e50, e51⟩ := hm c
    obtain ⟨h0, h1, h2, h3, h4, h5, h6, h7, h8, h9, h10, h11, h12, h13, h14, h15, h16, h17, h18, h19, h20, h21, h22, h23, h24, h25, h26, h27, h28,
      h29, h30, h31, h32, h33, h34, h35, h36, h37, h38, hkeep⟩ := h c
    exact ⟨h0.trans (ref_adamD e0 e13 e26 e39),
      h1.trans (ref_adamD e1 e14 e27 e40),
      h2.trans (ref_adamD e2 e15 e28 e41),
      h3.trans (ref_adamD e3 e16 e29 e42),
      h4.trans (ref_adamD e4 e17 e30 e43),
      h5.trans (ref_adamD e5 e18 e31 e44),
      h6.trans (ref_adamD e6 e19 e32 e45),
      h7.trans (ref_adamD e7 e20 e33 e46),
      h8.trans (ref_adamD e8 e21 e34 e47),
      h9.trans (ref_adamD e9 e22 e35 e48),
      h10.trans (ref_adamD e10 e23 e36 e49),
      h11.trans (ref_adamD e11 e24 e37 e50),
      h12.trans (ref_adamD e12 e25 e38 e51),
      h13.trans (ref_adamM e13 e26),
      h14.trans (ref_adamM e14 e27),
      h15.trans (ref_adamM e15 e28),
      h16.trans (ref_adamM e16 e29),
      h17.trans (ref_adamM e17 e30),
      h18.trans (ref_adamM e18 e31),
      h19.trans (ref_adamM e19 e32),
      h20.trans (ref_adamM e20 e33),
      h21.trans (ref_adamM e21 e34),
      h22.trans (ref_adamM e22 e35),
      h23.trans (ref_adamM e23 e36),
      h24.trans (ref_adamM e24 e37),
      h25.trans (ref_adamM e25 e38),
      h26.trans (ref_adamV e13 e39),
      h27.trans (ref_adamV e14 e40),
      h28.trans (ref_adamV e15 e41),
      h29.trans (ref_adamV e16 e42),
      h30.trans (ref_adamV e17 e43),
      h31.trans (ref_adamV e18 e44),
      h32.trans (ref_adamV e19 e45),
      h33.trans (ref_adamV e20 e46),
      h34.trans (ref_adamV e21 e47),
      h35.trans (ref_adamV e22 e48),
      h36.trans (ref_adamV e23 e49),
      h37.trans (ref_adamV e24 e50),
      h38.trans (ref_adamV e25 e51), hkeep⟩

end Cert.Proof

end
-- ==== Proof.ConvMath.lean ====
/- Shifted rows: the arithmetic of a short causal convolution's gradients. -/
module

public import Idealize.ShloMosaic.Lib.Pipeline.ValueKit
public import Idealize.ShloMosaic.Lib.KernelVsHost
public import proofs.«01_k».proof.Proof.ProjLayout

@[expose] public section

noncomputable section

namespace Cert.Maths

open Idealize.ShloMosaic

/-- A column read `s` rows further down, zero past its end. -/
abbrev rowUp {N : ℕ} (g : Fin N → EReal) (s : ℕ) (r : Fin N) : EReal := if h : r.val + s < N then g ⟨r.val + s, h⟩ else 0

/-- A column read `s` rows further up, zero before its start. -/
abbrev rowDown {N : ℕ} (x : Fin N → EReal) (s : ℕ) (r : Fin N) : EReal := if s ≤ r.val then x ⟨r.val - s, by omega⟩ else 0

theorem rowUp_zero {N : ℕ} (g : Fin N → EReal) (r : Fin N) : rowUp g 0 r = g r := by
  rw [rowUp, dif_pos (show r.val + 0 < N from r.isLt)]; rfl

theorem rowDown_zero {N : ℕ} (x : Fin N → EReal) (r : Fin N) : rowDown x 0 r = x r := by
  rw [rowDown, if_pos (Nat.zero_le _)]; rfl

/-- Shifting one factor of a sum of products down is shifting the other up. -/
theorem sum_rowUp {N : ℕ} (g x : Fin N → EReal) (s : ℕ) (hs : s ≤ N) : ∑ r : Fin N, rowUp g s r * x r = ∑ r : Fin N, g r * rowDown x s r := by
  obtain ⟨M, rfl⟩ := Nat.exists_eq_add_of_le hs
  let G : ℕ → EReal := fun k => if h : k < s + M then g ⟨k, h⟩ else 0
  let X : ℕ → EReal := fun k => if h : k < s + M then x ⟨k, h⟩ else 0
  have hl : ∑ r : Fin (s + M), rowUp g s r * x r = ∑ k ∈ Finset.range (M + s), G (k + s) * X k := by
    rw [Nat.add_comm M s, Finset.sum_range]
    refine Finset.sum_congr rfl fun r _ => ?_
    simp only [G, X, rowUp, r.isLt, dif_pos]
  have hr : ∑ r : Fin (s + M), g r * rowDown x s r = ∑ k ∈ Finset.range (s + M), G k * (if s ≤ k then X (k - s) else 0) := by
    rw [Finset.sum_range]
    refine Finset.sum_congr rfl fun r _ => ?_
    have : r.val - s < s + M := by omega
    simp only [G, X, rowDown, r.isLt, this, dif_pos]
  rw [hl, hr, Finset.sum_range_add, Finset.sum_range_add]
  have h1 : ∑ k ∈ Finset.range s, G (M + k + s) * X (M + k) = 0 :=
    Finset.sum_eq_zero fun k _ => by simp only [G]; rw [dif_neg (by omega), zero_mul]
  have h2 : ∑ k ∈ Finset.range s, G k * (if s ≤ k then X (k - s) else 0) = 0 :=
    Finset.sum_eq_zero fun k hk => by rw [if_neg (by have := Finset.mem_range.mp hk; omega), mul_zero]
  rw [h1, h2, add_zero, zero_add]
  refine Finset.sum_congr rfl fun k _ => ?_
  rw [if_pos (by omega), Nat.add_sub_cancel_left, Nat.add_comm k s]

/-- Rows rotated up by `s`, read at an element. -/
theorem rotate_rows_apply {T n : ℕ} (s : ℕ) (hs0 : 0 < s) (hs : s ≤ T) (sb : BitVec 32) (hsb : sb.toNat = T - s)
    (x : (⟨2, ![T, n]⟩ : Shape).Idx → EReal) (h : (⟨2, ![T, n]⟩ : Shape).Rotates 0 none) (i : Fin T) (j : Fin n) :
    dynamicRotate (s := ⟨2, ![T, n]⟩) 0 sb none x h (ix2 i j) = x (ix2 (⟨(i.val + s) % T, Nat.mod_lt _ (by omega)⟩ : Fin T) j) :=
  dynamicRotate_apply (s := ⟨2, ![T, n]⟩) 0 sb x h (ix2 i j) _ fun b => match b with
    | ⟨0, _⟩ => by
      show (i.val + s) % T = (i.val + T - sb.toNat % T) % T
      rw [hsb, Nat.mod_eq_of_lt (by omega : T - s < T)]; congr 1; omega
    | ⟨1, _⟩ => rfl

/-- The rows a tile of 512 rows and the eight behind it hold, read `s` rows further down. -/
abbrev tileUp {n : ℕ} (x : (⟨2, ![512, n]⟩ : Shape).Idx → EReal) (y : (⟨2, ![8, n]⟩ : Shape).Idx → EReal) (s : ℕ) (hs : s ≤ 8)
    (i : Fin 512) (j : Fin n) : EReal :=
  if h : i.val + s < 512 then x (ix2 (⟨i.val + s, h⟩ : Fin 512) j) else y (ix2 (⟨i.val + s - 512, by omega⟩ : Fin 8) j)

section
variable {n : ℕ} (a : (⟨2, ![504, n]⟩ : Shape).Idx → EReal) (b : (⟨2, ![8, n]⟩ : Shape).Idx → EReal)
  (h : Shape.Concatenates [⟨2, ![504, n]⟩, ⟨2, ![8, n]⟩] ⟨2, ![512, n]⟩ 0) (i : Fin 512) (j : Fin n)

theorem cat_tile_lo (hi : i.val < 504) :
    concatenate ⟨2, ![512, n]⟩ 0 [⟨⟨2, ![504, n]⟩, a⟩, ⟨⟨2, ![8, n]⟩, b⟩] h (ix2 i j) = a (ix2 (⟨i.val, hi⟩ : Fin 504) j) :=
  cat_axis0 [⟨⟨2, ![504, n]⟩, a⟩, ⟨⟨2, ![8, n]⟩, b⟩] h 0 (Nat.lt_add_left 1 Nat.one_pos) a rfl 0 rfl i j ⟨i.val, hi⟩ (Nat.zero_add _)

theorem cat_tile_hi (hi : ¬i.val < 504) :
    concatenate ⟨2, ![512, n]⟩ 0 [⟨⟨2, ![504, n]⟩, a⟩, ⟨⟨2, ![8, n]⟩, b⟩] h (ix2 i j) = b (ix2 (⟨i.val - 504, by omega⟩ : Fin 8) j) :=
  cat_axis0 [⟨⟨2, ![504, n]⟩, a⟩, ⟨⟨2, ![8, n]⟩, b⟩] h 1 (Nat.lt_succ_self 1) b rfl 504 rfl i j ⟨i.val - 504, by omega⟩ (by simp only; omega)

end

/-- A tile rotated up by `s` rows, its last eight rows mended from the eight that follow it: the rows read `s` further down. -/
theorem tile_shift_apply {n : ℕ} (s : ℕ) (hs0 : 0 < s) (hs : s ≤ 8) (sb tb : BitVec 32) (hsb : sb.toNat = 512 - s) (htb : tb.toNat = 8 - s)
    (x : (⟨2, ![512, n]⟩ : Shape).Idx → EReal) (y : (⟨2, ![8, n]⟩ : Shape).Idx → EReal)
    (h1 : (⟨2, ![512, n]⟩ : Shape).Rotates 0 none) (h2 : (⟨2, ![8, n]⟩ : Shape).Rotates 0 none)
    (h3 : (⟨2, ![8, n]⟩ : Shape).Iotas .tc 32 [0]) (h4 : (⟨2, ![512, n]⟩ : Shape).Slices ![504, 0] ⟨2, ![8, n]⟩)
    (h5 : (⟨2, ![512, n]⟩ : Shape).Slices ![0, 0] ⟨2, ![504, n]⟩)
    (h6 : Shape.Concatenates [⟨2, ![504, n]⟩, ⟨2, ![8, n]⟩] ⟨2, ![512, n]⟩ 0) (i : Fin 512) (j : Fin n) :
    concatenate ⟨2, ![512, n]⟩ 0 [⟨⟨2, ![504, n]⟩, extractStridedSlice ⟨2, ![504, n]⟩ ![0, 0] (dynamicRotate (s := ⟨2, ![512, n]⟩) 0 sb none x h1) h5⟩,
      ⟨⟨2, ![8, n]⟩, select (cmpi .sge (iota .tc ⟨2, ![8, n]⟩ 32 [0] h3) (broadcast ⟨2, ![8, n]⟩ tb))
        (dynamicRotate (s := ⟨2, ![8, n]⟩) 0 tb none y h2)
        (extractStridedSlice ⟨2, ![8, n]⟩ ![504, 0] (dynamicRotate (s := ⟨2, ![512, n]⟩) 0 sb none x h1) h4)⟩] h6 (ix2 i j)
      = tileUp x y s hs i j := by
  have hr : ∀ r : Fin 512, (hr : r.val + s < 512) → dynamicRotate (s := ⟨2, ![512, n]⟩) 0 sb none x h1 (ix2 r j) = x (ix2 (⟨r.val + s, hr⟩ : Fin 512) j) :=
    fun r hr => (rotate_rows_apply s hs0 (by omega) sb hsb x h1 r j).trans (congrArg x (congrArg (ix2 · j) (Fin.ext (Nat.mod_eq_of_lt hr))))
  by_cases hi : i.val < 504
  · refine (cat_tile_lo _ _ h6 i j hi).trans ?_
    rw [tileUp, dif_pos (by omega)]
    exact (extractStridedSlice_apply _ _ h5 _ (ix2 i j) (fun a => match a with | ⟨0, _⟩ => (Nat.zero_add _).symm | ⟨1, _⟩ => (Nat.zero_add _).symm)).trans (hr i (by omega))
  · refine (cat_tile_hi _ _ h6 i j hi).trans ?_
    have hq : cmpi .sge (iota .tc ⟨2, ![8, n]⟩ 32 [0] h3) (broadcast ⟨2, ![8, n]⟩ tb) (ix2 (⟨i.val - 504, by omega⟩ : Fin 8) j)
        = if 8 - s ≤ i.val - 504 then 1#1 else 0#1 := by
      pointwise
      have ht : tb = BitVec.ofNat 32 (8 - s) := BitVec.eq_of_toNat_eq (by rw [htb, BitVec.toNat_ofNat, Nat.mod_eq_of_lt (by omega)])
      have hall : ∀ k : Fin 8, ∀ s : Fin 9, IntOp.cmpi .sge (BitVec.ofNat 32 k.val) (BitVec.ofNat 32 (8 - s.val)) = if 8 - s.val ≤ k.val then 1#1 else 0#1 := by
        decide
      rw [ht]
      exact hall ⟨i.val - 504, by omega⟩ ⟨s, by omega⟩
    show Scalar.select (cmpi .sge (iota .tc ⟨2, ![8, n]⟩ 32 [0] h3) (broadcast ⟨2, ![8, n]⟩ tb) (ix2 (⟨i.val - 504, by omega⟩ : Fin 8) j)) _ _ = _
    rw [hq]
    by_cases hk : 512 ≤ i.val + s
    · rw [if_pos (by omega), tileUp, dif_neg (by omega)]
      refine (rotate_rows_apply s hs0 hs tb htb y h2 _ j).trans (congrArg y (congrArg (ix2 · j) (Fin.ext ?_)))
      show (i.val - 504 + s) % 8 = i.val + s - 512
      rw [show i.val - 504 + s = (i.val + s - 512) + 8 by omega, Nat.add_mod_right, Nat.mod_eq_of_lt (by omega)]
    · rw [if_neg (by omega), tileUp, dif_pos (by omega)]
      exact (extractStridedSlice_apply _ _ h4 _ (ix2 i j) (fun a => match a with | ⟨0, _⟩ => by show i.val = 504 + (i.val - 504); omega | ⟨1, _⟩ => (Nat.zero_add _).symm)).trans (hr i (by omega))

/-- Rows padded in front and behind, read inside, -/
theorem pad_rows_inside {N M n lo hi : ℕ} (x : (⟨2, ![N, n]⟩ : Shape).Idx → EReal) {u : Shape} (v : u.Idx → EReal)
    (h : (⟨2, ![N, n]⟩ : Shape).Pads ![lo, 0] ![hi, 0] ![0, 0] ⟨2, ![M, n]⟩) (hu : 0 < u.numel) (R : Fin M) (r : Fin N) (j : Fin n)
    (e : R.val = lo + r.val) : pad ⟨2, ![M, n]⟩ ![lo, 0] ![hi, 0] ![0, 0] x v h hu (ix2 R j) = x (ix2 r j) :=
  pad_apply_of_inside ![lo, 0] ![hi, 0] ![0, 0] x v h hu (ix2 R j) (ix2 r j) fun a => match a with
    | ⟨0, _⟩ => by show R.val = lo + r.val * (0 + 1); omega
    | ⟨1, _⟩ => by show j.val = 0 + j.val * (0 + 1); omega

/-- and read outside. -/
theorem pad_rows_outside {N M n lo hi : ℕ} (x : (⟨2, ![N, n]⟩ : Shape).Idx → EReal) {u : Shape} (v : u.Idx → EReal)
    (h : (⟨2, ![N, n]⟩ : Shape).Pads ![lo, 0] ![hi, 0] ![0, 0] ⟨2, ![M, n]⟩) (hu : 0 < u.numel) (R : Fin M) (j : Fin n)
    (e : ¬(lo ≤ R.val ∧ R.val - lo < N)) : pad ⟨2, ![M, n]⟩ ![lo, 0] ![hi, 0] ![0, 0] x v h hu (ix2 R j) = v (Shape.Idx.first hu) :=
  pad_apply_of_not_inside ![lo, 0] ![hi, 0] ![0, 0] x v h hu (ix2 R j) (0 : Fin 2) fun hin => e
    ⟨hin.1, by have h2 := hin.2.2; change (R.val - lo) / (0 + 1) < N at h2; rwa [Nat.zero_add, Nat.div_one] at h2⟩

section
variable {M n : ℕ} (o : ℕ) (h : ∀ a, (![o, 0] : Fin 2 → ℕ) a + (![1, n] : Fin 2 → ℕ) a ≤ (⟨2, ![M, n]⟩ : Shape).size a)
  (v : (⟨2, ![1, n]⟩ : Shape).Idx → EReal) (L : List (View.Piece (Elt Ideal) ⟨2, ![M, n]⟩ .f32)) (k : Fin M) (j : Fin n)

/-- A row stored last is read back, -/
theorem canon_row_hit (hk : k.val = o) :
    View.canon (Val := Elt Ideal) (⟨Rect.unit (s := ⟨2, ![M, n]⟩) ![o, 0] ![1, n] h, v⟩ :: L) (ix2 k j) = v (ix2 0 j) := by
  have e : (ix2 k j : (⟨2, ![M, n]⟩ : Shape).Idx) = (Rect.unit (s := ⟨2, ![M, n]⟩) ![o, 0] ![1, n] h).emb (ix2 (0 : Fin 1) j) := by
    refine funext fun a => Fin.ext ?_
    match a with
    | ⟨0, _⟩ => exact (hk.trans (Nat.add_zero o).symm).trans (Rect.idx_unit_val (s := ⟨2, ![M, n]⟩) ![o, 0] ![1, n] h (ix2 (0 : Fin 1) j) 0).symm
    | ⟨1, _⟩ => exact (Nat.zero_add j.val).symm.trans (Rect.idx_unit_val (s := ⟨2, ![M, n]⟩) ![o, 0] ![1, n] h (ix2 (0 : Fin 1) j) 1).symm
  rw [e, View.canon_cons_emb]

/-- and another row is what was there before. -/
theorem canon_row_miss (hk : k.val ≠ o) :
    View.canon (Val := Elt Ideal) (⟨Rect.unit (s := ⟨2, ![M, n]⟩) ![o, 0] ![1, n] h, v⟩ :: L) (ix2 k j) = View.canon (Val := Elt Ideal) L (ix2 k j) := by
  refine View.canon_cons_of_not_mem _ _ ?_
  rw [Rect.mem_set_unit]
  intro hm
  have h1 : o ≤ k.val := (hm 0).1
  have h2 : k.val < o + 1 := (hm 0).2
  omega

/-- A row loaded, read at an element. -/
theorem ld_row (x : (⟨2, ![M, n]⟩ : Shape).Idx → Elt Ideal .f32) (hk : k.val = o) :
    View.ld (Val := Elt Ideal) x (Rect.unit (s := ⟨2, ![M, n]⟩) ![o, 0] ![1, n] h) (ix2 (0 : Fin 1) j) = x (ix2 k j) :=
  View.ld_unit_apply_of _ _ _ _ _ _ fun a => match a with
    | ⟨0, _⟩ => hk.trans (Nat.add_zero o).symm
    | ⟨1, _⟩ => (Nat.zero_add j.val).symm

end

/-- The gradient of a three-tap causal convolution's input. -/
abbrev convDx {N n : ℕ} (g : (⟨2, ![N, n]⟩ : Shape).Idx → EReal) (w : (⟨2, ![3, n]⟩ : Shape).Idx → EReal) (R : Fin N) (j : Fin n) : EReal :=
  w (ix2 0 j) * rowUp (fun r => g (ix2 r j)) 2 R + w (ix2 1 j) * rowUp (fun r => g (ix2 r j)) 1 R + w (ix2 2 j) * g (ix2 R j)

/-- The gradient of a four-tap causal convolution's input. -/
abbrev convDx4 {N n : ℕ} (g : (⟨2, ![N, n]⟩ : Shape).Idx → EReal) (w : (⟨2, ![4, n]⟩ : Shape).Idx → EReal) (R : Fin N) (j : Fin n) : EReal :=
  w (ix2 0 j) * rowUp (fun r => g (ix2 r j)) 3 R + w (ix2 1 j) * rowUp (fun r => g (ix2 r j)) 2 R
    + w (ix2 2 j) * rowUp (fun r => g (ix2 r j)) 1 R + w (ix2 3 j) * g (ix2 R j)

/-- The gradient of one of a convolution's taps. -/
abbrev convDw {N n : ℕ} (g x : (⟨2, ![N, n]⟩ : Shape).Idx → EReal) (s : ℕ) (j : Fin n) : EReal :=
  ∑ R : Fin N, rowUp (fun r => g (ix2 r j)) s R * x (ix2 R j)

end Cert.Maths

end
-- ==== Proof.CgateRef.lean ====
/- The reference of the gradients through the first half's convolution, read at an element. -/
module

public import proofs.«01_k».proof.Proof.ConvMath
public import proofs.«01_k».proof.Proof.Gen.CgateReferenceIdeal.Read

@[expose] public section

noncomputable section

namespace Cert.CgateReferenceIdeal.Ref

open Cert.CgateReferenceIdeal Cert.CgateReferenceIdeal.Gen Cert.CgateReferenceIdeal.Read Idealize.ShloMosaic Cert.Maths

variable (g : (⟨S8192x2816, .f32⟩ : BufTy).Contents (Elt Ideal)) (up : (⟨S8192x5632, .f32⟩ : BufTy).Contents (Elt Ideal))
  (w : (⟨S3x2816, .f32⟩ : BufTy).Contents (Elt Ideal))

section
variable (R : Fin 8194) (j : Fin 2816)

/-- The last tap's part of the padded input's gradient. -/
theorem v25_apply (r : Fin 8192) (h : R.val = 2 + r.val) : val_main_v25 (F := Ideal) g w (ix2 R j) = w (ix2 2 j) * g (ix2 r j) := by
  unfold val_main_v25
  refine (pad_rows_inside _ _ _ _ R r j h).trans ?_
  pointwise [val_main_v21, val_main_v20, val_main_v19, val_main_v13]

/-- The middle tap's. -/
theorem v32_apply (r : Fin 8192) (h : R.val = 2 + r.val) : val_main_v32 (F := Ideal) g w (ix2 R j) = w (ix2 1 j) * rowUp (fun r => g (ix2 r j)) 1 r := by
  unfold val_main_v32
  by_cases hr : r.val + 1 < 8192
  · refine (pad_rows_inside _ _ _ _ R ⟨r.val + 1, hr⟩ j (by simp only; omega)).trans ?_
    rw [rowUp, dif_pos hr]
    pointwise [val_main_v28, val_main_v27, val_main_v18, val_main_v8]
  · refine (pad_rows_outside _ _ _ _ R j (by omega)).trans ?_
    rw [rowUp, dif_neg hr, mul_zero]
    pointwise [val_main_cst_5]

/-- The first tap's. -/
theorem v41_apply (r : Fin 8192) (h : R.val = 2 + r.val) : val_main_v41 (F := Ideal) g w (ix2 R j) = w (ix2 0 j) * rowUp (fun r => g (ix2 r j)) 2 r := by
  unfold val_main_v41
  by_cases hr : r.val + 2 < 8192
  · refine (pad_rows_inside _ _ _ _ R ⟨r.val + 2, hr⟩ j (by simp only; omega)).trans ?_
    rw [rowUp, dif_pos hr]
    pointwise [val_main_v37, val_main_v36, val_main_v18, val_main_v4]
  · refine (pad_rows_outside _ _ _ _ R j (by omega)).trans ?_
    rw [rowUp, dif_neg hr, mul_zero]
    pointwise [val_main_cst_8]

end

/-- The gradient of the convolution's input. -/
theorem v47_apply (R : Fin 8192) (j : Fin 2816) : val_main_v47 (F := Ideal) g w (ix2 R j) = convDx g w R j := by
  have e : val_main_v47 (F := Ideal) g w (ix2 R j) = val_main_v42 (F := Ideal) g w (ix2 (⟨2 + R.val, by omega⟩ : Fin 8194) j) := by
    pointwise [val_main_v47, val_main_v46]
  rw [e]
  show val_main_v25 (F := Ideal) g w _ + val_main_v32 (F := Ideal) g w _ + val_main_v41 (F := Ideal) g w _ = _
  rw [v25_apply g w _ j R rfl, v32_apply g w _ j R rfl, v41_apply g w _ j R rfl, convDx]
  abel

/-- The columns the convolution reads. -/
abbrev cols : S8192x2816.Idx → EReal := val_main_v0 (F := Ideal) up

/-- The convolution's input behind its two rows of zeros, `k` rows on. -/
theorem v2_apply (k : ℕ) (hk : k ≤ 2) (R : Fin 8192) (j : Fin 2816) (P : Fin 8194) (hP : P.val = k + R.val) :
    val_main_v2 (F := Ideal) up (ix2 P j) = rowDown (fun r => cols up (ix2 r j)) (2 - k) R := by
  unfold val_main_v2
  rw [rowDown]
  by_cases h : 2 - k ≤ R.val
  · rw [if_pos h]
    exact cat_axis0 (m₁ := 8192) [⟨S2x2816, val_main_v1 (F := Ideal)⟩, ⟨S8192x2816, val_main_v0 (F := Ideal) up⟩]
      concatenates_S2x2816_S8192x2816_S8194x2816_d0 1 (Nat.lt_succ_self 1) _ rfl 2 rfl P j ⟨R.val - (2 - k), by omega⟩ (by simp only; omega)
  · rw [if_neg h]
    refine (cat_axis0 (m₁ := 2) [⟨S2x2816, val_main_v1 (F := Ideal)⟩, ⟨S8192x2816, val_main_v0 (F := Ideal) up⟩]
      concatenates_S2x2816_S8192x2816_S8194x2816_d0 0 (Nat.lt_add_left 1 Nat.one_pos) _ rfl 0 rfl P j ⟨P.val, by omega⟩ (Nat.zero_add _)).trans ?_
    pointwise [val_main_v1, val_main_cst]

section
variable (j : Fin 2816)

theorem v24_apply : val_main_v24 (F := Ideal) g up (ix2 0 j) = convDw g (cols up) 0 j := by
  rw [convDw, sum_rowUp _ _ 0 (by omega)]
  pointwise [val_main_v24, val_main_v23, val_main_v22, val_main_v19, val_main_v14, val_main_cst_1]
  exact Finset.sum_congr rfl fun R _ => congrArg _ (v2_apply up 2 (by omega) R j _ rfl)

theorem v31_apply : val_main_v31 (F := Ideal) g up (ix2 0 j) = convDw g (cols up) 1 j := by
  rw [convDw, sum_rowUp _ _ 1 (by omega)]
  pointwise [val_main_v31, val_main_v30, val_main_v29, val_main_v18, val_main_v9, val_main_cst_4]
  exact Finset.sum_congr rfl fun R _ => congrArg _ (v2_apply up 1 (by omega) R j _ rfl)

theorem v40_apply : val_main_v40 (F := Ideal) g up (ix2 0 j) = convDw g (cols up) 2 j := by
  rw [convDw, sum_rowUp _ _ 2 (by omega)]
  pointwise [val_main_v40, val_main_v39, val_main_v38, val_main_v18, val_main_v5, val_main_cst_7]
  exact Finset.sum_congr rfl fun R _ => congrArg _ (v2_apply up 0 (by omega) R j _ (Nat.zero_add _).symm)

/-- The gradient of the taps. -/
theorem v44_apply (k : Fin 3) : val_main_v44 (F := Ideal) g up (ix2 k j) = convDw g (cols up) (2 - k.val) j := by
  show val_main_v26 (F := Ideal) g up _ + val_main_v34 (F := Ideal) g up _ + val_main_v43 (F := Ideal) g up _ = _
  unfold val_main_v26 val_main_v34 val_main_v43
  match k with
  | 0 =>
    rw [pad_rows_outside _ _ _ _ 0 j (by decide), pad_rows_outside _ _ _ _ 0 j (by decide), pad_rows_inside _ _ _ _ 0 0 j rfl, v40_apply]
    pointwise [val_main_cst_3, val_main_cst_6]
  | 1 =>
    rw [pad_rows_outside _ _ _ _ 1 j (by decide), pad_rows_inside _ _ _ _ 1 0 j rfl, pad_rows_outside _ _ _ _ 1 j (by decide), v31_apply]
    pointwise [val_main_cst_3, val_main_cst_9]
  | 2 =>
    rw [pad_rows_inside _ _ _ _ 2 0 j rfl, pad_rows_outside _ _ _ _ 2 j (by decide), pad_rows_outside _ _ _ _ 2 j (by decide), v24_apply]
    pointwise [val_main_cst_6, val_main_cst_9]

end

end Cert.CgateReferenceIdeal.Ref

end
-- ==== Proof.CgateValue.lean ====
/- The gradients through the first half's convolution: the kernel's two result arrays are the reference's. -/
module

public import Idealize.ShloMosaic.Lib.Pipeline.ValueKit
public import Idealize.ShloMosaic.Lib.Pipeline.ReadBack
public import proofs.«01_k».proof.Proof.RmsMath
public import proofs.«01_k».proof.Proof.CgateRef
public import proofs.«01_k».proof.Proof.Gen.CgateKernelIdeal.Frame

@[expose] public section

set_option maxRecDepth 16384

noncomputable section

namespace Cert.CgateKernelIdeal.Result

open Cert.CgateKernelIdeal Cert.CgateKernelIdeal.Gen Idealize.ShloMosaic Idealize.ShloMosaic.TcCoe Idealize.SL.Sem
open Cert.Maths Cert.CgateReferenceIdeal.Ref
open Cert.CgateReferenceIdeal.Read (val_main_v44 val_main_v47)

variable (m : (ℓ : Loc nD τ sig) → Buf (Elt Ideal) ℓ) (c : Dev nD)

/-! ## The payloads at an element -/

section
variable (co : grid0.Coords) (a : Vec Ideal S512x1408 .bf16) (b : Vec Ideal S16x1408 .bf16) (x : Vec Ideal S512x1408 .f32)
  (w : Vec Ideal S3x1408 .f32) (i : Fin 512) (q : Fin 1408)

theorem pay7_apply : k0_pay7 (F := Ideal) a (ix2 i q) = a (ix2 i q) := by
  pointwise [k0_pay7]

/-- The rows behind the tile, none behind the last. -/
theorem pay8_apply (r : Fin 8) : k0_pay8 (F := Ideal) co b (ix2 r q)
    = if (co 1).val < 15 then b (ix2 (⟨r.val, by omega⟩ : Fin 16) q) else 0 := by
  have hc : (co 1).val < 16 := (co 1).isLt
  have hall : ∀ k : Fin 16, Scalar.cmpi .slt (BitVec.ofNat 32 k.val) 15#32 = if k.val < 15 then 1#1 else 0#1 := by decide
  have hk : Scalar.cmpi .slt (BitVec.ofNat 32 (co 1).val) 15#32 = if (co 1).val < 15 then 1#1 else 0#1 := hall ⟨(co 1).val, hc⟩
  unfold k0_pay8
  dsimp only
  rw [hk]
  by_cases h : (co 1).val < 15
  · rw [if_pos h, if_pos h]
    unfold Scalar.select
    rw [if_pos (by decide)]
    pointwise
  · rw [if_neg h, if_neg h]
    unfold Scalar.select
    rw [if_neg (by decide)]
    pointwise

/-- The tile's rows two further down. -/
theorem pay9_apply : k0_pay9 (F := Ideal) co a b (ix2 i q) = tileUp (k0_pay7 (F := Ideal) a) (k0_pay8 (F := Ideal) co b) 2 (by omega) i q :=
  tile_shift_apply 2 (by omega) (by omega) _ _ rfl rfl _ _ rotates_S512x1408_d0 rotates_S8x1408_d0 iota_S8x1408_d0_w32
    slices_S512x1408_o504_0_S8x1408 slices_S512x1408_o0_0_S504x1408 concatenates_S504x1408_S8x1408_S512x1408_d0 i q

/-- The tile's rows one further down. -/
theorem pay10_apply : k0_pay10 (F := Ideal) co a b (ix2 i q) = tileUp (k0_pay7 (F := Ideal) a) (k0_pay8 (F := Ideal) co b) 1 (by omega) i q :=
  tile_shift_apply 1 (by omega) (by omega) _ _ rfl rfl _ _ rotates_S512x1408_d0 rotates_S8x1408_d0 iota_S8x1408_d0_w32
    slices_S512x1408_o504_0_S8x1408 slices_S512x1408_o0_0_S504x1408 concatenates_S504x1408_S8x1408_S512x1408_d0 i q

theorem pay11_apply : k0_pay11 (F := Ideal) co a b w (ix2 i q)
    = w (ix2 0 q) * k0_pay9 (F := Ideal) co a b (ix2 i q) + w (ix2 1 q) * k0_pay10 (F := Ideal) co a b (ix2 i q)
      + w (ix2 2 q) * k0_pay7 (F := Ideal) a (ix2 i q) := by
  pointwise [k0_pay11]

theorem pay1_apply (y : FVec Ideal S512x1408 .f32) : k0_pay1 (F := Ideal) x y (ix2 0 q) = ∑ i : Fin 512, y (ix2 i q) * x (ix2 i q) := by
  pointwise [k0_pay1]

theorem pay2_apply (y : FVec Ideal S512x1408 .f32) : k0_pay2 (F := Ideal) x y (ix2 0 q) = ∑ i : Fin 512, y (ix2 i q) * x (ix2 i q) := by
  pointwise [k0_pay2]

theorem pay3_apply (y : FVec Ideal S512x1408 .f32) : k0_pay3 (F := Ideal) y x (ix2 0 q) = ∑ i : Fin 512, y (ix2 i q) * x (ix2 i q) := by
  pointwise [k0_pay3]

end

/-! ## The blocks -/

/-- The block each window reads at a point. -/
theorem idx : ∀ t : Fin cfg0.N, win0_0.index t = ![t.val % 16, t.val / 16] ∧ win0_1.index t = ![min ((t.val % 16 + 1) * 32) 511, t.val / 16]
    ∧ win0_2.index t = ![t.val % 16, t.val / 16] ∧ win0_3.index t = ![0, t.val / 16] ∧ win0_4.index t = ![t.val % 16, t.val / 16]
    ∧ win0_5.index t = ![0, t.val / 16] :=
  (by decide +kernel : ∀ t : Fin grid0.N, win0_0.index t = ![t.val % 16, t.val / 16]
    ∧ win0_1.index t = ![min ((t.val % 16 + 1) * 32) 511, t.val / 16]
    ∧ win0_2.index t = ![t.val % 16, t.val / 16] ∧ win0_3.index t = ![0, t.val / 16] ∧ win0_4.index t = ![t.val % 16, t.val / 16]
    ∧ win0_5.index t = ![0, t.val / 16])

theorem coord1 : ∀ t : Fin cfg0.N, (grid0.coords t 1).val = t.val % 16 :=
  (by decide +kernel : ∀ t : Fin grid0.N, (grid0.coords t 1).val = t.val % 16)

/-- Row `i` of a point's tile, and its column `q`. -/
abbrev row (t : Fin cfg0.N) (i : Fin 512) : Fin 8192 := ⟨512 * (t.val % 16) + i.val, by omega⟩
abbrev col (t : Fin cfg0.N) (q : Fin 1408) : Fin 2816 := ⟨1408 * (t.val / 16) + q.val, by have : t.val < 32 := t.isLt; omega⟩

abbrev g : S8192x2816.Idx → EReal := m ((c : Thread nD τ).loc main_arg0)
abbrev up : S8192x5632.Idx → EReal := m ((c : Thread nD τ).loc main_arg1)
abbrev w : S3x2816.Idx → EReal := m ((c : Thread nD τ).loc main_arg2)

theorem V_g : V m c main_v0 = g m c := by
  show StableHlo.after (List.flatten [hostOps0]) (fun b => m (c, b)) main_v0 = _
  simp only [hostOps0, List.flatten_cons, List.flatten_nil, List.append_nil, List.cons_append]
  after_results_simp <;> rfl

section
variable (t : Fin cfg0.N) (i : Fin 512) (q : Fin 1408)

theorem iblk0 : (iblk m c 0 t : Vec Ideal S512x1408 .bf16) (ix2 i q) = g m c (ix2 (row t i) (col t q)) := by
  rw [← V_g]; blk_ext [iblk, idx t]

theorem iblk1 (h : t.val % 16 < 15) (r : Fin 16) (R : Fin 8192) (hR : R.val = 512 * (t.val % 16) + 512 + r.val) :
    (iblk m c 1 t : Vec Ideal S16x1408 .bf16) (ix2 r q) = g m c (ix2 R (col t q)) := by
  obtain ⟨R, hr⟩ := R
  obtain rfl : R = 512 * (t.val % 16) + 512 + r.val := hR
  rw [← V_g]; blk_ext [iblk, idx t]

theorem iblk2 : (iblk m c 2 t : Vec Ideal S512x1408 .f32) (ix2 i q) = cols (up m c) (ix2 (row t i) (col t q)) := by
  have e : cols (up m c) (ix2 (row t i) (col t q)) = up m c (ix2 (row t i) ⟨(col t q).val, by omega⟩) := by
    pointwise [cols, Cert.CgateReferenceIdeal.Read.val_main_v0]
  rw [e, up, ← V_main_arg1 m c]; blk_ext [iblk, idx t]

theorem iblk3 (k : Fin 3) : (iblk m c 3 t : Vec Ideal S3x1408 .f32) (ix2 k q) = w m c (ix2 k (col t q)) := by
  rw [w, ← V_main_arg2 m c]; blk_ext [iblk, idx t]

/-- A tile's rows further down are the array's. -/
theorem tileUp_eq (s : ℕ) (hs : s ≤ 8) : tileUp (k0_pay7 (F := Ideal) (iblk m c 0 t)) (k0_pay8 (F := Ideal) (grid0.coords t) (iblk m c 1 t)) s hs i q
    = rowUp (fun r => g m c (ix2 r (col t q))) s (row t i) := by
  rw [tileUp, rowUp]
  by_cases h : i.val + s < 512
  · rw [dif_pos h, dif_pos (by simp only; omega), pay7_apply, iblk0]
    exact congrArg (g m c) (congrArg (ix2 · (col t q)) (Fin.ext (Nat.add_assoc _ _ _).symm))
  · rw [dif_neg h, pay8_apply, coord1]
    by_cases ht : t.val % 16 < 15
    · rw [if_pos ht, dif_pos (by simp only; omega)]
      exact iblk1 m c t q ht _ _ (by simp only; omega)
    · rw [if_neg ht, dif_neg (by simp only; omega)]

end

/-! ## What a point leaves in the two output buffers -/

theorem outs4 (t : Fin cfg0.N) : (outsAt0 m c t.val t.isLt).1 = k0_pay11 (F := Ideal) (grid0.coords t) (iblk m c 0 t) (iblk m c 1 t) (iblk m c 3 t) := by
  have hN : t.val < 32 := t.isLt
  by_cases h : t.val % 16 = 0
  · rw [outsAt0_A m c t h (by omega)]; frame_out
  · rw [outsAt0_B m c t h (by omega)]; frame_out

/-- One tile's part of the taps' gradient. -/
abbrev part (t : Fin cfg0.N) : S3x1408.Idx → EReal := fun y =>
  ∑ i : Fin 512, rowUp (fun r => g m c (ix2 r (col t (y 1)))) (2 - (y 0).val) (row t i) * cols (up m c) (ix2 (row t i) (col t (y 1)))

section
variable (t : Fin cfg0.N) (q : Fin 1408)

theorem part0 : k0_pay1 (F := Ideal) (iblk m c 2 t) (k0_pay9 (F := Ideal) (grid0.coords t) (iblk m c 0 t) (iblk m c 1 t)) (ix2 0 q)
    = part m c t (ix2 0 q) := by
  rw [pay1_apply]
  simp only [pay9_apply, tileUp_eq, iblk2]
  rfl

theorem part1 : k0_pay2 (F := Ideal) (iblk m c 2 t) (k0_pay10 (F := Ideal) (grid0.coords t) (iblk m c 0 t) (iblk m c 1 t)) (ix2 0 q)
    = part m c t (ix2 1 q) := by
  rw [pay2_apply]
  simp only [pay10_apply, tileUp_eq, iblk2]
  rfl

theorem part2 : k0_pay3 (F := Ideal) (k0_pay7 (F := Ideal) (iblk m c 0 t)) (iblk m c 2 t) (ix2 0 q) = part m c t (ix2 2 q) := by
  rw [pay3_apply]
  simp only [pay7_apply, iblk0, iblk2]
  exact Finset.sum_congr rfl fun i _ => congrArg (· * _) (rowUp_zero (fun r => g m c (ix2 r (col t q))) (row t i)).symm

end

theorem outs5A (t : Fin cfg0.N) (h : t.val % 16 = 0) (y : S3x1408.Idx) : (outsAt0 m c t.val t.isLt).2 y = 0 + part m c t y := by
  obtain ⟨k, q, rfl⟩ : ∃ (k : Fin 3) (q : Fin 1408), y = ix2 k q := ⟨y 0, y 1, funext fun a => match a with | ⟨0, _⟩ => rfl | ⟨1, _⟩ => rfl⟩
  rw [outsAt0_A m c t h (by omega), zero_add]
  frame_out
  match k with
  | 0 =>
    refine (canon_row_miss 2 _ _ _ 0 q (by decide)).trans ((canon_row_miss 1 _ _ _ 0 q (by decide)).trans ((canon_row_hit 0 _ _ _ 0 q rfl).trans ?_))
    exact part0 m c t q
  | 1 => exact (canon_row_miss 2 _ _ _ 1 q (by decide)).trans ((canon_row_hit 1 _ _ _ 1 q rfl).trans (part1 m c t q))
  | 2 => exact (canon_row_hit 2 _ _ _ 2 q rfl).trans (part2 m c t q)

theorem outs5B (t : Fin cfg0.N) (h : ¬t.val % 16 = 0) (y : S3x1408.Idx) : (outsAt0 m c t.val t.isLt).2 y
    = (outsAt0 m c (t.val - 1) (Nat.lt_of_le_of_lt (Nat.sub_le _ _) t.isLt)).2 y + part m c t y := by
  obtain ⟨k, q, rfl⟩ : ∃ (k : Fin 3) (q : Fin 1408), y = ix2 k q := ⟨y 0, y 1, funext fun a => match a with | ⟨0, _⟩ => rfl | ⟨1, _⟩ => rfl⟩
  rw [outsAt0_B m c t h (by omega)]
  frame_out
  generalize (outsAt0 m c (t.val - 1) (Nat.lt_of_le_of_lt (Nat.sub_le _ _) t.isLt)).2 = prev
  match k with
  | 0 =>
    refine (canon_row_miss 2 _ _ _ 0 q (by decide)).trans ((canon_row_miss 1 _ _ _ 0 q (by decide)).trans ((canon_row_hit 0 _ _ _ 0 q rfl).trans ?_))
    rw [← part0, ← ld_row 0 inb_S3x1408_S1x1408_0_0 0 q prev rfl]
    pointwise [k0_pay4]
  | 1 =>
    refine (canon_row_miss 2 _ _ _ 1 q (by decide)).trans ((canon_row_hit 1 _ _ _ 1 q rfl).trans ?_)
    rw [← part1, ← ld_row 1 inb_S3x1408_S1x1408_1_0 1 q prev rfl]
    pointwise [k0_pay5]
  | 2 =>
    refine (canon_row_hit 2 _ _ _ 2 q rfl).trans ?_
    rw [← part2, ← ld_row 2 inb_S3x1408_S1x1408_2_0 2 q prev rfl]
    pointwise [k0_pay6]

/-- A column block's last point holds the sum over its tiles. -/
theorem acc (t : Fin cfg0.N) (ht : t.val % 16 = 16 - 1) (y : S3x1408.Idx) :
    (outsAt0 m c t.val t.isLt).2 y = ∑ s : Fin 16, part m c ⟨16 * (t.val / 16) + s.val, Pipeline.run_point_lt_of_flush t ht s⟩ y := by
  have h := Pipeline.eq_sum_fin_of_reset_step_apply_of_flush (fun n h => (outsAt0 m c n h).2) 16 (fun _ => (0 : EReal)) (part m c)
    (outs5A m c) (outs5B m c) t ht y
  rw [zero_add] at h
  exact h

/-! ## The result arrays -/

abbrev result4 : Buf (Elt Ideal) ((c : Thread nD τ).loc main_v2) := val_main_v47 (F := Ideal) (g m c) (w m c)
abbrev result5 : Buf (Elt Ideal) ((c : Thread nD τ).loc main_v1_1) := val_main_v44 (F := Ideal) (g m c) (up m c)

/-- The taps' gradient. -/
theorem final5 : (dats m 0 c).arrAt 5 cfg0.N = result5 m c := by
  refine (dats m 0 c).arrAt_eq_of_covers 5 _ (by decide +kernel) fun t hf y => ?_
  have hN : t.val < 32 := t.isLt
  have ht : t.val % 16 = 16 - 1 := (flush0_5 t).mp hf
  blk_simp
  rw [after0_5, acc m c t ht y]
  obtain ⟨k, q, rfl⟩ : ∃ (k : Fin 3) (q : Fin 1408), y = ix2 k q := ⟨y 0, y 1, funext fun a => match a with | ⟨0, _⟩ => rfl | ⟨1, _⟩ => rfl⟩
  have eG : ((cfg0.win 5).blk t).view.emb (ix2 k q) = ix2 k (col t q) := by
    blk_ext [idx t]
  rw [eG, result5, v44_apply, convDw]
  refine Fin.sum_mul_add_congr fun s i hl => ?_
  have hs : s.val < 16 := s.isLt
  have er : row ⟨16 * (t.val / 16) + s.val, Pipeline.run_point_lt_of_flush t ht s⟩ i = ⟨s.val * 512 + i.val, hl⟩ :=
    Fin.ext (by simp only; omega)
  have ec : col ⟨16 * (t.val / 16) + s.val, Pipeline.run_point_lt_of_flush t ht s⟩ q = col t q :=
    Fin.ext (by simp only; omega)
  show rowUp (fun r => g m c (ix2 r (col _ q))) (2 - k.val) (row _ i) * cols (up m c) (ix2 (row _ i) (col _ q)) = _
  rw [er, ec]

/-- This half's columns of the kernel's first array. -/
theorem final4 (R : Fin 8192) (j : Fin 2816) : (dats m 0 c).arrAt 4 cfg0.N (ix2 R ⟨j.val, by omega⟩) = result4 m c (ix2 R j) := by
  refine (dats m 0 c).arrAt_forall_of_coversWhere 4
    (fun (i : S8192x5632.Idx) v => ∀ j : Fin 2816, (i 1).val = j.val → v = result4 m c (ix2 (i 0) j))
    (fun β => β (1 : Fin 2) < 2) (by decide +kernel) (fun t hf y j hj => ?_) (fun p hp j hj => ?_)
    (ix2 R ⟨j.val, by omega⟩ : S8192x5632.Idx) (Memref.isWhole_whole _) j rfl
  · have hN : t.val < 32 := t.isLt
    blk_simp at hj ⊢
    rw [after0_4]
    have hi : win0_4.index t 1 = t.val / 16 := congrFun (idx t).2.2.2.2.1 1
    rw [hi] at hj
    obtain ⟨i, h0⟩ : ∃ i : Fin 512, i.val = (y 0).val := ⟨(cfg0.win 4).xinj (cfg0.grid.coords t) y 0, rfl⟩
    obtain ⟨q, h1⟩ : ∃ q : Fin 1408, q.val = (y 1).val := ⟨(cfg0.win 4).xinj (cfg0.grid.coords t) y 1, rfl⟩
    have ey : (cfg0.win 4).xinj (cfg0.grid.coords t) y = (ix2 i q : S512x1408.Idx) := by
      refine funext fun a => Fin.ext ?_
      match a with
      | ⟨0, _⟩ => exact h0.symm
      | ⟨1, _⟩ => exact h1.symm
    have eR : (win0_4.blk t).view.emb y 0 = row t i := by
      refine Fin.ext ?_
      blk_simp [idx t]
      show t.val % 16 * 512 + (y 0).val = 512 * (t.val % 16) + i.val
      omega
    have eC : j = col t q := Fin.ext (by simp only; omega)
    refine (congrFun (outs4 m c t) _).trans ((congrArg (k0_pay11 (F := Ideal) (grid0.coords t) (iblk m c 0 t) (iblk m c 1 t) (iblk m c 3 t)) ey).trans ?_)
    rw [eR, eC, result4, v47_apply, pay11_apply, pay9_apply, pay10_apply, tileUp_eq, tileUp_eq, pay7_apply, iblk0, iblk3, iblk3, iblk3]
  · blk_simp [Pipeline.Window.cell_apply] at hp hj
    exact absurd (by omega) hp

/-- What the host cuts from the kernel's first array after the region. -/
theorem tail_result : StableHlo.after hostOps1
    (Pipeline.withArrays spec0 c (V0 m c) fun w => (dats m 0 c).arrAt w cfg0.N) (Proc.devRef .tc main_v2)
      = extractStridedSlice S8192x2816 ![0, 0] ((dats m 0 c).arrAt 4 cfg0.N) slices_S8192x5632_S8192x2816_0_0 := by
  have h : Pipeline.withArrays spec0 c (V0 m c) (fun w => (dats m 0 c).arrAt w cfg0.N) (Proc.devRef .tc main_v1_0) = (dats m 0 c).arrAt 4 cfg0.N :=
    (dats m 0 c).withArrays_arrAt (by decide) (V0 m c) (A_eq m c) 4
  generalize Pipeline.withArrays spec0 c (V0 m c) (fun w => (dats m 0 c).arrAt w cfg0.N) = W at h
  rw [← h]
  unfold hostOps1
  after_results_simp <;> (try dsimp only [Matrix.cons_val]) <;> (try after_results_simp) <;> rfl

/-- The input's gradient. -/
theorem cut4 : extractStridedSlice S8192x2816 ![0, 0] ((dats m 0 c).arrAt 4 cfg0.N) slices_S8192x5632_S8192x2816_0_0 = result4 m c := by
  refine funext fun p => ?_
  obtain ⟨R, q, rfl⟩ : ∃ (R : Fin 8192) (q : Fin 2816), p = ix2 R q := ⟨p 0, p 1, funext fun a => match a with | ⟨0, _⟩ => rfl | ⟨1, _⟩ => rfl⟩
  rw [← final4]
  generalize (dats m 0 c).arrAt 4 cfg0.N = y
  refine congrArg y (funext fun a => Fin.ext ?_)
  match a with
  | ⟨0, _⟩ => simp
  | ⟨1, _⟩ => simp

end Cert.CgateKernelIdeal.Result

end
-- ==== Proof.CgateClaim.lean ====
/- The claims about the gradients through the gate half's convolution. -/
module

public import proofs.«01_k».proof.Defs
public import proofs.«01_k».proof.Proof.CgateValue
public import proofs.«01_k».proof.Proof.Gen.CgateReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The reference of the gate half's gradients runs to the end with every semaphore at zero and its arguments kept. -/
theorem cgate_reference_frame : Cert.quiescent_CgateReferenceIdeal (hCgateReferenceIdeal := Cert.CgateReferenceIdeal.Gen.facts) := fun m ρ _ =>
  (θ_run (Cert.CgateReferenceIdeal.defs (F := Ideal)) _ _).mono
    (fun r h => ⟨fun c => (h c).2.2, sem_eq_zero_of_no_sems (by decide) r.2⟩)
    (Cert.CgateReferenceIdeal.Value.run (F := Ideal) m ρ)

/-- THE VALUE of the gate half's gradients: the gate's columns of the kernel's first array and its second array are the
    reference's, at every input. -/
theorem cgate_algebraic : Cert.algebraic_CgateKernelIdeal_CgateReferenceIdeal (hCgateKernelIdeal := Cert.CgateKernelIdeal.Gen.facts)
    (hCgateReferenceIdeal := Cert.CgateReferenceIdeal.Gen.facts) := by
  intro m g m' g' _ hm
  refine ⟨fun c => Cert.CgateKernelIdeal.Result.result4 m c, fun c => Cert.CgateKernelIdeal.Result.result5 m c, ?_, ?_⟩
  · refine θ_run_mono (θ_run_and (Cert.CgateKernelIdeal.Gen.run_main (F := Ideal) m g) (Cert.CgateKernelIdeal.Gen.frame (F := Ideal) m g))
      fun r h c => ⟨((h.1 c).2 Cert.CgateKernelIdeal.main_v2 (by decide)).trans ?_,
        ((h.1 c).1 5).trans (Cert.CgateKernelIdeal.Result.final5 m c), h.2.1 c⟩
    exact (Cert.CgateKernelIdeal.Result.tail_result m c).trans (Cert.CgateKernelIdeal.Result.cut4 m c)
  · refine (θ_run (Cert.CgateReferenceIdeal.defs (F := Ideal)) _ _).mono
      (fun r h c => ⟨(h c).1.trans ?_, (h c).2.1.trans ?_, (h c).2.2⟩)
      (Cert.CgateReferenceIdeal.Value.run (F := Ideal) m' g')
    · obtain ⟨e0, e1, e2⟩ := hm c
      refine (Cert.CgateReferenceIdeal.Read.val_main_v47_eq (F := Ideal) _ _).trans ?_
      rw [e0, e2]
    · obtain ⟨e0, e1, e2⟩ := hm c
      refine (Cert.CgateReferenceIdeal.Read.val_main_v44_eq (F := Ideal) _ _).trans ?_
      rw [e0, e1]

end Cert.Proof

end
-- ==== Proof.CvalRef.lean ====
/- The reference of the gradients through the second half's convolution, read at an element: it is the first half's
   reference at other columns of the convolution's input. -/
module

public import proofs.«01_k».proof.Proof.CgateRef
public import proofs.«01_k».proof.Proof.Gen.CvalReferenceIdeal.Read

@[expose] public section

noncomputable section

namespace Cert.CvalReferenceIdeal.Ref

open Cert.CvalReferenceIdeal Cert.CvalReferenceIdeal.Gen Cert.CvalReferenceIdeal.Read Idealize.ShloMosaic Cert.Maths

variable (g : (⟨S8192x2816, .f32⟩ : BufTy).Contents (Elt Ideal)) (up : (⟨S8192x5632, .f32⟩ : BufTy).Contents (Elt Ideal))
  (w : (⟨S3x2816, .f32⟩ : BufTy).Contents (Elt Ideal))

/-- The columns the convolution reads. -/
abbrev cols : S8192x2816.Idx → EReal := val_main_v0 (F := Ideal) up

/-- The two halves of the columns changed over. -/
def swapped : (⟨S8192x5632, .f32⟩ : BufTy).Contents (Elt Ideal) := fun p =>
  up (ix2 (p 0) ⟨((p 1).val + 2816) % 5632, Nat.mod_lt _ (by decide)⟩)

theorem cols_swapped : Cert.CgateReferenceIdeal.Read.val_main_v0 (F := Ideal) (swapped up) = cols up := by
  refine funext fun p => ?_
  obtain ⟨R, j, rfl⟩ : ∃ (R : Fin 8192) (j : Fin 2816), p = ix2 R j := ⟨p 0, p 1, funext fun a => match a with | ⟨0, _⟩ => rfl | ⟨1, _⟩ => rfl⟩
  have e : cols up (ix2 R j) = up (ix2 R ⟨2816 + j.val, by omega⟩) := by
    pointwise [cols, val_main_v0]
  have e' : Cert.CgateReferenceIdeal.Read.val_main_v0 (F := Ideal) (swapped up) (ix2 R j) = swapped up (ix2 R ⟨j.val, by omega⟩) := by
    pointwise [Cert.CgateReferenceIdeal.Read.val_main_v0]
  rw [e, e', swapped]
  exact congrArg up (congrArg (ix2 R) (Fin.ext (by show (j.val + 2816) % 5632 = 2816 + j.val; omega)))

/-- The gradient of the convolution's input. -/
theorem v47_apply (R : Fin 8192) (j : Fin 2816) : val_main_v47 (F := Ideal) g w (ix2 R j) = convDx g w R j :=
  Cert.CgateReferenceIdeal.Ref.v47_apply g w R j

theorem v44_swapped : val_main_v44 (F := Ideal) g up = Cert.CgateReferenceIdeal.Read.val_main_v44 (F := Ideal) g (swapped up) := by
  unfold Cert.CgateReferenceIdeal.Read.val_main_v44 Cert.CgateReferenceIdeal.Read.val_main_v35 Cert.CgateReferenceIdeal.Read.val_main_v43
    Cert.CgateReferenceIdeal.Read.val_main_v34 Cert.CgateReferenceIdeal.Read.val_main_v26 Cert.CgateReferenceIdeal.Read.val_main_v40
    Cert.CgateReferenceIdeal.Read.val_main_v31 Cert.CgateReferenceIdeal.Read.val_main_v24 Cert.CgateReferenceIdeal.Read.val_main_v39
    Cert.CgateReferenceIdeal.Read.val_main_v30 Cert.CgateReferenceIdeal.Read.val_main_v23 Cert.CgateReferenceIdeal.Read.val_main_v38
    Cert.CgateReferenceIdeal.Read.val_main_v29 Cert.CgateReferenceIdeal.Read.val_main_v22 Cert.CgateReferenceIdeal.Read.val_main_v14
    Cert.CgateReferenceIdeal.Read.val_main_v9 Cert.CgateReferenceIdeal.Read.val_main_v5 Cert.CgateReferenceIdeal.Read.val_main_v2
  rw [cols_swapped]
  rfl

/-- The gradient of the taps. -/
theorem v44_apply (k : Fin 3) (j : Fin 2816) : val_main_v44 (F := Ideal) g up (ix2 k j) = convDw g (cols up) (2 - k.val) j := by
  rw [v44_swapped, Cert.CgateReferenceIdeal.Ref.v44_apply, Cert.CgateReferenceIdeal.Ref.cols, cols_swapped]

end Cert.CvalReferenceIdeal.Ref

end
-- ==== Proof.CvalValue.lean ====
/- The gradients through the second half's convolution: the kernel's two result arrays are the reference's. -/
module

public import Idealize.ShloMosaic.Lib.Pipeline.ValueKit
public import Idealize.ShloMosaic.Lib.Pipeline.ReadBack
public import proofs.«01_k».proof.Proof.RmsMath
public import proofs.«01_k».proof.Proof.CvalRef
public import proofs.«01_k».proof.Proof.CgateValue
public import proofs.«01_k».proof.Proof.Gen.CvalKernelIdeal.Frame

@[expose] public section

set_option maxRecDepth 16384

noncomputable section

namespace Cert.CvalKernelIdeal.Result

open Cert.CvalKernelIdeal Cert.CvalKernelIdeal.Gen Idealize.ShloMosaic Idealize.ShloMosaic.TcCoe Idealize.SL.Sem
open Cert.Maths Cert.CvalReferenceIdeal.Ref
open Cert.CvalReferenceIdeal.Read (val_main_v44 val_main_v47)

variable (m : (ℓ : Loc nD τ sig) → Buf (Elt Ideal) ℓ) (c : Dev nD)

/-! ## The payloads at an element -/

section
variable (co : grid0.Coords) (a : Vec Ideal S512x1408 .bf16) (b : Vec Ideal S16x1408 .bf16) (x : Vec Ideal S512x1408 .f32)
  (w : Vec Ideal S3x1408 .f32) (i : Fin 512) (q : Fin 1408)

theorem pay7_apply : k0_pay7 (F := Ideal) a (ix2 i q) = a (ix2 i q) := Cert.CgateKernelIdeal.Result.pay7_apply a i q

/-- The rows behind the tile, none behind the last. -/
theorem pay8_apply (r : Fin 8) : k0_pay8 (F := Ideal) co b (ix2 r q)
    = if (co 1).val < 15 then b (ix2 (⟨r.val, by omega⟩ : Fin 16) q) else 0 := Cert.CgateKernelIdeal.Result.pay8_apply co b q r

/-- The tile's rows two further down. -/
theorem pay9_apply : k0_pay9 (F := Ideal) co a b (ix2 i q) = tileUp (k0_pay7 (F := Ideal) a) (k0_pay8 (F := Ideal) co b) 2 (by omega) i q :=
  Cert.CgateKernelIdeal.Result.pay9_apply co a b i q

/-- The tile's rows one further down. -/
theorem pay10_apply : k0_pay10 (F := Ideal) co a b (ix2 i q) = tileUp (k0_pay7 (F := Ideal) a) (k0_pay8 (F := Ideal) co b) 1 (by omega) i q :=
  Cert.CgateKernelIdeal.Result.pay10_apply co a b i q

theorem pay11_apply : k0_pay11 (F := Ideal) co a b w (ix2 i q)
    = w (ix2 0 q) * k0_pay9 (F := Ideal) co a b (ix2 i q) + w (ix2 1 q) * k0_pay10 (F := Ideal) co a b (ix2 i q)
      + w (ix2 2 q) * k0_pay7 (F := Ideal) a (ix2 i q) := Cert.CgateKernelIdeal.Result.pay11_apply co a b w i q

theorem pay1_apply (y : FVec Ideal S512x1408 .f32) : k0_pay1 (F := Ideal) x y (ix2 0 q) = ∑ i : Fin 512, y (ix2 i q) * x (ix2 i q) :=
  Cert.CgateKernelIdeal.Result.pay1_apply x q y

theorem pay2_apply (y : FVec Ideal S512x1408 .f32) : k0_pay2 (F := Ideal) x y (ix2 0 q) = ∑ i : Fin 512, y (ix2 i q) * x (ix2 i q) :=
  Cert.CgateKernelIdeal.Result.pay2_apply x q y

theorem pay3_apply (y : FVec Ideal S512x1408 .f32) : k0_pay3 (F := Ideal) y x (ix2 0 q) = ∑ i : Fin 512, y (ix2 i q) * x (ix2 i q) :=
  Cert.CgateKernelIdeal.Result.pay3_apply x q y

end

/-! ## The blocks -/

/-- The block each window reads at a point. -/
theorem idx : ∀ t : Fin cfg0.N, win0_0.index t = ![t.val % 16, t.val / 16] ∧ win0_1.index t = ![min ((t.val % 16 + 1) * 32) 511, t.val / 16]
    ∧ win0_2.index t = ![t.val % 16, t.val / 16 + 2] ∧ win0_3.index t = ![0, t.val / 16] ∧ win0_4.index t = ![t.val % 16, t.val / 16 + 2]
    ∧ win0_5.index t = ![0, t.val / 16] :=
  (by decide +kernel : ∀ t : Fin grid0.N, win0_0.index t = ![t.val % 16, t.val / 16]
    ∧ win0_1.index t = ![min ((t.val % 16 + 1) * 32) 511, t.val / 16]
    ∧ win0_2.index t = ![t.val % 16, t.val / 16 + 2] ∧ win0_3.index t = ![0, t.val / 16] ∧ win0_4.index t = ![t.val % 16, t.val / 16 + 2]
    ∧ win0_5.index t = ![0, t.val / 16])

theorem coord1 : ∀ t : Fin cfg0.N, (grid0.coords t 1).val = t.val % 16 :=
  (by decide +kernel : ∀ t : Fin grid0.N, (grid0.coords t 1).val = t.val % 16)

/-- Row `i` of a point's tile, and its column `q`. -/
abbrev row (t : Fin cfg0.N) (i : Fin 512) : Fin 8192 := ⟨512 * (t.val % 16) + i.val, by omega⟩
abbrev col (t : Fin cfg0.N) (q : Fin 1408) : Fin 2816 := ⟨1408 * (t.val / 16) + q.val, by have : t.val < 32 := t.isLt; omega⟩

abbrev g : S8192x2816.Idx → EReal := m ((c : Thread nD τ).loc main_arg0)
abbrev up : S8192x5632.Idx → EReal := m ((c : Thread nD τ).loc main_arg1)
abbrev w : S3x2816.Idx → EReal := m ((c : Thread nD τ).loc main_arg2)

theorem V_g : V m c main_v0 = g m c := by
  show StableHlo.after (List.flatten [hostOps0]) (fun b => m (c, b)) main_v0 = _
  simp only [hostOps0, List.flatten_cons, List.flatten_nil, List.append_nil, List.cons_append]
  after_results_simp <;> rfl

section
variable (t : Fin cfg0.N) (i : Fin 512) (q : Fin 1408)

theorem iblk0 : (iblk m c 0 t : Vec Ideal S512x1408 .bf16) (ix2 i q) = g m c (ix2 (row t i) (col t q)) := by
  rw [← V_g]; blk_ext [iblk, idx t]

theorem iblk1 (h : t.val % 16 < 15) (r : Fin 16) (R : Fin 8192) (hR : R.val = 512 * (t.val % 16) + 512 + r.val) :
    (iblk m c 1 t : Vec Ideal S16x1408 .bf16) (ix2 r q) = g m c (ix2 R (col t q)) := by
  obtain ⟨R, hr⟩ := R
  obtain rfl : R = 512 * (t.val % 16) + 512 + r.val := hR
  rw [← V_g]; blk_ext [iblk, idx t]

theorem iblk2 : (iblk m c 2 t : Vec Ideal S512x1408 .f32) (ix2 i q) = cols (up m c) (ix2 (row t i) (col t q)) := by
  have e : cols (up m c) (ix2 (row t i) (col t q)) = up m c (ix2 (row t i) ⟨2816 + (col t q).val, by omega⟩) := by
    pointwise [cols, Cert.CvalReferenceIdeal.Read.val_main_v0]
  rw [e, up, ← V_main_arg1 m c]; blk_ext [iblk, idx t]

theorem iblk3 (k : Fin 3) : (iblk m c 3 t : Vec Ideal S3x1408 .f32) (ix2 k q) = w m c (ix2 k (col t q)) := by
  rw [w, ← V_main_arg2 m c]; blk_ext [iblk, idx t]

/-- A tile's rows further down are the array's. -/
theorem tileUp_eq (s : ℕ) (hs : s ≤ 8) : tileUp (k0_pay7 (F := Ideal) (iblk m c 0 t)) (k0_pay8 (F := Ideal) (grid0.coords t) (iblk m c 1 t)) s hs i q
    = rowUp (fun r => g m c (ix2 r (col t q))) s (row t i) := by
  rw [tileUp, rowUp]
  by_cases h : i.val + s < 512
  · rw [dif_pos h, dif_pos (by simp only; omega), pay7_apply, iblk0]
    exact congrArg (g m c) (congrArg (ix2 · (col t q)) (Fin.ext (Nat.add_assoc _ _ _).symm))
  · rw [dif_neg h, pay8_apply, coord1]
    by_cases ht : t.val % 16 < 15
    · rw [if_pos ht, dif_pos (by simp only; omega)]
      exact iblk1 m c t q ht _ _ (by simp only; omega)
    · rw [if_neg ht, dif_neg (by simp only; omega)]

end

/-! ## What a point leaves in the two output buffers -/

theorem outs4 (t : Fin cfg0.N) : (outsAt0 m c t.val t.isLt).1 = k0_pay11 (F := Ideal) (grid0.coords t) (iblk m c 0 t) (iblk m c 1 t) (iblk m c 3 t) := by
  have hN : t.val < 32 := t.isLt
  by_cases h : t.val % 16 = 0
  · rw [outsAt0_A m c t h (by omega)]; frame_out
  · rw [outsAt0_B m c t h (by omega)]; frame_out

/-- One tile's part of the taps' gradient. -/
abbrev part (t : Fin cfg0.N) : S3x1408.Idx → EReal := fun y =>
  ∑ i : Fin 512, rowUp (fun r => g m c (ix2 r (col t (y 1)))) (2 - (y 0).val) (row t i) * cols (up m c) (ix2 (row t i) (col t (y 1)))

section
variable (t : Fin cfg0.N) (q : Fin 1408)

theorem part0 : k0_pay1 (F := Ideal) (iblk m c 2 t) (k0_pay9 (F := Ideal) (grid0.coords t) (iblk m c 0 t) (iblk m c 1 t)) (ix2 0 q)
    = part m c t (ix2 0 q) := by
  rw [pay1_apply]
  simp only [pay9_apply, tileUp_eq, iblk2]
  rfl

theorem part1 : k0_pay2 (F := Ideal) (iblk m c 2 t) (k0_pay10 (F := Ideal) (grid0.coords t) (iblk m c 0 t) (iblk m c 1 t)) (ix2 0 q)
    = part m c t (ix2 1 q) := by
  rw [pay2_apply]
  simp only [pay10_apply, tileUp_eq, iblk2]
  rfl

theorem part2 : k0_pay3 (F := Ideal) (k0_pay7 (F := Ideal) (iblk m c 0 t)) (iblk m c 2 t) (ix2 0 q) = part m c t (ix2 2 q) := by
  rw [pay3_apply]
  simp only [pay7_apply, iblk0, iblk2]
  exact Finset.sum_congr rfl fun i _ => congrArg (· * _) (rowUp_zero (fun r => g m c (ix2 r (col t q))) (row t i)).symm

end

theorem outs5A (t : Fin cfg0.N) (h : t.val % 16 = 0) (y : S3x1408.Idx) : (outsAt0 m c t.val t.isLt).2 y = 0 + part m c t y := by
  obtain ⟨k, q, rfl⟩ : ∃ (k : Fin 3) (q : Fin 1408), y = ix2 k q := ⟨y 0, y 1, funext fun a => match a with | ⟨0, _⟩ => rfl | ⟨1, _⟩ => rfl⟩
  rw [outsAt0_A m c t h (by omega), zero_add]
  frame_out
  match k with
  | 0 =>
    refine (canon_row_miss 2 _ _ _ 0 q (by decide)).trans ((canon_row_miss 1 _ _ _ 0 q (by decide)).trans ((canon_row_hit 0 _ _ _ 0 q rfl).trans ?_))
    exact part0 m c t q
  | 1 => exact (canon_row_miss 2 _ _ _ 1 q (by decide)).trans ((canon_row_hit 1 _ _ _ 1 q rfl).trans (part1 m c t q))
  | 2 => exact (canon_row_hit 2 _ _ _ 2 q rfl).trans (part2 m c t q)

theorem outs5B (t : Fin cfg0.N) (h : ¬t.val % 16 = 0) (y : S3x1408.Idx) : (outsAt0 m c t.val t.isLt).2 y
    = (outsAt0 m c (t.val - 1) (Nat.lt_of_le_of_lt (Nat.sub_le _ _) t.isLt)).2 y + part m c t y := by
  obtain ⟨k, q, rfl⟩ : ∃ (k : Fin 3) (q : Fin 1408), y = ix2 k q := ⟨y 0, y 1, funext fun a => match a with | ⟨0, _⟩ => rfl | ⟨1, _⟩ => rfl⟩
  rw [outsAt0_B m c t h (by omega)]
  frame_out
  generalize (outsAt0 m c (t.val - 1) (Nat.lt_of_le_of_lt (Nat.sub_le _ _) t.isLt)).2 = prev
  match k with
  | 0 =>
    refine (canon_row_miss 2 _ _ _ 0 q (by decide)).trans ((canon_row_miss 1 _ _ _ 0 q (by decide)).trans ((canon_row_hit 0 _ _ _ 0 q rfl).trans ?_))
    rw [← part0, ← ld_row 0 inb_S3x1408_S1x1408_0_0 0 q prev rfl]
    pointwise [k0_pay4]
  | 1 =>
    refine (canon_row_miss 2 _ _ _ 1 q (by decide)).trans ((canon_row_hit 1 _ _ _ 1 q rfl).trans ?_)
    rw [← part1, ← ld_row 1 inb_S3x1408_S1x1408_1_0 1 q prev rfl]
    pointwise [k0_pay5]
  | 2 =>
    refine (canon_row_hit 2 _ _ _ 2 q rfl).trans ?_
    rw [← part2, ← ld_row 2 inb_S3x1408_S1x1408_2_0 2 q prev rfl]
    pointwise [k0_pay6]

/-- A column block's last point holds the sum over its tiles. -/
theorem acc (t : Fin cfg0.N) (ht : t.val % 16 = 16 - 1) (y : S3x1408.Idx) :
    (outsAt0 m c t.val t.isLt).2 y = ∑ s : Fin 16, part m c ⟨16 * (t.val / 16) + s.val, Pipeline.run_point_lt_of_flush t ht s⟩ y := by
  have h := Pipeline.eq_sum_fin_of_reset_step_apply_of_flush (fun n h => (outsAt0 m c n h).2) 16 (fun _ => (0 : EReal)) (part m c)
    (outs5A m c) (outs5B m c) t ht y
  rw [zero_add] at h
  exact h

/-! ## The result arrays -/

abbrev result4 : Buf (Elt Ideal) ((c : Thread nD τ).loc main_v2) := val_main_v47 (F := Ideal) (g m c) (w m c)
abbrev result5 : Buf (Elt Ideal) ((c : Thread nD τ).loc main_v1_1) := val_main_v44 (F := Ideal) (g m c) (up m c)

/-- The taps' gradient. -/
theorem final5 : (dats m 0 c).arrAt 5 cfg0.N = result5 m c := by
  refine (dats m 0 c).arrAt_eq_of_covers 5 _ (by decide +kernel) fun t hf y => ?_
  have hN : t.val < 32 := t.isLt
  have ht : t.val % 16 = 16 - 1 := (flush0_5 t).mp hf
  blk_simp
  rw [after0_5, acc m c t ht y]
  obtain ⟨k, q, rfl⟩ : ∃ (k : Fin 3) (q : Fin 1408), y = ix2 k q := ⟨y 0, y 1, funext fun a => match a with | ⟨0, _⟩ => rfl | ⟨1, _⟩ => rfl⟩
  have eG : ((cfg0.win 5).blk t).view.emb (ix2 k q) = ix2 k (col t q) := by
    blk_ext [idx t]
  rw [eG, result5, v44_apply, convDw]
  refine Fin.sum_mul_add_congr fun s i hl => ?_
  have hs : s.val < 16 := s.isLt
  have er : row ⟨16 * (t.val / 16) + s.val, Pipeline.run_point_lt_of_flush t ht s⟩ i = ⟨s.val * 512 + i.val, hl⟩ :=
    Fin.ext (by simp only; omega)
  have ec : col ⟨16 * (t.val / 16) + s.val, Pipeline.run_point_lt_of_flush t ht s⟩ q = col t q :=
    Fin.ext (by simp only; omega)
  show rowUp (fun r => g m c (ix2 r (col _ q))) (2 - k.val) (row _ i) * cols (up m c) (ix2 (row _ i) (col _ q)) = _
  rw [er, ec]

/-- This half's columns of the kernel's first array. -/
theorem final4 (R : Fin 8192) (j : Fin 2816) : (dats m 0 c).arrAt 4 cfg0.N (ix2 R ⟨2816 + j.val, by omega⟩) = result4 m c (ix2 R j) := by
  refine (dats m 0 c).arrAt_forall_of_coversWhere 4
    (fun (i : S8192x5632.Idx) v => ∀ j : Fin 2816, (i 1).val = 2816 + j.val → v = result4 m c (ix2 (i 0) j))
    (fun β => 2 ≤ β (1 : Fin 2)) (by decide +kernel) (fun t hf y j hj => ?_) (fun p hp j hj => ?_)
    (ix2 R ⟨2816 + j.val, by omega⟩ : S8192x5632.Idx) (Memref.isWhole_whole _) j rfl
  · have hN : t.val < 32 := t.isLt
    blk_simp at hj ⊢
    rw [after0_4]
    have hi : win0_4.index t 1 = t.val / 16 + 2 := congrFun (idx t).2.2.2.2.1 1
    rw [hi] at hj
    obtain ⟨i, h0⟩ : ∃ i : Fin 512, i.val = (y 0).val := ⟨(cfg0.win 4).xinj (cfg0.grid.coords t) y 0, rfl⟩
    obtain ⟨q, h1⟩ : ∃ q : Fin 1408, q.val = (y 1).val := ⟨(cfg0.win 4).xinj (cfg0.grid.coords t) y 1, rfl⟩
    have ey : (cfg0.win 4).xinj (cfg0.grid.coords t) y = (ix2 i q : S512x1408.Idx) := by
      refine funext fun a => Fin.ext ?_
      match a with
      | ⟨0, _⟩ => exact h0.symm
      | ⟨1, _⟩ => exact h1.symm
    have eR : (win0_4.blk t).view.emb y 0 = row t i := by
      refine Fin.ext ?_
      blk_simp [idx t]
      show t.val % 16 * 512 + (y 0).val = 512 * (t.val % 16) + i.val
      omega
    have eC : j = col t q := Fin.ext (by simp only; omega)
    refine (congrFun (outs4 m c t) _).trans ((congrArg (k0_pay11 (F := Ideal) (grid0.coords t) (iblk m c 0 t) (iblk m c 1 t) (iblk m c 3 t)) ey).trans ?_)
    rw [eR, eC, result4, v47_apply, pay11_apply, pay9_apply, pay10_apply, tileUp_eq, tileUp_eq, pay7_apply, iblk0, iblk3, iblk3, iblk3]
  · blk_simp [Pipeline.Window.cell_apply] at hp hj
    exact absurd (by omega) hp

/-- What the host cuts from the kernel's first array after the region. -/
theorem tail_result : StableHlo.after hostOps1
    (Pipeline.withArrays spec0 c (V0 m c) fun w => (dats m 0 c).arrAt w cfg0.N) (Proc.devRef .tc main_v2)
      = extractStridedSlice S8192x2816 ![0, 2816] ((dats m 0 c).arrAt 4 cfg0.N) slices_S8192x5632_S8192x2816_0_2816 := by
  have h : Pipeline.withArrays spec0 c (V0 m c) (fun w => (dats m 0 c).arrAt w cfg0.N) (Proc.devRef .tc main_v1_0) = (dats m 0 c).arrAt 4 cfg0.N :=
    (dats m 0 c).withArrays_arrAt (by decide) (V0 m c) (A_eq m c) 4
  generalize Pipeline.withArrays spec0 c (V0 m c) (fun w => (dats m 0 c).arrAt w cfg0.N) = W at h
  rw [← h]
  unfold hostOps1
  after_results_simp <;> (try dsimp only [Matrix.cons_val]) <;> (try after_results_simp) <;> rfl

/-- The input's gradient. -/
theorem cut4 : extractStridedSlice S8192x2816 ![0, 2816] ((dats m 0 c).arrAt 4 cfg0.N) slices_S8192x5632_S8192x2816_0_2816 = result4 m c := by
  refine funext fun p => ?_
  obtain ⟨R, q, rfl⟩ : ∃ (R : Fin 8192) (q : Fin 2816), p = ix2 R q := ⟨p 0, p 1, funext fun a => match a with | ⟨0, _⟩ => rfl | ⟨1, _⟩ => rfl⟩
  rw [← final4]
  generalize (dats m 0 c).arrAt 4 cfg0.N = y
  refine congrArg y (funext fun a => Fin.ext ?_)
  match a with
  | ⟨0, _⟩ => simp
  | ⟨1, _⟩ => simp

end Cert.CvalKernelIdeal.Result

end
-- ==== Proof.CvalClaim.lean ====
/- The claims about the gradients through the value half's convolution. -/
module

public import proofs.«01_k».proof.Defs
public import proofs.«01_k».proof.Proof.CvalValue
public import proofs.«01_k».proof.Proof.Gen.CvalReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The reference of the value half's gradients runs to the end with every semaphore at zero and its arguments kept. -/
theorem cval_reference_frame : Cert.quiescent_CvalReferenceIdeal (hCvalReferenceIdeal := Cert.CvalReferenceIdeal.Gen.facts) := fun m ρ _ =>
  (θ_run (Cert.CvalReferenceIdeal.defs (F := Ideal)) _ _).mono
    (fun r h => ⟨fun c => (h c).2.2, sem_eq_zero_of_no_sems (by decide) r.2⟩)
    (Cert.CvalReferenceIdeal.Value.run (F := Ideal) m ρ)

/-- THE VALUE of the value half's gradients: the value half's columns of the kernel's first array and its second array are the
    reference's, at every input. -/
theorem cval_algebraic : Cert.algebraic_CvalKernelIdeal_CvalReferenceIdeal (hCvalKernelIdeal := Cert.CvalKernelIdeal.Gen.facts)
    (hCvalReferenceIdeal := Cert.CvalReferenceIdeal.Gen.facts) := by
  intro m g m' g' _ hm
  refine ⟨fun c => Cert.CvalKernelIdeal.Result.result4 m c, fun c => Cert.CvalKernelIdeal.Result.result5 m c, ?_, ?_⟩
  · refine θ_run_mono (θ_run_and (Cert.CvalKernelIdeal.Gen.run_main (F := Ideal) m g) (Cert.CvalKernelIdeal.Gen.frame (F := Ideal) m g))
      fun r h c => ⟨((h.1 c).2 Cert.CvalKernelIdeal.main_v2 (by decide)).trans ?_,
        ((h.1 c).1 5).trans (Cert.CvalKernelIdeal.Result.final5 m c), h.2.1 c⟩
    exact (Cert.CvalKernelIdeal.Result.tail_result m c).trans (Cert.CvalKernelIdeal.Result.cut4 m c)
  · refine (θ_run (Cert.CvalReferenceIdeal.defs (F := Ideal)) _ _).mono
      (fun r h c => ⟨(h c).1.trans ?_, (h c).2.1.trans ?_, (h c).2.2⟩)
      (Cert.CvalReferenceIdeal.Value.run (F := Ideal) m' g')
    · obtain ⟨e0, e1, e2⟩ := hm c
      refine (Cert.CvalReferenceIdeal.Read.val_main_v47_eq (F := Ideal) _ _).trans ?_
      rw [e0, e2]
    · obtain ⟨e0, e1, e2⟩ := hm c
      refine (Cert.CvalReferenceIdeal.Read.val_main_v44_eq (F := Ideal) _ _).trans ?_
      rw [e0, e1]

end Cert.Proof

end
-- ==== Proof.GroupPerm.lean ====
/- The convolution's channels grouped by state group, and put back. -/
module

public import proofs.«01_k».proof.Proof.ConvMath

@[expose] public section

noncomputable section

namespace Cert.Maths

open Idealize.ShloMosaic

variable {M : ℕ}

/-- A matrix's columns `s … s + n - 1`. -/
abbrev piece (x : (⟨2, ![M, 3072]⟩ : Shape).Idx → EReal) (s n : ℕ) (h : s + n ≤ 3072) : (t : Shape) × (t.Idx → EReal) :=
  ⟨⟨2, ![M, n]⟩, extractStridedSlice ⟨2, ![M, n]⟩ ![0, s] x ⟨rfl, fun a => match a with
    | ⟨0, _⟩ => Nat.le_of_eq (Nat.zero_add M)
    | ⟨1, _⟩ => h⟩⟩

/-- The pieces of the grouped order: x, B and C of one state group side by side. -/
abbrev groupPieces (x : (⟨2, ![M, 3072]⟩ : Shape).Idx → EReal) : List ((t : Shape) × (t.Idx → EReal)) :=
  [piece x 0 512 (by decide), piece x 2048 128 (by decide), piece x 2560 128 (by decide), piece x 512 512 (by decide),
    piece x 2176 128 (by decide), piece x 2688 128 (by decide), piece x 1024 512 (by decide), piece x 2304 128 (by decide),
    piece x 2816 128 (by decide), piece x 1536 512 (by decide), piece x 2432 128 (by decide), piece x 2944 128 (by decide)]

/-- The pieces of the way back: the groups' x, then their B, then their C. -/
abbrev ungroupPieces (x : (⟨2, ![M, 3072]⟩ : Shape).Idx → EReal) : List ((t : Shape) × (t.Idx → EReal)) :=
  [piece x 0 512 (by decide), piece x 768 512 (by decide), piece x 1536 512 (by decide), piece x 2304 512 (by decide),
    piece x 512 128 (by decide), piece x 1280 128 (by decide), piece x 2048 128 (by decide), piece x 2816 128 (by decide),
    piece x 640 128 (by decide), piece x 1408 128 (by decide), piece x 2176 128 (by decide), piece x 2944 128 (by decide)]

theorem group_cat (x : (⟨2, ![M, 3072]⟩ : Shape).Idx → EReal) : Shape.Concatenates ((groupPieces x).map (·.1)) ⟨2, ![M, 3072]⟩ 1 := by
  refine ⟨by simp only [List.map_cons, List.length_cons]; omega, ?_, by simp⟩
  intro s hs
  simp only [List.map_cons, List.map_nil, List.mem_cons, List.not_mem_nil, or_false] at hs
  rcases hs with rfl | rfl | rfl | rfl | rfl | rfl | rfl | rfl | rfl | rfl | rfl | rfl <;>
    exact ⟨rfl, fun b hb => match b with | ⟨0, _⟩ => rfl | ⟨1, _⟩ => absurd rfl hb⟩

theorem ungroup_cat (x : (⟨2, ![M, 3072]⟩ : Shape).Idx → EReal) : Shape.Concatenates ((ungroupPieces x).map (·.1)) ⟨2, ![M, 3072]⟩ 1 := by
  refine ⟨by simp only [List.map_cons, List.length_cons]; omega, ?_, by simp⟩
  intro s hs
  simp only [List.map_cons, List.map_nil, List.mem_cons, List.not_mem_nil, or_false] at hs
  rcases hs with rfl | rfl | rfl | rfl | rfl | rfl | rfl | rfl | rfl | rfl | rfl | rfl <;>
    exact ⟨rfl, fun b hb => match b with | ⟨0, _⟩ => rfl | ⟨1, _⟩ => absurd rfl hb⟩

/-- The channels grouped, -/
def group (x : (⟨2, ![M, 3072]⟩ : Shape).Idx → EReal) : (⟨2, ![M, 3072]⟩ : Shape).Idx → EReal :=
  concatenate ⟨2, ![M, 3072]⟩ 1 (groupPieces x) (group_cat x)

/-- and put back. -/
def ungroup (x : (⟨2, ![M, 3072]⟩ : Shape).Idx → EReal) : (⟨2, ![M, 3072]⟩ : Shape).Idx → EReal :=
  concatenate ⟨2, ![M, 3072]⟩ 1 (ungroupPieces x) (ungroup_cat x)

/-- The number of the channel that column `q` of the grouped order holds. -/
def channelN (q : ℕ) : ℕ :=
  if q % 768 < 512 then 512 * (q / 768) + q % 768
  else if q % 768 < 640 then 2048 + 128 * (q / 768) + (q % 768 - 512)
  else 2560 + 128 * (q / 768) + (q % 768 - 640)

/-- The number of the column of the grouped order that holds channel `j`. -/
def placeN (j : ℕ) : ℕ :=
  if j < 2048 then 768 * (j / 512) + j % 512
  else if j < 2560 then 768 * ((j - 2048) / 128) + 512 + (j - 2048) % 128
  else 768 * ((j - 2560) / 128) + 640 + (j - 2560) % 128

theorem channelN_lt (q : ℕ) (h : q < 3072) : channelN q < 3072 := by
  unfold channelN
  by_cases c : q % 768 < 512
  · rw [if_pos c]; omega
  rw [if_neg c]
  by_cases d : q % 768 < 640
  · rw [if_pos d]; omega
  rw [if_neg d]; omega

theorem placeN_lt (j : ℕ) (h : j < 3072) : placeN j < 3072 := by
  unfold placeN
  by_cases c : j < 2048
  · rw [if_pos c]; omega
  rw [if_neg c]
  by_cases d : j < 2560
  · rw [if_pos d]; omega
  rw [if_neg d]; omega

theorem channelN_placeN (j : ℕ) (h : j < 3072) : channelN (placeN j) = j := by
  unfold placeN
  by_cases c : j < 2048
  · rw [if_pos c]
    unfold channelN
    rw [if_pos (by omega)]; omega
  rw [if_neg c]
  by_cases d : j < 2560
  · rw [if_pos d]
    unfold channelN
    rw [if_neg (by omega), if_pos (by omega)]; omega
  rw [if_neg d]
  unfold channelN
  rw [if_neg (by omega), if_neg (by omega)]; omega

/-- The channel a column of the grouped order holds. -/
def channel (q : Fin 3072) : Fin 3072 := ⟨channelN q.val, channelN_lt q.val q.isLt⟩

/-- The column of the grouped order that holds a channel. -/
def place (j : Fin 3072) : Fin 3072 := ⟨placeN j.val, placeN_lt j.val j.isLt⟩

theorem channel_place (j : Fin 3072) : channel (place j) = j := Fin.ext (channelN_placeN j.val j.isLt)

/-- The widths of the first pieces of a list, added up. -/
abbrev colsTo (xs : List ((t : Shape) × (t.Idx → EReal))) (i : ℕ) : ℕ :=
  (((xs.take i).map (·.1)).map fun s => if h : s.rank = 2 then s.size ((1 : Fin 2).cast h.symm) else 0).sum

/-- A column inside piece `i` of a list of pieces laid side by side is the column that piece was cut from. -/
theorem piece_col (xs : List ((t : Shape) × (t.Idx → EReal))) (hc : Shape.Concatenates (xs.map (·.1)) ⟨2, ![M, 3072]⟩ 1)
    (x : (⟨2, ![M, 3072]⟩ : Shape).Idx → EReal) (R : Fin M) (i len pre src : ℕ) (hi : i < xs.length) (hl : src + len ≤ 3072)
    (hx : xs[i] = piece x src len hl) (hpre : colsTo xs i = pre) (q : Fin 3072) (h1 : pre ≤ q.val) (h2 : q.val < pre + len)
    (p : Fin 3072) (hp : p.val = src + (q.val - pre)) :
    concatenate ⟨2, ![M, 3072]⟩ 1 xs hc (ix2 R q) = x (ix2 R p) := by
  refine (cat_axis1 xs hc i hi _ hx pre hpre R q (⟨q.val - pre, by omega⟩ : Fin len) (by simp only; omega)).trans ?_
  exact extractStridedSlice_apply _ _ _ _ (ix2 R p) fun a => match a with
    | ⟨0, _⟩ => (Nat.zero_add _).symm
    | ⟨1, _⟩ => hp

variable (x : (⟨2, ![M, 3072]⟩ : Shape).Idx → EReal) (R : Fin M)

theorem group_apply (q : Fin 3072) : group x (ix2 R q) = x (ix2 R (channel q)) := by
  have hv : (channel q).val = channelN q.val := rfl
  unfold channelN at hv
  have hq := q.isLt
  generalize channel q = p at hv
  unfold group
  by_cases c0 : q.val < 512
  · exact piece_col (groupPieces x) (group_cat x) x R 0 512 0 0 (of_decide_eq_true rfl) (by decide) rfl (by simp [colsTo]) q (by omega) (by omega) p (by split_ifs at hv <;> omega)
  by_cases c1 : q.val < 640
  · exact piece_col (groupPieces x) (group_cat x) x R 1 128 512 2048 (of_decide_eq_true rfl) (by decide) rfl (by simp [colsTo]) q (by omega) (by omega) p (by split_ifs at hv <;> omega)
  by_cases c2 : q.val < 768
  · exact piece_col (groupPieces x) (group_cat x) x R 2 128 640 2560 (of_decide_eq_true rfl) (by decide) rfl (by simp [colsTo]) q (by omega) (by omega) p (by split_ifs at hv <;> omega)
  by_cases c3 : q.val < 1280
  · exact piece_col (groupPieces x) (group_cat x) x R 3 512 768 512 (of_decide_eq_true rfl) (by decide) rfl (by simp [colsTo]) q (by omega) (by omega) p (by split_ifs at hv <;> omega)
  by_cases c4 : q.val < 1408
  · exact piece_col (groupPieces x) (group_cat x) x R 4 128 1280 2176 (of_decide_eq_true rfl) (by decide) rfl (by simp [colsTo]) q (by omega) (by omega) p (by split_ifs at hv <;> omega)
  by_cases c5 : q.val < 1536
  · exact piece_col (groupPieces x) (group_cat x) x R 5 128 1408 2688 (of_decide_eq_true rfl) (by decide) rfl (by simp [colsTo]) q (by omega) (by omega) p (by split_ifs at hv <;> omega)
  by_cases c6 : q.val < 2048
  · exact piece_col (groupPieces x) (group_cat x) x R 6 512 1536 1024 (of_decide_eq_true rfl) (by decide) rfl (by simp [colsTo]) q (by omega) (by omega) p (by split_ifs at hv <;> omega)
  by_cases c7 : q.val < 2176
  · exact piece_col (groupPieces x) (group_cat x) x R 7 128 2048 2304 (of_decide_eq_true rfl) (by decide) rfl (by simp [colsTo]) q (by omega) (by omega) p (by split_ifs at hv <;> omega)
  by_cases c8 : q.val < 2304
  · exact piece_col (groupPieces x) (group_cat x) x R 8 128 2176 2816 (of_decide_eq_true rfl) (by decide) rfl (by simp [colsTo]) q (by omega) (by omega) p (by split_ifs at hv <;> omega)
  by_cases c9 : q.val < 2816
  · exact piece_col (groupPieces x) (group_cat x) x R 9 512 2304 1536 (of_decide_eq_true rfl) (by decide) rfl (by simp [colsTo]) q (by omega) (by omega) p (by split_ifs at hv <;> omega)
  by_cases c10 : q.val < 2944
  · exact piece_col (groupPieces x) (group_cat x) x R 10 128 2816 2432 (of_decide_eq_true rfl) (by decide) rfl (by simp [colsTo]) q (by omega) (by omega) p (by split_ifs at hv <;> omega)
  exact piece_col (groupPieces x) (group_cat x) x R 11 128 2944 2944 (of_decide_eq_true rfl) (by decide) rfl (by simp [colsTo]) q (by omega) (by omega) p (by split_ifs at hv <;> omega)

theorem ungroup_apply (q : Fin 3072) : ungroup x (ix2 R q) = x (ix2 R (place q)) := by
  have hv : (place q).val = placeN q.val := rfl
  unfold placeN at hv
  have hq := q.isLt
  generalize place q = p at hv
  unfold ungroup
  by_cases c0 : q.val < 512
  · exact piece_col (ungroupPieces x) (ungroup_cat x) x R 0 512 0 0 (of_decide_eq_true rfl) (by decide) rfl (by simp [colsTo]) q (by omega) (by omega) p (by split_ifs at hv <;> omega)
  by_cases c1 : q.val < 1024
  · exact piece_col (ungroupPieces x) (ungroup_cat x) x R 1 512 512 768 (of_decide_eq_true rfl) (by decide) rfl (by simp [colsTo]) q (by omega) (by omega) p (by split_ifs at hv <;> omega)
  by_cases c2 : q.val < 1536
  · exact piece_col (ungroupPieces x) (ungroup_cat x) x R 2 512 1024 1536 (of_decide_eq_true rfl) (by decide) rfl (by simp [colsTo]) q (by omega) (by omega) p (by split_ifs at hv <;> omega)
  by_cases c3 : q.val < 2048
  · exact piece_col (ungroupPieces x) (ungroup_cat x) x R 3 512 1536 2304 (of_decide_eq_true rfl) (by decide) rfl (by simp [colsTo]) q (by omega) (by omega) p (by split_ifs at hv <;> omega)
  by_cases c4 : q.val < 2176
  · exact piece_col (ungroupPieces x) (ungroup_cat x) x R 4 128 2048 512 (of_decide_eq_true rfl) (by decide) rfl (by simp [colsTo]) q (by omega) (by omega) p (by split_ifs at hv <;> omega)
  by_cases c5 : q.val < 2304
  · exact piece_col (ungroupPieces x) (ungroup_cat x) x R 5 128 2176 1280 (of_decide_eq_true rfl) (by decide) rfl (by simp [colsTo]) q (by omega) (by omega) p (by split_ifs at hv <;> omega)
  by_cases c6 : q.val < 2432
  · exact piece_col (ungroupPieces x) (ungroup_cat x) x R 6 128 2304 2048 (of_decide_eq_true rfl) (by decide) rfl (by simp [colsTo]) q (by omega) (by omega) p (by split_ifs at hv <;> omega)
  by_cases c7 : q.val < 2560
  · exact piece_col (ungroupPieces x) (ungroup_cat x) x R 7 128 2432 2816 (of_decide_eq_true rfl) (by decide) rfl (by simp [colsTo]) q (by omega) (by omega) p (by split_ifs at hv <;> omega)
  by_cases c8 : q.val < 2688
  · exact piece_col (ungroupPieces x) (ungroup_cat x) x R 8 128 2560 640 (of_decide_eq_true rfl) (by decide) rfl (by simp [colsTo]) q (by omega) (by omega) p (by split_ifs at hv <;> omega)
  by_cases c9 : q.val < 2816
  · exact piece_col (ungroupPieces x) (ungroup_cat x) x R 9 128 2688 1408 (of_decide_eq_true rfl) (by decide) rfl (by simp [colsTo]) q (by omega) (by omega) p (by split_ifs at hv <;> omega)
  by_cases c10 : q.val < 2944
  · exact piece_col (ungroupPieces x) (ungroup_cat x) x R 10 128 2816 2176 (of_decide_eq_true rfl) (by decide) rfl (by simp [colsTo]) q (by omega) (by omega) p (by split_ifs at hv <;> omega)
  exact piece_col (ungroupPieces x) (ungroup_cat x) x R 11 128 2944 2944 (of_decide_eq_true rfl) (by decide) rfl (by simp [colsTo]) q (by omega) (by omega) p (by split_ifs at hv <;> omega)

end Cert.Maths

end
-- ==== Proof.CssdHost.lean ====
/- The gradients through the scan's convolution: what the host hands the kernel, and what it makes of the kernel's arrays. -/
module

public import Idealize.ShloMosaic.Lib.Pipeline.ValueKit
public import Idealize.ShloMosaic.Lib.Pipeline.ReadBack
public import proofs.«01_k».proof.Proof.GroupPerm
public import proofs.«01_k».proof.Proof.Gen.CssdKernelIdeal.Frame

@[expose] public section

set_option maxRecDepth 16384

noncomputable section

namespace Cert.CssdKernelIdeal.Result

open Cert.CssdKernelIdeal Cert.CssdKernelIdeal.Gen Idealize.ShloMosaic Idealize.ShloMosaic.TcCoe Idealize.SL.Sem
open Cert.Maths

variable (m : (ℓ : Loc nD τ sig) → Buf (Elt Ideal) ℓ) (c : Dev nD)

abbrev g : S8192x3072.Idx → EReal := m ((c : Thread nD τ).loc main_arg0)
abbrev x : S8192x3072.Idx → EReal := m ((c : Thread nD τ).loc main_arg1)
abbrev w : S4x3072.Idx → EReal := m ((c : Thread nD τ).loc main_arg2)

/-- The cotangent the region finds, its channels grouped, -/
theorem V_g : V m c main_v28 = group (g m c) := by
  show StableHlo.after (List.flatten [hostOps0]) (fun b => m (c, b)) main_v28 = _
  simp only [hostOps0, List.flatten_cons, List.flatten_nil, List.append_nil, List.cons_append]
  after_results_simp <;> (try dsimp only [Matrix.cons_val]) <;> (try after_results_simp) <;> rfl

/-- the input behind the projection's other columns, -/
theorem V_x : V m c main_v14 = concatenate S8192x9216 1
    [⟨S8192x6144, broadcastInDim S8192x6144 ![] bcast_S_S8192x6144 (constant (F := Ideal) S_ .f32 0x00000000#32)⟩, ⟨S8192x3072, group (x m c)⟩]
    concatenates_S8192x6144_S8192x3072_S8192x9216_d1 := by
  show StableHlo.after (List.flatten [hostOps0]) (fun b => m (c, b)) main_v14 = _
  simp only [hostOps0, List.flatten_cons, List.flatten_nil, List.append_nil, List.cons_append]
  after_results_simp <;> (try dsimp only [Matrix.cons_val]) <;> (try after_results_simp) <;> rfl

/-- which the kernel reads, -/
theorem V_x_apply (R : Fin 8192) (C : Fin 9216) (q : Fin 3072) (h : C.val = 6144 + q.val) :
    (V m c main_v14 : S8192x9216.Idx → EReal) (ix2 R C) = group (x m c) (ix2 R q) := by
  rw [V_x]
  exact cat_axis1 (n₁ := 3072) [⟨S8192x6144, broadcastInDim S8192x6144 ![] bcast_S_S8192x6144 (constant (F := Ideal) S_ .f32 0x00000000#32)⟩,
    ⟨S8192x3072, group (x m c)⟩] concatenates_S8192x6144_S8192x3072_S8192x9216_d1 1 (Nat.lt_succ_self 1) _ rfl 6144 rfl R C q h.symm

/-- and the taps. -/
theorem V_w : V m c main_v41 = group (w m c) := by
  show StableHlo.after (List.flatten [hostOps0]) (fun b => m (c, b)) main_v41 = _
  simp only [hostOps0, List.flatten_cons, List.flatten_nil, List.append_nil, List.cons_append]
  after_results_simp <;> (try dsimp only [Matrix.cons_val]) <;> (try after_results_simp) <;> rfl

/-- After the region the host cuts the scan's columns from the first array and puts their channels back, -/
theorem tail_dx : StableHlo.after hostOps1
    (Pipeline.withArrays spec0 c (V0 m c) fun w => (dats m 0 c).arrAt w cfg0.N) (Proc.devRef .tc main_v56)
      = ungroup (extractStridedSlice S8192x3072 ![0, 6144] ((dats m 0 c).arrAt 4 cfg0.N) slices_S8192x9216_S8192x3072_0_6144) := by
  have h : Pipeline.withArrays spec0 c (V0 m c) (fun w => (dats m 0 c).arrAt w cfg0.N) (Proc.devRef .tc main_v42_0) = (dats m 0 c).arrAt 4 cfg0.N :=
    (dats m 0 c).withArrays_arrAt (by decide) (V0 m c) (A_eq m c) 4
  generalize Pipeline.withArrays spec0 c (V0 m c) (fun w => (dats m 0 c).arrAt w cfg0.N) = W at h
  rw [← h]
  unfold hostOps1
  after_results_simp <;> (try dsimp only [Matrix.cons_val]) <;> (try after_results_simp) <;> rfl

/-- and puts the second array's channels back. -/
theorem tail_dw : StableHlo.after hostOps1
    (Pipeline.withArrays spec0 c (V0 m c) fun w => (dats m 0 c).arrAt w cfg0.N) (Proc.devRef .tc main_v69) = ungroup ((dats m 0 c).arrAt 5 cfg0.N) := by
  have h : Pipeline.withArrays spec0 c (V0 m c) (fun w => (dats m 0 c).arrAt w cfg0.N) (Proc.devRef .tc main_v42_1) = (dats m 0 c).arrAt 5 cfg0.N :=
    (dats m 0 c).withArrays_arrAt (by decide) (V0 m c) (A_eq m c) 5
  generalize Pipeline.withArrays spec0 c (V0 m c) (fun w => (dats m 0 c).arrAt w cfg0.N) = W at h
  rw [← h]
  unfold hostOps1
  after_results_simp <;> (try dsimp only [Matrix.cons_val]) <;> (try after_results_simp) <;> rfl

end Cert.CssdKernelIdeal.Result

end
-- ==== Proof.CssdRef.lean ====
/- The reference of the gradients through the scan's convolution, read at an element. -/
module

public import proofs.«01_k».proof.Proof.ConvMath
public import proofs.«01_k».proof.Proof.Gen.CssdReferenceIdeal.Read

@[expose] public section

noncomputable section

namespace Cert.CssdReferenceIdeal.Ref

open Cert.CssdReferenceIdeal Cert.CssdReferenceIdeal.Gen Cert.CssdReferenceIdeal.Read Idealize.ShloMosaic Cert.Maths

variable (g x : (⟨S8192x3072, .f32⟩ : BufTy).Contents (Elt Ideal)) (w : (⟨S4x3072, .f32⟩ : BufTy).Contents (Elt Ideal))

section
variable (R : Fin 8195) (j : Fin 3072)

/-- The last tap's part of the padded input's gradient. -/
theorem v29_apply (r : Fin 8192) (h : R.val = 3 + r.val) : val_main_v29 (F := Ideal) g w (ix2 R j) = w (ix2 3 j) * g (ix2 r j) := by
  unfold val_main_v29
  refine (pad_rows_inside _ _ _ _ R r j h).trans ?_
  pointwise [val_main_v25, val_main_v24, val_main_v23, val_main_v17]

/-- The third's. -/
theorem v36_apply (r : Fin 8192) (h : R.val = 3 + r.val) : val_main_v36 (F := Ideal) g w (ix2 R j) = w (ix2 2 j) * rowUp (fun r => g (ix2 r j)) 1 r := by
  unfold val_main_v36
  by_cases hr : r.val + 1 < 8192
  · refine (pad_rows_inside _ _ _ _ R ⟨r.val + 1, hr⟩ j (by simp only; omega)).trans ?_
    rw [rowUp, dif_pos hr]
    pointwise [val_main_v32, val_main_v31, val_main_v22, val_main_v12]
  · refine (pad_rows_outside _ _ _ _ R j (by omega)).trans ?_
    rw [rowUp, dif_neg hr, mul_zero]
    pointwise [val_main_cst_5]

/-- The second's. -/
theorem v45_apply (r : Fin 8192) (h : R.val = 3 + r.val) : val_main_v45 (F := Ideal) g w (ix2 R j) = w (ix2 1 j) * rowUp (fun r => g (ix2 r j)) 2 r := by
  unfold val_main_v45
  by_cases hr : r.val + 2 < 8192
  · refine (pad_rows_inside _ _ _ _ R ⟨r.val + 2, hr⟩ j (by simp only; omega)).trans ?_
    rw [rowUp, dif_pos hr]
    pointwise [val_main_v41, val_main_v40, val_main_v22, val_main_v7]
  · refine (pad_rows_outside _ _ _ _ R j (by omega)).trans ?_
    rw [rowUp, dif_neg hr, mul_zero]
    pointwise [val_main_cst_8]

/-- The first's. -/
theorem v54_apply (r : Fin 8192) (h : R.val = 3 + r.val) : val_main_v54 (F := Ideal) g w (ix2 R j) = w (ix2 0 j) * rowUp (fun r => g (ix2 r j)) 3 r := by
  unfold val_main_v54
  by_cases hr : r.val + 3 < 8192
  · refine (pad_rows_inside _ _ _ _ R ⟨r.val + 3, hr⟩ j (by simp only; omega)).trans ?_
    rw [rowUp, dif_pos hr]
    pointwise [val_main_v50, val_main_v49, val_main_v22, val_main_v3]
  · refine (pad_rows_outside _ _ _ _ R j (by omega)).trans ?_
    rw [rowUp, dif_neg hr, mul_zero]
    pointwise [val_main_cst_11]

end

/-- The gradient of the convolution's input. -/
theorem v60_apply (R : Fin 8192) (j : Fin 3072) : val_main_v60 (F := Ideal) g w (ix2 R j) = convDx4 g w R j := by
  have e : val_main_v60 (F := Ideal) g w (ix2 R j) = val_main_v55 (F := Ideal) g w (ix2 (⟨3 + R.val, by omega⟩ : Fin 8195) j) := by
    pointwise [val_main_v60, val_main_v59]
  rw [e]
  show val_main_v29 (F := Ideal) g w _ + val_main_v36 (F := Ideal) g w _ + val_main_v45 (F := Ideal) g w _ + val_main_v54 (F := Ideal) g w _ = _
  rw [v29_apply g w _ j R rfl, v36_apply g w _ j R rfl, v45_apply g w _ j R rfl, v54_apply g w _ j R rfl, convDx4]
  abel

/-- The convolution's input behind its three rows of zeros, `k` rows on. -/
theorem v1_apply (k : ℕ) (hk : k ≤ 3) (R : Fin 8192) (j : Fin 3072) (P : Fin 8195) (hP : P.val = k + R.val) :
    val_main_v1 (F := Ideal) x (ix2 P j) = rowDown (fun r => x (ix2 r j)) (3 - k) R := by
  unfold val_main_v1
  rw [rowDown]
  by_cases h : 3 - k ≤ R.val
  · rw [if_pos h]
    exact cat_axis0 (m₁ := 8192) [⟨S3x3072, val_main_v0 (F := Ideal)⟩, ⟨S8192x3072, x⟩]
      concatenates_S3x3072_S8192x3072_S8195x3072_d0 1 (Nat.lt_succ_self 1) _ rfl 3 rfl P j ⟨R.val - (3 - k), by omega⟩ (by simp only; omega)
  · rw [if_neg h]
    refine (cat_axis0 (m₁ := 3) [⟨S3x3072, val_main_v0 (F := Ideal)⟩, ⟨S8192x3072, x⟩]
      concatenates_S3x3072_S8192x3072_S8195x3072_d0 0 (Nat.lt_add_left 1 Nat.one_pos) _ rfl 0 rfl P j ⟨P.val, by omega⟩ (Nat.zero_add _)).trans ?_
    pointwise [val_main_v0, val_main_cst]

section
variable (j : Fin 3072)

theorem v28_apply : val_main_v28 (F := Ideal) g x (ix2 0 j) = convDw g x 0 j := by
  rw [convDw, sum_rowUp _ _ 0 (by omega)]
  pointwise [val_main_v28, val_main_v27, val_main_v26, val_main_v23, val_main_v18, val_main_cst_1]
  exact Finset.sum_congr rfl fun R _ => congrArg _ (v1_apply x 3 (by omega) R j _ rfl)

theorem v35_apply : val_main_v35 (F := Ideal) g x (ix2 0 j) = convDw g x 1 j := by
  rw [convDw, sum_rowUp _ _ 1 (by omega)]
  pointwise [val_main_v35, val_main_v34, val_main_v33, val_main_v22, val_main_v13, val_main_cst_4]
  exact Finset.sum_congr rfl fun R _ => congrArg _ (v1_apply x 2 (by omega) R j _ rfl)

theorem v44_apply : val_main_v44 (F := Ideal) g x (ix2 0 j) = convDw g x 2 j := by
  rw [convDw, sum_rowUp _ _ 2 (by omega)]
  pointwise [val_main_v44, val_main_v43, val_main_v42, val_main_v22, val_main_v8, val_main_cst_7]
  exact Finset.sum_congr rfl fun R _ => congrArg _ (v1_apply x 1 (by omega) R j _ rfl)

theorem v53_apply : val_main_v53 (F := Ideal) g x (ix2 0 j) = convDw g x 3 j := by
  rw [convDw, sum_rowUp _ _ 3 (by omega)]
  pointwise [val_main_v53, val_main_v52, val_main_v51, val_main_v22, val_main_v4, val_main_cst_10]
  exact Finset.sum_congr rfl fun R _ => congrArg _ (v1_apply x 0 (by omega) R j _ (Nat.zero_add _).symm)

/-- The gradient of the taps. -/
theorem v57_apply (k : Fin 4) : val_main_v57 (F := Ideal) g x (ix2 k j) = convDw g x (3 - k.val) j := by
  show val_main_v30 (F := Ideal) g x _ + val_main_v38 (F := Ideal) g x _ + val_main_v47 (F := Ideal) g x _ + val_main_v56 (F := Ideal) g x _ = _
  unfold val_main_v30 val_main_v38 val_main_v47 val_main_v56
  match k with
  | 0 =>
    rw [pad_rows_outside _ _ _ _ 0 j (by decide), pad_rows_outside _ _ _ _ 0 j (by decide), pad_rows_outside _ _ _ _ 0 j (by decide), pad_rows_inside _ _ _ _ 0 0 j rfl, v53_apply]
    pointwise [val_main_cst_3, val_main_cst_6, val_main_cst_9]
  | 1 =>
    rw [pad_rows_outside _ _ _ _ 1 j (by decide), pad_rows_outside _ _ _ _ 1 j (by decide), pad_rows_inside _ _ _ _ 1 0 j rfl, pad_rows_outside _ _ _ _ 1 j (by decide), v44_apply]
    pointwise [val_main_cst_3, val_main_cst_6, val_main_cst_12]
  | 2 =>
    rw [pad_rows_outside _ _ _ _ 2 j (by decide), pad_rows_inside _ _ _ _ 2 0 j rfl, pad_rows_outside _ _ _ _ 2 j (by decide), pad_rows_outside _ _ _ _ 2 j (by decide), v35_apply]
    pointwise [val_main_cst_3, val_main_cst_9, val_main_cst_12]
  | 3 =>
    rw [pad_rows_inside _ _ _ _ 3 0 j rfl, pad_rows_outside _ _ _ _ 3 j (by decide), pad_rows_outside _ _ _ _ 3 j (by decide), pad_rows_outside _ _ _ _ 3 j (by decide), v28_apply]
    pointwise [val_main_cst_6, val_main_cst_9, val_main_cst_12]

end

end Cert.CssdReferenceIdeal.Ref

end
-- ==== Proof.CssdValue.lean ====
/- The gradients through the scan's convolution: the two results the host makes of the kernel's arrays are the reference's. -/
module

public import proofs.«01_k».proof.Proof.RmsMath
public import proofs.«01_k».proof.Proof.CssdHost
public import proofs.«01_k».proof.Proof.CssdRef

@[expose] public section

set_option maxRecDepth 16384

noncomputable section

namespace Cert.CssdKernelIdeal.Result

open Cert.CssdKernelIdeal Cert.CssdKernelIdeal.Gen Idealize.ShloMosaic Idealize.ShloMosaic.TcCoe Idealize.SL.Sem
open Cert.Maths Cert.CssdReferenceIdeal.Ref
open Cert.CssdReferenceIdeal.Read (val_main_v57 val_main_v60)

variable (m : (ℓ : Loc nD τ sig) → Buf (Elt Ideal) ℓ) (c : Dev nD)

/-! ## The payloads at an element -/

section
variable (co : grid0.Coords) (a : Vec Ideal S512x1536 .bf16) (b : Vec Ideal S16x1536 .bf16) (i : Fin 512) (q : Fin 1536)

theorem pay11_apply : k0_pay11 (F := Ideal) a (ix2 i q) = a (ix2 i q) := by
  pointwise [k0_pay11]

/-- The rows behind the tile, none behind the last. -/
theorem pay12_apply (r : Fin 8) : k0_pay12 (F := Ideal) co b (ix2 r q)
    = if (co 1).val < 15 then b (ix2 (⟨r.val, by omega⟩ : Fin 16) q) else 0 := by
  have hc : (co 1).val < 16 := (co 1).isLt
  have hall : ∀ k : Fin 16, Scalar.cmpi .slt (BitVec.ofNat 32 k.val) 15#32 = if k.val < 15 then 1#1 else 0#1 := by decide
  have hk : Scalar.cmpi .slt (BitVec.ofNat 32 (co 1).val) 15#32 = if (co 1).val < 15 then 1#1 else 0#1 := hall ⟨(co 1).val, hc⟩
  unfold k0_pay12
  dsimp only
  rw [hk]
  by_cases h : (co 1).val < 15
  · rw [if_pos h, if_pos h]
    unfold Scalar.select
    rw [if_pos (by decide)]
    pointwise
  · rw [if_neg h, if_neg h]
    unfold Scalar.select
    rw [if_neg (by decide)]
    pointwise

/-- The tile's rows three further down, -/
theorem pay15_apply : k0_pay15 (F := Ideal) co a b (ix2 i q) = tileUp (k0_pay11 (F := Ideal) a) (k0_pay12 (F := Ideal) co b) 3 (by omega) i q :=
  tile_shift_apply 3 (by omega) (by omega) _ _ rfl rfl _ _ rotates_S512x1536_d0 rotates_S8x1536_d0 iota_S8x1536_d0_w32
    slices_S512x1536_o504_0_S8x1536 slices_S512x1536_o0_0_S504x1536 concatenates_S504x1536_S8x1536_S512x1536_d0 i q

/-- two, -/
theorem pay16_apply : k0_pay16 (F := Ideal) co a b (ix2 i q) = tileUp (k0_pay11 (F := Ideal) a) (k0_pay12 (F := Ideal) co b) 2 (by omega) i q :=
  tile_shift_apply 2 (by omega) (by omega) _ _ rfl rfl _ _ rotates_S512x1536_d0 rotates_S8x1536_d0 iota_S8x1536_d0_w32
    slices_S512x1536_o504_0_S8x1536 slices_S512x1536_o0_0_S504x1536 concatenates_S504x1536_S8x1536_S512x1536_d0 i q

/-- and one. -/
theorem pay1_apply : k0_pay1 (F := Ideal) (k0_pay17 (F := Ideal) a) (k0_pay18 (F := Ideal) co a b) (ix2 i q)
    = tileUp (k0_pay11 (F := Ideal) a) (k0_pay12 (F := Ideal) co b) 1 (by omega) i q := by
  unfold k0_pay1 k0_pay18 k0_pay17
  exact tile_shift_apply 1 (by omega) (by omega) 511#32 7#32 rfl rfl (k0_pay11 (F := Ideal) a) (k0_pay12 (F := Ideal) co b) rotates_S512x1536_d0
    rotates_S8x1536_d0 iota_S8x1536_d0_w32 slices_S512x1536_o504_0_S8x1536 slices_S512x1536_o0_0_S504x1536
    concatenates_S504x1536_S8x1536_S512x1536_d0 i q

theorem pay2_apply (w : Vec Ideal S4x1536 .f32) (y0 y1 y3 y4 : FVec Ideal S512x1536 .f32) (z : FVec Ideal S8x1536 .f32) :
    k0_pay2 (F := Ideal) y3 (k0_pay14 (F := Ideal) w) y0 y1 y4 z (ix2 i q)
      = w (ix2 0 q) * y0 (ix2 i q) + w (ix2 1 q) * y1 (ix2 i q) + w (ix2 2 q) * k0_pay1 (F := Ideal) y4 z (ix2 i q) + w (ix2 3 q) * y3 (ix2 i q) := by
  pointwise [k0_pay2, k0_pay14]

end

section
variable (x : Vec Ideal S512x1536 .f32) (y : FVec Ideal S512x1536 .f32) (q : Fin 1536)

theorem pay3_apply : k0_pay3 (F := Ideal) (k0_pay13 (F := Ideal) x) y (ix2 0 q) = ∑ i : Fin 512, y (ix2 i q) * x (ix2 i q) := by
  pointwise [k0_pay3, k0_pay13]

theorem pay4_apply : k0_pay4 (F := Ideal) (k0_pay13 (F := Ideal) x) y (ix2 0 q) = ∑ i : Fin 512, y (ix2 i q) * x (ix2 i q) := by
  pointwise [k0_pay4, k0_pay13]

theorem pay5_apply (z : FVec Ideal S8x1536 .f32) : k0_pay5 (F := Ideal) (k0_pay13 (F := Ideal) x) y z (ix2 0 q)
    = ∑ i : Fin 512, k0_pay1 (F := Ideal) y z (ix2 i q) * x (ix2 i q) := by
  pointwise [k0_pay5, k0_pay13]

theorem pay6_apply : k0_pay6 (F := Ideal) y (k0_pay13 (F := Ideal) x) (ix2 0 q) = ∑ i : Fin 512, y (ix2 i q) * x (ix2 i q) := by
  pointwise [k0_pay6, k0_pay13]

end

/-! ## The blocks -/

/-- The block each window reads at a point. -/
theorem idx : ∀ t : Fin cfg0.N, win0_0.index t = ![t.val % 16, t.val / 16] ∧ win0_1.index t = ![min ((t.val % 16 + 1) * 32) 511, t.val / 16]
    ∧ win0_2.index t = ![t.val % 16, t.val / 16 + 4] ∧ win0_3.index t = ![0, t.val / 16] ∧ win0_4.index t = ![t.val % 16, t.val / 16 + 4]
    ∧ win0_5.index t = ![0, t.val / 16] :=
  (by decide +kernel : ∀ t : Fin grid0.N, win0_0.index t = ![t.val % 16, t.val / 16]
    ∧ win0_1.index t = ![min ((t.val % 16 + 1) * 32) 511, t.val / 16]
    ∧ win0_2.index t = ![t.val % 16, t.val / 16 + 4] ∧ win0_3.index t = ![0, t.val / 16] ∧ win0_4.index t = ![t.val % 16, t.val / 16 + 4]
    ∧ win0_5.index t = ![0, t.val / 16])

theorem coord1 : ∀ t : Fin cfg0.N, (grid0.coords t 1).val = t.val % 16 :=
  (by decide +kernel : ∀ t : Fin grid0.N, (grid0.coords t 1).val = t.val % 16)

/-- Row `i` of a point's tile, and its column `q`. -/
abbrev row (t : Fin cfg0.N) (i : Fin 512) : Fin 8192 := ⟨512 * (t.val % 16) + i.val, by omega⟩
abbrev col (t : Fin cfg0.N) (q : Fin 1536) : Fin 3072 := ⟨1536 * (t.val / 16) + q.val, by have : t.val < 32 := t.isLt; omega⟩

/-- The three operands, their channels grouped. -/
abbrev G : S8192x3072.Idx → EReal := group (g m c)
abbrev X : S8192x3072.Idx → EReal := group (x m c)
abbrev W : S4x3072.Idx → EReal := group (w m c)

section
variable (t : Fin cfg0.N) (i : Fin 512) (q : Fin 1536)

theorem iblk0 : (iblk m c 0 t : Vec Ideal S512x1536 .bf16) (ix2 i q) = G m c (ix2 (row t i) (col t q)) := by
  rw [G, ← V_g]; blk_ext [iblk, idx t]

theorem iblk1 (h : t.val % 16 < 15) (r : Fin 16) (R : Fin 8192) (hR : R.val = 512 * (t.val % 16) + 512 + r.val) :
    (iblk m c 1 t : Vec Ideal S16x1536 .bf16) (ix2 r q) = G m c (ix2 R (col t q)) := by
  obtain ⟨R, hr⟩ := R
  obtain rfl : R = 512 * (t.val % 16) + 512 + r.val := hR
  rw [G, ← V_g]; blk_ext [iblk, idx t]

theorem iblk2 : (iblk m c 2 t : Vec Ideal S512x1536 .f32) (ix2 i q) = X m c (ix2 (row t i) (col t q)) := by
  rw [X, ← V_x_apply m c (row t i) ⟨6144 + (col t q).val, by omega⟩ (col t q) rfl]; blk_ext [iblk, idx t]

theorem iblk3 (k : Fin 4) : (iblk m c 3 t : Vec Ideal S4x1536 .f32) (ix2 k q) = W m c (ix2 k (col t q)) := by
  rw [W, ← V_w]; blk_ext [iblk, idx t]

/-- A tile's rows further down are the array's. -/
theorem tileUp_eq (s : ℕ) (hs : s ≤ 8) : tileUp (k0_pay11 (F := Ideal) (iblk m c 0 t)) (k0_pay12 (F := Ideal) (grid0.coords t) (iblk m c 1 t)) s hs i q
    = rowUp (fun r => G m c (ix2 r (col t q))) s (row t i) := by
  rw [tileUp, rowUp]
  by_cases h : i.val + s < 512
  · rw [dif_pos h, dif_pos (by simp only; omega), pay11_apply, iblk0]
    exact congrArg (G m c) (congrArg (ix2 · (col t q)) (Fin.ext (Nat.add_assoc _ _ _).symm))
  · rw [dif_neg h, pay12_apply, coord1]
    by_cases ht : t.val % 16 < 15
    · rw [if_pos ht, dif_pos (by simp only; omega)]
      exact iblk1 m c t q ht _ _ (by simp only; omega)
    · rw [if_neg ht, dif_neg (by simp only; omega)]

end

/-! ## What a point leaves in the two output buffers -/

/-- The input's gradient on a tile. -/
abbrev tile (t : Fin cfg0.N) : Vec Ideal S512x1536 .bf16 :=
  k0_pay2 (F := Ideal) (k0_pay11 (F := Ideal) (iblk m c 0 t)) (k0_pay14 (F := Ideal) (iblk m c 3 t))
    (k0_pay15 (F := Ideal) (grid0.coords t) (iblk m c 0 t) (iblk m c 1 t)) (k0_pay16 (F := Ideal) (grid0.coords t) (iblk m c 0 t) (iblk m c 1 t))
    (k0_pay17 (F := Ideal) (iblk m c 0 t)) (k0_pay18 (F := Ideal) (grid0.coords t) (iblk m c 0 t) (iblk m c 1 t))

theorem outs4 (t : Fin cfg0.N) : (outsAt0 m c t.val t.isLt).1 = tile m c t := by
  have hN : t.val < 32 := t.isLt
  by_cases h : t.val % 16 = 0
  · rw [outsAt0_A m c t h (by omega)]; frame_out
  · rw [outsAt0_B m c t h (by omega)]; frame_out

theorem tile_apply (t : Fin cfg0.N) (i : Fin 512) (q : Fin 1536) : tile m c t (ix2 i q) = convDx4 (G m c) (W m c) (row t i) (col t q) := by
  refine (pay2_apply i q _ _ _ _ _ _).trans ?_
  rw [pay15_apply, pay16_apply, pay1_apply, tileUp_eq, tileUp_eq, tileUp_eq, pay11_apply, iblk0, iblk3, iblk3, iblk3, iblk3]

/-- One tile's part of the taps' gradient. -/
abbrev part (t : Fin cfg0.N) : S4x1536.Idx → EReal := fun y =>
  ∑ i : Fin 512, rowUp (fun r => G m c (ix2 r (col t (y 1)))) (3 - (y 0).val) (row t i) * X m c (ix2 (row t i) (col t (y 1)))

section
variable (t : Fin cfg0.N) (q : Fin 1536)

theorem part0 : k0_pay3 (F := Ideal) (k0_pay13 (F := Ideal) (iblk m c 2 t)) (k0_pay15 (F := Ideal) (grid0.coords t) (iblk m c 0 t) (iblk m c 1 t)) (ix2 0 q)
    = part m c t (ix2 0 q) := by
  rw [pay3_apply]
  simp only [pay15_apply, tileUp_eq, iblk2]
  rfl

theorem part1 : k0_pay4 (F := Ideal) (k0_pay13 (F := Ideal) (iblk m c 2 t)) (k0_pay16 (F := Ideal) (grid0.coords t) (iblk m c 0 t) (iblk m c 1 t)) (ix2 0 q)
    = part m c t (ix2 1 q) := by
  rw [pay4_apply]
  simp only [pay16_apply, tileUp_eq, iblk2]
  rfl

theorem part2 : k0_pay5 (F := Ideal) (k0_pay13 (F := Ideal) (iblk m c 2 t)) (k0_pay17 (F := Ideal) (iblk m c 0 t))
    (k0_pay18 (F := Ideal) (grid0.coords t) (iblk m c 0 t) (iblk m c 1 t)) (ix2 0 q) = part m c t (ix2 2 q) := by
  rw [pay5_apply]
  simp only [pay1_apply, tileUp_eq, iblk2]
  rfl

theorem part3 : k0_pay6 (F := Ideal) (k0_pay11 (F := Ideal) (iblk m c 0 t)) (k0_pay13 (F := Ideal) (iblk m c 2 t)) (ix2 0 q) = part m c t (ix2 3 q) := by
  rw [pay6_apply]
  simp only [pay11_apply, iblk0, iblk2]
  exact Finset.sum_congr rfl fun i _ => congrArg (· * _) (rowUp_zero (fun r => G m c (ix2 r (col t q))) (row t i)).symm

end

theorem outs5A (t : Fin cfg0.N) (h : t.val % 16 = 0) (y : S4x1536.Idx) : (outsAt0 m c t.val t.isLt).2 y = 0 + part m c t y := by
  obtain ⟨k, q, rfl⟩ : ∃ (k : Fin 4) (q : Fin 1536), y = ix2 k q := ⟨y 0, y 1, funext fun a => match a with | ⟨0, _⟩ => rfl | ⟨1, _⟩ => rfl⟩
  rw [outsAt0_A m c t h (by omega), zero_add]
  frame_out
  match k with
  | 0 => exact (canon_row_miss 3 _ _ _ 0 q (by decide)).trans ((canon_row_miss 2 _ _ _ 0 q (by decide)).trans
      ((canon_row_miss 1 _ _ _ 0 q (by decide)).trans ((canon_row_hit 0 _ _ _ 0 q rfl).trans (part0 m c t q))))
  | 1 => exact (canon_row_miss 3 _ _ _ 1 q (by decide)).trans ((canon_row_miss 2 _ _ _ 1 q (by decide)).trans
      ((canon_row_hit 1 _ _ _ 1 q rfl).trans (part1 m c t q)))
  | 2 => exact (canon_row_miss 3 _ _ _ 2 q (by decide)).trans ((canon_row_hit 2 _ _ _ 2 q rfl).trans (part2 m c t q))
  | 3 => exact (canon_row_hit 3 _ _ _ 3 q rfl).trans (part3 m c t q)

theorem outs5B (t : Fin cfg0.N) (h : ¬t.val % 16 = 0) (y : S4x1536.Idx) : (outsAt0 m c t.val t.isLt).2 y
    = (outsAt0 m c (t.val - 1) (Nat.lt_of_le_of_lt (Nat.sub_le _ _) t.isLt)).2 y + part m c t y := by
  obtain ⟨k, q, rfl⟩ : ∃ (k : Fin 4) (q : Fin 1536), y = ix2 k q := ⟨y 0, y 1, funext fun a => match a with | ⟨0, _⟩ => rfl | ⟨1, _⟩ => rfl⟩
  rw [outsAt0_B m c t h (by omega)]
  frame_out
  generalize (outsAt0 m c (t.val - 1) (Nat.lt_of_le_of_lt (Nat.sub_le _ _) t.isLt)).2 = prev
  match k with
  | 0 =>
    refine (canon_row_miss 3 _ _ _ 0 q (by decide)).trans ((canon_row_miss 2 _ _ _ 0 q (by decide)).trans
      ((canon_row_miss 1 _ _ _ 0 q (by decide)).trans ((canon_row_hit 0 _ _ _ 0 q rfl).trans ?_)))
    rw [← part0, ← ld_row 0 inb_S4x1536_S1x1536_0_0 0 q prev rfl]
    pointwise [k0_pay7]
  | 1 =>
    refine (canon_row_miss 3 _ _ _ 1 q (by decide)).trans ((canon_row_miss 2 _ _ _ 1 q (by decide)).trans ((canon_row_hit 1 _ _ _ 1 q rfl).trans ?_))
    rw [← part1, ← ld_row 1 inb_S4x1536_S1x1536_1_0 1 q prev rfl]
    pointwise [k0_pay8]
  | 2 =>
    refine (canon_row_miss 3 _ _ _ 2 q (by decide)).trans ((canon_row_hit 2 _ _ _ 2 q rfl).trans ?_)
    rw [← part2, ← ld_row 2 inb_S4x1536_S1x1536_2_0 2 q prev rfl]
    pointwise [k0_pay9]
  | 3 =>
    refine (canon_row_hit 3 _ _ _ 3 q rfl).trans ?_
    rw [← part3, ← ld_row 3 inb_S4x1536_S1x1536_3_0 3 q prev rfl]
    pointwise [k0_pay10]

/-- A column block's last point holds the sum over its tiles. -/
theorem acc (t : Fin cfg0.N) (ht : t.val % 16 = 16 - 1) (y : S4x1536.Idx) :
    (outsAt0 m c t.val t.isLt).2 y = ∑ s : Fin 16, part m c ⟨16 * (t.val / 16) + s.val, Pipeline.run_point_lt_of_flush t ht s⟩ y := by
  have h := Pipeline.eq_sum_fin_of_reset_step_apply_of_flush (fun n h => (outsAt0 m c n h).2) 16 (fun _ => (0 : EReal)) (part m c)
    (outs5A m c) (outs5B m c) t ht y
  rw [zero_add] at h
  exact h

/-! ## The kernel's arrays -/

/-- The taps' gradient, its channels grouped, -/
def grouped : S4x3072.Idx → EReal := fun y => convDw (G m c) (X m c) (3 - (y 0).val) (y 1)

theorem grouped_apply (k : Fin 4) (q : Fin 3072) : grouped m c (ix2 k q) = convDw (G m c) (X m c) (3 - k.val) q := rfl

/-- is the kernel's second array. -/
theorem final5 : (dats m 0 c).arrAt 5 cfg0.N = grouped m c := by
  refine (dats m 0 c).arrAt_eq_of_covers 5 _ (by decide +kernel) fun t hf y => ?_
  have hN : t.val < 32 := t.isLt
  have ht : t.val % 16 = 16 - 1 := (flush0_5 t).mp hf
  blk_simp
  rw [after0_5, acc m c t ht y]
  obtain ⟨k, q, rfl⟩ : ∃ (k : Fin 4) (q : Fin 1536), y = ix2 k q := ⟨y 0, y 1, funext fun a => match a with | ⟨0, _⟩ => rfl | ⟨1, _⟩ => rfl⟩
  have eG : ((cfg0.win 5).blk t).view.emb (ix2 k q) = ix2 k (col t q) := by
    blk_ext [idx t]
  rw [eG, grouped_apply, convDw]
  refine Fin.sum_mul_add_congr fun s i hl => ?_
  have hs : s.val < 16 := s.isLt
  have er : row ⟨16 * (t.val / 16) + s.val, Pipeline.run_point_lt_of_flush t ht s⟩ i = ⟨s.val * 512 + i.val, hl⟩ :=
    Fin.ext (by simp only; omega)
  have ec : col ⟨16 * (t.val / 16) + s.val, Pipeline.run_point_lt_of_flush t ht s⟩ q = col t q :=
    Fin.ext (by simp only; omega)
  show rowUp (fun r => G m c (ix2 r (col _ q))) (3 - k.val) (row _ i) * X m c (ix2 (row _ i) (col _ q)) = _
  rw [er, ec]

/-- The scan's columns of the kernel's first array. -/
theorem final4 (R : Fin 8192) (j : Fin 3072) :
    (dats m 0 c).arrAt 4 cfg0.N (ix2 R ⟨6144 + j.val, by omega⟩) = convDx4 (G m c) (W m c) R j := by
  refine (dats m 0 c).arrAt_forall_of_coversWhere 4
    (fun (i : S8192x9216.Idx) v => ∀ j : Fin 3072, (i 1).val = 6144 + j.val → v = convDx4 (G m c) (W m c) (i 0) j)
    (fun β => 4 ≤ β (1 : Fin 2)) (by decide +kernel) (fun t hf y j hj => ?_) (fun p hp j hj => ?_)
    (ix2 R ⟨6144 + j.val, by omega⟩ : S8192x9216.Idx) (Memref.isWhole_whole _) j rfl
  · have hN : t.val < 32 := t.isLt
    blk_simp at hj ⊢
    rw [after0_4]
    have hi : win0_4.index t 1 = t.val / 16 + 4 := congrFun (idx t).2.2.2.2.1 1
    rw [hi] at hj
    obtain ⟨i, h0⟩ : ∃ i : Fin 512, i.val = (y 0).val := ⟨(cfg0.win 4).xinj (cfg0.grid.coords t) y 0, rfl⟩
    obtain ⟨q, h1⟩ : ∃ q : Fin 1536, q.val = (y 1).val := ⟨(cfg0.win 4).xinj (cfg0.grid.coords t) y 1, rfl⟩
    have ey : (cfg0.win 4).xinj (cfg0.grid.coords t) y = (ix2 i q : S512x1536.Idx) := by
      refine funext fun a => Fin.ext ?_
      match a with
      | ⟨0, _⟩ => exact h0.symm
      | ⟨1, _⟩ => exact h1.symm
    have eR : (win0_4.blk t).view.emb y 0 = row t i := by
      refine Fin.ext ?_
      blk_simp [idx t]
      show t.val % 16 * 512 + (y 0).val = 512 * (t.val % 16) + i.val
      omega
    have eC : j = col t q := Fin.ext (by simp only; omega)
    refine (congrFun (outs4 m c t) _).trans ((congrArg (tile m c t) ey).trans ?_)
    rw [eR, eC, tile_apply]
  · blk_simp [Pipeline.Window.cell_apply] at hp hj
    exact absurd (by omega) hp

/-! ## The results -/

abbrev result4 : Buf (Elt Ideal) ((c : Thread nD τ).loc main_v56) := val_main_v60 (F := Ideal) (g m c) (w m c)
abbrev result5 : Buf (Elt Ideal) ((c : Thread nD τ).loc main_v69) := val_main_v57 (F := Ideal) (g m c) (x m c)

/-- The input's gradient. -/
theorem back4 : ungroup (extractStridedSlice S8192x3072 ![0, 6144] ((dats m 0 c).arrAt 4 cfg0.N) slices_S8192x9216_S8192x3072_0_6144)
    = result4 m c := by
  refine funext fun p => ?_
  obtain ⟨R, j, rfl⟩ : ∃ (R : Fin 8192) (j : Fin 3072), p = ix2 R j := ⟨p 0, p 1, funext fun a => match a with | ⟨0, _⟩ => rfl | ⟨1, _⟩ => rfl⟩
  have h : extractStridedSlice S8192x3072 ![0, 6144] ((dats m 0 c).arrAt 4 cfg0.N) slices_S8192x9216_S8192x3072_0_6144 (ix2 R (place j))
      = convDx4 (G m c) (W m c) R (place j) := by
    rw [← final4]
    generalize (dats m 0 c).arrAt 4 cfg0.N = y
    refine congrArg y (funext fun a => Fin.ext ?_)
    match a with
    | ⟨0, _⟩ => simp
    | ⟨1, _⟩ => simp
  refine (ungroup_apply _ R j).trans (h.trans ?_)
  rw [result4, v60_apply]
  simp only [convDx4, G, W, group_apply, channel_place]

/-- The taps'. -/
theorem back5 : ungroup ((dats m 0 c).arrAt 5 cfg0.N) = result5 m c := by
  rw [final5]
  refine funext fun p => ?_
  obtain ⟨k, j, rfl⟩ : ∃ (k : Fin 4) (j : Fin 3072), p = ix2 k j := ⟨p 0, p 1, funext fun a => match a with | ⟨0, _⟩ => rfl | ⟨1, _⟩ => rfl⟩
  refine (ungroup_apply _ k j).trans ?_
  rw [grouped_apply, result5, v57_apply]
  simp only [convDw, G, X, group_apply, channel_place]

end Cert.CssdKernelIdeal.Result

end
-- ==== Proof.CssdClaim.lean ====
/- The claims about the gradients through the scan's convolution. -/
module

public import proofs.«01_k».proof.Defs
public import proofs.«01_k».proof.Proof.CssdValue
public import proofs.«01_k».proof.Proof.Gen.CssdReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The reference of the scan's convolution's gradients runs to the end with every semaphore at zero and its arguments kept. -/
theorem cssd_reference_frame : Cert.quiescent_CssdReferenceIdeal (hCssdReferenceIdeal := Cert.CssdReferenceIdeal.Gen.facts) := fun m ρ _ =>
  (θ_run (Cert.CssdReferenceIdeal.defs (F := Ideal)) _ _).mono
    (fun r h => ⟨fun c => (h c).2.2, sem_eq_zero_of_no_sems (by decide) r.2⟩)
    (Cert.CssdReferenceIdeal.Value.run (F := Ideal) m ρ)

/-- THE VALUE of the scan's convolution's gradients: the scan's columns of the kernel's first array and its second array,
    their channels put back, are the reference's, at every input. -/
theorem cssd_algebraic : Cert.algebraic_CssdKernelIdeal_CssdReferenceIdeal (hCssdKernelIdeal := Cert.CssdKernelIdeal.Gen.facts)
    (hCssdReferenceIdeal := Cert.CssdReferenceIdeal.Gen.facts) := by
  intro m g m' g' _ hm
  refine ⟨fun c => Cert.CssdKernelIdeal.Result.result4 m c, fun c => Cert.CssdKernelIdeal.Result.result5 m c, ?_, ?_⟩
  · refine θ_run_mono (θ_run_and (Cert.CssdKernelIdeal.Gen.run_main (F := Ideal) m g) (Cert.CssdKernelIdeal.Gen.frame (F := Ideal) m g))
      fun r h c => ⟨((h.1 c).2 Cert.CssdKernelIdeal.main_v56 (by decide)).trans ?_,
        ((h.1 c).2 Cert.CssdKernelIdeal.main_v69 (by decide)).trans ?_, h.2.1 c⟩
    · exact (Cert.CssdKernelIdeal.Result.tail_dx m c).trans (Cert.CssdKernelIdeal.Result.back4 m c)
    · exact (Cert.CssdKernelIdeal.Result.tail_dw m c).trans (Cert.CssdKernelIdeal.Result.back5 m c)
  · refine (θ_run (Cert.CssdReferenceIdeal.defs (F := Ideal)) _ _).mono
      (fun r h c => ⟨(h c).1.trans ?_, (h c).2.1.trans ?_, (h c).2.2⟩)
      (Cert.CssdReferenceIdeal.Value.run (F := Ideal) m' g')
    · obtain ⟨e0, e1, e2⟩ := hm c
      refine (Cert.CssdReferenceIdeal.Read.val_main_v60_eq (F := Ideal) _ _).trans ?_
      rw [e0, e2]
    · obtain ⟨e0, e1, e2⟩ := hm c
      refine (Cert.CssdReferenceIdeal.Read.val_main_v57_eq (F := Ideal) _ _).trans ?_
      rw [e0, e1]

end Cert.Proof

end
-- ==== Proof.SiluMath.lean ====
/- The gradient of `silu` over the extended reals, as the kernel and the derivative compute it. -/
module

public import proofs.«01_k».proof.Proof.Logistic

@[expose] public section

noncomputable section

namespace Cert.Maths

open Idealize.ShloMosaic

theorem sigma_bot : sigma ⊥ = 0 := Ideal.logistic_bot

theorem sigma_top : sigma ⊤ = 1 := Ideal.logistic_top

theorem sigma_coe (r : ℝ) : sigma r = (((1 + Real.exp (-r))⁻¹ : ℝ) : EReal) := Ideal.logistic_coe r

/-- A number that less itself is zero is finite. -/
theorem coe_of_sub_self (d : EReal) (h : d - d = 0) : ∃ r : ℝ, d = r := by
  induction d with
  | bot => exact absurd h (by simp)
  | top => exact absurd h (by simp)
  | coe r => exact ⟨r, rfl⟩

/-- The gradient through `silu`, at a finite cotangent `d` and any input `p`: the kernel multiplies the cotangent into one
    factor, the derivative adds the gradients of the two factors of `p · σ(p)`. At an infinite `p` the slope is 0 or 1 on both
    sides; at an infinite `d` the derivative's two parts may cancel where the kernel's product is infinite. -/
theorem silu_grad (d : ℝ) (p : EReal) :
    (d : EReal) * (sigma p * (1 + p * (1 - sigma p))) = d * sigma p + p * d * (sigma p * (1 - sigma p)) := by
  have h1 : (1 : EReal) - 1 = 0 := by rw [← EReal.coe_one, ← EReal.coe_sub, sub_self, EReal.coe_zero]
  induction p with
  | bot => simp only [sigma_bot, zero_mul, mul_zero, add_zero]
  | top => simp only [sigma_top, h1, mul_zero, add_zero, mul_one]
  | coe p =>
    rw [sigma_coe]
    generalize (1 + Real.exp (-p))⁻¹ = s
    norm_cast
    ring

end Cert.Maths

end
-- ==== Proof.CsiluHost.lean ====
/- The gradient through the scan's activation: what the host hands the kernel, and what it makes of the kernel's arrays. -/
module

public import Idealize.ShloMosaic.Lib.Pipeline.ValueKit
public import Idealize.ShloMosaic.Lib.Pipeline.ReadBack
public import proofs.«01_k».proof.Proof.GroupPerm
public import proofs.«01_k».proof.Proof.Gen.CsiluKernelIdeal.Frame

@[expose] public section

set_option maxRecDepth 16384

noncomputable section

namespace Cert.CsiluKernelIdeal.Result

open Cert.CsiluKernelIdeal Cert.CsiluKernelIdeal.Gen Idealize.ShloMosaic Idealize.ShloMosaic.TcCoe Idealize.SL.Sem
open Cert.Maths

variable (m : (ℓ : Loc nD τ sig) → Buf (Elt Ideal) ℓ) (c : Dev nD)

abbrev d : S8192x3072.Idx → EReal := m ((c : Thread nD τ).loc main_arg0)
abbrev p : S8192x3072.Idx → EReal := m ((c : Thread nD τ).loc main_arg1)

/-- The cotangent the region finds, its channels grouped, -/
theorem V_d : V m c main_v12 = group (d m c) := by
  show StableHlo.after (List.flatten [hostOps0]) (fun b => m (c, b)) main_v12 = _
  simp only [hostOps0, List.flatten_cons, List.flatten_nil, List.append_nil, List.cons_append]
  after_results_simp <;> (try dsimp only [Matrix.cons_val]) <;> (try after_results_simp) <;> rfl

/-- and the activation's input. -/
theorem V_p : V m c main_v26 = group (p m c) := by
  show StableHlo.after (List.flatten [hostOps0]) (fun b => m (c, b)) main_v26 = _
  simp only [hostOps0, List.flatten_cons, List.flatten_nil, List.append_nil, List.cons_append]
  after_results_simp <;> (try dsimp only [Matrix.cons_val]) <;> (try after_results_simp) <;> rfl

/-- After the region the host puts the first array's channels back, -/
theorem tail_dp : StableHlo.after hostOps1
    (Pipeline.withArrays spec0 c (V0 m c) fun w => (dats m 0 c).arrAt w cfg0.N) (Proc.devRef .tc main_v40) = ungroup ((dats m 0 c).arrAt 2 cfg0.N) := by
  have h : Pipeline.withArrays spec0 c (V0 m c) (fun w => (dats m 0 c).arrAt w cfg0.N) (Proc.devRef .tc main_v27_0) = (dats m 0 c).arrAt 2 cfg0.N :=
    (dats m 0 c).withArrays_arrAt (by decide) (V0 m c) (A_eq m c) 2
  generalize Pipeline.withArrays spec0 c (V0 m c) (fun w => (dats m 0 c).arrAt w cfg0.N) = W at h
  rw [← h]
  unfold hostOps1
  after_results_simp <;> (try dsimp only [Matrix.cons_val]) <;> (try after_results_simp) <;> rfl

/-- and the second's. -/
theorem tail_db : StableHlo.after hostOps1
    (Pipeline.withArrays spec0 c (V0 m c) fun w => (dats m 0 c).arrAt w cfg0.N) (Proc.devRef .tc main_v53) = ungroup ((dats m 0 c).arrAt 3 cfg0.N) := by
  have h : Pipeline.withArrays spec0 c (V0 m c) (fun w => (dats m 0 c).arrAt w cfg0.N) (Proc.devRef .tc main_v27_1) = (dats m 0 c).arrAt 3 cfg0.N :=
    (dats m 0 c).withArrays_arrAt (by decide) (V0 m c) (A_eq m c) 3
  generalize Pipeline.withArrays spec0 c (V0 m c) (fun w => (dats m 0 c).arrAt w cfg0.N) = W at h
  rw [← h]
  unfold hostOps1
  after_results_simp <;> (try dsimp only [Matrix.cons_val]) <;> (try after_results_simp) <;> rfl

end Cert.CsiluKernelIdeal.Result

end
-- ==== Proof.CsiluValue.lean ====
/- The gradient through the scan's activation: at a finite cotangent the two results the host makes of the kernel's arrays are
   the reference's. -/
module

public import proofs.«01_k».proof.Proof.RmsMath
public import proofs.«01_k».proof.Proof.SiluMath
public import proofs.«01_k».proof.Proof.CsiluHost
public import proofs.«01_k».proof.Proof.Gen.CsiluReferenceIdeal.Read

@[expose] public section

set_option maxRecDepth 16384

noncomputable section

namespace Cert.CsiluReferenceIdeal.Ref

open Cert.CsiluReferenceIdeal Cert.CsiluReferenceIdeal.Gen Cert.CsiluReferenceIdeal.Read Idealize.ShloMosaic Cert.Maths

variable (d p : (⟨S8192x3072, .f32⟩ : BufTy).Contents (Elt Ideal)) (R : Fin 8192) (j : Fin 3072)

/-- The convolution's sum, to which the bias of zeros is added, -/
theorem v2_apply : val_main_v2 (F := Ideal) p (ix2 R j) = p (ix2 R j) := by
  pointwise [val_main_v2, val_main_v1, val_main_v0, val_main_cst]

/-- its logistic, -/
theorem v3_apply : val_main_v3_2 (F := Ideal) p (ix2 R j) = sigma (p (ix2 R j)) := by
  rw [← v2_apply p R j]
  pointwise [val_main_v3_2, val_main_call0_v4, val_main_call0_v3, val_main_call0_v2, val_main_call0_v1, val_main_call0_v0, val_main_call0_cst,
    val_main_call0_cst_0, sigma]

/-- the gradient of the activation's input, -/
theorem v4_apply : val_main_v4 (F := Ideal) d p (ix2 R j)
    = d (ix2 R j) * sigma (p (ix2 R j)) + p (ix2 R j) * d (ix2 R j) * (sigma (p (ix2 R j)) * (1 - sigma (p (ix2 R j)))) := by
  rw [← v3_apply p R j]
  conv_rhs => rw [← v2_apply p R j]
  pointwise [val_main_v4, val_main_call1_v1, val_main_call1_v2, val_main_call1_v0, val_main_v3_1, val_main_call0_v7, val_main_call0_v6, val_main_call0_cst_1]

/-- and that of the bias. -/
theorem v6_apply : val_main_v6 (F := Ideal) d p (ix2 0 j) = ∑ R : Fin 8192, val_main_v4 (F := Ideal) d p (ix2 R j) := by
  pointwise [val_main_v6, val_main_v5, val_main_cst_0]

end Cert.CsiluReferenceIdeal.Ref

namespace Cert.CsiluKernelIdeal.Result

open Cert.CsiluKernelIdeal Cert.CsiluKernelIdeal.Gen Idealize.ShloMosaic Idealize.ShloMosaic.TcCoe Idealize.SL.Sem
open Cert.Maths Cert.CsiluReferenceIdeal.Ref
open Cert.CsiluReferenceIdeal.Read (val_main_v4 val_main_v6 val_main_v7)

variable (m : (ℓ : Loc nD τ sig) → Buf (Elt Ideal) ℓ) (c : Dev nD)

/-- The gradient as the kernel computes it. -/
abbrev grad (d p : EReal) : EReal := d * (sigma p * (1 + p * (1 - sigma p)))

/-! ## The payloads at an element -/

section
variable (a : Vec Ideal S512x1536 .f32) (b : Vec Ideal S512x1536 .bf16) (i : Fin 512) (q : Fin 1536)

theorem pay1_apply : k0_pay1 (F := Ideal) a b (ix2 i q) = grad (a (ix2 i q)) (b (ix2 i q)) := by
  pointwise [k0_pay1, grad, sigma, zero_sub]

theorem pay2_apply : k0_pay2 (F := Ideal) a b (ix2 i q) = grad (a (ix2 i q)) (b (ix2 i q)) := by
  rw [← pay1_apply]; pointwise [k0_pay2]

theorem pay3_apply : k0_pay3 (F := Ideal) a b (ix2 0 q) = ∑ i : Fin 512, k0_pay1 (F := Ideal) a b (ix2 i q) := by
  pointwise [k0_pay3]

theorem pay4_apply (y : Vec Ideal S1x1536 .f32) : k0_pay4 (F := Ideal) a b y (ix2 0 q) = y (ix2 0 q) + k0_pay3 (F := Ideal) a b (ix2 0 q) := by
  pointwise [k0_pay4]

end

/-! ## The blocks -/

/-- The block each window reads at a point. -/
theorem idx : ∀ t : Fin cfg0.N, win0_0.index t = ![t.val % 16, t.val / 16] ∧ win0_1.index t = ![t.val % 16, t.val / 16]
    ∧ win0_2.index t = ![t.val % 16, t.val / 16] ∧ win0_3.index t = ![0, t.val / 16] :=
  (by decide +kernel : ∀ t : Fin grid0.N, win0_0.index t = ![t.val % 16, t.val / 16] ∧ win0_1.index t = ![t.val % 16, t.val / 16]
    ∧ win0_2.index t = ![t.val % 16, t.val / 16] ∧ win0_3.index t = ![0, t.val / 16])

/-- Row `i` of a point's tile, and its column `q`. -/
abbrev row (t : Fin cfg0.N) (i : Fin 512) : Fin 8192 := ⟨512 * (t.val % 16) + i.val, by omega⟩
abbrev col (t : Fin cfg0.N) (q : Fin 1536) : Fin 3072 := ⟨1536 * (t.val / 16) + q.val, by have : t.val < 32 := t.isLt; omega⟩

/-- The two operands, their channels grouped. -/
abbrev D : S8192x3072.Idx → EReal := group (d m c)
abbrev P : S8192x3072.Idx → EReal := group (p m c)

section
variable (t : Fin cfg0.N) (i : Fin 512) (q : Fin 1536)

theorem iblk0 : (iblk m c 0 t : Vec Ideal S512x1536 .f32) (ix2 i q) = D m c (ix2 (row t i) (col t q)) := by
  rw [D, ← V_d]; blk_ext [iblk, idx t]

theorem iblk1 : (iblk m c 1 t : Vec Ideal S512x1536 .bf16) (ix2 i q) = P m c (ix2 (row t i) (col t q)) := by
  rw [P, ← V_p]; blk_ext [iblk, idx t]

end

/-! ## What a point leaves in the two output buffers -/

/-- The input's gradient, its channels grouped, -/
def grouped : S8192x3072.Idx → EReal := fun y => grad (D m c y) (P m c y)

theorem grouped_apply (R : Fin 8192) (q : Fin 3072) : grouped m c (ix2 R q) = grad (D m c (ix2 R q)) (P m c (ix2 R q)) := rfl

/-- and its sums over the rows. -/
def sums : S1x3072.Idx → EReal := fun y => ∑ R : Fin 8192, grouped m c (ix2 R (y 1))

theorem sums_apply (q : Fin 3072) : sums m c (ix2 0 q) = ∑ R : Fin 8192, grouped m c (ix2 R q) := rfl

theorem outs2 (t : Fin cfg0.N) : (outsAt0 m c t.val t.isLt).1 = k0_pay2 (F := Ideal) (iblk m c 0 t) (iblk m c 1 t) := by
  have hN : t.val < 32 := t.isLt
  by_cases h : t.val % 16 = 0
  · rw [outsAt0_A m c t h (by omega)]; frame_out
  · rw [outsAt0_B m c t h (by omega)]; frame_out

/-- One tile's part of the sums. -/
abbrev part (t : Fin cfg0.N) : S1x1536.Idx → EReal := fun y => ∑ i : Fin 512, grouped m c (ix2 (row t i) (col t (y 1)))

theorem part_eq (t : Fin cfg0.N) (q : Fin 1536) : k0_pay3 (F := Ideal) (iblk m c 0 t) (iblk m c 1 t) (ix2 0 q) = part m c t (ix2 0 q) := by
  rw [pay3_apply]
  simp only [pay1_apply, iblk0, iblk1]
  rfl

theorem outs3A (t : Fin cfg0.N) (h : t.val % 16 = 0) (y : S1x1536.Idx) : (outsAt0 m c t.val t.isLt).2 y = 0 + part m c t y := by
  obtain ⟨q, rfl⟩ : ∃ q : Fin 1536, y = ix2 0 q := ⟨y 1, funext fun a => match a with | ⟨0, _⟩ => Subsingleton.elim (α := Fin 1) _ _ | ⟨1, _⟩ => rfl⟩
  rw [outsAt0_A m c t h (by omega), zero_add, ← part_eq]
  frame_out

theorem outs3B (t : Fin cfg0.N) (h : ¬t.val % 16 = 0) (y : S1x1536.Idx) : (outsAt0 m c t.val t.isLt).2 y
    = (outsAt0 m c (t.val - 1) (Nat.lt_of_le_of_lt (Nat.sub_le _ _) t.isLt)).2 y + part m c t y := by
  obtain ⟨q, rfl⟩ : ∃ q : Fin 1536, y = ix2 0 q := ⟨y 1, funext fun a => match a with | ⟨0, _⟩ => Subsingleton.elim (α := Fin 1) _ _ | ⟨1, _⟩ => rfl⟩
  rw [outsAt0_B m c t h (by omega), ← part_eq, ← pay4_apply]
  frame_out

/-- A column block's last point holds the sum over its tiles. -/
theorem acc (t : Fin cfg0.N) (ht : t.val % 16 = 16 - 1) (y : S1x1536.Idx) :
    (outsAt0 m c t.val t.isLt).2 y = ∑ s : Fin 16, part m c ⟨16 * (t.val / 16) + s.val, Pipeline.run_point_lt_of_flush t ht s⟩ y := by
  have h := Pipeline.eq_sum_fin_of_reset_step_apply_of_flush (fun n h => (outsAt0 m c n h).2) 16 (fun _ => (0 : EReal)) (part m c)
    (outs3A m c) (outs3B m c) t ht y
  rw [zero_add] at h
  exact h

/-! ## The kernel's arrays -/

theorem final3 : (dats m 0 c).arrAt 3 cfg0.N = sums m c := by
  refine (dats m 0 c).arrAt_eq_of_covers 3 _ (by decide +kernel) fun t hf y => ?_
  have hN : t.val < 32 := t.isLt
  have ht : t.val % 16 = 16 - 1 := (flush0_3 t).mp hf
  blk_simp
  rw [after0_3, acc m c t ht y]
  obtain ⟨q, rfl⟩ : ∃ q : Fin 1536, y = ix2 0 q := ⟨y 1, funext fun a => match a with | ⟨0, _⟩ => Subsingleton.elim (α := Fin 1) _ _ | ⟨1, _⟩ => rfl⟩
  have eG : ((cfg0.win 3).blk t).view.emb (ix2 0 q) = ix2 0 (col t q) := by
    blk_ext [idx t]
  rw [eG, sums_apply]
  refine Fin.sum_mul_add_congr fun s i hl => ?_
  have hs : s.val < 16 := s.isLt
  have er : row ⟨16 * (t.val / 16) + s.val, Pipeline.run_point_lt_of_flush t ht s⟩ i = ⟨s.val * 512 + i.val, hl⟩ :=
    Fin.ext (by simp only; omega)
  have ec : col ⟨16 * (t.val / 16) + s.val, Pipeline.run_point_lt_of_flush t ht s⟩ q = col t q :=
    Fin.ext (by simp only; omega)
  show grouped m c (ix2 (row _ i) (col _ q)) = _
  rw [er, ec]

theorem final2 : (dats m 0 c).arrAt 2 cfg0.N = grouped m c := by
  refine (dats m 0 c).arrAt_eq_of_covers 2 _ (by decide +kernel) fun t hf y => ?_
  have hN : t.val < 32 := t.isLt
  blk_simp
  rw [after0_2, outs2]
  obtain ⟨i, q, rfl⟩ : ∃ (i : Fin 512) (q : Fin 1536), y = ix2 i q := ⟨y 0, y 1, funext fun a => match a with | ⟨0, _⟩ => rfl | ⟨1, _⟩ => rfl⟩
  have eG : ((cfg0.win 2).blk t).view.emb (ix2 i q) = ix2 (row t i) (col t q) := by
    blk_ext [idx t]
  rw [eG, grouped_apply, ← iblk0, ← iblk1]
  exact pay2_apply _ _ i q

/-! ## The results -/

abbrev result2 : Buf (Elt Ideal) ((c : Thread nD τ).loc main_v40) := val_main_v7 (F := Ideal) (d m c) (p m c)
abbrev result3 : Buf (Elt Ideal) ((c : Thread nD τ).loc main_v53) := val_main_v6 (F := Ideal) (d m c) (p m c)

/-- Every element of the cotangent is finite. -/
abbrev Finite : Prop := ∀ (R : Fin 8192) (j : Fin 3072), ∃ r : ℝ, d m c (ix2 R j) = r

/-- An element of the kernel's first array, in its channel's place. -/
theorem place_eq (hd : Finite m c) (R : Fin 8192) (j : Fin 3072) : grouped m c (ix2 R (place j)) = val_main_v4 (F := Ideal) (d m c) (p m c) (ix2 R j) := by
  rw [v4_apply, grouped_apply, D, P, group_apply, group_apply, channel_place]
  obtain ⟨r, hr⟩ := hd R j
  rw [hr]
  exact silu_grad r _

/-- The gradient of the activation's input. -/
theorem back2 (hd : Finite m c) : ungroup ((dats m 0 c).arrAt 2 cfg0.N) = result2 m c := by
  rw [final2]
  refine funext fun y => ?_
  obtain ⟨R, j, rfl⟩ : ∃ (R : Fin 8192) (j : Fin 3072), y = ix2 R j := ⟨y 0, y 1, funext fun a => match a with | ⟨0, _⟩ => rfl | ⟨1, _⟩ => rfl⟩
  exact (ungroup_apply _ R j).trans (place_eq m c hd R j)

/-- The bias's. -/
theorem back3 (hd : Finite m c) : ungroup ((dats m 0 c).arrAt 3 cfg0.N) = result3 m c := by
  rw [final3]
  refine funext fun y => ?_
  obtain ⟨j, rfl⟩ : ∃ j : Fin 3072, y = ix2 0 j := ⟨y 1, funext fun a => match a with | ⟨0, _⟩ => Subsingleton.elim (α := Fin 1) _ _ | ⟨1, _⟩ => rfl⟩
  refine (ungroup_apply _ 0 j).trans ?_
  rw [sums_apply, result3, v6_apply]
  exact Finset.sum_congr rfl fun R _ => place_eq m c hd R j

end Cert.CsiluKernelIdeal.Result

end
-- ==== Proof.CsiluClaim.lean ====
/- The claims about the gradient through the scan's activation. -/
module

public import proofs.«01_k».proof.Defs
public import proofs.«01_k».proof.Proof.CsiluValue
public import proofs.«01_k».proof.Proof.Gen.CsiluReferenceIdeal.Run
public import Idealize.ShloMosaic.Lib.Claim
public import Idealize.ShloMosaic.Adequacy
public import Idealize.ShloMosaic.Init

@[expose] public section

noncomputable section

namespace Cert.Proof

open Idealize.ShloMosaic Idealize.SL.Sem Cert.Maths

/-- The side condition of the precondition: a number may be spread over an array. -/
theorem finite_ct_facts : Cert.Pre_finite_ct.Facts := ⟨Cert.CsiluReferenceIdeal.Gen.facts.bcast_S_S8192x3072⟩

/-- The precondition at an element. -/
theorem finite_ct_apply (d p : FVec Ideal Cert.Pre_finite_ct.S8192x3072 .f32) (i : Cert.Pre_finite_ct.S8192x3072.Idx)
    (h : letI := finite_ct_facts; Cert.Pre_finite_ct.fn (F := Ideal) d p i = 1#1) : (d i : EReal) - d i = 0 := by
  have e : letI := finite_ct_facts; Cert.Pre_finite_ct.fn (F := Ideal) d p i = BitVec.ofBool (decide ((d i : EReal) - d i = 0)) := by
    pointwise [Cert.Pre_finite_ct.fn]
  rw [h] at e
  by_contra hne
  rw [decide_eq_false hne] at e
  exact absurd e (by decide)

/-- What the precondition says: every element of the cotangent is finite. -/
theorem csilu_finite (m : (ℓ : Loc Cert.CsiluKernelIdeal.nD Cert.CsiluKernelIdeal.τ Cert.CsiluKernelIdeal.sig) → Buf (Elt Ideal) ℓ)
    (h : Cert.Pre_CsiluKernelIdeal_finite_ct (hPre_finite_ct := finite_ct_facts) m) (c : Dev Cert.CsiluKernelIdeal.nD) :
    Cert.CsiluKernelIdeal.Result.Finite m c := fun R j => by
  refine coe_of_sub_self _ (finite_ct_apply _ _ _ (congrFun (h c) (ix2 R j)))

/-- The reference of the activation's gradient runs to the end with every semaphore at zero and its arguments kept. -/
theorem csilu_reference_frame : Cert.quiescent_CsiluReferenceIdeal (hCsiluReferenceIdeal := Cert.CsiluReferenceIdeal.Gen.facts) := fun m ρ _ =>
  (θ_run (Cert.CsiluReferenceIdeal.defs (F := Ideal)) _ _).mono
    (fun r h => ⟨fun c => (h c).2.2, sem_eq_zero_of_no_sems (by decide) r.2⟩)
    (Cert.CsiluReferenceIdeal.Value.run (F := Ideal) m ρ)

/-- THE VALUE of the activation's gradient: at every finite cotangent, and any input of the activation, the kernel's two arrays,
    their channels put back, are the reference's. -/
theorem csilu_algebraic : Cert.algebraic_CsiluKernelIdeal_CsiluReferenceIdeal_pre_finite_ct
    (hCsiluKernelIdeal := Cert.CsiluKernelIdeal.Gen.facts) (hCsiluReferenceIdeal := Cert.CsiluReferenceIdeal.Gen.facts)
    (hPre_finite_ct := finite_ct_facts) := by
  intro m g m' g' hp hm
  refine ⟨fun c => Cert.CsiluKernelIdeal.Result.result2 m c, fun c => Cert.CsiluKernelIdeal.Result.result3 m c, ?_, ?_⟩
  · refine θ_run_mono (θ_run_and (Cert.CsiluKernelIdeal.Gen.run_main (F := Ideal) m g) (Cert.CsiluKernelIdeal.Gen.frame (F := Ideal) m g))
      fun r h c => ⟨((h.1 c).2 Cert.CsiluKernelIdeal.main_v40 (by decide)).trans ?_,
        ((h.1 c).2 Cert.CsiluKernelIdeal.main_v53 (by decide)).trans ?_, h.2.1 c⟩
    · exact (Cert.CsiluKernelIdeal.Result.tail_dp m c).trans (Cert.CsiluKernelIdeal.Result.back2 m c (csilu_finite m hp c))
    · exact (Cert.CsiluKernelIdeal.Result.tail_db m c).trans (Cert.CsiluKernelIdeal.Result.back3 m c (csilu_finite m hp c))
  · refine (θ_run (Cert.CsiluReferenceIdeal.defs (F := Ideal)) _ _).mono
      (fun r h c => ⟨(h c).1.trans ?_, (h c).2.1.trans ?_, (h c).2.2⟩)
      (Cert.CsiluReferenceIdeal.Value.run (F := Ideal) m' g')
    · obtain ⟨e0, e1⟩ := hm c
      refine (Cert.CsiluReferenceIdeal.Read.val_main_v7_eq (F := Ideal) _ _).trans ?_
      rw [e0, e1]
    · obtain ⟨e0, e1⟩ := hm c
      refine (Cert.CsiluReferenceIdeal.Read.val_main_v6_eq (F := Ideal) _ _).trans ?_
      rw [e0, e1]

end Cert.Proof

end
-- ==== Proof.GeluMath.lean ====
/- The gradient of `gelu` in its tanh form over the extended reals, as the kernel and the derivative compute it. -/
module

public import Idealize.ShloMosaic.Lib.Pointwise
public import Idealize.ShloMosaic.PureOps.Ideal.Laws

@[expose] public section

noncomputable section

namespace Cert.Maths

open Idealize.ShloMosaic

/-- The tanh of `gelu`, its argument's cube multiplied as the kernel does it. -/
def geluTanh (κ : ℝ) (g : EReal) : EReal := Ideal.tanh ((κ : EReal) * (g + ((8943 / 200000 : ℝ) : EReal) * g * g * g))

theorem geluTanh_coe (κ r : ℝ) : geluTanh κ r = (Real.tanh (κ * (r + 8943 / 200000 * r * r * r)) : ℝ) := by
  rw [geluTanh, ← Ideal.tanh_coe]
  norm_cast

theorem geluTanh_top (κ : ℝ) (hκ : 0 < κ) : geluTanh κ ⊤ = 1 := by
  rw [geluTanh, EReal.coe_mul_top_of_pos (by norm_num), EReal.top_mul_top, EReal.top_mul_top, EReal.top_add_top,
    EReal.coe_mul_top_of_pos hκ, Ideal.tanh_top]

theorem geluTanh_bot (κ : ℝ) (hκ : 0 < κ) : geluTanh κ ⊥ = -1 := by
  rw [geluTanh, EReal.coe_mul_bot_of_pos (by norm_num), EReal.bot_mul_bot, EReal.top_mul_bot, EReal.bot_add,
    EReal.coe_mul_bot_of_pos hκ, Ideal.tanh_bot]

/-- The cube as the reference multiplies it. -/
theorem cube_eq (c g : EReal) : c * g * g * g = c * (g * g * g) := by rw [mul_assoc, mul_assoc, mul_assoc]

/-- The slope of `gelu` as the kernel computes it: the constant of the second factor is three times the cube's. -/
def geluSlope (κ : ℝ) (g : EReal) : EReal :=
  ((1 / 2 : ℝ) : EReal) * (1 + geluTanh κ g) + ((1 / 2 : ℝ) : EReal) * g * (1 - geluTanh κ g * geluTanh κ g) * (κ : EReal)
    * (1 + ((26829 / 200000 : ℝ) : EReal) * g * g)

/-- The part of the derivative that goes through the tanh. -/
def geluInner (κ : ℝ) (u g : EReal) : EReal :=
  (κ : EReal) * (((1 / 2 : ℝ) : EReal) * g * u * ((1 + geluTanh κ g) * (1 - geluTanh κ g)))

/-- The gradient through `gelu`, at a finite cotangent `u` and any input `g`: the kernel multiplies the cotangent into the
    slope, the derivative adds the parts that come through the tanh's argument, through its cube and through the plain factor.
    At an infinite `g` the slope is 0 or 1 on both sides. -/
theorem gelu_grad (κ : ℝ) (hκ : 0 < κ) (u : ℝ) (g : EReal) :
    (u : EReal) * geluSlope κ g
      = geluInner κ u g + ((8943 / 200000 : ℝ) : EReal) * geluInner κ u g * (((3 : ℝ) : EReal) * (g * g))
        + ((1 / 2 : ℝ) : EReal) * ((u : EReal) * (1 + geluTanh κ g)) := by
  have h0 : (1 : EReal) - 1 = 0 := by rw [← EReal.coe_one, ← EReal.coe_sub, sub_self, EReal.coe_zero]
  have h1 : (1 : EReal) + -1 = 0 := h0
  have h2 : (-1 : EReal) * -1 = 1 := by rw [neg_mul_neg, one_mul]
  unfold geluSlope geluInner
  induction g with
  | bot =>
    rw [geluTanh_bot κ hκ, h1, h2, h0]
    simp only [zero_mul, mul_zero, add_zero]
  | top =>
    rw [geluTanh_top κ hκ, one_mul, h0]
    simp only [zero_mul, mul_zero, add_zero, zero_add]
    rw [mul_left_comm]
  | coe g =>
    rw [geluTanh_coe]
    generalize Real.tanh (κ * (g + 8943 / 200000 * g * g * g)) = t
    norm_cast
    ring

end Cert.Maths

end
-- ==== Proof.FactRef.lean ====
/- The gradient through the gated activation: the reference's stages read at an element. -/
module

public import proofs.«01_k».proof.Proof.GeluMath
public import proofs.«01_k».proof.Proof.Gen.FactReferenceIdeal.Read

@[expose] public section

set_option maxRecDepth 16384

noncomputable section

namespace Cert.FactReferenceIdeal.Ref

open Cert.FactReferenceIdeal Cert.FactReferenceIdeal.Gen Cert.FactReferenceIdeal.Read Idealize.ShloMosaic Cert.Maths

/-! ## The float words as numbers -/

theorem word_half : Ideal.ofBits .f32 0x3F000000#32 = ((1 / 2 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

/-- The float nearest √(2/π). -/
abbrev scale : ℝ := 6693141 / 8388608

theorem scale_pos : 0 < scale := by norm_num

theorem word_scale : Ideal.ofBits .f32 0x3F4C422A#32 = (scale : EReal) := by
  simp [Ideal.ofBits, Ideal.ieee, -EReal.coe_mul]; norm_num

theorem word_num : Ideal.ofBits .f32 0x460BBC00#32 = ((8943 : ℝ) : EReal) := by
  simp [Ideal.ofBits, Ideal.ieee, -EReal.coe_mul]; norm_num

theorem word_den : Ideal.ofBits .f32 0x48435000#32 = ((200000 : ℝ) : EReal) := by
  simp [Ideal.ofBits, Ideal.ieee, -EReal.coe_mul]; norm_num

variable (d g v : (⟨S8192x2816, .f32⟩ : BufTy).Contents (Elt Ideal)) (R : Fin 8192) (j : Fin 2816)

/-- The cube's coefficient, a quotient the reference computes, -/
theorem v3_apply (i : S_.Idx) : val_main_v3 (F := Ideal) i = ((8943 / 200000 : ℝ) : EReal) := by
  have h : val_main_v3 (F := Ideal) i = Ideal.div (Ideal.ofBits .f32 0x460BBC00#32) (Ideal.ofBits .f32 0x48435000#32) := by
    pointwise [val_main_v3, val_main_cst_0, val_main_cst_1]
  rw [h, word_num, word_den, Ideal.div_coe (by norm_num), ← EReal.coe_mul]
  congr 1
  norm_num

/-- The gate, to which the bias of zeros is added, -/
theorem v2_apply : val_main_v2 (F := Ideal) g (ix2 R j) = g (ix2 R j) := by
  pointwise [val_main_v2, val_main_v1, val_main_v0, val_main_cst]

/-- the other half, -/
theorem v26_apply : val_main_v26 (F := Ideal) v (ix2 R j) = v (ix2 R j) := by
  pointwise [val_main_v26, val_main_v25, val_main_v0, val_main_cst]

/-- the tanh, -/
theorem v16_apply : val_main_v16 (F := Ideal) g (ix2 R j) = geluTanh scale (g (ix2 R j)) := by
  rw [geluTanh, cube_eq, ← word_scale, ← v3_apply ix0, ← v2_apply g R j]
  pointwise [val_main_v16, val_main_v15, val_main_v14, val_main_v13, val_main_v12, val_main_v11, val_main_v7, val_main_v6, val_main_cst_4]

/-- the activation, -/
theorem v24_apply : val_main_v24 (F := Ideal) g (ix2 R j) = ((1 / 2 : ℝ) : EReal) * g (ix2 R j) * (1 + geluTanh scale (g (ix2 R j))) := by
  rw [← v16_apply g R j, ← word_half]
  conv_rhs => rw [← v2_apply g R j]
  pointwise [val_main_v24, val_main_v5, val_main_v4, val_main_cst_2, val_main_v23, val_main_v22, val_main_cst_7]

/-- the gradient of the other half, -/
theorem v28_apply : val_main_v28 (F := Ideal) d g (ix2 R j) = d (ix2 R j) * (((1 / 2 : ℝ) : EReal) * g (ix2 R j) * (1 + geluTanh scale (g (ix2 R j)))) := by
  rw [← v24_apply g R j, mul_comm]
  pointwise [val_main_v28]

/-- its sums over the rows, -/
theorem v31_apply : val_main_v31 (F := Ideal) d g (ix2 0 j) = ∑ R : Fin 8192, val_main_v28 (F := Ideal) d g (ix2 R j) := by
  pointwise [val_main_v31, val_main_v30, val_main_cst_8]

/-- the cotangent of the activation, -/
theorem v29_apply : val_main_v29 (F := Ideal) d v (ix2 R j) = d (ix2 R j) * v (ix2 R j) := by
  rw [← v26_apply v R j]
  pointwise [val_main_v29]

/-- its part through the tanh, -/
theorem v36_apply : val_main_v36 (F := Ideal) d g v (ix2 R j) = geluInner scale (d (ix2 R j) * v (ix2 R j)) (g (ix2 R j)) := by
  rw [geluInner, ← v16_apply g R j, ← v29_apply d v R j, ← word_scale, ← word_half]
  conv_rhs => rw [← v2_apply g R j]
  pointwise [val_main_v36, val_main_v35, val_main_cst_9, val_main_v34, val_main_v32, val_main_v5, val_main_v4, val_main_cst_2, val_main_v21,
    val_main_v18, val_main_v20, val_main_v17, val_main_v19, val_main_cst_5, val_main_cst_6]

/-- the gradient of the gate, -/
theorem v43_apply : val_main_v43 (F := Ideal) d g v (ix2 R j)
    = geluInner scale (d (ix2 R j) * v (ix2 R j)) (g (ix2 R j))
      + ((8943 / 200000 : ℝ) : EReal) * geluInner scale (d (ix2 R j) * v (ix2 R j)) (g (ix2 R j)) * (((3 : ℝ) : EReal) * (g (ix2 R j) * g (ix2 R j)))
      + ((1 / 2 : ℝ) : EReal) * (d (ix2 R j) * v (ix2 R j) * (1 + geluTanh scale (g (ix2 R j)))) := by
  rw [← v36_apply d g v R j, ← v16_apply g R j, ← v29_apply d v R j, ← word_half, ← word_three, ← v3_apply ix0]
  conv_rhs => rw [← v2_apply g R j]
  pointwise [val_main_v43, val_main_v40, val_main_v39, val_main_v38, val_main_v37, val_main_v10, val_main_v9, val_main_cst_3, val_main_v8,
    val_main_v42, val_main_v41, val_main_cst_10, val_main_v33, val_main_v23, val_main_v22, val_main_cst_7]

/-- and its sums over the rows. -/
theorem v45_apply : val_main_v45 (F := Ideal) d g v (ix2 0 j) = ∑ R : Fin 8192, val_main_v43 (F := Ideal) d g v (ix2 R j) := by
  pointwise [val_main_v45, val_main_v44, val_main_cst_11]

end Cert.FactReferenceIdeal.Ref

end
-- ==== Proof.FactValue.lean ====
/- The gradient through the gated activation: where the product of the cotangent and the other half is finite, the kernel's
   four arrays are the reference's. -/
module

public import Idealize.ShloMosaic.Lib.Pipeline.ValueKit
public import Idealize.ShloMosaic.Lib.Pipeline.ReadBack
public import Idealize.ShloMosaic.PureOps.IdealRules
public import proofs.«01_k».proof.Proof.FactRef
public import proofs.«01_k».proof.Proof.Gen.FactKernelIdeal.Frame

@[expose] public section

set_option maxRecDepth 16384

noncomputable section

namespace Cert.FactKernelIdeal.Result

open Cert.FactKernelIdeal Cert.FactKernelIdeal.Gen Idealize.ShloMosaic Idealize.ShloMosaic.TcCoe Idealize.SL.Sem
open Cert.Maths Cert.FactReferenceIdeal.Ref
open Cert.FactReferenceIdeal.Read (val_main_v28 val_main_v31 val_main_v43 val_main_v45 val_main_v46 val_main_v47)

variable (m : (ℓ : Loc nD τ sig) → Buf (Elt Ideal) ℓ) (c : Dev nD)

/-! ## The payloads at an element -/

/-- The named coefficients. -/
theorem named_cube : (Named.named κ "gelu_cube" 0x3D372713#32 : Ideal .f32) = ((8943 / 200000 : ℝ) : EReal) :=
  IdealRules.named_const.ideal_named_scalar _ _ _ _ rfl

theorem named_slope : (Named.named κ "gelu_slope" 0x3E095D4F#32 : Ideal .f32) = ((26829 / 200000 : ℝ) : EReal) :=
  IdealRules.named_const.ideal_named_scalar _ _ _ _ rfl

section
variable (g v d : Vec Ideal S512x1408 .bf16) (i : Fin 512) (q : Fin 1408)

theorem pay9_apply : k0_pay9 (F := Ideal) v (ix2 i q) = v (ix2 i q) := by pointwise [k0_pay9]

theorem pay10_apply : k0_pay10 (F := Ideal) g (ix2 i q) = g (ix2 i q) := by pointwise [k0_pay10]

theorem pay14_apply : k0_pay14 (F := Ideal) d (ix2 i q) = d (ix2 i q) := by pointwise [k0_pay14]

theorem pay11_apply : k0_pay11 (F := Ideal) g (ix2 i q) = geluTanh scale (g (ix2 i q)) := by
  rw [geluTanh, ← pay10_apply g i q, ← word_scale, ← named_cube]
  pointwise [k0_pay11]

theorem pay12_apply : k0_pay12 (F := Ideal) g (ix2 i q) = ((1 / 2 : ℝ) : EReal) * g (ix2 i q) * (1 + geluTanh scale (g (ix2 i q))) := by
  rw [← pay11_apply g i q, ← word_half]
  conv_rhs => rw [← pay10_apply g i q]
  pointwise [k0_pay12]

theorem pay13_apply : k0_pay13 (F := Ideal) g (ix2 i q) = geluSlope scale (g (ix2 i q)) := by
  rw [geluSlope, ← pay11_apply g i q, ← word_half, ← word_scale, ← named_slope]
  conv_rhs => rw [← pay10_apply g i q]
  pointwise [k0_pay13]

/-- The gate's gradient as the kernel computes it, -/
abbrev gradGate (d g v : EReal) : EReal := d * v * geluSlope scale g

/-- and the other half's. -/
abbrev gradVal (d g : EReal) : EReal := d * (((1 / 2 : ℝ) : EReal) * g * (1 + geluTanh scale g))

theorem pay1_apply : k0_pay1 (F := Ideal) (k0_pay9 v) (k0_pay13 g) (k0_pay14 d) (ix2 i q) = gradGate (d (ix2 i q)) (g (ix2 i q)) (v (ix2 i q)) := by
  rw [gradGate, ← pay13_apply g i q, ← pay14_apply d i q, ← pay9_apply v i q]
  pointwise [k0_pay1]

theorem pay2_apply : k0_pay2 (F := Ideal) (k0_pay12 g) (k0_pay14 d) (ix2 i q) = gradVal (d (ix2 i q)) (g (ix2 i q)) := by
  rw [gradVal, ← pay12_apply g i q, ← pay14_apply d i q]
  pointwise [k0_pay2]

end

section
variable (v2 v18 v37 v40 : FVec Ideal S512x1408 .f32) (y : Vec Ideal S1x1408 .f32) (i : Fin 512) (q : Fin 1408)

theorem pay3_apply : k0_pay3 (F := Ideal) v2 v37 v40 (ix2 i q) = k0_pay1 (F := Ideal) v2 v37 v40 (ix2 i q) := by pointwise [k0_pay3]

theorem pay4_apply : k0_pay4 (F := Ideal) v18 v40 (ix2 i q) = k0_pay2 (F := Ideal) v18 v40 (ix2 i q) := by pointwise [k0_pay4]

theorem pay5_apply : k0_pay5 (F := Ideal) v2 v37 v40 (ix2 0 q) = ∑ i : Fin 512, k0_pay1 (F := Ideal) v2 v37 v40 (ix2 i q) := by pointwise [k0_pay5]

theorem pay7_apply : k0_pay7 (F := Ideal) v18 v40 (ix2 0 q) = ∑ i : Fin 512, k0_pay2 (F := Ideal) v18 v40 (ix2 i q) := by pointwise [k0_pay7]

theorem pay6_apply : k0_pay6 (F := Ideal) v2 v37 v40 y (ix2 0 q) = y (ix2 0 q) + k0_pay5 (F := Ideal) v2 v37 v40 (ix2 0 q) := by
  pointwise [k0_pay6]

theorem pay8_apply : k0_pay8 (F := Ideal) v18 v40 y (ix2 0 q) = y (ix2 0 q) + k0_pay7 (F := Ideal) v18 v40 (ix2 0 q) := by
  pointwise [k0_pay8]

end

/-! ## The blocks -/

/-- The block each window reads at a point. -/
theorem idx : ∀ t : Fin cfg0.N, win0_0.index t = ![t.val % 16, t.val / 16] ∧ win0_1.index t = ![t.val % 16, t.val / 16]
    ∧ win0_2.index t = ![t.val % 16, t.val / 16] ∧ win0_3.index t = ![t.val % 16, t.val / 16]
    ∧ win0_4.index t = ![t.val % 16, t.val / 16] ∧ win0_5.index t = ![0, t.val / 16] ∧ win0_6.index t = ![0, t.val / 16] :=
  (by decide +kernel : ∀ t : Fin grid0.N, win0_0.index t = ![t.val % 16, t.val / 16] ∧ win0_1.index t = ![t.val % 16, t.val / 16]
    ∧ win0_2.index t = ![t.val % 16, t.val / 16] ∧ win0_3.index t = ![t.val % 16, t.val / 16]
    ∧ win0_4.index t = ![t.val % 16, t.val / 16] ∧ win0_5.index t = ![0, t.val / 16] ∧ win0_6.index t = ![0, t.val / 16])

/-- Row `i` of a point's tile, and its column `q`. -/
abbrev row (t : Fin cfg0.N) (i : Fin 512) : Fin 8192 := ⟨512 * (t.val % 16) + i.val, by omega⟩
abbrev col (t : Fin cfg0.N) (q : Fin 1408) : Fin 2816 := ⟨1408 * (t.val / 16) + q.val, by have : t.val < 32 := t.isLt; omega⟩

/-- The operands: the cotangent, the gate and the other half. -/
abbrev D : S8192x2816.Idx → EReal := m ((c : Thread nD τ).loc main_arg0)
abbrev G : S8192x2816.Idx → EReal := m ((c : Thread nD τ).loc main_arg1)
abbrev W : S8192x2816.Idx → EReal := m ((c : Thread nD τ).loc main_arg2)

/-- What the region finds. -/
theorem V_g : V m c main_v0 = G m c := by
  show StableHlo.after (List.flatten [hostOps0]) (fun b => m (c, b)) main_v0 = _
  simp only [hostOps0, List.flatten_cons, List.flatten_nil, List.append_nil, List.cons_append]
  after_results_simp <;> rfl

theorem V_w : V m c main_v1 = W m c := by
  show StableHlo.after (List.flatten [hostOps0]) (fun b => m (c, b)) main_v1 = _
  simp only [hostOps0, List.flatten_cons, List.flatten_nil, List.append_nil, List.cons_append]
  after_results_simp <;> rfl

theorem V_d : V m c main_v2 = D m c := by
  show StableHlo.after (List.flatten [hostOps0]) (fun b => m (c, b)) main_v2 = _
  simp only [hostOps0, List.flatten_cons, List.flatten_nil, List.append_nil, List.cons_append]
  after_results_simp <;> rfl

section
variable (t : Fin cfg0.N) (i : Fin 512) (q : Fin 1408)

theorem iblk0 : (iblk m c 0 t : Vec Ideal S512x1408 .bf16) (ix2 i q) = G m c (ix2 (row t i) (col t q)) := by
  rw [← V_g]; blk_ext [iblk, idx t]

theorem iblk1 : (iblk m c 1 t : Vec Ideal S512x1408 .bf16) (ix2 i q) = W m c (ix2 (row t i) (col t q)) := by
  rw [← V_w]; blk_ext [iblk, idx t]

theorem iblk2 : (iblk m c 2 t : Vec Ideal S512x1408 .bf16) (ix2 i q) = D m c (ix2 (row t i) (col t q)) := by
  rw [← V_d]; blk_ext [iblk, idx t]

end

/-! ## The whole arrays -/

/-- The gate's gradient, -/
def dGate : S8192x2816.Idx → EReal := fun y => gradGate (D m c y) (G m c y) (W m c y)

/-- the other half's, -/
def dVal : S8192x2816.Idx → EReal := fun y => gradVal (D m c y) (G m c y)

/-- and an array's sums over the rows. -/
def sums (A : S8192x2816.Idx → EReal) : S1x2816.Idx → EReal := fun y => ∑ R : Fin 8192, A (ix2 R (y 1))

theorem sums_apply (A : S8192x2816.Idx → EReal) (q : Fin 2816) : sums A (ix2 0 q) = ∑ R : Fin 8192, A (ix2 R q) := rfl

/-! ## What a point leaves in the output buffers -/

/-- A point's values: the gate's gradient of its tile, -/
theorem tile_gate (t : Fin cfg0.N) (i : Fin 512) (q : Fin 1408) :
    k0_pay1 (F := Ideal) (k0_pay9 (iblk m c 1 t)) (k0_pay13 (iblk m c 0 t)) (k0_pay14 (iblk m c 2 t)) (ix2 i q) = dGate m c (ix2 (row t i) (col t q)) := by
  rw [pay1_apply, iblk0, iblk1, iblk2]
  rfl

/-- and the other half's. -/
theorem tile_val (t : Fin cfg0.N) (i : Fin 512) (q : Fin 1408) :
    k0_pay2 (F := Ideal) (k0_pay12 (iblk m c 0 t)) (k0_pay14 (iblk m c 2 t)) (ix2 i q) = dVal m c (ix2 (row t i) (col t q)) := by
  rw [pay2_apply, iblk0, iblk2]
  rfl

theorem outs3 (t : Fin cfg0.N) : (outsAt0 m c t.val t.isLt).1
    = k0_pay3 (F := Ideal) (k0_pay9 (iblk m c 1 t)) (k0_pay13 (iblk m c 0 t)) (k0_pay14 (iblk m c 2 t)) := by
  have hN : t.val < 32 := t.isLt
  by_cases h : t.val % 16 = 0
  · rw [outsAt0_A m c t h (by omega) h (by omega)]; frame_out
  · rw [outsAt0_B m c t h (by omega) h (by omega)]; frame_out

theorem outs4 (t : Fin cfg0.N) : (outsAt0 m c t.val t.isLt).2.1 = k0_pay4 (F := Ideal) (k0_pay12 (iblk m c 0 t)) (k0_pay14 (iblk m c 2 t)) := by
  have hN : t.val < 32 := t.isLt
  by_cases h : t.val % 16 = 0
  · rw [outsAt0_A m c t h (by omega) h (by omega)]; frame_out
  · rw [outsAt0_B m c t h (by omega) h (by omega)]; frame_out

/-- One tile's part of an array's sums. -/
abbrev part (A : S8192x2816.Idx → EReal) (t : Fin cfg0.N) : S1x1408.Idx → EReal := fun y => ∑ i : Fin 512, A (ix2 (row t i) (col t (y 1)))

theorem part_gate (t : Fin cfg0.N) (q : Fin 1408) :
    k0_pay5 (F := Ideal) (k0_pay9 (iblk m c 1 t)) (k0_pay13 (iblk m c 0 t)) (k0_pay14 (iblk m c 2 t)) (ix2 0 q) = part (dGate m c) t (ix2 0 q) := by
  rw [pay5_apply]
  simp only [tile_gate]
  rfl

theorem part_val (t : Fin cfg0.N) (q : Fin 1408) :
    k0_pay7 (F := Ideal) (k0_pay12 (iblk m c 0 t)) (k0_pay14 (iblk m c 2 t)) (ix2 0 q) = part (dVal m c) t (ix2 0 q) := by
  rw [pay7_apply]
  simp only [tile_val]
  rfl

/-- An index into one row. -/
theorem row_idx (y : S1x1408.Idx) : ∃ q : Fin 1408, y = ix2 0 q :=
  ⟨y 1, funext fun a => match a with | ⟨0, _⟩ => Subsingleton.elim (α := Fin 1) _ _ | ⟨1, _⟩ => rfl⟩

theorem outs5A (t : Fin cfg0.N) (h : t.val % 16 = 0) (y : S1x1408.Idx) : (outsAt0 m c t.val t.isLt).2.2.1 y = 0 + part (dGate m c) t y := by
  obtain ⟨q, rfl⟩ := row_idx y
  rw [outsAt0_A m c t h (by omega) h (by omega), zero_add, ← part_gate]
  frame_out

theorem outs5B (t : Fin cfg0.N) (h : ¬t.val % 16 = 0) (y : S1x1408.Idx) : (outsAt0 m c t.val t.isLt).2.2.1 y
    = (outsAt0 m c (t.val - 1) (Nat.lt_of_le_of_lt (Nat.sub_le _ _) t.isLt)).2.2.1 y + part (dGate m c) t y := by
  obtain ⟨q, rfl⟩ := row_idx y
  rw [outsAt0_B m c t h (by omega) h (by omega), ← part_gate, ← pay6_apply]
  frame_out

theorem outs6A (t : Fin cfg0.N) (h : t.val % 16 = 0) (y : S1x1408.Idx) : (outsAt0 m c t.val t.isLt).2.2.2 y = 0 + part (dVal m c) t y := by
  obtain ⟨q, rfl⟩ := row_idx y
  rw [outsAt0_A m c t h (by omega) h (by omega), zero_add, ← part_val]
  frame_out

theorem outs6B (t : Fin cfg0.N) (h : ¬t.val % 16 = 0) (y : S1x1408.Idx) : (outsAt0 m c t.val t.isLt).2.2.2 y
    = (outsAt0 m c (t.val - 1) (Nat.lt_of_le_of_lt (Nat.sub_le _ _) t.isLt)).2.2.2 y + part (dVal m c) t y := by
  obtain ⟨q, rfl⟩ := row_idx y
  rw [outsAt0_B m c t h (by omega) h (by omega), ← part_val, ← pay8_apply]
  frame_out

/-- What starts at the first tile of a column block and grows by each tile's part is, after the last, the sum over all rows. -/
theorem acc (A : S8192x2816.Idx → EReal) (o : (n : ℕ) → n < cfg0.N → S1x1408.Idx → EReal)
    (hA : ∀ t : Fin cfg0.N, t.val % 16 = 0 → ∀ y, o t.val t.isLt y = 0 + part A t y)
    (hB : ∀ t : Fin cfg0.N, ¬t.val % 16 = 0 → ∀ y,
      o t.val t.isLt y = o (t.val - 1) (Nat.lt_of_le_of_lt (Nat.sub_le _ _) t.isLt) y + part A t y)
    (t : Fin cfg0.N) (ht : t.val % 16 = 16 - 1) (q : Fin 1408) : o t.val t.isLt (ix2 0 q) = sums A (ix2 0 (col t q)) := by
  have hN : t.val < 32 := t.isLt
  have h := Pipeline.eq_sum_fin_of_reset_step_apply_of_flush o 16 (fun _ => (0 : EReal)) (part A) hA hB t ht (ix2 0 q)
  rw [zero_add] at h
  rw [h, sums_apply]
  refine Fin.sum_mul_add_congr fun s i hl => ?_
  have hs : s.val < 16 := s.isLt
  have er : row ⟨16 * (t.val / 16) + s.val, Pipeline.run_point_lt_of_flush t ht s⟩ i = ⟨s.val * 512 + i.val, hl⟩ :=
    Fin.ext (by simp only; omega)
  have ec : col ⟨16 * (t.val / 16) + s.val, Pipeline.run_point_lt_of_flush t ht s⟩ q = col t q :=
    Fin.ext (by simp only; omega)
  show A (ix2 (row _ i) (col _ q)) = _
  rw [er, ec]

/-! ## The kernel's arrays -/

theorem final3 : (dats m 0 c).arrAt 3 cfg0.N = dGate m c := by
  refine (dats m 0 c).arrAt_eq_of_covers 3 _ (by decide +kernel) fun t hf y => ?_
  have hN : t.val < 32 := t.isLt
  blk_simp
  rw [after0_3, outs3]
  obtain ⟨i, q, rfl⟩ : ∃ (i : Fin 512) (q : Fin 1408), y = ix2 i q := ⟨y 0, y 1, funext fun a => match a with | ⟨0, _⟩ => rfl | ⟨1, _⟩ => rfl⟩
  have eG : ((cfg0.win 3).blk t).view.emb (ix2 i q) = ix2 (row t i) (col t q) := by
    blk_ext [idx t]
  rw [eG, ← tile_gate]
  exact pay3_apply _ _ _ i q

theorem final4 : (dats m 0 c).arrAt 4 cfg0.N = dVal m c := by
  refine (dats m 0 c).arrAt_eq_of_covers 4 _ (by decide +kernel) fun t hf y => ?_
  have hN : t.val < 32 := t.isLt
  blk_simp
  rw [after0_4, outs4]
  obtain ⟨i, q, rfl⟩ : ∃ (i : Fin 512) (q : Fin 1408), y = ix2 i q := ⟨y 0, y 1, funext fun a => match a with | ⟨0, _⟩ => rfl | ⟨1, _⟩ => rfl⟩
  have eG : ((cfg0.win 4).blk t).view.emb (ix2 i q) = ix2 (row t i) (col t q) := by
    blk_ext [idx t]
  rw [eG, ← tile_val]
  exact pay4_apply _ _ i q

theorem final5 : (dats m 0 c).arrAt 5 cfg0.N = sums (dGate m c) := by
  refine (dats m 0 c).arrAt_eq_of_covers 5 _ (by decide +kernel) fun t hf y => ?_
  have hN : t.val < 32 := t.isLt
  have ht : t.val % 16 = 16 - 1 := (flush0_5 t).mp hf
  blk_simp
  obtain ⟨q, rfl⟩ := row_idx y
  have eG : ((cfg0.win 5).blk t).view.emb (ix2 0 q) = ix2 0 (col t q) := by
    blk_ext [idx t]
  rw [after0_5, eG]
  exact acc (dGate m c) (fun n h => (outsAt0 m c n h).2.2.1) (outs5A m c) (outs5B m c) t ht q

theorem final6 : (dats m 0 c).arrAt 6 cfg0.N = sums (dVal m c) := by
  refine (dats m 0 c).arrAt_eq_of_covers 6 _ (by decide +kernel) fun t hf y => ?_
  have hN : t.val < 32 := t.isLt
  have ht : t.val % 16 = 16 - 1 := (flush0_6 t).mp hf
  blk_simp
  obtain ⟨q, rfl⟩ := row_idx y
  have eG : ((cfg0.win 6).blk t).view.emb (ix2 0 q) = ix2 0 (col t q) := by
    blk_ext [idx t]
  rw [after0_6, eG]
  exact acc (dVal m c) (fun n h => (outsAt0 m c n h).2.2.2) (outs6A m c) (outs6B m c) t ht q

/-! ## The results -/

abbrev result0 : Buf (Elt Ideal) ((c : Thread nD τ).loc main_v3_0) := val_main_v46 (F := Ideal) (D m c) (G m c) (W m c)
abbrev result1 : Buf (Elt Ideal) ((c : Thread nD τ).loc main_v3_1) := val_main_v47 (F := Ideal) (D m c) (G m c)
abbrev result2 : Buf (Elt Ideal) ((c : Thread nD τ).loc main_v3_2) := val_main_v45 (F := Ideal) (D m c) (G m c) (W m c)
abbrev result3 : Buf (Elt Ideal) ((c : Thread nD τ).loc main_v3_3) := val_main_v31 (F := Ideal) (D m c) (G m c)

/-- Every element of the cotangent times the other half, which is the cotangent of the `gelu`, is finite. -/
abbrev Finite : Prop := ∀ y : S8192x2816.Idx, ∃ r : ℝ, D m c y * W m c y = r

/-- An element of the gate's gradient, -/
theorem gate_eq (hf : Finite m c) (R : Fin 8192) (j : Fin 2816) : dGate m c (ix2 R j) = val_main_v43 (F := Ideal) (D m c) (G m c) (W m c) (ix2 R j) := by
  rw [v43_apply]
  obtain ⟨r, hr⟩ := hf (ix2 R j)
  rw [dGate, gradGate, hr]
  exact gelu_grad scale scale_pos r _

/-- and of the other half's. -/
theorem val_eq (R : Fin 8192) (j : Fin 2816) : dVal m c (ix2 R j) = val_main_v28 (F := Ideal) (D m c) (G m c) (ix2 R j) := by
  rw [v28_apply]
  rfl

/-- The gate's gradient, -/
theorem back0 (hf : Finite m c) : dGate m c = result0 m c := by
  refine funext fun y => ?_
  obtain ⟨R, j, rfl⟩ : ∃ (R : Fin 8192) (j : Fin 2816), y = ix2 R j := ⟨y 0, y 1, funext fun a => match a with | ⟨0, _⟩ => rfl | ⟨1, _⟩ => rfl⟩
  exact gate_eq m c hf R j

/-- the other half's, -/
theorem back1 : dVal m c = result1 m c := by
  refine funext fun y => ?_
  obtain ⟨R, j, rfl⟩ : ∃ (R : Fin 8192) (j : Fin 2816), y = ix2 R j := ⟨y 0, y 1, funext fun a => match a with | ⟨0, _⟩ => rfl | ⟨1, _⟩ => rfl⟩
  exact val_eq m c R j

/-- and the two biases'. -/
theorem back2 (hf : Finite m c) : sums (dGate m c) = result2 m c := by
  refine funext fun y => ?_
  obtain ⟨j, rfl⟩ : ∃ j : Fin 2816, y = ix2 0 j := ⟨y 1, funext fun a => match a with | ⟨0, _⟩ => Subsingleton.elim (α := Fin 1) _ _ | ⟨1, _⟩ => rfl⟩
  rw [sums_apply, result2, v45_apply]
  exact Finset.sum_congr rfl fun R _ => gate_eq m c hf R j

theorem back3 : sums (dVal m c) = result3 m c := by
  refine funext fun y => ?_
  obtain ⟨j, rfl⟩ : ∃ j : Fin 2816, y = ix2 0 j := ⟨y 1, funext fun a => match a with | ⟨0, _⟩ => Subsingleton.elim (α := Fin 1) _ _ | ⟨1, _⟩ => rfl⟩
  rw [sums_apply, result3, v31_apply]
  exact Finset.sum_congr rfl fun R _ => val_eq m c R j

end Cert.FactKernelIdeal.Result

end
-- ==== Proof.FactClaim.lean ====
/- The claims about the gradient through the gated activation. -/
module

public import proofs.«01_k».proof.Defs
public import proofs.«01_k».proof.Proof.FactValue
public import proofs.«01_k».proof.Proof.SiluMath
public import proofs.«01_k».proof.Proof.Gen.FactKernelIdeal.Value
public import proofs.«01_k».proof.Proof.Gen.FactReferenceIdeal.Run
public import Idealize.ShloMosaic.Lib.Claim
public import Idealize.ShloMosaic.Adequacy
public import Idealize.ShloMosaic.Init

@[expose] public section

noncomputable section

namespace Cert.Proof

open Idealize.ShloMosaic Idealize.SL.Sem Cert.Maths

/-- The side condition of the precondition: a number may be spread over an array. -/
theorem finite_act_facts : Cert.Pre_finite_act.Facts := ⟨Cert.FactReferenceIdeal.Gen.facts.bcast_S_S8192x2816⟩

/-- The precondition at an element. -/
theorem finite_act_apply (d g v : FVec Ideal Cert.Pre_finite_act.S8192x2816 .f32) (i : Cert.Pre_finite_act.S8192x2816.Idx)
    (h : letI := finite_act_facts; Cert.Pre_finite_act.fn (F := Ideal) d g v i = 1#1) : (d i : EReal) * v i - d i * v i = 0 := by
  have e : letI := finite_act_facts; Cert.Pre_finite_act.fn (F := Ideal) d g v i = BitVec.ofBool (decide ((d i : EReal) * v i - d i * v i = 0)) := by
    pointwise [Cert.Pre_finite_act.fn]
  rw [h] at e
  by_contra hne
  rw [decide_eq_false hne] at e
  exact absurd e (by decide)

/-- What the precondition says: every element of the cotangent times the other half is finite. -/
theorem fact_finite (m : (ℓ : Loc Cert.FactKernelIdeal.nD Cert.FactKernelIdeal.τ Cert.FactKernelIdeal.sig) → Buf (Elt Ideal) ℓ)
    (h : Cert.Pre_FactKernelIdeal_finite_act (hPre_finite_act := finite_act_facts) m) (c : Dev Cert.FactKernelIdeal.nD) :
    Cert.FactKernelIdeal.Result.Finite m c := fun y =>
  coe_of_sub_self _ (finite_act_apply _ _ _ _ (congrFun (h c) y))

/-- The idealized kernel is the kernel with two rounded constants replaced by the numbers they round. -/
theorem fact_preserves : Cert.preserves_FactKernel_FactKernelIdeal :=
  ⟨IdealRules.named_const.statement Cert.FactKernelIdeal.κ "gelu_cube" .f32 0x3D372713#32 ((8943 / 200000 : ℝ) : EReal) rfl,
    IdealRules.named_const.statement Cert.FactKernelIdeal.κ "gelu_slope" .f32 0x3E095D4F#32 ((26829 / 200000 : ℝ) : EReal) rfl⟩

/-- The reference of the gated activation's gradient runs to the end with every semaphore at zero and its arguments kept. -/
theorem fact_reference_frame : Cert.quiescent_FactReferenceIdeal (hFactReferenceIdeal := Cert.FactReferenceIdeal.Gen.facts) := fun m ρ _ =>
  (θ_run (Cert.FactReferenceIdeal.defs (F := Ideal)) _ _).mono
    (fun r h => ⟨fun c => (h c).2.2.2.2, sem_eq_zero_of_no_sems (by decide) r.2⟩)
    (Cert.FactReferenceIdeal.Value.run (F := Ideal) m ρ)

/-- THE VALUE of the gated activation's gradient: wherever the product of the cotangent and the other half is finite, at any
    gate, the kernel's four arrays are the reference's. -/
theorem fact_algebraic : Cert.algebraic_FactKernelIdeal_FactReferenceIdeal_pre_finite_act
    (hFactKernelIdeal := Cert.FactKernelIdeal.Gen.facts) (hFactReferenceIdeal := Cert.FactReferenceIdeal.Gen.facts)
    (hPre_finite_act := finite_act_facts) := by
  intro m g m' g' hp hm
  refine ⟨fun c => Cert.FactKernelIdeal.Result.result0 m c, fun c => Cert.FactKernelIdeal.Result.result1 m c,
    fun c => Cert.FactKernelIdeal.Result.result2 m c, fun c => Cert.FactKernelIdeal.Result.result3 m c, ?_, ?_⟩
  · exact (θ_run (Cert.FactKernelIdeal.defs (F := Ideal)) _ _).mono
      (fun r h c => ⟨(h c).1.trans ((Cert.FactKernelIdeal.Result.final3 m c).trans (Cert.FactKernelIdeal.Result.back0 m c (fact_finite m hp c))),
        (h c).2.1.trans ((Cert.FactKernelIdeal.Result.final4 m c).trans (Cert.FactKernelIdeal.Result.back1 m c)),
        (h c).2.2.1.trans ((Cert.FactKernelIdeal.Result.final5 m c).trans (Cert.FactKernelIdeal.Result.back2 m c (fact_finite m hp c))),
        (h c).2.2.2.1.trans ((Cert.FactKernelIdeal.Result.final6 m c).trans (Cert.FactKernelIdeal.Result.back3 m c)), (h c).2.2.2.2⟩)
      (Cert.FactKernelIdeal.Value.run_blocks (F := Ideal) m g)
  · refine (θ_run (Cert.FactReferenceIdeal.defs (F := Ideal)) _ _).mono
      (fun r h c => ⟨(h c).1.trans ?_, (h c).2.1.trans ?_, (h c).2.2.1.trans ?_, (h c).2.2.2.1.trans ?_, (h c).2.2.2.2⟩)
      (Cert.FactReferenceIdeal.Value.run (F := Ideal) m' g')
    · obtain ⟨e0, e1, e2⟩ := hm c
      refine (Cert.FactReferenceIdeal.Read.val_main_v46_eq (F := Ideal) m' c).trans ?_
      rw [e0, e1, e2]
    · obtain ⟨e0, e1, e2⟩ := hm c
      refine (Cert.FactReferenceIdeal.Read.val_main_v47_eq (F := Ideal) _ _).trans ?_
      rw [e0, e1]
    · obtain ⟨e0, e1, e2⟩ := hm c
      refine (Cert.FactReferenceIdeal.Read.val_main_v45_eq (F := Ideal) m' c).trans ?_
      rw [e0, e1, e2]
    · obtain ⟨e0, e1, e2⟩ := hm c
      refine (Cert.FactReferenceIdeal.Read.val_main_v31_eq (F := Ideal) _ _).trans ?_
      rw [e0, e1]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.DuKernel
public import proofs.«01_k».proof.Proof.Gen.DuKernel.Skeleton
public import proofs.«01_k».proof.Proof.Gen.DuKernel.Launch
public import proofs.«01_k».proof.Proof.Gen.DuKernel.Points
public import proofs.«01_k».proof.Proof.Gen.DuKernel.Frame
public import proofs.«01_k».proof.Proof.Gen.DuKernelIdeal
public import proofs.«01_k».proof.Proof.Gen.DuKernelIdeal.Skeleton
public import proofs.«01_k».proof.Proof.Gen.DuKernelIdeal.Launch
public import proofs.«01_k».proof.Proof.Gen.DuKernelIdeal.Points
public import proofs.«01_k».proof.Proof.Gen.DuKernelIdeal.Frame
public import proofs.«01_k».proof.Proof.Gen.DuKernelIdeal.Value
public import proofs.«01_k».proof.Proof.Gen.DuReferenceIdeal
public import proofs.«01_k».proof.Proof.Gen.DuReferenceIdeal.Run
public import proofs.«01_k».proof.Proof.Gen.DuReferenceIdeal.Read
public import proofs.«01_k».proof.Proof.Gen.WupKernel
public import proofs.«01_k».proof.Proof.Gen.WupKernel.Skeleton
public import proofs.«01_k».proof.Proof.Gen.WupKernel.Launch
public import proofs.«01_k».proof.Proof.Gen.WupKernel.Points
public import proofs.«01_k».proof.Proof.Gen.WupKernel.Frame
public import proofs.«01_k».proof.Proof.Gen.WupKernelIdeal
public import proofs.«01_k».proof.Proof.Gen.WupKernelIdeal.Skeleton
public import proofs.«01_k».proof.Proof.Gen.WupKernelIdeal.Launch
public import proofs.«01_k».proof.Proof.Gen.WupKernelIdeal.Points
public import proofs.«01_k».proof.Proof.Gen.WupKernelIdeal.Frame
public import proofs.«01_k».proof.Proof.Gen.WupKernelIdeal.Value
public import proofs.«01_k».proof.Proof.Gen.WupReferenceIdeal
public import proofs.«01_k».proof.Proof.Gen.WupReferenceIdeal.Run
public import proofs.«01_k».proof.Proof.Gen.WupReferenceIdeal.Read
public import proofs.«01_k».proof.Proof.Gen.WdnKernel
public import proofs.«01_k».proof.Proof.Gen.WdnKernel.Skeleton
public import proofs.«01_k».proof.Proof.Gen.WdnKernel.Launch
public import proofs.«01_k».proof.Proof.Gen.WdnKernel.Points
public import proofs.«01_k».proof.Proof.Gen.WdnKernel.Frame
public import proofs.«01_k».proof.Proof.Gen.WdnKernelIdeal
public import proofs.«01_k».proof.Proof.Gen.WdnKernelIdeal.Skeleton
public import proofs.«01_k».proof.Proof.Gen.WdnKernelIdeal.Launch
public import proofs.«01_k».proof.Proof.Gen.WdnKernelIdeal.Points
public import proofs.«01_k».proof.Proof.Gen.WdnKernelIdeal.Frame
public import proofs.«01_k».proof.Proof.Gen.WdnKernelIdeal.Value
public import proofs.«01_k».proof.Proof.Gen.WdnReferenceIdeal
public import proofs.«01_k».proof.Proof.Gen.WdnReferenceIdeal.Run
public import proofs.«01_k».proof.Proof.Gen.WdnReferenceIdeal.Read
public import proofs.«01_k».proof.Proof.Gen.WmixKernel
public import proofs.«01_k».proof.Proof.Gen.WmixKernel.Skeleton
public import proofs.«01_k».proof.Proof.Gen.WmixKernel.Launch
public import proofs.«01_k».proof.Proof.Gen.WmixKernel.Points
public import proofs.«01_k».proof.Proof.Gen.WmixKernel.Frame
public import proofs.«01_k».proof.Proof.Gen.WmixKernelIdeal
public import proofs.«01_k».proof.Proof.Gen.WmixKernelIdeal.Skeleton
public import proofs.«01_k».proof.Proof.Gen.WmixKernelIdeal.Launch
public import proofs.«01_k».proof.Proof.Gen.WmixKernelIdeal.Points
public import proofs.«01_k».proof.Proof.Gen.WmixKernelIdeal.Frame
public import proofs.«01_k».proof.Proof.Gen.WmixKernelIdeal.Value
public import proofs.«01_k».proof.Proof.Gen.WmixReferenceIdeal
public import proofs.«01_k».proof.Proof.Gen.WmixReferenceIdeal.Run
public import proofs.«01_k».proof.Proof.Gen.WmixReferenceIdeal.Read
public import proofs.«01_k».proof.Proof.Gen.WsoKernel
public import proofs.«01_k».proof.Proof.Gen.WsoKernel.Skeleton
public import proofs.«01_k».proof.Proof.Gen.WsoKernel.Launch
public import proofs.«01_k».proof.Proof.Gen.WsoKernel.Points
public import proofs.«01_k».proof.Proof.Gen.WsoKernel.Frame
public import proofs.«01_k».proof.Proof.Gen.WsoKernelIdeal
public import proofs.«01_k».proof.Proof.Gen.WsoKernelIdeal.Skeleton
public import proofs.«01_k».proof.Proof.Gen.WsoKernelIdeal.Launch
public import proofs.«01_k».proof.Proof.Gen.WsoKernelIdeal.Points
public import proofs.«01_k».proof.Proof.Gen.WsoKernelIdeal.Frame
public import proofs.«01_k».proof.Proof.Gen.WsoKernelIdeal.Value
public import proofs.«01_k».proof.Proof.Gen.WsoReferenceIdeal
public import proofs.«01_k».proof.Proof.Gen.WsoReferenceIdeal.Run
public import proofs.«01_k».proof.Proof.Gen.WsoReferenceIdeal.Read
public import proofs.«01_k».proof.Proof.Gen.WaoKernel
public import proofs.«01_k».proof.Proof.Gen.WaoKernel.Skeleton
public import proofs.«01_k».proof.Proof.Gen.WaoKernel.Launch
public import proofs.«01_k».proof.Proof.Gen.WaoKernel.Points
public import proofs.«01_k».proof.Proof.Gen.WaoKernel.Frame
public import proofs.«01_k».proof.Proof.Gen.WaoKernelIdeal
public import proofs.«01_k».proof.Proof.Gen.WaoKernelIdeal.Skeleton
public import proofs.«01_k».proof.Proof.Gen.WaoKernelIdeal.Launch
public import proofs.«01_k».proof.Proof.Gen.WaoKernelIdeal.Points
public import proofs.«01_k».proof.Proof.Gen.WaoKernelIdeal.Frame
public import proofs.«01_k».proof.Proof.Gen.WaoKernelIdeal.Value
public import proofs.«01_k».proof.Proof.Gen.WaoReferenceIdeal
public import proofs.«01_k».proof.Proof.Gen.WaoReferenceIdeal.Run
public import proofs.«01_k».proof.Proof.Gen.WaoReferenceIdeal.Read
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhKernelIdeal.Value
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.DactKernel
public import proofs.«01_k».proof.Proof.Gen.DactKernel.Skeleton
public import proofs.«01_k».proof.Proof.Gen.DactKernel.Launch
public import proofs.«01_k».proof.Proof.Gen.DactKernel.Points
public import proofs.«01_k».proof.Proof.Gen.DactKernel.Frame
public import proofs.«01_k».proof.Proof.Gen.DactKernelIdeal
public import proofs.«01_k».proof.Proof.Gen.DactKernelIdeal.Skeleton
public import proofs.«01_k».proof.Proof.Gen.DactKernelIdeal.Launch
public import proofs.«01_k».proof.Proof.Gen.DactKernelIdeal.Points
public import proofs.«01_k».proof.Proof.Gen.DactKernelIdeal.Frame
public import proofs.«01_k».proof.Proof.Gen.DactKernelIdeal.Value
public import proofs.«01_k».proof.Proof.Gen.DactReferenceIdeal
public import proofs.«01_k».proof.Proof.Gen.DactReferenceIdeal.Run
public import proofs.«01_k».proof.Proof.Gen.DactReferenceIdeal.Read
public import proofs.«01_k».proof.Proof.Gen.DaoKernel
public import proofs.«01_k».proof.Proof.Gen.DaoKernel.Skeleton
public import proofs.«01_k».proof.Proof.Gen.DaoKernel.Launch
public import proofs.«01_k».proof.Proof.Gen.DaoKernel.Points
public import proofs.«01_k».proof.Proof.Gen.DaoKernel.Frame
public import proofs.«01_k».proof.Proof.Gen.DaoKernelIdeal
public import proofs.«01_k».proof.Proof.Gen.DaoKernelIdeal.Skeleton
public import proofs.«01_k».proof.Proof.Gen.DaoKernelIdeal.Launch
public import proofs.«01_k».proof.Proof.Gen.DaoKernelIdeal.Points
public import proofs.«01_k».proof.Proof.Gen.DaoKernelIdeal.Frame
public import proofs.«01_k».proof.Proof.Gen.DaoKernelIdeal.Value
public import proofs.«01_k».proof.Proof.Gen.DaoReferenceIdeal
public import proofs.«01_k».proof.Proof.Gen.DaoReferenceIdeal.Run
public import proofs.«01_k».proof.Proof.Gen.DaoReferenceIdeal.Read
public import proofs.«01_k».proof.Proof.Gen.AoutKernel
public import proofs.«01_k».proof.Proof.Gen.AoutKernel.Skeleton
public import proofs.«01_k».proof.Proof.Gen.AoutKernel.Launch
public import proofs.«01_k».proof.Proof.Gen.AoutKernel.Points
public import proofs.«01_k».proof.Proof.Gen.AoutKernel.Frame
public import proofs.«01_k».proof.Proof.Gen.AoutKernelIdeal
public import proofs.«01_k».proof.Proof.Gen.AoutKernelIdeal.Skeleton
public import proofs.«01_k».proof.Proof.Gen.AoutKernelIdeal.Launch
public import proofs.«01_k».proof.Proof.Gen.AoutKernelIdeal.Points
public import proofs.«01_k».proof.Proof.Gen.AoutKernelIdeal.Frame
public import proofs.«01_k».proof.Proof.Gen.AoutKernelIdeal.Value
public import proofs.«01_k».proof.Proof.Gen.AoutReferenceIdeal
public import proofs.«01_k».proof.Proof.Gen.AoutReferenceIdeal.Run
public import proofs.«01_k».proof.Proof.Gen.AoutReferenceIdeal.Read
public import proofs.«01_k».proof.Proof.Gen.MixoKernel
public import proofs.«01_k».proof.Proof.Gen.MixoKernel.Skeleton
public import proofs.«01_k».proof.Proof.Gen.MixoKernel.Launch
public import proofs.«01_k».proof.Proof.Gen.MixoKernel.Points
public import proofs.«01_k».proof.Proof.Gen.MixoKernel.Frame
public import proofs.«01_k».proof.Proof.Gen.MixoKernelIdeal
public import proofs.«01_k».proof.Proof.Gen.MixoKernelIdeal.Skeleton
public import proofs.«01_k».proof.Proof.Gen.MixoKernelIdeal.Launch
public import proofs.«01_k».proof.Proof.Gen.MixoKernelIdeal.Points
public import proofs.«01_k».proof.Proof.Gen.MixoKernelIdeal.Frame
public import proofs.«01_k».proof.Proof.Gen.MixoKernelIdeal.Value
public import proofs.«01_k».proof.Proof.Gen.MixoReferenceIdeal
public import proofs.«01_k».proof.Proof.Gen.MixoReferenceIdeal.Run
public import proofs.«01_k».proof.Proof.Gen.MixoReferenceIdeal.Read
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.OwinKernel
public import proofs.«01_k».proof.Proof.Gen.OwinKernel.Skeleton
public import proofs.«01_k».proof.Proof.Gen.OwinKernel.Launch
public import proofs.«01_k».proof.Proof.Gen.OwinKernel.Points
public import proofs.«01_k».proof.Proof.Gen.OwinKernel.Frame
public import proofs.«01_k».proof.Proof.Gen.OwinKernelIdeal
public import proofs.«01_k».proof.Proof.Gen.OwinKernelIdeal.Skeleton
public import proofs.«01_k».proof.Proof.Gen.OwinKernelIdeal.Launch
public import proofs.«01_k».proof.Proof.Gen.OwinKernelIdeal.Points
public import proofs.«01_k».proof.Proof.Gen.OwinKernelIdeal.Frame
public import proofs.«01_k».proof.Proof.Gen.OwinKernelIdeal.Value
public import proofs.«01_k».proof.Proof.Gen.OwinReferenceIdeal
public import proofs.«01_k».proof.Proof.Gen.OwinReferenceIdeal.Run
public import proofs.«01_k».proof.Proof.Gen.OwinReferenceIdeal.Read
public import proofs.«01_k».proof.Proof.Gen.OsoKernel
public import proofs.«01_k».proof.Proof.Gen.OsoKernel.Skeleton
public import proofs.«01_k».proof.Proof.Gen.OsoKernel.Launch
public import proofs.«01_k».proof.Proof.Gen.OsoKernel.Points
public import proofs.«01_k».proof.Proof.Gen.OsoKernel.Frame
public import proofs.«01_k».proof.Proof.Gen.OsoKernelIdeal
public import proofs.«01_k».proof.Proof.Gen.OsoKernelIdeal.Skeleton
public import proofs.«01_k».proof.Proof.Gen.OsoKernelIdeal.Launch
public import proofs.«01_k».proof.Proof.Gen.OsoKernelIdeal.Points
public import proofs.«01_k».proof.Proof.Gen.OsoKernelIdeal.Frame
public import proofs.«01_k».proof.Proof.Gen.OsoKernelIdeal.Value
public import proofs.«01_k».proof.Proof.Gen.OsoReferenceIdeal
public import proofs.«01_k».proof.Proof.Gen.OsoReferenceIdeal.Run
public import proofs.«01_k».proof.Proof.Gen.OsoReferenceIdeal.Read
public import proofs.«01_k».proof.Proof.Gen.OaoKernel
public import proofs.«01_k».proof.Proof.Gen.OaoKernel.Skeleton
public import proofs.«01_k».proof.Proof.Gen.OaoKernel.Launch
public import proofs.«01_k».proof.Proof.Gen.OaoKernel.Points
public import proofs.«01_k».proof.Proof.Gen.OaoKernel.Frame
public import proofs.«01_k».proof.Proof.Gen.OaoKernelIdeal
public import proofs.«01_k».proof.Proof.Gen.OaoKernelIdeal.Skeleton
public import proofs.«01_k».proof.Proof.Gen.OaoKernelIdeal.Launch
public import proofs.«01_k».proof.Proof.Gen.OaoKernelIdeal.Points
public import proofs.«01_k».proof.Proof.Gen.OaoKernelIdeal.Frame
public import proofs.«01_k».proof.Proof.Gen.OaoKernelIdeal.Value
public import proofs.«01_k».proof.Proof.Gen.OaoReferenceIdeal
public import proofs.«01_k».proof.Proof.Gen.OaoReferenceIdeal.Run
public import proofs.«01_k».proof.Proof.Gen.OaoReferenceIdeal.Read
public import proofs.«01_k».proof.Proof.Gen.OupKernel
public import proofs.«01_k».proof.Proof.Gen.OupKernel.Skeleton
public import proofs.«01_k».proof.Proof.Gen.OupKernel.Launch
public import proofs.«01_k».proof.Proof.Gen.OupKernel.Points
public import proofs.«01_k».proof.Proof.Gen.OupKernel.Frame
public import proofs.«01_k».proof.Proof.Gen.OupKernelIdeal
public import proofs.«01_k».proof.Proof.Gen.OupKernelIdeal.Skeleton
public import proofs.«01_k».proof.Proof.Gen.OupKernelIdeal.Launch
public import proofs.«01_k».proof.Proof.Gen.OupKernelIdeal.Points
public import proofs.«01_k».proof.Proof.Gen.OupKernelIdeal.Frame
public import proofs.«01_k».proof.Proof.Gen.OupKernelIdeal.Value
public import proofs.«01_k».proof.Proof.Gen.OupReferenceIdeal
public import proofs.«01_k».proof.Proof.Gen.OupReferenceIdeal.Run
public import proofs.«01_k».proof.Proof.Gen.OupReferenceIdeal.Read
public import proofs.«01_k».proof.Proof.Gen.OdnKernel
public import proofs.«01_k».proof.Proof.Gen.OdnKernel.Skeleton
public import proofs.«01_k».proof.Proof.Gen.OdnKernel.Launch
public import proofs.«01_k».proof.Proof.Gen.OdnKernel.Points
public import proofs.«01_k».proof.Proof.Gen.OdnKernel.Frame
public import proofs.«01_k».proof.Proof.Gen.OdnKernelIdeal
public import proofs.«01_k».proof.Proof.Gen.OdnKernelIdeal.Skeleton
public import proofs.«01_k».proof.Proof.Gen.OdnKernelIdeal.Launch
public import proofs.«01_k».proof.Proof.Gen.OdnKernelIdeal.Points
public import proofs.«01_k».proof.Proof.Gen.OdnKernelIdeal.Frame
public import proofs.«01_k».proof.Proof.Gen.OdnKernelIdeal.Value
public import proofs.«01_k».proof.Proof.Gen.OdnReferenceIdeal
public import proofs.«01_k».proof.Proof.Gen.OdnReferenceIdeal.Run
public import proofs.«01_k».proof.Proof.Gen.OdnReferenceIdeal.Read
public import proofs.«01_k».proof.Proof.DuClaim
public import proofs.«01_k».proof.Proof.WgradClaim
public import proofs.«01_k».proof.Proof.DhClaim
public import proofs.«01_k».proof.Proof.LossClaim
public import proofs.«01_k».proof.Proof.ProjClaim
public import proofs.«01_k».proof.Proof.WinClaim
public import proofs.«01_k».proof.Proof.AdamClaim
public import Idealize.ShloMosaic.Adequacy
public import Idealize.ShloMosaic.Init
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.MergeClaim
public import proofs.«01_k».proof.Proof.Gen.DmergeKernel
public import proofs.«01_k».proof.Proof.Gen.DmergeKernel.Skeleton
public import proofs.«01_k».proof.Proof.Gen.DmergeKernel.Launch
public import proofs.«01_k».proof.Proof.Gen.DmergeKernel.Points
public import proofs.«01_k».proof.Proof.Gen.DmergeKernel.Frame
public import proofs.«01_k».proof.Proof.Gen.DmergeKernelIdeal
public import proofs.«01_k».proof.Proof.Gen.DmergeKernelIdeal.Skeleton
public import proofs.«01_k».proof.Proof.Gen.DmergeKernelIdeal.Launch
public import proofs.«01_k».proof.Proof.Gen.DmergeKernelIdeal.Points
public import proofs.«01_k».proof.Proof.Gen.DmergeKernelIdeal.Frame
public import proofs.«01_k».proof.Proof.Gen.DmergeReferenceIdeal
public import proofs.«01_k».proof.Proof.Gen.DmergeReferenceIdeal.Run
public import proofs.«01_k».proof.Proof.Gen.DmergeReferenceIdeal.Read
public import proofs.«01_k».proof.Proof.DmergeClaim
public import proofs.«01_k».proof.Proof.Gen.FupKernel
public import proofs.«01_k».proof.Proof.Gen.FupKernel.Skeleton
public import proofs.«01_k».proof.Proof.Gen.FupKernel.Launch
public import proofs.«01_k».proof.Proof.Gen.FupKernelIdeal
public import proofs.«01_k».proof.Proof.Gen.FupKernelIdeal.Skeleton
public import proofs.«01_k».proof.Proof.Gen.FupKernelIdeal.Launch
public import proofs.«01_k».proof.Proof.Gen.FupReferenceIdeal
public import proofs.«01_k».proof.Proof.Gen.FupReferenceIdeal.Run
public import proofs.«01_k».proof.Proof.Gen.FupReferenceIdeal.Read
public import proofs.«01_k».proof.Proof.FupClaim
public import proofs.«01_k».proof.Proof.Gen.InpKernel
public import proofs.«01_k».proof.Proof.Gen.InpKernel.Skeleton
public import proofs.«01_k».proof.Proof.Gen.InpKernel.Launch
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpReferenceIdeal
public import proofs.«01_k».proof.Proof.Gen.InpReferenceIdeal.Run
public import proofs.«01_k».proof.Proof.Gen.InpReferenceIdeal.Read
public import proofs.«01_k».proof.Proof.InpClaim
public import proofs.«01_k».proof.Proof.Gen.SmallKernel
public import proofs.«01_k».proof.Proof.Gen.SmallKernel.Skeleton
public import proofs.«01_k».proof.Proof.Gen.SmallKernel.Launch
public import proofs.«01_k».proof.Proof.Gen.SmallKernel.Points
public import proofs.«01_k».proof.Proof.Gen.SmallKernel.Frame
public import proofs.«01_k».proof.Proof.Gen.SmallKernelIdeal
public import proofs.«01_k».proof.Proof.Gen.SmallKernelIdeal.Skeleton
public import proofs.«01_k».proof.Proof.Gen.SmallKernelIdeal.Launch
public import proofs.«01_k».proof.Proof.Gen.SmallKernelIdeal.Points
public import proofs.«01_k».proof.Proof.Gen.SmallKernelIdeal.Frame
public import proofs.«01_k».proof.Proof.Gen.SmallReferenceIdeal
public import proofs.«01_k».proof.Proof.Gen.SmallReferenceIdeal.Run
public import proofs.«01_k».proof.Proof.SmallClaim
public import proofs.«01_k».proof.Proof.Gen.CgateKernel
public import proofs.«01_k».proof.Proof.Gen.CgateKernel.Skeleton
public import proofs.«01_k».proof.Proof.Gen.CgateKernel.Launch
public import proofs.«01_k».proof.Proof.Gen.CgateKernel.Points
public import proofs.«01_k».proof.Proof.Gen.CgateKernel.Frame
public import proofs.«01_k».proof.Proof.Gen.CgateKernelIdeal
public import proofs.«01_k».proof.Proof.Gen.CgateKernelIdeal.Skeleton
public import proofs.«01_k».proof.Proof.Gen.CgateKernelIdeal.Launch
public import proofs.«01_k».proof.Proof.Gen.CgateKernelIdeal.Points
public import proofs.«01_k».proof.Proof.Gen.CgateKernelIdeal.Frame
public import proofs.«01_k».proof.Proof.Gen.CgateReferenceIdeal
public import proofs.«01_k».proof.Proof.Gen.CgateReferenceIdeal.Run
public import proofs.«01_k».proof.Proof.Gen.CgateReferenceIdeal.Read
public import proofs.«01_k».proof.Proof.CgateClaim
public import proofs.«01_k».proof.Proof.Gen.CvalKernel
public import proofs.«01_k».proof.Proof.Gen.CvalKernel.Skeleton
public import proofs.«01_k».proof.Proof.Gen.CvalKernel.Launch
public import proofs.«01_k».proof.Proof.Gen.CvalKernel.Points
public import proofs.«01_k».proof.Proof.Gen.CvalKernel.Frame
public import proofs.«01_k».proof.Proof.Gen.CvalKernelIdeal
public import proofs.«01_k».proof.Proof.Gen.CvalKernelIdeal.Skeleton
public import proofs.«01_k».proof.Proof.Gen.CvalKernelIdeal.Launch
public import proofs.«01_k».proof.Proof.Gen.CvalKernelIdeal.Points
public import proofs.«01_k».proof.Proof.Gen.CvalKernelIdeal.Frame
public import proofs.«01_k».proof.Proof.Gen.CvalReferenceIdeal
public import proofs.«01_k».proof.Proof.Gen.CvalReferenceIdeal.Run
public import proofs.«01_k».proof.Proof.Gen.CvalReferenceIdeal.Read
public import proofs.«01_k».proof.Proof.CvalClaim
public import proofs.«01_k».proof.Proof.Gen.CssdKernel
public import proofs.«01_k».proof.Proof.Gen.CssdKernel.Skeleton
public import proofs.«01_k».proof.Proof.Gen.CssdKernel.Launch
public import proofs.«01_k».proof.Proof.Gen.CssdKernel.Points
public import proofs.«01_k».proof.Proof.Gen.CssdKernel.Frame
public import proofs.«01_k».proof.Proof.Gen.CssdKernelIdeal
public import proofs.«01_k».proof.Proof.Gen.CssdKernelIdeal.Skeleton
public import proofs.«01_k».proof.Proof.Gen.CssdKernelIdeal.Launch
public import proofs.«01_k».proof.Proof.Gen.CssdKernelIdeal.Points
public import proofs.«01_k».proof.Proof.Gen.CssdKernelIdeal.Frame
public import proofs.«01_k».proof.Proof.Gen.CssdReferenceIdeal
public import proofs.«01_k».proof.Proof.Gen.CssdReferenceIdeal.Run
public import proofs.«01_k».proof.Proof.Gen.CssdReferenceIdeal.Read
public import proofs.«01_k».proof.Proof.CssdClaim
public import proofs.«01_k».proof.Proof.Gen.CsiluKernel
public import proofs.«01_k».proof.Proof.Gen.CsiluKernel.Skeleton
public import proofs.«01_k».proof.Proof.Gen.CsiluKernel.Launch
public import proofs.«01_k».proof.Proof.Gen.CsiluKernel.Points
public import proofs.«01_k».proof.Proof.Gen.CsiluKernel.Frame
public import proofs.«01_k».proof.Proof.Gen.CsiluKernelIdeal
public import proofs.«01_k».proof.Proof.Gen.CsiluKernelIdeal.Skeleton
public import proofs.«01_k».proof.Proof.Gen.CsiluKernelIdeal.Launch
public import proofs.«01_k».proof.Proof.Gen.CsiluKernelIdeal.Points
public import proofs.«01_k».proof.Proof.Gen.CsiluKernelIdeal.Frame
public import proofs.«01_k».proof.Proof.Gen.CsiluReferenceIdeal
public import proofs.«01_k».proof.Proof.Gen.CsiluReferenceIdeal.Run
public import proofs.«01_k».proof.Proof.Gen.CsiluReferenceIdeal.Read
public import proofs.«01_k».proof.Proof.CsiluClaim
public import proofs.«01_k».proof.Proof.Gen.FactKernel
public import proofs.«01_k».proof.Proof.Gen.FactKernel.Skeleton
public import proofs.«01_k».proof.Proof.Gen.FactKernel.Launch
public import proofs.«01_k».proof.Proof.Gen.FactKernel.Points
public import proofs.«01_k».proof.Proof.Gen.FactKernel.Frame
public import proofs.«01_k».proof.Proof.Gen.FactKernelIdeal
public import proofs.«01_k».proof.Proof.Gen.FactKernelIdeal.Skeleton
public import proofs.«01_k».proof.Proof.Gen.FactKernelIdeal.Launch
public import proofs.«01_k».proof.Proof.Gen.FactKernelIdeal.Points
public import proofs.«01_k».proof.Proof.Gen.FactKernelIdeal.Frame
public import proofs.«01_k».proof.Proof.Gen.FactKernelIdeal.Value
public import proofs.«01_k».proof.Proof.Gen.FactReferenceIdeal
public import proofs.«01_k».proof.Proof.Gen.FactReferenceIdeal.Run
public import proofs.«01_k».proof.Proof.Gen.FactReferenceIdeal.Read
public import proofs.«01_k».proof.Proof.FactClaim

@[expose] public section

noncomputable section

namespace Cert.Proof

open Idealize.ShloMosaic Idealize.SL.Sem

/-- Every kernel runs without fault and leaves its arguments unchanged, at the word level and over the extended reals; no
    idealization rewrote anything; and every kernel with a reference computes that reference. -/
theorem claim : Cert.Claim :=
  ⟨Cert.Kernel.Gen.facts, Cert.KernelIdeal.Gen.facts,
    Cert.DuKernel.Gen.facts, Cert.DuKernelIdeal.Gen.facts, Cert.DuReferenceIdeal.Gen.facts,
    Cert.WupKernel.Gen.facts, Cert.WupKernelIdeal.Gen.facts, Cert.WupReferenceIdeal.Gen.facts,
    Cert.WdnKernel.Gen.facts, Cert.WdnKernelIdeal.Gen.facts, Cert.WdnReferenceIdeal.Gen.facts,
    Cert.WmixKernel.Gen.facts, Cert.WmixKernelIdeal.Gen.facts, Cert.WmixReferenceIdeal.Gen.facts,
    Cert.WsoKernel.Gen.facts, Cert.WsoKernelIdeal.Gen.facts, Cert.WsoReferenceIdeal.Gen.facts,
    Cert.WaoKernel.Gen.facts, Cert.WaoKernelIdeal.Gen.facts, Cert.WaoReferenceIdeal.Gen.facts,
    Cert.DhKernel.Gen.facts, Cert.DhKernelIdeal.Gen.facts, Cert.DhReferenceIdeal.Gen.facts,
    Cert.LossKernel.Gen.facts, Cert.LossKernelIdeal.Gen.facts, Cert.LossReferenceIdeal.Gen.facts,
    Cert.DactKernel.Gen.facts, Cert.DactKernelIdeal.Gen.facts, Cert.DactReferenceIdeal.Gen.facts,
    Cert.DaoKernel.Gen.facts, Cert.DaoKernelIdeal.Gen.facts, Cert.DaoReferenceIdeal.Gen.facts,
    Cert.AoutKernel.Gen.facts, Cert.AoutKernelIdeal.Gen.facts, Cert.AoutReferenceIdeal.Gen.facts,
    Cert.MixoKernel.Gen.facts, Cert.MixoKernelIdeal.Gen.facts, Cert.MixoReferenceIdeal.Gen.facts,
    Cert.WinKernel.Gen.facts, Cert.WinKernelIdeal.Gen.facts, Cert.WinReferenceIdeal.Gen.facts,
    Cert.OwinKernel.Gen.facts, Cert.OwinKernelIdeal.Gen.facts, Cert.OwinReferenceIdeal.Gen.facts,
    Cert.OsoKernel.Gen.facts, Cert.OsoKernelIdeal.Gen.facts, Cert.OsoReferenceIdeal.Gen.facts,
    Cert.OaoKernel.Gen.facts, Cert.OaoKernelIdeal.Gen.facts, Cert.OaoReferenceIdeal.Gen.facts,
    Cert.OupKernel.Gen.facts, Cert.OupKernelIdeal.Gen.facts, Cert.OupReferenceIdeal.Gen.facts,
    Cert.OdnKernel.Gen.facts, Cert.OdnKernelIdeal.Gen.facts, Cert.OdnReferenceIdeal.Gen.facts,
    Cert.MergeKernel.Gen.facts, Cert.MergeKernelIdeal.Gen.facts, Cert.MergeReferenceIdeal.Gen.facts,
    Cert.DmergeKernel.Gen.facts, Cert.DmergeKernelIdeal.Gen.facts, Cert.DmergeReferenceIdeal.Gen.facts,
    Cert.FupKernel.Gen.facts, Cert.FupKernelIdeal.Gen.facts, Cert.FupReferenceIdeal.Gen.facts,
    Cert.InpKernel.Gen.facts, Cert.InpKernelIdeal.Gen.facts, Cert.InpReferenceIdeal.Gen.facts,
    Cert.SmallKernel.Gen.facts, Cert.SmallKernelIdeal.Gen.facts, Cert.SmallReferenceIdeal.Gen.facts,
    Cert.CgateKernel.Gen.facts, Cert.CgateKernelIdeal.Gen.facts, Cert.CgateReferenceIdeal.Gen.facts,
    Cert.CvalKernel.Gen.facts, Cert.CvalKernelIdeal.Gen.facts, Cert.CvalReferenceIdeal.Gen.facts,
    Cert.CssdKernel.Gen.facts, Cert.CssdKernelIdeal.Gen.facts, Cert.CssdReferenceIdeal.Gen.facts,
    Cert.CsiluKernel.Gen.facts, Cert.CsiluKernelIdeal.Gen.facts, Cert.CsiluReferenceIdeal.Gen.facts,
    Cert.FactKernel.Gen.facts, Cert.FactKernelIdeal.Gen.facts, Cert.FactReferenceIdeal.Gen.facts, finite_ct_facts, finite_act_facts,
    fun m ρ _ => Cert.Kernel.Gen.frame m ρ, fun m ρ _ => Cert.KernelIdeal.Gen.frame m ρ,
    fun m ρ _ => Cert.DuKernel.Gen.frame m ρ, fun m ρ _ => Cert.DuKernelIdeal.Gen.frame m ρ, du_reference_frame,
    fun m ρ _ => Cert.WupKernel.Gen.frame m ρ, fun m ρ _ => Cert.WupKernelIdeal.Gen.frame m ρ, wup_reference_frame,
    fun m ρ _ => Cert.WdnKernel.Gen.frame m ρ, fun m ρ _ => Cert.WdnKernelIdeal.Gen.frame m ρ, wdn_reference_frame,
    fun m ρ _ => Cert.WmixKernel.Gen.frame m ρ, fun m ρ _ => Cert.WmixKernelIdeal.Gen.frame m ρ, wmix_reference_frame,
    fun m ρ _ => Cert.WsoKernel.Gen.frame m ρ, fun m ρ _ => Cert.WsoKernelIdeal.Gen.frame m ρ, wso_reference_frame,
    fun m ρ _ => Cert.WaoKernel.Gen.frame m ρ, fun m ρ _ => Cert.WaoKernelIdeal.Gen.frame m ρ, wao_reference_frame,
    fun m ρ _ => Cert.DhKernel.Gen.frame m ρ, fun m ρ _ => Cert.DhKernelIdeal.Gen.frame m ρ, dh_reference_frame,
    fun m ρ _ => Cert.LossKernel.Gen.frame m ρ, fun m ρ _ => Cert.LossKernelIdeal.Gen.frame m ρ, loss_reference_frame,
    fun m ρ _ => Cert.DactKernel.Gen.frame m ρ, fun m ρ _ => Cert.DactKernelIdeal.Gen.frame m ρ, dact_reference_frame,
    fun m ρ _ => Cert.DaoKernel.Gen.frame m ρ, fun m ρ _ => Cert.DaoKernelIdeal.Gen.frame m ρ, dao_reference_frame,
    fun m ρ _ => Cert.AoutKernel.Gen.frame m ρ, fun m ρ _ => Cert.AoutKernelIdeal.Gen.frame m ρ, aout_reference_frame,
    fun m ρ _ => Cert.MixoKernel.Gen.frame m ρ, fun m ρ _ => Cert.MixoKernelIdeal.Gen.frame m ρ, mixo_reference_frame,
    fun m ρ _ => Cert.WinKernel.Gen.frame m ρ, fun m ρ _ => Cert.WinKernelIdeal.Gen.frame m ρ, win_reference_frame,
    fun m ρ _ => Cert.OwinKernel.Gen.frame m ρ, fun m ρ _ => Cert.OwinKernelIdeal.Gen.frame m ρ, owin_reference_frame,
    fun m ρ _ => Cert.OsoKernel.Gen.frame m ρ, fun m ρ _ => Cert.OsoKernelIdeal.Gen.frame m ρ, oso_reference_frame,
    fun m ρ _ => Cert.OaoKernel.Gen.frame m ρ, fun m ρ _ => Cert.OaoKernelIdeal.Gen.frame m ρ, oao_reference_frame,
    fun m ρ _ => Cert.OupKernel.Gen.frame m ρ, fun m ρ _ => Cert.OupKernelIdeal.Gen.frame m ρ, oup_reference_frame,
    fun m ρ _ => Cert.OdnKernel.Gen.frame m ρ, fun m ρ _ => Cert.OdnKernelIdeal.Gen.frame m ρ, odn_reference_frame,
    fun m ρ _ => Cert.MergeKernel.Gen.frame m ρ, fun m ρ _ => Cert.MergeKernelIdeal.Gen.frame m ρ, merge_reference_frame,
    fun m ρ _ => Cert.DmergeKernel.Gen.frame m ρ, fun m ρ _ => Cert.DmergeKernelIdeal.Gen.frame m ρ, dmerge_reference_frame,
    fun m ρ _ => Cert.FupKernel.run_frame m ρ, fun m ρ _ => Cert.FupKernelIdeal.Run.frame m ρ, fup_reference_frame,
    fun m ρ _ => Cert.InpKernel.run_frame m ρ, fun m ρ _ => Cert.InpKernelIdeal.Run.frame m ρ, inp_reference_frame,
    fun m ρ _ => Cert.SmallKernel.Gen.frame m ρ, fun m ρ _ => Cert.SmallKernelIdeal.Gen.frame m ρ, small_reference_frame,
    fun m ρ _ => Cert.CgateKernel.Gen.frame m ρ, fun m ρ _ => Cert.CgateKernelIdeal.Gen.frame m ρ, cgate_reference_frame,
    fun m ρ _ => Cert.CvalKernel.Gen.frame m ρ, fun m ρ _ => Cert.CvalKernelIdeal.Gen.frame m ρ, cval_reference_frame,
    fun m ρ _ => Cert.CssdKernel.Gen.frame m ρ, fun m ρ _ => Cert.CssdKernelIdeal.Gen.frame m ρ, cssd_reference_frame,
    fun m ρ _ => Cert.CsiluKernel.Gen.frame m ρ, fun m ρ _ => Cert.CsiluKernelIdeal.Gen.frame m ρ,
    fun m ρ _ => Cert.CsiluKernelIdeal.Gen.frame m ρ, csilu_reference_frame, fun m ρ _ => csilu_reference_frame m ρ trivial,
    fun m ρ _ => Cert.FactKernel.Gen.frame m ρ, fun m ρ _ => Cert.FactKernelIdeal.Gen.frame m ρ,
    fun m ρ _ => Cert.FactKernelIdeal.Gen.frame m ρ, fact_reference_frame, fun m ρ _ => fact_reference_frame m ρ trivial,
    trivial, trivial, du_algebraic, trivial, wup_algebraic, trivial, wdn_algebraic, trivial, wmix_algebraic, trivial, wso_algebraic, trivial, wao_algebraic, trivial, dh_algebraic, trivial, loss_algebraic, trivial, dact_algebraic, trivial, dao_algebraic, trivial, aout_algebraic, trivial, mixo_algebraic, trivial, win_algebraic, trivial, owin_algebraic, trivial, oso_algebraic, trivial, oao_algebraic, trivial, oup_algebraic, trivial, odn_algebraic, trivial, merge_algebraic, trivial, dmerge_algebraic, trivial, fup_algebraic, trivial, inp_algebraic, trivial, small_algebraic, trivial, cgate_algebraic, trivial, cval_algebraic, trivial, cssd_algebraic, trivial, csilu_algebraic, fact_preserves, fact_algebraic⟩

end Cert.Proof

end
